-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16x4096 : Shape := ⟨2, ![16, 4096]⟩
abbrev S100000x128 : Shape := ⟨2, ![100000, 128]⟩
abbrev S4096x128 : Shape := ⟨2, ![4096, 128]⟩
abbrev S128 : Shape := ⟨1, ![128]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : IVec S16x4096 32) (main_arg1 : FVec F S100000x128 .f32) (main_arg2 : FVec F S4096x128 .f32) (main_arg3 : FVec F S4096x128 .f32) (main_arg4 : FVec F S128 .f32) (main_arg5 : FVec F S128 .f32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg0 main_v0
  let main_c_0 : IVec S_ 32 := constantI S_ 32 100000#32
  let main_v2 : IVec S16x4096 32 := broadcastInDim S16x4096 ![] bcast_S_S16x4096 main_c_0
  let main_v3 : IVec S16x4096 1 := cmpi .slt main_arg0 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  main_v5
-- ==== Kernel.lean ====
abbrev S16x4096 : Shape := ⟨2, ![16, 4096]⟩
abbrev S100000x128 : Shape := ⟨2, ![100000, 128]⟩
abbrev S4096x128 : Shape := ⟨2, ![4096, 128]⟩
abbrev S128 : Shape := ⟨1, ![128]⟩
abbrev S16x1 : Shape := ⟨2, ![16, 1]⟩
abbrev S16x4095 : Shape := ⟨2, ![16, 4095]⟩
abbrev S_ : Shape := ⟨0, ![]⟩
abbrev S1 : Shape := ⟨1, ![1]⟩
abbrev S16 : Shape := ⟨1, ![16]⟩
abbrev S65536 : Shape := ⟨1, ![65536]⟩
abbrev S65536x128 : Shape := ⟨2, ![65536, 128]⟩
abbrev S2048 : Shape := ⟨1, ![2048]⟩
abbrev S2x128x128 : Shape := ⟨3, ![2, 128, 128]⟩
abbrev S2x136x128 : Shape := ⟨3, ![2, 136, 128]⟩
abbrev S1x128x128 : Shape := ⟨3, ![1, 128, 128]⟩
abbrev S128x128 : Shape := ⟨2, ![128, 128]⟩
abbrev S8x128 : Shape := ⟨2, ![8, 128]⟩
abbrev S1x136x128 : Shape := ⟨3, ![1, 136, 128]⟩
abbrev S136x128 : Shape := ⟨2, ![136, 128]⟩
abbrev S1x1x16 : Shape := ⟨3, ![1, 1, 16]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩
abbrev S16x4096x128 : Shape := ⟨3, ![16, 4096, 128]⟩

abbrev nBuf : Table → Nat
  | .hbm => 21
  | .local .tc .vmem => 6
  | .local .scVector .smem => 3
  | .local .scVector .vmem => 7
  | _ => 0

abbrev bufTy : (tb : Table) → Fin (nBuf tb) → BufTy
  | .hbm, ⟨0, _⟩ => ⟨S16x4096, .i32⟩
  | .hbm, ⟨1, _⟩ => ⟨S100000x128, .f32⟩
  | .hbm, ⟨2, _⟩ => ⟨S4096x128, .f32⟩
  | .hbm, ⟨3, _⟩ => ⟨S4096x128, .f32⟩
  | .hbm, ⟨4, _⟩ => ⟨S128, .f32⟩
  | .hbm, ⟨5, _⟩ => ⟨S128, .f32⟩
  | .hbm, ⟨6, _⟩ => ⟨S16x1, .i32⟩
  | .hbm, ⟨7, _⟩ => ⟨S16x4095, .i32⟩
  | .hbm, ⟨8, _⟩ => ⟨S16x4096, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S16, .i32⟩
  | .hbm, ⟨13, _⟩ => ⟨S16x4096, .i32⟩
  | .hbm, ⟨14, _⟩ => ⟨S65536, .i32⟩
  | .hbm, ⟨15, _⟩ => ⟨S65536, .i32⟩
  | .hbm, ⟨16, _⟩ => ⟨S65536x128, .f32⟩
  | .hbm, ⟨17, _⟩ => ⟨S1x128, .f32⟩
  | .hbm, ⟨18, _⟩ => ⟨S1x128, .f32⟩
  | .hbm, ⟨19, _⟩ => ⟨S65536x128, .f32⟩
  | .hbm, ⟨20, _⟩ => ⟨S16x4096x128, .f32⟩
  | .local .tc .vmem, ⟨0, _⟩ => ⟨S8192x128, .f32⟩
  | .local .tc .vmem, ⟨1, _⟩ => ⟨S8192x128, .f32⟩
  | .local .tc .vmem, ⟨2, _⟩ => ⟨S1x128, .f32⟩
  | .local .tc .vmem, ⟨3, _⟩ => ⟨S1x128, .f32⟩
  | .local .tc .vmem, ⟨4, _⟩ => ⟨S8192x128, .f32⟩
  | .local .tc .vmem, ⟨5, _⟩ => ⟨S8192x128, .f32⟩
  | .local .scVector .smem, ⟨0, _⟩ => ⟨S16, .i32⟩
  | .local .scVector .smem, ⟨1, _⟩ => ⟨S16, .i32⟩
  | .local .scVector .smem, ⟨2, _⟩ => ⟨S16, .i32⟩
  | .local .scVector .vmem, ⟨0, _⟩ => ⟨S2048, .i32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2x128x128, .f32⟩
  | .local .scVector .vmem, ⟨5, _⟩ => ⟨S2x128x128, .f32⟩
  | .local .scVector .vmem, ⟨6, _⟩ => ⟨S2x136x128, .f32⟩
  | _, _ => ⟨S16x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v4_scv : Ref sig .scVector := ⟨.hbm, 14, rfl⟩
abbrev main_v5_scv : Ref sig .scVector := ⟨.hbm, 15, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v6_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch7 : Ref sig .scVector := ⟨.smem, 0, rfl⟩
abbrev cc0_scratch8 : Ref sig .scVector := ⟨.smem, 1, rfl⟩
abbrev cc0_scratch9 : Ref sig .scVector := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let v19 : BitVec 32 := Scalar.remsi v1 c2_i32_5
  let c0_i32_7 : BitVec 32 := 0#32
  let v25 : BitVec 1 := Scalar.cmpi .sgt v19 c0_i32_7
  let v26 : BitVec 32 := Scalar.extui v25
  let c0_i32_9 : BitVec 32 := 0#32
  let v27 : BitVec 1 := Scalar.cmpi .ne v26 c0_i32_9
  v27

@[reducible] def k0_t1_loop (i : grid0.Coords) : Scf.Loop 32 :=
  let c0_i32_655 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let v19 : BitVec 32 := Scalar.remsi v1 c2_i32_5
  let v927 : BitVec 32 := Scalar.subi v19 c0_i32_655
  let c1_i32_658 : BitVec 32 := 1#32
  let v929 : BitVec 32 := Scalar.divsi v927 c1_i32_658
  let v930 : BitVec 32 := Scalar.muli v929 c1_i32_658
  let v931 : BitVec 32 := Scalar.addi c0_i32_655 v930
  let c1_i32_659 : BitVec 32 := 1#32
  ⟨c0_i32_655, v931, c1_i32_659⟩
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c0_i32_655 : BitVec 32 := 0#32
  let c1_i32_659 : BitVec 32 := 1#32
  let arg30 : BitVec 32 := Scf.iv c0_i32_655 c1_i32_659 k0_t1
  let c2048_i32_661 : BitVec 32 := 2048#32
  let v934 : BitVec 32 := Scalar.muli arg30 c2048_i32_661
  let v935 : BitVec 32 := Scalar.addi v20 v934
  ![v935.toNat]
@[reducible] def k0_t2_loop : Scf.Loop 32 :=
  let c0_i32_662 : BitVec 32 := 0#32
  let c128_i32_663 : BitVec 32 := 128#32
  let v936 : BitVec 32 := Scalar.addi c0_i32_662 c128_i32_663
  let c1_i32_664 : BitVec 32 := 1#32
  ⟨c0_i32_662, v936, c1_i32_664⟩
def k0_off2 (k0_t2 : Fin k0_t2_loop.trips) : Fin 1 → Nat :=
  let c0_i32_662 : BitVec 32 := 0#32
  let c1_i32_664 : BitVec 32 := 1#32
  let arg33 : BitVec 32 := Scf.iv c0_i32_662 c1_i32_664 k0_t2
  let c16_i32_666 : BitVec 32 := 16#32
  let v938 : BitVec 32 := Scalar.muli arg33 c16_i32_666
  let v939 : Index := Scalar.indexCast v938
  ![v939.toNat]
@[reducible] def k0_t3_loop (i : grid0.Coords) : Scf.Loop 32 :=
  let c0_i32_655 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let v19 : BitVec 32 := Scalar.remsi v1 c2_i32_5
  let v927 : BitVec 32 := Scalar.subi v19 c0_i32_655
  let c1_i32_658 : BitVec 32 := 1#32
  let v929 : BitVec 32 := Scalar.divsi v927 c1_i32_658
  let v930 : BitVec 32 := Scalar.muli v929 c1_i32_658
  let v931 : BitVec 32 := Scalar.addi c0_i32_655 v930
  let v928 : BitVec 32 := Scalar.addi c0_i32_655 v927
  let c1_i32_660 : BitVec 32 := 1#32
  ⟨v931, v928, c1_i32_660⟩
def k0_off3 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c0_i32_655 : BitVec 32 := 0#32
  let c2_i32_5 : BitVec 32 := 2#32
  let v19 : BitVec 32 := Scalar.remsi v1 c2_i32_5
  let v927 : BitVec 32 := Scalar.subi v19 c0_i32_655
  let c1_i32_658 : BitVec 32 := 1#32
  let v929 : BitVec 32 := Scalar.divsi v927 c1_i32_658
  let v930 : BitVec 32 := Scalar.muli v929 c1_i32_658
  let v931 : BitVec 32 := Scalar.addi c0_i32_655 v930
  let c1_i32_660 : BitVec 32 := 1#32
  let arg30 : BitVec 32 := Scf.iv v931 c1_i32_660 k0_t3
  let c2048_i32_661 : BitVec 32 := 2048#32
  let v934 : BitVec 32 := Scalar.muli arg30 c2048_i32_661
  let v935 : BitVec 32 := Scalar.addi v20 v934
  ![v935.toNat]
@[reducible] def k0_t4_loop : Scf.Loop 32 :=
  let c0_i32_662 : BitVec 32 := 0#32
  let c128_i32_663 : BitVec 32 := 128#32
  let v936 : BitVec 32 := Scalar.addi c0_i32_662 c128_i32_663
  let c1_i32_664 : BitVec 32 := 1#32
  ⟨c0_i32_662, v936, c1_i32_664⟩
def k0_off4 (k0_t4 : Fin k0_t4_loop.trips) : Fin 1 → Nat :=
  let c0_i32_662 : BitVec 32 := 0#32
  let c1_i32_664 : BitVec 32 := 1#32
  let arg33 : BitVec 32 := Scf.iv c0_i32_662 c1_i32_664 k0_t4
  let c16_i32_666 : BitVec 32 := 16#32
  let v938 : BitVec 32 := Scalar.muli arg33 c16_i32_666
  let v939 : Index := Scalar.indexCast v938
  ![v939.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  ![v22.toNat]
@[reducible] def k0_t5_loop : Scf.Loop 32 :=
  let c0_i32_10 : BitVec 32 := 0#32
  let c16_i32 : BitVec 32 := 16#32
  let v29 : BitVec 32 := Scalar.addi c0_i32_10 c16_i32
  let c1_i32_11 : BitVec 32 := 1#32
  ⟨c0_i32_10, v29, c1_i32_11⟩
def k0_off6 (k0_t5 : Fin k0_t5_loop.trips) : Fin 1 → Nat :=
  let c0_i32_10 : BitVec 32 := 0#32
  let c1_i32_11 : BitVec 32 := 1#32
  let arg30 : BitVec 32 := Scf.iv c0_i32_10 c1_i32_11 k0_t5
  let v927 : Index := Scalar.indexCast arg30
  ![v927.toNat]
def k0_off7 (k0_t5 : Fin k0_t5_loop.trips) (c0_i32_657 : BitVec 32) : Fin 1 → Nat :=
  let c0_i32_10 : BitVec 32 := 0#32
  let c1_i32_11 : BitVec 32 := 1#32
  let arg30 : BitVec 32 := Scf.iv c0_i32_10 c1_i32_11 k0_t5
  let c128_i32_656 : BitVec 32 := 128#32
  let v934 : BitVec 32 := Scalar.muli arg30 c128_i32_656
  let v935 : BitVec 32 := Scalar.addi v934 c0_i32_657
  let v936 : Index := Scalar.indexCast v935
  ![v936.toNat]
def k0_mult1 (v38 : BitVec 32) : BitVec 32 :=
  let c8_i32 : BitVec 32 := 8#32
  let v39 : BitVec 32 := Scalar.remsi v38 c8_i32
  let v40 : BitVec 32 := Scalar.subi v38 v39
  let c4088_i32 : BitVec 32 := 4088#32
  let v41 : BitVec 32 := Scalar.minsi v40 c4088_i32
  v41

def k0_mult2 (v44 : BitVec 32) : BitVec 32 :=
  let c8_i32_22 : BitVec 32 := 8#32
  let v45 : BitVec 32 := Scalar.remsi v44 c8_i32_22
  let v46 : BitVec 32 := Scalar.subi v44 v45
  let c3960_i32 : BitVec 32 := 3960#32
  let v47 : BitVec 32 := Scalar.minsi v46 c3960_i32
  v47

def k0_off8 (v38 : BitVec 32) : Fin 2 → Nat :=
  let c8_i32 : BitVec 32 := 8#32
  let v39 : BitVec 32 := Scalar.remsi v38 c8_i32
  let v40 : BitVec 32 := Scalar.subi v38 v39
  let c4088_i32 : BitVec 32 := 4088#32
  let v41 : BitVec 32 := Scalar.minsi v40 c4088_i32
  let v42 : BitVec 32 := v41
  let c0_i32_660 : BitVec 32 := 0#32
  ![v42.toNat, 0]
def k0_cond2 (v36 : BitVec 32) : BitVec 1 :=
  let c0_i32_23 : BitVec 32 := 0#32
  let v49 : BitVec 1 := Scalar.cmpi .eq v36 c0_i32_23
  let v50 : BitVec 32 := Scalar.extui v49
  let c0_i32_25 : BitVec 32 := 0#32
  let v51 : BitVec 1 := Scalar.cmpi .ne v50 c0_i32_25
  v51

def k0_chk1 (v36 : BitVec 32) (v38 : BitVec 32) : Prop :=
  (8 ∣ (k0_mult1 v38).toNat) ∧
  (∀ (k0_h2 : k0_cond2 v36 = 1#1), ∀ a, (k0_off8 v38) a + S8x128.size a ≤ S4096x128.size a)
theorem k0_mult1_dvd : ∀ (v36 : BitVec 32) (v38 : BitVec 32) (k0_hw1 : k0_chk1 v36 v38), 8 ∣ (k0_mult1 v38).toNat := fun v36 v38 k0_hw1 => k0_hw1.1
theorem k0_off8_inb : ∀ (v36 : BitVec 32) (v38 : BitVec 32) (k0_hw1 : k0_chk1 v36 v38), ∀ (k0_h2 : k0_cond2 v36 = 1#1), ∀ a, (k0_off8 v38) a + S8x128.size a ≤ S4096x128.size a := fun v36 v38 k0_hw1 k0_h2 => k0_hw1.2 k0_h2

def k0_off9 (v44 : BitVec 32) : Fin 2 → Nat :=
  let c8_i32_22 : BitVec 32 := 8#32
  let v45 : BitVec 32 := Scalar.remsi v44 c8_i32_22
  let v46 : BitVec 32 := Scalar.subi v44 v45
  let c3960_i32 : BitVec 32 := 3960#32
  let v47 : BitVec 32 := Scalar.minsi v46 c3960_i32
  let v48 : BitVec 32 := v47
  let c0_i32_669 : BitVec 32 := 0#32
  ![v48.toNat, 0]

def k0_chk2 (v36 : BitVec 32) (v44 : BitVec 32) : Prop :=
  (8 ∣ (k0_mult2 v44).toNat) ∧
  (∀ (k0_h2 : k0_cond2 v36 = 1#1), ∀ a, (k0_off9 v44) a + S136x128.size a ≤ S4096x128.size a)
theorem k0_mult2_dvd : ∀ (v36 : BitVec 32) (v44 : BitVec 32) (k0_hw2 : k0_chk2 v36 v44), 8 ∣ (k0_mult2 v44).toNat := fun v36 v44 k0_hw2 => k0_hw2.1
theorem k0_off9_inb : ∀ (v36 : BitVec 32) (v44 : BitVec 32) (k0_hw2 : k0_chk2 v36 v44), ∀ (k0_h2 : k0_cond2 v36 = 1#1), ∀ a, (k0_off9 v44) a + S136x128.size a ≤ S4096x128.size a := fun v36 v44 k0_hw2 k0_h2 => k0_hw2.2 k0_h2

def k0_mult3 (v60 : BitVec 32) : BitVec 32 :=
  let c8_i32_33 : BitVec 32 := 8#32
  let v61 : BitVec 32 := Scalar.remsi v60 c8_i32_33
  let v62 : BitVec 32 := Scalar.subi v60 v61
  let c4088_i32_34 : BitVec 32 := 4088#32
  let v63 : BitVec 32 := Scalar.minsi v62 c4088_i32_34
  v63

def k0_mult4 (v66 : BitVec 32) : BitVec 32 :=
  let c8_i32_36 : BitVec 32 := 8#32
  let v67 : BitVec 32 := Scalar.remsi v66 c8_i32_36
  let v68 : BitVec 32 := Scalar.subi v66 v67
  let c3960_i32_37 : BitVec 32 := 3960#32
  let v69 : BitVec 32 := Scalar.minsi v68 c3960_i32_37
  v69

def k0_off10 (v60 : BitVec 32) : Fin 2 → Nat :=
  let c8_i32_33 : BitVec 32 := 8#32
  let v61 : BitVec 32 := Scalar.remsi v60 c8_i32_33
  let v62 : BitVec 32 := Scalar.subi v60 v61
  let c4088_i32_34 : BitVec 32 := 4088#32
  let v63 : BitVec 32 := Scalar.minsi v62 c4088_i32_34
  let v64 : BitVec 32 := v63
  let c0_i32_660 : BitVec 32 := 0#32
  ![v64.toNat, 0]
def k0_cond3 (v58 : BitVec 32) : BitVec 1 :=
  let c0_i32_38 : BitVec 32 := 0#32
  let v71 : BitVec 1 := Scalar.cmpi .eq v58 c0_i32_38
  let v72 : BitVec 32 := Scalar.extui v71
  let c0_i32_40 : BitVec 32 := 0#32
  let v73 : BitVec 1 := Scalar.cmpi .ne v72 c0_i32_40
  v73

def k0_chk3 (v58 : BitVec 32) (v60 : BitVec 32) : Prop :=
  (8 ∣ (k0_mult3 v60).toNat) ∧
  (∀ (k0_h3 : k0_cond3 v58 = 1#1), ∀ a, (k0_off10 v60) a + S8x128.size a ≤ S4096x128.size a)
theorem k0_mult3_dvd : ∀ (v58 : BitVec 32) (v60 : BitVec 32) (k0_hw3 : k0_chk3 v58 v60), 8 ∣ (k0_mult3 v60).toNat := fun v58 v60 k0_hw3 => k0_hw3.1
theorem k0_off10_inb : ∀ (v58 : BitVec 32) (v60 : BitVec 32) (k0_hw3 : k0_chk3 v58 v60), ∀ (k0_h3 : k0_cond3 v58 = 1#1), ∀ a, (k0_off10 v60) a + S8x128.size a ≤ S4096x128.size a := fun v58 v60 k0_hw3 k0_h3 => k0_hw3.2 k0_h3

def k0_off11 (v66 : BitVec 32) : Fin 2 → Nat :=
  let c8_i32_36 : BitVec 32 := 8#32
  let v67 : BitVec 32 := Scalar.remsi v66 c8_i32_36
  let v68 : BitVec 32 := Scalar.subi v66 v67
  let c3960_i32_37 : BitVec 32 := 3960#32
  let v69 : BitVec 32 := Scalar.minsi v68 c3960_i32_37
  let v70 : BitVec 32 := v69
  let c0_i32_669 : BitVec 32 := 0#32
  ![v70.toNat, 0]

def k0_chk4 (v58 : BitVec 32) (v66 : BitVec 32) : Prop :=
  (8 ∣ (k0_mult4 v66).toNat) ∧
  (∀ (k0_h3 : k0_cond3 v58 = 1#1), ∀ a, (k0_off11 v66) a + S136x128.size a ≤ S4096x128.size a)
theorem k0_mult4_dvd : ∀ (v58 : BitVec 32) (v66 : BitVec 32) (k0_hw4 : k0_chk4 v58 v66), 8 ∣ (k0_mult4 v66).toNat := fun v58 v66 k0_hw4 => k0_hw4.1
theorem k0_off11_inb : ∀ (v58 : BitVec 32) (v66 : BitVec 32) (k0_hw4 : k0_chk4 v58 v66), ∀ (k0_h3 : k0_cond3 v58 = 1#1), ∀ a, (k0_off11 v66) a + S136x128.size a ≤ S4096x128.size a := fun v58 v66 k0_hw4 k0_h3 => k0_hw4.2 k0_h3

def k0_mult5 (v78 : BitVec 32) : BitVec 32 :=
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  v81

def k0_mult6 (v84 : BitVec 32) : BitVec 32 :=
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  v87

def k0_off12 (v78 : BitVec 32) : Fin 3 → Nat :=
  let c0_i32_683 : BitVec 32 := 0#32
  let v945 : Index := Scalar.indexCast c0_i32_683
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v946 : Index := Scalar.indexCast v89
  let c0 : Index := 0#32
  ![0, v946.toNat, 0]
def k0_cond4 (v76 : BitVec 32) : BitVec 1 :=
  let c0_i32_48 : BitVec 32 := 0#32
  let v91 : BitVec 1 := Scalar.cmpi .eq v76 c0_i32_48
  let v92 : BitVec 32 := Scalar.extui v91
  let c0_i32_50 : BitVec 32 := 0#32
  let v93 : BitVec 1 := Scalar.cmpi .ne v92 c0_i32_50
  v93

def k0_off13 (v78 : BitVec 32) : Fin 3 → Nat :=
  let c0_i32_684 : BitVec 32 := 0#32
  let v948 : Index := Scalar.indexCast c0_i32_684
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v949 : Index := Scalar.indexCast v89
  let c16 : Index := 16#32
  ![0, v949.toNat, 16]
def k0_off14 (v78 : BitVec 32) : Fin 3 → Nat :=
  let c0_i32_685 : BitVec 32 := 0#32
  let v951 : Index := Scalar.indexCast c0_i32_685
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v952 : Index := Scalar.indexCast v89
  let c32 : Index := 32#32
  ![0, v952.toNat, 32]
def k0_off15 (v78 : BitVec 32) : Fin 3 → Nat :=
  let c0_i32_686 : BitVec 32 := 0#32
  let v954 : Index := Scalar.indexCast c0_i32_686
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v955 : Index := Scalar.indexCast v89
  let c48 : Index := 48#32
  ![0, v955.toNat, 48]
def k0_off16 (v78 : BitVec 32) : Fin 3 → Nat :=
  let c0_i32_687 : BitVec 32 := 0#32
  let v957 : Index := Scalar.indexCast c0_i32_687
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v958 : Index := Scalar.indexCast v89
  let c64 : Index := 64#32
  ![0, v958.toNat, 64]
def k0_off17 (v78 : BitVec 32) : Fin 3 → Nat :=
  let c0_i32_688 : BitVec 32 := 0#32
  let v960 : Index := Scalar.indexCast c0_i32_688
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v961 : Index := Scalar.indexCast v89
  let c80 : Index := 80#32
  ![0, v961.toNat, 80]
def k0_off18 (v78 : BitVec 32) : Fin 3 → Nat :=
  let c0_i32_689 : BitVec 32 := 0#32
  let v963 : Index := Scalar.indexCast c0_i32_689
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v964 : Index := Scalar.indexCast v89
  let c96 : Index := 96#32
  ![0, v964.toNat, 96]
def k0_off19 (v78 : BitVec 32) : Fin 3 → Nat :=
  let c0_i32_690 : BitVec 32 := 0#32
  let v966 : Index := Scalar.indexCast c0_i32_690
  let c8_i32_43 : BitVec 32 := 8#32
  let v79 : BitVec 32 := Scalar.remsi v78 c8_i32_43
  let v80 : BitVec 32 := Scalar.subi v78 v79
  let c4088_i32_44 : BitVec 32 := 4088#32
  let v81 : BitVec 32 := Scalar.minsi v80 c4088_i32_44
  let v82 : BitVec 32 := v81
  let v89 : BitVec 32 := Scalar.subi v78 v82
  let v967 : Index := Scalar.indexCast v89
  let c112 : Index := 112#32
  ![0, v967.toNat, 112]

def k0_chk5 (v76 : BitVec 32) (v78 : BitVec 32) : Prop :=
  (8 ∣ (k0_mult5 v78).toNat) ∧
  (∀ (k0_h4 : k0_cond4 v76 = 1#1), ∀ a, (k0_off12 v78) a + S1x1x16.size a ≤ S2x128x128.size a) ∧
  (∀ (k0_h4 : k0_cond4 v76 = 1#1), ∀ a, (k0_off13 v78) a + S1x1x16.size a ≤ S2x128x128.size a) ∧
  (∀ (k0_h4 : k0_cond4 v76 = 1#1), ∀ a, (k0_off14 v78) a + S1x1x16.size a ≤ S2x128x128.size a) ∧
  (∀ (k0_h4 : k0_cond4 v76 = 1#1), ∀ a, (k0_off15 v78) a + S1x1x16.size a ≤ S2x128x128.size a) ∧
  (∀ (k0_h4 : k0_cond4 v76 = 1#1), ∀ a, (k0_off16 v78) a + S1x1x16.size a ≤ S2x128x128.size a) ∧
  (∀ (k0_h4 : k0_cond4 v76 = 1#1), ∀ a, (k0_off17 v78) a + S1x1x16.size a ≤ S2x128x128.size a) ∧
  (∀ (k0_h4 : k0_cond4 v76 = 1#1), ∀ a, (k0_off18 v78) a + S1x1x16.size a ≤ S2x128x128.size a) ∧
  (∀ (k0_h4 : k0_cond4 v76 = 1#1), ∀ a, (k0_off19 v78) a + S1x1x16.size a ≤ S2x128x128.size a)
theorem k0_mult5_dvd : ∀ (v76 : BitVec 32) (v78 : BitVec 32) (k0_hw5 : k0_chk5 v76 v78), 8 ∣ (k0_mult5 v78).toNat := fun v76 v78 k0_hw5 => k0_hw5.1
theorem k0_off12_inb : ∀ (v76 : BitVec 32) (v78 : BitVec 32) (k0_hw5 : k0_chk5 v76 v78), ∀ (k0_h4 : k0_cond4 v76 = 1#1), ∀ a, (k0_off12 v78) a + S1x1x16.size a ≤ S2x128x128.size a := fun v76 v78 k0_hw5 k0_h4 => k0_hw5.2.1 k0_h4
theorem k0_off13_inb : ∀ (v76 : BitVec 32) (v78 : BitVec 32) (k0_hw5 : k0_chk5 v76 v78), ∀ (k0_h4 : k0_cond4 v76 = 1#1), ∀ a, (k0_off13 v78) a + S1x1x16.size a ≤ S2x128x128.size a := fun v76 v78 k0_hw5 k0_h4 => k0_hw5.2.2.1 k0_h4
theorem k0_off14_inb : ∀ (v76 : BitVec 32) (v78 : BitVec 32) (k0_hw5 : k0_chk5 v76 v78), ∀ (k0_h4 : k0_cond4 v76 = 1#1), ∀ a, (k0_off14 v78) a + S1x1x16.size a ≤ S2x128x128.size a := fun v76 v78 k0_hw5 k0_h4 => k0_hw5.2.2.2.1 k0_h4
theorem k0_off15_inb : ∀ (v76 : BitVec 32) (v78 : BitVec 32) (k0_hw5 : k0_chk5 v76 v78), ∀ (k0_h4 : k0_cond4 v76 = 1#1), ∀ a, (k0_off15 v78) a + S1x1x16.size a ≤ S2x128x128.size a := fun v76 v78 k0_hw5 k0_h4 => k0_hw5.2.2.2.2.1 k0_h4
theorem k0_off16_inb : ∀ (v76 : BitVec 32) (v78 : BitVec 32) (k0_hw5 : k0_chk5 v76 v78), ∀ (k0_h4 : k0_cond4 v76 = 1#1), ∀ a, (k0_off16 v78) a + S1x1x16.size a ≤ S2x128x128.size a := fun v76 v78 k0_hw5 k0_h4 => k0_hw5.2.2.2.2.2.1 k0_h4
theorem k0_off17_inb : ∀ (v76 : BitVec 32) (v78 : BitVec 32) (k0_hw5 : k0_chk5 v76 v78), ∀ (k0_h4 : k0_cond4 v76 = 1#1), ∀ a, (k0_off17 v78) a + S1x1x16.size a ≤ S2x128x128.size a := fun v76 v78 k0_hw5 k0_h4 => k0_hw5.2.2.2.2.2.2.1 k0_h4
theorem k0_off18_inb : ∀ (v76 : BitVec 32) (v78 : BitVec 32) (k0_hw5 : k0_chk5 v76 v78), ∀ (k0_h4 : k0_cond4 v76 = 1#1), ∀ a, (k0_off18 v78) a + S1x1x16.size a ≤ S2x128x128.size a := fun v76 v78 k0_hw5 k0_h4 => k0_hw5.2.2.2.2.2.2.2.1 k0_h4
theorem k0_off19_inb : ∀ (v76 : BitVec 32) (v78 : BitVec 32) (k0_hw5 : k0_chk5 v76 v78), ∀ (k0_h4 : k0_cond4 v76 = 1#1), ∀ a, (k0_off19 v78) a + S1x1x16.size a ≤ S2x128x128.size a := fun v76 v78 k0_hw5 k0_h4 => k0_hw5.2.2.2.2.2.2.2.2 k0_h4

@[reducible] def k0_t6_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off20 (k0_t6 : Fin k0_t6_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t6
  let v971 : Index := Scalar.indexCast arg30
  let c0_698 : Index := 0#32
  ![0, v971.toNat, 0]
def k0_off21 (k0_t6 : Fin k0_t6_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t6
  let v974 : Index := Scalar.indexCast arg30
  let c16_700 : Index := 16#32
  ![0, v974.toNat, 16]
def k0_off22 (k0_t6 : Fin k0_t6_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t6
  let v977 : Index := Scalar.indexCast arg30
  let c32_702 : Index := 32#32
  ![0, v977.toNat, 32]
def k0_off23 (k0_t6 : Fin k0_t6_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t6
  let v980 : Index := Scalar.indexCast arg30
  let c48_704 : Index := 48#32
  ![0, v980.toNat, 48]
def k0_off24 (k0_t6 : Fin k0_t6_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t6
  let v983 : Index := Scalar.indexCast arg30
  let c64_706 : Index := 64#32
  ![0, v983.toNat, 64]
def k0_off25 (k0_t6 : Fin k0_t6_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t6
  let v986 : Index := Scalar.indexCast arg30
  let c80_708 : Index := 80#32
  ![0, v986.toNat, 80]
def k0_off26 (k0_t6 : Fin k0_t6_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t6
  let v989 : Index := Scalar.indexCast arg30
  let c96_710 : Index := 96#32
  ![0, v989.toNat, 96]
def k0_off27 (k0_t6 : Fin k0_t6_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t6
  let v992 : Index := Scalar.indexCast arg30
  let c112_712 : Index := 112#32
  ![0, v992.toNat, 112]
def k0_off28 (v84 : BitVec 32) (k0_t6 : Fin k0_t6_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v994 : BitVec 32 := Scalar.addi arg30 v90
  let v996 : Index := Scalar.indexCast v994
  let c0_714 : Index := 0#32
  ![0, v996.toNat, 0]
def k0_off29 (v84 : BitVec 32) (k0_t6 : Fin k0_t6_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v998 : BitVec 32 := Scalar.addi arg30 v90
  let v1000 : Index := Scalar.indexCast v998
  let c16_716 : Index := 16#32
  ![0, v1000.toNat, 16]
def k0_off30 (v84 : BitVec 32) (k0_t6 : Fin k0_t6_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1002 : BitVec 32 := Scalar.addi arg30 v90
  let v1004 : Index := Scalar.indexCast v1002
  let c32_718 : Index := 32#32
  ![0, v1004.toNat, 32]
def k0_off31 (v84 : BitVec 32) (k0_t6 : Fin k0_t6_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1006 : BitVec 32 := Scalar.addi arg30 v90
  let v1008 : Index := Scalar.indexCast v1006
  let c48_720 : Index := 48#32
  ![0, v1008.toNat, 48]
def k0_off32 (v84 : BitVec 32) (k0_t6 : Fin k0_t6_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1010 : BitVec 32 := Scalar.addi arg30 v90
  let v1012 : Index := Scalar.indexCast v1010
  let c64_722 : Index := 64#32
  ![0, v1012.toNat, 64]
def k0_off33 (v84 : BitVec 32) (k0_t6 : Fin k0_t6_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1014 : BitVec 32 := Scalar.addi arg30 v90
  let v1016 : Index := Scalar.indexCast v1014
  let c80_724 : Index := 80#32
  ![0, v1016.toNat, 80]
def k0_off34 (v84 : BitVec 32) (k0_t6 : Fin k0_t6_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1018 : BitVec 32 := Scalar.addi arg30 v90
  let v1020 : Index := Scalar.indexCast v1018
  let c96_726 : Index := 96#32
  ![0, v1020.toNat, 96]
def k0_off35 (v84 : BitVec 32) (k0_t6 : Fin k0_t6_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t6
  let c8_i32_46 : BitVec 32 := 8#32
  let v85 : BitVec 32 := Scalar.remsi v84 c8_i32_46
  let v86 : BitVec 32 := Scalar.subi v84 v85
  let c3960_i32_47 : BitVec 32 := 3960#32
  let v87 : BitVec 32 := Scalar.minsi v86 c3960_i32_47
  let v88 : BitVec 32 := v87
  let v90 : BitVec 32 := Scalar.subi v84 v88
  let v1022 : BitVec 32 := Scalar.addi arg30 v90
  let v1024 : Index := Scalar.indexCast v1022
  let c112_728 : Index := 112#32
  ![0, v1024.toNat, 112]

def k0_chk6 (v76 : BitVec 32) (v84 : BitVec 32) : Prop :=
  (8 ∣ (k0_mult6 v84).toNat) ∧
  (∀ k0_t6 : Fin k0_t6_loop.trips, ∀ (k0_h4 : k0_cond4 v76 = 1#1), ∀ a, (k0_off28 v84 k0_t6) a + S1x1x16.size a ≤ S2x136x128.size a) ∧
  (∀ k0_t6 : Fin k0_t6_loop.trips, ∀ (k0_h4 : k0_cond4 v76 = 1#1), ∀ a, (k0_off29 v84 k0_t6) a + S1x1x16.size a ≤ S2x136x128.size a) ∧
  (∀ k0_t6 : Fin k0_t6_loop.trips, ∀ (k0_h4 : k0_cond4 v76 = 1#1), ∀ a, (k0_off30 v84 k0_t6) a + S1x1x16.size a ≤ S2x136x128.size a) ∧
  (∀ k0_t6 : Fin k0_t6_loop.trips, ∀ (k0_h4 : k0_cond4 v76 = 1#1), ∀ a, (k0_off31 v84 k0_t6) a + S1x1x16.size a ≤ S2x136x128.size a) ∧
  (∀ k0_t6 : Fin k0_t6_loop.trips, ∀ (k0_h4 : k0_cond4 v76 = 1#1), ∀ a, (k0_off32 v84 k0_t6) a + S1x1x16.size a ≤ S2x136x128.size a) ∧
  (∀ k0_t6 : Fin k0_t6_loop.trips, ∀ (k0_h4 : k0_cond4 v76 = 1#1), ∀ a, (k0_off33 v84 k0_t6) a + S1x1x16.size a ≤ S2x136x128.size a) ∧
  (∀ k0_t6 : Fin k0_t6_loop.trips, ∀ (k0_h4 : k0_cond4 v76 = 1#1), ∀ a, (k0_off34 v84 k0_t6) a + S1x1x16.size a ≤ S2x136x128.size a) ∧
  (∀ k0_t6 : Fin k0_t6_loop.trips, ∀ (k0_h4 : k0_cond4 v76 = 1#1), ∀ a, (k0_off35 v84 k0_t6) a + S1x1x16.size a ≤ S2x136x128.size a)
theorem k0_mult6_dvd : ∀ (v76 : BitVec 32) (v84 : BitVec 32) (k0_hw6 : k0_chk6 v76 v84), 8 ∣ (k0_mult6 v84).toNat := fun v76 v84 k0_hw6 => k0_hw6.1
theorem k0_off28_inb : ∀ (v76 : BitVec 32) (v84 : BitVec 32) (k0_hw6 : k0_chk6 v76 v84) (k0_t6 : Fin k0_t6_loop.trips), ∀ (k0_h4 : k0_cond4 v76 = 1#1), ∀ a, (k0_off28 v84 k0_t6) a + S1x1x16.size a ≤ S2x136x128.size a := fun v76 v84 k0_hw6 k0_t6 k0_h4 => k0_hw6.2.1 k0_t6 k0_h4
theorem k0_off29_inb : ∀ (v76 : BitVec 32) (v84 : BitVec 32) (k0_hw6 : k0_chk6 v76 v84) (k0_t6 : Fin k0_t6_loop.trips), ∀ (k0_h4 : k0_cond4 v76 = 1#1), ∀ a, (k0_off29 v84 k0_t6) a + S1x1x16.size a ≤ S2x136x128.size a := fun v76 v84 k0_hw6 k0_t6 k0_h4 => k0_hw6.2.2.1 k0_t6 k0_h4
theorem k0_off30_inb : ∀ (v76 : BitVec 32) (v84 : BitVec 32) (k0_hw6 : k0_chk6 v76 v84) (k0_t6 : Fin k0_t6_loop.trips), ∀ (k0_h4 : k0_cond4 v76 = 1#1), ∀ a, (k0_off30 v84 k0_t6) a + S1x1x16.size a ≤ S2x136x128.size a := fun v76 v84 k0_hw6 k0_t6 k0_h4 => k0_hw6.2.2.2.1 k0_t6 k0_h4
theorem k0_off31_inb : ∀ (v76 : BitVec 32) (v84 : BitVec 32) (k0_hw6 : k0_chk6 v76 v84) (k0_t6 : Fin k0_t6_loop.trips), ∀ (k0_h4 : k0_cond4 v76 = 1#1), ∀ a, (k0_off31 v84 k0_t6) a + S1x1x16.size a ≤ S2x136x128.size a := fun v76 v84 k0_hw6 k0_t6 k0_h4 => k0_hw6.2.2.2.2.1 k0_t6 k0_h4
theorem k0_off32_inb : ∀ (v76 : BitVec 32) (v84 : BitVec 32) (k0_hw6 : k0_chk6 v76 v84) (k0_t6 : Fin k0_t6_loop.trips), ∀ (k0_h4 : k0_cond4 v76 = 1#1), ∀ a, (k0_off32 v84 k0_t6) a + S1x1x16.size a ≤ S2x136x128.size a := fun v76 v84 k0_hw6 k0_t6 k0_h4 => k0_hw6.2.2.2.2.2.1 k0_t6 k0_h4
theorem k0_off33_inb : ∀ (v76 : BitVec 32) (v84 : BitVec 32) (k0_hw6 : k0_chk6 v76 v84) (k0_t6 : Fin k0_t6_loop.trips), ∀ (k0_h4 : k0_cond4 v76 = 1#1), ∀ a, (k0_off33 v84 k0_t6) a + S1x1x16.size a ≤ S2x136x128.size a := fun v76 v84 k0_hw6 k0_t6 k0_h4 => k0_hw6.2.2.2.2.2.2.1 k0_t6 k0_h4
theorem k0_off34_inb : ∀ (v76 : BitVec 32) (v84 : BitVec 32) (k0_hw6 : k0_chk6 v76 v84) (k0_t6 : Fin k0_t6_loop.trips), ∀ (k0_h4 : k0_cond4 v76 = 1#1), ∀ a, (k0_off34 v84 k0_t6) a + S1x1x16.size a ≤ S2x136x128.size a := fun v76 v84 k0_hw6 k0_t6 k0_h4 => k0_hw6.2.2.2.2.2.2.2.1 k0_t6 k0_h4
theorem k0_off35_inb : ∀ (v76 : BitVec 32) (v84 : BitVec 32) (k0_hw6 : k0_chk6 v76 v84) (k0_t6 : Fin k0_t6_loop.trips), ∀ (k0_h4 : k0_cond4 v76 = 1#1), ∀ a, (k0_off35 v84 k0_t6) a + S1x1x16.size a ≤ S2x136x128.size a := fun v76 v84 k0_hw6 k0_t6 k0_h4 => k0_hw6.2.2.2.2.2.2.2.2 k0_t6 k0_h4

@[reducible] def k0_t7_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off36 (k0_t7 : Fin k0_t7_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t7
  let v943 : Index := Scalar.indexCast arg30
  let c0 : Index := 0#32
  ![0, v943.toNat, 0]
def k0_off37 (k0_t7 : Fin k0_t7_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t7
  let v946 : Index := Scalar.indexCast arg30
  let c16 : Index := 16#32
  ![0, v946.toNat, 16]
def k0_off38 (k0_t7 : Fin k0_t7_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t7
  let v949 : Index := Scalar.indexCast arg30
  let c32 : Index := 32#32
  ![0, v949.toNat, 32]
def k0_off39 (k0_t7 : Fin k0_t7_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t7
  let v952 : Index := Scalar.indexCast arg30
  let c48 : Index := 48#32
  ![0, v952.toNat, 48]
def k0_off40 (k0_t7 : Fin k0_t7_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t7
  let v955 : Index := Scalar.indexCast arg30
  let c64 : Index := 64#32
  ![0, v955.toNat, 64]
def k0_off41 (k0_t7 : Fin k0_t7_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t7
  let v958 : Index := Scalar.indexCast arg30
  let c80 : Index := 80#32
  ![0, v958.toNat, 80]
def k0_off42 (k0_t7 : Fin k0_t7_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t7
  let v961 : Index := Scalar.indexCast arg30
  let c96 : Index := 96#32
  ![0, v961.toNat, 96]
def k0_off43 (k0_t7 : Fin k0_t7_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t7
  let v964 : Index := Scalar.indexCast arg30
  let c112 : Index := 112#32
  ![0, v964.toNat, 112]
def k0_off44 (k0_t7 : Fin k0_t7_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t7
  let v991 : Index := Scalar.indexCast arg30
  let c0_708 : Index := 0#32
  ![0, v991.toNat, 0]
def k0_off45 (k0_t7 : Fin k0_t7_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t7
  let v994 : Index := Scalar.indexCast arg30
  let c16_710 : Index := 16#32
  ![0, v994.toNat, 16]
def k0_off46 (k0_t7 : Fin k0_t7_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t7
  let v997 : Index := Scalar.indexCast arg30
  let c32_712 : Index := 32#32
  ![0, v997.toNat, 32]
def k0_off47 (k0_t7 : Fin k0_t7_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t7
  let v1000 : Index := Scalar.indexCast arg30
  let c48_714 : Index := 48#32
  ![0, v1000.toNat, 48]
def k0_off48 (k0_t7 : Fin k0_t7_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t7
  let v1003 : Index := Scalar.indexCast arg30
  let c64_716 : Index := 64#32
  ![0, v1003.toNat, 64]
def k0_off49 (k0_t7 : Fin k0_t7_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t7
  let v1006 : Index := Scalar.indexCast arg30
  let c80_718 : Index := 80#32
  ![0, v1006.toNat, 80]
def k0_off50 (k0_t7 : Fin k0_t7_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t7
  let v1009 : Index := Scalar.indexCast arg30
  let c96_720 : Index := 96#32
  ![0, v1009.toNat, 96]
def k0_off51 (k0_t7 : Fin k0_t7_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t7
  let v1012 : Index := Scalar.indexCast arg30
  let c112_722 : Index := 112#32
  ![0, v1012.toNat, 112]
def k0_off52 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c0_i32_51 : BitVec 32 := 0#32
  let v95 : BitVec 32 := Scalar.addi v22 c0_i32_51
  let c0_i32_55 : BitVec 32 := 0#32
  ![v95.toNat, 0]
def k0_mult7 (v116 : BitVec 32) : BitVec 32 :=
  let c8_i32_74 : BitVec 32 := 8#32
  let v117 : BitVec 32 := Scalar.remsi v116 c8_i32_74
  let v118 : BitVec 32 := Scalar.subi v116 v117
  let c4088_i32_75 : BitVec 32 := 4088#32
  let v119 : BitVec 32 := Scalar.minsi v118 c4088_i32_75
  v119

def k0_mult8 (v122 : BitVec 32) : BitVec 32 :=
  let c8_i32_77 : BitVec 32 := 8#32
  let v123 : BitVec 32 := Scalar.remsi v122 c8_i32_77
  let v124 : BitVec 32 := Scalar.subi v122 v123
  let c3960_i32_78 : BitVec 32 := 3960#32
  let v125 : BitVec 32 := Scalar.minsi v124 c3960_i32_78
  v125

def k0_off53 (v116 : BitVec 32) : Fin 2 → Nat :=
  let c8_i32_74 : BitVec 32 := 8#32
  let v117 : BitVec 32 := Scalar.remsi v116 c8_i32_74
  let v118 : BitVec 32 := Scalar.subi v116 v117
  let c4088_i32_75 : BitVec 32 := 4088#32
  let v119 : BitVec 32 := Scalar.minsi v118 c4088_i32_75
  let v120 : BitVec 32 := v119
  let c0_i32_660 : BitVec 32 := 0#32
  ![v120.toNat, 0]
def k0_cond5 (v114 : BitVec 32) : BitVec 1 :=
  let c0_i32_79 : BitVec 32 := 0#32
  let v127 : BitVec 1 := Scalar.cmpi .eq v114 c0_i32_79
  let v128 : BitVec 32 := Scalar.extui v127
  let c0_i32_81 : BitVec 32 := 0#32
  let v129 : BitVec 1 := Scalar.cmpi .ne v128 c0_i32_81
  v129

def k0_chk7 (v114 : BitVec 32) (v116 : BitVec 32) : Prop :=
  (8 ∣ (k0_mult7 v116).toNat) ∧
  (∀ (k0_h5 : k0_cond5 v114 = 1#1), ∀ a, (k0_off53 v116) a + S8x128.size a ≤ S4096x128.size a)
theorem k0_mult7_dvd : ∀ (v114 : BitVec 32) (v116 : BitVec 32) (k0_hw7 : k0_chk7 v114 v116), 8 ∣ (k0_mult7 v116).toNat := fun v114 v116 k0_hw7 => k0_hw7.1
theorem k0_off53_inb : ∀ (v114 : BitVec 32) (v116 : BitVec 32) (k0_hw7 : k0_chk7 v114 v116), ∀ (k0_h5 : k0_cond5 v114 = 1#1), ∀ a, (k0_off53 v116) a + S8x128.size a ≤ S4096x128.size a := fun v114 v116 k0_hw7 k0_h5 => k0_hw7.2 k0_h5

def k0_off54 (v122 : BitVec 32) : Fin 2 → Nat :=
  let c8_i32_77 : BitVec 32 := 8#32
  let v123 : BitVec 32 := Scalar.remsi v122 c8_i32_77
  let v124 : BitVec 32 := Scalar.subi v122 v123
  let c3960_i32_78 : BitVec 32 := 3960#32
  let v125 : BitVec 32 := Scalar.minsi v124 c3960_i32_78
  let v126 : BitVec 32 := v125
  let c0_i32_669 : BitVec 32 := 0#32
  ![v126.toNat, 0]

def k0_chk8 (v114 : BitVec 32) (v122 : BitVec 32) : Prop :=
  (8 ∣ (k0_mult8 v122).toNat) ∧
  (∀ (k0_h5 : k0_cond5 v114 = 1#1), ∀ a, (k0_off54 v122) a + S136x128.size a ≤ S4096x128.size a)
theorem k0_mult8_dvd : ∀ (v114 : BitVec 32) (v122 : BitVec 32) (k0_hw8 : k0_chk8 v114 v122), 8 ∣ (k0_mult8 v122).toNat := fun v114 v122 k0_hw8 => k0_hw8.1
theorem k0_off54_inb : ∀ (v114 : BitVec 32) (v122 : BitVec 32) (k0_hw8 : k0_chk8 v114 v122), ∀ (k0_h5 : k0_cond5 v114 = 1#1), ∀ a, (k0_off54 v122) a + S136x128.size a ≤ S4096x128.size a := fun v114 v122 k0_hw8 k0_h5 => k0_hw8.2 k0_h5

def k0_mult9 (v134 : BitVec 32) : BitVec 32 :=
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  v137

def k0_mult10 (v140 : BitVec 32) : BitVec 32 :=
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  v143

def k0_off55 (v134 : BitVec 32) : Fin 3 → Nat :=
  let c1_i32_683 : BitVec 32 := 1#32
  let v945 : Index := Scalar.indexCast c1_i32_683
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v946 : Index := Scalar.indexCast v145
  let c0 : Index := 0#32
  ![1, v946.toNat, 0]
def k0_cond6 (v132 : BitVec 32) : BitVec 1 :=
  let c0_i32_89 : BitVec 32 := 0#32
  let v147 : BitVec 1 := Scalar.cmpi .eq v132 c0_i32_89
  let v148 : BitVec 32 := Scalar.extui v147
  let c0_i32_91 : BitVec 32 := 0#32
  let v149 : BitVec 1 := Scalar.cmpi .ne v148 c0_i32_91
  v149

def k0_off56 (v134 : BitVec 32) : Fin 3 → Nat :=
  let c1_i32_684 : BitVec 32 := 1#32
  let v948 : Index := Scalar.indexCast c1_i32_684
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v949 : Index := Scalar.indexCast v145
  let c16 : Index := 16#32
  ![1, v949.toNat, 16]
def k0_off57 (v134 : BitVec 32) : Fin 3 → Nat :=
  let c1_i32_685 : BitVec 32 := 1#32
  let v951 : Index := Scalar.indexCast c1_i32_685
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v952 : Index := Scalar.indexCast v145
  let c32 : Index := 32#32
  ![1, v952.toNat, 32]
def k0_off58 (v134 : BitVec 32) : Fin 3 → Nat :=
  let c1_i32_686 : BitVec 32 := 1#32
  let v954 : Index := Scalar.indexCast c1_i32_686
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v955 : Index := Scalar.indexCast v145
  let c48 : Index := 48#32
  ![1, v955.toNat, 48]
def k0_off59 (v134 : BitVec 32) : Fin 3 → Nat :=
  let c1_i32_687 : BitVec 32 := 1#32
  let v957 : Index := Scalar.indexCast c1_i32_687
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v958 : Index := Scalar.indexCast v145
  let c64 : Index := 64#32
  ![1, v958.toNat, 64]
def k0_off60 (v134 : BitVec 32) : Fin 3 → Nat :=
  let c1_i32_688 : BitVec 32 := 1#32
  let v960 : Index := Scalar.indexCast c1_i32_688
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v961 : Index := Scalar.indexCast v145
  let c80 : Index := 80#32
  ![1, v961.toNat, 80]
def k0_off61 (v134 : BitVec 32) : Fin 3 → Nat :=
  let c1_i32_689 : BitVec 32 := 1#32
  let v963 : Index := Scalar.indexCast c1_i32_689
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v964 : Index := Scalar.indexCast v145
  let c96 : Index := 96#32
  ![1, v964.toNat, 96]
def k0_off62 (v134 : BitVec 32) : Fin 3 → Nat :=
  let c1_i32_690 : BitVec 32 := 1#32
  let v966 : Index := Scalar.indexCast c1_i32_690
  let c8_i32_84 : BitVec 32 := 8#32
  let v135 : BitVec 32 := Scalar.remsi v134 c8_i32_84
  let v136 : BitVec 32 := Scalar.subi v134 v135
  let c4088_i32_85 : BitVec 32 := 4088#32
  let v137 : BitVec 32 := Scalar.minsi v136 c4088_i32_85
  let v138 : BitVec 32 := v137
  let v145 : BitVec 32 := Scalar.subi v134 v138
  let v967 : Index := Scalar.indexCast v145
  let c112 : Index := 112#32
  ![1, v967.toNat, 112]

def k0_chk9 (v132 : BitVec 32) (v134 : BitVec 32) : Prop :=
  (8 ∣ (k0_mult9 v134).toNat) ∧
  (∀ (k0_h6 : k0_cond6 v132 = 1#1), ∀ a, (k0_off55 v134) a + S1x1x16.size a ≤ S2x128x128.size a) ∧
  (∀ (k0_h6 : k0_cond6 v132 = 1#1), ∀ a, (k0_off56 v134) a + S1x1x16.size a ≤ S2x128x128.size a) ∧
  (∀ (k0_h6 : k0_cond6 v132 = 1#1), ∀ a, (k0_off57 v134) a + S1x1x16.size a ≤ S2x128x128.size a) ∧
  (∀ (k0_h6 : k0_cond6 v132 = 1#1), ∀ a, (k0_off58 v134) a + S1x1x16.size a ≤ S2x128x128.size a) ∧
  (∀ (k0_h6 : k0_cond6 v132 = 1#1), ∀ a, (k0_off59 v134) a + S1x1x16.size a ≤ S2x128x128.size a) ∧
  (∀ (k0_h6 : k0_cond6 v132 = 1#1), ∀ a, (k0_off60 v134) a + S1x1x16.size a ≤ S2x128x128.size a) ∧
  (∀ (k0_h6 : k0_cond6 v132 = 1#1), ∀ a, (k0_off61 v134) a + S1x1x16.size a ≤ S2x128x128.size a) ∧
  (∀ (k0_h6 : k0_cond6 v132 = 1#1), ∀ a, (k0_off62 v134) a + S1x1x16.size a ≤ S2x128x128.size a)
theorem k0_mult9_dvd : ∀ (v132 : BitVec 32) (v134 : BitVec 32) (k0_hw9 : k0_chk9 v132 v134), 8 ∣ (k0_mult9 v134).toNat := fun v132 v134 k0_hw9 => k0_hw9.1
theorem k0_off55_inb : ∀ (v132 : BitVec 32) (v134 : BitVec 32) (k0_hw9 : k0_chk9 v132 v134), ∀ (k0_h6 : k0_cond6 v132 = 1#1), ∀ a, (k0_off55 v134) a + S1x1x16.size a ≤ S2x128x128.size a := fun v132 v134 k0_hw9 k0_h6 => k0_hw9.2.1 k0_h6
theorem k0_off56_inb : ∀ (v132 : BitVec 32) (v134 : BitVec 32) (k0_hw9 : k0_chk9 v132 v134), ∀ (k0_h6 : k0_cond6 v132 = 1#1), ∀ a, (k0_off56 v134) a + S1x1x16.size a ≤ S2x128x128.size a := fun v132 v134 k0_hw9 k0_h6 => k0_hw9.2.2.1 k0_h6
theorem k0_off57_inb : ∀ (v132 : BitVec 32) (v134 : BitVec 32) (k0_hw9 : k0_chk9 v132 v134), ∀ (k0_h6 : k0_cond6 v132 = 1#1), ∀ a, (k0_off57 v134) a + S1x1x16.size a ≤ S2x128x128.size a := fun v132 v134 k0_hw9 k0_h6 => k0_hw9.2.2.2.1 k0_h6
theorem k0_off58_inb : ∀ (v132 : BitVec 32) (v134 : BitVec 32) (k0_hw9 : k0_chk9 v132 v134), ∀ (k0_h6 : k0_cond6 v132 = 1#1), ∀ a, (k0_off58 v134) a + S1x1x16.size a ≤ S2x128x128.size a := fun v132 v134 k0_hw9 k0_h6 => k0_hw9.2.2.2.2.1 k0_h6
theorem k0_off59_inb : ∀ (v132 : BitVec 32) (v134 : BitVec 32) (k0_hw9 : k0_chk9 v132 v134), ∀ (k0_h6 : k0_cond6 v132 = 1#1), ∀ a, (k0_off59 v134) a + S1x1x16.size a ≤ S2x128x128.size a := fun v132 v134 k0_hw9 k0_h6 => k0_hw9.2.2.2.2.2.1 k0_h6
theorem k0_off60_inb : ∀ (v132 : BitVec 32) (v134 : BitVec 32) (k0_hw9 : k0_chk9 v132 v134), ∀ (k0_h6 : k0_cond6 v132 = 1#1), ∀ a, (k0_off60 v134) a + S1x1x16.size a ≤ S2x128x128.size a := fun v132 v134 k0_hw9 k0_h6 => k0_hw9.2.2.2.2.2.2.1 k0_h6
theorem k0_off61_inb : ∀ (v132 : BitVec 32) (v134 : BitVec 32) (k0_hw9 : k0_chk9 v132 v134), ∀ (k0_h6 : k0_cond6 v132 = 1#1), ∀ a, (k0_off61 v134) a + S1x1x16.size a ≤ S2x128x128.size a := fun v132 v134 k0_hw9 k0_h6 => k0_hw9.2.2.2.2.2.2.2.1 k0_h6
theorem k0_off62_inb : ∀ (v132 : BitVec 32) (v134 : BitVec 32) (k0_hw9 : k0_chk9 v132 v134), ∀ (k0_h6 : k0_cond6 v132 = 1#1), ∀ a, (k0_off62 v134) a + S1x1x16.size a ≤ S2x128x128.size a := fun v132 v134 k0_hw9 k0_h6 => k0_hw9.2.2.2.2.2.2.2.2 k0_h6

@[reducible] def k0_t8_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off63 (k0_t8 : Fin k0_t8_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t8
  let v971 : Index := Scalar.indexCast arg30
  let c0_698 : Index := 0#32
  ![1, v971.toNat, 0]
def k0_off64 (k0_t8 : Fin k0_t8_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t8
  let v974 : Index := Scalar.indexCast arg30
  let c16_700 : Index := 16#32
  ![1, v974.toNat, 16]
def k0_off65 (k0_t8 : Fin k0_t8_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t8
  let v977 : Index := Scalar.indexCast arg30
  let c32_702 : Index := 32#32
  ![1, v977.toNat, 32]
def k0_off66 (k0_t8 : Fin k0_t8_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t8
  let v980 : Index := Scalar.indexCast arg30
  let c48_704 : Index := 48#32
  ![1, v980.toNat, 48]
def k0_off67 (k0_t8 : Fin k0_t8_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t8
  let v983 : Index := Scalar.indexCast arg30
  let c64_706 : Index := 64#32
  ![1, v983.toNat, 64]
def k0_off68 (k0_t8 : Fin k0_t8_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t8
  let v986 : Index := Scalar.indexCast arg30
  let c80_708 : Index := 80#32
  ![1, v986.toNat, 80]
def k0_off69 (k0_t8 : Fin k0_t8_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t8
  let v989 : Index := Scalar.indexCast arg30
  let c96_710 : Index := 96#32
  ![1, v989.toNat, 96]
def k0_off70 (k0_t8 : Fin k0_t8_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t8
  let v992 : Index := Scalar.indexCast arg30
  let c112_712 : Index := 112#32
  ![1, v992.toNat, 112]
def k0_off71 (v140 : BitVec 32) (k0_t8 : Fin k0_t8_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v994 : BitVec 32 := Scalar.addi arg30 v146
  let v996 : Index := Scalar.indexCast v994
  let c0_714 : Index := 0#32
  ![1, v996.toNat, 0]
def k0_off72 (v140 : BitVec 32) (k0_t8 : Fin k0_t8_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v998 : BitVec 32 := Scalar.addi arg30 v146
  let v1000 : Index := Scalar.indexCast v998
  let c16_716 : Index := 16#32
  ![1, v1000.toNat, 16]
def k0_off73 (v140 : BitVec 32) (k0_t8 : Fin k0_t8_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1002 : BitVec 32 := Scalar.addi arg30 v146
  let v1004 : Index := Scalar.indexCast v1002
  let c32_718 : Index := 32#32
  ![1, v1004.toNat, 32]
def k0_off74 (v140 : BitVec 32) (k0_t8 : Fin k0_t8_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1006 : BitVec 32 := Scalar.addi arg30 v146
  let v1008 : Index := Scalar.indexCast v1006
  let c48_720 : Index := 48#32
  ![1, v1008.toNat, 48]
def k0_off75 (v140 : BitVec 32) (k0_t8 : Fin k0_t8_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1010 : BitVec 32 := Scalar.addi arg30 v146
  let v1012 : Index := Scalar.indexCast v1010
  let c64_722 : Index := 64#32
  ![1, v1012.toNat, 64]
def k0_off76 (v140 : BitVec 32) (k0_t8 : Fin k0_t8_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1014 : BitVec 32 := Scalar.addi arg30 v146
  let v1016 : Index := Scalar.indexCast v1014
  let c80_724 : Index := 80#32
  ![1, v1016.toNat, 80]
def k0_off77 (v140 : BitVec 32) (k0_t8 : Fin k0_t8_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1018 : BitVec 32 := Scalar.addi arg30 v146
  let v1020 : Index := Scalar.indexCast v1018
  let c96_726 : Index := 96#32
  ![1, v1020.toNat, 96]
def k0_off78 (v140 : BitVec 32) (k0_t8 : Fin k0_t8_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t8
  let c8_i32_87 : BitVec 32 := 8#32
  let v141 : BitVec 32 := Scalar.remsi v140 c8_i32_87
  let v142 : BitVec 32 := Scalar.subi v140 v141
  let c3960_i32_88 : BitVec 32 := 3960#32
  let v143 : BitVec 32 := Scalar.minsi v142 c3960_i32_88
  let v144 : BitVec 32 := v143
  let v146 : BitVec 32 := Scalar.subi v140 v144
  let v1022 : BitVec 32 := Scalar.addi arg30 v146
  let v1024 : Index := Scalar.indexCast v1022
  let c112_728 : Index := 112#32
  ![1, v1024.toNat, 112]

def k0_chk10 (v132 : BitVec 32) (v140 : BitVec 32) : Prop :=
  (8 ∣ (k0_mult10 v140).toNat) ∧
  (∀ k0_t8 : Fin k0_t8_loop.trips, ∀ (k0_h6 : k0_cond6 v132 = 1#1), ∀ a, (k0_off71 v140 k0_t8) a + S1x1x16.size a ≤ S2x136x128.size a) ∧
  (∀ k0_t8 : Fin k0_t8_loop.trips, ∀ (k0_h6 : k0_cond6 v132 = 1#1), ∀ a, (k0_off72 v140 k0_t8) a + S1x1x16.size a ≤ S2x136x128.size a) ∧
  (∀ k0_t8 : Fin k0_t8_loop.trips, ∀ (k0_h6 : k0_cond6 v132 = 1#1), ∀ a, (k0_off73 v140 k0_t8) a + S1x1x16.size a ≤ S2x136x128.size a) ∧
  (∀ k0_t8 : Fin k0_t8_loop.trips, ∀ (k0_h6 : k0_cond6 v132 = 1#1), ∀ a, (k0_off74 v140 k0_t8) a + S1x1x16.size a ≤ S2x136x128.size a) ∧
  (∀ k0_t8 : Fin k0_t8_loop.trips, ∀ (k0_h6 : k0_cond6 v132 = 1#1), ∀ a, (k0_off75 v140 k0_t8) a + S1x1x16.size a ≤ S2x136x128.size a) ∧
  (∀ k0_t8 : Fin k0_t8_loop.trips, ∀ (k0_h6 : k0_cond6 v132 = 1#1), ∀ a, (k0_off76 v140 k0_t8) a + S1x1x16.size a ≤ S2x136x128.size a) ∧
  (∀ k0_t8 : Fin k0_t8_loop.trips, ∀ (k0_h6 : k0_cond6 v132 = 1#1), ∀ a, (k0_off77 v140 k0_t8) a + S1x1x16.size a ≤ S2x136x128.size a) ∧
  (∀ k0_t8 : Fin k0_t8_loop.trips, ∀ (k0_h6 : k0_cond6 v132 = 1#1), ∀ a, (k0_off78 v140 k0_t8) a + S1x1x16.size a ≤ S2x136x128.size a)
theorem k0_mult10_dvd : ∀ (v132 : BitVec 32) (v140 : BitVec 32) (k0_hw10 : k0_chk10 v132 v140), 8 ∣ (k0_mult10 v140).toNat := fun v132 v140 k0_hw10 => k0_hw10.1
theorem k0_off71_inb : ∀ (v132 : BitVec 32) (v140 : BitVec 32) (k0_hw10 : k0_chk10 v132 v140) (k0_t8 : Fin k0_t8_loop.trips), ∀ (k0_h6 : k0_cond6 v132 = 1#1), ∀ a, (k0_off71 v140 k0_t8) a + S1x1x16.size a ≤ S2x136x128.size a := fun v132 v140 k0_hw10 k0_t8 k0_h6 => k0_hw10.2.1 k0_t8 k0_h6
theorem k0_off72_inb : ∀ (v132 : BitVec 32) (v140 : BitVec 32) (k0_hw10 : k0_chk10 v132 v140) (k0_t8 : Fin k0_t8_loop.trips), ∀ (k0_h6 : k0_cond6 v132 = 1#1), ∀ a, (k0_off72 v140 k0_t8) a + S1x1x16.size a ≤ S2x136x128.size a := fun v132 v140 k0_hw10 k0_t8 k0_h6 => k0_hw10.2.2.1 k0_t8 k0_h6
theorem k0_off73_inb : ∀ (v132 : BitVec 32) (v140 : BitVec 32) (k0_hw10 : k0_chk10 v132 v140) (k0_t8 : Fin k0_t8_loop.trips), ∀ (k0_h6 : k0_cond6 v132 = 1#1), ∀ a, (k0_off73 v140 k0_t8) a + S1x1x16.size a ≤ S2x136x128.size a := fun v132 v140 k0_hw10 k0_t8 k0_h6 => k0_hw10.2.2.2.1 k0_t8 k0_h6
theorem k0_off74_inb : ∀ (v132 : BitVec 32) (v140 : BitVec 32) (k0_hw10 : k0_chk10 v132 v140) (k0_t8 : Fin k0_t8_loop.trips), ∀ (k0_h6 : k0_cond6 v132 = 1#1), ∀ a, (k0_off74 v140 k0_t8) a + S1x1x16.size a ≤ S2x136x128.size a := fun v132 v140 k0_hw10 k0_t8 k0_h6 => k0_hw10.2.2.2.2.1 k0_t8 k0_h6
theorem k0_off75_inb : ∀ (v132 : BitVec 32) (v140 : BitVec 32) (k0_hw10 : k0_chk10 v132 v140) (k0_t8 : Fin k0_t8_loop.trips), ∀ (k0_h6 : k0_cond6 v132 = 1#1), ∀ a, (k0_off75 v140 k0_t8) a + S1x1x16.size a ≤ S2x136x128.size a := fun v132 v140 k0_hw10 k0_t8 k0_h6 => k0_hw10.2.2.2.2.2.1 k0_t8 k0_h6
theorem k0_off76_inb : ∀ (v132 : BitVec 32) (v140 : BitVec 32) (k0_hw10 : k0_chk10 v132 v140) (k0_t8 : Fin k0_t8_loop.trips), ∀ (k0_h6 : k0_cond6 v132 = 1#1), ∀ a, (k0_off76 v140 k0_t8) a + S1x1x16.size a ≤ S2x136x128.size a := fun v132 v140 k0_hw10 k0_t8 k0_h6 => k0_hw10.2.2.2.2.2.2.1 k0_t8 k0_h6
theorem k0_off77_inb : ∀ (v132 : BitVec 32) (v140 : BitVec 32) (k0_hw10 : k0_chk10 v132 v140) (k0_t8 : Fin k0_t8_loop.trips), ∀ (k0_h6 : k0_cond6 v132 = 1#1), ∀ a, (k0_off77 v140 k0_t8) a + S1x1x16.size a ≤ S2x136x128.size a := fun v132 v140 k0_hw10 k0_t8 k0_h6 => k0_hw10.2.2.2.2.2.2.2.1 k0_t8 k0_h6
theorem k0_off78_inb : ∀ (v132 : BitVec 32) (v140 : BitVec 32) (k0_hw10 : k0_chk10 v132 v140) (k0_t8 : Fin k0_t8_loop.trips), ∀ (k0_h6 : k0_cond6 v132 = 1#1), ∀ a, (k0_off78 v140 k0_t8) a + S1x1x16.size a ≤ S2x136x128.size a := fun v132 v140 k0_hw10 k0_t8 k0_h6 => k0_hw10.2.2.2.2.2.2.2.2 k0_t8 k0_h6

@[reducible] def k0_t9_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off79 (k0_t9 : Fin k0_t9_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t9
  let v943 : Index := Scalar.indexCast arg30
  let c0 : Index := 0#32
  ![1, v943.toNat, 0]
def k0_off80 (k0_t9 : Fin k0_t9_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t9
  let v946 : Index := Scalar.indexCast arg30
  let c16 : Index := 16#32
  ![1, v946.toNat, 16]
def k0_off81 (k0_t9 : Fin k0_t9_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t9
  let v949 : Index := Scalar.indexCast arg30
  let c32 : Index := 32#32
  ![1, v949.toNat, 32]
def k0_off82 (k0_t9 : Fin k0_t9_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t9
  let v952 : Index := Scalar.indexCast arg30
  let c48 : Index := 48#32
  ![1, v952.toNat, 48]
def k0_off83 (k0_t9 : Fin k0_t9_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t9
  let v955 : Index := Scalar.indexCast arg30
  let c64 : Index := 64#32
  ![1, v955.toNat, 64]
def k0_off84 (k0_t9 : Fin k0_t9_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t9
  let v958 : Index := Scalar.indexCast arg30
  let c80 : Index := 80#32
  ![1, v958.toNat, 80]
def k0_off85 (k0_t9 : Fin k0_t9_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t9
  let v961 : Index := Scalar.indexCast arg30
  let c96 : Index := 96#32
  ![1, v961.toNat, 96]
def k0_off86 (k0_t9 : Fin k0_t9_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t9
  let v964 : Index := Scalar.indexCast arg30
  let c112 : Index := 112#32
  ![1, v964.toNat, 112]
def k0_off87 (k0_t9 : Fin k0_t9_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t9
  let v991 : Index := Scalar.indexCast arg30
  let c0_708 : Index := 0#32
  ![1, v991.toNat, 0]
def k0_off88 (k0_t9 : Fin k0_t9_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t9
  let v994 : Index := Scalar.indexCast arg30
  let c16_710 : Index := 16#32
  ![1, v994.toNat, 16]
def k0_off89 (k0_t9 : Fin k0_t9_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t9
  let v997 : Index := Scalar.indexCast arg30
  let c32_712 : Index := 32#32
  ![1, v997.toNat, 32]
def k0_off90 (k0_t9 : Fin k0_t9_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t9
  let v1000 : Index := Scalar.indexCast arg30
  let c48_714 : Index := 48#32
  ![1, v1000.toNat, 48]
def k0_off91 (k0_t9 : Fin k0_t9_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t9
  let v1003 : Index := Scalar.indexCast arg30
  let c64_716 : Index := 64#32
  ![1, v1003.toNat, 64]
def k0_off92 (k0_t9 : Fin k0_t9_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t9
  let v1006 : Index := Scalar.indexCast arg30
  let c80_718 : Index := 80#32
  ![1, v1006.toNat, 80]
def k0_off93 (k0_t9 : Fin k0_t9_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t9
  let v1009 : Index := Scalar.indexCast arg30
  let c96_720 : Index := 96#32
  ![1, v1009.toNat, 96]
def k0_off94 (k0_t9 : Fin k0_t9_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t9
  let v1012 : Index := Scalar.indexCast arg30
  let c112_722 : Index := 112#32
  ![1, v1012.toNat, 112]
def k0_off95 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c128_i32_92 : BitVec 32 := 128#32
  let v151 : BitVec 32 := Scalar.addi v22 c128_i32_92
  let c0_i32_96 : BitVec 32 := 0#32
  ![v151.toNat, 0]
def k0_mult11 (v172 : BitVec 32) : BitVec 32 :=
  let c8_i32_114 : BitVec 32 := 8#32
  let v173 : BitVec 32 := Scalar.remsi v172 c8_i32_114
  let v174 : BitVec 32 := Scalar.subi v172 v173
  let c4088_i32_115 : BitVec 32 := 4088#32
  let v175 : BitVec 32 := Scalar.minsi v174 c4088_i32_115
  v175

def k0_mult12 (v178 : BitVec 32) : BitVec 32 :=
  let c8_i32_117 : BitVec 32 := 8#32
  let v179 : BitVec 32 := Scalar.remsi v178 c8_i32_117
  let v180 : BitVec 32 := Scalar.subi v178 v179
  let c3960_i32_118 : BitVec 32 := 3960#32
  let v181 : BitVec 32 := Scalar.minsi v180 c3960_i32_118
  v181

def k0_off96 (v172 : BitVec 32) : Fin 2 → Nat :=
  let c8_i32_114 : BitVec 32 := 8#32
  let v173 : BitVec 32 := Scalar.remsi v172 c8_i32_114
  let v174 : BitVec 32 := Scalar.subi v172 v173
  let c4088_i32_115 : BitVec 32 := 4088#32
  let v175 : BitVec 32 := Scalar.minsi v174 c4088_i32_115
  let v176 : BitVec 32 := v175
  let c0_i32_660 : BitVec 32 := 0#32
  ![v176.toNat, 0]
def k0_cond7 (v170 : BitVec 32) : BitVec 1 :=
  let c0_i32_119 : BitVec 32 := 0#32
  let v183 : BitVec 1 := Scalar.cmpi .eq v170 c0_i32_119
  let v184 : BitVec 32 := Scalar.extui v183
  let c0_i32_121 : BitVec 32 := 0#32
  let v185 : BitVec 1 := Scalar.cmpi .ne v184 c0_i32_121
  v185

def k0_chk11 (v170 : BitVec 32) (v172 : BitVec 32) : Prop :=
  (8 ∣ (k0_mult11 v172).toNat) ∧
  (∀ (k0_h7 : k0_cond7 v170 = 1#1), ∀ a, (k0_off96 v172) a + S8x128.size a ≤ S4096x128.size a)
theorem k0_mult11_dvd : ∀ (v170 : BitVec 32) (v172 : BitVec 32) (k0_hw11 : k0_chk11 v170 v172), 8 ∣ (k0_mult11 v172).toNat := fun v170 v172 k0_hw11 => k0_hw11.1
theorem k0_off96_inb : ∀ (v170 : BitVec 32) (v172 : BitVec 32) (k0_hw11 : k0_chk11 v170 v172), ∀ (k0_h7 : k0_cond7 v170 = 1#1), ∀ a, (k0_off96 v172) a + S8x128.size a ≤ S4096x128.size a := fun v170 v172 k0_hw11 k0_h7 => k0_hw11.2 k0_h7

def k0_off97 (v178 : BitVec 32) : Fin 2 → Nat :=
  let c8_i32_117 : BitVec 32 := 8#32
  let v179 : BitVec 32 := Scalar.remsi v178 c8_i32_117
  let v180 : BitVec 32 := Scalar.subi v178 v179
  let c3960_i32_118 : BitVec 32 := 3960#32
  let v181 : BitVec 32 := Scalar.minsi v180 c3960_i32_118
  let v182 : BitVec 32 := v181
  let c0_i32_669 : BitVec 32 := 0#32
  ![v182.toNat, 0]

def k0_chk12 (v170 : BitVec 32) (v178 : BitVec 32) : Prop :=
  (8 ∣ (k0_mult12 v178).toNat) ∧
  (∀ (k0_h7 : k0_cond7 v170 = 1#1), ∀ a, (k0_off97 v178) a + S136x128.size a ≤ S4096x128.size a)
theorem k0_mult12_dvd : ∀ (v170 : BitVec 32) (v178 : BitVec 32) (k0_hw12 : k0_chk12 v170 v178), 8 ∣ (k0_mult12 v178).toNat := fun v170 v178 k0_hw12 => k0_hw12.1
theorem k0_off97_inb : ∀ (v170 : BitVec 32) (v178 : BitVec 32) (k0_hw12 : k0_chk12 v170 v178), ∀ (k0_h7 : k0_cond7 v170 = 1#1), ∀ a, (k0_off97 v178) a + S136x128.size a ≤ S4096x128.size a := fun v170 v178 k0_hw12 k0_h7 => k0_hw12.2 k0_h7

def k0_mult13 (v190 : BitVec 32) : BitVec 32 :=
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  v193

def k0_mult14 (v196 : BitVec 32) : BitVec 32 :=
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  v199

def k0_off98 (v190 : BitVec 32) : Fin 3 → Nat :=
  let c0_i32_683 : BitVec 32 := 0#32
  let v945 : Index := Scalar.indexCast c0_i32_683
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v946 : Index := Scalar.indexCast v201
  let c0 : Index := 0#32
  ![0, v946.toNat, 0]
def k0_cond8 (v188 : BitVec 32) : BitVec 1 :=
  let c0_i32_129 : BitVec 32 := 0#32
  let v203 : BitVec 1 := Scalar.cmpi .eq v188 c0_i32_129
  let v204 : BitVec 32 := Scalar.extui v203
  let c0_i32_131 : BitVec 32 := 0#32
  let v205 : BitVec 1 := Scalar.cmpi .ne v204 c0_i32_131
  v205

def k0_off99 (v190 : BitVec 32) : Fin 3 → Nat :=
  let c0_i32_684 : BitVec 32 := 0#32
  let v948 : Index := Scalar.indexCast c0_i32_684
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v949 : Index := Scalar.indexCast v201
  let c16 : Index := 16#32
  ![0, v949.toNat, 16]
def k0_off100 (v190 : BitVec 32) : Fin 3 → Nat :=
  let c0_i32_685 : BitVec 32 := 0#32
  let v951 : Index := Scalar.indexCast c0_i32_685
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v952 : Index := Scalar.indexCast v201
  let c32 : Index := 32#32
  ![0, v952.toNat, 32]
def k0_off101 (v190 : BitVec 32) : Fin 3 → Nat :=
  let c0_i32_686 : BitVec 32 := 0#32
  let v954 : Index := Scalar.indexCast c0_i32_686
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v955 : Index := Scalar.indexCast v201
  let c48 : Index := 48#32
  ![0, v955.toNat, 48]
def k0_off102 (v190 : BitVec 32) : Fin 3 → Nat :=
  let c0_i32_687 : BitVec 32 := 0#32
  let v957 : Index := Scalar.indexCast c0_i32_687
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v958 : Index := Scalar.indexCast v201
  let c64 : Index := 64#32
  ![0, v958.toNat, 64]
def k0_off103 (v190 : BitVec 32) : Fin 3 → Nat :=
  let c0_i32_688 : BitVec 32 := 0#32
  let v960 : Index := Scalar.indexCast c0_i32_688
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v961 : Index := Scalar.indexCast v201
  let c80 : Index := 80#32
  ![0, v961.toNat, 80]
def k0_off104 (v190 : BitVec 32) : Fin 3 → Nat :=
  let c0_i32_689 : BitVec 32 := 0#32
  let v963 : Index := Scalar.indexCast c0_i32_689
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v964 : Index := Scalar.indexCast v201
  let c96 : Index := 96#32
  ![0, v964.toNat, 96]
def k0_off105 (v190 : BitVec 32) : Fin 3 → Nat :=
  let c0_i32_690 : BitVec 32 := 0#32
  let v966 : Index := Scalar.indexCast c0_i32_690
  let c8_i32_124 : BitVec 32 := 8#32
  let v191 : BitVec 32 := Scalar.remsi v190 c8_i32_124
  let v192 : BitVec 32 := Scalar.subi v190 v191
  let c4088_i32_125 : BitVec 32 := 4088#32
  let v193 : BitVec 32 := Scalar.minsi v192 c4088_i32_125
  let v194 : BitVec 32 := v193
  let v201 : BitVec 32 := Scalar.subi v190 v194
  let v967 : Index := Scalar.indexCast v201
  let c112 : Index := 112#32
  ![0, v967.toNat, 112]

def k0_chk13 (v188 : BitVec 32) (v190 : BitVec 32) : Prop :=
  (8 ∣ (k0_mult13 v190).toNat) ∧
  (∀ (k0_h8 : k0_cond8 v188 = 1#1), ∀ a, (k0_off98 v190) a + S1x1x16.size a ≤ S2x128x128.size a) ∧
  (∀ (k0_h8 : k0_cond8 v188 = 1#1), ∀ a, (k0_off99 v190) a + S1x1x16.size a ≤ S2x128x128.size a) ∧
  (∀ (k0_h8 : k0_cond8 v188 = 1#1), ∀ a, (k0_off100 v190) a + S1x1x16.size a ≤ S2x128x128.size a) ∧
  (∀ (k0_h8 : k0_cond8 v188 = 1#1), ∀ a, (k0_off101 v190) a + S1x1x16.size a ≤ S2x128x128.size a) ∧
  (∀ (k0_h8 : k0_cond8 v188 = 1#1), ∀ a, (k0_off102 v190) a + S1x1x16.size a ≤ S2x128x128.size a) ∧
  (∀ (k0_h8 : k0_cond8 v188 = 1#1), ∀ a, (k0_off103 v190) a + S1x1x16.size a ≤ S2x128x128.size a) ∧
  (∀ (k0_h8 : k0_cond8 v188 = 1#1), ∀ a, (k0_off104 v190) a + S1x1x16.size a ≤ S2x128x128.size a) ∧
  (∀ (k0_h8 : k0_cond8 v188 = 1#1), ∀ a, (k0_off105 v190) a + S1x1x16.size a ≤ S2x128x128.size a)
theorem k0_mult13_dvd : ∀ (v188 : BitVec 32) (v190 : BitVec 32) (k0_hw13 : k0_chk13 v188 v190), 8 ∣ (k0_mult13 v190).toNat := fun v188 v190 k0_hw13 => k0_hw13.1
theorem k0_off98_inb : ∀ (v188 : BitVec 32) (v190 : BitVec 32) (k0_hw13 : k0_chk13 v188 v190), ∀ (k0_h8 : k0_cond8 v188 = 1#1), ∀ a, (k0_off98 v190) a + S1x1x16.size a ≤ S2x128x128.size a := fun v188 v190 k0_hw13 k0_h8 => k0_hw13.2.1 k0_h8
theorem k0_off99_inb : ∀ (v188 : BitVec 32) (v190 : BitVec 32) (k0_hw13 : k0_chk13 v188 v190), ∀ (k0_h8 : k0_cond8 v188 = 1#1), ∀ a, (k0_off99 v190) a + S1x1x16.size a ≤ S2x128x128.size a := fun v188 v190 k0_hw13 k0_h8 => k0_hw13.2.2.1 k0_h8
theorem k0_off100_inb : ∀ (v188 : BitVec 32) (v190 : BitVec 32) (k0_hw13 : k0_chk13 v188 v190), ∀ (k0_h8 : k0_cond8 v188 = 1#1), ∀ a, (k0_off100 v190) a + S1x1x16.size a ≤ S2x128x128.size a := fun v188 v190 k0_hw13 k0_h8 => k0_hw13.2.2.2.1 k0_h8
theorem k0_off101_inb : ∀ (v188 : BitVec 32) (v190 : BitVec 32) (k0_hw13 : k0_chk13 v188 v190), ∀ (k0_h8 : k0_cond8 v188 = 1#1), ∀ a, (k0_off101 v190) a + S1x1x16.size a ≤ S2x128x128.size a := fun v188 v190 k0_hw13 k0_h8 => k0_hw13.2.2.2.2.1 k0_h8
theorem k0_off102_inb : ∀ (v188 : BitVec 32) (v190 : BitVec 32) (k0_hw13 : k0_chk13 v188 v190), ∀ (k0_h8 : k0_cond8 v188 = 1#1), ∀ a, (k0_off102 v190) a + S1x1x16.size a ≤ S2x128x128.size a := fun v188 v190 k0_hw13 k0_h8 => k0_hw13.2.2.2.2.2.1 k0_h8
theorem k0_off103_inb : ∀ (v188 : BitVec 32) (v190 : BitVec 32) (k0_hw13 : k0_chk13 v188 v190), ∀ (k0_h8 : k0_cond8 v188 = 1#1), ∀ a, (k0_off103 v190) a + S1x1x16.size a ≤ S2x128x128.size a := fun v188 v190 k0_hw13 k0_h8 => k0_hw13.2.2.2.2.2.2.1 k0_h8
theorem k0_off104_inb : ∀ (v188 : BitVec 32) (v190 : BitVec 32) (k0_hw13 : k0_chk13 v188 v190), ∀ (k0_h8 : k0_cond8 v188 = 1#1), ∀ a, (k0_off104 v190) a + S1x1x16.size a ≤ S2x128x128.size a := fun v188 v190 k0_hw13 k0_h8 => k0_hw13.2.2.2.2.2.2.2.1 k0_h8
theorem k0_off105_inb : ∀ (v188 : BitVec 32) (v190 : BitVec 32) (k0_hw13 : k0_chk13 v188 v190), ∀ (k0_h8 : k0_cond8 v188 = 1#1), ∀ a, (k0_off105 v190) a + S1x1x16.size a ≤ S2x128x128.size a := fun v188 v190 k0_hw13 k0_h8 => k0_hw13.2.2.2.2.2.2.2.2 k0_h8

@[reducible] def k0_t10_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off106 (k0_t10 : Fin k0_t10_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t10
  let v971 : Index := Scalar.indexCast arg30
  let c0_698 : Index := 0#32
  ![0, v971.toNat, 0]
def k0_off107 (k0_t10 : Fin k0_t10_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t10
  let v974 : Index := Scalar.indexCast arg30
  let c16_700 : Index := 16#32
  ![0, v974.toNat, 16]
def k0_off108 (k0_t10 : Fin k0_t10_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t10
  let v977 : Index := Scalar.indexCast arg30
  let c32_702 : Index := 32#32
  ![0, v977.toNat, 32]
def k0_off109 (k0_t10 : Fin k0_t10_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t10
  let v980 : Index := Scalar.indexCast arg30
  let c48_704 : Index := 48#32
  ![0, v980.toNat, 48]
def k0_off110 (k0_t10 : Fin k0_t10_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t10
  let v983 : Index := Scalar.indexCast arg30
  let c64_706 : Index := 64#32
  ![0, v983.toNat, 64]
def k0_off111 (k0_t10 : Fin k0_t10_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t10
  let v986 : Index := Scalar.indexCast arg30
  let c80_708 : Index := 80#32
  ![0, v986.toNat, 80]
def k0_off112 (k0_t10 : Fin k0_t10_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t10
  let v989 : Index := Scalar.indexCast arg30
  let c96_710 : Index := 96#32
  ![0, v989.toNat, 96]
def k0_off113 (k0_t10 : Fin k0_t10_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t10
  let v992 : Index := Scalar.indexCast arg30
  let c112_712 : Index := 112#32
  ![0, v992.toNat, 112]
def k0_off114 (v196 : BitVec 32) (k0_t10 : Fin k0_t10_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v994 : BitVec 32 := Scalar.addi arg30 v202
  let v996 : Index := Scalar.indexCast v994
  let c0_714 : Index := 0#32
  ![0, v996.toNat, 0]
def k0_off115 (v196 : BitVec 32) (k0_t10 : Fin k0_t10_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v998 : BitVec 32 := Scalar.addi arg30 v202
  let v1000 : Index := Scalar.indexCast v998
  let c16_716 : Index := 16#32
  ![0, v1000.toNat, 16]
def k0_off116 (v196 : BitVec 32) (k0_t10 : Fin k0_t10_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1002 : BitVec 32 := Scalar.addi arg30 v202
  let v1004 : Index := Scalar.indexCast v1002
  let c32_718 : Index := 32#32
  ![0, v1004.toNat, 32]
def k0_off117 (v196 : BitVec 32) (k0_t10 : Fin k0_t10_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1006 : BitVec 32 := Scalar.addi arg30 v202
  let v1008 : Index := Scalar.indexCast v1006
  let c48_720 : Index := 48#32
  ![0, v1008.toNat, 48]
def k0_off118 (v196 : BitVec 32) (k0_t10 : Fin k0_t10_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1010 : BitVec 32 := Scalar.addi arg30 v202
  let v1012 : Index := Scalar.indexCast v1010
  let c64_722 : Index := 64#32
  ![0, v1012.toNat, 64]
def k0_off119 (v196 : BitVec 32) (k0_t10 : Fin k0_t10_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1014 : BitVec 32 := Scalar.addi arg30 v202
  let v1016 : Index := Scalar.indexCast v1014
  let c80_724 : Index := 80#32
  ![0, v1016.toNat, 80]
def k0_off120 (v196 : BitVec 32) (k0_t10 : Fin k0_t10_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1018 : BitVec 32 := Scalar.addi arg30 v202
  let v1020 : Index := Scalar.indexCast v1018
  let c96_726 : Index := 96#32
  ![0, v1020.toNat, 96]
def k0_off121 (v196 : BitVec 32) (k0_t10 : Fin k0_t10_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t10
  let c8_i32_127 : BitVec 32 := 8#32
  let v197 : BitVec 32 := Scalar.remsi v196 c8_i32_127
  let v198 : BitVec 32 := Scalar.subi v196 v197
  let c3960_i32_128 : BitVec 32 := 3960#32
  let v199 : BitVec 32 := Scalar.minsi v198 c3960_i32_128
  let v200 : BitVec 32 := v199
  let v202 : BitVec 32 := Scalar.subi v196 v200
  let v1022 : BitVec 32 := Scalar.addi arg30 v202
  let v1024 : Index := Scalar.indexCast v1022
  let c112_728 : Index := 112#32
  ![0, v1024.toNat, 112]

def k0_chk14 (v188 : BitVec 32) (v196 : BitVec 32) : Prop :=
  (8 ∣ (k0_mult14 v196).toNat) ∧
  (∀ k0_t10 : Fin k0_t10_loop.trips, ∀ (k0_h8 : k0_cond8 v188 = 1#1), ∀ a, (k0_off114 v196 k0_t10) a + S1x1x16.size a ≤ S2x136x128.size a) ∧
  (∀ k0_t10 : Fin k0_t10_loop.trips, ∀ (k0_h8 : k0_cond8 v188 = 1#1), ∀ a, (k0_off115 v196 k0_t10) a + S1x1x16.size a ≤ S2x136x128.size a) ∧
  (∀ k0_t10 : Fin k0_t10_loop.trips, ∀ (k0_h8 : k0_cond8 v188 = 1#1), ∀ a, (k0_off116 v196 k0_t10) a + S1x1x16.size a ≤ S2x136x128.size a) ∧
  (∀ k0_t10 : Fin k0_t10_loop.trips, ∀ (k0_h8 : k0_cond8 v188 = 1#1), ∀ a, (k0_off117 v196 k0_t10) a + S1x1x16.size a ≤ S2x136x128.size a) ∧
  (∀ k0_t10 : Fin k0_t10_loop.trips, ∀ (k0_h8 : k0_cond8 v188 = 1#1), ∀ a, (k0_off118 v196 k0_t10) a + S1x1x16.size a ≤ S2x136x128.size a) ∧
  (∀ k0_t10 : Fin k0_t10_loop.trips, ∀ (k0_h8 : k0_cond8 v188 = 1#1), ∀ a, (k0_off119 v196 k0_t10) a + S1x1x16.size a ≤ S2x136x128.size a) ∧
  (∀ k0_t10 : Fin k0_t10_loop.trips, ∀ (k0_h8 : k0_cond8 v188 = 1#1), ∀ a, (k0_off120 v196 k0_t10) a + S1x1x16.size a ≤ S2x136x128.size a) ∧
  (∀ k0_t10 : Fin k0_t10_loop.trips, ∀ (k0_h8 : k0_cond8 v188 = 1#1), ∀ a, (k0_off121 v196 k0_t10) a + S1x1x16.size a ≤ S2x136x128.size a)
theorem k0_mult14_dvd : ∀ (v188 : BitVec 32) (v196 : BitVec 32) (k0_hw14 : k0_chk14 v188 v196), 8 ∣ (k0_mult14 v196).toNat := fun v188 v196 k0_hw14 => k0_hw14.1
theorem k0_off114_inb : ∀ (v188 : BitVec 32) (v196 : BitVec 32) (k0_hw14 : k0_chk14 v188 v196) (k0_t10 : Fin k0_t10_loop.trips), ∀ (k0_h8 : k0_cond8 v188 = 1#1), ∀ a, (k0_off114 v196 k0_t10) a + S1x1x16.size a ≤ S2x136x128.size a := fun v188 v196 k0_hw14 k0_t10 k0_h8 => k0_hw14.2.1 k0_t10 k0_h8
theorem k0_off115_inb : ∀ (v188 : BitVec 32) (v196 : BitVec 32) (k0_hw14 : k0_chk14 v188 v196) (k0_t10 : Fin k0_t10_loop.trips), ∀ (k0_h8 : k0_cond8 v188 = 1#1), ∀ a, (k0_off115 v196 k0_t10) a + S1x1x16.size a ≤ S2x136x128.size a := fun v188 v196 k0_hw14 k0_t10 k0_h8 => k0_hw14.2.2.1 k0_t10 k0_h8
theorem k0_off116_inb : ∀ (v188 : BitVec 32) (v196 : BitVec 32) (k0_hw14 : k0_chk14 v188 v196) (k0_t10 : Fin k0_t10_loop.trips), ∀ (k0_h8 : k0_cond8 v188 = 1#1), ∀ a, (k0_off116 v196 k0_t10) a + S1x1x16.size a ≤ S2x136x128.size a := fun v188 v196 k0_hw14 k0_t10 k0_h8 => k0_hw14.2.2.2.1 k0_t10 k0_h8
theorem k0_off117_inb : ∀ (v188 : BitVec 32) (v196 : BitVec 32) (k0_hw14 : k0_chk14 v188 v196) (k0_t10 : Fin k0_t10_loop.trips), ∀ (k0_h8 : k0_cond8 v188 = 1#1), ∀ a, (k0_off117 v196 k0_t10) a + S1x1x16.size a ≤ S2x136x128.size a := fun v188 v196 k0_hw14 k0_t10 k0_h8 => k0_hw14.2.2.2.2.1 k0_t10 k0_h8
theorem k0_off118_inb : ∀ (v188 : BitVec 32) (v196 : BitVec 32) (k0_hw14 : k0_chk14 v188 v196) (k0_t10 : Fin k0_t10_loop.trips), ∀ (k0_h8 : k0_cond8 v188 = 1#1), ∀ a, (k0_off118 v196 k0_t10) a + S1x1x16.size a ≤ S2x136x128.size a := fun v188 v196 k0_hw14 k0_t10 k0_h8 => k0_hw14.2.2.2.2.2.1 k0_t10 k0_h8
theorem k0_off119_inb : ∀ (v188 : BitVec 32) (v196 : BitVec 32) (k0_hw14 : k0_chk14 v188 v196) (k0_t10 : Fin k0_t10_loop.trips), ∀ (k0_h8 : k0_cond8 v188 = 1#1), ∀ a, (k0_off119 v196 k0_t10) a + S1x1x16.size a ≤ S2x136x128.size a := fun v188 v196 k0_hw14 k0_t10 k0_h8 => k0_hw14.2.2.2.2.2.2.1 k0_t10 k0_h8
theorem k0_off120_inb : ∀ (v188 : BitVec 32) (v196 : BitVec 32) (k0_hw14 : k0_chk14 v188 v196) (k0_t10 : Fin k0_t10_loop.trips), ∀ (k0_h8 : k0_cond8 v188 = 1#1), ∀ a, (k0_off120 v196 k0_t10) a + S1x1x16.size a ≤ S2x136x128.size a := fun v188 v196 k0_hw14 k0_t10 k0_h8 => k0_hw14.2.2.2.2.2.2.2.1 k0_t10 k0_h8
theorem k0_off121_inb : ∀ (v188 : BitVec 32) (v196 : BitVec 32) (k0_hw14 : k0_chk14 v188 v196) (k0_t10 : Fin k0_t10_loop.trips), ∀ (k0_h8 : k0_cond8 v188 = 1#1), ∀ a, (k0_off121 v196 k0_t10) a + S1x1x16.size a ≤ S2x136x128.size a := fun v188 v196 k0_hw14 k0_t10 k0_h8 => k0_hw14.2.2.2.2.2.2.2.2 k0_t10 k0_h8

@[reducible] def k0_t11_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off122 (k0_t11 : Fin k0_t11_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t11
  let v943 : Index := Scalar.indexCast arg30
  let c0 : Index := 0#32
  ![0, v943.toNat, 0]
def k0_off123 (k0_t11 : Fin k0_t11_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t11
  let v946 : Index := Scalar.indexCast arg30
  let c16 : Index := 16#32
  ![0, v946.toNat, 16]
def k0_off124 (k0_t11 : Fin k0_t11_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t11
  let v949 : Index := Scalar.indexCast arg30
  let c32 : Index := 32#32
  ![0, v949.toNat, 32]
def k0_off125 (k0_t11 : Fin k0_t11_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t11
  let v952 : Index := Scalar.indexCast arg30
  let c48 : Index := 48#32
  ![0, v952.toNat, 48]
def k0_off126 (k0_t11 : Fin k0_t11_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t11
  let v955 : Index := Scalar.indexCast arg30
  let c64 : Index := 64#32
  ![0, v955.toNat, 64]
def k0_off127 (k0_t11 : Fin k0_t11_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t11
  let v958 : Index := Scalar.indexCast arg30
  let c80 : Index := 80#32
  ![0, v958.toNat, 80]
def k0_off128 (k0_t11 : Fin k0_t11_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t11
  let v961 : Index := Scalar.indexCast arg30
  let c96 : Index := 96#32
  ![0, v961.toNat, 96]
def k0_off129 (k0_t11 : Fin k0_t11_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t11
  let v964 : Index := Scalar.indexCast arg30
  let c112 : Index := 112#32
  ![0, v964.toNat, 112]
def k0_off130 (k0_t11 : Fin k0_t11_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t11
  let v991 : Index := Scalar.indexCast arg30
  let c0_708 : Index := 0#32
  ![0, v991.toNat, 0]
def k0_off131 (k0_t11 : Fin k0_t11_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t11
  let v994 : Index := Scalar.indexCast arg30
  let c16_710 : Index := 16#32
  ![0, v994.toNat, 16]
def k0_off132 (k0_t11 : Fin k0_t11_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t11
  let v997 : Index := Scalar.indexCast arg30
  let c32_712 : Index := 32#32
  ![0, v997.toNat, 32]
def k0_off133 (k0_t11 : Fin k0_t11_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t11
  let v1000 : Index := Scalar.indexCast arg30
  let c48_714 : Index := 48#32
  ![0, v1000.toNat, 48]
def k0_off134 (k0_t11 : Fin k0_t11_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t11
  let v1003 : Index := Scalar.indexCast arg30
  let c64_716 : Index := 64#32
  ![0, v1003.toNat, 64]
def k0_off135 (k0_t11 : Fin k0_t11_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t11
  let v1006 : Index := Scalar.indexCast arg30
  let c80_718 : Index := 80#32
  ![0, v1006.toNat, 80]
def k0_off136 (k0_t11 : Fin k0_t11_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t11
  let v1009 : Index := Scalar.indexCast arg30
  let c96_720 : Index := 96#32
  ![0, v1009.toNat, 96]
def k0_off137 (k0_t11 : Fin k0_t11_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t11
  let v1012 : Index := Scalar.indexCast arg30
  let c112_722 : Index := 112#32
  ![0, v1012.toNat, 112]
def k0_off138 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c256_i32_132 : BitVec 32 := 256#32
  let v207 : BitVec 32 := Scalar.addi v22 c256_i32_132
  let c0_i32_136 : BitVec 32 := 0#32
  ![v207.toNat, 0]
def k0_mult15 (v228 : BitVec 32) : BitVec 32 :=
  let c8_i32_154 : BitVec 32 := 8#32
  let v229 : BitVec 32 := Scalar.remsi v228 c8_i32_154
  let v230 : BitVec 32 := Scalar.subi v228 v229
  let c4088_i32_155 : BitVec 32 := 4088#32
  let v231 : BitVec 32 := Scalar.minsi v230 c4088_i32_155
  v231

def k0_mult16 (v234 : BitVec 32) : BitVec 32 :=
  let c8_i32_157 : BitVec 32 := 8#32
  let v235 : BitVec 32 := Scalar.remsi v234 c8_i32_157
  let v236 : BitVec 32 := Scalar.subi v234 v235
  let c3960_i32_158 : BitVec 32 := 3960#32
  let v237 : BitVec 32 := Scalar.minsi v236 c3960_i32_158
  v237

def k0_off139 (v228 : BitVec 32) : Fin 2 → Nat :=
  let c8_i32_154 : BitVec 32 := 8#32
  let v229 : BitVec 32 := Scalar.remsi v228 c8_i32_154
  let v230 : BitVec 32 := Scalar.subi v228 v229
  let c4088_i32_155 : BitVec 32 := 4088#32
  let v231 : BitVec 32 := Scalar.minsi v230 c4088_i32_155
  let v232 : BitVec 32 := v231
  let c0_i32_660 : BitVec 32 := 0#32
  ![v232.toNat, 0]
def k0_cond9 (v226 : BitVec 32) : BitVec 1 :=
  let c0_i32_159 : BitVec 32 := 0#32
  let v239 : BitVec 1 := Scalar.cmpi .eq v226 c0_i32_159
  let v240 : BitVec 32 := Scalar.extui v239
  let c0_i32_161 : BitVec 32 := 0#32
  let v241 : BitVec 1 := Scalar.cmpi .ne v240 c0_i32_161
  v241

def k0_chk15 (v226 : BitVec 32) (v228 : BitVec 32) : Prop :=
  (8 ∣ (k0_mult15 v228).toNat) ∧
  (∀ (k0_h9 : k0_cond9 v226 = 1#1), ∀ a, (k0_off139 v228) a + S8x128.size a ≤ S4096x128.size a)
theorem k0_mult15_dvd : ∀ (v226 : BitVec 32) (v228 : BitVec 32) (k0_hw15 : k0_chk15 v226 v228), 8 ∣ (k0_mult15 v228).toNat := fun v226 v228 k0_hw15 => k0_hw15.1
theorem k0_off139_inb : ∀ (v226 : BitVec 32) (v228 : BitVec 32) (k0_hw15 : k0_chk15 v226 v228), ∀ (k0_h9 : k0_cond9 v226 = 1#1), ∀ a, (k0_off139 v228) a + S8x128.size a ≤ S4096x128.size a := fun v226 v228 k0_hw15 k0_h9 => k0_hw15.2 k0_h9

def k0_off140 (v234 : BitVec 32) : Fin 2 → Nat :=
  let c8_i32_157 : BitVec 32 := 8#32
  let v235 : BitVec 32 := Scalar.remsi v234 c8_i32_157
  let v236 : BitVec 32 := Scalar.subi v234 v235
  let c3960_i32_158 : BitVec 32 := 3960#32
  let v237 : BitVec 32 := Scalar.minsi v236 c3960_i32_158
  let v238 : BitVec 32 := v237
  let c0_i32_669 : BitVec 32 := 0#32
  ![v238.toNat, 0]

def k0_chk16 (v226 : BitVec 32) (v234 : BitVec 32) : Prop :=
  (8 ∣ (k0_mult16 v234).toNat) ∧
  (∀ (k0_h9 : k0_cond9 v226 = 1#1), ∀ a, (k0_off140 v234) a + S136x128.size a ≤ S4096x128.size a)
theorem k0_mult16_dvd : ∀ (v226 : BitVec 32) (v234 : BitVec 32) (k0_hw16 : k0_chk16 v226 v234), 8 ∣ (k0_mult16 v234).toNat := fun v226 v234 k0_hw16 => k0_hw16.1
theorem k0_off140_inb : ∀ (v226 : BitVec 32) (v234 : BitVec 32) (k0_hw16 : k0_chk16 v226 v234), ∀ (k0_h9 : k0_cond9 v226 = 1#1), ∀ a, (k0_off140 v234) a + S136x128.size a ≤ S4096x128.size a := fun v226 v234 k0_hw16 k0_h9 => k0_hw16.2 k0_h9

def k0_mult17 (v246 : BitVec 32) : BitVec 32 :=
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  v249

def k0_mult18 (v252 : BitVec 32) : BitVec 32 :=
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  v255

def k0_off141 (v246 : BitVec 32) : Fin 3 → Nat :=
  let c1_i32_683 : BitVec 32 := 1#32
  let v945 : Index := Scalar.indexCast c1_i32_683
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v946 : Index := Scalar.indexCast v257
  let c0 : Index := 0#32
  ![1, v946.toNat, 0]
def k0_cond10 (v244 : BitVec 32) : BitVec 1 :=
  let c0_i32_169 : BitVec 32 := 0#32
  let v259 : BitVec 1 := Scalar.cmpi .eq v244 c0_i32_169
  let v260 : BitVec 32 := Scalar.extui v259
  let c0_i32_171 : BitVec 32 := 0#32
  let v261 : BitVec 1 := Scalar.cmpi .ne v260 c0_i32_171
  v261

def k0_off142 (v246 : BitVec 32) : Fin 3 → Nat :=
  let c1_i32_684 : BitVec 32 := 1#32
  let v948 : Index := Scalar.indexCast c1_i32_684
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v949 : Index := Scalar.indexCast v257
  let c16 : Index := 16#32
  ![1, v949.toNat, 16]
def k0_off143 (v246 : BitVec 32) : Fin 3 → Nat :=
  let c1_i32_685 : BitVec 32 := 1#32
  let v951 : Index := Scalar.indexCast c1_i32_685
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v952 : Index := Scalar.indexCast v257
  let c32 : Index := 32#32
  ![1, v952.toNat, 32]
def k0_off144 (v246 : BitVec 32) : Fin 3 → Nat :=
  let c1_i32_686 : BitVec 32 := 1#32
  let v954 : Index := Scalar.indexCast c1_i32_686
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v955 : Index := Scalar.indexCast v257
  let c48 : Index := 48#32
  ![1, v955.toNat, 48]
def k0_off145 (v246 : BitVec 32) : Fin 3 → Nat :=
  let c1_i32_687 : BitVec 32 := 1#32
  let v957 : Index := Scalar.indexCast c1_i32_687
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v958 : Index := Scalar.indexCast v257
  let c64 : Index := 64#32
  ![1, v958.toNat, 64]
def k0_off146 (v246 : BitVec 32) : Fin 3 → Nat :=
  let c1_i32_688 : BitVec 32 := 1#32
  let v960 : Index := Scalar.indexCast c1_i32_688
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v961 : Index := Scalar.indexCast v257
  let c80 : Index := 80#32
  ![1, v961.toNat, 80]
def k0_off147 (v246 : BitVec 32) : Fin 3 → Nat :=
  let c1_i32_689 : BitVec 32 := 1#32
  let v963 : Index := Scalar.indexCast c1_i32_689
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v964 : Index := Scalar.indexCast v257
  let c96 : Index := 96#32
  ![1, v964.toNat, 96]
def k0_off148 (v246 : BitVec 32) : Fin 3 → Nat :=
  let c1_i32_690 : BitVec 32 := 1#32
  let v966 : Index := Scalar.indexCast c1_i32_690
  let c8_i32_164 : BitVec 32 := 8#32
  let v247 : BitVec 32 := Scalar.remsi v246 c8_i32_164
  let v248 : BitVec 32 := Scalar.subi v246 v247
  let c4088_i32_165 : BitVec 32 := 4088#32
  let v249 : BitVec 32 := Scalar.minsi v248 c4088_i32_165
  let v250 : BitVec 32 := v249
  let v257 : BitVec 32 := Scalar.subi v246 v250
  let v967 : Index := Scalar.indexCast v257
  let c112 : Index := 112#32
  ![1, v967.toNat, 112]

def k0_chk17 (v244 : BitVec 32) (v246 : BitVec 32) : Prop :=
  (8 ∣ (k0_mult17 v246).toNat) ∧
  (∀ (k0_h10 : k0_cond10 v244 = 1#1), ∀ a, (k0_off141 v246) a + S1x1x16.size a ≤ S2x128x128.size a) ∧
  (∀ (k0_h10 : k0_cond10 v244 = 1#1), ∀ a, (k0_off142 v246) a + S1x1x16.size a ≤ S2x128x128.size a) ∧
  (∀ (k0_h10 : k0_cond10 v244 = 1#1), ∀ a, (k0_off143 v246) a + S1x1x16.size a ≤ S2x128x128.size a) ∧
  (∀ (k0_h10 : k0_cond10 v244 = 1#1), ∀ a, (k0_off144 v246) a + S1x1x16.size a ≤ S2x128x128.size a) ∧
  (∀ (k0_h10 : k0_cond10 v244 = 1#1), ∀ a, (k0_off145 v246) a + S1x1x16.size a ≤ S2x128x128.size a) ∧
  (∀ (k0_h10 : k0_cond10 v244 = 1#1), ∀ a, (k0_off146 v246) a + S1x1x16.size a ≤ S2x128x128.size a) ∧
  (∀ (k0_h10 : k0_cond10 v244 = 1#1), ∀ a, (k0_off147 v246) a + S1x1x16.size a ≤ S2x128x128.size a) ∧
  (∀ (k0_h10 : k0_cond10 v244 = 1#1), ∀ a, (k0_off148 v246) a + S1x1x16.size a ≤ S2x128x128.size a)
theorem k0_mult17_dvd : ∀ (v244 : BitVec 32) (v246 : BitVec 32) (k0_hw17 : k0_chk17 v244 v246), 8 ∣ (k0_mult17 v246).toNat := fun v244 v246 k0_hw17 => k0_hw17.1
theorem k0_off141_inb : ∀ (v244 : BitVec 32) (v246 : BitVec 32) (k0_hw17 : k0_chk17 v244 v246), ∀ (k0_h10 : k0_cond10 v244 = 1#1), ∀ a, (k0_off141 v246) a + S1x1x16.size a ≤ S2x128x128.size a := fun v244 v246 k0_hw17 k0_h10 => k0_hw17.2.1 k0_h10
theorem k0_off142_inb : ∀ (v244 : BitVec 32) (v246 : BitVec 32) (k0_hw17 : k0_chk17 v244 v246), ∀ (k0_h10 : k0_cond10 v244 = 1#1), ∀ a, (k0_off142 v246) a + S1x1x16.size a ≤ S2x128x128.size a := fun v244 v246 k0_hw17 k0_h10 => k0_hw17.2.2.1 k0_h10
theorem k0_off143_inb : ∀ (v244 : BitVec 32) (v246 : BitVec 32) (k0_hw17 : k0_chk17 v244 v246), ∀ (k0_h10 : k0_cond10 v244 = 1#1), ∀ a, (k0_off143 v246) a + S1x1x16.size a ≤ S2x128x128.size a := fun v244 v246 k0_hw17 k0_h10 => k0_hw17.2.2.2.1 k0_h10
theorem k0_off144_inb : ∀ (v244 : BitVec 32) (v246 : BitVec 32) (k0_hw17 : k0_chk17 v244 v246), ∀ (k0_h10 : k0_cond10 v244 = 1#1), ∀ a, (k0_off144 v246) a + S1x1x16.size a ≤ S2x128x128.size a := fun v244 v246 k0_hw17 k0_h10 => k0_hw17.2.2.2.2.1 k0_h10
theorem k0_off145_inb : ∀ (v244 : BitVec 32) (v246 : BitVec 32) (k0_hw17 : k0_chk17 v244 v246), ∀ (k0_h10 : k0_cond10 v244 = 1#1), ∀ a, (k0_off145 v246) a + S1x1x16.size a ≤ S2x128x128.size a := fun v244 v246 k0_hw17 k0_h10 => k0_hw17.2.2.2.2.2.1 k0_h10
theorem k0_off146_inb : ∀ (v244 : BitVec 32) (v246 : BitVec 32) (k0_hw17 : k0_chk17 v244 v246), ∀ (k0_h10 : k0_cond10 v244 = 1#1), ∀ a, (k0_off146 v246) a + S1x1x16.size a ≤ S2x128x128.size a := fun v244 v246 k0_hw17 k0_h10 => k0_hw17.2.2.2.2.2.2.1 k0_h10
theorem k0_off147_inb : ∀ (v244 : BitVec 32) (v246 : BitVec 32) (k0_hw17 : k0_chk17 v244 v246), ∀ (k0_h10 : k0_cond10 v244 = 1#1), ∀ a, (k0_off147 v246) a + S1x1x16.size a ≤ S2x128x128.size a := fun v244 v246 k0_hw17 k0_h10 => k0_hw17.2.2.2.2.2.2.2.1 k0_h10
theorem k0_off148_inb : ∀ (v244 : BitVec 32) (v246 : BitVec 32) (k0_hw17 : k0_chk17 v244 v246), ∀ (k0_h10 : k0_cond10 v244 = 1#1), ∀ a, (k0_off148 v246) a + S1x1x16.size a ≤ S2x128x128.size a := fun v244 v246 k0_hw17 k0_h10 => k0_hw17.2.2.2.2.2.2.2.2 k0_h10

@[reducible] def k0_t12_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off149 (k0_t12 : Fin k0_t12_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t12
  let v971 : Index := Scalar.indexCast arg30
  let c0_698 : Index := 0#32
  ![1, v971.toNat, 0]
def k0_off150 (k0_t12 : Fin k0_t12_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t12
  let v974 : Index := Scalar.indexCast arg30
  let c16_700 : Index := 16#32
  ![1, v974.toNat, 16]
def k0_off151 (k0_t12 : Fin k0_t12_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t12
  let v977 : Index := Scalar.indexCast arg30
  let c32_702 : Index := 32#32
  ![1, v977.toNat, 32]
def k0_off152 (k0_t12 : Fin k0_t12_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t12
  let v980 : Index := Scalar.indexCast arg30
  let c48_704 : Index := 48#32
  ![1, v980.toNat, 48]
def k0_off153 (k0_t12 : Fin k0_t12_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t12
  let v983 : Index := Scalar.indexCast arg30
  let c64_706 : Index := 64#32
  ![1, v983.toNat, 64]
def k0_off154 (k0_t12 : Fin k0_t12_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t12
  let v986 : Index := Scalar.indexCast arg30
  let c80_708 : Index := 80#32
  ![1, v986.toNat, 80]
def k0_off155 (k0_t12 : Fin k0_t12_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t12
  let v989 : Index := Scalar.indexCast arg30
  let c96_710 : Index := 96#32
  ![1, v989.toNat, 96]
def k0_off156 (k0_t12 : Fin k0_t12_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t12
  let v992 : Index := Scalar.indexCast arg30
  let c112_712 : Index := 112#32
  ![1, v992.toNat, 112]
def k0_off157 (v252 : BitVec 32) (k0_t12 : Fin k0_t12_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v994 : BitVec 32 := Scalar.addi arg30 v258
  let v996 : Index := Scalar.indexCast v994
  let c0_714 : Index := 0#32
  ![1, v996.toNat, 0]
def k0_off158 (v252 : BitVec 32) (k0_t12 : Fin k0_t12_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v998 : BitVec 32 := Scalar.addi arg30 v258
  let v1000 : Index := Scalar.indexCast v998
  let c16_716 : Index := 16#32
  ![1, v1000.toNat, 16]
def k0_off159 (v252 : BitVec 32) (k0_t12 : Fin k0_t12_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1002 : BitVec 32 := Scalar.addi arg30 v258
  let v1004 : Index := Scalar.indexCast v1002
  let c32_718 : Index := 32#32
  ![1, v1004.toNat, 32]
def k0_off160 (v252 : BitVec 32) (k0_t12 : Fin k0_t12_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1006 : BitVec 32 := Scalar.addi arg30 v258
  let v1008 : Index := Scalar.indexCast v1006
  let c48_720 : Index := 48#32
  ![1, v1008.toNat, 48]
def k0_off161 (v252 : BitVec 32) (k0_t12 : Fin k0_t12_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1010 : BitVec 32 := Scalar.addi arg30 v258
  let v1012 : Index := Scalar.indexCast v1010
  let c64_722 : Index := 64#32
  ![1, v1012.toNat, 64]
def k0_off162 (v252 : BitVec 32) (k0_t12 : Fin k0_t12_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1014 : BitVec 32 := Scalar.addi arg30 v258
  let v1016 : Index := Scalar.indexCast v1014
  let c80_724 : Index := 80#32
  ![1, v1016.toNat, 80]
def k0_off163 (v252 : BitVec 32) (k0_t12 : Fin k0_t12_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1018 : BitVec 32 := Scalar.addi arg30 v258
  let v1020 : Index := Scalar.indexCast v1018
  let c96_726 : Index := 96#32
  ![1, v1020.toNat, 96]
def k0_off164 (v252 : BitVec 32) (k0_t12 : Fin k0_t12_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t12
  let c8_i32_167 : BitVec 32 := 8#32
  let v253 : BitVec 32 := Scalar.remsi v252 c8_i32_167
  let v254 : BitVec 32 := Scalar.subi v252 v253
  let c3960_i32_168 : BitVec 32 := 3960#32
  let v255 : BitVec 32 := Scalar.minsi v254 c3960_i32_168
  let v256 : BitVec 32 := v255
  let v258 : BitVec 32 := Scalar.subi v252 v256
  let v1022 : BitVec 32 := Scalar.addi arg30 v258
  let v1024 : Index := Scalar.indexCast v1022
  let c112_728 : Index := 112#32
  ![1, v1024.toNat, 112]

def k0_chk18 (v244 : BitVec 32) (v252 : BitVec 32) : Prop :=
  (8 ∣ (k0_mult18 v252).toNat) ∧
  (∀ k0_t12 : Fin k0_t12_loop.trips, ∀ (k0_h10 : k0_cond10 v244 = 1#1), ∀ a, (k0_off157 v252 k0_t12) a + S1x1x16.size a ≤ S2x136x128.size a) ∧
  (∀ k0_t12 : Fin k0_t12_loop.trips, ∀ (k0_h10 : k0_cond10 v244 = 1#1), ∀ a, (k0_off158 v252 k0_t12) a + S1x1x16.size a ≤ S2x136x128.size a) ∧
  (∀ k0_t12 : Fin k0_t12_loop.trips, ∀ (k0_h10 : k0_cond10 v244 = 1#1), ∀ a, (k0_off159 v252 k0_t12) a + S1x1x16.size a ≤ S2x136x128.size a) ∧
  (∀ k0_t12 : Fin k0_t12_loop.trips, ∀ (k0_h10 : k0_cond10 v244 = 1#1), ∀ a, (k0_off160 v252 k0_t12) a + S1x1x16.size a ≤ S2x136x128.size a) ∧
  (∀ k0_t12 : Fin k0_t12_loop.trips, ∀ (k0_h10 : k0_cond10 v244 = 1#1), ∀ a, (k0_off161 v252 k0_t12) a + S1x1x16.size a ≤ S2x136x128.size a) ∧
  (∀ k0_t12 : Fin k0_t12_loop.trips, ∀ (k0_h10 : k0_cond10 v244 = 1#1), ∀ a, (k0_off162 v252 k0_t12) a + S1x1x16.size a ≤ S2x136x128.size a) ∧
  (∀ k0_t12 : Fin k0_t12_loop.trips, ∀ (k0_h10 : k0_cond10 v244 = 1#1), ∀ a, (k0_off163 v252 k0_t12) a + S1x1x16.size a ≤ S2x136x128.size a) ∧
  (∀ k0_t12 : Fin k0_t12_loop.trips, ∀ (k0_h10 : k0_cond10 v244 = 1#1), ∀ a, (k0_off164 v252 k0_t12) a + S1x1x16.size a ≤ S2x136x128.size a)
theorem k0_mult18_dvd : ∀ (v244 : BitVec 32) (v252 : BitVec 32) (k0_hw18 : k0_chk18 v244 v252), 8 ∣ (k0_mult18 v252).toNat := fun v244 v252 k0_hw18 => k0_hw18.1
theorem k0_off157_inb : ∀ (v244 : BitVec 32) (v252 : BitVec 32) (k0_hw18 : k0_chk18 v244 v252) (k0_t12 : Fin k0_t12_loop.trips), ∀ (k0_h10 : k0_cond10 v244 = 1#1), ∀ a, (k0_off157 v252 k0_t12) a + S1x1x16.size a ≤ S2x136x128.size a := fun v244 v252 k0_hw18 k0_t12 k0_h10 => k0_hw18.2.1 k0_t12 k0_h10
theorem k0_off158_inb : ∀ (v244 : BitVec 32) (v252 : BitVec 32) (k0_hw18 : k0_chk18 v244 v252) (k0_t12 : Fin k0_t12_loop.trips), ∀ (k0_h10 : k0_cond10 v244 = 1#1), ∀ a, (k0_off158 v252 k0_t12) a + S1x1x16.size a ≤ S2x136x128.size a := fun v244 v252 k0_hw18 k0_t12 k0_h10 => k0_hw18.2.2.1 k0_t12 k0_h10
theorem k0_off159_inb : ∀ (v244 : BitVec 32) (v252 : BitVec 32) (k0_hw18 : k0_chk18 v244 v252) (k0_t12 : Fin k0_t12_loop.trips), ∀ (k0_h10 : k0_cond10 v244 = 1#1), ∀ a, (k0_off159 v252 k0_t12) a + S1x1x16.size a ≤ S2x136x128.size a := fun v244 v252 k0_hw18 k0_t12 k0_h10 => k0_hw18.2.2.2.1 k0_t12 k0_h10
theorem k0_off160_inb : ∀ (v244 : BitVec 32) (v252 : BitVec 32) (k0_hw18 : k0_chk18 v244 v252) (k0_t12 : Fin k0_t12_loop.trips), ∀ (k0_h10 : k0_cond10 v244 = 1#1), ∀ a, (k0_off160 v252 k0_t12) a + S1x1x16.size a ≤ S2x136x128.size a := fun v244 v252 k0_hw18 k0_t12 k0_h10 => k0_hw18.2.2.2.2.1 k0_t12 k0_h10
theorem k0_off161_inb : ∀ (v244 : BitVec 32) (v252 : BitVec 32) (k0_hw18 : k0_chk18 v244 v252) (k0_t12 : Fin k0_t12_loop.trips), ∀ (k0_h10 : k0_cond10 v244 = 1#1), ∀ a, (k0_off161 v252 k0_t12) a + S1x1x16.size a ≤ S2x136x128.size a := fun v244 v252 k0_hw18 k0_t12 k0_h10 => k0_hw18.2.2.2.2.2.1 k0_t12 k0_h10
theorem k0_off162_inb : ∀ (v244 : BitVec 32) (v252 : BitVec 32) (k0_hw18 : k0_chk18 v244 v252) (k0_t12 : Fin k0_t12_loop.trips), ∀ (k0_h10 : k0_cond10 v244 = 1#1), ∀ a, (k0_off162 v252 k0_t12) a + S1x1x16.size a ≤ S2x136x128.size a := fun v244 v252 k0_hw18 k0_t12 k0_h10 => k0_hw18.2.2.2.2.2.2.1 k0_t12 k0_h10
theorem k0_off163_inb : ∀ (v244 : BitVec 32) (v252 : BitVec 32) (k0_hw18 : k0_chk18 v244 v252) (k0_t12 : Fin k0_t12_loop.trips), ∀ (k0_h10 : k0_cond10 v244 = 1#1), ∀ a, (k0_off163 v252 k0_t12) a + S1x1x16.size a ≤ S2x136x128.size a := fun v244 v252 k0_hw18 k0_t12 k0_h10 => k0_hw18.2.2.2.2.2.2.2.1 k0_t12 k0_h10
theorem k0_off164_inb : ∀ (v244 : BitVec 32) (v252 : BitVec 32) (k0_hw18 : k0_chk18 v244 v252) (k0_t12 : Fin k0_t12_loop.trips), ∀ (k0_h10 : k0_cond10 v244 = 1#1), ∀ a, (k0_off164 v252 k0_t12) a + S1x1x16.size a ≤ S2x136x128.size a := fun v244 v252 k0_hw18 k0_t12 k0_h10 => k0_hw18.2.2.2.2.2.2.2.2 k0_t12 k0_h10

@[reducible] def k0_t13_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off165 (k0_t13 : Fin k0_t13_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t13
  let v943 : Index := Scalar.indexCast arg30
  let c0 : Index := 0#32
  ![1, v943.toNat, 0]
def k0_off166 (k0_t13 : Fin k0_t13_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t13
  let v946 : Index := Scalar.indexCast arg30
  let c16 : Index := 16#32
  ![1, v946.toNat, 16]
def k0_off167 (k0_t13 : Fin k0_t13_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t13
  let v949 : Index := Scalar.indexCast arg30
  let c32 : Index := 32#32
  ![1, v949.toNat, 32]
def k0_off168 (k0_t13 : Fin k0_t13_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t13
  let v952 : Index := Scalar.indexCast arg30
  let c48 : Index := 48#32
  ![1, v952.toNat, 48]
def k0_off169 (k0_t13 : Fin k0_t13_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t13
  let v955 : Index := Scalar.indexCast arg30
  let c64 : Index := 64#32
  ![1, v955.toNat, 64]
def k0_off170 (k0_t13 : Fin k0_t13_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t13
  let v958 : Index := Scalar.indexCast arg30
  let c80 : Index := 80#32
  ![1, v958.toNat, 80]
def k0_off171 (k0_t13 : Fin k0_t13_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t13
  let v961 : Index := Scalar.indexCast arg30
  let c96 : Index := 96#32
  ![1, v961.toNat, 96]
def k0_off172 (k0_t13 : Fin k0_t13_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t13
  let v964 : Index := Scalar.indexCast arg30
  let c112 : Index := 112#32
  ![1, v964.toNat, 112]
def k0_off173 (k0_t13 : Fin k0_t13_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t13
  let v991 : Index := Scalar.indexCast arg30
  let c0_708 : Index := 0#32
  ![1, v991.toNat, 0]
def k0_off174 (k0_t13 : Fin k0_t13_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t13
  let v994 : Index := Scalar.indexCast arg30
  let c16_710 : Index := 16#32
  ![1, v994.toNat, 16]
def k0_off175 (k0_t13 : Fin k0_t13_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t13
  let v997 : Index := Scalar.indexCast arg30
  let c32_712 : Index := 32#32
  ![1, v997.toNat, 32]
def k0_off176 (k0_t13 : Fin k0_t13_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t13
  let v1000 : Index := Scalar.indexCast arg30
  let c48_714 : Index := 48#32
  ![1, v1000.toNat, 48]
def k0_off177 (k0_t13 : Fin k0_t13_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t13
  let v1003 : Index := Scalar.indexCast arg30
  let c64_716 : Index := 64#32
  ![1, v1003.toNat, 64]
def k0_off178 (k0_t13 : Fin k0_t13_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t13
  let v1006 : Index := Scalar.indexCast arg30
  let c80_718 : Index := 80#32
  ![1, v1006.toNat, 80]
def k0_off179 (k0_t13 : Fin k0_t13_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t13
  let v1009 : Index := Scalar.indexCast arg30
  let c96_720 : Index := 96#32
  ![1, v1009.toNat, 96]
def k0_off180 (k0_t13 : Fin k0_t13_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t13
  let v1012 : Index := Scalar.indexCast arg30
  let c112_722 : Index := 112#32
  ![1, v1012.toNat, 112]
def k0_off181 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c384_i32_172 : BitVec 32 := 384#32
  let v263 : BitVec 32 := Scalar.addi v22 c384_i32_172
  let c0_i32_176 : BitVec 32 := 0#32
  ![v263.toNat, 0]
def k0_mult19 (v284 : BitVec 32) : BitVec 32 :=
  let c8_i32_194 : BitVec 32 := 8#32
  let v285 : BitVec 32 := Scalar.remsi v284 c8_i32_194
  let v286 : BitVec 32 := Scalar.subi v284 v285
  let c4088_i32_195 : BitVec 32 := 4088#32
  let v287 : BitVec 32 := Scalar.minsi v286 c4088_i32_195
  v287

def k0_mult20 (v290 : BitVec 32) : BitVec 32 :=
  let c8_i32_197 : BitVec 32 := 8#32
  let v291 : BitVec 32 := Scalar.remsi v290 c8_i32_197
  let v292 : BitVec 32 := Scalar.subi v290 v291
  let c3960_i32_198 : BitVec 32 := 3960#32
  let v293 : BitVec 32 := Scalar.minsi v292 c3960_i32_198
  v293

def k0_off182 (v284 : BitVec 32) : Fin 2 → Nat :=
  let c8_i32_194 : BitVec 32 := 8#32
  let v285 : BitVec 32 := Scalar.remsi v284 c8_i32_194
  let v286 : BitVec 32 := Scalar.subi v284 v285
  let c4088_i32_195 : BitVec 32 := 4088#32
  let v287 : BitVec 32 := Scalar.minsi v286 c4088_i32_195
  let v288 : BitVec 32 := v287
  let c0_i32_660 : BitVec 32 := 0#32
  ![v288.toNat, 0]
def k0_cond11 (v282 : BitVec 32) : BitVec 1 :=
  let c0_i32_199 : BitVec 32 := 0#32
  let v295 : BitVec 1 := Scalar.cmpi .eq v282 c0_i32_199
  let v296 : BitVec 32 := Scalar.extui v295
  let c0_i32_201 : BitVec 32 := 0#32
  let v297 : BitVec 1 := Scalar.cmpi .ne v296 c0_i32_201
  v297

def k0_chk19 (v282 : BitVec 32) (v284 : BitVec 32) : Prop :=
  (8 ∣ (k0_mult19 v284).toNat) ∧
  (∀ (k0_h11 : k0_cond11 v282 = 1#1), ∀ a, (k0_off182 v284) a + S8x128.size a ≤ S4096x128.size a)
theorem k0_mult19_dvd : ∀ (v282 : BitVec 32) (v284 : BitVec 32) (k0_hw19 : k0_chk19 v282 v284), 8 ∣ (k0_mult19 v284).toNat := fun v282 v284 k0_hw19 => k0_hw19.1
theorem k0_off182_inb : ∀ (v282 : BitVec 32) (v284 : BitVec 32) (k0_hw19 : k0_chk19 v282 v284), ∀ (k0_h11 : k0_cond11 v282 = 1#1), ∀ a, (k0_off182 v284) a + S8x128.size a ≤ S4096x128.size a := fun v282 v284 k0_hw19 k0_h11 => k0_hw19.2 k0_h11

def k0_off183 (v290 : BitVec 32) : Fin 2 → Nat :=
  let c8_i32_197 : BitVec 32 := 8#32
  let v291 : BitVec 32 := Scalar.remsi v290 c8_i32_197
  let v292 : BitVec 32 := Scalar.subi v290 v291
  let c3960_i32_198 : BitVec 32 := 3960#32
  let v293 : BitVec 32 := Scalar.minsi v292 c3960_i32_198
  let v294 : BitVec 32 := v293
  let c0_i32_669 : BitVec 32 := 0#32
  ![v294.toNat, 0]

def k0_chk20 (v282 : BitVec 32) (v290 : BitVec 32) : Prop :=
  (8 ∣ (k0_mult20 v290).toNat) ∧
  (∀ (k0_h11 : k0_cond11 v282 = 1#1), ∀ a, (k0_off183 v290) a + S136x128.size a ≤ S4096x128.size a)
theorem k0_mult20_dvd : ∀ (v282 : BitVec 32) (v290 : BitVec 32) (k0_hw20 : k0_chk20 v282 v290), 8 ∣ (k0_mult20 v290).toNat := fun v282 v290 k0_hw20 => k0_hw20.1
theorem k0_off183_inb : ∀ (v282 : BitVec 32) (v290 : BitVec 32) (k0_hw20 : k0_chk20 v282 v290), ∀ (k0_h11 : k0_cond11 v282 = 1#1), ∀ a, (k0_off183 v290) a + S136x128.size a ≤ S4096x128.size a := fun v282 v290 k0_hw20 k0_h11 => k0_hw20.2 k0_h11

def k0_mult21 (v302 : BitVec 32) : BitVec 32 :=
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  v305

def k0_mult22 (v308 : BitVec 32) : BitVec 32 :=
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  v311

def k0_off184 (v302 : BitVec 32) : Fin 3 → Nat :=
  let c0_i32_683 : BitVec 32 := 0#32
  let v945 : Index := Scalar.indexCast c0_i32_683
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v946 : Index := Scalar.indexCast v313
  let c0 : Index := 0#32
  ![0, v946.toNat, 0]
def k0_cond12 (v300 : BitVec 32) : BitVec 1 :=
  let c0_i32_209 : BitVec 32 := 0#32
  let v315 : BitVec 1 := Scalar.cmpi .eq v300 c0_i32_209
  let v316 : BitVec 32 := Scalar.extui v315
  let c0_i32_211 : BitVec 32 := 0#32
  let v317 : BitVec 1 := Scalar.cmpi .ne v316 c0_i32_211
  v317

def k0_off185 (v302 : BitVec 32) : Fin 3 → Nat :=
  let c0_i32_684 : BitVec 32 := 0#32
  let v948 : Index := Scalar.indexCast c0_i32_684
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v949 : Index := Scalar.indexCast v313
  let c16 : Index := 16#32
  ![0, v949.toNat, 16]
def k0_off186 (v302 : BitVec 32) : Fin 3 → Nat :=
  let c0_i32_685 : BitVec 32 := 0#32
  let v951 : Index := Scalar.indexCast c0_i32_685
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v952 : Index := Scalar.indexCast v313
  let c32 : Index := 32#32
  ![0, v952.toNat, 32]
def k0_off187 (v302 : BitVec 32) : Fin 3 → Nat :=
  let c0_i32_686 : BitVec 32 := 0#32
  let v954 : Index := Scalar.indexCast c0_i32_686
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v955 : Index := Scalar.indexCast v313
  let c48 : Index := 48#32
  ![0, v955.toNat, 48]
def k0_off188 (v302 : BitVec 32) : Fin 3 → Nat :=
  let c0_i32_687 : BitVec 32 := 0#32
  let v957 : Index := Scalar.indexCast c0_i32_687
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v958 : Index := Scalar.indexCast v313
  let c64 : Index := 64#32
  ![0, v958.toNat, 64]
def k0_off189 (v302 : BitVec 32) : Fin 3 → Nat :=
  let c0_i32_688 : BitVec 32 := 0#32
  let v960 : Index := Scalar.indexCast c0_i32_688
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v961 : Index := Scalar.indexCast v313
  let c80 : Index := 80#32
  ![0, v961.toNat, 80]
def k0_off190 (v302 : BitVec 32) : Fin 3 → Nat :=
  let c0_i32_689 : BitVec 32 := 0#32
  let v963 : Index := Scalar.indexCast c0_i32_689
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v964 : Index := Scalar.indexCast v313
  let c96 : Index := 96#32
  ![0, v964.toNat, 96]
def k0_off191 (v302 : BitVec 32) : Fin 3 → Nat :=
  let c0_i32_690 : BitVec 32 := 0#32
  let v966 : Index := Scalar.indexCast c0_i32_690
  let c8_i32_204 : BitVec 32 := 8#32
  let v303 : BitVec 32 := Scalar.remsi v302 c8_i32_204
  let v304 : BitVec 32 := Scalar.subi v302 v303
  let c4088_i32_205 : BitVec 32 := 4088#32
  let v305 : BitVec 32 := Scalar.minsi v304 c4088_i32_205
  let v306 : BitVec 32 := v305
  let v313 : BitVec 32 := Scalar.subi v302 v306
  let v967 : Index := Scalar.indexCast v313
  let c112 : Index := 112#32
  ![0, v967.toNat, 112]

def k0_chk21 (v300 : BitVec 32) (v302 : BitVec 32) : Prop :=
  (8 ∣ (k0_mult21 v302).toNat) ∧
  (∀ (k0_h12 : k0_cond12 v300 = 1#1), ∀ a, (k0_off184 v302) a + S1x1x16.size a ≤ S2x128x128.size a) ∧
  (∀ (k0_h12 : k0_cond12 v300 = 1#1), ∀ a, (k0_off185 v302) a + S1x1x16.size a ≤ S2x128x128.size a) ∧
  (∀ (k0_h12 : k0_cond12 v300 = 1#1), ∀ a, (k0_off186 v302) a + S1x1x16.size a ≤ S2x128x128.size a) ∧
  (∀ (k0_h12 : k0_cond12 v300 = 1#1), ∀ a, (k0_off187 v302) a + S1x1x16.size a ≤ S2x128x128.size a) ∧
  (∀ (k0_h12 : k0_cond12 v300 = 1#1), ∀ a, (k0_off188 v302) a + S1x1x16.size a ≤ S2x128x128.size a) ∧
  (∀ (k0_h12 : k0_cond12 v300 = 1#1), ∀ a, (k0_off189 v302) a + S1x1x16.size a ≤ S2x128x128.size a) ∧
  (∀ (k0_h12 : k0_cond12 v300 = 1#1), ∀ a, (k0_off190 v302) a + S1x1x16.size a ≤ S2x128x128.size a) ∧
  (∀ (k0_h12 : k0_cond12 v300 = 1#1), ∀ a, (k0_off191 v302) a + S1x1x16.size a ≤ S2x128x128.size a)
theorem k0_mult21_dvd : ∀ (v300 : BitVec 32) (v302 : BitVec 32) (k0_hw21 : k0_chk21 v300 v302), 8 ∣ (k0_mult21 v302).toNat := fun v300 v302 k0_hw21 => k0_hw21.1
theorem k0_off184_inb : ∀ (v300 : BitVec 32) (v302 : BitVec 32) (k0_hw21 : k0_chk21 v300 v302), ∀ (k0_h12 : k0_cond12 v300 = 1#1), ∀ a, (k0_off184 v302) a + S1x1x16.size a ≤ S2x128x128.size a := fun v300 v302 k0_hw21 k0_h12 => k0_hw21.2.1 k0_h12
theorem k0_off185_inb : ∀ (v300 : BitVec 32) (v302 : BitVec 32) (k0_hw21 : k0_chk21 v300 v302), ∀ (k0_h12 : k0_cond12 v300 = 1#1), ∀ a, (k0_off185 v302) a + S1x1x16.size a ≤ S2x128x128.size a := fun v300 v302 k0_hw21 k0_h12 => k0_hw21.2.2.1 k0_h12
theorem k0_off186_inb : ∀ (v300 : BitVec 32) (v302 : BitVec 32) (k0_hw21 : k0_chk21 v300 v302), ∀ (k0_h12 : k0_cond12 v300 = 1#1), ∀ a, (k0_off186 v302) a + S1x1x16.size a ≤ S2x128x128.size a := fun v300 v302 k0_hw21 k0_h12 => k0_hw21.2.2.2.1 k0_h12
theorem k0_off187_inb : ∀ (v300 : BitVec 32) (v302 : BitVec 32) (k0_hw21 : k0_chk21 v300 v302), ∀ (k0_h12 : k0_cond12 v300 = 1#1), ∀ a, (k0_off187 v302) a + S1x1x16.size a ≤ S2x128x128.size a := fun v300 v302 k0_hw21 k0_h12 => k0_hw21.2.2.2.2.1 k0_h12
theorem k0_off188_inb : ∀ (v300 : BitVec 32) (v302 : BitVec 32) (k0_hw21 : k0_chk21 v300 v302), ∀ (k0_h12 : k0_cond12 v300 = 1#1), ∀ a, (k0_off188 v302) a + S1x1x16.size a ≤ S2x128x128.size a := fun v300 v302 k0_hw21 k0_h12 => k0_hw21.2.2.2.2.2.1 k0_h12
theorem k0_off189_inb : ∀ (v300 : BitVec 32) (v302 : BitVec 32) (k0_hw21 : k0_chk21 v300 v302), ∀ (k0_h12 : k0_cond12 v300 = 1#1), ∀ a, (k0_off189 v302) a + S1x1x16.size a ≤ S2x128x128.size a := fun v300 v302 k0_hw21 k0_h12 => k0_hw21.2.2.2.2.2.2.1 k0_h12
theorem k0_off190_inb : ∀ (v300 : BitVec 32) (v302 : BitVec 32) (k0_hw21 : k0_chk21 v300 v302), ∀ (k0_h12 : k0_cond12 v300 = 1#1), ∀ a, (k0_off190 v302) a + S1x1x16.size a ≤ S2x128x128.size a := fun v300 v302 k0_hw21 k0_h12 => k0_hw21.2.2.2.2.2.2.2.1 k0_h12
theorem k0_off191_inb : ∀ (v300 : BitVec 32) (v302 : BitVec 32) (k0_hw21 : k0_chk21 v300 v302), ∀ (k0_h12 : k0_cond12 v300 = 1#1), ∀ a, (k0_off191 v302) a + S1x1x16.size a ≤ S2x128x128.size a := fun v300 v302 k0_hw21 k0_h12 => k0_hw21.2.2.2.2.2.2.2.2 k0_h12

@[reducible] def k0_t14_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off192 (k0_t14 : Fin k0_t14_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t14
  let v971 : Index := Scalar.indexCast arg30
  let c0_698 : Index := 0#32
  ![0, v971.toNat, 0]
def k0_off193 (k0_t14 : Fin k0_t14_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t14
  let v974 : Index := Scalar.indexCast arg30
  let c16_700 : Index := 16#32
  ![0, v974.toNat, 16]
def k0_off194 (k0_t14 : Fin k0_t14_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t14
  let v977 : Index := Scalar.indexCast arg30
  let c32_702 : Index := 32#32
  ![0, v977.toNat, 32]
def k0_off195 (k0_t14 : Fin k0_t14_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t14
  let v980 : Index := Scalar.indexCast arg30
  let c48_704 : Index := 48#32
  ![0, v980.toNat, 48]
def k0_off196 (k0_t14 : Fin k0_t14_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t14
  let v983 : Index := Scalar.indexCast arg30
  let c64_706 : Index := 64#32
  ![0, v983.toNat, 64]
def k0_off197 (k0_t14 : Fin k0_t14_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t14
  let v986 : Index := Scalar.indexCast arg30
  let c80_708 : Index := 80#32
  ![0, v986.toNat, 80]
def k0_off198 (k0_t14 : Fin k0_t14_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t14
  let v989 : Index := Scalar.indexCast arg30
  let c96_710 : Index := 96#32
  ![0, v989.toNat, 96]
def k0_off199 (k0_t14 : Fin k0_t14_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t14
  let v992 : Index := Scalar.indexCast arg30
  let c112_712 : Index := 112#32
  ![0, v992.toNat, 112]
def k0_off200 (v308 : BitVec 32) (k0_t14 : Fin k0_t14_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v994 : BitVec 32 := Scalar.addi arg30 v314
  let v996 : Index := Scalar.indexCast v994
  let c0_714 : Index := 0#32
  ![0, v996.toNat, 0]
def k0_off201 (v308 : BitVec 32) (k0_t14 : Fin k0_t14_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v998 : BitVec 32 := Scalar.addi arg30 v314
  let v1000 : Index := Scalar.indexCast v998
  let c16_716 : Index := 16#32
  ![0, v1000.toNat, 16]
def k0_off202 (v308 : BitVec 32) (k0_t14 : Fin k0_t14_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1002 : BitVec 32 := Scalar.addi arg30 v314
  let v1004 : Index := Scalar.indexCast v1002
  let c32_718 : Index := 32#32
  ![0, v1004.toNat, 32]
def k0_off203 (v308 : BitVec 32) (k0_t14 : Fin k0_t14_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1006 : BitVec 32 := Scalar.addi arg30 v314
  let v1008 : Index := Scalar.indexCast v1006
  let c48_720 : Index := 48#32
  ![0, v1008.toNat, 48]
def k0_off204 (v308 : BitVec 32) (k0_t14 : Fin k0_t14_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1010 : BitVec 32 := Scalar.addi arg30 v314
  let v1012 : Index := Scalar.indexCast v1010
  let c64_722 : Index := 64#32
  ![0, v1012.toNat, 64]
def k0_off205 (v308 : BitVec 32) (k0_t14 : Fin k0_t14_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1014 : BitVec 32 := Scalar.addi arg30 v314
  let v1016 : Index := Scalar.indexCast v1014
  let c80_724 : Index := 80#32
  ![0, v1016.toNat, 80]
def k0_off206 (v308 : BitVec 32) (k0_t14 : Fin k0_t14_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1018 : BitVec 32 := Scalar.addi arg30 v314
  let v1020 : Index := Scalar.indexCast v1018
  let c96_726 : Index := 96#32
  ![0, v1020.toNat, 96]
def k0_off207 (v308 : BitVec 32) (k0_t14 : Fin k0_t14_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t14
  let c8_i32_207 : BitVec 32 := 8#32
  let v309 : BitVec 32 := Scalar.remsi v308 c8_i32_207
  let v310 : BitVec 32 := Scalar.subi v308 v309
  let c3960_i32_208 : BitVec 32 := 3960#32
  let v311 : BitVec 32 := Scalar.minsi v310 c3960_i32_208
  let v312 : BitVec 32 := v311
  let v314 : BitVec 32 := Scalar.subi v308 v312
  let v1022 : BitVec 32 := Scalar.addi arg30 v314
  let v1024 : Index := Scalar.indexCast v1022
  let c112_728 : Index := 112#32
  ![0, v1024.toNat, 112]

def k0_chk22 (v300 : BitVec 32) (v308 : BitVec 32) : Prop :=
  (8 ∣ (k0_mult22 v308).toNat) ∧
  (∀ k0_t14 : Fin k0_t14_loop.trips, ∀ (k0_h12 : k0_cond12 v300 = 1#1), ∀ a, (k0_off200 v308 k0_t14) a + S1x1x16.size a ≤ S2x136x128.size a) ∧
  (∀ k0_t14 : Fin k0_t14_loop.trips, ∀ (k0_h12 : k0_cond12 v300 = 1#1), ∀ a, (k0_off201 v308 k0_t14) a + S1x1x16.size a ≤ S2x136x128.size a) ∧
  (∀ k0_t14 : Fin k0_t14_loop.trips, ∀ (k0_h12 : k0_cond12 v300 = 1#1), ∀ a, (k0_off202 v308 k0_t14) a + S1x1x16.size a ≤ S2x136x128.size a) ∧
  (∀ k0_t14 : Fin k0_t14_loop.trips, ∀ (k0_h12 : k0_cond12 v300 = 1#1), ∀ a, (k0_off203 v308 k0_t14) a + S1x1x16.size a ≤ S2x136x128.size a) ∧
  (∀ k0_t14 : Fin k0_t14_loop.trips, ∀ (k0_h12 : k0_cond12 v300 = 1#1), ∀ a, (k0_off204 v308 k0_t14) a + S1x1x16.size a ≤ S2x136x128.size a) ∧
  (∀ k0_t14 : Fin k0_t14_loop.trips, ∀ (k0_h12 : k0_cond12 v300 = 1#1), ∀ a, (k0_off205 v308 k0_t14) a + S1x1x16.size a ≤ S2x136x128.size a) ∧
  (∀ k0_t14 : Fin k0_t14_loop.trips, ∀ (k0_h12 : k0_cond12 v300 = 1#1), ∀ a, (k0_off206 v308 k0_t14) a + S1x1x16.size a ≤ S2x136x128.size a) ∧
  (∀ k0_t14 : Fin k0_t14_loop.trips, ∀ (k0_h12 : k0_cond12 v300 = 1#1), ∀ a, (k0_off207 v308 k0_t14) a + S1x1x16.size a ≤ S2x136x128.size a)
theorem k0_mult22_dvd : ∀ (v300 : BitVec 32) (v308 : BitVec 32) (k0_hw22 : k0_chk22 v300 v308), 8 ∣ (k0_mult22 v308).toNat := fun v300 v308 k0_hw22 => k0_hw22.1
theorem k0_off200_inb : ∀ (v300 : BitVec 32) (v308 : BitVec 32) (k0_hw22 : k0_chk22 v300 v308) (k0_t14 : Fin k0_t14_loop.trips), ∀ (k0_h12 : k0_cond12 v300 = 1#1), ∀ a, (k0_off200 v308 k0_t14) a + S1x1x16.size a ≤ S2x136x128.size a := fun v300 v308 k0_hw22 k0_t14 k0_h12 => k0_hw22.2.1 k0_t14 k0_h12
theorem k0_off201_inb : ∀ (v300 : BitVec 32) (v308 : BitVec 32) (k0_hw22 : k0_chk22 v300 v308) (k0_t14 : Fin k0_t14_loop.trips), ∀ (k0_h12 : k0_cond12 v300 = 1#1), ∀ a, (k0_off201 v308 k0_t14) a + S1x1x16.size a ≤ S2x136x128.size a := fun v300 v308 k0_hw22 k0_t14 k0_h12 => k0_hw22.2.2.1 k0_t14 k0_h12
theorem k0_off202_inb : ∀ (v300 : BitVec 32) (v308 : BitVec 32) (k0_hw22 : k0_chk22 v300 v308) (k0_t14 : Fin k0_t14_loop.trips), ∀ (k0_h12 : k0_cond12 v300 = 1#1), ∀ a, (k0_off202 v308 k0_t14) a + S1x1x16.size a ≤ S2x136x128.size a := fun v300 v308 k0_hw22 k0_t14 k0_h12 => k0_hw22.2.2.2.1 k0_t14 k0_h12
theorem k0_off203_inb : ∀ (v300 : BitVec 32) (v308 : BitVec 32) (k0_hw22 : k0_chk22 v300 v308) (k0_t14 : Fin k0_t14_loop.trips), ∀ (k0_h12 : k0_cond12 v300 = 1#1), ∀ a, (k0_off203 v308 k0_t14) a + S1x1x16.size a ≤ S2x136x128.size a := fun v300 v308 k0_hw22 k0_t14 k0_h12 => k0_hw22.2.2.2.2.1 k0_t14 k0_h12
theorem k0_off204_inb : ∀ (v300 : BitVec 32) (v308 : BitVec 32) (k0_hw22 : k0_chk22 v300 v308) (k0_t14 : Fin k0_t14_loop.trips), ∀ (k0_h12 : k0_cond12 v300 = 1#1), ∀ a, (k0_off204 v308 k0_t14) a + S1x1x16.size a ≤ S2x136x128.size a := fun v300 v308 k0_hw22 k0_t14 k0_h12 => k0_hw22.2.2.2.2.2.1 k0_t14 k0_h12
theorem k0_off205_inb : ∀ (v300 : BitVec 32) (v308 : BitVec 32) (k0_hw22 : k0_chk22 v300 v308) (k0_t14 : Fin k0_t14_loop.trips), ∀ (k0_h12 : k0_cond12 v300 = 1#1), ∀ a, (k0_off205 v308 k0_t14) a + S1x1x16.size a ≤ S2x136x128.size a := fun v300 v308 k0_hw22 k0_t14 k0_h12 => k0_hw22.2.2.2.2.2.2.1 k0_t14 k0_h12
theorem k0_off206_inb : ∀ (v300 : BitVec 32) (v308 : BitVec 32) (k0_hw22 : k0_chk22 v300 v308) (k0_t14 : Fin k0_t14_loop.trips), ∀ (k0_h12 : k0_cond12 v300 = 1#1), ∀ a, (k0_off206 v308 k0_t14) a + S1x1x16.size a ≤ S2x136x128.size a := fun v300 v308 k0_hw22 k0_t14 k0_h12 => k0_hw22.2.2.2.2.2.2.2.1 k0_t14 k0_h12
theorem k0_off207_inb : ∀ (v300 : BitVec 32) (v308 : BitVec 32) (k0_hw22 : k0_chk22 v300 v308) (k0_t14 : Fin k0_t14_loop.trips), ∀ (k0_h12 : k0_cond12 v300 = 1#1), ∀ a, (k0_off207 v308 k0_t14) a + S1x1x16.size a ≤ S2x136x128.size a := fun v300 v308 k0_hw22 k0_t14 k0_h12 => k0_hw22.2.2.2.2.2.2.2.2 k0_t14 k0_h12

@[reducible] def k0_t15_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off208 (k0_t15 : Fin k0_t15_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t15
  let v943 : Index := Scalar.indexCast arg30
  let c0 : Index := 0#32
  ![0, v943.toNat, 0]
def k0_off209 (k0_t15 : Fin k0_t15_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t15
  let v946 : Index := Scalar.indexCast arg30
  let c16 : Index := 16#32
  ![0, v946.toNat, 16]
def k0_off210 (k0_t15 : Fin k0_t15_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t15
  let v949 : Index := Scalar.indexCast arg30
  let c32 : Index := 32#32
  ![0, v949.toNat, 32]
def k0_off211 (k0_t15 : Fin k0_t15_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t15
  let v952 : Index := Scalar.indexCast arg30
  let c48 : Index := 48#32
  ![0, v952.toNat, 48]
def k0_off212 (k0_t15 : Fin k0_t15_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t15
  let v955 : Index := Scalar.indexCast arg30
  let c64 : Index := 64#32
  ![0, v955.toNat, 64]
def k0_off213 (k0_t15 : Fin k0_t15_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t15
  let v958 : Index := Scalar.indexCast arg30
  let c80 : Index := 80#32
  ![0, v958.toNat, 80]
def k0_off214 (k0_t15 : Fin k0_t15_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t15
  let v961 : Index := Scalar.indexCast arg30
  let c96 : Index := 96#32
  ![0, v961.toNat, 96]
def k0_off215 (k0_t15 : Fin k0_t15_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t15
  let v964 : Index := Scalar.indexCast arg30
  let c112 : Index := 112#32
  ![0, v964.toNat, 112]
def k0_off216 (k0_t15 : Fin k0_t15_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t15
  let v991 : Index := Scalar.indexCast arg30
  let c0_708 : Index := 0#32
  ![0, v991.toNat, 0]
def k0_off217 (k0_t15 : Fin k0_t15_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t15
  let v994 : Index := Scalar.indexCast arg30
  let c16_710 : Index := 16#32
  ![0, v994.toNat, 16]
def k0_off218 (k0_t15 : Fin k0_t15_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t15
  let v997 : Index := Scalar.indexCast arg30
  let c32_712 : Index := 32#32
  ![0, v997.toNat, 32]
def k0_off219 (k0_t15 : Fin k0_t15_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t15
  let v1000 : Index := Scalar.indexCast arg30
  let c48_714 : Index := 48#32
  ![0, v1000.toNat, 48]
def k0_off220 (k0_t15 : Fin k0_t15_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t15
  let v1003 : Index := Scalar.indexCast arg30
  let c64_716 : Index := 64#32
  ![0, v1003.toNat, 64]
def k0_off221 (k0_t15 : Fin k0_t15_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t15
  let v1006 : Index := Scalar.indexCast arg30
  let c80_718 : Index := 80#32
  ![0, v1006.toNat, 80]
def k0_off222 (k0_t15 : Fin k0_t15_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t15
  let v1009 : Index := Scalar.indexCast arg30
  let c96_720 : Index := 96#32
  ![0, v1009.toNat, 96]
def k0_off223 (k0_t15 : Fin k0_t15_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t15
  let v1012 : Index := Scalar.indexCast arg30
  let c112_722 : Index := 112#32
  ![0, v1012.toNat, 112]
def k0_off224 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c512_i32_212 : BitVec 32 := 512#32
  let v319 : BitVec 32 := Scalar.addi v22 c512_i32_212
  let c0_i32_216 : BitVec 32 := 0#32
  ![v319.toNat, 0]
def k0_mult23 (v340 : BitVec 32) : BitVec 32 :=
  let c8_i32_234 : BitVec 32 := 8#32
  let v341 : BitVec 32 := Scalar.remsi v340 c8_i32_234
  let v342 : BitVec 32 := Scalar.subi v340 v341
  let c4088_i32_235 : BitVec 32 := 4088#32
  let v343 : BitVec 32 := Scalar.minsi v342 c4088_i32_235
  v343

def k0_mult24 (v346 : BitVec 32) : BitVec 32 :=
  let c8_i32_237 : BitVec 32 := 8#32
  let v347 : BitVec 32 := Scalar.remsi v346 c8_i32_237
  let v348 : BitVec 32 := Scalar.subi v346 v347
  let c3960_i32_238 : BitVec 32 := 3960#32
  let v349 : BitVec 32 := Scalar.minsi v348 c3960_i32_238
  v349

def k0_off225 (v340 : BitVec 32) : Fin 2 → Nat :=
  let c8_i32_234 : BitVec 32 := 8#32
  let v341 : BitVec 32 := Scalar.remsi v340 c8_i32_234
  let v342 : BitVec 32 := Scalar.subi v340 v341
  let c4088_i32_235 : BitVec 32 := 4088#32
  let v343 : BitVec 32 := Scalar.minsi v342 c4088_i32_235
  let v344 : BitVec 32 := v343
  let c0_i32_660 : BitVec 32 := 0#32
  ![v344.toNat, 0]
def k0_cond13 (v338 : BitVec 32) : BitVec 1 :=
  let c0_i32_239 : BitVec 32 := 0#32
  let v351 : BitVec 1 := Scalar.cmpi .eq v338 c0_i32_239
  let v352 : BitVec 32 := Scalar.extui v351
  let c0_i32_241 : BitVec 32 := 0#32
  let v353 : BitVec 1 := Scalar.cmpi .ne v352 c0_i32_241
  v353

def k0_chk23 (v338 : BitVec 32) (v340 : BitVec 32) : Prop :=
  (8 ∣ (k0_mult23 v340).toNat) ∧
  (∀ (k0_h13 : k0_cond13 v338 = 1#1), ∀ a, (k0_off225 v340) a + S8x128.size a ≤ S4096x128.size a)
theorem k0_mult23_dvd : ∀ (v338 : BitVec 32) (v340 : BitVec 32) (k0_hw23 : k0_chk23 v338 v340), 8 ∣ (k0_mult23 v340).toNat := fun v338 v340 k0_hw23 => k0_hw23.1
theorem k0_off225_inb : ∀ (v338 : BitVec 32) (v340 : BitVec 32) (k0_hw23 : k0_chk23 v338 v340), ∀ (k0_h13 : k0_cond13 v338 = 1#1), ∀ a, (k0_off225 v340) a + S8x128.size a ≤ S4096x128.size a := fun v338 v340 k0_hw23 k0_h13 => k0_hw23.2 k0_h13

def k0_off226 (v346 : BitVec 32) : Fin 2 → Nat :=
  let c8_i32_237 : BitVec 32 := 8#32
  let v347 : BitVec 32 := Scalar.remsi v346 c8_i32_237
  let v348 : BitVec 32 := Scalar.subi v346 v347
  let c3960_i32_238 : BitVec 32 := 3960#32
  let v349 : BitVec 32 := Scalar.minsi v348 c3960_i32_238
  let v350 : BitVec 32 := v349
  let c0_i32_669 : BitVec 32 := 0#32
  ![v350.toNat, 0]

def k0_chk24 (v338 : BitVec 32) (v346 : BitVec 32) : Prop :=
  (8 ∣ (k0_mult24 v346).toNat) ∧
  (∀ (k0_h13 : k0_cond13 v338 = 1#1), ∀ a, (k0_off226 v346) a + S136x128.size a ≤ S4096x128.size a)
theorem k0_mult24_dvd : ∀ (v338 : BitVec 32) (v346 : BitVec 32) (k0_hw24 : k0_chk24 v338 v346), 8 ∣ (k0_mult24 v346).toNat := fun v338 v346 k0_hw24 => k0_hw24.1
theorem k0_off226_inb : ∀ (v338 : BitVec 32) (v346 : BitVec 32) (k0_hw24 : k0_chk24 v338 v346), ∀ (k0_h13 : k0_cond13 v338 = 1#1), ∀ a, (k0_off226 v346) a + S136x128.size a ≤ S4096x128.size a := fun v338 v346 k0_hw24 k0_h13 => k0_hw24.2 k0_h13

def k0_mult25 (v358 : BitVec 32) : BitVec 32 :=
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  v361

def k0_mult26 (v364 : BitVec 32) : BitVec 32 :=
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  v367

def k0_off227 (v358 : BitVec 32) : Fin 3 → Nat :=
  let c1_i32_683 : BitVec 32 := 1#32
  let v945 : Index := Scalar.indexCast c1_i32_683
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v946 : Index := Scalar.indexCast v369
  let c0 : Index := 0#32
  ![1, v946.toNat, 0]
def k0_cond14 (v356 : BitVec 32) : BitVec 1 :=
  let c0_i32_249 : BitVec 32 := 0#32
  let v371 : BitVec 1 := Scalar.cmpi .eq v356 c0_i32_249
  let v372 : BitVec 32 := Scalar.extui v371
  let c0_i32_251 : BitVec 32 := 0#32
  let v373 : BitVec 1 := Scalar.cmpi .ne v372 c0_i32_251
  v373

def k0_off228 (v358 : BitVec 32) : Fin 3 → Nat :=
  let c1_i32_684 : BitVec 32 := 1#32
  let v948 : Index := Scalar.indexCast c1_i32_684
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v949 : Index := Scalar.indexCast v369
  let c16 : Index := 16#32
  ![1, v949.toNat, 16]
def k0_off229 (v358 : BitVec 32) : Fin 3 → Nat :=
  let c1_i32_685 : BitVec 32 := 1#32
  let v951 : Index := Scalar.indexCast c1_i32_685
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v952 : Index := Scalar.indexCast v369
  let c32 : Index := 32#32
  ![1, v952.toNat, 32]
def k0_off230 (v358 : BitVec 32) : Fin 3 → Nat :=
  let c1_i32_686 : BitVec 32 := 1#32
  let v954 : Index := Scalar.indexCast c1_i32_686
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v955 : Index := Scalar.indexCast v369
  let c48 : Index := 48#32
  ![1, v955.toNat, 48]
def k0_off231 (v358 : BitVec 32) : Fin 3 → Nat :=
  let c1_i32_687 : BitVec 32 := 1#32
  let v957 : Index := Scalar.indexCast c1_i32_687
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v958 : Index := Scalar.indexCast v369
  let c64 : Index := 64#32
  ![1, v958.toNat, 64]
def k0_off232 (v358 : BitVec 32) : Fin 3 → Nat :=
  let c1_i32_688 : BitVec 32 := 1#32
  let v960 : Index := Scalar.indexCast c1_i32_688
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v961 : Index := Scalar.indexCast v369
  let c80 : Index := 80#32
  ![1, v961.toNat, 80]
def k0_off233 (v358 : BitVec 32) : Fin 3 → Nat :=
  let c1_i32_689 : BitVec 32 := 1#32
  let v963 : Index := Scalar.indexCast c1_i32_689
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v964 : Index := Scalar.indexCast v369
  let c96 : Index := 96#32
  ![1, v964.toNat, 96]
def k0_off234 (v358 : BitVec 32) : Fin 3 → Nat :=
  let c1_i32_690 : BitVec 32 := 1#32
  let v966 : Index := Scalar.indexCast c1_i32_690
  let c8_i32_244 : BitVec 32 := 8#32
  let v359 : BitVec 32 := Scalar.remsi v358 c8_i32_244
  let v360 : BitVec 32 := Scalar.subi v358 v359
  let c4088_i32_245 : BitVec 32 := 4088#32
  let v361 : BitVec 32 := Scalar.minsi v360 c4088_i32_245
  let v362 : BitVec 32 := v361
  let v369 : BitVec 32 := Scalar.subi v358 v362
  let v967 : Index := Scalar.indexCast v369
  let c112 : Index := 112#32
  ![1, v967.toNat, 112]

def k0_chk25 (v356 : BitVec 32) (v358 : BitVec 32) : Prop :=
  (8 ∣ (k0_mult25 v358).toNat) ∧
  (∀ (k0_h14 : k0_cond14 v356 = 1#1), ∀ a, (k0_off227 v358) a + S1x1x16.size a ≤ S2x128x128.size a) ∧
  (∀ (k0_h14 : k0_cond14 v356 = 1#1), ∀ a, (k0_off228 v358) a + S1x1x16.size a ≤ S2x128x128.size a) ∧
  (∀ (k0_h14 : k0_cond14 v356 = 1#1), ∀ a, (k0_off229 v358) a + S1x1x16.size a ≤ S2x128x128.size a) ∧
  (∀ (k0_h14 : k0_cond14 v356 = 1#1), ∀ a, (k0_off230 v358) a + S1x1x16.size a ≤ S2x128x128.size a) ∧
  (∀ (k0_h14 : k0_cond14 v356 = 1#1), ∀ a, (k0_off231 v358) a + S1x1x16.size a ≤ S2x128x128.size a) ∧
  (∀ (k0_h14 : k0_cond14 v356 = 1#1), ∀ a, (k0_off232 v358) a + S1x1x16.size a ≤ S2x128x128.size a) ∧
  (∀ (k0_h14 : k0_cond14 v356 = 1#1), ∀ a, (k0_off233 v358) a + S1x1x16.size a ≤ S2x128x128.size a) ∧
  (∀ (k0_h14 : k0_cond14 v356 = 1#1), ∀ a, (k0_off234 v358) a + S1x1x16.size a ≤ S2x128x128.size a)
theorem k0_mult25_dvd : ∀ (v356 : BitVec 32) (v358 : BitVec 32) (k0_hw25 : k0_chk25 v356 v358), 8 ∣ (k0_mult25 v358).toNat := fun v356 v358 k0_hw25 => k0_hw25.1
theorem k0_off227_inb : ∀ (v356 : BitVec 32) (v358 : BitVec 32) (k0_hw25 : k0_chk25 v356 v358), ∀ (k0_h14 : k0_cond14 v356 = 1#1), ∀ a, (k0_off227 v358) a + S1x1x16.size a ≤ S2x128x128.size a := fun v356 v358 k0_hw25 k0_h14 => k0_hw25.2.1 k0_h14
theorem k0_off228_inb : ∀ (v356 : BitVec 32) (v358 : BitVec 32) (k0_hw25 : k0_chk25 v356 v358), ∀ (k0_h14 : k0_cond14 v356 = 1#1), ∀ a, (k0_off228 v358) a + S1x1x16.size a ≤ S2x128x128.size a := fun v356 v358 k0_hw25 k0_h14 => k0_hw25.2.2.1 k0_h14
theorem k0_off229_inb : ∀ (v356 : BitVec 32) (v358 : BitVec 32) (k0_hw25 : k0_chk25 v356 v358), ∀ (k0_h14 : k0_cond14 v356 = 1#1), ∀ a, (k0_off229 v358) a + S1x1x16.size a ≤ S2x128x128.size a := fun v356 v358 k0_hw25 k0_h14 => k0_hw25.2.2.2.1 k0_h14
theorem k0_off230_inb : ∀ (v356 : BitVec 32) (v358 : BitVec 32) (k0_hw25 : k0_chk25 v356 v358), ∀ (k0_h14 : k0_cond14 v356 = 1#1), ∀ a, (k0_off230 v358) a + S1x1x16.size a ≤ S2x128x128.size a := fun v356 v358 k0_hw25 k0_h14 => k0_hw25.2.2.2.2.1 k0_h14
theorem k0_off231_inb : ∀ (v356 : BitVec 32) (v358 : BitVec 32) (k0_hw25 : k0_chk25 v356 v358), ∀ (k0_h14 : k0_cond14 v356 = 1#1), ∀ a, (k0_off231 v358) a + S1x1x16.size a ≤ S2x128x128.size a := fun v356 v358 k0_hw25 k0_h14 => k0_hw25.2.2.2.2.2.1 k0_h14
theorem k0_off232_inb : ∀ (v356 : BitVec 32) (v358 : BitVec 32) (k0_hw25 : k0_chk25 v356 v358), ∀ (k0_h14 : k0_cond14 v356 = 1#1), ∀ a, (k0_off232 v358) a + S1x1x16.size a ≤ S2x128x128.size a := fun v356 v358 k0_hw25 k0_h14 => k0_hw25.2.2.2.2.2.2.1 k0_h14
theorem k0_off233_inb : ∀ (v356 : BitVec 32) (v358 : BitVec 32) (k0_hw25 : k0_chk25 v356 v358), ∀ (k0_h14 : k0_cond14 v356 = 1#1), ∀ a, (k0_off233 v358) a + S1x1x16.size a ≤ S2x128x128.size a := fun v356 v358 k0_hw25 k0_h14 => k0_hw25.2.2.2.2.2.2.2.1 k0_h14
theorem k0_off234_inb : ∀ (v356 : BitVec 32) (v358 : BitVec 32) (k0_hw25 : k0_chk25 v356 v358), ∀ (k0_h14 : k0_cond14 v356 = 1#1), ∀ a, (k0_off234 v358) a + S1x1x16.size a ≤ S2x128x128.size a := fun v356 v358 k0_hw25 k0_h14 => k0_hw25.2.2.2.2.2.2.2.2 k0_h14

@[reducible] def k0_t16_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off235 (k0_t16 : Fin k0_t16_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t16
  let v971 : Index := Scalar.indexCast arg30
  let c0_698 : Index := 0#32
  ![1, v971.toNat, 0]
def k0_off236 (k0_t16 : Fin k0_t16_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t16
  let v974 : Index := Scalar.indexCast arg30
  let c16_700 : Index := 16#32
  ![1, v974.toNat, 16]
def k0_off237 (k0_t16 : Fin k0_t16_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t16
  let v977 : Index := Scalar.indexCast arg30
  let c32_702 : Index := 32#32
  ![1, v977.toNat, 32]
def k0_off238 (k0_t16 : Fin k0_t16_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t16
  let v980 : Index := Scalar.indexCast arg30
  let c48_704 : Index := 48#32
  ![1, v980.toNat, 48]
def k0_off239 (k0_t16 : Fin k0_t16_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t16
  let v983 : Index := Scalar.indexCast arg30
  let c64_706 : Index := 64#32
  ![1, v983.toNat, 64]
def k0_off240 (k0_t16 : Fin k0_t16_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t16
  let v986 : Index := Scalar.indexCast arg30
  let c80_708 : Index := 80#32
  ![1, v986.toNat, 80]
def k0_off241 (k0_t16 : Fin k0_t16_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t16
  let v989 : Index := Scalar.indexCast arg30
  let c96_710 : Index := 96#32
  ![1, v989.toNat, 96]
def k0_off242 (k0_t16 : Fin k0_t16_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t16
  let v992 : Index := Scalar.indexCast arg30
  let c112_712 : Index := 112#32
  ![1, v992.toNat, 112]
def k0_off243 (v364 : BitVec 32) (k0_t16 : Fin k0_t16_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v994 : BitVec 32 := Scalar.addi arg30 v370
  let v996 : Index := Scalar.indexCast v994
  let c0_714 : Index := 0#32
  ![1, v996.toNat, 0]
def k0_off244 (v364 : BitVec 32) (k0_t16 : Fin k0_t16_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v998 : BitVec 32 := Scalar.addi arg30 v370
  let v1000 : Index := Scalar.indexCast v998
  let c16_716 : Index := 16#32
  ![1, v1000.toNat, 16]
def k0_off245 (v364 : BitVec 32) (k0_t16 : Fin k0_t16_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1002 : BitVec 32 := Scalar.addi arg30 v370
  let v1004 : Index := Scalar.indexCast v1002
  let c32_718 : Index := 32#32
  ![1, v1004.toNat, 32]
def k0_off246 (v364 : BitVec 32) (k0_t16 : Fin k0_t16_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1006 : BitVec 32 := Scalar.addi arg30 v370
  let v1008 : Index := Scalar.indexCast v1006
  let c48_720 : Index := 48#32
  ![1, v1008.toNat, 48]
def k0_off247 (v364 : BitVec 32) (k0_t16 : Fin k0_t16_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1010 : BitVec 32 := Scalar.addi arg30 v370
  let v1012 : Index := Scalar.indexCast v1010
  let c64_722 : Index := 64#32
  ![1, v1012.toNat, 64]
def k0_off248 (v364 : BitVec 32) (k0_t16 : Fin k0_t16_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1014 : BitVec 32 := Scalar.addi arg30 v370
  let v1016 : Index := Scalar.indexCast v1014
  let c80_724 : Index := 80#32
  ![1, v1016.toNat, 80]
def k0_off249 (v364 : BitVec 32) (k0_t16 : Fin k0_t16_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1018 : BitVec 32 := Scalar.addi arg30 v370
  let v1020 : Index := Scalar.indexCast v1018
  let c96_726 : Index := 96#32
  ![1, v1020.toNat, 96]
def k0_off250 (v364 : BitVec 32) (k0_t16 : Fin k0_t16_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t16
  let c8_i32_247 : BitVec 32 := 8#32
  let v365 : BitVec 32 := Scalar.remsi v364 c8_i32_247
  let v366 : BitVec 32 := Scalar.subi v364 v365
  let c3960_i32_248 : BitVec 32 := 3960#32
  let v367 : BitVec 32 := Scalar.minsi v366 c3960_i32_248
  let v368 : BitVec 32 := v367
  let v370 : BitVec 32 := Scalar.subi v364 v368
  let v1022 : BitVec 32 := Scalar.addi arg30 v370
  let v1024 : Index := Scalar.indexCast v1022
  let c112_728 : Index := 112#32
  ![1, v1024.toNat, 112]

def k0_chk26 (v356 : BitVec 32) (v364 : BitVec 32) : Prop :=
  (8 ∣ (k0_mult26 v364).toNat) ∧
  (∀ k0_t16 : Fin k0_t16_loop.trips, ∀ (k0_h14 : k0_cond14 v356 = 1#1), ∀ a, (k0_off243 v364 k0_t16) a + S1x1x16.size a ≤ S2x136x128.size a) ∧
  (∀ k0_t16 : Fin k0_t16_loop.trips, ∀ (k0_h14 : k0_cond14 v356 = 1#1), ∀ a, (k0_off244 v364 k0_t16) a + S1x1x16.size a ≤ S2x136x128.size a) ∧
  (∀ k0_t16 : Fin k0_t16_loop.trips, ∀ (k0_h14 : k0_cond14 v356 = 1#1), ∀ a, (k0_off245 v364 k0_t16) a + S1x1x16.size a ≤ S2x136x128.size a) ∧
  (∀ k0_t16 : Fin k0_t16_loop.trips, ∀ (k0_h14 : k0_cond14 v356 = 1#1), ∀ a, (k0_off246 v364 k0_t16) a + S1x1x16.size a ≤ S2x136x128.size a) ∧
  (∀ k0_t16 : Fin k0_t16_loop.trips, ∀ (k0_h14 : k0_cond14 v356 = 1#1), ∀ a, (k0_off247 v364 k0_t16) a + S1x1x16.size a ≤ S2x136x128.size a) ∧
  (∀ k0_t16 : Fin k0_t16_loop.trips, ∀ (k0_h14 : k0_cond14 v356 = 1#1), ∀ a, (k0_off248 v364 k0_t16) a + S1x1x16.size a ≤ S2x136x128.size a) ∧
  (∀ k0_t16 : Fin k0_t16_loop.trips, ∀ (k0_h14 : k0_cond14 v356 = 1#1), ∀ a, (k0_off249 v364 k0_t16) a + S1x1x16.size a ≤ S2x136x128.size a) ∧
  (∀ k0_t16 : Fin k0_t16_loop.trips, ∀ (k0_h14 : k0_cond14 v356 = 1#1), ∀ a, (k0_off250 v364 k0_t16) a + S1x1x16.size a ≤ S2x136x128.size a)
theorem k0_mult26_dvd : ∀ (v356 : BitVec 32) (v364 : BitVec 32) (k0_hw26 : k0_chk26 v356 v364), 8 ∣ (k0_mult26 v364).toNat := fun v356 v364 k0_hw26 => k0_hw26.1
theorem k0_off243_inb : ∀ (v356 : BitVec 32) (v364 : BitVec 32) (k0_hw26 : k0_chk26 v356 v364) (k0_t16 : Fin k0_t16_loop.trips), ∀ (k0_h14 : k0_cond14 v356 = 1#1), ∀ a, (k0_off243 v364 k0_t16) a + S1x1x16.size a ≤ S2x136x128.size a := fun v356 v364 k0_hw26 k0_t16 k0_h14 => k0_hw26.2.1 k0_t16 k0_h14
theorem k0_off244_inb : ∀ (v356 : BitVec 32) (v364 : BitVec 32) (k0_hw26 : k0_chk26 v356 v364) (k0_t16 : Fin k0_t16_loop.trips), ∀ (k0_h14 : k0_cond14 v356 = 1#1), ∀ a, (k0_off244 v364 k0_t16) a + S1x1x16.size a ≤ S2x136x128.size a := fun v356 v364 k0_hw26 k0_t16 k0_h14 => k0_hw26.2.2.1 k0_t16 k0_h14
theorem k0_off245_inb : ∀ (v356 : BitVec 32) (v364 : BitVec 32) (k0_hw26 : k0_chk26 v356 v364) (k0_t16 : Fin k0_t16_loop.trips), ∀ (k0_h14 : k0_cond14 v356 = 1#1), ∀ a, (k0_off245 v364 k0_t16) a + S1x1x16.size a ≤ S2x136x128.size a := fun v356 v364 k0_hw26 k0_t16 k0_h14 => k0_hw26.2.2.2.1 k0_t16 k0_h14
theorem k0_off246_inb : ∀ (v356 : BitVec 32) (v364 : BitVec 32) (k0_hw26 : k0_chk26 v356 v364) (k0_t16 : Fin k0_t16_loop.trips), ∀ (k0_h14 : k0_cond14 v356 = 1#1), ∀ a, (k0_off246 v364 k0_t16) a + S1x1x16.size a ≤ S2x136x128.size a := fun v356 v364 k0_hw26 k0_t16 k0_h14 => k0_hw26.2.2.2.2.1 k0_t16 k0_h14
theorem k0_off247_inb : ∀ (v356 : BitVec 32) (v364 : BitVec 32) (k0_hw26 : k0_chk26 v356 v364) (k0_t16 : Fin k0_t16_loop.trips), ∀ (k0_h14 : k0_cond14 v356 = 1#1), ∀ a, (k0_off247 v364 k0_t16) a + S1x1x16.size a ≤ S2x136x128.size a := fun v356 v364 k0_hw26 k0_t16 k0_h14 => k0_hw26.2.2.2.2.2.1 k0_t16 k0_h14
theorem k0_off248_inb : ∀ (v356 : BitVec 32) (v364 : BitVec 32) (k0_hw26 : k0_chk26 v356 v364) (k0_t16 : Fin k0_t16_loop.trips), ∀ (k0_h14 : k0_cond14 v356 = 1#1), ∀ a, (k0_off248 v364 k0_t16) a + S1x1x16.size a ≤ S2x136x128.size a := fun v356 v364 k0_hw26 k0_t16 k0_h14 => k0_hw26.2.2.2.2.2.2.1 k0_t16 k0_h14
theorem k0_off249_inb : ∀ (v356 : BitVec 32) (v364 : BitVec 32) (k0_hw26 : k0_chk26 v356 v364) (k0_t16 : Fin k0_t16_loop.trips), ∀ (k0_h14 : k0_cond14 v356 = 1#1), ∀ a, (k0_off249 v364 k0_t16) a + S1x1x16.size a ≤ S2x136x128.size a := fun v356 v364 k0_hw26 k0_t16 k0_h14 => k0_hw26.2.2.2.2.2.2.2.1 k0_t16 k0_h14
theorem k0_off250_inb : ∀ (v356 : BitVec 32) (v364 : BitVec 32) (k0_hw26 : k0_chk26 v356 v364) (k0_t16 : Fin k0_t16_loop.trips), ∀ (k0_h14 : k0_cond14 v356 = 1#1), ∀ a, (k0_off250 v364 k0_t16) a + S1x1x16.size a ≤ S2x136x128.size a := fun v356 v364 k0_hw26 k0_t16 k0_h14 => k0_hw26.2.2.2.2.2.2.2.2 k0_t16 k0_h14

@[reducible] def k0_t17_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off251 (k0_t17 : Fin k0_t17_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t17
  let v943 : Index := Scalar.indexCast arg30
  let c0 : Index := 0#32
  ![1, v943.toNat, 0]
def k0_off252 (k0_t17 : Fin k0_t17_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t17
  let v946 : Index := Scalar.indexCast arg30
  let c16 : Index := 16#32
  ![1, v946.toNat, 16]
def k0_off253 (k0_t17 : Fin k0_t17_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t17
  let v949 : Index := Scalar.indexCast arg30
  let c32 : Index := 32#32
  ![1, v949.toNat, 32]
def k0_off254 (k0_t17 : Fin k0_t17_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t17
  let v952 : Index := Scalar.indexCast arg30
  let c48 : Index := 48#32
  ![1, v952.toNat, 48]
def k0_off255 (k0_t17 : Fin k0_t17_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t17
  let v955 : Index := Scalar.indexCast arg30
  let c64 : Index := 64#32
  ![1, v955.toNat, 64]
def k0_off256 (k0_t17 : Fin k0_t17_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t17
  let v958 : Index := Scalar.indexCast arg30
  let c80 : Index := 80#32
  ![1, v958.toNat, 80]
def k0_off257 (k0_t17 : Fin k0_t17_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t17
  let v961 : Index := Scalar.indexCast arg30
  let c96 : Index := 96#32
  ![1, v961.toNat, 96]
def k0_off258 (k0_t17 : Fin k0_t17_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t17
  let v964 : Index := Scalar.indexCast arg30
  let c112 : Index := 112#32
  ![1, v964.toNat, 112]
def k0_off259 (k0_t17 : Fin k0_t17_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t17
  let v991 : Index := Scalar.indexCast arg30
  let c0_708 : Index := 0#32
  ![1, v991.toNat, 0]
def k0_off260 (k0_t17 : Fin k0_t17_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t17
  let v994 : Index := Scalar.indexCast arg30
  let c16_710 : Index := 16#32
  ![1, v994.toNat, 16]
def k0_off261 (k0_t17 : Fin k0_t17_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t17
  let v997 : Index := Scalar.indexCast arg30
  let c32_712 : Index := 32#32
  ![1, v997.toNat, 32]
def k0_off262 (k0_t17 : Fin k0_t17_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t17
  let v1000 : Index := Scalar.indexCast arg30
  let c48_714 : Index := 48#32
  ![1, v1000.toNat, 48]
def k0_off263 (k0_t17 : Fin k0_t17_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t17
  let v1003 : Index := Scalar.indexCast arg30
  let c64_716 : Index := 64#32
  ![1, v1003.toNat, 64]
def k0_off264 (k0_t17 : Fin k0_t17_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t17
  let v1006 : Index := Scalar.indexCast arg30
  let c80_718 : Index := 80#32
  ![1, v1006.toNat, 80]
def k0_off265 (k0_t17 : Fin k0_t17_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t17
  let v1009 : Index := Scalar.indexCast arg30
  let c96_720 : Index := 96#32
  ![1, v1009.toNat, 96]
def k0_off266 (k0_t17 : Fin k0_t17_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t17
  let v1012 : Index := Scalar.indexCast arg30
  let c112_722 : Index := 112#32
  ![1, v1012.toNat, 112]
def k0_off267 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c640_i32_252 : BitVec 32 := 640#32
  let v375 : BitVec 32 := Scalar.addi v22 c640_i32_252
  let c0_i32_256 : BitVec 32 := 0#32
  ![v375.toNat, 0]
def k0_mult27 (v396 : BitVec 32) : BitVec 32 :=
  let c8_i32_274 : BitVec 32 := 8#32
  let v397 : BitVec 32 := Scalar.remsi v396 c8_i32_274
  let v398 : BitVec 32 := Scalar.subi v396 v397
  let c4088_i32_275 : BitVec 32 := 4088#32
  let v399 : BitVec 32 := Scalar.minsi v398 c4088_i32_275
  v399

def k0_mult28 (v402 : BitVec 32) : BitVec 32 :=
  let c8_i32_277 : BitVec 32 := 8#32
  let v403 : BitVec 32 := Scalar.remsi v402 c8_i32_277
  let v404 : BitVec 32 := Scalar.subi v402 v403
  let c3960_i32_278 : BitVec 32 := 3960#32
  let v405 : BitVec 32 := Scalar.minsi v404 c3960_i32_278
  v405

def k0_off268 (v396 : BitVec 32) : Fin 2 → Nat :=
  let c8_i32_274 : BitVec 32 := 8#32
  let v397 : BitVec 32 := Scalar.remsi v396 c8_i32_274
  let v398 : BitVec 32 := Scalar.subi v396 v397
  let c4088_i32_275 : BitVec 32 := 4088#32
  let v399 : BitVec 32 := Scalar.minsi v398 c4088_i32_275
  let v400 : BitVec 32 := v399
  let c0_i32_660 : BitVec 32 := 0#32
  ![v400.toNat, 0]
def k0_cond15 (v394 : BitVec 32) : BitVec 1 :=
  let c0_i32_279 : BitVec 32 := 0#32
  let v407 : BitVec 1 := Scalar.cmpi .eq v394 c0_i32_279
  let v408 : BitVec 32 := Scalar.extui v407
  let c0_i32_281 : BitVec 32 := 0#32
  let v409 : BitVec 1 := Scalar.cmpi .ne v408 c0_i32_281
  v409

def k0_chk27 (v394 : BitVec 32) (v396 : BitVec 32) : Prop :=
  (8 ∣ (k0_mult27 v396).toNat) ∧
  (∀ (k0_h15 : k0_cond15 v394 = 1#1), ∀ a, (k0_off268 v396) a + S8x128.size a ≤ S4096x128.size a)
theorem k0_mult27_dvd : ∀ (v394 : BitVec 32) (v396 : BitVec 32) (k0_hw27 : k0_chk27 v394 v396), 8 ∣ (k0_mult27 v396).toNat := fun v394 v396 k0_hw27 => k0_hw27.1
theorem k0_off268_inb : ∀ (v394 : BitVec 32) (v396 : BitVec 32) (k0_hw27 : k0_chk27 v394 v396), ∀ (k0_h15 : k0_cond15 v394 = 1#1), ∀ a, (k0_off268 v396) a + S8x128.size a ≤ S4096x128.size a := fun v394 v396 k0_hw27 k0_h15 => k0_hw27.2 k0_h15

def k0_off269 (v402 : BitVec 32) : Fin 2 → Nat :=
  let c8_i32_277 : BitVec 32 := 8#32
  let v403 : BitVec 32 := Scalar.remsi v402 c8_i32_277
  let v404 : BitVec 32 := Scalar.subi v402 v403
  let c3960_i32_278 : BitVec 32 := 3960#32
  let v405 : BitVec 32 := Scalar.minsi v404 c3960_i32_278
  let v406 : BitVec 32 := v405
  let c0_i32_669 : BitVec 32 := 0#32
  ![v406.toNat, 0]

def k0_chk28 (v394 : BitVec 32) (v402 : BitVec 32) : Prop :=
  (8 ∣ (k0_mult28 v402).toNat) ∧
  (∀ (k0_h15 : k0_cond15 v394 = 1#1), ∀ a, (k0_off269 v402) a + S136x128.size a ≤ S4096x128.size a)
theorem k0_mult28_dvd : ∀ (v394 : BitVec 32) (v402 : BitVec 32) (k0_hw28 : k0_chk28 v394 v402), 8 ∣ (k0_mult28 v402).toNat := fun v394 v402 k0_hw28 => k0_hw28.1
theorem k0_off269_inb : ∀ (v394 : BitVec 32) (v402 : BitVec 32) (k0_hw28 : k0_chk28 v394 v402), ∀ (k0_h15 : k0_cond15 v394 = 1#1), ∀ a, (k0_off269 v402) a + S136x128.size a ≤ S4096x128.size a := fun v394 v402 k0_hw28 k0_h15 => k0_hw28.2 k0_h15

def k0_mult29 (v414 : BitVec 32) : BitVec 32 :=
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  v417

def k0_mult30 (v420 : BitVec 32) : BitVec 32 :=
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  v423

def k0_off270 (v414 : BitVec 32) : Fin 3 → Nat :=
  let c0_i32_683 : BitVec 32 := 0#32
  let v945 : Index := Scalar.indexCast c0_i32_683
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v946 : Index := Scalar.indexCast v425
  let c0 : Index := 0#32
  ![0, v946.toNat, 0]
def k0_cond16 (v412 : BitVec 32) : BitVec 1 :=
  let c0_i32_289 : BitVec 32 := 0#32
  let v427 : BitVec 1 := Scalar.cmpi .eq v412 c0_i32_289
  let v428 : BitVec 32 := Scalar.extui v427
  let c0_i32_291 : BitVec 32 := 0#32
  let v429 : BitVec 1 := Scalar.cmpi .ne v428 c0_i32_291
  v429

def k0_off271 (v414 : BitVec 32) : Fin 3 → Nat :=
  let c0_i32_684 : BitVec 32 := 0#32
  let v948 : Index := Scalar.indexCast c0_i32_684
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v949 : Index := Scalar.indexCast v425
  let c16 : Index := 16#32
  ![0, v949.toNat, 16]
def k0_off272 (v414 : BitVec 32) : Fin 3 → Nat :=
  let c0_i32_685 : BitVec 32 := 0#32
  let v951 : Index := Scalar.indexCast c0_i32_685
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v952 : Index := Scalar.indexCast v425
  let c32 : Index := 32#32
  ![0, v952.toNat, 32]
def k0_off273 (v414 : BitVec 32) : Fin 3 → Nat :=
  let c0_i32_686 : BitVec 32 := 0#32
  let v954 : Index := Scalar.indexCast c0_i32_686
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v955 : Index := Scalar.indexCast v425
  let c48 : Index := 48#32
  ![0, v955.toNat, 48]
def k0_off274 (v414 : BitVec 32) : Fin 3 → Nat :=
  let c0_i32_687 : BitVec 32 := 0#32
  let v957 : Index := Scalar.indexCast c0_i32_687
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v958 : Index := Scalar.indexCast v425
  let c64 : Index := 64#32
  ![0, v958.toNat, 64]
def k0_off275 (v414 : BitVec 32) : Fin 3 → Nat :=
  let c0_i32_688 : BitVec 32 := 0#32
  let v960 : Index := Scalar.indexCast c0_i32_688
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v961 : Index := Scalar.indexCast v425
  let c80 : Index := 80#32
  ![0, v961.toNat, 80]
def k0_off276 (v414 : BitVec 32) : Fin 3 → Nat :=
  let c0_i32_689 : BitVec 32 := 0#32
  let v963 : Index := Scalar.indexCast c0_i32_689
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v964 : Index := Scalar.indexCast v425
  let c96 : Index := 96#32
  ![0, v964.toNat, 96]
def k0_off277 (v414 : BitVec 32) : Fin 3 → Nat :=
  let c0_i32_690 : BitVec 32 := 0#32
  let v966 : Index := Scalar.indexCast c0_i32_690
  let c8_i32_284 : BitVec 32 := 8#32
  let v415 : BitVec 32 := Scalar.remsi v414 c8_i32_284
  let v416 : BitVec 32 := Scalar.subi v414 v415
  let c4088_i32_285 : BitVec 32 := 4088#32
  let v417 : BitVec 32 := Scalar.minsi v416 c4088_i32_285
  let v418 : BitVec 32 := v417
  let v425 : BitVec 32 := Scalar.subi v414 v418
  let v967 : Index := Scalar.indexCast v425
  let c112 : Index := 112#32
  ![0, v967.toNat, 112]

def k0_chk29 (v412 : BitVec 32) (v414 : BitVec 32) : Prop :=
  (8 ∣ (k0_mult29 v414).toNat) ∧
  (∀ (k0_h16 : k0_cond16 v412 = 1#1), ∀ a, (k0_off270 v414) a + S1x1x16.size a ≤ S2x128x128.size a) ∧
  (∀ (k0_h16 : k0_cond16 v412 = 1#1), ∀ a, (k0_off271 v414) a + S1x1x16.size a ≤ S2x128x128.size a) ∧
  (∀ (k0_h16 : k0_cond16 v412 = 1#1), ∀ a, (k0_off272 v414) a + S1x1x16.size a ≤ S2x128x128.size a) ∧
  (∀ (k0_h16 : k0_cond16 v412 = 1#1), ∀ a, (k0_off273 v414) a + S1x1x16.size a ≤ S2x128x128.size a) ∧
  (∀ (k0_h16 : k0_cond16 v412 = 1#1), ∀ a, (k0_off274 v414) a + S1x1x16.size a ≤ S2x128x128.size a) ∧
  (∀ (k0_h16 : k0_cond16 v412 = 1#1), ∀ a, (k0_off275 v414) a + S1x1x16.size a ≤ S2x128x128.size a) ∧
  (∀ (k0_h16 : k0_cond16 v412 = 1#1), ∀ a, (k0_off276 v414) a + S1x1x16.size a ≤ S2x128x128.size a) ∧
  (∀ (k0_h16 : k0_cond16 v412 = 1#1), ∀ a, (k0_off277 v414) a + S1x1x16.size a ≤ S2x128x128.size a)
theorem k0_mult29_dvd : ∀ (v412 : BitVec 32) (v414 : BitVec 32) (k0_hw29 : k0_chk29 v412 v414), 8 ∣ (k0_mult29 v414).toNat := fun v412 v414 k0_hw29 => k0_hw29.1
theorem k0_off270_inb : ∀ (v412 : BitVec 32) (v414 : BitVec 32) (k0_hw29 : k0_chk29 v412 v414), ∀ (k0_h16 : k0_cond16 v412 = 1#1), ∀ a, (k0_off270 v414) a + S1x1x16.size a ≤ S2x128x128.size a := fun v412 v414 k0_hw29 k0_h16 => k0_hw29.2.1 k0_h16
theorem k0_off271_inb : ∀ (v412 : BitVec 32) (v414 : BitVec 32) (k0_hw29 : k0_chk29 v412 v414), ∀ (k0_h16 : k0_cond16 v412 = 1#1), ∀ a, (k0_off271 v414) a + S1x1x16.size a ≤ S2x128x128.size a := fun v412 v414 k0_hw29 k0_h16 => k0_hw29.2.2.1 k0_h16
theorem k0_off272_inb : ∀ (v412 : BitVec 32) (v414 : BitVec 32) (k0_hw29 : k0_chk29 v412 v414), ∀ (k0_h16 : k0_cond16 v412 = 1#1), ∀ a, (k0_off272 v414) a + S1x1x16.size a ≤ S2x128x128.size a := fun v412 v414 k0_hw29 k0_h16 => k0_hw29.2.2.2.1 k0_h16
theorem k0_off273_inb : ∀ (v412 : BitVec 32) (v414 : BitVec 32) (k0_hw29 : k0_chk29 v412 v414), ∀ (k0_h16 : k0_cond16 v412 = 1#1), ∀ a, (k0_off273 v414) a + S1x1x16.size a ≤ S2x128x128.size a := fun v412 v414 k0_hw29 k0_h16 => k0_hw29.2.2.2.2.1 k0_h16
theorem k0_off274_inb : ∀ (v412 : BitVec 32) (v414 : BitVec 32) (k0_hw29 : k0_chk29 v412 v414), ∀ (k0_h16 : k0_cond16 v412 = 1#1), ∀ a, (k0_off274 v414) a + S1x1x16.size a ≤ S2x128x128.size a := fun v412 v414 k0_hw29 k0_h16 => k0_hw29.2.2.2.2.2.1 k0_h16
theorem k0_off275_inb : ∀ (v412 : BitVec 32) (v414 : BitVec 32) (k0_hw29 : k0_chk29 v412 v414), ∀ (k0_h16 : k0_cond16 v412 = 1#1), ∀ a, (k0_off275 v414) a + S1x1x16.size a ≤ S2x128x128.size a := fun v412 v414 k0_hw29 k0_h16 => k0_hw29.2.2.2.2.2.2.1 k0_h16
theorem k0_off276_inb : ∀ (v412 : BitVec 32) (v414 : BitVec 32) (k0_hw29 : k0_chk29 v412 v414), ∀ (k0_h16 : k0_cond16 v412 = 1#1), ∀ a, (k0_off276 v414) a + S1x1x16.size a ≤ S2x128x128.size a := fun v412 v414 k0_hw29 k0_h16 => k0_hw29.2.2.2.2.2.2.2.1 k0_h16
theorem k0_off277_inb : ∀ (v412 : BitVec 32) (v414 : BitVec 32) (k0_hw29 : k0_chk29 v412 v414), ∀ (k0_h16 : k0_cond16 v412 = 1#1), ∀ a, (k0_off277 v414) a + S1x1x16.size a ≤ S2x128x128.size a := fun v412 v414 k0_hw29 k0_h16 => k0_hw29.2.2.2.2.2.2.2.2 k0_h16

@[reducible] def k0_t18_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off278 (k0_t18 : Fin k0_t18_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t18
  let v971 : Index := Scalar.indexCast arg30
  let c0_698 : Index := 0#32
  ![0, v971.toNat, 0]
def k0_off279 (k0_t18 : Fin k0_t18_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t18
  let v974 : Index := Scalar.indexCast arg30
  let c16_700 : Index := 16#32
  ![0, v974.toNat, 16]
def k0_off280 (k0_t18 : Fin k0_t18_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t18
  let v977 : Index := Scalar.indexCast arg30
  let c32_702 : Index := 32#32
  ![0, v977.toNat, 32]
def k0_off281 (k0_t18 : Fin k0_t18_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t18
  let v980 : Index := Scalar.indexCast arg30
  let c48_704 : Index := 48#32
  ![0, v980.toNat, 48]
def k0_off282 (k0_t18 : Fin k0_t18_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t18
  let v983 : Index := Scalar.indexCast arg30
  let c64_706 : Index := 64#32
  ![0, v983.toNat, 64]
def k0_off283 (k0_t18 : Fin k0_t18_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t18
  let v986 : Index := Scalar.indexCast arg30
  let c80_708 : Index := 80#32
  ![0, v986.toNat, 80]
def k0_off284 (k0_t18 : Fin k0_t18_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t18
  let v989 : Index := Scalar.indexCast arg30
  let c96_710 : Index := 96#32
  ![0, v989.toNat, 96]
def k0_off285 (k0_t18 : Fin k0_t18_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t18
  let v992 : Index := Scalar.indexCast arg30
  let c112_712 : Index := 112#32
  ![0, v992.toNat, 112]
def k0_off286 (v420 : BitVec 32) (k0_t18 : Fin k0_t18_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v994 : BitVec 32 := Scalar.addi arg30 v426
  let v996 : Index := Scalar.indexCast v994
  let c0_714 : Index := 0#32
  ![0, v996.toNat, 0]
def k0_off287 (v420 : BitVec 32) (k0_t18 : Fin k0_t18_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v998 : BitVec 32 := Scalar.addi arg30 v426
  let v1000 : Index := Scalar.indexCast v998
  let c16_716 : Index := 16#32
  ![0, v1000.toNat, 16]
def k0_off288 (v420 : BitVec 32) (k0_t18 : Fin k0_t18_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1002 : BitVec 32 := Scalar.addi arg30 v426
  let v1004 : Index := Scalar.indexCast v1002
  let c32_718 : Index := 32#32
  ![0, v1004.toNat, 32]
def k0_off289 (v420 : BitVec 32) (k0_t18 : Fin k0_t18_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1006 : BitVec 32 := Scalar.addi arg30 v426
  let v1008 : Index := Scalar.indexCast v1006
  let c48_720 : Index := 48#32
  ![0, v1008.toNat, 48]
def k0_off290 (v420 : BitVec 32) (k0_t18 : Fin k0_t18_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1010 : BitVec 32 := Scalar.addi arg30 v426
  let v1012 : Index := Scalar.indexCast v1010
  let c64_722 : Index := 64#32
  ![0, v1012.toNat, 64]
def k0_off291 (v420 : BitVec 32) (k0_t18 : Fin k0_t18_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1014 : BitVec 32 := Scalar.addi arg30 v426
  let v1016 : Index := Scalar.indexCast v1014
  let c80_724 : Index := 80#32
  ![0, v1016.toNat, 80]
def k0_off292 (v420 : BitVec 32) (k0_t18 : Fin k0_t18_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1018 : BitVec 32 := Scalar.addi arg30 v426
  let v1020 : Index := Scalar.indexCast v1018
  let c96_726 : Index := 96#32
  ![0, v1020.toNat, 96]
def k0_off293 (v420 : BitVec 32) (k0_t18 : Fin k0_t18_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t18
  let c8_i32_287 : BitVec 32 := 8#32
  let v421 : BitVec 32 := Scalar.remsi v420 c8_i32_287
  let v422 : BitVec 32 := Scalar.subi v420 v421
  let c3960_i32_288 : BitVec 32 := 3960#32
  let v423 : BitVec 32 := Scalar.minsi v422 c3960_i32_288
  let v424 : BitVec 32 := v423
  let v426 : BitVec 32 := Scalar.subi v420 v424
  let v1022 : BitVec 32 := Scalar.addi arg30 v426
  let v1024 : Index := Scalar.indexCast v1022
  let c112_728 : Index := 112#32
  ![0, v1024.toNat, 112]

def k0_chk30 (v412 : BitVec 32) (v420 : BitVec 32) : Prop :=
  (8 ∣ (k0_mult30 v420).toNat) ∧
  (∀ k0_t18 : Fin k0_t18_loop.trips, ∀ (k0_h16 : k0_cond16 v412 = 1#1), ∀ a, (k0_off286 v420 k0_t18) a + S1x1x16.size a ≤ S2x136x128.size a) ∧
  (∀ k0_t18 : Fin k0_t18_loop.trips, ∀ (k0_h16 : k0_cond16 v412 = 1#1), ∀ a, (k0_off287 v420 k0_t18) a + S1x1x16.size a ≤ S2x136x128.size a) ∧
  (∀ k0_t18 : Fin k0_t18_loop.trips, ∀ (k0_h16 : k0_cond16 v412 = 1#1), ∀ a, (k0_off288 v420 k0_t18) a + S1x1x16.size a ≤ S2x136x128.size a) ∧
  (∀ k0_t18 : Fin k0_t18_loop.trips, ∀ (k0_h16 : k0_cond16 v412 = 1#1), ∀ a, (k0_off289 v420 k0_t18) a + S1x1x16.size a ≤ S2x136x128.size a) ∧
  (∀ k0_t18 : Fin k0_t18_loop.trips, ∀ (k0_h16 : k0_cond16 v412 = 1#1), ∀ a, (k0_off290 v420 k0_t18) a + S1x1x16.size a ≤ S2x136x128.size a) ∧
  (∀ k0_t18 : Fin k0_t18_loop.trips, ∀ (k0_h16 : k0_cond16 v412 = 1#1), ∀ a, (k0_off291 v420 k0_t18) a + S1x1x16.size a ≤ S2x136x128.size a) ∧
  (∀ k0_t18 : Fin k0_t18_loop.trips, ∀ (k0_h16 : k0_cond16 v412 = 1#1), ∀ a, (k0_off292 v420 k0_t18) a + S1x1x16.size a ≤ S2x136x128.size a) ∧
  (∀ k0_t18 : Fin k0_t18_loop.trips, ∀ (k0_h16 : k0_cond16 v412 = 1#1), ∀ a, (k0_off293 v420 k0_t18) a + S1x1x16.size a ≤ S2x136x128.size a)
theorem k0_mult30_dvd : ∀ (v412 : BitVec 32) (v420 : BitVec 32) (k0_hw30 : k0_chk30 v412 v420), 8 ∣ (k0_mult30 v420).toNat := fun v412 v420 k0_hw30 => k0_hw30.1
theorem k0_off286_inb : ∀ (v412 : BitVec 32) (v420 : BitVec 32) (k0_hw30 : k0_chk30 v412 v420) (k0_t18 : Fin k0_t18_loop.trips), ∀ (k0_h16 : k0_cond16 v412 = 1#1), ∀ a, (k0_off286 v420 k0_t18) a + S1x1x16.size a ≤ S2x136x128.size a := fun v412 v420 k0_hw30 k0_t18 k0_h16 => k0_hw30.2.1 k0_t18 k0_h16
theorem k0_off287_inb : ∀ (v412 : BitVec 32) (v420 : BitVec 32) (k0_hw30 : k0_chk30 v412 v420) (k0_t18 : Fin k0_t18_loop.trips), ∀ (k0_h16 : k0_cond16 v412 = 1#1), ∀ a, (k0_off287 v420 k0_t18) a + S1x1x16.size a ≤ S2x136x128.size a := fun v412 v420 k0_hw30 k0_t18 k0_h16 => k0_hw30.2.2.1 k0_t18 k0_h16
theorem k0_off288_inb : ∀ (v412 : BitVec 32) (v420 : BitVec 32) (k0_hw30 : k0_chk30 v412 v420) (k0_t18 : Fin k0_t18_loop.trips), ∀ (k0_h16 : k0_cond16 v412 = 1#1), ∀ a, (k0_off288 v420 k0_t18) a + S1x1x16.size a ≤ S2x136x128.size a := fun v412 v420 k0_hw30 k0_t18 k0_h16 => k0_hw30.2.2.2.1 k0_t18 k0_h16
theorem k0_off289_inb : ∀ (v412 : BitVec 32) (v420 : BitVec 32) (k0_hw30 : k0_chk30 v412 v420) (k0_t18 : Fin k0_t18_loop.trips), ∀ (k0_h16 : k0_cond16 v412 = 1#1), ∀ a, (k0_off289 v420 k0_t18) a + S1x1x16.size a ≤ S2x136x128.size a := fun v412 v420 k0_hw30 k0_t18 k0_h16 => k0_hw30.2.2.2.2.1 k0_t18 k0_h16
theorem k0_off290_inb : ∀ (v412 : BitVec 32) (v420 : BitVec 32) (k0_hw30 : k0_chk30 v412 v420) (k0_t18 : Fin k0_t18_loop.trips), ∀ (k0_h16 : k0_cond16 v412 = 1#1), ∀ a, (k0_off290 v420 k0_t18) a + S1x1x16.size a ≤ S2x136x128.size a := fun v412 v420 k0_hw30 k0_t18 k0_h16 => k0_hw30.2.2.2.2.2.1 k0_t18 k0_h16
theorem k0_off291_inb : ∀ (v412 : BitVec 32) (v420 : BitVec 32) (k0_hw30 : k0_chk30 v412 v420) (k0_t18 : Fin k0_t18_loop.trips), ∀ (k0_h16 : k0_cond16 v412 = 1#1), ∀ a, (k0_off291 v420 k0_t18) a + S1x1x16.size a ≤ S2x136x128.size a := fun v412 v420 k0_hw30 k0_t18 k0_h16 => k0_hw30.2.2.2.2.2.2.1 k0_t18 k0_h16
theorem k0_off292_inb : ∀ (v412 : BitVec 32) (v420 : BitVec 32) (k0_hw30 : k0_chk30 v412 v420) (k0_t18 : Fin k0_t18_loop.trips), ∀ (k0_h16 : k0_cond16 v412 = 1#1), ∀ a, (k0_off292 v420 k0_t18) a + S1x1x16.size a ≤ S2x136x128.size a := fun v412 v420 k0_hw30 k0_t18 k0_h16 => k0_hw30.2.2.2.2.2.2.2.1 k0_t18 k0_h16
theorem k0_off293_inb : ∀ (v412 : BitVec 32) (v420 : BitVec 32) (k0_hw30 : k0_chk30 v412 v420) (k0_t18 : Fin k0_t18_loop.trips), ∀ (k0_h16 : k0_cond16 v412 = 1#1), ∀ a, (k0_off293 v420 k0_t18) a + S1x1x16.size a ≤ S2x136x128.size a := fun v412 v420 k0_hw30 k0_t18 k0_h16 => k0_hw30.2.2.2.2.2.2.2.2 k0_t18 k0_h16

@[reducible] def k0_t19_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off294 (k0_t19 : Fin k0_t19_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t19
  let v943 : Index := Scalar.indexCast arg30
  let c0 : Index := 0#32
  ![0, v943.toNat, 0]
def k0_off295 (k0_t19 : Fin k0_t19_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t19
  let v946 : Index := Scalar.indexCast arg30
  let c16 : Index := 16#32
  ![0, v946.toNat, 16]
def k0_off296 (k0_t19 : Fin k0_t19_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t19
  let v949 : Index := Scalar.indexCast arg30
  let c32 : Index := 32#32
  ![0, v949.toNat, 32]
def k0_off297 (k0_t19 : Fin k0_t19_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t19
  let v952 : Index := Scalar.indexCast arg30
  let c48 : Index := 48#32
  ![0, v952.toNat, 48]
def k0_off298 (k0_t19 : Fin k0_t19_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t19
  let v955 : Index := Scalar.indexCast arg30
  let c64 : Index := 64#32
  ![0, v955.toNat, 64]
def k0_off299 (k0_t19 : Fin k0_t19_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t19
  let v958 : Index := Scalar.indexCast arg30
  let c80 : Index := 80#32
  ![0, v958.toNat, 80]
def k0_off300 (k0_t19 : Fin k0_t19_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t19
  let v961 : Index := Scalar.indexCast arg30
  let c96 : Index := 96#32
  ![0, v961.toNat, 96]
def k0_off301 (k0_t19 : Fin k0_t19_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t19
  let v964 : Index := Scalar.indexCast arg30
  let c112 : Index := 112#32
  ![0, v964.toNat, 112]
def k0_off302 (k0_t19 : Fin k0_t19_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t19
  let v991 : Index := Scalar.indexCast arg30
  let c0_708 : Index := 0#32
  ![0, v991.toNat, 0]
def k0_off303 (k0_t19 : Fin k0_t19_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t19
  let v994 : Index := Scalar.indexCast arg30
  let c16_710 : Index := 16#32
  ![0, v994.toNat, 16]
def k0_off304 (k0_t19 : Fin k0_t19_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t19
  let v997 : Index := Scalar.indexCast arg30
  let c32_712 : Index := 32#32
  ![0, v997.toNat, 32]
def k0_off305 (k0_t19 : Fin k0_t19_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t19
  let v1000 : Index := Scalar.indexCast arg30
  let c48_714 : Index := 48#32
  ![0, v1000.toNat, 48]
def k0_off306 (k0_t19 : Fin k0_t19_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t19
  let v1003 : Index := Scalar.indexCast arg30
  let c64_716 : Index := 64#32
  ![0, v1003.toNat, 64]
def k0_off307 (k0_t19 : Fin k0_t19_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t19
  let v1006 : Index := Scalar.indexCast arg30
  let c80_718 : Index := 80#32
  ![0, v1006.toNat, 80]
def k0_off308 (k0_t19 : Fin k0_t19_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t19
  let v1009 : Index := Scalar.indexCast arg30
  let c96_720 : Index := 96#32
  ![0, v1009.toNat, 96]
def k0_off309 (k0_t19 : Fin k0_t19_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t19
  let v1012 : Index := Scalar.indexCast arg30
  let c112_722 : Index := 112#32
  ![0, v1012.toNat, 112]
def k0_off310 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c768_i32_292 : BitVec 32 := 768#32
  let v431 : BitVec 32 := Scalar.addi v22 c768_i32_292
  let c0_i32_296 : BitVec 32 := 0#32
  ![v431.toNat, 0]
def k0_mult31 (v452 : BitVec 32) : BitVec 32 :=
  let c8_i32_315 : BitVec 32 := 8#32
  let v453 : BitVec 32 := Scalar.remsi v452 c8_i32_315
  let v454 : BitVec 32 := Scalar.subi v452 v453
  let c4088_i32_316 : BitVec 32 := 4088#32
  let v455 : BitVec 32 := Scalar.minsi v454 c4088_i32_316
  v455

def k0_mult32 (v458 : BitVec 32) : BitVec 32 :=
  let c8_i32_318 : BitVec 32 := 8#32
  let v459 : BitVec 32 := Scalar.remsi v458 c8_i32_318
  let v460 : BitVec 32 := Scalar.subi v458 v459
  let c3960_i32_319 : BitVec 32 := 3960#32
  let v461 : BitVec 32 := Scalar.minsi v460 c3960_i32_319
  v461

def k0_off311 (v452 : BitVec 32) : Fin 2 → Nat :=
  let c8_i32_315 : BitVec 32 := 8#32
  let v453 : BitVec 32 := Scalar.remsi v452 c8_i32_315
  let v454 : BitVec 32 := Scalar.subi v452 v453
  let c4088_i32_316 : BitVec 32 := 4088#32
  let v455 : BitVec 32 := Scalar.minsi v454 c4088_i32_316
  let v456 : BitVec 32 := v455
  let c0_i32_660 : BitVec 32 := 0#32
  ![v456.toNat, 0]
def k0_cond17 (v450 : BitVec 32) : BitVec 1 :=
  let c0_i32_320 : BitVec 32 := 0#32
  let v463 : BitVec 1 := Scalar.cmpi .eq v450 c0_i32_320
  let v464 : BitVec 32 := Scalar.extui v463
  let c0_i32_322 : BitVec 32 := 0#32
  let v465 : BitVec 1 := Scalar.cmpi .ne v464 c0_i32_322
  v465

def k0_chk31 (v450 : BitVec 32) (v452 : BitVec 32) : Prop :=
  (8 ∣ (k0_mult31 v452).toNat) ∧
  (∀ (k0_h17 : k0_cond17 v450 = 1#1), ∀ a, (k0_off311 v452) a + S8x128.size a ≤ S4096x128.size a)
theorem k0_mult31_dvd : ∀ (v450 : BitVec 32) (v452 : BitVec 32) (k0_hw31 : k0_chk31 v450 v452), 8 ∣ (k0_mult31 v452).toNat := fun v450 v452 k0_hw31 => k0_hw31.1
theorem k0_off311_inb : ∀ (v450 : BitVec 32) (v452 : BitVec 32) (k0_hw31 : k0_chk31 v450 v452), ∀ (k0_h17 : k0_cond17 v450 = 1#1), ∀ a, (k0_off311 v452) a + S8x128.size a ≤ S4096x128.size a := fun v450 v452 k0_hw31 k0_h17 => k0_hw31.2 k0_h17

def k0_off312 (v458 : BitVec 32) : Fin 2 → Nat :=
  let c8_i32_318 : BitVec 32 := 8#32
  let v459 : BitVec 32 := Scalar.remsi v458 c8_i32_318
  let v460 : BitVec 32 := Scalar.subi v458 v459
  let c3960_i32_319 : BitVec 32 := 3960#32
  let v461 : BitVec 32 := Scalar.minsi v460 c3960_i32_319
  let v462 : BitVec 32 := v461
  let c0_i32_669 : BitVec 32 := 0#32
  ![v462.toNat, 0]

def k0_chk32 (v450 : BitVec 32) (v458 : BitVec 32) : Prop :=
  (8 ∣ (k0_mult32 v458).toNat) ∧
  (∀ (k0_h17 : k0_cond17 v450 = 1#1), ∀ a, (k0_off312 v458) a + S136x128.size a ≤ S4096x128.size a)
theorem k0_mult32_dvd : ∀ (v450 : BitVec 32) (v458 : BitVec 32) (k0_hw32 : k0_chk32 v450 v458), 8 ∣ (k0_mult32 v458).toNat := fun v450 v458 k0_hw32 => k0_hw32.1
theorem k0_off312_inb : ∀ (v450 : BitVec 32) (v458 : BitVec 32) (k0_hw32 : k0_chk32 v450 v458), ∀ (k0_h17 : k0_cond17 v450 = 1#1), ∀ a, (k0_off312 v458) a + S136x128.size a ≤ S4096x128.size a := fun v450 v458 k0_hw32 k0_h17 => k0_hw32.2 k0_h17

def k0_mult33 (v470 : BitVec 32) : BitVec 32 :=
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  v473

def k0_mult34 (v476 : BitVec 32) : BitVec 32 :=
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  v479

def k0_off313 (v470 : BitVec 32) : Fin 3 → Nat :=
  let c1_i32_683 : BitVec 32 := 1#32
  let v945 : Index := Scalar.indexCast c1_i32_683
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v946 : Index := Scalar.indexCast v481
  let c0 : Index := 0#32
  ![1, v946.toNat, 0]
def k0_cond18 (v468 : BitVec 32) : BitVec 1 :=
  let c0_i32_330 : BitVec 32 := 0#32
  let v483 : BitVec 1 := Scalar.cmpi .eq v468 c0_i32_330
  let v484 : BitVec 32 := Scalar.extui v483
  let c0_i32_332 : BitVec 32 := 0#32
  let v485 : BitVec 1 := Scalar.cmpi .ne v484 c0_i32_332
  v485

def k0_off314 (v470 : BitVec 32) : Fin 3 → Nat :=
  let c1_i32_684 : BitVec 32 := 1#32
  let v948 : Index := Scalar.indexCast c1_i32_684
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v949 : Index := Scalar.indexCast v481
  let c16 : Index := 16#32
  ![1, v949.toNat, 16]
def k0_off315 (v470 : BitVec 32) : Fin 3 → Nat :=
  let c1_i32_685 : BitVec 32 := 1#32
  let v951 : Index := Scalar.indexCast c1_i32_685
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v952 : Index := Scalar.indexCast v481
  let c32 : Index := 32#32
  ![1, v952.toNat, 32]
def k0_off316 (v470 : BitVec 32) : Fin 3 → Nat :=
  let c1_i32_686 : BitVec 32 := 1#32
  let v954 : Index := Scalar.indexCast c1_i32_686
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v955 : Index := Scalar.indexCast v481
  let c48 : Index := 48#32
  ![1, v955.toNat, 48]
def k0_off317 (v470 : BitVec 32) : Fin 3 → Nat :=
  let c1_i32_687 : BitVec 32 := 1#32
  let v957 : Index := Scalar.indexCast c1_i32_687
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v958 : Index := Scalar.indexCast v481
  let c64 : Index := 64#32
  ![1, v958.toNat, 64]
def k0_off318 (v470 : BitVec 32) : Fin 3 → Nat :=
  let c1_i32_688 : BitVec 32 := 1#32
  let v960 : Index := Scalar.indexCast c1_i32_688
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v961 : Index := Scalar.indexCast v481
  let c80 : Index := 80#32
  ![1, v961.toNat, 80]
def k0_off319 (v470 : BitVec 32) : Fin 3 → Nat :=
  let c1_i32_689 : BitVec 32 := 1#32
  let v963 : Index := Scalar.indexCast c1_i32_689
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v964 : Index := Scalar.indexCast v481
  let c96 : Index := 96#32
  ![1, v964.toNat, 96]
def k0_off320 (v470 : BitVec 32) : Fin 3 → Nat :=
  let c1_i32_690 : BitVec 32 := 1#32
  let v966 : Index := Scalar.indexCast c1_i32_690
  let c8_i32_325 : BitVec 32 := 8#32
  let v471 : BitVec 32 := Scalar.remsi v470 c8_i32_325
  let v472 : BitVec 32 := Scalar.subi v470 v471
  let c4088_i32_326 : BitVec 32 := 4088#32
  let v473 : BitVec 32 := Scalar.minsi v472 c4088_i32_326
  let v474 : BitVec 32 := v473
  let v481 : BitVec 32 := Scalar.subi v470 v474
  let v967 : Index := Scalar.indexCast v481
  let c112 : Index := 112#32
  ![1, v967.toNat, 112]

def k0_chk33 (v468 : BitVec 32) (v470 : BitVec 32) : Prop :=
  (8 ∣ (k0_mult33 v470).toNat) ∧
  (∀ (k0_h18 : k0_cond18 v468 = 1#1), ∀ a, (k0_off313 v470) a + S1x1x16.size a ≤ S2x128x128.size a) ∧
  (∀ (k0_h18 : k0_cond18 v468 = 1#1), ∀ a, (k0_off314 v470) a + S1x1x16.size a ≤ S2x128x128.size a) ∧
  (∀ (k0_h18 : k0_cond18 v468 = 1#1), ∀ a, (k0_off315 v470) a + S1x1x16.size a ≤ S2x128x128.size a) ∧
  (∀ (k0_h18 : k0_cond18 v468 = 1#1), ∀ a, (k0_off316 v470) a + S1x1x16.size a ≤ S2x128x128.size a) ∧
  (∀ (k0_h18 : k0_cond18 v468 = 1#1), ∀ a, (k0_off317 v470) a + S1x1x16.size a ≤ S2x128x128.size a) ∧
  (∀ (k0_h18 : k0_cond18 v468 = 1#1), ∀ a, (k0_off318 v470) a + S1x1x16.size a ≤ S2x128x128.size a) ∧
  (∀ (k0_h18 : k0_cond18 v468 = 1#1), ∀ a, (k0_off319 v470) a + S1x1x16.size a ≤ S2x128x128.size a) ∧
  (∀ (k0_h18 : k0_cond18 v468 = 1#1), ∀ a, (k0_off320 v470) a + S1x1x16.size a ≤ S2x128x128.size a)
theorem k0_mult33_dvd : ∀ (v468 : BitVec 32) (v470 : BitVec 32) (k0_hw33 : k0_chk33 v468 v470), 8 ∣ (k0_mult33 v470).toNat := fun v468 v470 k0_hw33 => k0_hw33.1
theorem k0_off313_inb : ∀ (v468 : BitVec 32) (v470 : BitVec 32) (k0_hw33 : k0_chk33 v468 v470), ∀ (k0_h18 : k0_cond18 v468 = 1#1), ∀ a, (k0_off313 v470) a + S1x1x16.size a ≤ S2x128x128.size a := fun v468 v470 k0_hw33 k0_h18 => k0_hw33.2.1 k0_h18
theorem k0_off314_inb : ∀ (v468 : BitVec 32) (v470 : BitVec 32) (k0_hw33 : k0_chk33 v468 v470), ∀ (k0_h18 : k0_cond18 v468 = 1#1), ∀ a, (k0_off314 v470) a + S1x1x16.size a ≤ S2x128x128.size a := fun v468 v470 k0_hw33 k0_h18 => k0_hw33.2.2.1 k0_h18
theorem k0_off315_inb : ∀ (v468 : BitVec 32) (v470 : BitVec 32) (k0_hw33 : k0_chk33 v468 v470), ∀ (k0_h18 : k0_cond18 v468 = 1#1), ∀ a, (k0_off315 v470) a + S1x1x16.size a ≤ S2x128x128.size a := fun v468 v470 k0_hw33 k0_h18 => k0_hw33.2.2.2.1 k0_h18
theorem k0_off316_inb : ∀ (v468 : BitVec 32) (v470 : BitVec 32) (k0_hw33 : k0_chk33 v468 v470), ∀ (k0_h18 : k0_cond18 v468 = 1#1), ∀ a, (k0_off316 v470) a + S1x1x16.size a ≤ S2x128x128.size a := fun v468 v470 k0_hw33 k0_h18 => k0_hw33.2.2.2.2.1 k0_h18
theorem k0_off317_inb : ∀ (v468 : BitVec 32) (v470 : BitVec 32) (k0_hw33 : k0_chk33 v468 v470), ∀ (k0_h18 : k0_cond18 v468 = 1#1), ∀ a, (k0_off317 v470) a + S1x1x16.size a ≤ S2x128x128.size a := fun v468 v470 k0_hw33 k0_h18 => k0_hw33.2.2.2.2.2.1 k0_h18
theorem k0_off318_inb : ∀ (v468 : BitVec 32) (v470 : BitVec 32) (k0_hw33 : k0_chk33 v468 v470), ∀ (k0_h18 : k0_cond18 v468 = 1#1), ∀ a, (k0_off318 v470) a + S1x1x16.size a ≤ S2x128x128.size a := fun v468 v470 k0_hw33 k0_h18 => k0_hw33.2.2.2.2.2.2.1 k0_h18
theorem k0_off319_inb : ∀ (v468 : BitVec 32) (v470 : BitVec 32) (k0_hw33 : k0_chk33 v468 v470), ∀ (k0_h18 : k0_cond18 v468 = 1#1), ∀ a, (k0_off319 v470) a + S1x1x16.size a ≤ S2x128x128.size a := fun v468 v470 k0_hw33 k0_h18 => k0_hw33.2.2.2.2.2.2.2.1 k0_h18
theorem k0_off320_inb : ∀ (v468 : BitVec 32) (v470 : BitVec 32) (k0_hw33 : k0_chk33 v468 v470), ∀ (k0_h18 : k0_cond18 v468 = 1#1), ∀ a, (k0_off320 v470) a + S1x1x16.size a ≤ S2x128x128.size a := fun v468 v470 k0_hw33 k0_h18 => k0_hw33.2.2.2.2.2.2.2.2 k0_h18

@[reducible] def k0_t20_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off321 (k0_t20 : Fin k0_t20_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t20
  let v971 : Index := Scalar.indexCast arg30
  let c0_698 : Index := 0#32
  ![1, v971.toNat, 0]
def k0_off322 (k0_t20 : Fin k0_t20_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t20
  let v974 : Index := Scalar.indexCast arg30
  let c16_700 : Index := 16#32
  ![1, v974.toNat, 16]
def k0_off323 (k0_t20 : Fin k0_t20_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t20
  let v977 : Index := Scalar.indexCast arg30
  let c32_702 : Index := 32#32
  ![1, v977.toNat, 32]
def k0_off324 (k0_t20 : Fin k0_t20_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t20
  let v980 : Index := Scalar.indexCast arg30
  let c48_704 : Index := 48#32
  ![1, v980.toNat, 48]
def k0_off325 (k0_t20 : Fin k0_t20_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t20
  let v983 : Index := Scalar.indexCast arg30
  let c64_706 : Index := 64#32
  ![1, v983.toNat, 64]
def k0_off326 (k0_t20 : Fin k0_t20_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t20
  let v986 : Index := Scalar.indexCast arg30
  let c80_708 : Index := 80#32
  ![1, v986.toNat, 80]
def k0_off327 (k0_t20 : Fin k0_t20_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t20
  let v989 : Index := Scalar.indexCast arg30
  let c96_710 : Index := 96#32
  ![1, v989.toNat, 96]
def k0_off328 (k0_t20 : Fin k0_t20_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t20
  let v992 : Index := Scalar.indexCast arg30
  let c112_712 : Index := 112#32
  ![1, v992.toNat, 112]
def k0_off329 (v476 : BitVec 32) (k0_t20 : Fin k0_t20_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v994 : BitVec 32 := Scalar.addi arg30 v482
  let v996 : Index := Scalar.indexCast v994
  let c0_714 : Index := 0#32
  ![1, v996.toNat, 0]
def k0_off330 (v476 : BitVec 32) (k0_t20 : Fin k0_t20_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v998 : BitVec 32 := Scalar.addi arg30 v482
  let v1000 : Index := Scalar.indexCast v998
  let c16_716 : Index := 16#32
  ![1, v1000.toNat, 16]
def k0_off331 (v476 : BitVec 32) (k0_t20 : Fin k0_t20_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1002 : BitVec 32 := Scalar.addi arg30 v482
  let v1004 : Index := Scalar.indexCast v1002
  let c32_718 : Index := 32#32
  ![1, v1004.toNat, 32]
def k0_off332 (v476 : BitVec 32) (k0_t20 : Fin k0_t20_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1006 : BitVec 32 := Scalar.addi arg30 v482
  let v1008 : Index := Scalar.indexCast v1006
  let c48_720 : Index := 48#32
  ![1, v1008.toNat, 48]
def k0_off333 (v476 : BitVec 32) (k0_t20 : Fin k0_t20_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1010 : BitVec 32 := Scalar.addi arg30 v482
  let v1012 : Index := Scalar.indexCast v1010
  let c64_722 : Index := 64#32
  ![1, v1012.toNat, 64]
def k0_off334 (v476 : BitVec 32) (k0_t20 : Fin k0_t20_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1014 : BitVec 32 := Scalar.addi arg30 v482
  let v1016 : Index := Scalar.indexCast v1014
  let c80_724 : Index := 80#32
  ![1, v1016.toNat, 80]
def k0_off335 (v476 : BitVec 32) (k0_t20 : Fin k0_t20_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1018 : BitVec 32 := Scalar.addi arg30 v482
  let v1020 : Index := Scalar.indexCast v1018
  let c96_726 : Index := 96#32
  ![1, v1020.toNat, 96]
def k0_off336 (v476 : BitVec 32) (k0_t20 : Fin k0_t20_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t20
  let c8_i32_328 : BitVec 32 := 8#32
  let v477 : BitVec 32 := Scalar.remsi v476 c8_i32_328
  let v478 : BitVec 32 := Scalar.subi v476 v477
  let c3960_i32_329 : BitVec 32 := 3960#32
  let v479 : BitVec 32 := Scalar.minsi v478 c3960_i32_329
  let v480 : BitVec 32 := v479
  let v482 : BitVec 32 := Scalar.subi v476 v480
  let v1022 : BitVec 32 := Scalar.addi arg30 v482
  let v1024 : Index := Scalar.indexCast v1022
  let c112_728 : Index := 112#32
  ![1, v1024.toNat, 112]

def k0_chk34 (v468 : BitVec 32) (v476 : BitVec 32) : Prop :=
  (8 ∣ (k0_mult34 v476).toNat) ∧
  (∀ k0_t20 : Fin k0_t20_loop.trips, ∀ (k0_h18 : k0_cond18 v468 = 1#1), ∀ a, (k0_off329 v476 k0_t20) a + S1x1x16.size a ≤ S2x136x128.size a) ∧
  (∀ k0_t20 : Fin k0_t20_loop.trips, ∀ (k0_h18 : k0_cond18 v468 = 1#1), ∀ a, (k0_off330 v476 k0_t20) a + S1x1x16.size a ≤ S2x136x128.size a) ∧
  (∀ k0_t20 : Fin k0_t20_loop.trips, ∀ (k0_h18 : k0_cond18 v468 = 1#1), ∀ a, (k0_off331 v476 k0_t20) a + S1x1x16.size a ≤ S2x136x128.size a) ∧
  (∀ k0_t20 : Fin k0_t20_loop.trips, ∀ (k0_h18 : k0_cond18 v468 = 1#1), ∀ a, (k0_off332 v476 k0_t20) a + S1x1x16.size a ≤ S2x136x128.size a) ∧
  (∀ k0_t20 : Fin k0_t20_loop.trips, ∀ (k0_h18 : k0_cond18 v468 = 1#1), ∀ a, (k0_off333 v476 k0_t20) a + S1x1x16.size a ≤ S2x136x128.size a) ∧
  (∀ k0_t20 : Fin k0_t20_loop.trips, ∀ (k0_h18 : k0_cond18 v468 = 1#1), ∀ a, (k0_off334 v476 k0_t20) a + S1x1x16.size a ≤ S2x136x128.size a) ∧
  (∀ k0_t20 : Fin k0_t20_loop.trips, ∀ (k0_h18 : k0_cond18 v468 = 1#1), ∀ a, (k0_off335 v476 k0_t20) a + S1x1x16.size a ≤ S2x136x128.size a) ∧
  (∀ k0_t20 : Fin k0_t20_loop.trips, ∀ (k0_h18 : k0_cond18 v468 = 1#1), ∀ a, (k0_off336 v476 k0_t20) a + S1x1x16.size a ≤ S2x136x128.size a)
theorem k0_mult34_dvd : ∀ (v468 : BitVec 32) (v476 : BitVec 32) (k0_hw34 : k0_chk34 v468 v476), 8 ∣ (k0_mult34 v476).toNat := fun v468 v476 k0_hw34 => k0_hw34.1
theorem k0_off329_inb : ∀ (v468 : BitVec 32) (v476 : BitVec 32) (k0_hw34 : k0_chk34 v468 v476) (k0_t20 : Fin k0_t20_loop.trips), ∀ (k0_h18 : k0_cond18 v468 = 1#1), ∀ a, (k0_off329 v476 k0_t20) a + S1x1x16.size a ≤ S2x136x128.size a := fun v468 v476 k0_hw34 k0_t20 k0_h18 => k0_hw34.2.1 k0_t20 k0_h18
theorem k0_off330_inb : ∀ (v468 : BitVec 32) (v476 : BitVec 32) (k0_hw34 : k0_chk34 v468 v476) (k0_t20 : Fin k0_t20_loop.trips), ∀ (k0_h18 : k0_cond18 v468 = 1#1), ∀ a, (k0_off330 v476 k0_t20) a + S1x1x16.size a ≤ S2x136x128.size a := fun v468 v476 k0_hw34 k0_t20 k0_h18 => k0_hw34.2.2.1 k0_t20 k0_h18
theorem k0_off331_inb : ∀ (v468 : BitVec 32) (v476 : BitVec 32) (k0_hw34 : k0_chk34 v468 v476) (k0_t20 : Fin k0_t20_loop.trips), ∀ (k0_h18 : k0_cond18 v468 = 1#1), ∀ a, (k0_off331 v476 k0_t20) a + S1x1x16.size a ≤ S2x136x128.size a := fun v468 v476 k0_hw34 k0_t20 k0_h18 => k0_hw34.2.2.2.1 k0_t20 k0_h18
theorem k0_off332_inb : ∀ (v468 : BitVec 32) (v476 : BitVec 32) (k0_hw34 : k0_chk34 v468 v476) (k0_t20 : Fin k0_t20_loop.trips), ∀ (k0_h18 : k0_cond18 v468 = 1#1), ∀ a, (k0_off332 v476 k0_t20) a + S1x1x16.size a ≤ S2x136x128.size a := fun v468 v476 k0_hw34 k0_t20 k0_h18 => k0_hw34.2.2.2.2.1 k0_t20 k0_h18
theorem k0_off333_inb : ∀ (v468 : BitVec 32) (v476 : BitVec 32) (k0_hw34 : k0_chk34 v468 v476) (k0_t20 : Fin k0_t20_loop.trips), ∀ (k0_h18 : k0_cond18 v468 = 1#1), ∀ a, (k0_off333 v476 k0_t20) a + S1x1x16.size a ≤ S2x136x128.size a := fun v468 v476 k0_hw34 k0_t20 k0_h18 => k0_hw34.2.2.2.2.2.1 k0_t20 k0_h18
theorem k0_off334_inb : ∀ (v468 : BitVec 32) (v476 : BitVec 32) (k0_hw34 : k0_chk34 v468 v476) (k0_t20 : Fin k0_t20_loop.trips), ∀ (k0_h18 : k0_cond18 v468 = 1#1), ∀ a, (k0_off334 v476 k0_t20) a + S1x1x16.size a ≤ S2x136x128.size a := fun v468 v476 k0_hw34 k0_t20 k0_h18 => k0_hw34.2.2.2.2.2.2.1 k0_t20 k0_h18
theorem k0_off335_inb : ∀ (v468 : BitVec 32) (v476 : BitVec 32) (k0_hw34 : k0_chk34 v468 v476) (k0_t20 : Fin k0_t20_loop.trips), ∀ (k0_h18 : k0_cond18 v468 = 1#1), ∀ a, (k0_off335 v476 k0_t20) a + S1x1x16.size a ≤ S2x136x128.size a := fun v468 v476 k0_hw34 k0_t20 k0_h18 => k0_hw34.2.2.2.2.2.2.2.1 k0_t20 k0_h18
theorem k0_off336_inb : ∀ (v468 : BitVec 32) (v476 : BitVec 32) (k0_hw34 : k0_chk34 v468 v476) (k0_t20 : Fin k0_t20_loop.trips), ∀ (k0_h18 : k0_cond18 v468 = 1#1), ∀ a, (k0_off336 v476 k0_t20) a + S1x1x16.size a ≤ S2x136x128.size a := fun v468 v476 k0_hw34 k0_t20 k0_h18 => k0_hw34.2.2.2.2.2.2.2.2 k0_t20 k0_h18

@[reducible] def k0_t21_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off337 (k0_t21 : Fin k0_t21_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t21
  let v943 : Index := Scalar.indexCast arg30
  let c0 : Index := 0#32
  ![1, v943.toNat, 0]
def k0_off338 (k0_t21 : Fin k0_t21_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t21
  let v946 : Index := Scalar.indexCast arg30
  let c16 : Index := 16#32
  ![1, v946.toNat, 16]
def k0_off339 (k0_t21 : Fin k0_t21_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t21
  let v949 : Index := Scalar.indexCast arg30
  let c32 : Index := 32#32
  ![1, v949.toNat, 32]
def k0_off340 (k0_t21 : Fin k0_t21_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t21
  let v952 : Index := Scalar.indexCast arg30
  let c48 : Index := 48#32
  ![1, v952.toNat, 48]
def k0_off341 (k0_t21 : Fin k0_t21_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t21
  let v955 : Index := Scalar.indexCast arg30
  let c64 : Index := 64#32
  ![1, v955.toNat, 64]
def k0_off342 (k0_t21 : Fin k0_t21_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t21
  let v958 : Index := Scalar.indexCast arg30
  let c80 : Index := 80#32
  ![1, v958.toNat, 80]
def k0_off343 (k0_t21 : Fin k0_t21_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t21
  let v961 : Index := Scalar.indexCast arg30
  let c96 : Index := 96#32
  ![1, v961.toNat, 96]
def k0_off344 (k0_t21 : Fin k0_t21_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t21
  let v964 : Index := Scalar.indexCast arg30
  let c112 : Index := 112#32
  ![1, v964.toNat, 112]
def k0_off345 (k0_t21 : Fin k0_t21_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t21
  let v991 : Index := Scalar.indexCast arg30
  let c0_708 : Index := 0#32
  ![1, v991.toNat, 0]
def k0_off346 (k0_t21 : Fin k0_t21_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t21
  let v994 : Index := Scalar.indexCast arg30
  let c16_710 : Index := 16#32
  ![1, v994.toNat, 16]
def k0_off347 (k0_t21 : Fin k0_t21_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t21
  let v997 : Index := Scalar.indexCast arg30
  let c32_712 : Index := 32#32
  ![1, v997.toNat, 32]
def k0_off348 (k0_t21 : Fin k0_t21_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t21
  let v1000 : Index := Scalar.indexCast arg30
  let c48_714 : Index := 48#32
  ![1, v1000.toNat, 48]
def k0_off349 (k0_t21 : Fin k0_t21_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t21
  let v1003 : Index := Scalar.indexCast arg30
  let c64_716 : Index := 64#32
  ![1, v1003.toNat, 64]
def k0_off350 (k0_t21 : Fin k0_t21_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t21
  let v1006 : Index := Scalar.indexCast arg30
  let c80_718 : Index := 80#32
  ![1, v1006.toNat, 80]
def k0_off351 (k0_t21 : Fin k0_t21_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t21
  let v1009 : Index := Scalar.indexCast arg30
  let c96_720 : Index := 96#32
  ![1, v1009.toNat, 96]
def k0_off352 (k0_t21 : Fin k0_t21_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t21
  let v1012 : Index := Scalar.indexCast arg30
  let c112_722 : Index := 112#32
  ![1, v1012.toNat, 112]
def k0_off353 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c896_i32_333 : BitVec 32 := 896#32
  let v487 : BitVec 32 := Scalar.addi v22 c896_i32_333
  let c0_i32_337 : BitVec 32 := 0#32
  ![v487.toNat, 0]
def k0_mult35 (v508 : BitVec 32) : BitVec 32 :=
  let c8_i32_355 : BitVec 32 := 8#32
  let v509 : BitVec 32 := Scalar.remsi v508 c8_i32_355
  let v510 : BitVec 32 := Scalar.subi v508 v509
  let c4088_i32_356 : BitVec 32 := 4088#32
  let v511 : BitVec 32 := Scalar.minsi v510 c4088_i32_356
  v511

def k0_mult36 (v514 : BitVec 32) : BitVec 32 :=
  let c8_i32_358 : BitVec 32 := 8#32
  let v515 : BitVec 32 := Scalar.remsi v514 c8_i32_358
  let v516 : BitVec 32 := Scalar.subi v514 v515
  let c3960_i32_359 : BitVec 32 := 3960#32
  let v517 : BitVec 32 := Scalar.minsi v516 c3960_i32_359
  v517

def k0_off354 (v508 : BitVec 32) : Fin 2 → Nat :=
  let c8_i32_355 : BitVec 32 := 8#32
  let v509 : BitVec 32 := Scalar.remsi v508 c8_i32_355
  let v510 : BitVec 32 := Scalar.subi v508 v509
  let c4088_i32_356 : BitVec 32 := 4088#32
  let v511 : BitVec 32 := Scalar.minsi v510 c4088_i32_356
  let v512 : BitVec 32 := v511
  let c0_i32_660 : BitVec 32 := 0#32
  ![v512.toNat, 0]
def k0_cond19 (v506 : BitVec 32) : BitVec 1 :=
  let c0_i32_360 : BitVec 32 := 0#32
  let v519 : BitVec 1 := Scalar.cmpi .eq v506 c0_i32_360
  let v520 : BitVec 32 := Scalar.extui v519
  let c0_i32_362 : BitVec 32 := 0#32
  let v521 : BitVec 1 := Scalar.cmpi .ne v520 c0_i32_362
  v521

def k0_chk35 (v506 : BitVec 32) (v508 : BitVec 32) : Prop :=
  (8 ∣ (k0_mult35 v508).toNat) ∧
  (∀ (k0_h19 : k0_cond19 v506 = 1#1), ∀ a, (k0_off354 v508) a + S8x128.size a ≤ S4096x128.size a)
theorem k0_mult35_dvd : ∀ (v506 : BitVec 32) (v508 : BitVec 32) (k0_hw35 : k0_chk35 v506 v508), 8 ∣ (k0_mult35 v508).toNat := fun v506 v508 k0_hw35 => k0_hw35.1
theorem k0_off354_inb : ∀ (v506 : BitVec 32) (v508 : BitVec 32) (k0_hw35 : k0_chk35 v506 v508), ∀ (k0_h19 : k0_cond19 v506 = 1#1), ∀ a, (k0_off354 v508) a + S8x128.size a ≤ S4096x128.size a := fun v506 v508 k0_hw35 k0_h19 => k0_hw35.2 k0_h19

def k0_off355 (v514 : BitVec 32) : Fin 2 → Nat :=
  let c8_i32_358 : BitVec 32 := 8#32
  let v515 : BitVec 32 := Scalar.remsi v514 c8_i32_358
  let v516 : BitVec 32 := Scalar.subi v514 v515
  let c3960_i32_359 : BitVec 32 := 3960#32
  let v517 : BitVec 32 := Scalar.minsi v516 c3960_i32_359
  let v518 : BitVec 32 := v517
  let c0_i32_669 : BitVec 32 := 0#32
  ![v518.toNat, 0]

def k0_chk36 (v506 : BitVec 32) (v514 : BitVec 32) : Prop :=
  (8 ∣ (k0_mult36 v514).toNat) ∧
  (∀ (k0_h19 : k0_cond19 v506 = 1#1), ∀ a, (k0_off355 v514) a + S136x128.size a ≤ S4096x128.size a)
theorem k0_mult36_dvd : ∀ (v506 : BitVec 32) (v514 : BitVec 32) (k0_hw36 : k0_chk36 v506 v514), 8 ∣ (k0_mult36 v514).toNat := fun v506 v514 k0_hw36 => k0_hw36.1
theorem k0_off355_inb : ∀ (v506 : BitVec 32) (v514 : BitVec 32) (k0_hw36 : k0_chk36 v506 v514), ∀ (k0_h19 : k0_cond19 v506 = 1#1), ∀ a, (k0_off355 v514) a + S136x128.size a ≤ S4096x128.size a := fun v506 v514 k0_hw36 k0_h19 => k0_hw36.2 k0_h19

def k0_mult37 (v526 : BitVec 32) : BitVec 32 :=
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  v529

def k0_mult38 (v532 : BitVec 32) : BitVec 32 :=
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  v535

def k0_off356 (v526 : BitVec 32) : Fin 3 → Nat :=
  let c0_i32_683 : BitVec 32 := 0#32
  let v945 : Index := Scalar.indexCast c0_i32_683
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v946 : Index := Scalar.indexCast v537
  let c0 : Index := 0#32
  ![0, v946.toNat, 0]
def k0_cond20 (v524 : BitVec 32) : BitVec 1 :=
  let c0_i32_370 : BitVec 32 := 0#32
  let v539 : BitVec 1 := Scalar.cmpi .eq v524 c0_i32_370
  let v540 : BitVec 32 := Scalar.extui v539
  let c0_i32_372 : BitVec 32 := 0#32
  let v541 : BitVec 1 := Scalar.cmpi .ne v540 c0_i32_372
  v541

def k0_off357 (v526 : BitVec 32) : Fin 3 → Nat :=
  let c0_i32_684 : BitVec 32 := 0#32
  let v948 : Index := Scalar.indexCast c0_i32_684
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v949 : Index := Scalar.indexCast v537
  let c16 : Index := 16#32
  ![0, v949.toNat, 16]
def k0_off358 (v526 : BitVec 32) : Fin 3 → Nat :=
  let c0_i32_685 : BitVec 32 := 0#32
  let v951 : Index := Scalar.indexCast c0_i32_685
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v952 : Index := Scalar.indexCast v537
  let c32 : Index := 32#32
  ![0, v952.toNat, 32]
def k0_off359 (v526 : BitVec 32) : Fin 3 → Nat :=
  let c0_i32_686 : BitVec 32 := 0#32
  let v954 : Index := Scalar.indexCast c0_i32_686
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v955 : Index := Scalar.indexCast v537
  let c48 : Index := 48#32
  ![0, v955.toNat, 48]
def k0_off360 (v526 : BitVec 32) : Fin 3 → Nat :=
  let c0_i32_687 : BitVec 32 := 0#32
  let v957 : Index := Scalar.indexCast c0_i32_687
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v958 : Index := Scalar.indexCast v537
  let c64 : Index := 64#32
  ![0, v958.toNat, 64]
def k0_off361 (v526 : BitVec 32) : Fin 3 → Nat :=
  let c0_i32_688 : BitVec 32 := 0#32
  let v960 : Index := Scalar.indexCast c0_i32_688
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v961 : Index := Scalar.indexCast v537
  let c80 : Index := 80#32
  ![0, v961.toNat, 80]
def k0_off362 (v526 : BitVec 32) : Fin 3 → Nat :=
  let c0_i32_689 : BitVec 32 := 0#32
  let v963 : Index := Scalar.indexCast c0_i32_689
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v964 : Index := Scalar.indexCast v537
  let c96 : Index := 96#32
  ![0, v964.toNat, 96]
def k0_off363 (v526 : BitVec 32) : Fin 3 → Nat :=
  let c0_i32_690 : BitVec 32 := 0#32
  let v966 : Index := Scalar.indexCast c0_i32_690
  let c8_i32_365 : BitVec 32 := 8#32
  let v527 : BitVec 32 := Scalar.remsi v526 c8_i32_365
  let v528 : BitVec 32 := Scalar.subi v526 v527
  let c4088_i32_366 : BitVec 32 := 4088#32
  let v529 : BitVec 32 := Scalar.minsi v528 c4088_i32_366
  let v530 : BitVec 32 := v529
  let v537 : BitVec 32 := Scalar.subi v526 v530
  let v967 : Index := Scalar.indexCast v537
  let c112 : Index := 112#32
  ![0, v967.toNat, 112]

def k0_chk37 (v524 : BitVec 32) (v526 : BitVec 32) : Prop :=
  (8 ∣ (k0_mult37 v526).toNat) ∧
  (∀ (k0_h20 : k0_cond20 v524 = 1#1), ∀ a, (k0_off356 v526) a + S1x1x16.size a ≤ S2x128x128.size a) ∧
  (∀ (k0_h20 : k0_cond20 v524 = 1#1), ∀ a, (k0_off357 v526) a + S1x1x16.size a ≤ S2x128x128.size a) ∧
  (∀ (k0_h20 : k0_cond20 v524 = 1#1), ∀ a, (k0_off358 v526) a + S1x1x16.size a ≤ S2x128x128.size a) ∧
  (∀ (k0_h20 : k0_cond20 v524 = 1#1), ∀ a, (k0_off359 v526) a + S1x1x16.size a ≤ S2x128x128.size a) ∧
  (∀ (k0_h20 : k0_cond20 v524 = 1#1), ∀ a, (k0_off360 v526) a + S1x1x16.size a ≤ S2x128x128.size a) ∧
  (∀ (k0_h20 : k0_cond20 v524 = 1#1), ∀ a, (k0_off361 v526) a + S1x1x16.size a ≤ S2x128x128.size a) ∧
  (∀ (k0_h20 : k0_cond20 v524 = 1#1), ∀ a, (k0_off362 v526) a + S1x1x16.size a ≤ S2x128x128.size a) ∧
  (∀ (k0_h20 : k0_cond20 v524 = 1#1), ∀ a, (k0_off363 v526) a + S1x1x16.size a ≤ S2x128x128.size a)
theorem k0_mult37_dvd : ∀ (v524 : BitVec 32) (v526 : BitVec 32) (k0_hw37 : k0_chk37 v524 v526), 8 ∣ (k0_mult37 v526).toNat := fun v524 v526 k0_hw37 => k0_hw37.1
theorem k0_off356_inb : ∀ (v524 : BitVec 32) (v526 : BitVec 32) (k0_hw37 : k0_chk37 v524 v526), ∀ (k0_h20 : k0_cond20 v524 = 1#1), ∀ a, (k0_off356 v526) a + S1x1x16.size a ≤ S2x128x128.size a := fun v524 v526 k0_hw37 k0_h20 => k0_hw37.2.1 k0_h20
theorem k0_off357_inb : ∀ (v524 : BitVec 32) (v526 : BitVec 32) (k0_hw37 : k0_chk37 v524 v526), ∀ (k0_h20 : k0_cond20 v524 = 1#1), ∀ a, (k0_off357 v526) a + S1x1x16.size a ≤ S2x128x128.size a := fun v524 v526 k0_hw37 k0_h20 => k0_hw37.2.2.1 k0_h20
theorem k0_off358_inb : ∀ (v524 : BitVec 32) (v526 : BitVec 32) (k0_hw37 : k0_chk37 v524 v526), ∀ (k0_h20 : k0_cond20 v524 = 1#1), ∀ a, (k0_off358 v526) a + S1x1x16.size a ≤ S2x128x128.size a := fun v524 v526 k0_hw37 k0_h20 => k0_hw37.2.2.2.1 k0_h20
theorem k0_off359_inb : ∀ (v524 : BitVec 32) (v526 : BitVec 32) (k0_hw37 : k0_chk37 v524 v526), ∀ (k0_h20 : k0_cond20 v524 = 1#1), ∀ a, (k0_off359 v526) a + S1x1x16.size a ≤ S2x128x128.size a := fun v524 v526 k0_hw37 k0_h20 => k0_hw37.2.2.2.2.1 k0_h20
theorem k0_off360_inb : ∀ (v524 : BitVec 32) (v526 : BitVec 32) (k0_hw37 : k0_chk37 v524 v526), ∀ (k0_h20 : k0_cond20 v524 = 1#1), ∀ a, (k0_off360 v526) a + S1x1x16.size a ≤ S2x128x128.size a := fun v524 v526 k0_hw37 k0_h20 => k0_hw37.2.2.2.2.2.1 k0_h20
theorem k0_off361_inb : ∀ (v524 : BitVec 32) (v526 : BitVec 32) (k0_hw37 : k0_chk37 v524 v526), ∀ (k0_h20 : k0_cond20 v524 = 1#1), ∀ a, (k0_off361 v526) a + S1x1x16.size a ≤ S2x128x128.size a := fun v524 v526 k0_hw37 k0_h20 => k0_hw37.2.2.2.2.2.2.1 k0_h20
theorem k0_off362_inb : ∀ (v524 : BitVec 32) (v526 : BitVec 32) (k0_hw37 : k0_chk37 v524 v526), ∀ (k0_h20 : k0_cond20 v524 = 1#1), ∀ a, (k0_off362 v526) a + S1x1x16.size a ≤ S2x128x128.size a := fun v524 v526 k0_hw37 k0_h20 => k0_hw37.2.2.2.2.2.2.2.1 k0_h20
theorem k0_off363_inb : ∀ (v524 : BitVec 32) (v526 : BitVec 32) (k0_hw37 : k0_chk37 v524 v526), ∀ (k0_h20 : k0_cond20 v524 = 1#1), ∀ a, (k0_off363 v526) a + S1x1x16.size a ≤ S2x128x128.size a := fun v524 v526 k0_hw37 k0_h20 => k0_hw37.2.2.2.2.2.2.2.2 k0_h20

@[reducible] def k0_t22_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off364 (k0_t22 : Fin k0_t22_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t22
  let v971 : Index := Scalar.indexCast arg30
  let c0_698 : Index := 0#32
  ![0, v971.toNat, 0]
def k0_off365 (k0_t22 : Fin k0_t22_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t22
  let v974 : Index := Scalar.indexCast arg30
  let c16_700 : Index := 16#32
  ![0, v974.toNat, 16]
def k0_off366 (k0_t22 : Fin k0_t22_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t22
  let v977 : Index := Scalar.indexCast arg30
  let c32_702 : Index := 32#32
  ![0, v977.toNat, 32]
def k0_off367 (k0_t22 : Fin k0_t22_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t22
  let v980 : Index := Scalar.indexCast arg30
  let c48_704 : Index := 48#32
  ![0, v980.toNat, 48]
def k0_off368 (k0_t22 : Fin k0_t22_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t22
  let v983 : Index := Scalar.indexCast arg30
  let c64_706 : Index := 64#32
  ![0, v983.toNat, 64]
def k0_off369 (k0_t22 : Fin k0_t22_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t22
  let v986 : Index := Scalar.indexCast arg30
  let c80_708 : Index := 80#32
  ![0, v986.toNat, 80]
def k0_off370 (k0_t22 : Fin k0_t22_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t22
  let v989 : Index := Scalar.indexCast arg30
  let c96_710 : Index := 96#32
  ![0, v989.toNat, 96]
def k0_off371 (k0_t22 : Fin k0_t22_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t22
  let v992 : Index := Scalar.indexCast arg30
  let c112_712 : Index := 112#32
  ![0, v992.toNat, 112]
def k0_off372 (v532 : BitVec 32) (k0_t22 : Fin k0_t22_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v994 : BitVec 32 := Scalar.addi arg30 v538
  let v996 : Index := Scalar.indexCast v994
  let c0_714 : Index := 0#32
  ![0, v996.toNat, 0]
def k0_off373 (v532 : BitVec 32) (k0_t22 : Fin k0_t22_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v998 : BitVec 32 := Scalar.addi arg30 v538
  let v1000 : Index := Scalar.indexCast v998
  let c16_716 : Index := 16#32
  ![0, v1000.toNat, 16]
def k0_off374 (v532 : BitVec 32) (k0_t22 : Fin k0_t22_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1002 : BitVec 32 := Scalar.addi arg30 v538
  let v1004 : Index := Scalar.indexCast v1002
  let c32_718 : Index := 32#32
  ![0, v1004.toNat, 32]
def k0_off375 (v532 : BitVec 32) (k0_t22 : Fin k0_t22_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1006 : BitVec 32 := Scalar.addi arg30 v538
  let v1008 : Index := Scalar.indexCast v1006
  let c48_720 : Index := 48#32
  ![0, v1008.toNat, 48]
def k0_off376 (v532 : BitVec 32) (k0_t22 : Fin k0_t22_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1010 : BitVec 32 := Scalar.addi arg30 v538
  let v1012 : Index := Scalar.indexCast v1010
  let c64_722 : Index := 64#32
  ![0, v1012.toNat, 64]
def k0_off377 (v532 : BitVec 32) (k0_t22 : Fin k0_t22_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1014 : BitVec 32 := Scalar.addi arg30 v538
  let v1016 : Index := Scalar.indexCast v1014
  let c80_724 : Index := 80#32
  ![0, v1016.toNat, 80]
def k0_off378 (v532 : BitVec 32) (k0_t22 : Fin k0_t22_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1018 : BitVec 32 := Scalar.addi arg30 v538
  let v1020 : Index := Scalar.indexCast v1018
  let c96_726 : Index := 96#32
  ![0, v1020.toNat, 96]
def k0_off379 (v532 : BitVec 32) (k0_t22 : Fin k0_t22_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t22
  let c8_i32_368 : BitVec 32 := 8#32
  let v533 : BitVec 32 := Scalar.remsi v532 c8_i32_368
  let v534 : BitVec 32 := Scalar.subi v532 v533
  let c3960_i32_369 : BitVec 32 := 3960#32
  let v535 : BitVec 32 := Scalar.minsi v534 c3960_i32_369
  let v536 : BitVec 32 := v535
  let v538 : BitVec 32 := Scalar.subi v532 v536
  let v1022 : BitVec 32 := Scalar.addi arg30 v538
  let v1024 : Index := Scalar.indexCast v1022
  let c112_728 : Index := 112#32
  ![0, v1024.toNat, 112]

def k0_chk38 (v524 : BitVec 32) (v532 : BitVec 32) : Prop :=
  (8 ∣ (k0_mult38 v532).toNat) ∧
  (∀ k0_t22 : Fin k0_t22_loop.trips, ∀ (k0_h20 : k0_cond20 v524 = 1#1), ∀ a, (k0_off372 v532 k0_t22) a + S1x1x16.size a ≤ S2x136x128.size a) ∧
  (∀ k0_t22 : Fin k0_t22_loop.trips, ∀ (k0_h20 : k0_cond20 v524 = 1#1), ∀ a, (k0_off373 v532 k0_t22) a + S1x1x16.size a ≤ S2x136x128.size a) ∧
  (∀ k0_t22 : Fin k0_t22_loop.trips, ∀ (k0_h20 : k0_cond20 v524 = 1#1), ∀ a, (k0_off374 v532 k0_t22) a + S1x1x16.size a ≤ S2x136x128.size a) ∧
  (∀ k0_t22 : Fin k0_t22_loop.trips, ∀ (k0_h20 : k0_cond20 v524 = 1#1), ∀ a, (k0_off375 v532 k0_t22) a + S1x1x16.size a ≤ S2x136x128.size a) ∧
  (∀ k0_t22 : Fin k0_t22_loop.trips, ∀ (k0_h20 : k0_cond20 v524 = 1#1), ∀ a, (k0_off376 v532 k0_t22) a + S1x1x16.size a ≤ S2x136x128.size a) ∧
  (∀ k0_t22 : Fin k0_t22_loop.trips, ∀ (k0_h20 : k0_cond20 v524 = 1#1), ∀ a, (k0_off377 v532 k0_t22) a + S1x1x16.size a ≤ S2x136x128.size a) ∧
  (∀ k0_t22 : Fin k0_t22_loop.trips, ∀ (k0_h20 : k0_cond20 v524 = 1#1), ∀ a, (k0_off378 v532 k0_t22) a + S1x1x16.size a ≤ S2x136x128.size a) ∧
  (∀ k0_t22 : Fin k0_t22_loop.trips, ∀ (k0_h20 : k0_cond20 v524 = 1#1), ∀ a, (k0_off379 v532 k0_t22) a + S1x1x16.size a ≤ S2x136x128.size a)
theorem k0_mult38_dvd : ∀ (v524 : BitVec 32) (v532 : BitVec 32) (k0_hw38 : k0_chk38 v524 v532), 8 ∣ (k0_mult38 v532).toNat := fun v524 v532 k0_hw38 => k0_hw38.1
theorem k0_off372_inb : ∀ (v524 : BitVec 32) (v532 : BitVec 32) (k0_hw38 : k0_chk38 v524 v532) (k0_t22 : Fin k0_t22_loop.trips), ∀ (k0_h20 : k0_cond20 v524 = 1#1), ∀ a, (k0_off372 v532 k0_t22) a + S1x1x16.size a ≤ S2x136x128.size a := fun v524 v532 k0_hw38 k0_t22 k0_h20 => k0_hw38.2.1 k0_t22 k0_h20
theorem k0_off373_inb : ∀ (v524 : BitVec 32) (v532 : BitVec 32) (k0_hw38 : k0_chk38 v524 v532) (k0_t22 : Fin k0_t22_loop.trips), ∀ (k0_h20 : k0_cond20 v524 = 1#1), ∀ a, (k0_off373 v532 k0_t22) a + S1x1x16.size a ≤ S2x136x128.size a := fun v524 v532 k0_hw38 k0_t22 k0_h20 => k0_hw38.2.2.1 k0_t22 k0_h20
theorem k0_off374_inb : ∀ (v524 : BitVec 32) (v532 : BitVec 32) (k0_hw38 : k0_chk38 v524 v532) (k0_t22 : Fin k0_t22_loop.trips), ∀ (k0_h20 : k0_cond20 v524 = 1#1), ∀ a, (k0_off374 v532 k0_t22) a + S1x1x16.size a ≤ S2x136x128.size a := fun v524 v532 k0_hw38 k0_t22 k0_h20 => k0_hw38.2.2.2.1 k0_t22 k0_h20
theorem k0_off375_inb : ∀ (v524 : BitVec 32) (v532 : BitVec 32) (k0_hw38 : k0_chk38 v524 v532) (k0_t22 : Fin k0_t22_loop.trips), ∀ (k0_h20 : k0_cond20 v524 = 1#1), ∀ a, (k0_off375 v532 k0_t22) a + S1x1x16.size a ≤ S2x136x128.size a := fun v524 v532 k0_hw38 k0_t22 k0_h20 => k0_hw38.2.2.2.2.1 k0_t22 k0_h20
theorem k0_off376_inb : ∀ (v524 : BitVec 32) (v532 : BitVec 32) (k0_hw38 : k0_chk38 v524 v532) (k0_t22 : Fin k0_t22_loop.trips), ∀ (k0_h20 : k0_cond20 v524 = 1#1), ∀ a, (k0_off376 v532 k0_t22) a + S1x1x16.size a ≤ S2x136x128.size a := fun v524 v532 k0_hw38 k0_t22 k0_h20 => k0_hw38.2.2.2.2.2.1 k0_t22 k0_h20
theorem k0_off377_inb : ∀ (v524 : BitVec 32) (v532 : BitVec 32) (k0_hw38 : k0_chk38 v524 v532) (k0_t22 : Fin k0_t22_loop.trips), ∀ (k0_h20 : k0_cond20 v524 = 1#1), ∀ a, (k0_off377 v532 k0_t22) a + S1x1x16.size a ≤ S2x136x128.size a := fun v524 v532 k0_hw38 k0_t22 k0_h20 => k0_hw38.2.2.2.2.2.2.1 k0_t22 k0_h20
theorem k0_off378_inb : ∀ (v524 : BitVec 32) (v532 : BitVec 32) (k0_hw38 : k0_chk38 v524 v532) (k0_t22 : Fin k0_t22_loop.trips), ∀ (k0_h20 : k0_cond20 v524 = 1#1), ∀ a, (k0_off378 v532 k0_t22) a + S1x1x16.size a ≤ S2x136x128.size a := fun v524 v532 k0_hw38 k0_t22 k0_h20 => k0_hw38.2.2.2.2.2.2.2.1 k0_t22 k0_h20
theorem k0_off379_inb : ∀ (v524 : BitVec 32) (v532 : BitVec 32) (k0_hw38 : k0_chk38 v524 v532) (k0_t22 : Fin k0_t22_loop.trips), ∀ (k0_h20 : k0_cond20 v524 = 1#1), ∀ a, (k0_off379 v532 k0_t22) a + S1x1x16.size a ≤ S2x136x128.size a := fun v524 v532 k0_hw38 k0_t22 k0_h20 => k0_hw38.2.2.2.2.2.2.2.2 k0_t22 k0_h20

@[reducible] def k0_t23_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off380 (k0_t23 : Fin k0_t23_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t23
  let v943 : Index := Scalar.indexCast arg30
  let c0 : Index := 0#32
  ![0, v943.toNat, 0]
def k0_off381 (k0_t23 : Fin k0_t23_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t23
  let v946 : Index := Scalar.indexCast arg30
  let c16 : Index := 16#32
  ![0, v946.toNat, 16]
def k0_off382 (k0_t23 : Fin k0_t23_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t23
  let v949 : Index := Scalar.indexCast arg30
  let c32 : Index := 32#32
  ![0, v949.toNat, 32]
def k0_off383 (k0_t23 : Fin k0_t23_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t23
  let v952 : Index := Scalar.indexCast arg30
  let c48 : Index := 48#32
  ![0, v952.toNat, 48]
def k0_off384 (k0_t23 : Fin k0_t23_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t23
  let v955 : Index := Scalar.indexCast arg30
  let c64 : Index := 64#32
  ![0, v955.toNat, 64]
def k0_off385 (k0_t23 : Fin k0_t23_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t23
  let v958 : Index := Scalar.indexCast arg30
  let c80 : Index := 80#32
  ![0, v958.toNat, 80]
def k0_off386 (k0_t23 : Fin k0_t23_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t23
  let v961 : Index := Scalar.indexCast arg30
  let c96 : Index := 96#32
  ![0, v961.toNat, 96]
def k0_off387 (k0_t23 : Fin k0_t23_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t23
  let v964 : Index := Scalar.indexCast arg30
  let c112 : Index := 112#32
  ![0, v964.toNat, 112]
def k0_off388 (k0_t23 : Fin k0_t23_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t23
  let v991 : Index := Scalar.indexCast arg30
  let c0_708 : Index := 0#32
  ![0, v991.toNat, 0]
def k0_off389 (k0_t23 : Fin k0_t23_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t23
  let v994 : Index := Scalar.indexCast arg30
  let c16_710 : Index := 16#32
  ![0, v994.toNat, 16]
def k0_off390 (k0_t23 : Fin k0_t23_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t23
  let v997 : Index := Scalar.indexCast arg30
  let c32_712 : Index := 32#32
  ![0, v997.toNat, 32]
def k0_off391 (k0_t23 : Fin k0_t23_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t23
  let v1000 : Index := Scalar.indexCast arg30
  let c48_714 : Index := 48#32
  ![0, v1000.toNat, 48]
def k0_off392 (k0_t23 : Fin k0_t23_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t23
  let v1003 : Index := Scalar.indexCast arg30
  let c64_716 : Index := 64#32
  ![0, v1003.toNat, 64]
def k0_off393 (k0_t23 : Fin k0_t23_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t23
  let v1006 : Index := Scalar.indexCast arg30
  let c80_718 : Index := 80#32
  ![0, v1006.toNat, 80]
def k0_off394 (k0_t23 : Fin k0_t23_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t23
  let v1009 : Index := Scalar.indexCast arg30
  let c96_720 : Index := 96#32
  ![0, v1009.toNat, 96]
def k0_off395 (k0_t23 : Fin k0_t23_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t23
  let v1012 : Index := Scalar.indexCast arg30
  let c112_722 : Index := 112#32
  ![0, v1012.toNat, 112]
def k0_off396 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1024_i32_373 : BitVec 32 := 1024#32
  let v543 : BitVec 32 := Scalar.addi v22 c1024_i32_373
  let c0_i32_377 : BitVec 32 := 0#32
  ![v543.toNat, 0]
def k0_mult39 (v564 : BitVec 32) : BitVec 32 :=
  let c8_i32_395 : BitVec 32 := 8#32
  let v565 : BitVec 32 := Scalar.remsi v564 c8_i32_395
  let v566 : BitVec 32 := Scalar.subi v564 v565
  let c4088_i32_396 : BitVec 32 := 4088#32
  let v567 : BitVec 32 := Scalar.minsi v566 c4088_i32_396
  v567

def k0_mult40 (v570 : BitVec 32) : BitVec 32 :=
  let c8_i32_398 : BitVec 32 := 8#32
  let v571 : BitVec 32 := Scalar.remsi v570 c8_i32_398
  let v572 : BitVec 32 := Scalar.subi v570 v571
  let c3960_i32_399 : BitVec 32 := 3960#32
  let v573 : BitVec 32 := Scalar.minsi v572 c3960_i32_399
  v573

def k0_off397 (v564 : BitVec 32) : Fin 2 → Nat :=
  let c8_i32_395 : BitVec 32 := 8#32
  let v565 : BitVec 32 := Scalar.remsi v564 c8_i32_395
  let v566 : BitVec 32 := Scalar.subi v564 v565
  let c4088_i32_396 : BitVec 32 := 4088#32
  let v567 : BitVec 32 := Scalar.minsi v566 c4088_i32_396
  let v568 : BitVec 32 := v567
  let c0_i32_660 : BitVec 32 := 0#32
  ![v568.toNat, 0]
def k0_cond21 (v562 : BitVec 32) : BitVec 1 :=
  let c0_i32_400 : BitVec 32 := 0#32
  let v575 : BitVec 1 := Scalar.cmpi .eq v562 c0_i32_400
  let v576 : BitVec 32 := Scalar.extui v575
  let c0_i32_402 : BitVec 32 := 0#32
  let v577 : BitVec 1 := Scalar.cmpi .ne v576 c0_i32_402
  v577

def k0_chk39 (v562 : BitVec 32) (v564 : BitVec 32) : Prop :=
  (8 ∣ (k0_mult39 v564).toNat) ∧
  (∀ (k0_h21 : k0_cond21 v562 = 1#1), ∀ a, (k0_off397 v564) a + S8x128.size a ≤ S4096x128.size a)
theorem k0_mult39_dvd : ∀ (v562 : BitVec 32) (v564 : BitVec 32) (k0_hw39 : k0_chk39 v562 v564), 8 ∣ (k0_mult39 v564).toNat := fun v562 v564 k0_hw39 => k0_hw39.1
theorem k0_off397_inb : ∀ (v562 : BitVec 32) (v564 : BitVec 32) (k0_hw39 : k0_chk39 v562 v564), ∀ (k0_h21 : k0_cond21 v562 = 1#1), ∀ a, (k0_off397 v564) a + S8x128.size a ≤ S4096x128.size a := fun v562 v564 k0_hw39 k0_h21 => k0_hw39.2 k0_h21

def k0_off398 (v570 : BitVec 32) : Fin 2 → Nat :=
  let c8_i32_398 : BitVec 32 := 8#32
  let v571 : BitVec 32 := Scalar.remsi v570 c8_i32_398
  let v572 : BitVec 32 := Scalar.subi v570 v571
  let c3960_i32_399 : BitVec 32 := 3960#32
  let v573 : BitVec 32 := Scalar.minsi v572 c3960_i32_399
  let v574 : BitVec 32 := v573
  let c0_i32_669 : BitVec 32 := 0#32
  ![v574.toNat, 0]

def k0_chk40 (v562 : BitVec 32) (v570 : BitVec 32) : Prop :=
  (8 ∣ (k0_mult40 v570).toNat) ∧
  (∀ (k0_h21 : k0_cond21 v562 = 1#1), ∀ a, (k0_off398 v570) a + S136x128.size a ≤ S4096x128.size a)
theorem k0_mult40_dvd : ∀ (v562 : BitVec 32) (v570 : BitVec 32) (k0_hw40 : k0_chk40 v562 v570), 8 ∣ (k0_mult40 v570).toNat := fun v562 v570 k0_hw40 => k0_hw40.1
theorem k0_off398_inb : ∀ (v562 : BitVec 32) (v570 : BitVec 32) (k0_hw40 : k0_chk40 v562 v570), ∀ (k0_h21 : k0_cond21 v562 = 1#1), ∀ a, (k0_off398 v570) a + S136x128.size a ≤ S4096x128.size a := fun v562 v570 k0_hw40 k0_h21 => k0_hw40.2 k0_h21

def k0_mult41 (v582 : BitVec 32) : BitVec 32 :=
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  v585

def k0_mult42 (v588 : BitVec 32) : BitVec 32 :=
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  v591

def k0_off399 (v582 : BitVec 32) : Fin 3 → Nat :=
  let c1_i32_683 : BitVec 32 := 1#32
  let v945 : Index := Scalar.indexCast c1_i32_683
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v946 : Index := Scalar.indexCast v593
  let c0 : Index := 0#32
  ![1, v946.toNat, 0]
def k0_cond22 (v580 : BitVec 32) : BitVec 1 :=
  let c0_i32_410 : BitVec 32 := 0#32
  let v595 : BitVec 1 := Scalar.cmpi .eq v580 c0_i32_410
  let v596 : BitVec 32 := Scalar.extui v595
  let c0_i32_412 : BitVec 32 := 0#32
  let v597 : BitVec 1 := Scalar.cmpi .ne v596 c0_i32_412
  v597

def k0_off400 (v582 : BitVec 32) : Fin 3 → Nat :=
  let c1_i32_684 : BitVec 32 := 1#32
  let v948 : Index := Scalar.indexCast c1_i32_684
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v949 : Index := Scalar.indexCast v593
  let c16 : Index := 16#32
  ![1, v949.toNat, 16]
def k0_off401 (v582 : BitVec 32) : Fin 3 → Nat :=
  let c1_i32_685 : BitVec 32 := 1#32
  let v951 : Index := Scalar.indexCast c1_i32_685
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v952 : Index := Scalar.indexCast v593
  let c32 : Index := 32#32
  ![1, v952.toNat, 32]
def k0_off402 (v582 : BitVec 32) : Fin 3 → Nat :=
  let c1_i32_686 : BitVec 32 := 1#32
  let v954 : Index := Scalar.indexCast c1_i32_686
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v955 : Index := Scalar.indexCast v593
  let c48 : Index := 48#32
  ![1, v955.toNat, 48]
def k0_off403 (v582 : BitVec 32) : Fin 3 → Nat :=
  let c1_i32_687 : BitVec 32 := 1#32
  let v957 : Index := Scalar.indexCast c1_i32_687
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v958 : Index := Scalar.indexCast v593
  let c64 : Index := 64#32
  ![1, v958.toNat, 64]
def k0_off404 (v582 : BitVec 32) : Fin 3 → Nat :=
  let c1_i32_688 : BitVec 32 := 1#32
  let v960 : Index := Scalar.indexCast c1_i32_688
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v961 : Index := Scalar.indexCast v593
  let c80 : Index := 80#32
  ![1, v961.toNat, 80]
def k0_off405 (v582 : BitVec 32) : Fin 3 → Nat :=
  let c1_i32_689 : BitVec 32 := 1#32
  let v963 : Index := Scalar.indexCast c1_i32_689
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v964 : Index := Scalar.indexCast v593
  let c96 : Index := 96#32
  ![1, v964.toNat, 96]
def k0_off406 (v582 : BitVec 32) : Fin 3 → Nat :=
  let c1_i32_690 : BitVec 32 := 1#32
  let v966 : Index := Scalar.indexCast c1_i32_690
  let c8_i32_405 : BitVec 32 := 8#32
  let v583 : BitVec 32 := Scalar.remsi v582 c8_i32_405
  let v584 : BitVec 32 := Scalar.subi v582 v583
  let c4088_i32_406 : BitVec 32 := 4088#32
  let v585 : BitVec 32 := Scalar.minsi v584 c4088_i32_406
  let v586 : BitVec 32 := v585
  let v593 : BitVec 32 := Scalar.subi v582 v586
  let v967 : Index := Scalar.indexCast v593
  let c112 : Index := 112#32
  ![1, v967.toNat, 112]

def k0_chk41 (v580 : BitVec 32) (v582 : BitVec 32) : Prop :=
  (8 ∣ (k0_mult41 v582).toNat) ∧
  (∀ (k0_h22 : k0_cond22 v580 = 1#1), ∀ a, (k0_off399 v582) a + S1x1x16.size a ≤ S2x128x128.size a) ∧
  (∀ (k0_h22 : k0_cond22 v580 = 1#1), ∀ a, (k0_off400 v582) a + S1x1x16.size a ≤ S2x128x128.size a) ∧
  (∀ (k0_h22 : k0_cond22 v580 = 1#1), ∀ a, (k0_off401 v582) a + S1x1x16.size a ≤ S2x128x128.size a) ∧
  (∀ (k0_h22 : k0_cond22 v580 = 1#1), ∀ a, (k0_off402 v582) a + S1x1x16.size a ≤ S2x128x128.size a) ∧
  (∀ (k0_h22 : k0_cond22 v580 = 1#1), ∀ a, (k0_off403 v582) a + S1x1x16.size a ≤ S2x128x128.size a) ∧
  (∀ (k0_h22 : k0_cond22 v580 = 1#1), ∀ a, (k0_off404 v582) a + S1x1x16.size a ≤ S2x128x128.size a) ∧
  (∀ (k0_h22 : k0_cond22 v580 = 1#1), ∀ a, (k0_off405 v582) a + S1x1x16.size a ≤ S2x128x128.size a) ∧
  (∀ (k0_h22 : k0_cond22 v580 = 1#1), ∀ a, (k0_off406 v582) a + S1x1x16.size a ≤ S2x128x128.size a)
theorem k0_mult41_dvd : ∀ (v580 : BitVec 32) (v582 : BitVec 32) (k0_hw41 : k0_chk41 v580 v582), 8 ∣ (k0_mult41 v582).toNat := fun v580 v582 k0_hw41 => k0_hw41.1
theorem k0_off399_inb : ∀ (v580 : BitVec 32) (v582 : BitVec 32) (k0_hw41 : k0_chk41 v580 v582), ∀ (k0_h22 : k0_cond22 v580 = 1#1), ∀ a, (k0_off399 v582) a + S1x1x16.size a ≤ S2x128x128.size a := fun v580 v582 k0_hw41 k0_h22 => k0_hw41.2.1 k0_h22
theorem k0_off400_inb : ∀ (v580 : BitVec 32) (v582 : BitVec 32) (k0_hw41 : k0_chk41 v580 v582), ∀ (k0_h22 : k0_cond22 v580 = 1#1), ∀ a, (k0_off400 v582) a + S1x1x16.size a ≤ S2x128x128.size a := fun v580 v582 k0_hw41 k0_h22 => k0_hw41.2.2.1 k0_h22
theorem k0_off401_inb : ∀ (v580 : BitVec 32) (v582 : BitVec 32) (k0_hw41 : k0_chk41 v580 v582), ∀ (k0_h22 : k0_cond22 v580 = 1#1), ∀ a, (k0_off401 v582) a + S1x1x16.size a ≤ S2x128x128.size a := fun v580 v582 k0_hw41 k0_h22 => k0_hw41.2.2.2.1 k0_h22
theorem k0_off402_inb : ∀ (v580 : BitVec 32) (v582 : BitVec 32) (k0_hw41 : k0_chk41 v580 v582), ∀ (k0_h22 : k0_cond22 v580 = 1#1), ∀ a, (k0_off402 v582) a + S1x1x16.size a ≤ S2x128x128.size a := fun v580 v582 k0_hw41 k0_h22 => k0_hw41.2.2.2.2.1 k0_h22
theorem k0_off403_inb : ∀ (v580 : BitVec 32) (v582 : BitVec 32) (k0_hw41 : k0_chk41 v580 v582), ∀ (k0_h22 : k0_cond22 v580 = 1#1), ∀ a, (k0_off403 v582) a + S1x1x16.size a ≤ S2x128x128.size a := fun v580 v582 k0_hw41 k0_h22 => k0_hw41.2.2.2.2.2.1 k0_h22
theorem k0_off404_inb : ∀ (v580 : BitVec 32) (v582 : BitVec 32) (k0_hw41 : k0_chk41 v580 v582), ∀ (k0_h22 : k0_cond22 v580 = 1#1), ∀ a, (k0_off404 v582) a + S1x1x16.size a ≤ S2x128x128.size a := fun v580 v582 k0_hw41 k0_h22 => k0_hw41.2.2.2.2.2.2.1 k0_h22
theorem k0_off405_inb : ∀ (v580 : BitVec 32) (v582 : BitVec 32) (k0_hw41 : k0_chk41 v580 v582), ∀ (k0_h22 : k0_cond22 v580 = 1#1), ∀ a, (k0_off405 v582) a + S1x1x16.size a ≤ S2x128x128.size a := fun v580 v582 k0_hw41 k0_h22 => k0_hw41.2.2.2.2.2.2.2.1 k0_h22
theorem k0_off406_inb : ∀ (v580 : BitVec 32) (v582 : BitVec 32) (k0_hw41 : k0_chk41 v580 v582), ∀ (k0_h22 : k0_cond22 v580 = 1#1), ∀ a, (k0_off406 v582) a + S1x1x16.size a ≤ S2x128x128.size a := fun v580 v582 k0_hw41 k0_h22 => k0_hw41.2.2.2.2.2.2.2.2 k0_h22

@[reducible] def k0_t24_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off407 (k0_t24 : Fin k0_t24_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t24
  let v971 : Index := Scalar.indexCast arg30
  let c0_698 : Index := 0#32
  ![1, v971.toNat, 0]
def k0_off408 (k0_t24 : Fin k0_t24_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t24
  let v974 : Index := Scalar.indexCast arg30
  let c16_700 : Index := 16#32
  ![1, v974.toNat, 16]
def k0_off409 (k0_t24 : Fin k0_t24_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t24
  let v977 : Index := Scalar.indexCast arg30
  let c32_702 : Index := 32#32
  ![1, v977.toNat, 32]
def k0_off410 (k0_t24 : Fin k0_t24_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t24
  let v980 : Index := Scalar.indexCast arg30
  let c48_704 : Index := 48#32
  ![1, v980.toNat, 48]
def k0_off411 (k0_t24 : Fin k0_t24_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t24
  let v983 : Index := Scalar.indexCast arg30
  let c64_706 : Index := 64#32
  ![1, v983.toNat, 64]
def k0_off412 (k0_t24 : Fin k0_t24_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t24
  let v986 : Index := Scalar.indexCast arg30
  let c80_708 : Index := 80#32
  ![1, v986.toNat, 80]
def k0_off413 (k0_t24 : Fin k0_t24_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t24
  let v989 : Index := Scalar.indexCast arg30
  let c96_710 : Index := 96#32
  ![1, v989.toNat, 96]
def k0_off414 (k0_t24 : Fin k0_t24_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t24
  let v992 : Index := Scalar.indexCast arg30
  let c112_712 : Index := 112#32
  ![1, v992.toNat, 112]
def k0_off415 (v588 : BitVec 32) (k0_t24 : Fin k0_t24_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v994 : BitVec 32 := Scalar.addi arg30 v594
  let v996 : Index := Scalar.indexCast v994
  let c0_714 : Index := 0#32
  ![1, v996.toNat, 0]
def k0_off416 (v588 : BitVec 32) (k0_t24 : Fin k0_t24_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v998 : BitVec 32 := Scalar.addi arg30 v594
  let v1000 : Index := Scalar.indexCast v998
  let c16_716 : Index := 16#32
  ![1, v1000.toNat, 16]
def k0_off417 (v588 : BitVec 32) (k0_t24 : Fin k0_t24_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1002 : BitVec 32 := Scalar.addi arg30 v594
  let v1004 : Index := Scalar.indexCast v1002
  let c32_718 : Index := 32#32
  ![1, v1004.toNat, 32]
def k0_off418 (v588 : BitVec 32) (k0_t24 : Fin k0_t24_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1006 : BitVec 32 := Scalar.addi arg30 v594
  let v1008 : Index := Scalar.indexCast v1006
  let c48_720 : Index := 48#32
  ![1, v1008.toNat, 48]
def k0_off419 (v588 : BitVec 32) (k0_t24 : Fin k0_t24_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1010 : BitVec 32 := Scalar.addi arg30 v594
  let v1012 : Index := Scalar.indexCast v1010
  let c64_722 : Index := 64#32
  ![1, v1012.toNat, 64]
def k0_off420 (v588 : BitVec 32) (k0_t24 : Fin k0_t24_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1014 : BitVec 32 := Scalar.addi arg30 v594
  let v1016 : Index := Scalar.indexCast v1014
  let c80_724 : Index := 80#32
  ![1, v1016.toNat, 80]
def k0_off421 (v588 : BitVec 32) (k0_t24 : Fin k0_t24_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1018 : BitVec 32 := Scalar.addi arg30 v594
  let v1020 : Index := Scalar.indexCast v1018
  let c96_726 : Index := 96#32
  ![1, v1020.toNat, 96]
def k0_off422 (v588 : BitVec 32) (k0_t24 : Fin k0_t24_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t24
  let c8_i32_408 : BitVec 32 := 8#32
  let v589 : BitVec 32 := Scalar.remsi v588 c8_i32_408
  let v590 : BitVec 32 := Scalar.subi v588 v589
  let c3960_i32_409 : BitVec 32 := 3960#32
  let v591 : BitVec 32 := Scalar.minsi v590 c3960_i32_409
  let v592 : BitVec 32 := v591
  let v594 : BitVec 32 := Scalar.subi v588 v592
  let v1022 : BitVec 32 := Scalar.addi arg30 v594
  let v1024 : Index := Scalar.indexCast v1022
  let c112_728 : Index := 112#32
  ![1, v1024.toNat, 112]

def k0_chk42 (v580 : BitVec 32) (v588 : BitVec 32) : Prop :=
  (8 ∣ (k0_mult42 v588).toNat) ∧
  (∀ k0_t24 : Fin k0_t24_loop.trips, ∀ (k0_h22 : k0_cond22 v580 = 1#1), ∀ a, (k0_off415 v588 k0_t24) a + S1x1x16.size a ≤ S2x136x128.size a) ∧
  (∀ k0_t24 : Fin k0_t24_loop.trips, ∀ (k0_h22 : k0_cond22 v580 = 1#1), ∀ a, (k0_off416 v588 k0_t24) a + S1x1x16.size a ≤ S2x136x128.size a) ∧
  (∀ k0_t24 : Fin k0_t24_loop.trips, ∀ (k0_h22 : k0_cond22 v580 = 1#1), ∀ a, (k0_off417 v588 k0_t24) a + S1x1x16.size a ≤ S2x136x128.size a) ∧
  (∀ k0_t24 : Fin k0_t24_loop.trips, ∀ (k0_h22 : k0_cond22 v580 = 1#1), ∀ a, (k0_off418 v588 k0_t24) a + S1x1x16.size a ≤ S2x136x128.size a) ∧
  (∀ k0_t24 : Fin k0_t24_loop.trips, ∀ (k0_h22 : k0_cond22 v580 = 1#1), ∀ a, (k0_off419 v588 k0_t24) a + S1x1x16.size a ≤ S2x136x128.size a) ∧
  (∀ k0_t24 : Fin k0_t24_loop.trips, ∀ (k0_h22 : k0_cond22 v580 = 1#1), ∀ a, (k0_off420 v588 k0_t24) a + S1x1x16.size a ≤ S2x136x128.size a) ∧
  (∀ k0_t24 : Fin k0_t24_loop.trips, ∀ (k0_h22 : k0_cond22 v580 = 1#1), ∀ a, (k0_off421 v588 k0_t24) a + S1x1x16.size a ≤ S2x136x128.size a) ∧
  (∀ k0_t24 : Fin k0_t24_loop.trips, ∀ (k0_h22 : k0_cond22 v580 = 1#1), ∀ a, (k0_off422 v588 k0_t24) a + S1x1x16.size a ≤ S2x136x128.size a)
theorem k0_mult42_dvd : ∀ (v580 : BitVec 32) (v588 : BitVec 32) (k0_hw42 : k0_chk42 v580 v588), 8 ∣ (k0_mult42 v588).toNat := fun v580 v588 k0_hw42 => k0_hw42.1
theorem k0_off415_inb : ∀ (v580 : BitVec 32) (v588 : BitVec 32) (k0_hw42 : k0_chk42 v580 v588) (k0_t24 : Fin k0_t24_loop.trips), ∀ (k0_h22 : k0_cond22 v580 = 1#1), ∀ a, (k0_off415 v588 k0_t24) a + S1x1x16.size a ≤ S2x136x128.size a := fun v580 v588 k0_hw42 k0_t24 k0_h22 => k0_hw42.2.1 k0_t24 k0_h22
theorem k0_off416_inb : ∀ (v580 : BitVec 32) (v588 : BitVec 32) (k0_hw42 : k0_chk42 v580 v588) (k0_t24 : Fin k0_t24_loop.trips), ∀ (k0_h22 : k0_cond22 v580 = 1#1), ∀ a, (k0_off416 v588 k0_t24) a + S1x1x16.size a ≤ S2x136x128.size a := fun v580 v588 k0_hw42 k0_t24 k0_h22 => k0_hw42.2.2.1 k0_t24 k0_h22
theorem k0_off417_inb : ∀ (v580 : BitVec 32) (v588 : BitVec 32) (k0_hw42 : k0_chk42 v580 v588) (k0_t24 : Fin k0_t24_loop.trips), ∀ (k0_h22 : k0_cond22 v580 = 1#1), ∀ a, (k0_off417 v588 k0_t24) a + S1x1x16.size a ≤ S2x136x128.size a := fun v580 v588 k0_hw42 k0_t24 k0_h22 => k0_hw42.2.2.2.1 k0_t24 k0_h22
theorem k0_off418_inb : ∀ (v580 : BitVec 32) (v588 : BitVec 32) (k0_hw42 : k0_chk42 v580 v588) (k0_t24 : Fin k0_t24_loop.trips), ∀ (k0_h22 : k0_cond22 v580 = 1#1), ∀ a, (k0_off418 v588 k0_t24) a + S1x1x16.size a ≤ S2x136x128.size a := fun v580 v588 k0_hw42 k0_t24 k0_h22 => k0_hw42.2.2.2.2.1 k0_t24 k0_h22
theorem k0_off419_inb : ∀ (v580 : BitVec 32) (v588 : BitVec 32) (k0_hw42 : k0_chk42 v580 v588) (k0_t24 : Fin k0_t24_loop.trips), ∀ (k0_h22 : k0_cond22 v580 = 1#1), ∀ a, (k0_off419 v588 k0_t24) a + S1x1x16.size a ≤ S2x136x128.size a := fun v580 v588 k0_hw42 k0_t24 k0_h22 => k0_hw42.2.2.2.2.2.1 k0_t24 k0_h22
theorem k0_off420_inb : ∀ (v580 : BitVec 32) (v588 : BitVec 32) (k0_hw42 : k0_chk42 v580 v588) (k0_t24 : Fin k0_t24_loop.trips), ∀ (k0_h22 : k0_cond22 v580 = 1#1), ∀ a, (k0_off420 v588 k0_t24) a + S1x1x16.size a ≤ S2x136x128.size a := fun v580 v588 k0_hw42 k0_t24 k0_h22 => k0_hw42.2.2.2.2.2.2.1 k0_t24 k0_h22
theorem k0_off421_inb : ∀ (v580 : BitVec 32) (v588 : BitVec 32) (k0_hw42 : k0_chk42 v580 v588) (k0_t24 : Fin k0_t24_loop.trips), ∀ (k0_h22 : k0_cond22 v580 = 1#1), ∀ a, (k0_off421 v588 k0_t24) a + S1x1x16.size a ≤ S2x136x128.size a := fun v580 v588 k0_hw42 k0_t24 k0_h22 => k0_hw42.2.2.2.2.2.2.2.1 k0_t24 k0_h22
theorem k0_off422_inb : ∀ (v580 : BitVec 32) (v588 : BitVec 32) (k0_hw42 : k0_chk42 v580 v588) (k0_t24 : Fin k0_t24_loop.trips), ∀ (k0_h22 : k0_cond22 v580 = 1#1), ∀ a, (k0_off422 v588 k0_t24) a + S1x1x16.size a ≤ S2x136x128.size a := fun v580 v588 k0_hw42 k0_t24 k0_h22 => k0_hw42.2.2.2.2.2.2.2.2 k0_t24 k0_h22

@[reducible] def k0_t25_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off423 (k0_t25 : Fin k0_t25_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t25
  let v943 : Index := Scalar.indexCast arg30
  let c0 : Index := 0#32
  ![1, v943.toNat, 0]
def k0_off424 (k0_t25 : Fin k0_t25_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t25
  let v946 : Index := Scalar.indexCast arg30
  let c16 : Index := 16#32
  ![1, v946.toNat, 16]
def k0_off425 (k0_t25 : Fin k0_t25_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t25
  let v949 : Index := Scalar.indexCast arg30
  let c32 : Index := 32#32
  ![1, v949.toNat, 32]
def k0_off426 (k0_t25 : Fin k0_t25_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t25
  let v952 : Index := Scalar.indexCast arg30
  let c48 : Index := 48#32
  ![1, v952.toNat, 48]
def k0_off427 (k0_t25 : Fin k0_t25_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t25
  let v955 : Index := Scalar.indexCast arg30
  let c64 : Index := 64#32
  ![1, v955.toNat, 64]
def k0_off428 (k0_t25 : Fin k0_t25_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t25
  let v958 : Index := Scalar.indexCast arg30
  let c80 : Index := 80#32
  ![1, v958.toNat, 80]
def k0_off429 (k0_t25 : Fin k0_t25_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t25
  let v961 : Index := Scalar.indexCast arg30
  let c96 : Index := 96#32
  ![1, v961.toNat, 96]
def k0_off430 (k0_t25 : Fin k0_t25_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t25
  let v964 : Index := Scalar.indexCast arg30
  let c112 : Index := 112#32
  ![1, v964.toNat, 112]
def k0_off431 (k0_t25 : Fin k0_t25_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t25
  let v991 : Index := Scalar.indexCast arg30
  let c0_708 : Index := 0#32
  ![1, v991.toNat, 0]
def k0_off432 (k0_t25 : Fin k0_t25_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t25
  let v994 : Index := Scalar.indexCast arg30
  let c16_710 : Index := 16#32
  ![1, v994.toNat, 16]
def k0_off433 (k0_t25 : Fin k0_t25_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t25
  let v997 : Index := Scalar.indexCast arg30
  let c32_712 : Index := 32#32
  ![1, v997.toNat, 32]
def k0_off434 (k0_t25 : Fin k0_t25_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t25
  let v1000 : Index := Scalar.indexCast arg30
  let c48_714 : Index := 48#32
  ![1, v1000.toNat, 48]
def k0_off435 (k0_t25 : Fin k0_t25_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t25
  let v1003 : Index := Scalar.indexCast arg30
  let c64_716 : Index := 64#32
  ![1, v1003.toNat, 64]
def k0_off436 (k0_t25 : Fin k0_t25_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t25
  let v1006 : Index := Scalar.indexCast arg30
  let c80_718 : Index := 80#32
  ![1, v1006.toNat, 80]
def k0_off437 (k0_t25 : Fin k0_t25_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t25
  let v1009 : Index := Scalar.indexCast arg30
  let c96_720 : Index := 96#32
  ![1, v1009.toNat, 96]
def k0_off438 (k0_t25 : Fin k0_t25_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t25
  let v1012 : Index := Scalar.indexCast arg30
  let c112_722 : Index := 112#32
  ![1, v1012.toNat, 112]
def k0_off439 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1152_i32_413 : BitVec 32 := 1152#32
  let v599 : BitVec 32 := Scalar.addi v22 c1152_i32_413
  let c0_i32_417 : BitVec 32 := 0#32
  ![v599.toNat, 0]
def k0_mult43 (v620 : BitVec 32) : BitVec 32 :=
  let c8_i32_435 : BitVec 32 := 8#32
  let v621 : BitVec 32 := Scalar.remsi v620 c8_i32_435
  let v622 : BitVec 32 := Scalar.subi v620 v621
  let c4088_i32_436 : BitVec 32 := 4088#32
  let v623 : BitVec 32 := Scalar.minsi v622 c4088_i32_436
  v623

def k0_mult44 (v626 : BitVec 32) : BitVec 32 :=
  let c8_i32_438 : BitVec 32 := 8#32
  let v627 : BitVec 32 := Scalar.remsi v626 c8_i32_438
  let v628 : BitVec 32 := Scalar.subi v626 v627
  let c3960_i32_439 : BitVec 32 := 3960#32
  let v629 : BitVec 32 := Scalar.minsi v628 c3960_i32_439
  v629

def k0_off440 (v620 : BitVec 32) : Fin 2 → Nat :=
  let c8_i32_435 : BitVec 32 := 8#32
  let v621 : BitVec 32 := Scalar.remsi v620 c8_i32_435
  let v622 : BitVec 32 := Scalar.subi v620 v621
  let c4088_i32_436 : BitVec 32 := 4088#32
  let v623 : BitVec 32 := Scalar.minsi v622 c4088_i32_436
  let v624 : BitVec 32 := v623
  let c0_i32_660 : BitVec 32 := 0#32
  ![v624.toNat, 0]
def k0_cond23 (v618 : BitVec 32) : BitVec 1 :=
  let c0_i32_440 : BitVec 32 := 0#32
  let v631 : BitVec 1 := Scalar.cmpi .eq v618 c0_i32_440
  let v632 : BitVec 32 := Scalar.extui v631
  let c0_i32_442 : BitVec 32 := 0#32
  let v633 : BitVec 1 := Scalar.cmpi .ne v632 c0_i32_442
  v633

def k0_chk43 (v618 : BitVec 32) (v620 : BitVec 32) : Prop :=
  (8 ∣ (k0_mult43 v620).toNat) ∧
  (∀ (k0_h23 : k0_cond23 v618 = 1#1), ∀ a, (k0_off440 v620) a + S8x128.size a ≤ S4096x128.size a)
theorem k0_mult43_dvd : ∀ (v618 : BitVec 32) (v620 : BitVec 32) (k0_hw43 : k0_chk43 v618 v620), 8 ∣ (k0_mult43 v620).toNat := fun v618 v620 k0_hw43 => k0_hw43.1
theorem k0_off440_inb : ∀ (v618 : BitVec 32) (v620 : BitVec 32) (k0_hw43 : k0_chk43 v618 v620), ∀ (k0_h23 : k0_cond23 v618 = 1#1), ∀ a, (k0_off440 v620) a + S8x128.size a ≤ S4096x128.size a := fun v618 v620 k0_hw43 k0_h23 => k0_hw43.2 k0_h23

def k0_off441 (v626 : BitVec 32) : Fin 2 → Nat :=
  let c8_i32_438 : BitVec 32 := 8#32
  let v627 : BitVec 32 := Scalar.remsi v626 c8_i32_438
  let v628 : BitVec 32 := Scalar.subi v626 v627
  let c3960_i32_439 : BitVec 32 := 3960#32
  let v629 : BitVec 32 := Scalar.minsi v628 c3960_i32_439
  let v630 : BitVec 32 := v629
  let c0_i32_669 : BitVec 32 := 0#32
  ![v630.toNat, 0]

def k0_chk44 (v618 : BitVec 32) (v626 : BitVec 32) : Prop :=
  (8 ∣ (k0_mult44 v626).toNat) ∧
  (∀ (k0_h23 : k0_cond23 v618 = 1#1), ∀ a, (k0_off441 v626) a + S136x128.size a ≤ S4096x128.size a)
theorem k0_mult44_dvd : ∀ (v618 : BitVec 32) (v626 : BitVec 32) (k0_hw44 : k0_chk44 v618 v626), 8 ∣ (k0_mult44 v626).toNat := fun v618 v626 k0_hw44 => k0_hw44.1
theorem k0_off441_inb : ∀ (v618 : BitVec 32) (v626 : BitVec 32) (k0_hw44 : k0_chk44 v618 v626), ∀ (k0_h23 : k0_cond23 v618 = 1#1), ∀ a, (k0_off441 v626) a + S136x128.size a ≤ S4096x128.size a := fun v618 v626 k0_hw44 k0_h23 => k0_hw44.2 k0_h23

def k0_mult45 (v638 : BitVec 32) : BitVec 32 :=
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  v641

def k0_mult46 (v644 : BitVec 32) : BitVec 32 :=
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  v647

def k0_off442 (v638 : BitVec 32) : Fin 3 → Nat :=
  let c0_i32_683 : BitVec 32 := 0#32
  let v945 : Index := Scalar.indexCast c0_i32_683
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v946 : Index := Scalar.indexCast v649
  let c0 : Index := 0#32
  ![0, v946.toNat, 0]
def k0_cond24 (v636 : BitVec 32) : BitVec 1 :=
  let c0_i32_450 : BitVec 32 := 0#32
  let v651 : BitVec 1 := Scalar.cmpi .eq v636 c0_i32_450
  let v652 : BitVec 32 := Scalar.extui v651
  let c0_i32_452 : BitVec 32 := 0#32
  let v653 : BitVec 1 := Scalar.cmpi .ne v652 c0_i32_452
  v653

def k0_off443 (v638 : BitVec 32) : Fin 3 → Nat :=
  let c0_i32_684 : BitVec 32 := 0#32
  let v948 : Index := Scalar.indexCast c0_i32_684
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v949 : Index := Scalar.indexCast v649
  let c16 : Index := 16#32
  ![0, v949.toNat, 16]
def k0_off444 (v638 : BitVec 32) : Fin 3 → Nat :=
  let c0_i32_685 : BitVec 32 := 0#32
  let v951 : Index := Scalar.indexCast c0_i32_685
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v952 : Index := Scalar.indexCast v649
  let c32 : Index := 32#32
  ![0, v952.toNat, 32]
def k0_off445 (v638 : BitVec 32) : Fin 3 → Nat :=
  let c0_i32_686 : BitVec 32 := 0#32
  let v954 : Index := Scalar.indexCast c0_i32_686
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v955 : Index := Scalar.indexCast v649
  let c48 : Index := 48#32
  ![0, v955.toNat, 48]
def k0_off446 (v638 : BitVec 32) : Fin 3 → Nat :=
  let c0_i32_687 : BitVec 32 := 0#32
  let v957 : Index := Scalar.indexCast c0_i32_687
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v958 : Index := Scalar.indexCast v649
  let c64 : Index := 64#32
  ![0, v958.toNat, 64]
def k0_off447 (v638 : BitVec 32) : Fin 3 → Nat :=
  let c0_i32_688 : BitVec 32 := 0#32
  let v960 : Index := Scalar.indexCast c0_i32_688
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v961 : Index := Scalar.indexCast v649
  let c80 : Index := 80#32
  ![0, v961.toNat, 80]
def k0_off448 (v638 : BitVec 32) : Fin 3 → Nat :=
  let c0_i32_689 : BitVec 32 := 0#32
  let v963 : Index := Scalar.indexCast c0_i32_689
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v964 : Index := Scalar.indexCast v649
  let c96 : Index := 96#32
  ![0, v964.toNat, 96]
def k0_off449 (v638 : BitVec 32) : Fin 3 → Nat :=
  let c0_i32_690 : BitVec 32 := 0#32
  let v966 : Index := Scalar.indexCast c0_i32_690
  let c8_i32_445 : BitVec 32 := 8#32
  let v639 : BitVec 32 := Scalar.remsi v638 c8_i32_445
  let v640 : BitVec 32 := Scalar.subi v638 v639
  let c4088_i32_446 : BitVec 32 := 4088#32
  let v641 : BitVec 32 := Scalar.minsi v640 c4088_i32_446
  let v642 : BitVec 32 := v641
  let v649 : BitVec 32 := Scalar.subi v638 v642
  let v967 : Index := Scalar.indexCast v649
  let c112 : Index := 112#32
  ![0, v967.toNat, 112]

def k0_chk45 (v636 : BitVec 32) (v638 : BitVec 32) : Prop :=
  (8 ∣ (k0_mult45 v638).toNat) ∧
  (∀ (k0_h24 : k0_cond24 v636 = 1#1), ∀ a, (k0_off442 v638) a + S1x1x16.size a ≤ S2x128x128.size a) ∧
  (∀ (k0_h24 : k0_cond24 v636 = 1#1), ∀ a, (k0_off443 v638) a + S1x1x16.size a ≤ S2x128x128.size a) ∧
  (∀ (k0_h24 : k0_cond24 v636 = 1#1), ∀ a, (k0_off444 v638) a + S1x1x16.size a ≤ S2x128x128.size a) ∧
  (∀ (k0_h24 : k0_cond24 v636 = 1#1), ∀ a, (k0_off445 v638) a + S1x1x16.size a ≤ S2x128x128.size a) ∧
  (∀ (k0_h24 : k0_cond24 v636 = 1#1), ∀ a, (k0_off446 v638) a + S1x1x16.size a ≤ S2x128x128.size a) ∧
  (∀ (k0_h24 : k0_cond24 v636 = 1#1), ∀ a, (k0_off447 v638) a + S1x1x16.size a ≤ S2x128x128.size a) ∧
  (∀ (k0_h24 : k0_cond24 v636 = 1#1), ∀ a, (k0_off448 v638) a + S1x1x16.size a ≤ S2x128x128.size a) ∧
  (∀ (k0_h24 : k0_cond24 v636 = 1#1), ∀ a, (k0_off449 v638) a + S1x1x16.size a ≤ S2x128x128.size a)
theorem k0_mult45_dvd : ∀ (v636 : BitVec 32) (v638 : BitVec 32) (k0_hw45 : k0_chk45 v636 v638), 8 ∣ (k0_mult45 v638).toNat := fun v636 v638 k0_hw45 => k0_hw45.1
theorem k0_off442_inb : ∀ (v636 : BitVec 32) (v638 : BitVec 32) (k0_hw45 : k0_chk45 v636 v638), ∀ (k0_h24 : k0_cond24 v636 = 1#1), ∀ a, (k0_off442 v638) a + S1x1x16.size a ≤ S2x128x128.size a := fun v636 v638 k0_hw45 k0_h24 => k0_hw45.2.1 k0_h24
theorem k0_off443_inb : ∀ (v636 : BitVec 32) (v638 : BitVec 32) (k0_hw45 : k0_chk45 v636 v638), ∀ (k0_h24 : k0_cond24 v636 = 1#1), ∀ a, (k0_off443 v638) a + S1x1x16.size a ≤ S2x128x128.size a := fun v636 v638 k0_hw45 k0_h24 => k0_hw45.2.2.1 k0_h24
theorem k0_off444_inb : ∀ (v636 : BitVec 32) (v638 : BitVec 32) (k0_hw45 : k0_chk45 v636 v638), ∀ (k0_h24 : k0_cond24 v636 = 1#1), ∀ a, (k0_off444 v638) a + S1x1x16.size a ≤ S2x128x128.size a := fun v636 v638 k0_hw45 k0_h24 => k0_hw45.2.2.2.1 k0_h24
theorem k0_off445_inb : ∀ (v636 : BitVec 32) (v638 : BitVec 32) (k0_hw45 : k0_chk45 v636 v638), ∀ (k0_h24 : k0_cond24 v636 = 1#1), ∀ a, (k0_off445 v638) a + S1x1x16.size a ≤ S2x128x128.size a := fun v636 v638 k0_hw45 k0_h24 => k0_hw45.2.2.2.2.1 k0_h24
theorem k0_off446_inb : ∀ (v636 : BitVec 32) (v638 : BitVec 32) (k0_hw45 : k0_chk45 v636 v638), ∀ (k0_h24 : k0_cond24 v636 = 1#1), ∀ a, (k0_off446 v638) a + S1x1x16.size a ≤ S2x128x128.size a := fun v636 v638 k0_hw45 k0_h24 => k0_hw45.2.2.2.2.2.1 k0_h24
theorem k0_off447_inb : ∀ (v636 : BitVec 32) (v638 : BitVec 32) (k0_hw45 : k0_chk45 v636 v638), ∀ (k0_h24 : k0_cond24 v636 = 1#1), ∀ a, (k0_off447 v638) a + S1x1x16.size a ≤ S2x128x128.size a := fun v636 v638 k0_hw45 k0_h24 => k0_hw45.2.2.2.2.2.2.1 k0_h24
theorem k0_off448_inb : ∀ (v636 : BitVec 32) (v638 : BitVec 32) (k0_hw45 : k0_chk45 v636 v638), ∀ (k0_h24 : k0_cond24 v636 = 1#1), ∀ a, (k0_off448 v638) a + S1x1x16.size a ≤ S2x128x128.size a := fun v636 v638 k0_hw45 k0_h24 => k0_hw45.2.2.2.2.2.2.2.1 k0_h24
theorem k0_off449_inb : ∀ (v636 : BitVec 32) (v638 : BitVec 32) (k0_hw45 : k0_chk45 v636 v638), ∀ (k0_h24 : k0_cond24 v636 = 1#1), ∀ a, (k0_off449 v638) a + S1x1x16.size a ≤ S2x128x128.size a := fun v636 v638 k0_hw45 k0_h24 => k0_hw45.2.2.2.2.2.2.2.2 k0_h24

@[reducible] def k0_t26_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off450 (k0_t26 : Fin k0_t26_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t26
  let v971 : Index := Scalar.indexCast arg30
  let c0_698 : Index := 0#32
  ![0, v971.toNat, 0]
def k0_off451 (k0_t26 : Fin k0_t26_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t26
  let v974 : Index := Scalar.indexCast arg30
  let c16_700 : Index := 16#32
  ![0, v974.toNat, 16]
def k0_off452 (k0_t26 : Fin k0_t26_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t26
  let v977 : Index := Scalar.indexCast arg30
  let c32_702 : Index := 32#32
  ![0, v977.toNat, 32]
def k0_off453 (k0_t26 : Fin k0_t26_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t26
  let v980 : Index := Scalar.indexCast arg30
  let c48_704 : Index := 48#32
  ![0, v980.toNat, 48]
def k0_off454 (k0_t26 : Fin k0_t26_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t26
  let v983 : Index := Scalar.indexCast arg30
  let c64_706 : Index := 64#32
  ![0, v983.toNat, 64]
def k0_off455 (k0_t26 : Fin k0_t26_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t26
  let v986 : Index := Scalar.indexCast arg30
  let c80_708 : Index := 80#32
  ![0, v986.toNat, 80]
def k0_off456 (k0_t26 : Fin k0_t26_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t26
  let v989 : Index := Scalar.indexCast arg30
  let c96_710 : Index := 96#32
  ![0, v989.toNat, 96]
def k0_off457 (k0_t26 : Fin k0_t26_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t26
  let v992 : Index := Scalar.indexCast arg30
  let c112_712 : Index := 112#32
  ![0, v992.toNat, 112]
def k0_off458 (v644 : BitVec 32) (k0_t26 : Fin k0_t26_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v994 : BitVec 32 := Scalar.addi arg30 v650
  let v996 : Index := Scalar.indexCast v994
  let c0_714 : Index := 0#32
  ![0, v996.toNat, 0]
def k0_off459 (v644 : BitVec 32) (k0_t26 : Fin k0_t26_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v998 : BitVec 32 := Scalar.addi arg30 v650
  let v1000 : Index := Scalar.indexCast v998
  let c16_716 : Index := 16#32
  ![0, v1000.toNat, 16]
def k0_off460 (v644 : BitVec 32) (k0_t26 : Fin k0_t26_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1002 : BitVec 32 := Scalar.addi arg30 v650
  let v1004 : Index := Scalar.indexCast v1002
  let c32_718 : Index := 32#32
  ![0, v1004.toNat, 32]
def k0_off461 (v644 : BitVec 32) (k0_t26 : Fin k0_t26_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1006 : BitVec 32 := Scalar.addi arg30 v650
  let v1008 : Index := Scalar.indexCast v1006
  let c48_720 : Index := 48#32
  ![0, v1008.toNat, 48]
def k0_off462 (v644 : BitVec 32) (k0_t26 : Fin k0_t26_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1010 : BitVec 32 := Scalar.addi arg30 v650
  let v1012 : Index := Scalar.indexCast v1010
  let c64_722 : Index := 64#32
  ![0, v1012.toNat, 64]
def k0_off463 (v644 : BitVec 32) (k0_t26 : Fin k0_t26_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1014 : BitVec 32 := Scalar.addi arg30 v650
  let v1016 : Index := Scalar.indexCast v1014
  let c80_724 : Index := 80#32
  ![0, v1016.toNat, 80]
def k0_off464 (v644 : BitVec 32) (k0_t26 : Fin k0_t26_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1018 : BitVec 32 := Scalar.addi arg30 v650
  let v1020 : Index := Scalar.indexCast v1018
  let c96_726 : Index := 96#32
  ![0, v1020.toNat, 96]
def k0_off465 (v644 : BitVec 32) (k0_t26 : Fin k0_t26_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t26
  let c8_i32_448 : BitVec 32 := 8#32
  let v645 : BitVec 32 := Scalar.remsi v644 c8_i32_448
  let v646 : BitVec 32 := Scalar.subi v644 v645
  let c3960_i32_449 : BitVec 32 := 3960#32
  let v647 : BitVec 32 := Scalar.minsi v646 c3960_i32_449
  let v648 : BitVec 32 := v647
  let v650 : BitVec 32 := Scalar.subi v644 v648
  let v1022 : BitVec 32 := Scalar.addi arg30 v650
  let v1024 : Index := Scalar.indexCast v1022
  let c112_728 : Index := 112#32
  ![0, v1024.toNat, 112]

def k0_chk46 (v636 : BitVec 32) (v644 : BitVec 32) : Prop :=
  (8 ∣ (k0_mult46 v644).toNat) ∧
  (∀ k0_t26 : Fin k0_t26_loop.trips, ∀ (k0_h24 : k0_cond24 v636 = 1#1), ∀ a, (k0_off458 v644 k0_t26) a + S1x1x16.size a ≤ S2x136x128.size a) ∧
  (∀ k0_t26 : Fin k0_t26_loop.trips, ∀ (k0_h24 : k0_cond24 v636 = 1#1), ∀ a, (k0_off459 v644 k0_t26) a + S1x1x16.size a ≤ S2x136x128.size a) ∧
  (∀ k0_t26 : Fin k0_t26_loop.trips, ∀ (k0_h24 : k0_cond24 v636 = 1#1), ∀ a, (k0_off460 v644 k0_t26) a + S1x1x16.size a ≤ S2x136x128.size a) ∧
  (∀ k0_t26 : Fin k0_t26_loop.trips, ∀ (k0_h24 : k0_cond24 v636 = 1#1), ∀ a, (k0_off461 v644 k0_t26) a + S1x1x16.size a ≤ S2x136x128.size a) ∧
  (∀ k0_t26 : Fin k0_t26_loop.trips, ∀ (k0_h24 : k0_cond24 v636 = 1#1), ∀ a, (k0_off462 v644 k0_t26) a + S1x1x16.size a ≤ S2x136x128.size a) ∧
  (∀ k0_t26 : Fin k0_t26_loop.trips, ∀ (k0_h24 : k0_cond24 v636 = 1#1), ∀ a, (k0_off463 v644 k0_t26) a + S1x1x16.size a ≤ S2x136x128.size a) ∧
  (∀ k0_t26 : Fin k0_t26_loop.trips, ∀ (k0_h24 : k0_cond24 v636 = 1#1), ∀ a, (k0_off464 v644 k0_t26) a + S1x1x16.size a ≤ S2x136x128.size a) ∧
  (∀ k0_t26 : Fin k0_t26_loop.trips, ∀ (k0_h24 : k0_cond24 v636 = 1#1), ∀ a, (k0_off465 v644 k0_t26) a + S1x1x16.size a ≤ S2x136x128.size a)
theorem k0_mult46_dvd : ∀ (v636 : BitVec 32) (v644 : BitVec 32) (k0_hw46 : k0_chk46 v636 v644), 8 ∣ (k0_mult46 v644).toNat := fun v636 v644 k0_hw46 => k0_hw46.1
theorem k0_off458_inb : ∀ (v636 : BitVec 32) (v644 : BitVec 32) (k0_hw46 : k0_chk46 v636 v644) (k0_t26 : Fin k0_t26_loop.trips), ∀ (k0_h24 : k0_cond24 v636 = 1#1), ∀ a, (k0_off458 v644 k0_t26) a + S1x1x16.size a ≤ S2x136x128.size a := fun v636 v644 k0_hw46 k0_t26 k0_h24 => k0_hw46.2.1 k0_t26 k0_h24
theorem k0_off459_inb : ∀ (v636 : BitVec 32) (v644 : BitVec 32) (k0_hw46 : k0_chk46 v636 v644) (k0_t26 : Fin k0_t26_loop.trips), ∀ (k0_h24 : k0_cond24 v636 = 1#1), ∀ a, (k0_off459 v644 k0_t26) a + S1x1x16.size a ≤ S2x136x128.size a := fun v636 v644 k0_hw46 k0_t26 k0_h24 => k0_hw46.2.2.1 k0_t26 k0_h24
theorem k0_off460_inb : ∀ (v636 : BitVec 32) (v644 : BitVec 32) (k0_hw46 : k0_chk46 v636 v644) (k0_t26 : Fin k0_t26_loop.trips), ∀ (k0_h24 : k0_cond24 v636 = 1#1), ∀ a, (k0_off460 v644 k0_t26) a + S1x1x16.size a ≤ S2x136x128.size a := fun v636 v644 k0_hw46 k0_t26 k0_h24 => k0_hw46.2.2.2.1 k0_t26 k0_h24
theorem k0_off461_inb : ∀ (v636 : BitVec 32) (v644 : BitVec 32) (k0_hw46 : k0_chk46 v636 v644) (k0_t26 : Fin k0_t26_loop.trips), ∀ (k0_h24 : k0_cond24 v636 = 1#1), ∀ a, (k0_off461 v644 k0_t26) a + S1x1x16.size a ≤ S2x136x128.size a := fun v636 v644 k0_hw46 k0_t26 k0_h24 => k0_hw46.2.2.2.2.1 k0_t26 k0_h24
theorem k0_off462_inb : ∀ (v636 : BitVec 32) (v644 : BitVec 32) (k0_hw46 : k0_chk46 v636 v644) (k0_t26 : Fin k0_t26_loop.trips), ∀ (k0_h24 : k0_cond24 v636 = 1#1), ∀ a, (k0_off462 v644 k0_t26) a + S1x1x16.size a ≤ S2x136x128.size a := fun v636 v644 k0_hw46 k0_t26 k0_h24 => k0_hw46.2.2.2.2.2.1 k0_t26 k0_h24
theorem k0_off463_inb : ∀ (v636 : BitVec 32) (v644 : BitVec 32) (k0_hw46 : k0_chk46 v636 v644) (k0_t26 : Fin k0_t26_loop.trips), ∀ (k0_h24 : k0_cond24 v636 = 1#1), ∀ a, (k0_off463 v644 k0_t26) a + S1x1x16.size a ≤ S2x136x128.size a := fun v636 v644 k0_hw46 k0_t26 k0_h24 => k0_hw46.2.2.2.2.2.2.1 k0_t26 k0_h24
theorem k0_off464_inb : ∀ (v636 : BitVec 32) (v644 : BitVec 32) (k0_hw46 : k0_chk46 v636 v644) (k0_t26 : Fin k0_t26_loop.trips), ∀ (k0_h24 : k0_cond24 v636 = 1#1), ∀ a, (k0_off464 v644 k0_t26) a + S1x1x16.size a ≤ S2x136x128.size a := fun v636 v644 k0_hw46 k0_t26 k0_h24 => k0_hw46.2.2.2.2.2.2.2.1 k0_t26 k0_h24
theorem k0_off465_inb : ∀ (v636 : BitVec 32) (v644 : BitVec 32) (k0_hw46 : k0_chk46 v636 v644) (k0_t26 : Fin k0_t26_loop.trips), ∀ (k0_h24 : k0_cond24 v636 = 1#1), ∀ a, (k0_off465 v644 k0_t26) a + S1x1x16.size a ≤ S2x136x128.size a := fun v636 v644 k0_hw46 k0_t26 k0_h24 => k0_hw46.2.2.2.2.2.2.2.2 k0_t26 k0_h24

@[reducible] def k0_t27_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off466 (k0_t27 : Fin k0_t27_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t27
  let v943 : Index := Scalar.indexCast arg30
  let c0 : Index := 0#32
  ![0, v943.toNat, 0]
def k0_off467 (k0_t27 : Fin k0_t27_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t27
  let v946 : Index := Scalar.indexCast arg30
  let c16 : Index := 16#32
  ![0, v946.toNat, 16]
def k0_off468 (k0_t27 : Fin k0_t27_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t27
  let v949 : Index := Scalar.indexCast arg30
  let c32 : Index := 32#32
  ![0, v949.toNat, 32]
def k0_off469 (k0_t27 : Fin k0_t27_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t27
  let v952 : Index := Scalar.indexCast arg30
  let c48 : Index := 48#32
  ![0, v952.toNat, 48]
def k0_off470 (k0_t27 : Fin k0_t27_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t27
  let v955 : Index := Scalar.indexCast arg30
  let c64 : Index := 64#32
  ![0, v955.toNat, 64]
def k0_off471 (k0_t27 : Fin k0_t27_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t27
  let v958 : Index := Scalar.indexCast arg30
  let c80 : Index := 80#32
  ![0, v958.toNat, 80]
def k0_off472 (k0_t27 : Fin k0_t27_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t27
  let v961 : Index := Scalar.indexCast arg30
  let c96 : Index := 96#32
  ![0, v961.toNat, 96]
def k0_off473 (k0_t27 : Fin k0_t27_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t27
  let v964 : Index := Scalar.indexCast arg30
  let c112 : Index := 112#32
  ![0, v964.toNat, 112]
def k0_off474 (k0_t27 : Fin k0_t27_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t27
  let v991 : Index := Scalar.indexCast arg30
  let c0_708 : Index := 0#32
  ![0, v991.toNat, 0]
def k0_off475 (k0_t27 : Fin k0_t27_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t27
  let v994 : Index := Scalar.indexCast arg30
  let c16_710 : Index := 16#32
  ![0, v994.toNat, 16]
def k0_off476 (k0_t27 : Fin k0_t27_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t27
  let v997 : Index := Scalar.indexCast arg30
  let c32_712 : Index := 32#32
  ![0, v997.toNat, 32]
def k0_off477 (k0_t27 : Fin k0_t27_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t27
  let v1000 : Index := Scalar.indexCast arg30
  let c48_714 : Index := 48#32
  ![0, v1000.toNat, 48]
def k0_off478 (k0_t27 : Fin k0_t27_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t27
  let v1003 : Index := Scalar.indexCast arg30
  let c64_716 : Index := 64#32
  ![0, v1003.toNat, 64]
def k0_off479 (k0_t27 : Fin k0_t27_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t27
  let v1006 : Index := Scalar.indexCast arg30
  let c80_718 : Index := 80#32
  ![0, v1006.toNat, 80]
def k0_off480 (k0_t27 : Fin k0_t27_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t27
  let v1009 : Index := Scalar.indexCast arg30
  let c96_720 : Index := 96#32
  ![0, v1009.toNat, 96]
def k0_off481 (k0_t27 : Fin k0_t27_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t27
  let v1012 : Index := Scalar.indexCast arg30
  let c112_722 : Index := 112#32
  ![0, v1012.toNat, 112]
def k0_off482 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1280_i32_453 : BitVec 32 := 1280#32
  let v655 : BitVec 32 := Scalar.addi v22 c1280_i32_453
  let c0_i32_457 : BitVec 32 := 0#32
  ![v655.toNat, 0]
def k0_mult47 (v676 : BitVec 32) : BitVec 32 :=
  let c8_i32_475 : BitVec 32 := 8#32
  let v677 : BitVec 32 := Scalar.remsi v676 c8_i32_475
  let v678 : BitVec 32 := Scalar.subi v676 v677
  let c4088_i32_476 : BitVec 32 := 4088#32
  let v679 : BitVec 32 := Scalar.minsi v678 c4088_i32_476
  v679

def k0_mult48 (v682 : BitVec 32) : BitVec 32 :=
  let c8_i32_478 : BitVec 32 := 8#32
  let v683 : BitVec 32 := Scalar.remsi v682 c8_i32_478
  let v684 : BitVec 32 := Scalar.subi v682 v683
  let c3960_i32_479 : BitVec 32 := 3960#32
  let v685 : BitVec 32 := Scalar.minsi v684 c3960_i32_479
  v685

def k0_off483 (v676 : BitVec 32) : Fin 2 → Nat :=
  let c8_i32_475 : BitVec 32 := 8#32
  let v677 : BitVec 32 := Scalar.remsi v676 c8_i32_475
  let v678 : BitVec 32 := Scalar.subi v676 v677
  let c4088_i32_476 : BitVec 32 := 4088#32
  let v679 : BitVec 32 := Scalar.minsi v678 c4088_i32_476
  let v680 : BitVec 32 := v679
  let c0_i32_660 : BitVec 32 := 0#32
  ![v680.toNat, 0]
def k0_cond25 (v674 : BitVec 32) : BitVec 1 :=
  let c0_i32_480 : BitVec 32 := 0#32
  let v687 : BitVec 1 := Scalar.cmpi .eq v674 c0_i32_480
  let v688 : BitVec 32 := Scalar.extui v687
  let c0_i32_482 : BitVec 32 := 0#32
  let v689 : BitVec 1 := Scalar.cmpi .ne v688 c0_i32_482
  v689

def k0_chk47 (v674 : BitVec 32) (v676 : BitVec 32) : Prop :=
  (8 ∣ (k0_mult47 v676).toNat) ∧
  (∀ (k0_h25 : k0_cond25 v674 = 1#1), ∀ a, (k0_off483 v676) a + S8x128.size a ≤ S4096x128.size a)
theorem k0_mult47_dvd : ∀ (v674 : BitVec 32) (v676 : BitVec 32) (k0_hw47 : k0_chk47 v674 v676), 8 ∣ (k0_mult47 v676).toNat := fun v674 v676 k0_hw47 => k0_hw47.1
theorem k0_off483_inb : ∀ (v674 : BitVec 32) (v676 : BitVec 32) (k0_hw47 : k0_chk47 v674 v676), ∀ (k0_h25 : k0_cond25 v674 = 1#1), ∀ a, (k0_off483 v676) a + S8x128.size a ≤ S4096x128.size a := fun v674 v676 k0_hw47 k0_h25 => k0_hw47.2 k0_h25

def k0_off484 (v682 : BitVec 32) : Fin 2 → Nat :=
  let c8_i32_478 : BitVec 32 := 8#32
  let v683 : BitVec 32 := Scalar.remsi v682 c8_i32_478
  let v684 : BitVec 32 := Scalar.subi v682 v683
  let c3960_i32_479 : BitVec 32 := 3960#32
  let v685 : BitVec 32 := Scalar.minsi v684 c3960_i32_479
  let v686 : BitVec 32 := v685
  let c0_i32_669 : BitVec 32 := 0#32
  ![v686.toNat, 0]

def k0_chk48 (v674 : BitVec 32) (v682 : BitVec 32) : Prop :=
  (8 ∣ (k0_mult48 v682).toNat) ∧
  (∀ (k0_h25 : k0_cond25 v674 = 1#1), ∀ a, (k0_off484 v682) a + S136x128.size a ≤ S4096x128.size a)
theorem k0_mult48_dvd : ∀ (v674 : BitVec 32) (v682 : BitVec 32) (k0_hw48 : k0_chk48 v674 v682), 8 ∣ (k0_mult48 v682).toNat := fun v674 v682 k0_hw48 => k0_hw48.1
theorem k0_off484_inb : ∀ (v674 : BitVec 32) (v682 : BitVec 32) (k0_hw48 : k0_chk48 v674 v682), ∀ (k0_h25 : k0_cond25 v674 = 1#1), ∀ a, (k0_off484 v682) a + S136x128.size a ≤ S4096x128.size a := fun v674 v682 k0_hw48 k0_h25 => k0_hw48.2 k0_h25

def k0_mult49 (v694 : BitVec 32) : BitVec 32 :=
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  v697

def k0_mult50 (v700 : BitVec 32) : BitVec 32 :=
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  v703

def k0_off485 (v694 : BitVec 32) : Fin 3 → Nat :=
  let c1_i32_683 : BitVec 32 := 1#32
  let v945 : Index := Scalar.indexCast c1_i32_683
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v946 : Index := Scalar.indexCast v705
  let c0 : Index := 0#32
  ![1, v946.toNat, 0]
def k0_cond26 (v692 : BitVec 32) : BitVec 1 :=
  let c0_i32_490 : BitVec 32 := 0#32
  let v707 : BitVec 1 := Scalar.cmpi .eq v692 c0_i32_490
  let v708 : BitVec 32 := Scalar.extui v707
  let c0_i32_492 : BitVec 32 := 0#32
  let v709 : BitVec 1 := Scalar.cmpi .ne v708 c0_i32_492
  v709

def k0_off486 (v694 : BitVec 32) : Fin 3 → Nat :=
  let c1_i32_684 : BitVec 32 := 1#32
  let v948 : Index := Scalar.indexCast c1_i32_684
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v949 : Index := Scalar.indexCast v705
  let c16 : Index := 16#32
  ![1, v949.toNat, 16]
def k0_off487 (v694 : BitVec 32) : Fin 3 → Nat :=
  let c1_i32_685 : BitVec 32 := 1#32
  let v951 : Index := Scalar.indexCast c1_i32_685
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v952 : Index := Scalar.indexCast v705
  let c32 : Index := 32#32
  ![1, v952.toNat, 32]
def k0_off488 (v694 : BitVec 32) : Fin 3 → Nat :=
  let c1_i32_686 : BitVec 32 := 1#32
  let v954 : Index := Scalar.indexCast c1_i32_686
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v955 : Index := Scalar.indexCast v705
  let c48 : Index := 48#32
  ![1, v955.toNat, 48]
def k0_off489 (v694 : BitVec 32) : Fin 3 → Nat :=
  let c1_i32_687 : BitVec 32 := 1#32
  let v957 : Index := Scalar.indexCast c1_i32_687
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v958 : Index := Scalar.indexCast v705
  let c64 : Index := 64#32
  ![1, v958.toNat, 64]
def k0_off490 (v694 : BitVec 32) : Fin 3 → Nat :=
  let c1_i32_688 : BitVec 32 := 1#32
  let v960 : Index := Scalar.indexCast c1_i32_688
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v961 : Index := Scalar.indexCast v705
  let c80 : Index := 80#32
  ![1, v961.toNat, 80]
def k0_off491 (v694 : BitVec 32) : Fin 3 → Nat :=
  let c1_i32_689 : BitVec 32 := 1#32
  let v963 : Index := Scalar.indexCast c1_i32_689
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v964 : Index := Scalar.indexCast v705
  let c96 : Index := 96#32
  ![1, v964.toNat, 96]
def k0_off492 (v694 : BitVec 32) : Fin 3 → Nat :=
  let c1_i32_690 : BitVec 32 := 1#32
  let v966 : Index := Scalar.indexCast c1_i32_690
  let c8_i32_485 : BitVec 32 := 8#32
  let v695 : BitVec 32 := Scalar.remsi v694 c8_i32_485
  let v696 : BitVec 32 := Scalar.subi v694 v695
  let c4088_i32_486 : BitVec 32 := 4088#32
  let v697 : BitVec 32 := Scalar.minsi v696 c4088_i32_486
  let v698 : BitVec 32 := v697
  let v705 : BitVec 32 := Scalar.subi v694 v698
  let v967 : Index := Scalar.indexCast v705
  let c112 : Index := 112#32
  ![1, v967.toNat, 112]

def k0_chk49 (v692 : BitVec 32) (v694 : BitVec 32) : Prop :=
  (8 ∣ (k0_mult49 v694).toNat) ∧
  (∀ (k0_h26 : k0_cond26 v692 = 1#1), ∀ a, (k0_off485 v694) a + S1x1x16.size a ≤ S2x128x128.size a) ∧
  (∀ (k0_h26 : k0_cond26 v692 = 1#1), ∀ a, (k0_off486 v694) a + S1x1x16.size a ≤ S2x128x128.size a) ∧
  (∀ (k0_h26 : k0_cond26 v692 = 1#1), ∀ a, (k0_off487 v694) a + S1x1x16.size a ≤ S2x128x128.size a) ∧
  (∀ (k0_h26 : k0_cond26 v692 = 1#1), ∀ a, (k0_off488 v694) a + S1x1x16.size a ≤ S2x128x128.size a) ∧
  (∀ (k0_h26 : k0_cond26 v692 = 1#1), ∀ a, (k0_off489 v694) a + S1x1x16.size a ≤ S2x128x128.size a) ∧
  (∀ (k0_h26 : k0_cond26 v692 = 1#1), ∀ a, (k0_off490 v694) a + S1x1x16.size a ≤ S2x128x128.size a) ∧
  (∀ (k0_h26 : k0_cond26 v692 = 1#1), ∀ a, (k0_off491 v694) a + S1x1x16.size a ≤ S2x128x128.size a) ∧
  (∀ (k0_h26 : k0_cond26 v692 = 1#1), ∀ a, (k0_off492 v694) a + S1x1x16.size a ≤ S2x128x128.size a)
theorem k0_mult49_dvd : ∀ (v692 : BitVec 32) (v694 : BitVec 32) (k0_hw49 : k0_chk49 v692 v694), 8 ∣ (k0_mult49 v694).toNat := fun v692 v694 k0_hw49 => k0_hw49.1
theorem k0_off485_inb : ∀ (v692 : BitVec 32) (v694 : BitVec 32) (k0_hw49 : k0_chk49 v692 v694), ∀ (k0_h26 : k0_cond26 v692 = 1#1), ∀ a, (k0_off485 v694) a + S1x1x16.size a ≤ S2x128x128.size a := fun v692 v694 k0_hw49 k0_h26 => k0_hw49.2.1 k0_h26
theorem k0_off486_inb : ∀ (v692 : BitVec 32) (v694 : BitVec 32) (k0_hw49 : k0_chk49 v692 v694), ∀ (k0_h26 : k0_cond26 v692 = 1#1), ∀ a, (k0_off486 v694) a + S1x1x16.size a ≤ S2x128x128.size a := fun v692 v694 k0_hw49 k0_h26 => k0_hw49.2.2.1 k0_h26
theorem k0_off487_inb : ∀ (v692 : BitVec 32) (v694 : BitVec 32) (k0_hw49 : k0_chk49 v692 v694), ∀ (k0_h26 : k0_cond26 v692 = 1#1), ∀ a, (k0_off487 v694) a + S1x1x16.size a ≤ S2x128x128.size a := fun v692 v694 k0_hw49 k0_h26 => k0_hw49.2.2.2.1 k0_h26
theorem k0_off488_inb : ∀ (v692 : BitVec 32) (v694 : BitVec 32) (k0_hw49 : k0_chk49 v692 v694), ∀ (k0_h26 : k0_cond26 v692 = 1#1), ∀ a, (k0_off488 v694) a + S1x1x16.size a ≤ S2x128x128.size a := fun v692 v694 k0_hw49 k0_h26 => k0_hw49.2.2.2.2.1 k0_h26
theorem k0_off489_inb : ∀ (v692 : BitVec 32) (v694 : BitVec 32) (k0_hw49 : k0_chk49 v692 v694), ∀ (k0_h26 : k0_cond26 v692 = 1#1), ∀ a, (k0_off489 v694) a + S1x1x16.size a ≤ S2x128x128.size a := fun v692 v694 k0_hw49 k0_h26 => k0_hw49.2.2.2.2.2.1 k0_h26
theorem k0_off490_inb : ∀ (v692 : BitVec 32) (v694 : BitVec 32) (k0_hw49 : k0_chk49 v692 v694), ∀ (k0_h26 : k0_cond26 v692 = 1#1), ∀ a, (k0_off490 v694) a + S1x1x16.size a ≤ S2x128x128.size a := fun v692 v694 k0_hw49 k0_h26 => k0_hw49.2.2.2.2.2.2.1 k0_h26
theorem k0_off491_inb : ∀ (v692 : BitVec 32) (v694 : BitVec 32) (k0_hw49 : k0_chk49 v692 v694), ∀ (k0_h26 : k0_cond26 v692 = 1#1), ∀ a, (k0_off491 v694) a + S1x1x16.size a ≤ S2x128x128.size a := fun v692 v694 k0_hw49 k0_h26 => k0_hw49.2.2.2.2.2.2.2.1 k0_h26
theorem k0_off492_inb : ∀ (v692 : BitVec 32) (v694 : BitVec 32) (k0_hw49 : k0_chk49 v692 v694), ∀ (k0_h26 : k0_cond26 v692 = 1#1), ∀ a, (k0_off492 v694) a + S1x1x16.size a ≤ S2x128x128.size a := fun v692 v694 k0_hw49 k0_h26 => k0_hw49.2.2.2.2.2.2.2.2 k0_h26

@[reducible] def k0_t28_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off493 (k0_t28 : Fin k0_t28_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t28
  let v971 : Index := Scalar.indexCast arg30
  let c0_698 : Index := 0#32
  ![1, v971.toNat, 0]
def k0_off494 (k0_t28 : Fin k0_t28_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t28
  let v974 : Index := Scalar.indexCast arg30
  let c16_700 : Index := 16#32
  ![1, v974.toNat, 16]
def k0_off495 (k0_t28 : Fin k0_t28_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t28
  let v977 : Index := Scalar.indexCast arg30
  let c32_702 : Index := 32#32
  ![1, v977.toNat, 32]
def k0_off496 (k0_t28 : Fin k0_t28_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t28
  let v980 : Index := Scalar.indexCast arg30
  let c48_704 : Index := 48#32
  ![1, v980.toNat, 48]
def k0_off497 (k0_t28 : Fin k0_t28_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t28
  let v983 : Index := Scalar.indexCast arg30
  let c64_706 : Index := 64#32
  ![1, v983.toNat, 64]
def k0_off498 (k0_t28 : Fin k0_t28_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t28
  let v986 : Index := Scalar.indexCast arg30
  let c80_708 : Index := 80#32
  ![1, v986.toNat, 80]
def k0_off499 (k0_t28 : Fin k0_t28_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t28
  let v989 : Index := Scalar.indexCast arg30
  let c96_710 : Index := 96#32
  ![1, v989.toNat, 96]
def k0_off500 (k0_t28 : Fin k0_t28_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t28
  let v992 : Index := Scalar.indexCast arg30
  let c112_712 : Index := 112#32
  ![1, v992.toNat, 112]
def k0_off501 (v700 : BitVec 32) (k0_t28 : Fin k0_t28_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v994 : BitVec 32 := Scalar.addi arg30 v706
  let v996 : Index := Scalar.indexCast v994
  let c0_714 : Index := 0#32
  ![1, v996.toNat, 0]
def k0_off502 (v700 : BitVec 32) (k0_t28 : Fin k0_t28_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v998 : BitVec 32 := Scalar.addi arg30 v706
  let v1000 : Index := Scalar.indexCast v998
  let c16_716 : Index := 16#32
  ![1, v1000.toNat, 16]
def k0_off503 (v700 : BitVec 32) (k0_t28 : Fin k0_t28_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1002 : BitVec 32 := Scalar.addi arg30 v706
  let v1004 : Index := Scalar.indexCast v1002
  let c32_718 : Index := 32#32
  ![1, v1004.toNat, 32]
def k0_off504 (v700 : BitVec 32) (k0_t28 : Fin k0_t28_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1006 : BitVec 32 := Scalar.addi arg30 v706
  let v1008 : Index := Scalar.indexCast v1006
  let c48_720 : Index := 48#32
  ![1, v1008.toNat, 48]
def k0_off505 (v700 : BitVec 32) (k0_t28 : Fin k0_t28_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1010 : BitVec 32 := Scalar.addi arg30 v706
  let v1012 : Index := Scalar.indexCast v1010
  let c64_722 : Index := 64#32
  ![1, v1012.toNat, 64]
def k0_off506 (v700 : BitVec 32) (k0_t28 : Fin k0_t28_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1014 : BitVec 32 := Scalar.addi arg30 v706
  let v1016 : Index := Scalar.indexCast v1014
  let c80_724 : Index := 80#32
  ![1, v1016.toNat, 80]
def k0_off507 (v700 : BitVec 32) (k0_t28 : Fin k0_t28_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1018 : BitVec 32 := Scalar.addi arg30 v706
  let v1020 : Index := Scalar.indexCast v1018
  let c96_726 : Index := 96#32
  ![1, v1020.toNat, 96]
def k0_off508 (v700 : BitVec 32) (k0_t28 : Fin k0_t28_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t28
  let c8_i32_488 : BitVec 32 := 8#32
  let v701 : BitVec 32 := Scalar.remsi v700 c8_i32_488
  let v702 : BitVec 32 := Scalar.subi v700 v701
  let c3960_i32_489 : BitVec 32 := 3960#32
  let v703 : BitVec 32 := Scalar.minsi v702 c3960_i32_489
  let v704 : BitVec 32 := v703
  let v706 : BitVec 32 := Scalar.subi v700 v704
  let v1022 : BitVec 32 := Scalar.addi arg30 v706
  let v1024 : Index := Scalar.indexCast v1022
  let c112_728 : Index := 112#32
  ![1, v1024.toNat, 112]

def k0_chk50 (v692 : BitVec 32) (v700 : BitVec 32) : Prop :=
  (8 ∣ (k0_mult50 v700).toNat) ∧
  (∀ k0_t28 : Fin k0_t28_loop.trips, ∀ (k0_h26 : k0_cond26 v692 = 1#1), ∀ a, (k0_off501 v700 k0_t28) a + S1x1x16.size a ≤ S2x136x128.size a) ∧
  (∀ k0_t28 : Fin k0_t28_loop.trips, ∀ (k0_h26 : k0_cond26 v692 = 1#1), ∀ a, (k0_off502 v700 k0_t28) a + S1x1x16.size a ≤ S2x136x128.size a) ∧
  (∀ k0_t28 : Fin k0_t28_loop.trips, ∀ (k0_h26 : k0_cond26 v692 = 1#1), ∀ a, (k0_off503 v700 k0_t28) a + S1x1x16.size a ≤ S2x136x128.size a) ∧
  (∀ k0_t28 : Fin k0_t28_loop.trips, ∀ (k0_h26 : k0_cond26 v692 = 1#1), ∀ a, (k0_off504 v700 k0_t28) a + S1x1x16.size a ≤ S2x136x128.size a) ∧
  (∀ k0_t28 : Fin k0_t28_loop.trips, ∀ (k0_h26 : k0_cond26 v692 = 1#1), ∀ a, (k0_off505 v700 k0_t28) a + S1x1x16.size a ≤ S2x136x128.size a) ∧
  (∀ k0_t28 : Fin k0_t28_loop.trips, ∀ (k0_h26 : k0_cond26 v692 = 1#1), ∀ a, (k0_off506 v700 k0_t28) a + S1x1x16.size a ≤ S2x136x128.size a) ∧
  (∀ k0_t28 : Fin k0_t28_loop.trips, ∀ (k0_h26 : k0_cond26 v692 = 1#1), ∀ a, (k0_off507 v700 k0_t28) a + S1x1x16.size a ≤ S2x136x128.size a) ∧
  (∀ k0_t28 : Fin k0_t28_loop.trips, ∀ (k0_h26 : k0_cond26 v692 = 1#1), ∀ a, (k0_off508 v700 k0_t28) a + S1x1x16.size a ≤ S2x136x128.size a)
theorem k0_mult50_dvd : ∀ (v692 : BitVec 32) (v700 : BitVec 32) (k0_hw50 : k0_chk50 v692 v700), 8 ∣ (k0_mult50 v700).toNat := fun v692 v700 k0_hw50 => k0_hw50.1
theorem k0_off501_inb : ∀ (v692 : BitVec 32) (v700 : BitVec 32) (k0_hw50 : k0_chk50 v692 v700) (k0_t28 : Fin k0_t28_loop.trips), ∀ (k0_h26 : k0_cond26 v692 = 1#1), ∀ a, (k0_off501 v700 k0_t28) a + S1x1x16.size a ≤ S2x136x128.size a := fun v692 v700 k0_hw50 k0_t28 k0_h26 => k0_hw50.2.1 k0_t28 k0_h26
theorem k0_off502_inb : ∀ (v692 : BitVec 32) (v700 : BitVec 32) (k0_hw50 : k0_chk50 v692 v700) (k0_t28 : Fin k0_t28_loop.trips), ∀ (k0_h26 : k0_cond26 v692 = 1#1), ∀ a, (k0_off502 v700 k0_t28) a + S1x1x16.size a ≤ S2x136x128.size a := fun v692 v700 k0_hw50 k0_t28 k0_h26 => k0_hw50.2.2.1 k0_t28 k0_h26
theorem k0_off503_inb : ∀ (v692 : BitVec 32) (v700 : BitVec 32) (k0_hw50 : k0_chk50 v692 v700) (k0_t28 : Fin k0_t28_loop.trips), ∀ (k0_h26 : k0_cond26 v692 = 1#1), ∀ a, (k0_off503 v700 k0_t28) a + S1x1x16.size a ≤ S2x136x128.size a := fun v692 v700 k0_hw50 k0_t28 k0_h26 => k0_hw50.2.2.2.1 k0_t28 k0_h26
theorem k0_off504_inb : ∀ (v692 : BitVec 32) (v700 : BitVec 32) (k0_hw50 : k0_chk50 v692 v700) (k0_t28 : Fin k0_t28_loop.trips), ∀ (k0_h26 : k0_cond26 v692 = 1#1), ∀ a, (k0_off504 v700 k0_t28) a + S1x1x16.size a ≤ S2x136x128.size a := fun v692 v700 k0_hw50 k0_t28 k0_h26 => k0_hw50.2.2.2.2.1 k0_t28 k0_h26
theorem k0_off505_inb : ∀ (v692 : BitVec 32) (v700 : BitVec 32) (k0_hw50 : k0_chk50 v692 v700) (k0_t28 : Fin k0_t28_loop.trips), ∀ (k0_h26 : k0_cond26 v692 = 1#1), ∀ a, (k0_off505 v700 k0_t28) a + S1x1x16.size a ≤ S2x136x128.size a := fun v692 v700 k0_hw50 k0_t28 k0_h26 => k0_hw50.2.2.2.2.2.1 k0_t28 k0_h26
theorem k0_off506_inb : ∀ (v692 : BitVec 32) (v700 : BitVec 32) (k0_hw50 : k0_chk50 v692 v700) (k0_t28 : Fin k0_t28_loop.trips), ∀ (k0_h26 : k0_cond26 v692 = 1#1), ∀ a, (k0_off506 v700 k0_t28) a + S1x1x16.size a ≤ S2x136x128.size a := fun v692 v700 k0_hw50 k0_t28 k0_h26 => k0_hw50.2.2.2.2.2.2.1 k0_t28 k0_h26
theorem k0_off507_inb : ∀ (v692 : BitVec 32) (v700 : BitVec 32) (k0_hw50 : k0_chk50 v692 v700) (k0_t28 : Fin k0_t28_loop.trips), ∀ (k0_h26 : k0_cond26 v692 = 1#1), ∀ a, (k0_off507 v700 k0_t28) a + S1x1x16.size a ≤ S2x136x128.size a := fun v692 v700 k0_hw50 k0_t28 k0_h26 => k0_hw50.2.2.2.2.2.2.2.1 k0_t28 k0_h26
theorem k0_off508_inb : ∀ (v692 : BitVec 32) (v700 : BitVec 32) (k0_hw50 : k0_chk50 v692 v700) (k0_t28 : Fin k0_t28_loop.trips), ∀ (k0_h26 : k0_cond26 v692 = 1#1), ∀ a, (k0_off508 v700 k0_t28) a + S1x1x16.size a ≤ S2x136x128.size a := fun v692 v700 k0_hw50 k0_t28 k0_h26 => k0_hw50.2.2.2.2.2.2.2.2 k0_t28 k0_h26

@[reducible] def k0_t29_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off509 (k0_t29 : Fin k0_t29_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t29
  let v943 : Index := Scalar.indexCast arg30
  let c0 : Index := 0#32
  ![1, v943.toNat, 0]
def k0_off510 (k0_t29 : Fin k0_t29_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t29
  let v946 : Index := Scalar.indexCast arg30
  let c16 : Index := 16#32
  ![1, v946.toNat, 16]
def k0_off511 (k0_t29 : Fin k0_t29_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t29
  let v949 : Index := Scalar.indexCast arg30
  let c32 : Index := 32#32
  ![1, v949.toNat, 32]
def k0_off512 (k0_t29 : Fin k0_t29_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t29
  let v952 : Index := Scalar.indexCast arg30
  let c48 : Index := 48#32
  ![1, v952.toNat, 48]
def k0_off513 (k0_t29 : Fin k0_t29_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t29
  let v955 : Index := Scalar.indexCast arg30
  let c64 : Index := 64#32
  ![1, v955.toNat, 64]
def k0_off514 (k0_t29 : Fin k0_t29_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t29
  let v958 : Index := Scalar.indexCast arg30
  let c80 : Index := 80#32
  ![1, v958.toNat, 80]
def k0_off515 (k0_t29 : Fin k0_t29_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t29
  let v961 : Index := Scalar.indexCast arg30
  let c96 : Index := 96#32
  ![1, v961.toNat, 96]
def k0_off516 (k0_t29 : Fin k0_t29_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t29
  let v964 : Index := Scalar.indexCast arg30
  let c112 : Index := 112#32
  ![1, v964.toNat, 112]
def k0_off517 (k0_t29 : Fin k0_t29_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t29
  let v991 : Index := Scalar.indexCast arg30
  let c0_708 : Index := 0#32
  ![1, v991.toNat, 0]
def k0_off518 (k0_t29 : Fin k0_t29_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t29
  let v994 : Index := Scalar.indexCast arg30
  let c16_710 : Index := 16#32
  ![1, v994.toNat, 16]
def k0_off519 (k0_t29 : Fin k0_t29_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t29
  let v997 : Index := Scalar.indexCast arg30
  let c32_712 : Index := 32#32
  ![1, v997.toNat, 32]
def k0_off520 (k0_t29 : Fin k0_t29_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t29
  let v1000 : Index := Scalar.indexCast arg30
  let c48_714 : Index := 48#32
  ![1, v1000.toNat, 48]
def k0_off521 (k0_t29 : Fin k0_t29_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t29
  let v1003 : Index := Scalar.indexCast arg30
  let c64_716 : Index := 64#32
  ![1, v1003.toNat, 64]
def k0_off522 (k0_t29 : Fin k0_t29_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t29
  let v1006 : Index := Scalar.indexCast arg30
  let c80_718 : Index := 80#32
  ![1, v1006.toNat, 80]
def k0_off523 (k0_t29 : Fin k0_t29_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t29
  let v1009 : Index := Scalar.indexCast arg30
  let c96_720 : Index := 96#32
  ![1, v1009.toNat, 96]
def k0_off524 (k0_t29 : Fin k0_t29_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t29
  let v1012 : Index := Scalar.indexCast arg30
  let c112_722 : Index := 112#32
  ![1, v1012.toNat, 112]
def k0_off525 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1408_i32_493 : BitVec 32 := 1408#32
  let v711 : BitVec 32 := Scalar.addi v22 c1408_i32_493
  let c0_i32_497 : BitVec 32 := 0#32
  ![v711.toNat, 0]
def k0_mult51 (v732 : BitVec 32) : BitVec 32 :=
  let c8_i32_515 : BitVec 32 := 8#32
  let v733 : BitVec 32 := Scalar.remsi v732 c8_i32_515
  let v734 : BitVec 32 := Scalar.subi v732 v733
  let c4088_i32_516 : BitVec 32 := 4088#32
  let v735 : BitVec 32 := Scalar.minsi v734 c4088_i32_516
  v735

def k0_mult52 (v738 : BitVec 32) : BitVec 32 :=
  let c8_i32_518 : BitVec 32 := 8#32
  let v739 : BitVec 32 := Scalar.remsi v738 c8_i32_518
  let v740 : BitVec 32 := Scalar.subi v738 v739
  let c3960_i32_519 : BitVec 32 := 3960#32
  let v741 : BitVec 32 := Scalar.minsi v740 c3960_i32_519
  v741

def k0_off526 (v732 : BitVec 32) : Fin 2 → Nat :=
  let c8_i32_515 : BitVec 32 := 8#32
  let v733 : BitVec 32 := Scalar.remsi v732 c8_i32_515
  let v734 : BitVec 32 := Scalar.subi v732 v733
  let c4088_i32_516 : BitVec 32 := 4088#32
  let v735 : BitVec 32 := Scalar.minsi v734 c4088_i32_516
  let v736 : BitVec 32 := v735
  let c0_i32_660 : BitVec 32 := 0#32
  ![v736.toNat, 0]
def k0_cond27 (v730 : BitVec 32) : BitVec 1 :=
  let c0_i32_520 : BitVec 32 := 0#32
  let v743 : BitVec 1 := Scalar.cmpi .eq v730 c0_i32_520
  let v744 : BitVec 32 := Scalar.extui v743
  let c0_i32_522 : BitVec 32 := 0#32
  let v745 : BitVec 1 := Scalar.cmpi .ne v744 c0_i32_522
  v745

def k0_chk51 (v730 : BitVec 32) (v732 : BitVec 32) : Prop :=
  (8 ∣ (k0_mult51 v732).toNat) ∧
  (∀ (k0_h27 : k0_cond27 v730 = 1#1), ∀ a, (k0_off526 v732) a + S8x128.size a ≤ S4096x128.size a)
theorem k0_mult51_dvd : ∀ (v730 : BitVec 32) (v732 : BitVec 32) (k0_hw51 : k0_chk51 v730 v732), 8 ∣ (k0_mult51 v732).toNat := fun v730 v732 k0_hw51 => k0_hw51.1
theorem k0_off526_inb : ∀ (v730 : BitVec 32) (v732 : BitVec 32) (k0_hw51 : k0_chk51 v730 v732), ∀ (k0_h27 : k0_cond27 v730 = 1#1), ∀ a, (k0_off526 v732) a + S8x128.size a ≤ S4096x128.size a := fun v730 v732 k0_hw51 k0_h27 => k0_hw51.2 k0_h27

def k0_off527 (v738 : BitVec 32) : Fin 2 → Nat :=
  let c8_i32_518 : BitVec 32 := 8#32
  let v739 : BitVec 32 := Scalar.remsi v738 c8_i32_518
  let v740 : BitVec 32 := Scalar.subi v738 v739
  let c3960_i32_519 : BitVec 32 := 3960#32
  let v741 : BitVec 32 := Scalar.minsi v740 c3960_i32_519
  let v742 : BitVec 32 := v741
  let c0_i32_669 : BitVec 32 := 0#32
  ![v742.toNat, 0]

def k0_chk52 (v730 : BitVec 32) (v738 : BitVec 32) : Prop :=
  (8 ∣ (k0_mult52 v738).toNat) ∧
  (∀ (k0_h27 : k0_cond27 v730 = 1#1), ∀ a, (k0_off527 v738) a + S136x128.size a ≤ S4096x128.size a)
theorem k0_mult52_dvd : ∀ (v730 : BitVec 32) (v738 : BitVec 32) (k0_hw52 : k0_chk52 v730 v738), 8 ∣ (k0_mult52 v738).toNat := fun v730 v738 k0_hw52 => k0_hw52.1
theorem k0_off527_inb : ∀ (v730 : BitVec 32) (v738 : BitVec 32) (k0_hw52 : k0_chk52 v730 v738), ∀ (k0_h27 : k0_cond27 v730 = 1#1), ∀ a, (k0_off527 v738) a + S136x128.size a ≤ S4096x128.size a := fun v730 v738 k0_hw52 k0_h27 => k0_hw52.2 k0_h27

def k0_mult53 (v750 : BitVec 32) : BitVec 32 :=
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  v753

def k0_mult54 (v756 : BitVec 32) : BitVec 32 :=
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  v759

def k0_off528 (v750 : BitVec 32) : Fin 3 → Nat :=
  let c0_i32_683 : BitVec 32 := 0#32
  let v945 : Index := Scalar.indexCast c0_i32_683
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v946 : Index := Scalar.indexCast v761
  let c0 : Index := 0#32
  ![0, v946.toNat, 0]
def k0_cond28 (v748 : BitVec 32) : BitVec 1 :=
  let c0_i32_530 : BitVec 32 := 0#32
  let v763 : BitVec 1 := Scalar.cmpi .eq v748 c0_i32_530
  let v764 : BitVec 32 := Scalar.extui v763
  let c0_i32_532 : BitVec 32 := 0#32
  let v765 : BitVec 1 := Scalar.cmpi .ne v764 c0_i32_532
  v765

def k0_off529 (v750 : BitVec 32) : Fin 3 → Nat :=
  let c0_i32_684 : BitVec 32 := 0#32
  let v948 : Index := Scalar.indexCast c0_i32_684
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v949 : Index := Scalar.indexCast v761
  let c16 : Index := 16#32
  ![0, v949.toNat, 16]
def k0_off530 (v750 : BitVec 32) : Fin 3 → Nat :=
  let c0_i32_685 : BitVec 32 := 0#32
  let v951 : Index := Scalar.indexCast c0_i32_685
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v952 : Index := Scalar.indexCast v761
  let c32 : Index := 32#32
  ![0, v952.toNat, 32]
def k0_off531 (v750 : BitVec 32) : Fin 3 → Nat :=
  let c0_i32_686 : BitVec 32 := 0#32
  let v954 : Index := Scalar.indexCast c0_i32_686
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v955 : Index := Scalar.indexCast v761
  let c48 : Index := 48#32
  ![0, v955.toNat, 48]
def k0_off532 (v750 : BitVec 32) : Fin 3 → Nat :=
  let c0_i32_687 : BitVec 32 := 0#32
  let v957 : Index := Scalar.indexCast c0_i32_687
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v958 : Index := Scalar.indexCast v761
  let c64 : Index := 64#32
  ![0, v958.toNat, 64]
def k0_off533 (v750 : BitVec 32) : Fin 3 → Nat :=
  let c0_i32_688 : BitVec 32 := 0#32
  let v960 : Index := Scalar.indexCast c0_i32_688
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v961 : Index := Scalar.indexCast v761
  let c80 : Index := 80#32
  ![0, v961.toNat, 80]
def k0_off534 (v750 : BitVec 32) : Fin 3 → Nat :=
  let c0_i32_689 : BitVec 32 := 0#32
  let v963 : Index := Scalar.indexCast c0_i32_689
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v964 : Index := Scalar.indexCast v761
  let c96 : Index := 96#32
  ![0, v964.toNat, 96]
def k0_off535 (v750 : BitVec 32) : Fin 3 → Nat :=
  let c0_i32_690 : BitVec 32 := 0#32
  let v966 : Index := Scalar.indexCast c0_i32_690
  let c8_i32_525 : BitVec 32 := 8#32
  let v751 : BitVec 32 := Scalar.remsi v750 c8_i32_525
  let v752 : BitVec 32 := Scalar.subi v750 v751
  let c4088_i32_526 : BitVec 32 := 4088#32
  let v753 : BitVec 32 := Scalar.minsi v752 c4088_i32_526
  let v754 : BitVec 32 := v753
  let v761 : BitVec 32 := Scalar.subi v750 v754
  let v967 : Index := Scalar.indexCast v761
  let c112 : Index := 112#32
  ![0, v967.toNat, 112]

def k0_chk53 (v748 : BitVec 32) (v750 : BitVec 32) : Prop :=
  (8 ∣ (k0_mult53 v750).toNat) ∧
  (∀ (k0_h28 : k0_cond28 v748 = 1#1), ∀ a, (k0_off528 v750) a + S1x1x16.size a ≤ S2x128x128.size a) ∧
  (∀ (k0_h28 : k0_cond28 v748 = 1#1), ∀ a, (k0_off529 v750) a + S1x1x16.size a ≤ S2x128x128.size a) ∧
  (∀ (k0_h28 : k0_cond28 v748 = 1#1), ∀ a, (k0_off530 v750) a + S1x1x16.size a ≤ S2x128x128.size a) ∧
  (∀ (k0_h28 : k0_cond28 v748 = 1#1), ∀ a, (k0_off531 v750) a + S1x1x16.size a ≤ S2x128x128.size a) ∧
  (∀ (k0_h28 : k0_cond28 v748 = 1#1), ∀ a, (k0_off532 v750) a + S1x1x16.size a ≤ S2x128x128.size a) ∧
  (∀ (k0_h28 : k0_cond28 v748 = 1#1), ∀ a, (k0_off533 v750) a + S1x1x16.size a ≤ S2x128x128.size a) ∧
  (∀ (k0_h28 : k0_cond28 v748 = 1#1), ∀ a, (k0_off534 v750) a + S1x1x16.size a ≤ S2x128x128.size a) ∧
  (∀ (k0_h28 : k0_cond28 v748 = 1#1), ∀ a, (k0_off535 v750) a + S1x1x16.size a ≤ S2x128x128.size a)
theorem k0_mult53_dvd : ∀ (v748 : BitVec 32) (v750 : BitVec 32) (k0_hw53 : k0_chk53 v748 v750), 8 ∣ (k0_mult53 v750).toNat := fun v748 v750 k0_hw53 => k0_hw53.1
theorem k0_off528_inb : ∀ (v748 : BitVec 32) (v750 : BitVec 32) (k0_hw53 : k0_chk53 v748 v750), ∀ (k0_h28 : k0_cond28 v748 = 1#1), ∀ a, (k0_off528 v750) a + S1x1x16.size a ≤ S2x128x128.size a := fun v748 v750 k0_hw53 k0_h28 => k0_hw53.2.1 k0_h28
theorem k0_off529_inb : ∀ (v748 : BitVec 32) (v750 : BitVec 32) (k0_hw53 : k0_chk53 v748 v750), ∀ (k0_h28 : k0_cond28 v748 = 1#1), ∀ a, (k0_off529 v750) a + S1x1x16.size a ≤ S2x128x128.size a := fun v748 v750 k0_hw53 k0_h28 => k0_hw53.2.2.1 k0_h28
theorem k0_off530_inb : ∀ (v748 : BitVec 32) (v750 : BitVec 32) (k0_hw53 : k0_chk53 v748 v750), ∀ (k0_h28 : k0_cond28 v748 = 1#1), ∀ a, (k0_off530 v750) a + S1x1x16.size a ≤ S2x128x128.size a := fun v748 v750 k0_hw53 k0_h28 => k0_hw53.2.2.2.1 k0_h28
theorem k0_off531_inb : ∀ (v748 : BitVec 32) (v750 : BitVec 32) (k0_hw53 : k0_chk53 v748 v750), ∀ (k0_h28 : k0_cond28 v748 = 1#1), ∀ a, (k0_off531 v750) a + S1x1x16.size a ≤ S2x128x128.size a := fun v748 v750 k0_hw53 k0_h28 => k0_hw53.2.2.2.2.1 k0_h28
theorem k0_off532_inb : ∀ (v748 : BitVec 32) (v750 : BitVec 32) (k0_hw53 : k0_chk53 v748 v750), ∀ (k0_h28 : k0_cond28 v748 = 1#1), ∀ a, (k0_off532 v750) a + S1x1x16.size a ≤ S2x128x128.size a := fun v748 v750 k0_hw53 k0_h28 => k0_hw53.2.2.2.2.2.1 k0_h28
theorem k0_off533_inb : ∀ (v748 : BitVec 32) (v750 : BitVec 32) (k0_hw53 : k0_chk53 v748 v750), ∀ (k0_h28 : k0_cond28 v748 = 1#1), ∀ a, (k0_off533 v750) a + S1x1x16.size a ≤ S2x128x128.size a := fun v748 v750 k0_hw53 k0_h28 => k0_hw53.2.2.2.2.2.2.1 k0_h28
theorem k0_off534_inb : ∀ (v748 : BitVec 32) (v750 : BitVec 32) (k0_hw53 : k0_chk53 v748 v750), ∀ (k0_h28 : k0_cond28 v748 = 1#1), ∀ a, (k0_off534 v750) a + S1x1x16.size a ≤ S2x128x128.size a := fun v748 v750 k0_hw53 k0_h28 => k0_hw53.2.2.2.2.2.2.2.1 k0_h28
theorem k0_off535_inb : ∀ (v748 : BitVec 32) (v750 : BitVec 32) (k0_hw53 : k0_chk53 v748 v750), ∀ (k0_h28 : k0_cond28 v748 = 1#1), ∀ a, (k0_off535 v750) a + S1x1x16.size a ≤ S2x128x128.size a := fun v748 v750 k0_hw53 k0_h28 => k0_hw53.2.2.2.2.2.2.2.2 k0_h28

@[reducible] def k0_t30_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off536 (k0_t30 : Fin k0_t30_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t30
  let v971 : Index := Scalar.indexCast arg30
  let c0_698 : Index := 0#32
  ![0, v971.toNat, 0]
def k0_off537 (k0_t30 : Fin k0_t30_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t30
  let v974 : Index := Scalar.indexCast arg30
  let c16_700 : Index := 16#32
  ![0, v974.toNat, 16]
def k0_off538 (k0_t30 : Fin k0_t30_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t30
  let v977 : Index := Scalar.indexCast arg30
  let c32_702 : Index := 32#32
  ![0, v977.toNat, 32]
def k0_off539 (k0_t30 : Fin k0_t30_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t30
  let v980 : Index := Scalar.indexCast arg30
  let c48_704 : Index := 48#32
  ![0, v980.toNat, 48]
def k0_off540 (k0_t30 : Fin k0_t30_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t30
  let v983 : Index := Scalar.indexCast arg30
  let c64_706 : Index := 64#32
  ![0, v983.toNat, 64]
def k0_off541 (k0_t30 : Fin k0_t30_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t30
  let v986 : Index := Scalar.indexCast arg30
  let c80_708 : Index := 80#32
  ![0, v986.toNat, 80]
def k0_off542 (k0_t30 : Fin k0_t30_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t30
  let v989 : Index := Scalar.indexCast arg30
  let c96_710 : Index := 96#32
  ![0, v989.toNat, 96]
def k0_off543 (k0_t30 : Fin k0_t30_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t30
  let v992 : Index := Scalar.indexCast arg30
  let c112_712 : Index := 112#32
  ![0, v992.toNat, 112]
def k0_off544 (v756 : BitVec 32) (k0_t30 : Fin k0_t30_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v994 : BitVec 32 := Scalar.addi arg30 v762
  let v996 : Index := Scalar.indexCast v994
  let c0_714 : Index := 0#32
  ![0, v996.toNat, 0]
def k0_off545 (v756 : BitVec 32) (k0_t30 : Fin k0_t30_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v998 : BitVec 32 := Scalar.addi arg30 v762
  let v1000 : Index := Scalar.indexCast v998
  let c16_716 : Index := 16#32
  ![0, v1000.toNat, 16]
def k0_off546 (v756 : BitVec 32) (k0_t30 : Fin k0_t30_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1002 : BitVec 32 := Scalar.addi arg30 v762
  let v1004 : Index := Scalar.indexCast v1002
  let c32_718 : Index := 32#32
  ![0, v1004.toNat, 32]
def k0_off547 (v756 : BitVec 32) (k0_t30 : Fin k0_t30_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1006 : BitVec 32 := Scalar.addi arg30 v762
  let v1008 : Index := Scalar.indexCast v1006
  let c48_720 : Index := 48#32
  ![0, v1008.toNat, 48]
def k0_off548 (v756 : BitVec 32) (k0_t30 : Fin k0_t30_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1010 : BitVec 32 := Scalar.addi arg30 v762
  let v1012 : Index := Scalar.indexCast v1010
  let c64_722 : Index := 64#32
  ![0, v1012.toNat, 64]
def k0_off549 (v756 : BitVec 32) (k0_t30 : Fin k0_t30_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1014 : BitVec 32 := Scalar.addi arg30 v762
  let v1016 : Index := Scalar.indexCast v1014
  let c80_724 : Index := 80#32
  ![0, v1016.toNat, 80]
def k0_off550 (v756 : BitVec 32) (k0_t30 : Fin k0_t30_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1018 : BitVec 32 := Scalar.addi arg30 v762
  let v1020 : Index := Scalar.indexCast v1018
  let c96_726 : Index := 96#32
  ![0, v1020.toNat, 96]
def k0_off551 (v756 : BitVec 32) (k0_t30 : Fin k0_t30_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t30
  let c8_i32_528 : BitVec 32 := 8#32
  let v757 : BitVec 32 := Scalar.remsi v756 c8_i32_528
  let v758 : BitVec 32 := Scalar.subi v756 v757
  let c3960_i32_529 : BitVec 32 := 3960#32
  let v759 : BitVec 32 := Scalar.minsi v758 c3960_i32_529
  let v760 : BitVec 32 := v759
  let v762 : BitVec 32 := Scalar.subi v756 v760
  let v1022 : BitVec 32 := Scalar.addi arg30 v762
  let v1024 : Index := Scalar.indexCast v1022
  let c112_728 : Index := 112#32
  ![0, v1024.toNat, 112]

def k0_chk54 (v748 : BitVec 32) (v756 : BitVec 32) : Prop :=
  (8 ∣ (k0_mult54 v756).toNat) ∧
  (∀ k0_t30 : Fin k0_t30_loop.trips, ∀ (k0_h28 : k0_cond28 v748 = 1#1), ∀ a, (k0_off544 v756 k0_t30) a + S1x1x16.size a ≤ S2x136x128.size a) ∧
  (∀ k0_t30 : Fin k0_t30_loop.trips, ∀ (k0_h28 : k0_cond28 v748 = 1#1), ∀ a, (k0_off545 v756 k0_t30) a + S1x1x16.size a ≤ S2x136x128.size a) ∧
  (∀ k0_t30 : Fin k0_t30_loop.trips, ∀ (k0_h28 : k0_cond28 v748 = 1#1), ∀ a, (k0_off546 v756 k0_t30) a + S1x1x16.size a ≤ S2x136x128.size a) ∧
  (∀ k0_t30 : Fin k0_t30_loop.trips, ∀ (k0_h28 : k0_cond28 v748 = 1#1), ∀ a, (k0_off547 v756 k0_t30) a + S1x1x16.size a ≤ S2x136x128.size a) ∧
  (∀ k0_t30 : Fin k0_t30_loop.trips, ∀ (k0_h28 : k0_cond28 v748 = 1#1), ∀ a, (k0_off548 v756 k0_t30) a + S1x1x16.size a ≤ S2x136x128.size a) ∧
  (∀ k0_t30 : Fin k0_t30_loop.trips, ∀ (k0_h28 : k0_cond28 v748 = 1#1), ∀ a, (k0_off549 v756 k0_t30) a + S1x1x16.size a ≤ S2x136x128.size a) ∧
  (∀ k0_t30 : Fin k0_t30_loop.trips, ∀ (k0_h28 : k0_cond28 v748 = 1#1), ∀ a, (k0_off550 v756 k0_t30) a + S1x1x16.size a ≤ S2x136x128.size a) ∧
  (∀ k0_t30 : Fin k0_t30_loop.trips, ∀ (k0_h28 : k0_cond28 v748 = 1#1), ∀ a, (k0_off551 v756 k0_t30) a + S1x1x16.size a ≤ S2x136x128.size a)
theorem k0_mult54_dvd : ∀ (v748 : BitVec 32) (v756 : BitVec 32) (k0_hw54 : k0_chk54 v748 v756), 8 ∣ (k0_mult54 v756).toNat := fun v748 v756 k0_hw54 => k0_hw54.1
theorem k0_off544_inb : ∀ (v748 : BitVec 32) (v756 : BitVec 32) (k0_hw54 : k0_chk54 v748 v756) (k0_t30 : Fin k0_t30_loop.trips), ∀ (k0_h28 : k0_cond28 v748 = 1#1), ∀ a, (k0_off544 v756 k0_t30) a + S1x1x16.size a ≤ S2x136x128.size a := fun v748 v756 k0_hw54 k0_t30 k0_h28 => k0_hw54.2.1 k0_t30 k0_h28
theorem k0_off545_inb : ∀ (v748 : BitVec 32) (v756 : BitVec 32) (k0_hw54 : k0_chk54 v748 v756) (k0_t30 : Fin k0_t30_loop.trips), ∀ (k0_h28 : k0_cond28 v748 = 1#1), ∀ a, (k0_off545 v756 k0_t30) a + S1x1x16.size a ≤ S2x136x128.size a := fun v748 v756 k0_hw54 k0_t30 k0_h28 => k0_hw54.2.2.1 k0_t30 k0_h28
theorem k0_off546_inb : ∀ (v748 : BitVec 32) (v756 : BitVec 32) (k0_hw54 : k0_chk54 v748 v756) (k0_t30 : Fin k0_t30_loop.trips), ∀ (k0_h28 : k0_cond28 v748 = 1#1), ∀ a, (k0_off546 v756 k0_t30) a + S1x1x16.size a ≤ S2x136x128.size a := fun v748 v756 k0_hw54 k0_t30 k0_h28 => k0_hw54.2.2.2.1 k0_t30 k0_h28
theorem k0_off547_inb : ∀ (v748 : BitVec 32) (v756 : BitVec 32) (k0_hw54 : k0_chk54 v748 v756) (k0_t30 : Fin k0_t30_loop.trips), ∀ (k0_h28 : k0_cond28 v748 = 1#1), ∀ a, (k0_off547 v756 k0_t30) a + S1x1x16.size a ≤ S2x136x128.size a := fun v748 v756 k0_hw54 k0_t30 k0_h28 => k0_hw54.2.2.2.2.1 k0_t30 k0_h28
theorem k0_off548_inb : ∀ (v748 : BitVec 32) (v756 : BitVec 32) (k0_hw54 : k0_chk54 v748 v756) (k0_t30 : Fin k0_t30_loop.trips), ∀ (k0_h28 : k0_cond28 v748 = 1#1), ∀ a, (k0_off548 v756 k0_t30) a + S1x1x16.size a ≤ S2x136x128.size a := fun v748 v756 k0_hw54 k0_t30 k0_h28 => k0_hw54.2.2.2.2.2.1 k0_t30 k0_h28
theorem k0_off549_inb : ∀ (v748 : BitVec 32) (v756 : BitVec 32) (k0_hw54 : k0_chk54 v748 v756) (k0_t30 : Fin k0_t30_loop.trips), ∀ (k0_h28 : k0_cond28 v748 = 1#1), ∀ a, (k0_off549 v756 k0_t30) a + S1x1x16.size a ≤ S2x136x128.size a := fun v748 v756 k0_hw54 k0_t30 k0_h28 => k0_hw54.2.2.2.2.2.2.1 k0_t30 k0_h28
theorem k0_off550_inb : ∀ (v748 : BitVec 32) (v756 : BitVec 32) (k0_hw54 : k0_chk54 v748 v756) (k0_t30 : Fin k0_t30_loop.trips), ∀ (k0_h28 : k0_cond28 v748 = 1#1), ∀ a, (k0_off550 v756 k0_t30) a + S1x1x16.size a ≤ S2x136x128.size a := fun v748 v756 k0_hw54 k0_t30 k0_h28 => k0_hw54.2.2.2.2.2.2.2.1 k0_t30 k0_h28
theorem k0_off551_inb : ∀ (v748 : BitVec 32) (v756 : BitVec 32) (k0_hw54 : k0_chk54 v748 v756) (k0_t30 : Fin k0_t30_loop.trips), ∀ (k0_h28 : k0_cond28 v748 = 1#1), ∀ a, (k0_off551 v756 k0_t30) a + S1x1x16.size a ≤ S2x136x128.size a := fun v748 v756 k0_hw54 k0_t30 k0_h28 => k0_hw54.2.2.2.2.2.2.2.2 k0_t30 k0_h28

@[reducible] def k0_t31_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off552 (k0_t31 : Fin k0_t31_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t31
  let v943 : Index := Scalar.indexCast arg30
  let c0 : Index := 0#32
  ![0, v943.toNat, 0]
def k0_off553 (k0_t31 : Fin k0_t31_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t31
  let v946 : Index := Scalar.indexCast arg30
  let c16 : Index := 16#32
  ![0, v946.toNat, 16]
def k0_off554 (k0_t31 : Fin k0_t31_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t31
  let v949 : Index := Scalar.indexCast arg30
  let c32 : Index := 32#32
  ![0, v949.toNat, 32]
def k0_off555 (k0_t31 : Fin k0_t31_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t31
  let v952 : Index := Scalar.indexCast arg30
  let c48 : Index := 48#32
  ![0, v952.toNat, 48]
def k0_off556 (k0_t31 : Fin k0_t31_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t31
  let v955 : Index := Scalar.indexCast arg30
  let c64 : Index := 64#32
  ![0, v955.toNat, 64]
def k0_off557 (k0_t31 : Fin k0_t31_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t31
  let v958 : Index := Scalar.indexCast arg30
  let c80 : Index := 80#32
  ![0, v958.toNat, 80]
def k0_off558 (k0_t31 : Fin k0_t31_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t31
  let v961 : Index := Scalar.indexCast arg30
  let c96 : Index := 96#32
  ![0, v961.toNat, 96]
def k0_off559 (k0_t31 : Fin k0_t31_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t31
  let v964 : Index := Scalar.indexCast arg30
  let c112 : Index := 112#32
  ![0, v964.toNat, 112]
def k0_off560 (k0_t31 : Fin k0_t31_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t31
  let v991 : Index := Scalar.indexCast arg30
  let c0_708 : Index := 0#32
  ![0, v991.toNat, 0]
def k0_off561 (k0_t31 : Fin k0_t31_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t31
  let v994 : Index := Scalar.indexCast arg30
  let c16_710 : Index := 16#32
  ![0, v994.toNat, 16]
def k0_off562 (k0_t31 : Fin k0_t31_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t31
  let v997 : Index := Scalar.indexCast arg30
  let c32_712 : Index := 32#32
  ![0, v997.toNat, 32]
def k0_off563 (k0_t31 : Fin k0_t31_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t31
  let v1000 : Index := Scalar.indexCast arg30
  let c48_714 : Index := 48#32
  ![0, v1000.toNat, 48]
def k0_off564 (k0_t31 : Fin k0_t31_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t31
  let v1003 : Index := Scalar.indexCast arg30
  let c64_716 : Index := 64#32
  ![0, v1003.toNat, 64]
def k0_off565 (k0_t31 : Fin k0_t31_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t31
  let v1006 : Index := Scalar.indexCast arg30
  let c80_718 : Index := 80#32
  ![0, v1006.toNat, 80]
def k0_off566 (k0_t31 : Fin k0_t31_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t31
  let v1009 : Index := Scalar.indexCast arg30
  let c96_720 : Index := 96#32
  ![0, v1009.toNat, 96]
def k0_off567 (k0_t31 : Fin k0_t31_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t31
  let v1012 : Index := Scalar.indexCast arg30
  let c112_722 : Index := 112#32
  ![0, v1012.toNat, 112]
def k0_off568 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1536_i32_533 : BitVec 32 := 1536#32
  let v767 : BitVec 32 := Scalar.addi v22 c1536_i32_533
  let c0_i32_537 : BitVec 32 := 0#32
  ![v767.toNat, 0]
def k0_mult55 (v788 : BitVec 32) : BitVec 32 :=
  let c8_i32_555 : BitVec 32 := 8#32
  let v789 : BitVec 32 := Scalar.remsi v788 c8_i32_555
  let v790 : BitVec 32 := Scalar.subi v788 v789
  let c4088_i32_556 : BitVec 32 := 4088#32
  let v791 : BitVec 32 := Scalar.minsi v790 c4088_i32_556
  v791

def k0_mult56 (v794 : BitVec 32) : BitVec 32 :=
  let c8_i32_558 : BitVec 32 := 8#32
  let v795 : BitVec 32 := Scalar.remsi v794 c8_i32_558
  let v796 : BitVec 32 := Scalar.subi v794 v795
  let c3960_i32_559 : BitVec 32 := 3960#32
  let v797 : BitVec 32 := Scalar.minsi v796 c3960_i32_559
  v797

def k0_off569 (v788 : BitVec 32) : Fin 2 → Nat :=
  let c8_i32_555 : BitVec 32 := 8#32
  let v789 : BitVec 32 := Scalar.remsi v788 c8_i32_555
  let v790 : BitVec 32 := Scalar.subi v788 v789
  let c4088_i32_556 : BitVec 32 := 4088#32
  let v791 : BitVec 32 := Scalar.minsi v790 c4088_i32_556
  let v792 : BitVec 32 := v791
  let c0_i32_660 : BitVec 32 := 0#32
  ![v792.toNat, 0]
def k0_cond29 (v786 : BitVec 32) : BitVec 1 :=
  let c0_i32_560 : BitVec 32 := 0#32
  let v799 : BitVec 1 := Scalar.cmpi .eq v786 c0_i32_560
  let v800 : BitVec 32 := Scalar.extui v799
  let c0_i32_562 : BitVec 32 := 0#32
  let v801 : BitVec 1 := Scalar.cmpi .ne v800 c0_i32_562
  v801

def k0_chk55 (v786 : BitVec 32) (v788 : BitVec 32) : Prop :=
  (8 ∣ (k0_mult55 v788).toNat) ∧
  (∀ (k0_h29 : k0_cond29 v786 = 1#1), ∀ a, (k0_off569 v788) a + S8x128.size a ≤ S4096x128.size a)
theorem k0_mult55_dvd : ∀ (v786 : BitVec 32) (v788 : BitVec 32) (k0_hw55 : k0_chk55 v786 v788), 8 ∣ (k0_mult55 v788).toNat := fun v786 v788 k0_hw55 => k0_hw55.1
theorem k0_off569_inb : ∀ (v786 : BitVec 32) (v788 : BitVec 32) (k0_hw55 : k0_chk55 v786 v788), ∀ (k0_h29 : k0_cond29 v786 = 1#1), ∀ a, (k0_off569 v788) a + S8x128.size a ≤ S4096x128.size a := fun v786 v788 k0_hw55 k0_h29 => k0_hw55.2 k0_h29

def k0_off570 (v794 : BitVec 32) : Fin 2 → Nat :=
  let c8_i32_558 : BitVec 32 := 8#32
  let v795 : BitVec 32 := Scalar.remsi v794 c8_i32_558
  let v796 : BitVec 32 := Scalar.subi v794 v795
  let c3960_i32_559 : BitVec 32 := 3960#32
  let v797 : BitVec 32 := Scalar.minsi v796 c3960_i32_559
  let v798 : BitVec 32 := v797
  let c0_i32_669 : BitVec 32 := 0#32
  ![v798.toNat, 0]

def k0_chk56 (v786 : BitVec 32) (v794 : BitVec 32) : Prop :=
  (8 ∣ (k0_mult56 v794).toNat) ∧
  (∀ (k0_h29 : k0_cond29 v786 = 1#1), ∀ a, (k0_off570 v794) a + S136x128.size a ≤ S4096x128.size a)
theorem k0_mult56_dvd : ∀ (v786 : BitVec 32) (v794 : BitVec 32) (k0_hw56 : k0_chk56 v786 v794), 8 ∣ (k0_mult56 v794).toNat := fun v786 v794 k0_hw56 => k0_hw56.1
theorem k0_off570_inb : ∀ (v786 : BitVec 32) (v794 : BitVec 32) (k0_hw56 : k0_chk56 v786 v794), ∀ (k0_h29 : k0_cond29 v786 = 1#1), ∀ a, (k0_off570 v794) a + S136x128.size a ≤ S4096x128.size a := fun v786 v794 k0_hw56 k0_h29 => k0_hw56.2 k0_h29

def k0_mult57 (v806 : BitVec 32) : BitVec 32 :=
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  v809

def k0_mult58 (v812 : BitVec 32) : BitVec 32 :=
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  v815

def k0_off571 (v806 : BitVec 32) : Fin 3 → Nat :=
  let c1_i32_683 : BitVec 32 := 1#32
  let v945 : Index := Scalar.indexCast c1_i32_683
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v946 : Index := Scalar.indexCast v817
  let c0 : Index := 0#32
  ![1, v946.toNat, 0]
def k0_cond30 (v804 : BitVec 32) : BitVec 1 :=
  let c0_i32_570 : BitVec 32 := 0#32
  let v819 : BitVec 1 := Scalar.cmpi .eq v804 c0_i32_570
  let v820 : BitVec 32 := Scalar.extui v819
  let c0_i32_572 : BitVec 32 := 0#32
  let v821 : BitVec 1 := Scalar.cmpi .ne v820 c0_i32_572
  v821

def k0_off572 (v806 : BitVec 32) : Fin 3 → Nat :=
  let c1_i32_684 : BitVec 32 := 1#32
  let v948 : Index := Scalar.indexCast c1_i32_684
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v949 : Index := Scalar.indexCast v817
  let c16 : Index := 16#32
  ![1, v949.toNat, 16]
def k0_off573 (v806 : BitVec 32) : Fin 3 → Nat :=
  let c1_i32_685 : BitVec 32 := 1#32
  let v951 : Index := Scalar.indexCast c1_i32_685
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v952 : Index := Scalar.indexCast v817
  let c32 : Index := 32#32
  ![1, v952.toNat, 32]
def k0_off574 (v806 : BitVec 32) : Fin 3 → Nat :=
  let c1_i32_686 : BitVec 32 := 1#32
  let v954 : Index := Scalar.indexCast c1_i32_686
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v955 : Index := Scalar.indexCast v817
  let c48 : Index := 48#32
  ![1, v955.toNat, 48]
def k0_off575 (v806 : BitVec 32) : Fin 3 → Nat :=
  let c1_i32_687 : BitVec 32 := 1#32
  let v957 : Index := Scalar.indexCast c1_i32_687
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v958 : Index := Scalar.indexCast v817
  let c64 : Index := 64#32
  ![1, v958.toNat, 64]
def k0_off576 (v806 : BitVec 32) : Fin 3 → Nat :=
  let c1_i32_688 : BitVec 32 := 1#32
  let v960 : Index := Scalar.indexCast c1_i32_688
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v961 : Index := Scalar.indexCast v817
  let c80 : Index := 80#32
  ![1, v961.toNat, 80]
def k0_off577 (v806 : BitVec 32) : Fin 3 → Nat :=
  let c1_i32_689 : BitVec 32 := 1#32
  let v963 : Index := Scalar.indexCast c1_i32_689
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v964 : Index := Scalar.indexCast v817
  let c96 : Index := 96#32
  ![1, v964.toNat, 96]
def k0_off578 (v806 : BitVec 32) : Fin 3 → Nat :=
  let c1_i32_690 : BitVec 32 := 1#32
  let v966 : Index := Scalar.indexCast c1_i32_690
  let c8_i32_565 : BitVec 32 := 8#32
  let v807 : BitVec 32 := Scalar.remsi v806 c8_i32_565
  let v808 : BitVec 32 := Scalar.subi v806 v807
  let c4088_i32_566 : BitVec 32 := 4088#32
  let v809 : BitVec 32 := Scalar.minsi v808 c4088_i32_566
  let v810 : BitVec 32 := v809
  let v817 : BitVec 32 := Scalar.subi v806 v810
  let v967 : Index := Scalar.indexCast v817
  let c112 : Index := 112#32
  ![1, v967.toNat, 112]

def k0_chk57 (v804 : BitVec 32) (v806 : BitVec 32) : Prop :=
  (8 ∣ (k0_mult57 v806).toNat) ∧
  (∀ (k0_h30 : k0_cond30 v804 = 1#1), ∀ a, (k0_off571 v806) a + S1x1x16.size a ≤ S2x128x128.size a) ∧
  (∀ (k0_h30 : k0_cond30 v804 = 1#1), ∀ a, (k0_off572 v806) a + S1x1x16.size a ≤ S2x128x128.size a) ∧
  (∀ (k0_h30 : k0_cond30 v804 = 1#1), ∀ a, (k0_off573 v806) a + S1x1x16.size a ≤ S2x128x128.size a) ∧
  (∀ (k0_h30 : k0_cond30 v804 = 1#1), ∀ a, (k0_off574 v806) a + S1x1x16.size a ≤ S2x128x128.size a) ∧
  (∀ (k0_h30 : k0_cond30 v804 = 1#1), ∀ a, (k0_off575 v806) a + S1x1x16.size a ≤ S2x128x128.size a) ∧
  (∀ (k0_h30 : k0_cond30 v804 = 1#1), ∀ a, (k0_off576 v806) a + S1x1x16.size a ≤ S2x128x128.size a) ∧
  (∀ (k0_h30 : k0_cond30 v804 = 1#1), ∀ a, (k0_off577 v806) a + S1x1x16.size a ≤ S2x128x128.size a) ∧
  (∀ (k0_h30 : k0_cond30 v804 = 1#1), ∀ a, (k0_off578 v806) a + S1x1x16.size a ≤ S2x128x128.size a)
theorem k0_mult57_dvd : ∀ (v804 : BitVec 32) (v806 : BitVec 32) (k0_hw57 : k0_chk57 v804 v806), 8 ∣ (k0_mult57 v806).toNat := fun v804 v806 k0_hw57 => k0_hw57.1
theorem k0_off571_inb : ∀ (v804 : BitVec 32) (v806 : BitVec 32) (k0_hw57 : k0_chk57 v804 v806), ∀ (k0_h30 : k0_cond30 v804 = 1#1), ∀ a, (k0_off571 v806) a + S1x1x16.size a ≤ S2x128x128.size a := fun v804 v806 k0_hw57 k0_h30 => k0_hw57.2.1 k0_h30
theorem k0_off572_inb : ∀ (v804 : BitVec 32) (v806 : BitVec 32) (k0_hw57 : k0_chk57 v804 v806), ∀ (k0_h30 : k0_cond30 v804 = 1#1), ∀ a, (k0_off572 v806) a + S1x1x16.size a ≤ S2x128x128.size a := fun v804 v806 k0_hw57 k0_h30 => k0_hw57.2.2.1 k0_h30
theorem k0_off573_inb : ∀ (v804 : BitVec 32) (v806 : BitVec 32) (k0_hw57 : k0_chk57 v804 v806), ∀ (k0_h30 : k0_cond30 v804 = 1#1), ∀ a, (k0_off573 v806) a + S1x1x16.size a ≤ S2x128x128.size a := fun v804 v806 k0_hw57 k0_h30 => k0_hw57.2.2.2.1 k0_h30
theorem k0_off574_inb : ∀ (v804 : BitVec 32) (v806 : BitVec 32) (k0_hw57 : k0_chk57 v804 v806), ∀ (k0_h30 : k0_cond30 v804 = 1#1), ∀ a, (k0_off574 v806) a + S1x1x16.size a ≤ S2x128x128.size a := fun v804 v806 k0_hw57 k0_h30 => k0_hw57.2.2.2.2.1 k0_h30
theorem k0_off575_inb : ∀ (v804 : BitVec 32) (v806 : BitVec 32) (k0_hw57 : k0_chk57 v804 v806), ∀ (k0_h30 : k0_cond30 v804 = 1#1), ∀ a, (k0_off575 v806) a + S1x1x16.size a ≤ S2x128x128.size a := fun v804 v806 k0_hw57 k0_h30 => k0_hw57.2.2.2.2.2.1 k0_h30
theorem k0_off576_inb : ∀ (v804 : BitVec 32) (v806 : BitVec 32) (k0_hw57 : k0_chk57 v804 v806), ∀ (k0_h30 : k0_cond30 v804 = 1#1), ∀ a, (k0_off576 v806) a + S1x1x16.size a ≤ S2x128x128.size a := fun v804 v806 k0_hw57 k0_h30 => k0_hw57.2.2.2.2.2.2.1 k0_h30
theorem k0_off577_inb : ∀ (v804 : BitVec 32) (v806 : BitVec 32) (k0_hw57 : k0_chk57 v804 v806), ∀ (k0_h30 : k0_cond30 v804 = 1#1), ∀ a, (k0_off577 v806) a + S1x1x16.size a ≤ S2x128x128.size a := fun v804 v806 k0_hw57 k0_h30 => k0_hw57.2.2.2.2.2.2.2.1 k0_h30
theorem k0_off578_inb : ∀ (v804 : BitVec 32) (v806 : BitVec 32) (k0_hw57 : k0_chk57 v804 v806), ∀ (k0_h30 : k0_cond30 v804 = 1#1), ∀ a, (k0_off578 v806) a + S1x1x16.size a ≤ S2x128x128.size a := fun v804 v806 k0_hw57 k0_h30 => k0_hw57.2.2.2.2.2.2.2.2 k0_h30

@[reducible] def k0_t32_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off579 (k0_t32 : Fin k0_t32_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t32
  let v971 : Index := Scalar.indexCast arg30
  let c0_698 : Index := 0#32
  ![1, v971.toNat, 0]
def k0_off580 (k0_t32 : Fin k0_t32_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t32
  let v974 : Index := Scalar.indexCast arg30
  let c16_700 : Index := 16#32
  ![1, v974.toNat, 16]
def k0_off581 (k0_t32 : Fin k0_t32_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t32
  let v977 : Index := Scalar.indexCast arg30
  let c32_702 : Index := 32#32
  ![1, v977.toNat, 32]
def k0_off582 (k0_t32 : Fin k0_t32_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t32
  let v980 : Index := Scalar.indexCast arg30
  let c48_704 : Index := 48#32
  ![1, v980.toNat, 48]
def k0_off583 (k0_t32 : Fin k0_t32_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t32
  let v983 : Index := Scalar.indexCast arg30
  let c64_706 : Index := 64#32
  ![1, v983.toNat, 64]
def k0_off584 (k0_t32 : Fin k0_t32_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t32
  let v986 : Index := Scalar.indexCast arg30
  let c80_708 : Index := 80#32
  ![1, v986.toNat, 80]
def k0_off585 (k0_t32 : Fin k0_t32_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t32
  let v989 : Index := Scalar.indexCast arg30
  let c96_710 : Index := 96#32
  ![1, v989.toNat, 96]
def k0_off586 (k0_t32 : Fin k0_t32_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t32
  let v992 : Index := Scalar.indexCast arg30
  let c112_712 : Index := 112#32
  ![1, v992.toNat, 112]
def k0_off587 (v812 : BitVec 32) (k0_t32 : Fin k0_t32_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v994 : BitVec 32 := Scalar.addi arg30 v818
  let v996 : Index := Scalar.indexCast v994
  let c0_714 : Index := 0#32
  ![1, v996.toNat, 0]
def k0_off588 (v812 : BitVec 32) (k0_t32 : Fin k0_t32_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v998 : BitVec 32 := Scalar.addi arg30 v818
  let v1000 : Index := Scalar.indexCast v998
  let c16_716 : Index := 16#32
  ![1, v1000.toNat, 16]
def k0_off589 (v812 : BitVec 32) (k0_t32 : Fin k0_t32_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1002 : BitVec 32 := Scalar.addi arg30 v818
  let v1004 : Index := Scalar.indexCast v1002
  let c32_718 : Index := 32#32
  ![1, v1004.toNat, 32]
def k0_off590 (v812 : BitVec 32) (k0_t32 : Fin k0_t32_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1006 : BitVec 32 := Scalar.addi arg30 v818
  let v1008 : Index := Scalar.indexCast v1006
  let c48_720 : Index := 48#32
  ![1, v1008.toNat, 48]
def k0_off591 (v812 : BitVec 32) (k0_t32 : Fin k0_t32_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1010 : BitVec 32 := Scalar.addi arg30 v818
  let v1012 : Index := Scalar.indexCast v1010
  let c64_722 : Index := 64#32
  ![1, v1012.toNat, 64]
def k0_off592 (v812 : BitVec 32) (k0_t32 : Fin k0_t32_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1014 : BitVec 32 := Scalar.addi arg30 v818
  let v1016 : Index := Scalar.indexCast v1014
  let c80_724 : Index := 80#32
  ![1, v1016.toNat, 80]
def k0_off593 (v812 : BitVec 32) (k0_t32 : Fin k0_t32_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1018 : BitVec 32 := Scalar.addi arg30 v818
  let v1020 : Index := Scalar.indexCast v1018
  let c96_726 : Index := 96#32
  ![1, v1020.toNat, 96]
def k0_off594 (v812 : BitVec 32) (k0_t32 : Fin k0_t32_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t32
  let c8_i32_568 : BitVec 32 := 8#32
  let v813 : BitVec 32 := Scalar.remsi v812 c8_i32_568
  let v814 : BitVec 32 := Scalar.subi v812 v813
  let c3960_i32_569 : BitVec 32 := 3960#32
  let v815 : BitVec 32 := Scalar.minsi v814 c3960_i32_569
  let v816 : BitVec 32 := v815
  let v818 : BitVec 32 := Scalar.subi v812 v816
  let v1022 : BitVec 32 := Scalar.addi arg30 v818
  let v1024 : Index := Scalar.indexCast v1022
  let c112_728 : Index := 112#32
  ![1, v1024.toNat, 112]

def k0_chk58 (v804 : BitVec 32) (v812 : BitVec 32) : Prop :=
  (8 ∣ (k0_mult58 v812).toNat) ∧
  (∀ k0_t32 : Fin k0_t32_loop.trips, ∀ (k0_h30 : k0_cond30 v804 = 1#1), ∀ a, (k0_off587 v812 k0_t32) a + S1x1x16.size a ≤ S2x136x128.size a) ∧
  (∀ k0_t32 : Fin k0_t32_loop.trips, ∀ (k0_h30 : k0_cond30 v804 = 1#1), ∀ a, (k0_off588 v812 k0_t32) a + S1x1x16.size a ≤ S2x136x128.size a) ∧
  (∀ k0_t32 : Fin k0_t32_loop.trips, ∀ (k0_h30 : k0_cond30 v804 = 1#1), ∀ a, (k0_off589 v812 k0_t32) a + S1x1x16.size a ≤ S2x136x128.size a) ∧
  (∀ k0_t32 : Fin k0_t32_loop.trips, ∀ (k0_h30 : k0_cond30 v804 = 1#1), ∀ a, (k0_off590 v812 k0_t32) a + S1x1x16.size a ≤ S2x136x128.size a) ∧
  (∀ k0_t32 : Fin k0_t32_loop.trips, ∀ (k0_h30 : k0_cond30 v804 = 1#1), ∀ a, (k0_off591 v812 k0_t32) a + S1x1x16.size a ≤ S2x136x128.size a) ∧
  (∀ k0_t32 : Fin k0_t32_loop.trips, ∀ (k0_h30 : k0_cond30 v804 = 1#1), ∀ a, (k0_off592 v812 k0_t32) a + S1x1x16.size a ≤ S2x136x128.size a) ∧
  (∀ k0_t32 : Fin k0_t32_loop.trips, ∀ (k0_h30 : k0_cond30 v804 = 1#1), ∀ a, (k0_off593 v812 k0_t32) a + S1x1x16.size a ≤ S2x136x128.size a) ∧
  (∀ k0_t32 : Fin k0_t32_loop.trips, ∀ (k0_h30 : k0_cond30 v804 = 1#1), ∀ a, (k0_off594 v812 k0_t32) a + S1x1x16.size a ≤ S2x136x128.size a)
theorem k0_mult58_dvd : ∀ (v804 : BitVec 32) (v812 : BitVec 32) (k0_hw58 : k0_chk58 v804 v812), 8 ∣ (k0_mult58 v812).toNat := fun v804 v812 k0_hw58 => k0_hw58.1
theorem k0_off587_inb : ∀ (v804 : BitVec 32) (v812 : BitVec 32) (k0_hw58 : k0_chk58 v804 v812) (k0_t32 : Fin k0_t32_loop.trips), ∀ (k0_h30 : k0_cond30 v804 = 1#1), ∀ a, (k0_off587 v812 k0_t32) a + S1x1x16.size a ≤ S2x136x128.size a := fun v804 v812 k0_hw58 k0_t32 k0_h30 => k0_hw58.2.1 k0_t32 k0_h30
theorem k0_off588_inb : ∀ (v804 : BitVec 32) (v812 : BitVec 32) (k0_hw58 : k0_chk58 v804 v812) (k0_t32 : Fin k0_t32_loop.trips), ∀ (k0_h30 : k0_cond30 v804 = 1#1), ∀ a, (k0_off588 v812 k0_t32) a + S1x1x16.size a ≤ S2x136x128.size a := fun v804 v812 k0_hw58 k0_t32 k0_h30 => k0_hw58.2.2.1 k0_t32 k0_h30
theorem k0_off589_inb : ∀ (v804 : BitVec 32) (v812 : BitVec 32) (k0_hw58 : k0_chk58 v804 v812) (k0_t32 : Fin k0_t32_loop.trips), ∀ (k0_h30 : k0_cond30 v804 = 1#1), ∀ a, (k0_off589 v812 k0_t32) a + S1x1x16.size a ≤ S2x136x128.size a := fun v804 v812 k0_hw58 k0_t32 k0_h30 => k0_hw58.2.2.2.1 k0_t32 k0_h30
theorem k0_off590_inb : ∀ (v804 : BitVec 32) (v812 : BitVec 32) (k0_hw58 : k0_chk58 v804 v812) (k0_t32 : Fin k0_t32_loop.trips), ∀ (k0_h30 : k0_cond30 v804 = 1#1), ∀ a, (k0_off590 v812 k0_t32) a + S1x1x16.size a ≤ S2x136x128.size a := fun v804 v812 k0_hw58 k0_t32 k0_h30 => k0_hw58.2.2.2.2.1 k0_t32 k0_h30
theorem k0_off591_inb : ∀ (v804 : BitVec 32) (v812 : BitVec 32) (k0_hw58 : k0_chk58 v804 v812) (k0_t32 : Fin k0_t32_loop.trips), ∀ (k0_h30 : k0_cond30 v804 = 1#1), ∀ a, (k0_off591 v812 k0_t32) a + S1x1x16.size a ≤ S2x136x128.size a := fun v804 v812 k0_hw58 k0_t32 k0_h30 => k0_hw58.2.2.2.2.2.1 k0_t32 k0_h30
theorem k0_off592_inb : ∀ (v804 : BitVec 32) (v812 : BitVec 32) (k0_hw58 : k0_chk58 v804 v812) (k0_t32 : Fin k0_t32_loop.trips), ∀ (k0_h30 : k0_cond30 v804 = 1#1), ∀ a, (k0_off592 v812 k0_t32) a + S1x1x16.size a ≤ S2x136x128.size a := fun v804 v812 k0_hw58 k0_t32 k0_h30 => k0_hw58.2.2.2.2.2.2.1 k0_t32 k0_h30
theorem k0_off593_inb : ∀ (v804 : BitVec 32) (v812 : BitVec 32) (k0_hw58 : k0_chk58 v804 v812) (k0_t32 : Fin k0_t32_loop.trips), ∀ (k0_h30 : k0_cond30 v804 = 1#1), ∀ a, (k0_off593 v812 k0_t32) a + S1x1x16.size a ≤ S2x136x128.size a := fun v804 v812 k0_hw58 k0_t32 k0_h30 => k0_hw58.2.2.2.2.2.2.2.1 k0_t32 k0_h30
theorem k0_off594_inb : ∀ (v804 : BitVec 32) (v812 : BitVec 32) (k0_hw58 : k0_chk58 v804 v812) (k0_t32 : Fin k0_t32_loop.trips), ∀ (k0_h30 : k0_cond30 v804 = 1#1), ∀ a, (k0_off594 v812 k0_t32) a + S1x1x16.size a ≤ S2x136x128.size a := fun v804 v812 k0_hw58 k0_t32 k0_h30 => k0_hw58.2.2.2.2.2.2.2.2 k0_t32 k0_h30

@[reducible] def k0_t33_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off595 (k0_t33 : Fin k0_t33_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t33
  let v943 : Index := Scalar.indexCast arg30
  let c0 : Index := 0#32
  ![1, v943.toNat, 0]
def k0_off596 (k0_t33 : Fin k0_t33_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t33
  let v946 : Index := Scalar.indexCast arg30
  let c16 : Index := 16#32
  ![1, v946.toNat, 16]
def k0_off597 (k0_t33 : Fin k0_t33_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t33
  let v949 : Index := Scalar.indexCast arg30
  let c32 : Index := 32#32
  ![1, v949.toNat, 32]
def k0_off598 (k0_t33 : Fin k0_t33_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t33
  let v952 : Index := Scalar.indexCast arg30
  let c48 : Index := 48#32
  ![1, v952.toNat, 48]
def k0_off599 (k0_t33 : Fin k0_t33_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t33
  let v955 : Index := Scalar.indexCast arg30
  let c64 : Index := 64#32
  ![1, v955.toNat, 64]
def k0_off600 (k0_t33 : Fin k0_t33_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t33
  let v958 : Index := Scalar.indexCast arg30
  let c80 : Index := 80#32
  ![1, v958.toNat, 80]
def k0_off601 (k0_t33 : Fin k0_t33_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t33
  let v961 : Index := Scalar.indexCast arg30
  let c96 : Index := 96#32
  ![1, v961.toNat, 96]
def k0_off602 (k0_t33 : Fin k0_t33_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t33
  let v964 : Index := Scalar.indexCast arg30
  let c112 : Index := 112#32
  ![1, v964.toNat, 112]
def k0_off603 (k0_t33 : Fin k0_t33_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t33
  let v991 : Index := Scalar.indexCast arg30
  let c0_708 : Index := 0#32
  ![1, v991.toNat, 0]
def k0_off604 (k0_t33 : Fin k0_t33_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t33
  let v994 : Index := Scalar.indexCast arg30
  let c16_710 : Index := 16#32
  ![1, v994.toNat, 16]
def k0_off605 (k0_t33 : Fin k0_t33_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t33
  let v997 : Index := Scalar.indexCast arg30
  let c32_712 : Index := 32#32
  ![1, v997.toNat, 32]
def k0_off606 (k0_t33 : Fin k0_t33_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t33
  let v1000 : Index := Scalar.indexCast arg30
  let c48_714 : Index := 48#32
  ![1, v1000.toNat, 48]
def k0_off607 (k0_t33 : Fin k0_t33_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t33
  let v1003 : Index := Scalar.indexCast arg30
  let c64_716 : Index := 64#32
  ![1, v1003.toNat, 64]
def k0_off608 (k0_t33 : Fin k0_t33_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t33
  let v1006 : Index := Scalar.indexCast arg30
  let c80_718 : Index := 80#32
  ![1, v1006.toNat, 80]
def k0_off609 (k0_t33 : Fin k0_t33_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t33
  let v1009 : Index := Scalar.indexCast arg30
  let c96_720 : Index := 96#32
  ![1, v1009.toNat, 96]
def k0_off610 (k0_t33 : Fin k0_t33_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t33
  let v1012 : Index := Scalar.indexCast arg30
  let c112_722 : Index := 112#32
  ![1, v1012.toNat, 112]
def k0_off611 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1664_i32_573 : BitVec 32 := 1664#32
  let v823 : BitVec 32 := Scalar.addi v22 c1664_i32_573
  let c0_i32_577 : BitVec 32 := 0#32
  ![v823.toNat, 0]
def k0_mult59 (v844 : BitVec 32) : BitVec 32 :=
  let c8_i32_595 : BitVec 32 := 8#32
  let v845 : BitVec 32 := Scalar.remsi v844 c8_i32_595
  let v846 : BitVec 32 := Scalar.subi v844 v845
  let c4088_i32_596 : BitVec 32 := 4088#32
  let v847 : BitVec 32 := Scalar.minsi v846 c4088_i32_596
  v847

def k0_mult60 (v850 : BitVec 32) : BitVec 32 :=
  let c8_i32_598 : BitVec 32 := 8#32
  let v851 : BitVec 32 := Scalar.remsi v850 c8_i32_598
  let v852 : BitVec 32 := Scalar.subi v850 v851
  let c3960_i32_599 : BitVec 32 := 3960#32
  let v853 : BitVec 32 := Scalar.minsi v852 c3960_i32_599
  v853

def k0_off612 (v844 : BitVec 32) : Fin 2 → Nat :=
  let c8_i32_595 : BitVec 32 := 8#32
  let v845 : BitVec 32 := Scalar.remsi v844 c8_i32_595
  let v846 : BitVec 32 := Scalar.subi v844 v845
  let c4088_i32_596 : BitVec 32 := 4088#32
  let v847 : BitVec 32 := Scalar.minsi v846 c4088_i32_596
  let v848 : BitVec 32 := v847
  let c0_i32_660 : BitVec 32 := 0#32
  ![v848.toNat, 0]
def k0_cond31 (v842 : BitVec 32) : BitVec 1 :=
  let c0_i32_600 : BitVec 32 := 0#32
  let v855 : BitVec 1 := Scalar.cmpi .eq v842 c0_i32_600
  let v856 : BitVec 32 := Scalar.extui v855
  let c0_i32_602 : BitVec 32 := 0#32
  let v857 : BitVec 1 := Scalar.cmpi .ne v856 c0_i32_602
  v857

def k0_chk59 (v842 : BitVec 32) (v844 : BitVec 32) : Prop :=
  (8 ∣ (k0_mult59 v844).toNat) ∧
  (∀ (k0_h31 : k0_cond31 v842 = 1#1), ∀ a, (k0_off612 v844) a + S8x128.size a ≤ S4096x128.size a)
theorem k0_mult59_dvd : ∀ (v842 : BitVec 32) (v844 : BitVec 32) (k0_hw59 : k0_chk59 v842 v844), 8 ∣ (k0_mult59 v844).toNat := fun v842 v844 k0_hw59 => k0_hw59.1
theorem k0_off612_inb : ∀ (v842 : BitVec 32) (v844 : BitVec 32) (k0_hw59 : k0_chk59 v842 v844), ∀ (k0_h31 : k0_cond31 v842 = 1#1), ∀ a, (k0_off612 v844) a + S8x128.size a ≤ S4096x128.size a := fun v842 v844 k0_hw59 k0_h31 => k0_hw59.2 k0_h31

def k0_off613 (v850 : BitVec 32) : Fin 2 → Nat :=
  let c8_i32_598 : BitVec 32 := 8#32
  let v851 : BitVec 32 := Scalar.remsi v850 c8_i32_598
  let v852 : BitVec 32 := Scalar.subi v850 v851
  let c3960_i32_599 : BitVec 32 := 3960#32
  let v853 : BitVec 32 := Scalar.minsi v852 c3960_i32_599
  let v854 : BitVec 32 := v853
  let c0_i32_669 : BitVec 32 := 0#32
  ![v854.toNat, 0]

def k0_chk60 (v842 : BitVec 32) (v850 : BitVec 32) : Prop :=
  (8 ∣ (k0_mult60 v850).toNat) ∧
  (∀ (k0_h31 : k0_cond31 v842 = 1#1), ∀ a, (k0_off613 v850) a + S136x128.size a ≤ S4096x128.size a)
theorem k0_mult60_dvd : ∀ (v842 : BitVec 32) (v850 : BitVec 32) (k0_hw60 : k0_chk60 v842 v850), 8 ∣ (k0_mult60 v850).toNat := fun v842 v850 k0_hw60 => k0_hw60.1
theorem k0_off613_inb : ∀ (v842 : BitVec 32) (v850 : BitVec 32) (k0_hw60 : k0_chk60 v842 v850), ∀ (k0_h31 : k0_cond31 v842 = 1#1), ∀ a, (k0_off613 v850) a + S136x128.size a ≤ S4096x128.size a := fun v842 v850 k0_hw60 k0_h31 => k0_hw60.2 k0_h31

def k0_mult61 (v862 : BitVec 32) : BitVec 32 :=
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  v865

def k0_mult62 (v868 : BitVec 32) : BitVec 32 :=
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  v871

def k0_off614 (v862 : BitVec 32) : Fin 3 → Nat :=
  let c0_i32_683 : BitVec 32 := 0#32
  let v945 : Index := Scalar.indexCast c0_i32_683
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v946 : Index := Scalar.indexCast v873
  let c0 : Index := 0#32
  ![0, v946.toNat, 0]
def k0_cond32 (v860 : BitVec 32) : BitVec 1 :=
  let c0_i32_610 : BitVec 32 := 0#32
  let v875 : BitVec 1 := Scalar.cmpi .eq v860 c0_i32_610
  let v876 : BitVec 32 := Scalar.extui v875
  let c0_i32_612 : BitVec 32 := 0#32
  let v877 : BitVec 1 := Scalar.cmpi .ne v876 c0_i32_612
  v877

def k0_off615 (v862 : BitVec 32) : Fin 3 → Nat :=
  let c0_i32_684 : BitVec 32 := 0#32
  let v948 : Index := Scalar.indexCast c0_i32_684
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v949 : Index := Scalar.indexCast v873
  let c16 : Index := 16#32
  ![0, v949.toNat, 16]
def k0_off616 (v862 : BitVec 32) : Fin 3 → Nat :=
  let c0_i32_685 : BitVec 32 := 0#32
  let v951 : Index := Scalar.indexCast c0_i32_685
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v952 : Index := Scalar.indexCast v873
  let c32 : Index := 32#32
  ![0, v952.toNat, 32]
def k0_off617 (v862 : BitVec 32) : Fin 3 → Nat :=
  let c0_i32_686 : BitVec 32 := 0#32
  let v954 : Index := Scalar.indexCast c0_i32_686
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v955 : Index := Scalar.indexCast v873
  let c48 : Index := 48#32
  ![0, v955.toNat, 48]
def k0_off618 (v862 : BitVec 32) : Fin 3 → Nat :=
  let c0_i32_687 : BitVec 32 := 0#32
  let v957 : Index := Scalar.indexCast c0_i32_687
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v958 : Index := Scalar.indexCast v873
  let c64 : Index := 64#32
  ![0, v958.toNat, 64]
def k0_off619 (v862 : BitVec 32) : Fin 3 → Nat :=
  let c0_i32_688 : BitVec 32 := 0#32
  let v960 : Index := Scalar.indexCast c0_i32_688
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v961 : Index := Scalar.indexCast v873
  let c80 : Index := 80#32
  ![0, v961.toNat, 80]
def k0_off620 (v862 : BitVec 32) : Fin 3 → Nat :=
  let c0_i32_689 : BitVec 32 := 0#32
  let v963 : Index := Scalar.indexCast c0_i32_689
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v964 : Index := Scalar.indexCast v873
  let c96 : Index := 96#32
  ![0, v964.toNat, 96]
def k0_off621 (v862 : BitVec 32) : Fin 3 → Nat :=
  let c0_i32_690 : BitVec 32 := 0#32
  let v966 : Index := Scalar.indexCast c0_i32_690
  let c8_i32_605 : BitVec 32 := 8#32
  let v863 : BitVec 32 := Scalar.remsi v862 c8_i32_605
  let v864 : BitVec 32 := Scalar.subi v862 v863
  let c4088_i32_606 : BitVec 32 := 4088#32
  let v865 : BitVec 32 := Scalar.minsi v864 c4088_i32_606
  let v866 : BitVec 32 := v865
  let v873 : BitVec 32 := Scalar.subi v862 v866
  let v967 : Index := Scalar.indexCast v873
  let c112 : Index := 112#32
  ![0, v967.toNat, 112]

def k0_chk61 (v860 : BitVec 32) (v862 : BitVec 32) : Prop :=
  (8 ∣ (k0_mult61 v862).toNat) ∧
  (∀ (k0_h32 : k0_cond32 v860 = 1#1), ∀ a, (k0_off614 v862) a + S1x1x16.size a ≤ S2x128x128.size a) ∧
  (∀ (k0_h32 : k0_cond32 v860 = 1#1), ∀ a, (k0_off615 v862) a + S1x1x16.size a ≤ S2x128x128.size a) ∧
  (∀ (k0_h32 : k0_cond32 v860 = 1#1), ∀ a, (k0_off616 v862) a + S1x1x16.size a ≤ S2x128x128.size a) ∧
  (∀ (k0_h32 : k0_cond32 v860 = 1#1), ∀ a, (k0_off617 v862) a + S1x1x16.size a ≤ S2x128x128.size a) ∧
  (∀ (k0_h32 : k0_cond32 v860 = 1#1), ∀ a, (k0_off618 v862) a + S1x1x16.size a ≤ S2x128x128.size a) ∧
  (∀ (k0_h32 : k0_cond32 v860 = 1#1), ∀ a, (k0_off619 v862) a + S1x1x16.size a ≤ S2x128x128.size a) ∧
  (∀ (k0_h32 : k0_cond32 v860 = 1#1), ∀ a, (k0_off620 v862) a + S1x1x16.size a ≤ S2x128x128.size a) ∧
  (∀ (k0_h32 : k0_cond32 v860 = 1#1), ∀ a, (k0_off621 v862) a + S1x1x16.size a ≤ S2x128x128.size a)
theorem k0_mult61_dvd : ∀ (v860 : BitVec 32) (v862 : BitVec 32) (k0_hw61 : k0_chk61 v860 v862), 8 ∣ (k0_mult61 v862).toNat := fun v860 v862 k0_hw61 => k0_hw61.1
theorem k0_off614_inb : ∀ (v860 : BitVec 32) (v862 : BitVec 32) (k0_hw61 : k0_chk61 v860 v862), ∀ (k0_h32 : k0_cond32 v860 = 1#1), ∀ a, (k0_off614 v862) a + S1x1x16.size a ≤ S2x128x128.size a := fun v860 v862 k0_hw61 k0_h32 => k0_hw61.2.1 k0_h32
theorem k0_off615_inb : ∀ (v860 : BitVec 32) (v862 : BitVec 32) (k0_hw61 : k0_chk61 v860 v862), ∀ (k0_h32 : k0_cond32 v860 = 1#1), ∀ a, (k0_off615 v862) a + S1x1x16.size a ≤ S2x128x128.size a := fun v860 v862 k0_hw61 k0_h32 => k0_hw61.2.2.1 k0_h32
theorem k0_off616_inb : ∀ (v860 : BitVec 32) (v862 : BitVec 32) (k0_hw61 : k0_chk61 v860 v862), ∀ (k0_h32 : k0_cond32 v860 = 1#1), ∀ a, (k0_off616 v862) a + S1x1x16.size a ≤ S2x128x128.size a := fun v860 v862 k0_hw61 k0_h32 => k0_hw61.2.2.2.1 k0_h32
theorem k0_off617_inb : ∀ (v860 : BitVec 32) (v862 : BitVec 32) (k0_hw61 : k0_chk61 v860 v862), ∀ (k0_h32 : k0_cond32 v860 = 1#1), ∀ a, (k0_off617 v862) a + S1x1x16.size a ≤ S2x128x128.size a := fun v860 v862 k0_hw61 k0_h32 => k0_hw61.2.2.2.2.1 k0_h32
theorem k0_off618_inb : ∀ (v860 : BitVec 32) (v862 : BitVec 32) (k0_hw61 : k0_chk61 v860 v862), ∀ (k0_h32 : k0_cond32 v860 = 1#1), ∀ a, (k0_off618 v862) a + S1x1x16.size a ≤ S2x128x128.size a := fun v860 v862 k0_hw61 k0_h32 => k0_hw61.2.2.2.2.2.1 k0_h32
theorem k0_off619_inb : ∀ (v860 : BitVec 32) (v862 : BitVec 32) (k0_hw61 : k0_chk61 v860 v862), ∀ (k0_h32 : k0_cond32 v860 = 1#1), ∀ a, (k0_off619 v862) a + S1x1x16.size a ≤ S2x128x128.size a := fun v860 v862 k0_hw61 k0_h32 => k0_hw61.2.2.2.2.2.2.1 k0_h32
theorem k0_off620_inb : ∀ (v860 : BitVec 32) (v862 : BitVec 32) (k0_hw61 : k0_chk61 v860 v862), ∀ (k0_h32 : k0_cond32 v860 = 1#1), ∀ a, (k0_off620 v862) a + S1x1x16.size a ≤ S2x128x128.size a := fun v860 v862 k0_hw61 k0_h32 => k0_hw61.2.2.2.2.2.2.2.1 k0_h32
theorem k0_off621_inb : ∀ (v860 : BitVec 32) (v862 : BitVec 32) (k0_hw61 : k0_chk61 v860 v862), ∀ (k0_h32 : k0_cond32 v860 = 1#1), ∀ a, (k0_off621 v862) a + S1x1x16.size a ≤ S2x128x128.size a := fun v860 v862 k0_hw61 k0_h32 => k0_hw61.2.2.2.2.2.2.2.2 k0_h32

@[reducible] def k0_t34_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off622 (k0_t34 : Fin k0_t34_loop.trips) : Fin 3 → Nat :=
  let c0_i32_697 : BitVec 32 := 0#32
  let v970 : Index := Scalar.indexCast c0_i32_697
  let c0_i32_692 : BitVec 32 := 0#32
  let c1_i32_694 : BitVec 32 := 1#32
  let arg30 : BitVec 32 := Scf.iv c0_i32_692 c1_i32_694 k0_t34
  let v971 : Index := Scalar.indexCast arg30
  let c0_698 : Index := 0#32
  ![0, v971.toNat, 0]
def k0_off623 (k0_t34 : Fin k0_t34_loop.trips) : Fin 3 → Nat :=
  let c0_i32_699 : BitVec 32 := 0#32
  let v973 : Index := Scalar.indexCast c0_i32_699
  let c0_i32_692 : BitVec 32 := 0#32
  let c1_i32_694 : BitVec 32 := 1#32
  let arg30 : BitVec 32 := Scf.iv c0_i32_692 c1_i32_694 k0_t34
  let v974 : Index := Scalar.indexCast arg30
  let c16_700 : Index := 16#32
  ![0, v974.toNat, 16]
def k0_off624 (k0_t34 : Fin k0_t34_loop.trips) : Fin 3 → Nat :=
  let c0_i32_701 : BitVec 32 := 0#32
  let v976 : Index := Scalar.indexCast c0_i32_701
  let c0_i32_692 : BitVec 32 := 0#32
  let c1_i32_694 : BitVec 32 := 1#32
  let arg30 : BitVec 32 := Scf.iv c0_i32_692 c1_i32_694 k0_t34
  let v977 : Index := Scalar.indexCast arg30
  let c32_702 : Index := 32#32
  ![0, v977.toNat, 32]
def k0_off625 (k0_t34 : Fin k0_t34_loop.trips) : Fin 3 → Nat :=
  let c0_i32_703 : BitVec 32 := 0#32
  let v979 : Index := Scalar.indexCast c0_i32_703
  let c0_i32_692 : BitVec 32 := 0#32
  let c1_i32_694 : BitVec 32 := 1#32
  let arg30 : BitVec 32 := Scf.iv c0_i32_692 c1_i32_694 k0_t34
  let v980 : Index := Scalar.indexCast arg30
  let c48_704 : Index := 48#32
  ![0, v980.toNat, 48]
def k0_off626 (k0_t34 : Fin k0_t34_loop.trips) : Fin 3 → Nat :=
  let c0_i32_705 : BitVec 32 := 0#32
  let v982 : Index := Scalar.indexCast c0_i32_705
  let c0_i32_692 : BitVec 32 := 0#32
  let c1_i32_694 : BitVec 32 := 1#32
  let arg30 : BitVec 32 := Scf.iv c0_i32_692 c1_i32_694 k0_t34
  let v983 : Index := Scalar.indexCast arg30
  let c64_706 : Index := 64#32
  ![0, v983.toNat, 64]
def k0_off627 (k0_t34 : Fin k0_t34_loop.trips) : Fin 3 → Nat :=
  let c0_i32_707 : BitVec 32 := 0#32
  let v985 : Index := Scalar.indexCast c0_i32_707
  let c0_i32_692 : BitVec 32 := 0#32
  let c1_i32_694 : BitVec 32 := 1#32
  let arg30 : BitVec 32 := Scf.iv c0_i32_692 c1_i32_694 k0_t34
  let v986 : Index := Scalar.indexCast arg30
  let c80_708 : Index := 80#32
  ![0, v986.toNat, 80]
def k0_off628 (k0_t34 : Fin k0_t34_loop.trips) : Fin 3 → Nat :=
  let c0_i32_709 : BitVec 32 := 0#32
  let v988 : Index := Scalar.indexCast c0_i32_709
  let c0_i32_692 : BitVec 32 := 0#32
  let c1_i32_694 : BitVec 32 := 1#32
  let arg30 : BitVec 32 := Scf.iv c0_i32_692 c1_i32_694 k0_t34
  let v989 : Index := Scalar.indexCast arg30
  let c96_710 : Index := 96#32
  ![0, v989.toNat, 96]
def k0_off629 (k0_t34 : Fin k0_t34_loop.trips) : Fin 3 → Nat :=
  let c0_i32_711 : BitVec 32 := 0#32
  let v991 : Index := Scalar.indexCast c0_i32_711
  let c0_i32_692 : BitVec 32 := 0#32
  let c1_i32_694 : BitVec 32 := 1#32
  let arg30 : BitVec 32 := Scf.iv c0_i32_692 c1_i32_694 k0_t34
  let v992 : Index := Scalar.indexCast arg30
  let c112_712 : Index := 112#32
  ![0, v992.toNat, 112]
def k0_off630 (v868 : BitVec 32) (k0_t34 : Fin k0_t34_loop.trips) : Fin 3 → Nat :=
  let c0_i32_713 : BitVec 32 := 0#32
  let v995 : Index := Scalar.indexCast c0_i32_713
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v994 : BitVec 32 := Scalar.addi arg30 v874
  let v996 : Index := Scalar.indexCast v994
  let c0_714 : Index := 0#32
  ![0, v996.toNat, 0]
def k0_off631 (v868 : BitVec 32) (k0_t34 : Fin k0_t34_loop.trips) : Fin 3 → Nat :=
  let c0_i32_715 : BitVec 32 := 0#32
  let v999 : Index := Scalar.indexCast c0_i32_715
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v998 : BitVec 32 := Scalar.addi arg30 v874
  let v1000 : Index := Scalar.indexCast v998
  let c16_716 : Index := 16#32
  ![0, v1000.toNat, 16]
def k0_off632 (v868 : BitVec 32) (k0_t34 : Fin k0_t34_loop.trips) : Fin 3 → Nat :=
  let c0_i32_717 : BitVec 32 := 0#32
  let v1003 : Index := Scalar.indexCast c0_i32_717
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1002 : BitVec 32 := Scalar.addi arg30 v874
  let v1004 : Index := Scalar.indexCast v1002
  let c32_718 : Index := 32#32
  ![0, v1004.toNat, 32]
def k0_off633 (v868 : BitVec 32) (k0_t34 : Fin k0_t34_loop.trips) : Fin 3 → Nat :=
  let c0_i32_719 : BitVec 32 := 0#32
  let v1007 : Index := Scalar.indexCast c0_i32_719
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1006 : BitVec 32 := Scalar.addi arg30 v874
  let v1008 : Index := Scalar.indexCast v1006
  let c48_720 : Index := 48#32
  ![0, v1008.toNat, 48]
def k0_off634 (v868 : BitVec 32) (k0_t34 : Fin k0_t34_loop.trips) : Fin 3 → Nat :=
  let c0_i32_721 : BitVec 32 := 0#32
  let v1011 : Index := Scalar.indexCast c0_i32_721
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1010 : BitVec 32 := Scalar.addi arg30 v874
  let v1012 : Index := Scalar.indexCast v1010
  let c64_722 : Index := 64#32
  ![0, v1012.toNat, 64]
def k0_off635 (v868 : BitVec 32) (k0_t34 : Fin k0_t34_loop.trips) : Fin 3 → Nat :=
  let c0_i32_723 : BitVec 32 := 0#32
  let v1015 : Index := Scalar.indexCast c0_i32_723
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1014 : BitVec 32 := Scalar.addi arg30 v874
  let v1016 : Index := Scalar.indexCast v1014
  let c80_724 : Index := 80#32
  ![0, v1016.toNat, 80]
def k0_off636 (v868 : BitVec 32) (k0_t34 : Fin k0_t34_loop.trips) : Fin 3 → Nat :=
  let c0_i32_725 : BitVec 32 := 0#32
  let v1019 : Index := Scalar.indexCast c0_i32_725
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1018 : BitVec 32 := Scalar.addi arg30 v874
  let v1020 : Index := Scalar.indexCast v1018
  let c96_726 : Index := 96#32
  ![0, v1020.toNat, 96]
def k0_off637 (v868 : BitVec 32) (k0_t34 : Fin k0_t34_loop.trips) : Fin 3 → Nat :=
  let c0_i32_727 : BitVec 32 := 0#32
  let v1023 : Index := Scalar.indexCast c0_i32_727
  let c0_i32_692 : BitVec 32 := 0#32
  let c1_i32_694 : BitVec 32 := 1#32
  let arg30 : BitVec 32 := Scf.iv c0_i32_692 c1_i32_694 k0_t34
  let c8_i32_608 : BitVec 32 := 8#32
  let v869 : BitVec 32 := Scalar.remsi v868 c8_i32_608
  let v870 : BitVec 32 := Scalar.subi v868 v869
  let c3960_i32_609 : BitVec 32 := 3960#32
  let v871 : BitVec 32 := Scalar.minsi v870 c3960_i32_609
  let v872 : BitVec 32 := v871
  let v874 : BitVec 32 := Scalar.subi v868 v872
  let v1022 : BitVec 32 := Scalar.addi arg30 v874
  let v1024 : Index := Scalar.indexCast v1022
  let c112_728 : Index := 112#32
  ![0, v1024.toNat, 112]

def k0_chk62 (v860 : BitVec 32) (v868 : BitVec 32) : Prop :=
  (8 ∣ (k0_mult62 v868).toNat) ∧
  (∀ k0_t34 : Fin k0_t34_loop.trips, ∀ (k0_h32 : k0_cond32 v860 = 1#1), ∀ a, (k0_off630 v868 k0_t34) a + S1x1x16.size a ≤ S2x136x128.size a) ∧
  (∀ k0_t34 : Fin k0_t34_loop.trips, ∀ (k0_h32 : k0_cond32 v860 = 1#1), ∀ a, (k0_off631 v868 k0_t34) a + S1x1x16.size a ≤ S2x136x128.size a) ∧
  (∀ k0_t34 : Fin k0_t34_loop.trips, ∀ (k0_h32 : k0_cond32 v860 = 1#1), ∀ a, (k0_off632 v868 k0_t34) a + S1x1x16.size a ≤ S2x136x128.size a) ∧
  (∀ k0_t34 : Fin k0_t34_loop.trips, ∀ (k0_h32 : k0_cond32 v860 = 1#1), ∀ a, (k0_off633 v868 k0_t34) a + S1x1x16.size a ≤ S2x136x128.size a) ∧
  (∀ k0_t34 : Fin k0_t34_loop.trips, ∀ (k0_h32 : k0_cond32 v860 = 1#1), ∀ a, (k0_off634 v868 k0_t34) a + S1x1x16.size a ≤ S2x136x128.size a) ∧
  (∀ k0_t34 : Fin k0_t34_loop.trips, ∀ (k0_h32 : k0_cond32 v860 = 1#1), ∀ a, (k0_off635 v868 k0_t34) a + S1x1x16.size a ≤ S2x136x128.size a) ∧
  (∀ k0_t34 : Fin k0_t34_loop.trips, ∀ (k0_h32 : k0_cond32 v860 = 1#1), ∀ a, (k0_off636 v868 k0_t34) a + S1x1x16.size a ≤ S2x136x128.size a) ∧
  (∀ k0_t34 : Fin k0_t34_loop.trips, ∀ (k0_h32 : k0_cond32 v860 = 1#1), ∀ a, (k0_off637 v868 k0_t34) a + S1x1x16.size a ≤ S2x136x128.size a)
theorem k0_mult62_dvd : ∀ (v860 : BitVec 32) (v868 : BitVec 32) (k0_hw62 : k0_chk62 v860 v868), 8 ∣ (k0_mult62 v868).toNat := fun v860 v868 k0_hw62 => k0_hw62.1
theorem k0_off630_inb : ∀ (v860 : BitVec 32) (v868 : BitVec 32) (k0_hw62 : k0_chk62 v860 v868) (k0_t34 : Fin k0_t34_loop.trips), ∀ (k0_h32 : k0_cond32 v860 = 1#1), ∀ a, (k0_off630 v868 k0_t34) a + S1x1x16.size a ≤ S2x136x128.size a := fun v860 v868 k0_hw62 k0_t34 k0_h32 => k0_hw62.2.1 k0_t34 k0_h32
theorem k0_off631_inb : ∀ (v860 : BitVec 32) (v868 : BitVec 32) (k0_hw62 : k0_chk62 v860 v868) (k0_t34 : Fin k0_t34_loop.trips), ∀ (k0_h32 : k0_cond32 v860 = 1#1), ∀ a, (k0_off631 v868 k0_t34) a + S1x1x16.size a ≤ S2x136x128.size a := fun v860 v868 k0_hw62 k0_t34 k0_h32 => k0_hw62.2.2.1 k0_t34 k0_h32
theorem k0_off632_inb : ∀ (v860 : BitVec 32) (v868 : BitVec 32) (k0_hw62 : k0_chk62 v860 v868) (k0_t34 : Fin k0_t34_loop.trips), ∀ (k0_h32 : k0_cond32 v860 = 1#1), ∀ a, (k0_off632 v868 k0_t34) a + S1x1x16.size a ≤ S2x136x128.size a := fun v860 v868 k0_hw62 k0_t34 k0_h32 => k0_hw62.2.2.2.1 k0_t34 k0_h32
theorem k0_off633_inb : ∀ (v860 : BitVec 32) (v868 : BitVec 32) (k0_hw62 : k0_chk62 v860 v868) (k0_t34 : Fin k0_t34_loop.trips), ∀ (k0_h32 : k0_cond32 v860 = 1#1), ∀ a, (k0_off633 v868 k0_t34) a + S1x1x16.size a ≤ S2x136x128.size a := fun v860 v868 k0_hw62 k0_t34 k0_h32 => k0_hw62.2.2.2.2.1 k0_t34 k0_h32
theorem k0_off634_inb : ∀ (v860 : BitVec 32) (v868 : BitVec 32) (k0_hw62 : k0_chk62 v860 v868) (k0_t34 : Fin k0_t34_loop.trips), ∀ (k0_h32 : k0_cond32 v860 = 1#1), ∀ a, (k0_off634 v868 k0_t34) a + S1x1x16.size a ≤ S2x136x128.size a := fun v860 v868 k0_hw62 k0_t34 k0_h32 => k0_hw62.2.2.2.2.2.1 k0_t34 k0_h32
theorem k0_off635_inb : ∀ (v860 : BitVec 32) (v868 : BitVec 32) (k0_hw62 : k0_chk62 v860 v868) (k0_t34 : Fin k0_t34_loop.trips), ∀ (k0_h32 : k0_cond32 v860 = 1#1), ∀ a, (k0_off635 v868 k0_t34) a + S1x1x16.size a ≤ S2x136x128.size a := fun v860 v868 k0_hw62 k0_t34 k0_h32 => k0_hw62.2.2.2.2.2.2.1 k0_t34 k0_h32
theorem k0_off636_inb : ∀ (v860 : BitVec 32) (v868 : BitVec 32) (k0_hw62 : k0_chk62 v860 v868) (k0_t34 : Fin k0_t34_loop.trips), ∀ (k0_h32 : k0_cond32 v860 = 1#1), ∀ a, (k0_off636 v868 k0_t34) a + S1x1x16.size a ≤ S2x136x128.size a := fun v860 v868 k0_hw62 k0_t34 k0_h32 => k0_hw62.2.2.2.2.2.2.2.1 k0_t34 k0_h32
theorem k0_off637_inb : ∀ (v860 : BitVec 32) (v868 : BitVec 32) (k0_hw62 : k0_chk62 v860 v868) (k0_t34 : Fin k0_t34_loop.trips), ∀ (k0_h32 : k0_cond32 v860 = 1#1), ∀ a, (k0_off637 v868 k0_t34) a + S1x1x16.size a ≤ S2x136x128.size a := fun v860 v868 k0_hw62 k0_t34 k0_h32 => k0_hw62.2.2.2.2.2.2.2.2 k0_t34 k0_h32

@[reducible] def k0_t35_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off638 (k0_t35 : Fin k0_t35_loop.trips) : Fin 3 → Nat :=
  let c0_i32_683 : BitVec 32 := 0#32
  let v942 : Index := Scalar.indexCast c0_i32_683
  let c0_i32_678 : BitVec 32 := 0#32
  let c1_i32_680 : BitVec 32 := 1#32
  let arg30 : BitVec 32 := Scf.iv c0_i32_678 c1_i32_680 k0_t35
  let v943 : Index := Scalar.indexCast arg30
  let c0 : Index := 0#32
  ![0, v943.toNat, 0]
def k0_off639 (k0_t35 : Fin k0_t35_loop.trips) : Fin 3 → Nat :=
  let c0_i32_684 : BitVec 32 := 0#32
  let v945 : Index := Scalar.indexCast c0_i32_684
  let c0_i32_678 : BitVec 32 := 0#32
  let c1_i32_680 : BitVec 32 := 1#32
  let arg30 : BitVec 32 := Scf.iv c0_i32_678 c1_i32_680 k0_t35
  let v946 : Index := Scalar.indexCast arg30
  let c16 : Index := 16#32
  ![0, v946.toNat, 16]
def k0_off640 (k0_t35 : Fin k0_t35_loop.trips) : Fin 3 → Nat :=
  let c0_i32_685 : BitVec 32 := 0#32
  let v948 : Index := Scalar.indexCast c0_i32_685
  let c0_i32_678 : BitVec 32 := 0#32
  let c1_i32_680 : BitVec 32 := 1#32
  let arg30 : BitVec 32 := Scf.iv c0_i32_678 c1_i32_680 k0_t35
  let v949 : Index := Scalar.indexCast arg30
  let c32 : Index := 32#32
  ![0, v949.toNat, 32]
def k0_off641 (k0_t35 : Fin k0_t35_loop.trips) : Fin 3 → Nat :=
  let c0_i32_686 : BitVec 32 := 0#32
  let v951 : Index := Scalar.indexCast c0_i32_686
  let c0_i32_678 : BitVec 32 := 0#32
  let c1_i32_680 : BitVec 32 := 1#32
  let arg30 : BitVec 32 := Scf.iv c0_i32_678 c1_i32_680 k0_t35
  let v952 : Index := Scalar.indexCast arg30
  let c48 : Index := 48#32
  ![0, v952.toNat, 48]
def k0_off642 (k0_t35 : Fin k0_t35_loop.trips) : Fin 3 → Nat :=
  let c0_i32_687 : BitVec 32 := 0#32
  let v954 : Index := Scalar.indexCast c0_i32_687
  let c0_i32_678 : BitVec 32 := 0#32
  let c1_i32_680 : BitVec 32 := 1#32
  let arg30 : BitVec 32 := Scf.iv c0_i32_678 c1_i32_680 k0_t35
  let v955 : Index := Scalar.indexCast arg30
  let c64 : Index := 64#32
  ![0, v955.toNat, 64]
def k0_off643 (k0_t35 : Fin k0_t35_loop.trips) : Fin 3 → Nat :=
  let c0_i32_688 : BitVec 32 := 0#32
  let v957 : Index := Scalar.indexCast c0_i32_688
  let c0_i32_678 : BitVec 32 := 0#32
  let c1_i32_680 : BitVec 32 := 1#32
  let arg30 : BitVec 32 := Scf.iv c0_i32_678 c1_i32_680 k0_t35
  let v958 : Index := Scalar.indexCast arg30
  let c80 : Index := 80#32
  ![0, v958.toNat, 80]
def k0_off644 (k0_t35 : Fin k0_t35_loop.trips) : Fin 3 → Nat :=
  let c0_i32_689 : BitVec 32 := 0#32
  let v960 : Index := Scalar.indexCast c0_i32_689
  let c0_i32_678 : BitVec 32 := 0#32
  let c1_i32_680 : BitVec 32 := 1#32
  let arg30 : BitVec 32 := Scf.iv c0_i32_678 c1_i32_680 k0_t35
  let v961 : Index := Scalar.indexCast arg30
  let c96 : Index := 96#32
  ![0, v961.toNat, 96]
def k0_off645 (k0_t35 : Fin k0_t35_loop.trips) : Fin 3 → Nat :=
  let c0_i32_690 : BitVec 32 := 0#32
  let v963 : Index := Scalar.indexCast c0_i32_690
  let c0_i32_678 : BitVec 32 := 0#32
  let c1_i32_680 : BitVec 32 := 1#32
  let arg30 : BitVec 32 := Scf.iv c0_i32_678 c1_i32_680 k0_t35
  let v964 : Index := Scalar.indexCast arg30
  let c112 : Index := 112#32
  ![0, v964.toNat, 112]
def k0_off646 (k0_t35 : Fin k0_t35_loop.trips) : Fin 3 → Nat :=
  let c0_i32_707 : BitVec 32 := 0#32
  let v990 : Index := Scalar.indexCast c0_i32_707
  let c0_i32_678 : BitVec 32 := 0#32
  let c1_i32_680 : BitVec 32 := 1#32
  let arg30 : BitVec 32 := Scf.iv c0_i32_678 c1_i32_680 k0_t35
  let v991 : Index := Scalar.indexCast arg30
  let c0_708 : Index := 0#32
  ![0, v991.toNat, 0]
def k0_off647 (k0_t35 : Fin k0_t35_loop.trips) : Fin 3 → Nat :=
  let c0_i32_709 : BitVec 32 := 0#32
  let v993 : Index := Scalar.indexCast c0_i32_709
  let c0_i32_678 : BitVec 32 := 0#32
  let c1_i32_680 : BitVec 32 := 1#32
  let arg30 : BitVec 32 := Scf.iv c0_i32_678 c1_i32_680 k0_t35
  let v994 : Index := Scalar.indexCast arg30
  let c16_710 : Index := 16#32
  ![0, v994.toNat, 16]
def k0_off648 (k0_t35 : Fin k0_t35_loop.trips) : Fin 3 → Nat :=
  let c0_i32_711 : BitVec 32 := 0#32
  let v996 : Index := Scalar.indexCast c0_i32_711
  let c0_i32_678 : BitVec 32 := 0#32
  let c1_i32_680 : BitVec 32 := 1#32
  let arg30 : BitVec 32 := Scf.iv c0_i32_678 c1_i32_680 k0_t35
  let v997 : Index := Scalar.indexCast arg30
  let c32_712 : Index := 32#32
  ![0, v997.toNat, 32]
def k0_off649 (k0_t35 : Fin k0_t35_loop.trips) : Fin 3 → Nat :=
  let c0_i32_713 : BitVec 32 := 0#32
  let v999 : Index := Scalar.indexCast c0_i32_713
  let c0_i32_678 : BitVec 32 := 0#32
  let c1_i32_680 : BitVec 32 := 1#32
  let arg30 : BitVec 32 := Scf.iv c0_i32_678 c1_i32_680 k0_t35
  let v1000 : Index := Scalar.indexCast arg30
  let c48_714 : Index := 48#32
  ![0, v1000.toNat, 48]
def k0_off650 (k0_t35 : Fin k0_t35_loop.trips) : Fin 3 → Nat :=
  let c0_i32_715 : BitVec 32 := 0#32
  let v1002 : Index := Scalar.indexCast c0_i32_715
  let c0_i32_678 : BitVec 32 := 0#32
  let c1_i32_680 : BitVec 32 := 1#32
  let arg30 : BitVec 32 := Scf.iv c0_i32_678 c1_i32_680 k0_t35
  let v1003 : Index := Scalar.indexCast arg30
  let c64_716 : Index := 64#32
  ![0, v1003.toNat, 64]
def k0_off651 (k0_t35 : Fin k0_t35_loop.trips) : Fin 3 → Nat :=
  let c0_i32_717 : BitVec 32 := 0#32
  let v1005 : Index := Scalar.indexCast c0_i32_717
  let c0_i32_678 : BitVec 32 := 0#32
  let c1_i32_680 : BitVec 32 := 1#32
  let arg30 : BitVec 32 := Scf.iv c0_i32_678 c1_i32_680 k0_t35
  let v1006 : Index := Scalar.indexCast arg30
  let c80_718 : Index := 80#32
  ![0, v1006.toNat, 80]
def k0_off652 (k0_t35 : Fin k0_t35_loop.trips) : Fin 3 → Nat :=
  let c0_i32_719 : BitVec 32 := 0#32
  let v1008 : Index := Scalar.indexCast c0_i32_719
  let c0_i32_678 : BitVec 32 := 0#32
  let c1_i32_680 : BitVec 32 := 1#32
  let arg30 : BitVec 32 := Scf.iv c0_i32_678 c1_i32_680 k0_t35
  let v1009 : Index := Scalar.indexCast arg30
  let c96_720 : Index := 96#32
  ![0, v1009.toNat, 96]
def k0_off653 (k0_t35 : Fin k0_t35_loop.trips) : Fin 3 → Nat :=
  let c0_i32_721 : BitVec 32 := 0#32
  let v1011 : Index := Scalar.indexCast c0_i32_721
  let c0_i32_678 : BitVec 32 := 0#32
  let c1_i32_680 : BitVec 32 := 1#32
  let arg30 : BitVec 32 := Scf.iv c0_i32_678 c1_i32_680 k0_t35
  let v1012 : Index := Scalar.indexCast arg30
  let c112_722 : Index := 112#32
  ![0, v1012.toNat, 112]
def k0_off654 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let c1792_i32_613 : BitVec 32 := 1792#32
  let v879 : BitVec 32 := Scalar.addi v22 c1792_i32_613
  let c0_i32_617 : BitVec 32 := 0#32
  ![v879.toNat, 0]
def k0_mult63 (v889 : BitVec 32) : BitVec 32 :=
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  v892

def k0_mult64 (v895 : BitVec 32) : BitVec 32 :=
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  v898

def k0_off655 (v889 : BitVec 32) : Fin 3 → Nat :=
  let c1_i32_683 : BitVec 32 := 1#32
  let v945 : Index := Scalar.indexCast c1_i32_683
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v946 : Index := Scalar.indexCast v900
  let c0 : Index := 0#32
  ![1, v946.toNat, 0]
def k0_cond33 (v887 : BitVec 32) : BitVec 1 :=
  let c0_i32_628 : BitVec 32 := 0#32
  let v902 : BitVec 1 := Scalar.cmpi .eq v887 c0_i32_628
  let v903 : BitVec 32 := Scalar.extui v902
  let c0_i32_630 : BitVec 32 := 0#32
  let v904 : BitVec 1 := Scalar.cmpi .ne v903 c0_i32_630
  v904

def k0_off656 (v889 : BitVec 32) : Fin 3 → Nat :=
  let c1_i32_684 : BitVec 32 := 1#32
  let v948 : Index := Scalar.indexCast c1_i32_684
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v949 : Index := Scalar.indexCast v900
  let c16 : Index := 16#32
  ![1, v949.toNat, 16]
def k0_off657 (v889 : BitVec 32) : Fin 3 → Nat :=
  let c1_i32_685 : BitVec 32 := 1#32
  let v951 : Index := Scalar.indexCast c1_i32_685
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v952 : Index := Scalar.indexCast v900
  let c32 : Index := 32#32
  ![1, v952.toNat, 32]
def k0_off658 (v889 : BitVec 32) : Fin 3 → Nat :=
  let c1_i32_686 : BitVec 32 := 1#32
  let v954 : Index := Scalar.indexCast c1_i32_686
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v955 : Index := Scalar.indexCast v900
  let c48 : Index := 48#32
  ![1, v955.toNat, 48]
def k0_off659 (v889 : BitVec 32) : Fin 3 → Nat :=
  let c1_i32_687 : BitVec 32 := 1#32
  let v957 : Index := Scalar.indexCast c1_i32_687
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v958 : Index := Scalar.indexCast v900
  let c64 : Index := 64#32
  ![1, v958.toNat, 64]
def k0_off660 (v889 : BitVec 32) : Fin 3 → Nat :=
  let c1_i32_688 : BitVec 32 := 1#32
  let v960 : Index := Scalar.indexCast c1_i32_688
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v961 : Index := Scalar.indexCast v900
  let c80 : Index := 80#32
  ![1, v961.toNat, 80]
def k0_off661 (v889 : BitVec 32) : Fin 3 → Nat :=
  let c1_i32_689 : BitVec 32 := 1#32
  let v963 : Index := Scalar.indexCast c1_i32_689
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v964 : Index := Scalar.indexCast v900
  let c96 : Index := 96#32
  ![1, v964.toNat, 96]
def k0_off662 (v889 : BitVec 32) : Fin 3 → Nat :=
  let c1_i32_690 : BitVec 32 := 1#32
  let v966 : Index := Scalar.indexCast c1_i32_690
  let c8_i32_623 : BitVec 32 := 8#32
  let v890 : BitVec 32 := Scalar.remsi v889 c8_i32_623
  let v891 : BitVec 32 := Scalar.subi v889 v890
  let c4088_i32_624 : BitVec 32 := 4088#32
  let v892 : BitVec 32 := Scalar.minsi v891 c4088_i32_624
  let v893 : BitVec 32 := v892
  let v900 : BitVec 32 := Scalar.subi v889 v893
  let v967 : Index := Scalar.indexCast v900
  let c112 : Index := 112#32
  ![1, v967.toNat, 112]

def k0_chk63 (v887 : BitVec 32) (v889 : BitVec 32) : Prop :=
  (8 ∣ (k0_mult63 v889).toNat) ∧
  (∀ (k0_h33 : k0_cond33 v887 = 1#1), ∀ a, (k0_off655 v889) a + S1x1x16.size a ≤ S2x128x128.size a) ∧
  (∀ (k0_h33 : k0_cond33 v887 = 1#1), ∀ a, (k0_off656 v889) a + S1x1x16.size a ≤ S2x128x128.size a) ∧
  (∀ (k0_h33 : k0_cond33 v887 = 1#1), ∀ a, (k0_off657 v889) a + S1x1x16.size a ≤ S2x128x128.size a) ∧
  (∀ (k0_h33 : k0_cond33 v887 = 1#1), ∀ a, (k0_off658 v889) a + S1x1x16.size a ≤ S2x128x128.size a) ∧
  (∀ (k0_h33 : k0_cond33 v887 = 1#1), ∀ a, (k0_off659 v889) a + S1x1x16.size a ≤ S2x128x128.size a) ∧
  (∀ (k0_h33 : k0_cond33 v887 = 1#1), ∀ a, (k0_off660 v889) a + S1x1x16.size a ≤ S2x128x128.size a) ∧
  (∀ (k0_h33 : k0_cond33 v887 = 1#1), ∀ a, (k0_off661 v889) a + S1x1x16.size a ≤ S2x128x128.size a) ∧
  (∀ (k0_h33 : k0_cond33 v887 = 1#1), ∀ a, (k0_off662 v889) a + S1x1x16.size a ≤ S2x128x128.size a)
theorem k0_mult63_dvd : ∀ (v887 : BitVec 32) (v889 : BitVec 32) (k0_hw63 : k0_chk63 v887 v889), 8 ∣ (k0_mult63 v889).toNat := fun v887 v889 k0_hw63 => k0_hw63.1
theorem k0_off655_inb : ∀ (v887 : BitVec 32) (v889 : BitVec 32) (k0_hw63 : k0_chk63 v887 v889), ∀ (k0_h33 : k0_cond33 v887 = 1#1), ∀ a, (k0_off655 v889) a + S1x1x16.size a ≤ S2x128x128.size a := fun v887 v889 k0_hw63 k0_h33 => k0_hw63.2.1 k0_h33
theorem k0_off656_inb : ∀ (v887 : BitVec 32) (v889 : BitVec 32) (k0_hw63 : k0_chk63 v887 v889), ∀ (k0_h33 : k0_cond33 v887 = 1#1), ∀ a, (k0_off656 v889) a + S1x1x16.size a ≤ S2x128x128.size a := fun v887 v889 k0_hw63 k0_h33 => k0_hw63.2.2.1 k0_h33
theorem k0_off657_inb : ∀ (v887 : BitVec 32) (v889 : BitVec 32) (k0_hw63 : k0_chk63 v887 v889), ∀ (k0_h33 : k0_cond33 v887 = 1#1), ∀ a, (k0_off657 v889) a + S1x1x16.size a ≤ S2x128x128.size a := fun v887 v889 k0_hw63 k0_h33 => k0_hw63.2.2.2.1 k0_h33
theorem k0_off658_inb : ∀ (v887 : BitVec 32) (v889 : BitVec 32) (k0_hw63 : k0_chk63 v887 v889), ∀ (k0_h33 : k0_cond33 v887 = 1#1), ∀ a, (k0_off658 v889) a + S1x1x16.size a ≤ S2x128x128.size a := fun v887 v889 k0_hw63 k0_h33 => k0_hw63.2.2.2.2.1 k0_h33
theorem k0_off659_inb : ∀ (v887 : BitVec 32) (v889 : BitVec 32) (k0_hw63 : k0_chk63 v887 v889), ∀ (k0_h33 : k0_cond33 v887 = 1#1), ∀ a, (k0_off659 v889) a + S1x1x16.size a ≤ S2x128x128.size a := fun v887 v889 k0_hw63 k0_h33 => k0_hw63.2.2.2.2.2.1 k0_h33
theorem k0_off660_inb : ∀ (v887 : BitVec 32) (v889 : BitVec 32) (k0_hw63 : k0_chk63 v887 v889), ∀ (k0_h33 : k0_cond33 v887 = 1#1), ∀ a, (k0_off660 v889) a + S1x1x16.size a ≤ S2x128x128.size a := fun v887 v889 k0_hw63 k0_h33 => k0_hw63.2.2.2.2.2.2.1 k0_h33
theorem k0_off661_inb : ∀ (v887 : BitVec 32) (v889 : BitVec 32) (k0_hw63 : k0_chk63 v887 v889), ∀ (k0_h33 : k0_cond33 v887 = 1#1), ∀ a, (k0_off661 v889) a + S1x1x16.size a ≤ S2x128x128.size a := fun v887 v889 k0_hw63 k0_h33 => k0_hw63.2.2.2.2.2.2.2.1 k0_h33
theorem k0_off662_inb : ∀ (v887 : BitVec 32) (v889 : BitVec 32) (k0_hw63 : k0_chk63 v887 v889), ∀ (k0_h33 : k0_cond33 v887 = 1#1), ∀ a, (k0_off662 v889) a + S1x1x16.size a ≤ S2x128x128.size a := fun v887 v889 k0_hw63 k0_h33 => k0_hw63.2.2.2.2.2.2.2.2 k0_h33

@[reducible] def k0_t36_loop : Scf.Loop 32 :=
  let c0_i32_692 : BitVec 32 := 0#32
  let c128_i32_693 : BitVec 32 := 128#32
  let v969 : BitVec 32 := Scalar.addi c0_i32_692 c128_i32_693
  let c1_i32_694 : BitVec 32 := 1#32
  ⟨c0_i32_692, v969, c1_i32_694⟩
def k0_off663 (k0_t36 : Fin k0_t36_loop.trips) : Fin 3 → Nat :=
  let c1_i32_697 : BitVec 32 := 1#32
  let v970 : Index := Scalar.indexCast c1_i32_697
  let c0_i32_692 : BitVec 32 := 0#32
  let c1_i32_694 : BitVec 32 := 1#32
  let arg30 : BitVec 32 := Scf.iv c0_i32_692 c1_i32_694 k0_t36
  let v971 : Index := Scalar.indexCast arg30
  let c0_698 : Index := 0#32
  ![1, v971.toNat, 0]
def k0_off664 (k0_t36 : Fin k0_t36_loop.trips) : Fin 3 → Nat :=
  let c1_i32_699 : BitVec 32 := 1#32
  let v973 : Index := Scalar.indexCast c1_i32_699
  let c0_i32_692 : BitVec 32 := 0#32
  let c1_i32_694 : BitVec 32 := 1#32
  let arg30 : BitVec 32 := Scf.iv c0_i32_692 c1_i32_694 k0_t36
  let v974 : Index := Scalar.indexCast arg30
  let c16_700 : Index := 16#32
  ![1, v974.toNat, 16]
def k0_off665 (k0_t36 : Fin k0_t36_loop.trips) : Fin 3 → Nat :=
  let c1_i32_701 : BitVec 32 := 1#32
  let v976 : Index := Scalar.indexCast c1_i32_701
  let c0_i32_692 : BitVec 32 := 0#32
  let c1_i32_694 : BitVec 32 := 1#32
  let arg30 : BitVec 32 := Scf.iv c0_i32_692 c1_i32_694 k0_t36
  let v977 : Index := Scalar.indexCast arg30
  let c32_702 : Index := 32#32
  ![1, v977.toNat, 32]
def k0_off666 (k0_t36 : Fin k0_t36_loop.trips) : Fin 3 → Nat :=
  let c1_i32_703 : BitVec 32 := 1#32
  let v979 : Index := Scalar.indexCast c1_i32_703
  let c0_i32_692 : BitVec 32 := 0#32
  let c1_i32_694 : BitVec 32 := 1#32
  let arg30 : BitVec 32 := Scf.iv c0_i32_692 c1_i32_694 k0_t36
  let v980 : Index := Scalar.indexCast arg30
  let c48_704 : Index := 48#32
  ![1, v980.toNat, 48]
def k0_off667 (k0_t36 : Fin k0_t36_loop.trips) : Fin 3 → Nat :=
  let c1_i32_705 : BitVec 32 := 1#32
  let v982 : Index := Scalar.indexCast c1_i32_705
  let c0_i32_692 : BitVec 32 := 0#32
  let c1_i32_694 : BitVec 32 := 1#32
  let arg30 : BitVec 32 := Scf.iv c0_i32_692 c1_i32_694 k0_t36
  let v983 : Index := Scalar.indexCast arg30
  let c64_706 : Index := 64#32
  ![1, v983.toNat, 64]
def k0_off668 (k0_t36 : Fin k0_t36_loop.trips) : Fin 3 → Nat :=
  let c1_i32_707 : BitVec 32 := 1#32
  let v985 : Index := Scalar.indexCast c1_i32_707
  let c0_i32_692 : BitVec 32 := 0#32
  let c1_i32_694 : BitVec 32 := 1#32
  let arg30 : BitVec 32 := Scf.iv c0_i32_692 c1_i32_694 k0_t36
  let v986 : Index := Scalar.indexCast arg30
  let c80_708 : Index := 80#32
  ![1, v986.toNat, 80]
def k0_off669 (k0_t36 : Fin k0_t36_loop.trips) : Fin 3 → Nat :=
  let c1_i32_709 : BitVec 32 := 1#32
  let v988 : Index := Scalar.indexCast c1_i32_709
  let c0_i32_692 : BitVec 32 := 0#32
  let c1_i32_694 : BitVec 32 := 1#32
  let arg30 : BitVec 32 := Scf.iv c0_i32_692 c1_i32_694 k0_t36
  let v989 : Index := Scalar.indexCast arg30
  let c96_710 : Index := 96#32
  ![1, v989.toNat, 96]
def k0_off670 (k0_t36 : Fin k0_t36_loop.trips) : Fin 3 → Nat :=
  let c1_i32_711 : BitVec 32 := 1#32
  let v991 : Index := Scalar.indexCast c1_i32_711
  let c0_i32_692 : BitVec 32 := 0#32
  let c1_i32_694 : BitVec 32 := 1#32
  let arg30 : BitVec 32 := Scf.iv c0_i32_692 c1_i32_694 k0_t36
  let v992 : Index := Scalar.indexCast arg30
  let c112_712 : Index := 112#32
  ![1, v992.toNat, 112]
def k0_off671 (v895 : BitVec 32) (k0_t36 : Fin k0_t36_loop.trips) : Fin 3 → Nat :=
  let c1_i32_713 : BitVec 32 := 1#32
  let v995 : Index := Scalar.indexCast c1_i32_713
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v994 : BitVec 32 := Scalar.addi arg30 v901
  let v996 : Index := Scalar.indexCast v994
  let c0_714 : Index := 0#32
  ![1, v996.toNat, 0]
def k0_off672 (v895 : BitVec 32) (k0_t36 : Fin k0_t36_loop.trips) : Fin 3 → Nat :=
  let c1_i32_715 : BitVec 32 := 1#32
  let v999 : Index := Scalar.indexCast c1_i32_715
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v998 : BitVec 32 := Scalar.addi arg30 v901
  let v1000 : Index := Scalar.indexCast v998
  let c16_716 : Index := 16#32
  ![1, v1000.toNat, 16]
def k0_off673 (v895 : BitVec 32) (k0_t36 : Fin k0_t36_loop.trips) : Fin 3 → Nat :=
  let c1_i32_717 : BitVec 32 := 1#32
  let v1003 : Index := Scalar.indexCast c1_i32_717
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1002 : BitVec 32 := Scalar.addi arg30 v901
  let v1004 : Index := Scalar.indexCast v1002
  let c32_718 : Index := 32#32
  ![1, v1004.toNat, 32]
def k0_off674 (v895 : BitVec 32) (k0_t36 : Fin k0_t36_loop.trips) : Fin 3 → Nat :=
  let c1_i32_719 : BitVec 32 := 1#32
  let v1007 : Index := Scalar.indexCast c1_i32_719
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1006 : BitVec 32 := Scalar.addi arg30 v901
  let v1008 : Index := Scalar.indexCast v1006
  let c48_720 : Index := 48#32
  ![1, v1008.toNat, 48]
def k0_off675 (v895 : BitVec 32) (k0_t36 : Fin k0_t36_loop.trips) : Fin 3 → Nat :=
  let c1_i32_721 : BitVec 32 := 1#32
  let v1011 : Index := Scalar.indexCast c1_i32_721
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1010 : BitVec 32 := Scalar.addi arg30 v901
  let v1012 : Index := Scalar.indexCast v1010
  let c64_722 : Index := 64#32
  ![1, v1012.toNat, 64]
def k0_off676 (v895 : BitVec 32) (k0_t36 : Fin k0_t36_loop.trips) : Fin 3 → Nat :=
  let c1_i32_723 : BitVec 32 := 1#32
  let v1015 : Index := Scalar.indexCast c1_i32_723
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1014 : BitVec 32 := Scalar.addi arg30 v901
  let v1016 : Index := Scalar.indexCast v1014
  let c80_724 : Index := 80#32
  ![1, v1016.toNat, 80]
def k0_off677 (v895 : BitVec 32) (k0_t36 : Fin k0_t36_loop.trips) : Fin 3 → Nat :=
  let c1_i32_725 : BitVec 32 := 1#32
  let v1019 : Index := Scalar.indexCast c1_i32_725
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1018 : BitVec 32 := Scalar.addi arg30 v901
  let v1020 : Index := Scalar.indexCast v1018
  let c96_726 : Index := 96#32
  ![1, v1020.toNat, 96]
def k0_off678 (v895 : BitVec 32) (k0_t36 : Fin k0_t36_loop.trips) : Fin 3 → Nat :=
  let c1_i32_727 : BitVec 32 := 1#32
  let v1023 : Index := Scalar.indexCast c1_i32_727
  let c0_i32_692 : BitVec 32 := 0#32
  let c1_i32_694 : BitVec 32 := 1#32
  let arg30 : BitVec 32 := Scf.iv c0_i32_692 c1_i32_694 k0_t36
  let c8_i32_626 : BitVec 32 := 8#32
  let v896 : BitVec 32 := Scalar.remsi v895 c8_i32_626
  let v897 : BitVec 32 := Scalar.subi v895 v896
  let c3960_i32_627 : BitVec 32 := 3960#32
  let v898 : BitVec 32 := Scalar.minsi v897 c3960_i32_627
  let v899 : BitVec 32 := v898
  let v901 : BitVec 32 := Scalar.subi v895 v899
  let v1022 : BitVec 32 := Scalar.addi arg30 v901
  let v1024 : Index := Scalar.indexCast v1022
  let c112_728 : Index := 112#32
  ![1, v1024.toNat, 112]

def k0_chk64 (v887 : BitVec 32) (v895 : BitVec 32) : Prop :=
  (8 ∣ (k0_mult64 v895).toNat) ∧
  (∀ k0_t36 : Fin k0_t36_loop.trips, ∀ (k0_h33 : k0_cond33 v887 = 1#1), ∀ a, (k0_off671 v895 k0_t36) a + S1x1x16.size a ≤ S2x136x128.size a) ∧
  (∀ k0_t36 : Fin k0_t36_loop.trips, ∀ (k0_h33 : k0_cond33 v887 = 1#1), ∀ a, (k0_off672 v895 k0_t36) a + S1x1x16.size a ≤ S2x136x128.size a) ∧
  (∀ k0_t36 : Fin k0_t36_loop.trips, ∀ (k0_h33 : k0_cond33 v887 = 1#1), ∀ a, (k0_off673 v895 k0_t36) a + S1x1x16.size a ≤ S2x136x128.size a) ∧
  (∀ k0_t36 : Fin k0_t36_loop.trips, ∀ (k0_h33 : k0_cond33 v887 = 1#1), ∀ a, (k0_off674 v895 k0_t36) a + S1x1x16.size a ≤ S2x136x128.size a) ∧
  (∀ k0_t36 : Fin k0_t36_loop.trips, ∀ (k0_h33 : k0_cond33 v887 = 1#1), ∀ a, (k0_off675 v895 k0_t36) a + S1x1x16.size a ≤ S2x136x128.size a) ∧
  (∀ k0_t36 : Fin k0_t36_loop.trips, ∀ (k0_h33 : k0_cond33 v887 = 1#1), ∀ a, (k0_off676 v895 k0_t36) a + S1x1x16.size a ≤ S2x136x128.size a) ∧
  (∀ k0_t36 : Fin k0_t36_loop.trips, ∀ (k0_h33 : k0_cond33 v887 = 1#1), ∀ a, (k0_off677 v895 k0_t36) a + S1x1x16.size a ≤ S2x136x128.size a) ∧
  (∀ k0_t36 : Fin k0_t36_loop.trips, ∀ (k0_h33 : k0_cond33 v887 = 1#1), ∀ a, (k0_off678 v895 k0_t36) a + S1x1x16.size a ≤ S2x136x128.size a)
theorem k0_mult64_dvd : ∀ (v887 : BitVec 32) (v895 : BitVec 32) (k0_hw64 : k0_chk64 v887 v895), 8 ∣ (k0_mult64 v895).toNat := fun v887 v895 k0_hw64 => k0_hw64.1
theorem k0_off671_inb : ∀ (v887 : BitVec 32) (v895 : BitVec 32) (k0_hw64 : k0_chk64 v887 v895) (k0_t36 : Fin k0_t36_loop.trips), ∀ (k0_h33 : k0_cond33 v887 = 1#1), ∀ a, (k0_off671 v895 k0_t36) a + S1x1x16.size a ≤ S2x136x128.size a := fun v887 v895 k0_hw64 k0_t36 k0_h33 => k0_hw64.2.1 k0_t36 k0_h33
theorem k0_off672_inb : ∀ (v887 : BitVec 32) (v895 : BitVec 32) (k0_hw64 : k0_chk64 v887 v895) (k0_t36 : Fin k0_t36_loop.trips), ∀ (k0_h33 : k0_cond33 v887 = 1#1), ∀ a, (k0_off672 v895 k0_t36) a + S1x1x16.size a ≤ S2x136x128.size a := fun v887 v895 k0_hw64 k0_t36 k0_h33 => k0_hw64.2.2.1 k0_t36 k0_h33
theorem k0_off673_inb : ∀ (v887 : BitVec 32) (v895 : BitVec 32) (k0_hw64 : k0_chk64 v887 v895) (k0_t36 : Fin k0_t36_loop.trips), ∀ (k0_h33 : k0_cond33 v887 = 1#1), ∀ a, (k0_off673 v895 k0_t36) a + S1x1x16.size a ≤ S2x136x128.size a := fun v887 v895 k0_hw64 k0_t36 k0_h33 => k0_hw64.2.2.2.1 k0_t36 k0_h33
theorem k0_off674_inb : ∀ (v887 : BitVec 32) (v895 : BitVec 32) (k0_hw64 : k0_chk64 v887 v895) (k0_t36 : Fin k0_t36_loop.trips), ∀ (k0_h33 : k0_cond33 v887 = 1#1), ∀ a, (k0_off674 v895 k0_t36) a + S1x1x16.size a ≤ S2x136x128.size a := fun v887 v895 k0_hw64 k0_t36 k0_h33 => k0_hw64.2.2.2.2.1 k0_t36 k0_h33
theorem k0_off675_inb : ∀ (v887 : BitVec 32) (v895 : BitVec 32) (k0_hw64 : k0_chk64 v887 v895) (k0_t36 : Fin k0_t36_loop.trips), ∀ (k0_h33 : k0_cond33 v887 = 1#1), ∀ a, (k0_off675 v895 k0_t36) a + S1x1x16.size a ≤ S2x136x128.size a := fun v887 v895 k0_hw64 k0_t36 k0_h33 => k0_hw64.2.2.2.2.2.1 k0_t36 k0_h33
theorem k0_off676_inb : ∀ (v887 : BitVec 32) (v895 : BitVec 32) (k0_hw64 : k0_chk64 v887 v895) (k0_t36 : Fin k0_t36_loop.trips), ∀ (k0_h33 : k0_cond33 v887 = 1#1), ∀ a, (k0_off676 v895 k0_t36) a + S1x1x16.size a ≤ S2x136x128.size a := fun v887 v895 k0_hw64 k0_t36 k0_h33 => k0_hw64.2.2.2.2.2.2.1 k0_t36 k0_h33
theorem k0_off677_inb : ∀ (v887 : BitVec 32) (v895 : BitVec 32) (k0_hw64 : k0_chk64 v887 v895) (k0_t36 : Fin k0_t36_loop.trips), ∀ (k0_h33 : k0_cond33 v887 = 1#1), ∀ a, (k0_off677 v895 k0_t36) a + S1x1x16.size a ≤ S2x136x128.size a := fun v887 v895 k0_hw64 k0_t36 k0_h33 => k0_hw64.2.2.2.2.2.2.2.1 k0_t36 k0_h33
theorem k0_off678_inb : ∀ (v887 : BitVec 32) (v895 : BitVec 32) (k0_hw64 : k0_chk64 v887 v895) (k0_t36 : Fin k0_t36_loop.trips), ∀ (k0_h33 : k0_cond33 v887 = 1#1), ∀ a, (k0_off678 v895 k0_t36) a + S1x1x16.size a ≤ S2x136x128.size a := fun v887 v895 k0_hw64 k0_t36 k0_h33 => k0_hw64.2.2.2.2.2.2.2.2 k0_t36 k0_h33

@[reducible] def k0_t37_loop : Scf.Loop 32 :=
  let c0_i32_678 : BitVec 32 := 0#32
  let c128_i32_679 : BitVec 32 := 128#32
  let v941 : BitVec 32 := Scalar.addi c0_i32_678 c128_i32_679
  let c1_i32_680 : BitVec 32 := 1#32
  ⟨c0_i32_678, v941, c1_i32_680⟩
def k0_off679 (k0_t37 : Fin k0_t37_loop.trips) : Fin 3 → Nat :=
  let c1_i32_683 : BitVec 32 := 1#32
  let v942 : Index := Scalar.indexCast c1_i32_683
  let c0_i32_678 : BitVec 32 := 0#32
  let c1_i32_680 : BitVec 32 := 1#32
  let arg30 : BitVec 32 := Scf.iv c0_i32_678 c1_i32_680 k0_t37
  let v943 : Index := Scalar.indexCast arg30
  let c0 : Index := 0#32
  ![1, v943.toNat, 0]
def k0_off680 (k0_t37 : Fin k0_t37_loop.trips) : Fin 3 → Nat :=
  let c1_i32_684 : BitVec 32 := 1#32
  let v945 : Index := Scalar.indexCast c1_i32_684
  let c0_i32_678 : BitVec 32 := 0#32
  let c1_i32_680 : BitVec 32 := 1#32
  let arg30 : BitVec 32 := Scf.iv c0_i32_678 c1_i32_680 k0_t37
  let v946 : Index := Scalar.indexCast arg30
  let c16 : Index := 16#32
  ![1, v946.toNat, 16]
def k0_off681 (k0_t37 : Fin k0_t37_loop.trips) : Fin 3 → Nat :=
  let c1_i32_685 : BitVec 32 := 1#32
  let v948 : Index := Scalar.indexCast c1_i32_685
  let c0_i32_678 : BitVec 32 := 0#32
  let c1_i32_680 : BitVec 32 := 1#32
  let arg30 : BitVec 32 := Scf.iv c0_i32_678 c1_i32_680 k0_t37
  let v949 : Index := Scalar.indexCast arg30
  let c32 : Index := 32#32
  ![1, v949.toNat, 32]
def k0_off682 (k0_t37 : Fin k0_t37_loop.trips) : Fin 3 → Nat :=
  let c1_i32_686 : BitVec 32 := 1#32
  let v951 : Index := Scalar.indexCast c1_i32_686
  let c0_i32_678 : BitVec 32 := 0#32
  let c1_i32_680 : BitVec 32 := 1#32
  let arg30 : BitVec 32 := Scf.iv c0_i32_678 c1_i32_680 k0_t37
  let v952 : Index := Scalar.indexCast arg30
  let c48 : Index := 48#32
  ![1, v952.toNat, 48]
def k0_off683 (k0_t37 : Fin k0_t37_loop.trips) : Fin 3 → Nat :=
  let c1_i32_687 : BitVec 32 := 1#32
  let v954 : Index := Scalar.indexCast c1_i32_687
  let c0_i32_678 : BitVec 32 := 0#32
  let c1_i32_680 : BitVec 32 := 1#32
  let arg30 : BitVec 32 := Scf.iv c0_i32_678 c1_i32_680 k0_t37
  let v955 : Index := Scalar.indexCast arg30
  let c64 : Index := 64#32
  ![1, v955.toNat, 64]
def k0_off684 (k0_t37 : Fin k0_t37_loop.trips) : Fin 3 → Nat :=
  let c1_i32_688 : BitVec 32 := 1#32
  let v957 : Index := Scalar.indexCast c1_i32_688
  let c0_i32_678 : BitVec 32 := 0#32
  let c1_i32_680 : BitVec 32 := 1#32
  let arg30 : BitVec 32 := Scf.iv c0_i32_678 c1_i32_680 k0_t37
  let v958 : Index := Scalar.indexCast arg30
  let c80 : Index := 80#32
  ![1, v958.toNat, 80]
def k0_off685 (k0_t37 : Fin k0_t37_loop.trips) : Fin 3 → Nat :=
  let c1_i32_689 : BitVec 32 := 1#32
  let v960 : Index := Scalar.indexCast c1_i32_689
  let c0_i32_678 : BitVec 32 := 0#32
  let c1_i32_680 : BitVec 32 := 1#32
  let arg30 : BitVec 32 := Scf.iv c0_i32_678 c1_i32_680 k0_t37
  let v961 : Index := Scalar.indexCast arg30
  let c96 : Index := 96#32
  ![1, v961.toNat, 96]
def k0_off686 (k0_t37 : Fin k0_t37_loop.trips) : Fin 3 → Nat :=
  let c1_i32_690 : BitVec 32 := 1#32
  let v963 : Index := Scalar.indexCast c1_i32_690
  let c0_i32_678 : BitVec 32 := 0#32
  let c1_i32_680 : BitVec 32 := 1#32
  let arg30 : BitVec 32 := Scf.iv c0_i32_678 c1_i32_680 k0_t37
  let v964 : Index := Scalar.indexCast arg30
  let c112 : Index := 112#32
  ![1, v964.toNat, 112]
def k0_off687 (k0_t37 : Fin k0_t37_loop.trips) : Fin 3 → Nat :=
  let c1_i32_707 : BitVec 32 := 1#32
  let v990 : Index := Scalar.indexCast c1_i32_707
  let c0_i32_678 : BitVec 32 := 0#32
  let c1_i32_680 : BitVec 32 := 1#32
  let arg30 : BitVec 32 := Scf.iv c0_i32_678 c1_i32_680 k0_t37
  let v991 : Index := Scalar.indexCast arg30
  let c0_708 : Index := 0#32
  ![1, v991.toNat, 0]
def k0_off688 (k0_t37 : Fin k0_t37_loop.trips) : Fin 3 → Nat :=
  let c1_i32_709 : BitVec 32 := 1#32
  let v993 : Index := Scalar.indexCast c1_i32_709
  let c0_i32_678 : BitVec 32 := 0#32
  let c1_i32_680 : BitVec 32 := 1#32
  let arg30 : BitVec 32 := Scf.iv c0_i32_678 c1_i32_680 k0_t37
  let v994 : Index := Scalar.indexCast arg30
  let c16_710 : Index := 16#32
  ![1, v994.toNat, 16]
def k0_off689 (k0_t37 : Fin k0_t37_loop.trips) : Fin 3 → Nat :=
  let c1_i32_711 : BitVec 32 := 1#32
  let v996 : Index := Scalar.indexCast c1_i32_711
  let c0_i32_678 : BitVec 32 := 0#32
  let c1_i32_680 : BitVec 32 := 1#32
  let arg30 : BitVec 32 := Scf.iv c0_i32_678 c1_i32_680 k0_t37
  let v997 : Index := Scalar.indexCast arg30
  let c32_712 : Index := 32#32
  ![1, v997.toNat, 32]
def k0_off690 (k0_t37 : Fin k0_t37_loop.trips) : Fin 3 → Nat :=
  let c1_i32_713 : BitVec 32 := 1#32
  let v999 : Index := Scalar.indexCast c1_i32_713
  let c0_i32_678 : BitVec 32 := 0#32
  let c1_i32_680 : BitVec 32 := 1#32
  let arg30 : BitVec 32 := Scf.iv c0_i32_678 c1_i32_680 k0_t37
  let v1000 : Index := Scalar.indexCast arg30
  let c48_714 : Index := 48#32
  ![1, v1000.toNat, 48]
def k0_off691 (k0_t37 : Fin k0_t37_loop.trips) : Fin 3 → Nat :=
  let c1_i32_715 : BitVec 32 := 1#32
  let v1002 : Index := Scalar.indexCast c1_i32_715
  let c0_i32_678 : BitVec 32 := 0#32
  let c1_i32_680 : BitVec 32 := 1#32
  let arg30 : BitVec 32 := Scf.iv c0_i32_678 c1_i32_680 k0_t37
  let v1003 : Index := Scalar.indexCast arg30
  let c64_716 : Index := 64#32
  ![1, v1003.toNat, 64]
def k0_off692 (k0_t37 : Fin k0_t37_loop.trips) : Fin 3 → Nat :=
  let c1_i32_717 : BitVec 32 := 1#32
  let v1005 : Index := Scalar.indexCast c1_i32_717
  let c0_i32_678 : BitVec 32 := 0#32
  let c1_i32_680 : BitVec 32 := 1#32
  let arg30 : BitVec 32 := Scf.iv c0_i32_678 c1_i32_680 k0_t37
  let v1006 : Index := Scalar.indexCast arg30
  let c80_718 : Index := 80#32
  ![1, v1006.toNat, 80]
def k0_off693 (k0_t37 : Fin k0_t37_loop.trips) : Fin 3 → Nat :=
  let c1_i32_719 : BitVec 32 := 1#32
  let v1008 : Index := Scalar.indexCast c1_i32_719
  let c0_i32_678 : BitVec 32 := 0#32
  let c1_i32_680 : BitVec 32 := 1#32
  let arg30 : BitVec 32 := Scf.iv c0_i32_678 c1_i32_680 k0_t37
  let v1009 : Index := Scalar.indexCast arg30
  let c96_720 : Index := 96#32
  ![1, v1009.toNat, 96]
def k0_off694 (k0_t37 : Fin k0_t37_loop.trips) : Fin 3 → Nat :=
  let c1_i32_721 : BitVec 32 := 1#32
  let v1011 : Index := Scalar.indexCast c1_i32_721
  let c0_i32_678 : BitVec 32 := 0#32
  let c1_i32_680 : BitVec 32 := 1#32
  let arg30 : BitVec 32 := Scf.iv c0_i32_678 c1_i32_680 k0_t37
  let v1012 : Index := Scalar.indexCast arg30
  let c112_722 : Index := 112#32
  ![1, v1012.toNat, 112]
def k0_off695 (i : grid0.Coords) (c1920_i32_631 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32 : BitVec 32 := 4096#32
  let v20 : BitVec 32 := Scalar.muli v18 c4096_i32
  let c2_i32_5 : BitVec 32 := 2#32
  let v19 : BitVec 32 := Scalar.remsi v1 c2_i32_5
  let c2048_i32 : BitVec 32 := 2048#32
  let v21 : BitVec 32 := Scalar.muli v19 c2048_i32
  let v22 : BitVec 32 := Scalar.addi v20 v21
  let v906 : BitVec 32 := Scalar.addi v22 c1920_i32_631
  let c0_i32_635 : BitVec 32 := 0#32
  ![v906.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S100000x128 : Shape := ⟨2, ![100000, 128]⟩
abbrev S4096x128 : Shape := ⟨2, ![4096, 128]⟩
abbrev S128 : Shape := ⟨1, ![128]⟩
abbrev S_ : Shape := ⟨0, ![]⟩
abbrev S16x1 : Shape := ⟨2, ![16, 1]⟩
abbrev S16x4095 : Shape := ⟨2, ![16, 4095]⟩
abbrev S1 : Shape := ⟨1, ![1]⟩
abbrev S16 : Shape := ⟨1, ![16]⟩
abbrev S4096 : Shape := ⟨1, ![4096]⟩
abbrev S1x4096 : Shape := ⟨2, ![1, 4096]⟩
abbrev S16x4096x1 : Shape := ⟨3, ![16, 4096, 1]⟩
abbrev S1x1x1 : Shape := ⟨3, ![1, 1, 1]⟩
abbrev S16x4096x128 : Shape := ⟨3, ![16, 4096, 128]⟩
abbrev S1x1x128 : Shape := ⟨3, ![1, 1, 128]⟩

abbrev nBuf : Space → Nat
  | .hbm => 139
  | .vmem => 0
  | .smem => 0
  | _ => 0

abbrev hbmTy0_0 (i : Nat) : BufTy := match i % 128 with
  | 0 => ⟨S16x4096, .i32⟩
  | 1 => ⟨S100000x128, .f32⟩
  | 2 => ⟨S4096x128, .f32⟩
  | 3 => ⟨S4096x128, .f32⟩
  | 4 => ⟨S128, .f32⟩
  | 5 => ⟨S128, .f32⟩
  | 6 => ⟨S_, .i32⟩
  | 7 => ⟨S16x4096, .i32⟩
  | 8 => ⟨S16x4096, .i1⟩
  | 9 => ⟨S16x1, .i1⟩
  | 10 => ⟨S16x4095, .i1⟩
  | 11 => ⟨S16x4096, .i1⟩
  | 12 => ⟨S_, .i32⟩
  | 13 => ⟨S1, .i32⟩
  | 14 => ⟨S_, .i1⟩
  | 15 => ⟨S16, .i1⟩
  | 16 => ⟨S16x4096, .i1⟩
  | 17 => ⟨S16x4096, .i32⟩
  | 18 => ⟨S_, .i32⟩
  | 19 => ⟨S_, .i32⟩
  | 20 => ⟨S16x4096, .i32⟩
  | 21 => ⟨S4096, .i32⟩
  | 22 => ⟨S_, .i32⟩
  | 23 => ⟨S1, .i32⟩
  | 24 => ⟨S_, .i1⟩
  | 25 => ⟨S16, .i1⟩
  | 26 => ⟨S16x4096, .i1⟩
  | 27 => ⟨S1x4096, .i32⟩
  | 28 => ⟨S_, .i32⟩
  | 29 => ⟨S_, .i32⟩
  | 30 => ⟨S16x4096, .i32⟩
  | 31 => ⟨S16x4096, .i32⟩
  | 32 => ⟨S16x4096, .i32⟩
  | 33 => ⟨S_, .i32⟩
  | 34 => ⟨S_, .i32⟩
  | 35 => ⟨S16x4096, .i32⟩
  | 36 => ⟨S1x4096, .i32⟩
  | 37 => ⟨S16x4096, .i32⟩
  | 38 => ⟨S16x4096, .i32⟩
  | 39 => ⟨S_, .i32⟩
  | 40 => ⟨S16x4096, .i32⟩
  | 41 => ⟨S16x4096, .i1⟩
  | 42 => ⟨S_, .i32⟩
  | 43 => ⟨S16x4096, .i32⟩
  | 44 => ⟨S16x4096, .i32⟩
  | 45 => ⟨S16x4096, .i32⟩
  | 46 => ⟨S16x4096x1, .i32⟩
  | 47 => ⟨S1, .i32⟩
  | 48 => ⟨S_, .i32⟩
  | 49 => ⟨S16x4096x1, .i32⟩
  | 50 => ⟨S16x4096x1, .i1⟩
  | 51 => ⟨S1x1x1, .i32⟩
  | 52 => ⟨S16x4096x1, .i32⟩
  | 53 => ⟨S16x4096x1, .i1⟩
  | 54 => ⟨S16x4096x1, .i1⟩
  | 55 => ⟨S_, .i1⟩
  | 56 => ⟨S16x4096, .i1⟩
  | 57 => ⟨S16x4096x128, .f32⟩
  | 58 => ⟨S16x4096x128, .i1⟩
  | 59 => ⟨S_, .f32⟩
  | 60 => ⟨S16x4096x128, .f32⟩
  | 61 => ⟨S16x4096x128, .f32⟩
  | 62 => ⟨S_, .i32⟩
  | 63 => ⟨S16x4096, .i32⟩
  | 64 => ⟨S16x4096, .i1⟩
  | 65 => ⟨S_, .i32⟩
  | 66 => ⟨S16x4096, .i32⟩
  | 67 => ⟨S16x4096, .i32⟩
  | 68 => ⟨S16x4096, .i32⟩
  | 69 => ⟨S16x4096x1, .i32⟩
  | 70 => ⟨S1, .i32⟩
  | 71 => ⟨S_, .i32⟩
  | 72 => ⟨S16x4096x1, .i32⟩
  | 73 => ⟨S16x4096x1, .i1⟩
  | 74 => ⟨S1x1x1, .i32⟩
  | 75 => ⟨S16x4096x1, .i32⟩
  | 76 => ⟨S16x4096x1, .i1⟩
  | 77 => ⟨S16x4096x1, .i1⟩
  | 78 => ⟨S_, .i1⟩
  | 79 => ⟨S16x4096, .i1⟩
  | 80 => ⟨S16x4096x128, .f32⟩
  | 81 => ⟨S16x4096x128, .i1⟩
  | 82 => ⟨S_, .f32⟩
  | 83 => ⟨S16x4096x128, .f32⟩
  | 84 => ⟨S16x4096x128, .f32⟩
  | 85 => ⟨S_, .i32⟩
  | 86 => ⟨S16x4096, .i32⟩
  | 87 => ⟨S16x4096, .i1⟩
  | 88 => ⟨S_, .i32⟩
  | 89 => ⟨S16x4096, .i32⟩
  | 90 => ⟨S16x4096, .i32⟩
  | 91 => ⟨S16x4096, .i32⟩
  | 92 => ⟨S16x4096x1, .i32⟩
  | 93 => ⟨S1, .i32⟩
  | 94 => ⟨S_, .i32⟩
  | 95 => ⟨S16x4096x1, .i32⟩
  | 96 => ⟨S16x4096x1, .i1⟩
  | 97 => ⟨S1x1x1, .i32⟩
  | 98 => ⟨S16x4096x1, .i32⟩
  | 99 => ⟨S16x4096x1, .i1⟩
  | 100 => ⟨S16x4096x1, .i1⟩
  | 101 => ⟨S_, .i1⟩
  | 102 => ⟨S16x4096, .i1⟩
  | 103 => ⟨S16x4096x128, .f32⟩
  | 104 => ⟨S16x4096x128, .i1⟩
  | 105 => ⟨S_, .f32⟩
  | 106 => ⟨S16x4096x128, .f32⟩
  | 107 => ⟨S16x4096x128, .f32⟩
  | 108 => ⟨S16x4096x128, .f32⟩
  | 109 => ⟨S16x4096x128, .f32⟩
  | 110 => ⟨S_, .f32⟩
  | 111 => ⟨S16x4096, .f32⟩
  | 112 => ⟨S16x4096x1, .f32⟩
  | 113 => ⟨S_, .f32⟩
  | 114 => ⟨S16x4096x1, .f32⟩
  | 115 => ⟨S16x4096x1, .f32⟩
  | 116 => ⟨S16x4096x128, .f32⟩
  | 117 => ⟨S16x4096x128, .f32⟩
  | 118 => ⟨S16x4096x128, .f32⟩
  | 119 => ⟨S_, .f32⟩
  | 120 => ⟨S16x4096, .f32⟩
  | 121 => ⟨S16x4096x1, .f32⟩
  | 122 => ⟨S_, .f32⟩
  | 123 => ⟨S16x4096x1, .f32⟩
  | 124 => ⟨S16x4096x1, .f32⟩
  | 125 => ⟨S16x4096x128, .f32⟩
  | 126 => ⟨S16x4096x128, .f32⟩
  | 127 => ⟨S_, .f32⟩
  | _ => ⟨S16x4096, .i32⟩

abbrev hbmTy0_1 (i : Nat) : BufTy := match i % 128 with
  | 0 => ⟨S16x4096x1, .f32⟩
  | 1 => ⟨S16x4096x1, .f32⟩
  | 2 => ⟨S16x4096x1, .f32⟩
  | 3 => ⟨S16x4096x128, .f32⟩
  | 4 => ⟨S16x4096x128, .f32⟩
  | 5 => ⟨S1x1x128, .f32⟩
  | 6 => ⟨S16x4096x128, .f32⟩
  | 7 => ⟨S16x4096x128, .f32⟩
  | 8 => ⟨S1x1x128, .f32⟩
  | 9 => ⟨S16x4096x128, .f32⟩
  | 10 => ⟨S16x4096x128, .f32⟩
  | _ => ⟨S16x4096, .i32⟩

abbrev hbmTy (i : Nat) : BufTy := match i / 128 with
  | 0 => hbmTy0_0 i
  | 1 => hbmTy0_1 i
  | _ => ⟨S16x4096, .i32⟩

abbrev bufTy : (tb : Table) → Fin (tcTables nBuf tb) → BufTy
  | .hbm, ⟨i, _⟩ => hbmTy i
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_call0_c : Ref sig .tc := ⟨.hbm, 18, rfl⟩
abbrev main_call1_call0_v0 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v13 : Ref sig .tc := ⟨.hbm, 32, rfl⟩
abbrev main_call3_c : Ref sig .tc := ⟨.hbm, 33, rfl⟩
abbrev main_call3_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call4_c : Ref sig .tc := ⟨.hbm, 39, rfl⟩
abbrev main_call4_v0 : Ref sig .tc := ⟨.hbm, 40, rfl⟩
abbrev main_call4_v1 : Ref sig .tc := ⟨.hbm, 41, rfl⟩
abbrev main_call4_c_0 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_c_1 : Ref sig .tc := ⟨.hbm, 47, rfl⟩
abbrev main_call4_c_2 : Ref sig .tc := ⟨.hbm, 48, rfl⟩
abbrev main_call4_v6 : Ref sig .tc := ⟨.hbm, 49, rfl⟩
abbrev main_call4_v7 : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_v11 : Ref sig .tc := ⟨.hbm, 54, rfl⟩
abbrev main_call4_c_3 : Ref sig .tc := ⟨.hbm, 55, rfl⟩
abbrev main_call4_v12 : Ref sig .tc := ⟨.hbm, 56, rfl⟩
abbrev main_call4_v13 : Ref sig .tc := ⟨.hbm, 57, rfl⟩
abbrev main_call4_v14 : Ref sig .tc := ⟨.hbm, 58, rfl⟩
abbrev main_call4_cst : Ref sig .tc := ⟨.hbm, 59, rfl⟩
abbrev main_call4_v15 : Ref sig .tc := ⟨.hbm, 60, rfl⟩
abbrev main_v18 : Ref sig .tc := ⟨.hbm, 61, rfl⟩
abbrev main_call5_c : Ref sig .tc := ⟨.hbm, 62, rfl⟩
abbrev main_call5_v0 : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_c_1 : Ref sig .tc := ⟨.hbm, 70, rfl⟩
abbrev main_call5_c_2 : Ref sig .tc := ⟨.hbm, 71, rfl⟩
abbrev main_call5_v6 : Ref sig .tc := ⟨.hbm, 72, rfl⟩
abbrev main_call5_v7 : Ref sig .tc := ⟨.hbm, 73, rfl⟩
abbrev main_call5_v8 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_c_3 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_call5_cst : Ref sig .tc := ⟨.hbm, 82, rfl⟩
abbrev main_call5_v15 : Ref sig .tc := ⟨.hbm, 83, rfl⟩
abbrev main_v19 : Ref sig .tc := ⟨.hbm, 84, rfl⟩
abbrev main_call6_c : Ref sig .tc := ⟨.hbm, 85, rfl⟩
abbrev main_call6_v0 : Ref sig .tc := ⟨.hbm, 86, rfl⟩
abbrev main_call6_v1 : Ref sig .tc := ⟨.hbm, 87, rfl⟩
abbrev main_call6_c_0 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_c_1 : Ref sig .tc := ⟨.hbm, 93, rfl⟩
abbrev main_call6_c_2 : Ref sig .tc := ⟨.hbm, 94, rfl⟩
abbrev main_call6_v6 : Ref sig .tc := ⟨.hbm, 95, rfl⟩
abbrev main_call6_v7 : Ref sig .tc := ⟨.hbm, 96, rfl⟩
abbrev main_call6_v8 : Ref sig .tc := ⟨.hbm, 97, rfl⟩
abbrev main_call6_v9 : Ref sig .tc := ⟨.hbm, 98, rfl⟩
abbrev main_call6_v10 : Ref sig .tc := ⟨.hbm, 99, rfl⟩
abbrev main_call6_v11 : Ref sig .tc := ⟨.hbm, 100, rfl⟩
abbrev main_call6_c_3 : Ref sig .tc := ⟨.hbm, 101, rfl⟩
abbrev main_call6_v12 : Ref sig .tc := ⟨.hbm, 102, rfl⟩
abbrev main_call6_v13 : Ref sig .tc := ⟨.hbm, 103, rfl⟩
abbrev main_call6_v14 : Ref sig .tc := ⟨.hbm, 104, rfl⟩
abbrev main_call6_cst : Ref sig .tc := ⟨.hbm, 105, rfl⟩
abbrev main_call6_v15 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_cst : Ref sig .tc := ⟨.hbm, 110, rfl⟩
abbrev main_v23 : Ref sig .tc := ⟨.hbm, 111, rfl⟩
abbrev main_v24 : Ref sig .tc := ⟨.hbm, 112, rfl⟩
abbrev main_cst_5 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_cst_6 : Ref sig .tc := ⟨.hbm, 119, rfl⟩
abbrev main_v30 : Ref sig .tc := ⟨.hbm, 120, rfl⟩
abbrev main_v31 : Ref sig .tc := ⟨.hbm, 121, rfl⟩
abbrev main_cst_7 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_cst_8 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩

abbrev nD : Nat := 1
abbrev τ : Topo := Topo.v7x

variable {F : FTy → Type} [FloatOps F]
-- ==== Proof.Piece.lean ====
/-
  The SparseCore kernel's repeated pieces, written once. The printed program is fully unrolled: sixteen chunks of 128
  positions, the chunks alternating between two buffer slots. Every chunk runs the same few pieces, which differ only in
  the chunk number `j` and the slot `p`; this module states each piece as a function of `j` and `p`.
-/
module

public import proofs.«01_k».proof.Proof.Gen.KernelIdeal.Skeleton
public import Idealize.ShloMosaic.Lib.SparseCore.Stream

@[expose] public section

set_option synthInstance.maxSize 4096
set_option maxRecDepth 16384

noncomputable section

namespace Cert.Proof.Piece

open Idealize.ShloMosaic Idealize.SL.Sem Cert.KernelIdeal Cert.KernelIdeal.Gen

variable {F : FTy → Type} [FloatOps F]

/-! ## The operands and the scratch buffers -/

abbrev stV : Memref sig .scVector .hbm S65536 .i32 := Memref.whole main_v4_scv
abbrev spV : Memref sig .scVector .hbm S65536 .i32 := Memref.whole main_v5_scv
abbrev tkV : Memref sig .scVector .hbm S100000x128 .f32 := Memref.whole main_arg1_scv
abbrev inV : Memref sig .scVector .hbm S4096x128 .f32 := Memref.whole main_arg2_scv
abbrev arV : Memref sig .scVector .hbm S4096x128 .f32 := Memref.whole main_arg3_scv
abbrev ouV : Memref sig .scVector .hbm S65536x128 .f32 := Memref.whole main_v6_scv
abbrev svV : Memref sig .scVector .vmem S2048 .i32 := Memref.whole cc0_scratch0
abbrev spvV : Memref sig .scVector .vmem S2048 .i32 := Memref.whole cc0_scratch1
abbrev iiV : Memref sig .scVector .vmem S2048 .i32 := Memref.whole cc0_scratch2
abbrev aiV : Memref sig .scVector .vmem S2048 .i32 := Memref.whole cc0_scratch3
abbrev tbV : Memref sig .scVector .vmem S2x128x128 .f32 := Memref.whole cc0_scratch4
abbrev ibV : Memref sig .scVector .vmem S2x128x128 .f32 := Memref.whole cc0_scratch5
abbrev abV : Memref sig .scVector .vmem S2x136x128 .f32 := Memref.whole cc0_scratch6
abbrev nsV : Memref sig .scVector .smem S16 .i32 := Memref.whole cc0_scratch7
abbrev ciV : Memref sig .scVector .smem S16 .i32 := Memref.whole cc0_scratch8
abbrev baV : Memref sig .scVector .smem S16 .i32 := Memref.whole cc0_scratch9

/-- The slots' semaphores: token gather, instruction copy, argument copy, write-out, instruction gather, argument
    gather. -/
def semT : Fin 2 → DmaSem sig | 0 => cc0_scratch10.sem | 1 => cc0_scratch11.sem
def semI : Fin 2 → DmaSem sig | 0 => cc0_scratch12.sem | 1 => cc0_scratch13.sem
def semA : Fin 2 → DmaSem sig | 0 => cc0_scratch14.sem | 1 => cc0_scratch15.sem
def semO : Fin 2 → DmaSem sig | 0 => cc0_scratch16.sem | 1 => cc0_scratch17.sem
def semGI : Fin 2 → DmaSem sig | 0 => cc0_scratch18.sem | 1 => cc0_scratch19.sem
def semGA : Fin 2 → DmaSem sig | 0 => cc0_scratch20.sem | 1 => cc0_scratch21.sem

/-! ## Windows -/

theorem inb_slot (p : Fin 2) : ∀ a, (![p.val, 0, 0] : Fin 3 → ℕ) a + S1x128x128.size a ≤ S2x128x128.size a := by
  revert p; decide
theorem inb_slotA (p : Fin 2) : ∀ a, (![p.val, 0, 0] : Fin 3 → ℕ) a + S1x136x128.size a ≤ S2x136x128.size a := by
  revert p; decide
theorem inb_list (j : Fin 16) : ∀ a, (![128 * j.val] : Fin 1 → ℕ) a + S128.size a ≤ S2048.size a := by
  revert j; decide
theorem inb_word (j : Fin 16) : ∀ a, (![j.val] : Fin 1 → ℕ) a + S1.size a ≤ S16.size a := by
  revert j; decide

/-- Slot `p` of the token rows, the instruction rows and the argument rows. -/
abbrev tbS (p : Fin 2) : Memref sig .scVector .vmem S128x128 .f32 :=
  (tbV.slice (Rect.unit (s := S2x128x128) ![p.val, 0, 0] S1x128x128.size (inb_slot p)) (fun _ => rfl)).squeeze S128x128 squeezes_S1x128x128_S128x128
abbrev ibS (p : Fin 2) : Memref sig .scVector .vmem S128x128 .f32 :=
  (ibV.slice (Rect.unit (s := S2x128x128) ![p.val, 0, 0] S1x128x128.size (inb_slot p)) (fun _ => rfl)).squeeze S128x128 squeezes_S1x128x128_S128x128
abbrev abS (p : Fin 2) : Memref sig .scVector .vmem S136x128 .f32 :=
  (abV.slice (Rect.unit (s := S2x136x128) ![p.val, 0, 0] S1x136x128.size (inb_slotA p)) (fun _ => rfl)).squeeze S136x128 squeezes_S1x136x128_S136x128
/-- The first eight rows of the instruction slot, all of its rows, the first 128 rows of the argument slot. -/
abbrev ibS8 (p : Fin 2) : Memref sig .scVector .vmem S8x128 .f32 :=
  (ibS p).slice (Rect.unit (s := S128x128) ![0, 0] S8x128.size inb_S128x128_S8x128_0_0) (fun _ => rfl)
abbrev ibS128 (p : Fin 2) : Memref sig .scVector .vmem S128x128 .f32 :=
  (ibS p).slice (Rect.unit (s := S128x128) ![0, 0] S128x128.size inb_S128x128_S128x128_0_0) (fun _ => rfl)
abbrev abS128 (p : Fin 2) : Memref sig .scVector .vmem S128x128 .f32 :=
  (abS p).slice (Rect.unit (s := S136x128) ![0, 0] S128x128.size inb_S136x128_S128x128_0_0) (fun _ => rfl)
/-- The tables, whole, as the indirect copies address them. -/
abbrev tkA : Memref sig .scVector .hbm S100000x128 .f32 :=
  tkV.slice (Rect.unit (s := S100000x128) ![0, 0] S100000x128.size inb_S100000x128_S100000x128_0_0) (fun _ => rfl)
abbrev inA : Memref sig .scVector .hbm S4096x128 .f32 :=
  inV.slice (Rect.unit (s := S4096x128) ![0, 0] S4096x128.size inb_S4096x128_S4096x128_0_0) (fun _ => rfl)
abbrev arA : Memref sig .scVector .hbm S4096x128 .f32 :=
  arV.slice (Rect.unit (s := S4096x128) ![0, 0] S4096x128.size inb_S4096x128_S4096x128_0_0) (fun _ => rfl)
/-- The first rows of the tables: what the waits of the linear copies name as their source. -/
abbrev in8 : Memref sig .scVector .hbm S8x128 .f32 :=
  inV.slice (Rect.unit (s := S4096x128) ![0, 0] S8x128.size inb_S4096x128_S8x128_0_0) (fun _ => rfl)
abbrev ar136 : Memref sig .scVector .hbm S136x128 .f32 :=
  arV.slice (Rect.unit (s := S4096x128) ![0, 0] S136x128.size inb_S4096x128_S136x128_0_0) (fun _ => rfl)
/-- Chunk `j`'s part of an offset list. -/
abbrev lsJ (v : Memref sig .scVector .vmem S2048 .i32) (j : Fin 16) : Memref sig .scVector .vmem S128 .i32 :=
  v.slice (Rect.unit (s := S2048) ![128 * j.val] S128.size (inb_list j)) (fun _ => rfl)

/-! ## The programs -/

section Programs

variable (i : grid0.Coords)

/-- The programs of vector subcore `i`. -/
abbrev TP (F : FTy → Type) (i : grid0.Coords) (α : Type) : Type 1 :=
  Prog (TpuEff nD τ sig (Elt F) Λ₀ (.scVector ((i 0).castLE hcore0) ((i 1).castLE hsub0))) α

/-- The tile's first position in the flattened arrays, as the kernel computes it. -/
def basePos : BitVec 32 :=
  let arg1 : BitVec 32 := BitVec.ofNat 32 (i 1).val
  let v0 : BitVec 32 := Scalar.muli arg1 2#32
  let arg0 : BitVec 32 := BitVec.ofNat 32 (i 0).val
  let v1 : BitVec 32 := Scalar.addi v0 arg0
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 2#32 0#32
  let v9 : BitVec 32 := Scalar.extui v8
  let v10 : BitVec 1 := Scalar.cmpi .slt 2#32 0#32
  let v11 : BitVec 32 := Scalar.extui v10
  let v12 : BitVec 32 := Scalar.subi v9 v11
  let v13 : BitVec 1 := Scalar.cmpi .ne v7 v12
  let v14 : BitVec 32 := Scalar.remsi v1 2#32
  let v15 : BitVec 1 := Scalar.cmpi .ne v14 0#32
  let v16 : BitVec 1 := Scalar.andi v13 v15
  let v2 : BitVec 32 := Scalar.divsi v1 2#32
  let v17 : BitVec 32 := Scalar.subi v2 1#32
  let v18 : BitVec 32 := Scalar.select v16 v17 v2
  let v20 : BitVec 32 := Scalar.muli v18 4096#32
  let v19 : BitVec 32 := Scalar.remsi v1 2#32
  let v21 : BitVec 32 := Scalar.muli v19 2048#32
  Scalar.addi v20 v21

/-- Chunk `j`'s first row of the output. -/
def offO (j : Fin 16) : Fin 2 → ℕ := ![(Scalar.addi (basePos i) (BitVec.ofNat 32 (128 * j.val))).toNat, 0]

theorem inb_out : ∀ (i : grid0.Coords) (j : Fin 16), ∀ a, offO i j a + S128x128.size a ≤ S65536x128.size a := by
  decide +kernel

/-- Chunk `j`'s rows of the output. -/
abbrev ouJ (j : Fin 16) : Memref sig .scVector .hbm S128x128 .f32 :=
  ouV.slice (Rect.unit (s := S65536x128) (offO i j) S128x128.size (inb_out i j)) (fun _ => rfl)

/-- A base rounded down to a multiple of eight, kept within the table. -/
def lo8 (hi v : BitVec 32) : BitVec 32 := Scalar.minsi (Scalar.subi v (Scalar.remsi v 8#32)) hi

/-- The word the guards test: is the chunk's number of starts zero? -/
def cnd (v : BitVec 32) : BitVec 1 := Scalar.cmpi .ne (Scalar.extui (Scalar.cmpi .eq v 0#32) : BitVec 32) 0#32

/-- The checks before a chunk's copies start. -/
def chkI (ns ci : BitVec 32) : Prop :=
  (8 ∣ (lo8 4088#32 ci).toNat) ∧
  (∀ _ : cnd ns = 1#1, ∀ a, (![(lo8 4088#32 ci).toNat, 0] : Fin 2 → ℕ) a + S8x128.size a ≤ S4096x128.size a)
def chkA (ns ba : BitVec 32) : Prop :=
  (8 ∣ (lo8 3960#32 ba).toNat) ∧
  (∀ _ : cnd ns = 1#1, ∀ a, (![(lo8 3960#32 ba).toNat, 0] : Fin 2 → ℕ) a + S136x128.size a ≤ S4096x128.size a)
instance chkI.dec (ns ci : BitVec 32) : Decidable (chkI ns ci) := decidable_of_iff' _ (Iff.of_eq (chkI.eq_1 ns ci))
instance chkA.dec (ns ba : BitVec 32) : Decidable (chkA ns ba) := decidable_of_iff' _ (Iff.of_eq (chkA.eq_1 ns ba))

/-- The instruction row's lane group `h`, the argument row's at trip `t`, and the token row's. -/
def offIv (p h : ℕ) (ci : BitVec 32) : Fin 3 → ℕ := ![p, (Scalar.indexCast (Scalar.subi ci (lo8 4088#32 ci)) : Index).toNat, h]
def offAv (p h : ℕ) (ba : BitVec 32) (t : Fin k0_t6_loop.trips) : Fin 3 → ℕ :=
  ![p, (Scalar.indexCast (Scalar.addi (Scf.iv 0#32 1#32 t) (Scalar.subi ba (lo8 3960#32 ba))) : Index).toNat, h]
def offTv (p h : ℕ) (t : Fin k0_t6_loop.trips) : Fin 3 → ℕ := ![p, (Scalar.indexCast (Scf.iv 0#32 1#32 t) : Index).toNat, h]

/-- The checks before a chunk is summed. -/
def chkCI (p : Fin 2) (ns ci : BitVec 32) : Prop :=
  (8 ∣ (lo8 4088#32 ci).toNat) ∧
  (∀ _ : cnd ns = 1#1, ∀ a, (offIv p.val 0 ci) a + S1x1x16.size a ≤ S2x128x128.size a) ∧
  (∀ _ : cnd ns = 1#1, ∀ a, (offIv p.val 16 ci) a + S1x1x16.size a ≤ S2x128x128.size a) ∧
  (∀ _ : cnd ns = 1#1, ∀ a, (offIv p.val 32 ci) a + S1x1x16.size a ≤ S2x128x128.size a) ∧
  (∀ _ : cnd ns = 1#1, ∀ a, (offIv p.val 48 ci) a + S1x1x16.size a ≤ S2x128x128.size a) ∧
  (∀ _ : cnd ns = 1#1, ∀ a, (offIv p.val 64 ci) a + S1x1x16.size a ≤ S2x128x128.size a) ∧
  (∀ _ : cnd ns = 1#1, ∀ a, (offIv p.val 80 ci) a + S1x1x16.size a ≤ S2x128x128.size a) ∧
  (∀ _ : cnd ns = 1#1, ∀ a, (offIv p.val 96 ci) a + S1x1x16.size a ≤ S2x128x128.size a) ∧
  (∀ _ : cnd ns = 1#1, ∀ a, (offIv p.val 112 ci) a + S1x1x16.size a ≤ S2x128x128.size a)
def chkCA (p : Fin 2) (ns ba : BitVec 32) : Prop :=
  (8 ∣ (lo8 3960#32 ba).toNat) ∧
  (∀ t : Fin k0_t6_loop.trips, ∀ _ : cnd ns = 1#1, ∀ a, (offAv p.val 0 ba t) a + S1x1x16.size a ≤ S2x136x128.size a) ∧
  (∀ t : Fin k0_t6_loop.trips, ∀ _ : cnd ns = 1#1, ∀ a, (offAv p.val 16 ba t) a + S1x1x16.size a ≤ S2x136x128.size a) ∧
  (∀ t : Fin k0_t6_loop.trips, ∀ _ : cnd ns = 1#1, ∀ a, (offAv p.val 32 ba t) a + S1x1x16.size a ≤ S2x136x128.size a) ∧
  (∀ t : Fin k0_t6_loop.trips, ∀ _ : cnd ns = 1#1, ∀ a, (offAv p.val 48 ba t) a + S1x1x16.size a ≤ S2x136x128.size a) ∧
  (∀ t : Fin k0_t6_loop.trips, ∀ _ : cnd ns = 1#1, ∀ a, (offAv p.val 64 ba t) a + S1x1x16.size a ≤ S2x136x128.size a) ∧
  (∀ t : Fin k0_t6_loop.trips, ∀ _ : cnd ns = 1#1, ∀ a, (offAv p.val 80 ba t) a + S1x1x16.size a ≤ S2x136x128.size a) ∧
  (∀ t : Fin k0_t6_loop.trips, ∀ _ : cnd ns = 1#1, ∀ a, (offAv p.val 96 ba t) a + S1x1x16.size a ≤ S2x136x128.size a) ∧
  (∀ t : Fin k0_t6_loop.trips, ∀ _ : cnd ns = 1#1, ∀ a, (offAv p.val 112 ba t) a + S1x1x16.size a ≤ S2x136x128.size a)
set_option synthInstance.maxSize 1000000 in
set_option synthInstance.maxHeartbeats 0 in
instance chkCI.dec (p : Fin 2) (ns ci : BitVec 32) : Decidable (chkCI p ns ci) := decidable_of_iff' _ (Iff.of_eq (chkCI.eq_1 p ns ci))
set_option synthInstance.maxSize 1000000 in
set_option synthInstance.maxHeartbeats 0 in
instance chkCA.dec (p : Fin 2) (ns ba : BitVec 32) : Decidable (chkCA p ns ba) := decidable_of_iff' _ (Iff.of_eq (chkCA.eq_1 p ns ba))

theorem inb_tv : ∀ (p : Fin 2) (h : Fin 8) (t : Fin k0_t6_loop.trips), ∀ a, (offTv p.val (16 * h.val) t) a + S1x1x16.size a ≤ S2x128x128.size a := by
  decide +kernel
theorem inb_av : ∀ (p : Fin 2) (h : Fin 8) (t : Fin k0_t6_loop.trips), ∀ a, (offTv p.val (16 * h.val) t) a + S1x1x16.size a ≤ S2x136x128.size a := by
  decide +kernel

/-- A sixteen-lane group of a slot, read and written. -/
abbrev cast16 (v : Vec F S1x1x16 .f32) : Vec F S16 .f32 := shapeCast S16 v shapeCasts_S1x1x16_S16
abbrev cast1 (v : FVec F S16 .f32) : Vec F S1x1x16 .f32 := shapeCast S1x1x16 v shapeCasts_S16_S1x1x16

/-- One row of the fast sum: the token row plus the chunk's one instruction row plus the row's argument row. -/
def rowFast (p : Fin 2) (ns ba : BitVec 32) (hw : chkCA p ns ba) (hc : cnd ns = 1#1) (iv : Fin 8 → Vec F S16 .f32) (t : Fin k0_t6_loop.trips) : TP F i Unit := do
  let t0 : Vec F S1x1x16 .f32 ← Prog.lift (.load tbV (Rect.unit (s := S2x128x128) (offTv p.val 0 t) S1x1x16.size (inb_tv p 0 t)).toLoadRect (View.loadsAt_vmem h_S1x1x16))
  let t1 : Vec F S1x1x16 .f32 ← Prog.lift (.load tbV (Rect.unit (s := S2x128x128) (offTv p.val 16 t) S1x1x16.size (inb_tv p 1 t)).toLoadRect (View.loadsAt_vmem h_S1x1x16))
  let t2 : Vec F S1x1x16 .f32 ← Prog.lift (.load tbV (Rect.unit (s := S2x128x128) (offTv p.val 32 t) S1x1x16.size (inb_tv p 2 t)).toLoadRect (View.loadsAt_vmem h_S1x1x16))
  let t3 : Vec F S1x1x16 .f32 ← Prog.lift (.load tbV (Rect.unit (s := S2x128x128) (offTv p.val 48 t) S1x1x16.size (inb_tv p 3 t)).toLoadRect (View.loadsAt_vmem h_S1x1x16))
  let t4 : Vec F S1x1x16 .f32 ← Prog.lift (.load tbV (Rect.unit (s := S2x128x128) (offTv p.val 64 t) S1x1x16.size (inb_tv p 4 t)).toLoadRect (View.loadsAt_vmem h_S1x1x16))
  let t5 : Vec F S1x1x16 .f32 ← Prog.lift (.load tbV (Rect.unit (s := S2x128x128) (offTv p.val 80 t) S1x1x16.size (inb_tv p 5 t)).toLoadRect (View.loadsAt_vmem h_S1x1x16))
  let t6 : Vec F S1x1x16 .f32 ← Prog.lift (.load tbV (Rect.unit (s := S2x128x128) (offTv p.val 96 t) S1x1x16.size (inb_tv p 6 t)).toLoadRect (View.loadsAt_vmem h_S1x1x16))
  let t7 : Vec F S1x1x16 .f32 ← Prog.lift (.load tbV (Rect.unit (s := S2x128x128) (offTv p.val 112 t) S1x1x16.size (inb_tv p 7 t)).toLoadRect (View.loadsAt_vmem h_S1x1x16))
  let a0 : Vec F S1x1x16 .f32 ← Prog.lift (.load abV (Rect.unit (s := S2x136x128) (offAv p.val 0 ba t) S1x1x16.size (hw.2.1 t hc)).toLoadRect (View.loadsAt_vmem h_S1x1x16))
  let a1 : Vec F S1x1x16 .f32 ← Prog.lift (.load abV (Rect.unit (s := S2x136x128) (offAv p.val 16 ba t) S1x1x16.size (hw.2.2.1 t hc)).toLoadRect (View.loadsAt_vmem h_S1x1x16))
  let a2 : Vec F S1x1x16 .f32 ← Prog.lift (.load abV (Rect.unit (s := S2x136x128) (offAv p.val 32 ba t) S1x1x16.size (hw.2.2.2.1 t hc)).toLoadRect (View.loadsAt_vmem h_S1x1x16))
  let a3 : Vec F S1x1x16 .f32 ← Prog.lift (.load abV (Rect.unit (s := S2x136x128) (offAv p.val 48 ba t) S1x1x16.size (hw.2.2.2.2.1 t hc)).toLoadRect (View.loadsAt_vmem h_S1x1x16))
  let a4 : Vec F S1x1x16 .f32 ← Prog.lift (.load abV (Rect.unit (s := S2x136x128) (offAv p.val 64 ba t) S1x1x16.size (hw.2.2.2.2.2.1 t hc)).toLoadRect (View.loadsAt_vmem h_S1x1x16))
  let a5 : Vec F S1x1x16 .f32 ← Prog.lift (.load abV (Rect.unit (s := S2x136x128) (offAv p.val 80 ba t) S1x1x16.size (hw.2.2.2.2.2.2.1 t hc)).toLoadRect (View.loadsAt_vmem h_S1x1x16))
  let a6 : Vec F S1x1x16 .f32 ← Prog.lift (.load abV (Rect.unit (s := S2x136x128) (offAv p.val 96 ba t) S1x1x16.size (hw.2.2.2.2.2.2.2.1 t hc)).toLoadRect (View.loadsAt_vmem h_S1x1x16))
  let a7 : Vec F S1x1x16 .f32 ← Prog.lift (.load abV (Rect.unit (s := S2x136x128) (offAv p.val 112 ba t) S1x1x16.size (hw.2.2.2.2.2.2.2.2 t hc)).toLoadRect (View.loadsAt_vmem h_S1x1x16))
  let _d0 : Vec F S1x1x16 .f32 ← Prog.lift (.load tbV (Rect.unit (s := S2x128x128) (offTv p.val 0 t) S1x1x16.size (inb_tv p 0 t)).toLoadRect (View.loadsAt_vmem h_S1x1x16))
  Prog.lift (.store tbV (Rect.unit (s := S2x128x128) (offTv p.val 0 t) S1x1x16.size (inb_tv p 0 t)) (cast1 (addf (addf (cast16 t0) (iv 0)) (cast16 a0))) Finset.univ (View.stores_vmem_bits_univ h_S1x1x16 rfl) (.inl rfl))
  let _d1 : Vec F S1x1x16 .f32 ← Prog.lift (.load tbV (Rect.unit (s := S2x128x128) (offTv p.val 16 t) S1x1x16.size (inb_tv p 1 t)).toLoadRect (View.loadsAt_vmem h_S1x1x16))
  Prog.lift (.store tbV (Rect.unit (s := S2x128x128) (offTv p.val 16 t) S1x1x16.size (inb_tv p 1 t)) (cast1 (addf (addf (cast16 t1) (iv 1)) (cast16 a1))) Finset.univ (View.stores_vmem_bits_univ h_S1x1x16 rfl) (.inl rfl))
  let _d2 : Vec F S1x1x16 .f32 ← Prog.lift (.load tbV (Rect.unit (s := S2x128x128) (offTv p.val 32 t) S1x1x16.size (inb_tv p 2 t)).toLoadRect (View.loadsAt_vmem h_S1x1x16))
  Prog.lift (.store tbV (Rect.unit (s := S2x128x128) (offTv p.val 32 t) S1x1x16.size (inb_tv p 2 t)) (cast1 (addf (addf (cast16 t2) (iv 2)) (cast16 a2))) Finset.univ (View.stores_vmem_bits_univ h_S1x1x16 rfl) (.inl rfl))
  let _d3 : Vec F S1x1x16 .f32 ← Prog.lift (.load tbV (Rect.unit (s := S2x128x128) (offTv p.val 48 t) S1x1x16.size (inb_tv p 3 t)).toLoadRect (View.loadsAt_vmem h_S1x1x16))
  Prog.lift (.store tbV (Rect.unit (s := S2x128x128) (offTv p.val 48 t) S1x1x16.size (inb_tv p 3 t)) (cast1 (addf (addf (cast16 t3) (iv 3)) (cast16 a3))) Finset.univ (View.stores_vmem_bits_univ h_S1x1x16 rfl) (.inl rfl))
  let _d4 : Vec F S1x1x16 .f32 ← Prog.lift (.load tbV (Rect.unit (s := S2x128x128) (offTv p.val 64 t) S1x1x16.size (inb_tv p 4 t)).toLoadRect (View.loadsAt_vmem h_S1x1x16))
  Prog.lift (.store tbV (Rect.unit (s := S2x128x128) (offTv p.val 64 t) S1x1x16.size (inb_tv p 4 t)) (cast1 (addf (addf (cast16 t4) (iv 4)) (cast16 a4))) Finset.univ (View.stores_vmem_bits_univ h_S1x1x16 rfl) (.inl rfl))
  let _d5 : Vec F S1x1x16 .f32 ← Prog.lift (.load tbV (Rect.unit (s := S2x128x128) (offTv p.val 80 t) S1x1x16.size (inb_tv p 5 t)).toLoadRect (View.loadsAt_vmem h_S1x1x16))
  Prog.lift (.store tbV (Rect.unit (s := S2x128x128) (offTv p.val 80 t) S1x1x16.size (inb_tv p 5 t)) (cast1 (addf (addf (cast16 t5) (iv 5)) (cast16 a5))) Finset.univ (View.stores_vmem_bits_univ h_S1x1x16 rfl) (.inl rfl))
  let _d6 : Vec F S1x1x16 .f32 ← Prog.lift (.load tbV (Rect.unit (s := S2x128x128) (offTv p.val 96 t) S1x1x16.size (inb_tv p 6 t)).toLoadRect (View.loadsAt_vmem h_S1x1x16))
  Prog.lift (.store tbV (Rect.unit (s := S2x128x128) (offTv p.val 96 t) S1x1x16.size (inb_tv p 6 t)) (cast1 (addf (addf (cast16 t6) (iv 6)) (cast16 a6))) Finset.univ (View.stores_vmem_bits_univ h_S1x1x16 rfl) (.inl rfl))
  let _d7 : Vec F S1x1x16 .f32 ← Prog.lift (.load tbV (Rect.unit (s := S2x128x128) (offTv p.val 112 t) S1x1x16.size (inb_tv p 7 t)).toLoadRect (View.loadsAt_vmem h_S1x1x16))
  Prog.lift (.store tbV (Rect.unit (s := S2x128x128) (offTv p.val 112 t) S1x1x16.size (inb_tv p 7 t)) (cast1 (addf (addf (cast16 t7) (iv 7)) (cast16 a7))) Finset.univ (View.stores_vmem_bits_univ h_S1x1x16 rfl) (.inl rfl))
  pure ⟨⟩

/-- One row of the slow sum: the token row plus the row's instruction row plus its argument row. -/
def rowSlow (p : Fin 2) (t : Fin k0_t6_loop.trips) : TP F i Unit := do
  let t0 : Vec F S1x1x16 .f32 ← Prog.lift (.load tbV (Rect.unit (s := S2x128x128) (offTv p.val 0 t) S1x1x16.size (inb_tv p 0 t)).toLoadRect (View.loadsAt_vmem h_S1x1x16))
  let t1 : Vec F S1x1x16 .f32 ← Prog.lift (.load tbV (Rect.unit (s := S2x128x128) (offTv p.val 16 t) S1x1x16.size (inb_tv p 1 t)).toLoadRect (View.loadsAt_vmem h_S1x1x16))
  let t2 : Vec F S1x1x16 .f32 ← Prog.lift (.load tbV (Rect.unit (s := S2x128x128) (offTv p.val 32 t) S1x1x16.size (inb_tv p 2 t)).toLoadRect (View.loadsAt_vmem h_S1x1x16))
  let t3 : Vec F S1x1x16 .f32 ← Prog.lift (.load tbV (Rect.unit (s := S2x128x128) (offTv p.val 48 t) S1x1x16.size (inb_tv p 3 t)).toLoadRect (View.loadsAt_vmem h_S1x1x16))
  let t4 : Vec F S1x1x16 .f32 ← Prog.lift (.load tbV (Rect.unit (s := S2x128x128) (offTv p.val 64 t) S1x1x16.size (inb_tv p 4 t)).toLoadRect (View.loadsAt_vmem h_S1x1x16))
  let t5 : Vec F S1x1x16 .f32 ← Prog.lift (.load tbV (Rect.unit (s := S2x128x128) (offTv p.val 80 t) S1x1x16.size (inb_tv p 5 t)).toLoadRect (View.loadsAt_vmem h_S1x1x16))
  let t6 : Vec F S1x1x16 .f32 ← Prog.lift (.load tbV (Rect.unit (s := S2x128x128) (offTv p.val 96 t) S1x1x16.size (inb_tv p 6 t)).toLoadRect (View.loadsAt_vmem h_S1x1x16))
  let t7 : Vec F S1x1x16 .f32 ← Prog.lift (.load tbV (Rect.unit (s := S2x128x128) (offTv p.val 112 t) S1x1x16.size (inb_tv p 7 t)).toLoadRect (View.loadsAt_vmem h_S1x1x16))
  let u0 : Vec F S1x1x16 .f32 ← Prog.lift (.load ibV (Rect.unit (s := S2x128x128) (offTv p.val 0 t) S1x1x16.size (inb_tv p 0 t)).toLoadRect (View.loadsAt_vmem h_S1x1x16))
  let u1 : Vec F S1x1x16 .f32 ← Prog.lift (.load ibV (Rect.unit (s := S2x128x128) (offTv p.val 16 t) S1x1x16.size (inb_tv p 1 t)).toLoadRect (View.loadsAt_vmem h_S1x1x16))
  let u2 : Vec F S1x1x16 .f32 ← Prog.lift (.load ibV (Rect.unit (s := S2x128x128) (offTv p.val 32 t) S1x1x16.size (inb_tv p 2 t)).toLoadRect (View.loadsAt_vmem h_S1x1x16))
  let u3 : Vec F S1x1x16 .f32 ← Prog.lift (.load ibV (Rect.unit (s := S2x128x128) (offTv p.val 48 t) S1x1x16.size (inb_tv p 3 t)).toLoadRect (View.loadsAt_vmem h_S1x1x16))
  let u4 : Vec F S1x1x16 .f32 ← Prog.lift (.load ibV (Rect.unit (s := S2x128x128) (offTv p.val 64 t) S1x1x16.size (inb_tv p 4 t)).toLoadRect (View.loadsAt_vmem h_S1x1x16))
  let u5 : Vec F S1x1x16 .f32 ← Prog.lift (.load ibV (Rect.unit (s := S2x128x128) (offTv p.val 80 t) S1x1x16.size (inb_tv p 5 t)).toLoadRect (View.loadsAt_vmem h_S1x1x16))
  let u6 : Vec F S1x1x16 .f32 ← Prog.lift (.load ibV (Rect.unit (s := S2x128x128) (offTv p.val 96 t) S1x1x16.size (inb_tv p 6 t)).toLoadRect (View.loadsAt_vmem h_S1x1x16))
  let u7 : Vec F S1x1x16 .f32 ← Prog.lift (.load ibV (Rect.unit (s := S2x128x128) (offTv p.val 112 t) S1x1x16.size (inb_tv p 7 t)).toLoadRect (View.loadsAt_vmem h_S1x1x16))
  let a0 : Vec F S1x1x16 .f32 ← Prog.lift (.load abV (Rect.unit (s := S2x136x128) (offTv p.val 0 t) S1x1x16.size (inb_av p 0 t)).toLoadRect (View.loadsAt_vmem h_S1x1x16))
  let a1 : Vec F S1x1x16 .f32 ← Prog.lift (.load abV (Rect.unit (s := S2x136x128) (offTv p.val 16 t) S1x1x16.size (inb_av p 1 t)).toLoadRect (View.loadsAt_vmem h_S1x1x16))
  let a2 : Vec F S1x1x16 .f32 ← Prog.lift (.load abV (Rect.unit (s := S2x136x128) (offTv p.val 32 t) S1x1x16.size (inb_av p 2 t)).toLoadRect (View.loadsAt_vmem h_S1x1x16))
  let a3 : Vec F S1x1x16 .f32 ← Prog.lift (.load abV (Rect.unit (s := S2x136x128) (offTv p.val 48 t) S1x1x16.size (inb_av p 3 t)).toLoadRect (View.loadsAt_vmem h_S1x1x16))
  let a4 : Vec F S1x1x16 .f32 ← Prog.lift (.load abV (Rect.unit (s := S2x136x128) (offTv p.val 64 t) S1x1x16.size (inb_av p 4 t)).toLoadRect (View.loadsAt_vmem h_S1x1x16))
  let a5 : Vec F S1x1x16 .f32 ← Prog.lift (.load abV (Rect.unit (s := S2x136x128) (offTv p.val 80 t) S1x1x16.size (inb_av p 5 t)).toLoadRect (View.loadsAt_vmem h_S1x1x16))
  let a6 : Vec F S1x1x16 .f32 ← Prog.lift (.load abV (Rect.unit (s := S2x136x128) (offTv p.val 96 t) S1x1x16.size (inb_av p 6 t)).toLoadRect (View.loadsAt_vmem h_S1x1x16))
  let a7 : Vec F S1x1x16 .f32 ← Prog.lift (.load abV (Rect.unit (s := S2x136x128) (offTv p.val 112 t) S1x1x16.size (inb_av p 7 t)).toLoadRect (View.loadsAt_vmem h_S1x1x16))
  let _d0 : Vec F S1x1x16 .f32 ← Prog.lift (.load tbV (Rect.unit (s := S2x128x128) (offTv p.val 0 t) S1x1x16.size (inb_tv p 0 t)).toLoadRect (View.loadsAt_vmem h_S1x1x16))
  Prog.lift (.store tbV (Rect.unit (s := S2x128x128) (offTv p.val 0 t) S1x1x16.size (inb_tv p 0 t)) (cast1 (addf (addf (cast16 t0) (cast16 u0)) (cast16 a0))) Finset.univ (View.stores_vmem_bits_univ h_S1x1x16 rfl) (.inl rfl))
  let _d1 : Vec F S1x1x16 .f32 ← Prog.lift (.load tbV (Rect.unit (s := S2x128x128) (offTv p.val 16 t) S1x1x16.size (inb_tv p 1 t)).toLoadRect (View.loadsAt_vmem h_S1x1x16))
  Prog.lift (.store tbV (Rect.unit (s := S2x128x128) (offTv p.val 16 t) S1x1x16.size (inb_tv p 1 t)) (cast1 (addf (addf (cast16 t1) (cast16 u1)) (cast16 a1))) Finset.univ (View.stores_vmem_bits_univ h_S1x1x16 rfl) (.inl rfl))
  let _d2 : Vec F S1x1x16 .f32 ← Prog.lift (.load tbV (Rect.unit (s := S2x128x128) (offTv p.val 32 t) S1x1x16.size (inb_tv p 2 t)).toLoadRect (View.loadsAt_vmem h_S1x1x16))
  Prog.lift (.store tbV (Rect.unit (s := S2x128x128) (offTv p.val 32 t) S1x1x16.size (inb_tv p 2 t)) (cast1 (addf (addf (cast16 t2) (cast16 u2)) (cast16 a2))) Finset.univ (View.stores_vmem_bits_univ h_S1x1x16 rfl) (.inl rfl))
  let _d3 : Vec F S1x1x16 .f32 ← Prog.lift (.load tbV (Rect.unit (s := S2x128x128) (offTv p.val 48 t) S1x1x16.size (inb_tv p 3 t)).toLoadRect (View.loadsAt_vmem h_S1x1x16))
  Prog.lift (.store tbV (Rect.unit (s := S2x128x128) (offTv p.val 48 t) S1x1x16.size (inb_tv p 3 t)) (cast1 (addf (addf (cast16 t3) (cast16 u3)) (cast16 a3))) Finset.univ (View.stores_vmem_bits_univ h_S1x1x16 rfl) (.inl rfl))
  let _d4 : Vec F S1x1x16 .f32 ← Prog.lift (.load tbV (Rect.unit (s := S2x128x128) (offTv p.val 64 t) S1x1x16.size (inb_tv p 4 t)).toLoadRect (View.loadsAt_vmem h_S1x1x16))
  Prog.lift (.store tbV (Rect.unit (s := S2x128x128) (offTv p.val 64 t) S1x1x16.size (inb_tv p 4 t)) (cast1 (addf (addf (cast16 t4) (cast16 u4)) (cast16 a4))) Finset.univ (View.stores_vmem_bits_univ h_S1x1x16 rfl) (.inl rfl))
  let _d5 : Vec F S1x1x16 .f32 ← Prog.lift (.load tbV (Rect.unit (s := S2x128x128) (offTv p.val 80 t) S1x1x16.size (inb_tv p 5 t)).toLoadRect (View.loadsAt_vmem h_S1x1x16))
  Prog.lift (.store tbV (Rect.unit (s := S2x128x128) (offTv p.val 80 t) S1x1x16.size (inb_tv p 5 t)) (cast1 (addf (addf (cast16 t5) (cast16 u5)) (cast16 a5))) Finset.univ (View.stores_vmem_bits_univ h_S1x1x16 rfl) (.inl rfl))
  let _d6 : Vec F S1x1x16 .f32 ← Prog.lift (.load tbV (Rect.unit (s := S2x128x128) (offTv p.val 96 t) S1x1x16.size (inb_tv p 6 t)).toLoadRect (View.loadsAt_vmem h_S1x1x16))
  Prog.lift (.store tbV (Rect.unit (s := S2x128x128) (offTv p.val 96 t) S1x1x16.size (inb_tv p 6 t)) (cast1 (addf (addf (cast16 t6) (cast16 u6)) (cast16 a6))) Finset.univ (View.stores_vmem_bits_univ h_S1x1x16 rfl) (.inl rfl))
  let _d7 : Vec F S1x1x16 .f32 ← Prog.lift (.load tbV (Rect.unit (s := S2x128x128) (offTv p.val 112 t) S1x1x16.size (inb_tv p 7 t)).toLoadRect (View.loadsAt_vmem h_S1x1x16))
  Prog.lift (.store tbV (Rect.unit (s := S2x128x128) (offTv p.val 112 t) S1x1x16.size (inb_tv p 7 t)) (cast1 (addf (addf (cast16 t7) (cast16 u7)) (cast16 a7))) Finset.univ (View.stores_vmem_bits_univ h_S1x1x16 rfl) (.inl rfl))
  pure ⟨⟩

/-- The loop over a chunk's 128 rows. -/
theorem row_ok : k0_t6_loop.OK := k0_t6_ok

/-- Start the gather of chunk `j`'s token rows into slot `p`. -/
def tokIssue (p : Fin 2) (j : Fin 16) : TP F i PUnit :=
  SparseCore.enqueueIndirectGather rfl tkA (tbS p) gathers_S100000x128_S128x128 (lsJ svV j) rfl (semT p) (View.wordExact_bits rfl) rfl (Or.inl rfl)

/-- Read chunk `j`'s number of starts, its first instruction row, its first argument row. -/
def ldNs (j : Fin 16) : TP F i (Elt F .i32) := smemLoad nsV (Rect.unit (s := S16) ![j.val] S1.size (inb_word j)) numel1_S1 rfl
def ldCi (j : Fin 16) : TP F i (Elt F .i32) := smemLoad ciV (Rect.unit (s := S16) ![j.val] S1.size (inb_word j)) numel1_S1 rfl
def ldBa (j : Fin 16) : TP F i (Elt F .i32) := smemLoad baV (Rect.unit (s := S16) ![j.val] S1.size (inb_word j)) numel1_S1 rfl

/-- The checks. -/
def asI (ns ci : BitVec 32) : TP F i (PLift (chkI ns ci)) := Prog.lift (TpuEff.assume (chkI ns ci) (chkI.dec ns ci))
def asA (ns ba : BitVec 32) : TP F i (PLift (chkA ns ba)) := Prog.lift (TpuEff.assume (chkA ns ba) (chkA.dec ns ba))
def asCI (p : Fin 2) (ns ci : BitVec 32) : TP F i (PLift (chkCI p ns ci)) := Prog.lift (TpuEff.assume (chkCI p ns ci) (chkCI.dec p ns ci))
def asCA (p : Fin 2) (ns ba : BitVec 32) : TP F i (PLift (chkCA p ns ba)) := Prog.lift (TpuEff.assume (chkCA p ns ba) (chkCA.dec p ns ba))

/-- Start the copies of a chunk without starts: eight instruction rows and 136 argument rows, from multiples of eight. -/
def issueFast (p : Fin 2) (ns ci ba : BitVec 32) (hI : chkI ns ci) (hA : chkA ns ba) (hc : cnd ns = 1#1) : TP F i (BitVec 32) := do
  Prog.lift (.enqueueDma (inV.slice (Rect.unit (s := S4096x128) ![(lo8 4088#32 ci).toNat, 0] S8x128.size (hI.2 hc)) (fun _ => rfl)) (.here (ibS8 p)) (.dma (semI p)) (View.wordExact_bits rfl) (View.wordExact_bits rfl) ⟨Or.inl rfl, trivial⟩)
  Prog.lift (.enqueueDma (arV.slice (Rect.unit (s := S4096x128) ![(lo8 3960#32 ba).toNat, 0] S136x128.size (hA.2 hc)) (fun _ => rfl)) (.here (abS p)) (.dma (semA p)) (View.wordExact_bits rfl) ((View.wordExact_bits rfl).reshape _ _) ⟨Or.inl rfl, trivial⟩)
  pure 0#32
/-- Start the copies of a chunk with starts: a row of each table per position. -/
def issueSlow (p : Fin 2) (j : Fin 16) : TP F i (BitVec 32) := do
  SparseCore.enqueueIndirectGather rfl inA (ibS128 p) gathers_S4096x128_S128x128 (lsJ iiV j) rfl (semGI p) (View.wordExact_bits rfl) rfl (Or.inl rfl)
  SparseCore.enqueueIndirectGather rfl arA (abS128 p) gathers_S4096x128_S128x128 (lsJ aiV j) rfl (semGA p) (View.wordExact_bits rfl) rfl (Or.inl rfl)
  pure 0#32
def issueBr (p : Fin 2) (j : Fin 16) (ns ci ba : BitVec 32) (hI : chkI ns ci) (hA : chkA ns ba) : TP F i (BitVec 32) :=
  if hc : cnd ns = 1#1 then issueFast i p ns ci ba hI hA hc else issueSlow i p j

/-- Wait for slot `p`'s token gather. -/
def tokWait (p : Fin 2) : TP F i PUnit :=
  SparseCore.waitIndirectGather (semT p) tkA (tbS p) (View.wordExact_bits rfl) ((View.wordExact_bits rfl).reshape _ _)

/-- Wait for a chunk without starts and sum its rows. -/
def sumFast (p : Fin 2) (ns ci ba : BitVec 32) (hCI : chkCI p ns ci) (hCA : chkCA p ns ba) (hc : cnd ns = 1#1) : TP F i (BitVec 32) := do
  Prog.lift (.waitDma2 (semI p) in8 (ibS8 p) (View.wordExact_bits rfl) (View.wordExact_bits rfl))
  Prog.lift (.waitDma2 (semA p) ar136 (abS p) (View.wordExact_bits rfl) ((View.wordExact_bits rfl).reshape _ _))
  tokWait i p
  let u0 : Vec F S1x1x16 .f32 ← Prog.lift (.load ibV (Rect.unit (s := S2x128x128) (offIv p.val 0 ci) S1x1x16.size (hCI.2.1 hc)).toLoadRect (View.loadsAt_vmem h_S1x1x16))
  let u1 : Vec F S1x1x16 .f32 ← Prog.lift (.load ibV (Rect.unit (s := S2x128x128) (offIv p.val 16 ci) S1x1x16.size (hCI.2.2.1 hc)).toLoadRect (View.loadsAt_vmem h_S1x1x16))
  let u2 : Vec F S1x1x16 .f32 ← Prog.lift (.load ibV (Rect.unit (s := S2x128x128) (offIv p.val 32 ci) S1x1x16.size (hCI.2.2.2.1 hc)).toLoadRect (View.loadsAt_vmem h_S1x1x16))
  let u3 : Vec F S1x1x16 .f32 ← Prog.lift (.load ibV (Rect.unit (s := S2x128x128) (offIv p.val 48 ci) S1x1x16.size (hCI.2.2.2.2.1 hc)).toLoadRect (View.loadsAt_vmem h_S1x1x16))
  let u4 : Vec F S1x1x16 .f32 ← Prog.lift (.load ibV (Rect.unit (s := S2x128x128) (offIv p.val 64 ci) S1x1x16.size (hCI.2.2.2.2.2.1 hc)).toLoadRect (View.loadsAt_vmem h_S1x1x16))
  let u5 : Vec F S1x1x16 .f32 ← Prog.lift (.load ibV (Rect.unit (s := S2x128x128) (offIv p.val 80 ci) S1x1x16.size (hCI.2.2.2.2.2.2.1 hc)).toLoadRect (View.loadsAt_vmem h_S1x1x16))
  let u6 : Vec F S1x1x16 .f32 ← Prog.lift (.load ibV (Rect.unit (s := S2x128x128) (offIv p.val 96 ci) S1x1x16.size (hCI.2.2.2.2.2.2.2.1 hc)).toLoadRect (View.loadsAt_vmem h_S1x1x16))
  let u7 : Vec F S1x1x16 .f32 ← Prog.lift (.load ibV (Rect.unit (s := S2x128x128) (offIv p.val 112 ci) S1x1x16.size (hCI.2.2.2.2.2.2.2.2 hc)).toLoadRect (View.loadsAt_vmem h_S1x1x16))
  Scf.Loop.for k0_t6_loop row_ok ⟨⟩ (fun t _ => rowFast i p ns ba hCA hc ![cast16 u0, cast16 u1, cast16 u2, cast16 u3, cast16 u4, cast16 u5, cast16 u6, cast16 u7] t)
  pure 0#32
/-- Wait for a chunk without starts and sum its rows, then go on. -/
def sumFastK {α : Type} (p : Fin 2) (ns ci ba : BitVec 32) (hCI : chkCI p ns ci) (hCA : chkCA p ns ba) (hc : cnd ns = 1#1) (k : BitVec 32 → TP F i α) : TP F i α := do
  Prog.lift (.waitDma2 (semI p) in8 (ibS8 p) (View.wordExact_bits rfl) (View.wordExact_bits rfl))
  Prog.lift (.waitDma2 (semA p) ar136 (abS p) (View.wordExact_bits rfl) ((View.wordExact_bits rfl).reshape _ _))
  tokWait i p
  let u0 : Vec F S1x1x16 .f32 ← Prog.lift (.load ibV (Rect.unit (s := S2x128x128) (offIv p.val 0 ci) S1x1x16.size (hCI.2.1 hc)).toLoadRect (View.loadsAt_vmem h_S1x1x16))
  let u1 : Vec F S1x1x16 .f32 ← Prog.lift (.load ibV (Rect.unit (s := S2x128x128) (offIv p.val 16 ci) S1x1x16.size (hCI.2.2.1 hc)).toLoadRect (View.loadsAt_vmem h_S1x1x16))
  let u2 : Vec F S1x1x16 .f32 ← Prog.lift (.load ibV (Rect.unit (s := S2x128x128) (offIv p.val 32 ci) S1x1x16.size (hCI.2.2.2.1 hc)).toLoadRect (View.loadsAt_vmem h_S1x1x16))
  let u3 : Vec F S1x1x16 .f32 ← Prog.lift (.load ibV (Rect.unit (s := S2x128x128) (offIv p.val 48 ci) S1x1x16.size (hCI.2.2.2.2.1 hc)).toLoadRect (View.loadsAt_vmem h_S1x1x16))
  let u4 : Vec F S1x1x16 .f32 ← Prog.lift (.load ibV (Rect.unit (s := S2x128x128) (offIv p.val 64 ci) S1x1x16.size (hCI.2.2.2.2.2.1 hc)).toLoadRect (View.loadsAt_vmem h_S1x1x16))
  let u5 : Vec F S1x1x16 .f32 ← Prog.lift (.load ibV (Rect.unit (s := S2x128x128) (offIv p.val 80 ci) S1x1x16.size (hCI.2.2.2.2.2.2.1 hc)).toLoadRect (View.loadsAt_vmem h_S1x1x16))
  let u6 : Vec F S1x1x16 .f32 ← Prog.lift (.load ibV (Rect.unit (s := S2x128x128) (offIv p.val 96 ci) S1x1x16.size (hCI.2.2.2.2.2.2.2.1 hc)).toLoadRect (View.loadsAt_vmem h_S1x1x16))
  let u7 : Vec F S1x1x16 .f32 ← Prog.lift (.load ibV (Rect.unit (s := S2x128x128) (offIv p.val 112 ci) S1x1x16.size (hCI.2.2.2.2.2.2.2.2 hc)).toLoadRect (View.loadsAt_vmem h_S1x1x16))
  Scf.Loop.for k0_t6_loop row_ok ⟨⟩ (fun t _ => rowFast i p ns ba hCA hc ![cast16 u0, cast16 u1, cast16 u2, cast16 u3, cast16 u4, cast16 u5, cast16 u6, cast16 u7] t)
  k 0#32

/-- Wait for a chunk with starts and sum its rows, then go on. -/
def sumSlowK {α : Type} (p : Fin 2) (k : BitVec 32 → TP F i α) : TP F i α := do
  SparseCore.waitIndirectGather (semGI p) inA (ibS128 p) (View.wordExact_bits rfl) (View.wordExact_bits rfl)
  SparseCore.waitIndirectGather (semGA p) arA (abS128 p) (View.wordExact_bits rfl) (View.wordExact_bits rfl)
  tokWait i p
  Scf.Loop.for k0_t6_loop row_ok ⟨⟩ (fun t _ => rowSlow i p t)
  k 0#32

/-- Wait for a chunk with starts and sum its rows. -/
def sumSlow (p : Fin 2) : TP F i (BitVec 32) := do
  SparseCore.waitIndirectGather (semGI p) inA (ibS128 p) (View.wordExact_bits rfl) (View.wordExact_bits rfl)
  SparseCore.waitIndirectGather (semGA p) arA (abS128 p) (View.wordExact_bits rfl) (View.wordExact_bits rfl)
  tokWait i p
  Scf.Loop.for k0_t6_loop row_ok ⟨⟩ (fun t _ => rowSlow i p t)
  pure 0#32
def sumBr (p : Fin 2) (ns ci ba : BitVec 32) (hCI : chkCI p ns ci) (hCA : chkCA p ns ba) : TP F i (BitVec 32) :=
  if hc : cnd ns = 1#1 then sumFast i p ns ci ba hCI hCA hc else sumSlow i p

/-- The branches with what follows them inside, as the printed program has them. -/
def issueK {α : Type} (p : Fin 2) (j : Fin 16) (ns ci ba : BitVec 32) (hI : chkI ns ci) (hA : chkA ns ba) (k : BitVec 32 → TP F i α) : TP F i α :=
  if hc : cnd ns = 1#1 then issueFast i p ns ci ba hI hA hc >>= k else issueSlow i p j >>= k
def sumK {α : Type} (p : Fin 2) (ns ci ba : BitVec 32) (hCI : chkCI p ns ci) (hCA : chkCA p ns ba) (k : BitVec 32 → TP F i α) : TP F i α :=
  if hc : cnd ns = 1#1 then sumFastK i p ns ci ba hCI hCA hc k else sumSlowK i p k
theorem issueK_eq {α : Type} (p : Fin 2) (j : Fin 16) (ns ci ba : BitVec 32) (hI : chkI ns ci) (hA : chkA ns ba) (k : BitVec 32 → TP F i α) :
    issueK i p j ns ci ba hI hA k = (issueBr i p j ns ci ba hI hA >>= k) := by
  unfold issueK issueBr; split <;> rfl
theorem sumK_eq {α : Type} (p : Fin 2) (ns ci ba : BitVec 32) (hCI : chkCI p ns ci) (hCA : chkCA p ns ba) (k : BitVec 32 → TP F i α) :
    sumK i p ns ci ba hCI hCA k = (sumBr i p ns ci ba hCI hCA >>= k) := by
  unfold sumK sumBr
  split
  · simp only [sumFastK, sumFast, bind_assoc, pure_bind]
  · simp only [sumSlowK, sumSlow, bind_assoc, pure_bind]

/-- Start slot `p`'s write-out to chunk `j`'s rows of the output, and wait for it. -/
def outIssue (p : Fin 2) (j : Fin 16) : TP F i PUnit :=
  Prog.lift (.enqueueDma (tbS p) (.here (ouJ i j)) (.dma (semO p)) ((View.wordExact_bits rfl).reshape _ _) (View.wordExact_bits rfl) ⟨Or.inl rfl, trivial⟩)
def outWait (p : Fin 2) (j : Fin 16) : TP F i PUnit :=
  Prog.lift (.waitDma2 (semO p) (tbS p) (ouJ i j) ((View.wordExact_bits rfl).reshape _ _) (View.wordExact_bits rfl))

/-! ## The index pieces -/

/-- One where a row starts, zero elsewhere. -/
def one (v : Vec F S16 .i32) : IVec S16 32 :=
  select (cmpi .eq v (broadcast S16 0#32)) (broadcast S16 1#32) (broadcast S16 0#32)
/-- The signed running maximum, as the kernel computes it. -/
def smax (v : IVec S16 32) : IVec S16 32 :=
  xori (scan .max (xori v (broadcast S16 2147483648#32))) (broadcast S16 2147483648#32)
/-- The last lane. -/
def lane15 (v : IVec S16 32) : BitVec 32 := extractAt ![15] v inpos_S16_p15
/-- The instruction rows of a group of sixteen positions, after `ci` starts. -/
def instV (ci : BitVec 32) (v : Vec F S16 .i32) : IVec S16 32 := addi (scan .sum (one v)) (broadcast S16 ci)
/-- Sixteen consecutive numbers. -/
def runV (b : BitVec 32) : IVec S16 32 := addi (iota .scVector S16 32 [0] iota_S16_d0_w32_scVector) (broadcast S16 b)
/-- The positions where a row starts, zero elsewhere. -/
def startV (b : BitVec 32) (v : Vec F S16 .i32) : IVec S16 32 :=
  select (cmpi .eq v (broadcast S16 0#32)) (runV b) (broadcast S16 0#32)
/-- The last start up to each position of the group, after the last start `cs`. -/
def segV (b cs : BitVec 32) (v : Vec F S16 .i32) : IVec S16 32 := maxsi (smax (startV b v)) (broadcast S16 cs)

/-- The tile's first position within its row. -/
def localPos : BitVec 32 :=
  Scalar.muli (Scalar.remsi (Scalar.addi (Scalar.muli (BitVec.ofNat 32 (i 1).val) 2#32) (BitVec.ofNat 32 (i 0).val)) 2#32) 2048#32
/-- Group `h` of chunk `t`: its first position within its row. -/
def grpPos (v23 : BitVec 32) (t : Fin k0_t5_loop.trips) (h : ℕ) : BitVec 32 :=
  Scalar.addi v23 (Scalar.addi (Scalar.muli (Scf.iv 0#32 1#32 t) 128#32) (BitVec.ofNat 32 (16 * h)))
/-- Its place in the tile's buffers. -/
def offG (t : Fin k0_t5_loop.trips) (h : ℕ) : Fin 1 → ℕ :=
  ![(Scalar.indexCast (Scalar.addi (Scalar.muli (Scf.iv 0#32 1#32 t) 128#32) (BitVec.ofNat 32 (16 * h))) : Index).toNat]
theorem inb_grp : ∀ (t : Fin k0_t5_loop.trips) (h : Fin 8), ∀ a, offG t h.val a + S16.size a ≤ S2048.size a := by decide +kernel

/-- One group: its instruction and argument rows, and the two carried words. -/
def group (v23 : BitVec 32) (t : Fin k0_t5_loop.trips) (h : Fin 8) (ci cs : BitVec 32) : TP F i (BitVec 32 × BitVec 32) := do
  let v : Vec F S16 .i32 ← Prog.lift (.load spvV (Rect.unit (s := S2048) (offG t h.val) S16.size (inb_grp t h)).toLoadRect (View.loadsAt_vmem h_S16))
  let _d : Vec F S16 .i32 ← Prog.lift (.load iiV (Rect.unit (s := S2048) (offG t h.val) S16.size (inb_grp t h)).toLoadRect (View.loadsAt_vmem h_S16))
  Prog.lift (.store iiV (Rect.unit (s := S2048) (offG t h.val) S16.size (inb_grp t h)) (instV ci v) Finset.univ (View.stores_vmem_bits_univ h_S16 rfl) (.inl rfl))
  let _e : Vec F S16 .i32 ← Prog.lift (.load aiV (Rect.unit (s := S2048) (offG t h.val) S16.size (inb_grp t h)).toLoadRect (View.loadsAt_vmem h_S16))
  Prog.lift (.store aiV (Rect.unit (s := S2048) (offG t h.val) S16.size (inb_grp t h)) (subi (runV (grpPos v23 t h.val)) (segV (grpPos v23 t h.val) cs v)) Finset.univ (View.stores_vmem_bits_univ h_S16 rfl) (.inl rfl))
  pure (lane15 (smax (instV ci v)), lane15 (smax (segV (grpPos v23 t h.val) cs v)))

/-- Read a word of scalar memory, then write it. -/
def setWord (m : Memref sig .scVector .smem S16 .i32) (t : Fin k0_t5_loop.trips) (x : BitVec 32) : TP F i PUnit := do
  let _d : Elt F .i32 ← smemLoad m (Rect.unit (s := S16) (k0_off6 t) S1.size (k0_off6_inb t)) numel1_S1 rfl
  Prog.lift (.store m (Rect.unit (s := S16) (k0_off6 t) S1.size (k0_off6_inb t)) (fun _ => x) Finset.univ (View.stores_smem_one rfl numel1_S1) (.inl rfl))

/-- One chunk of the index loop. -/
def idxBody (v23 : BitVec 32) (t : Fin k0_t5_loop.trips) (c : BitVec 32 × BitVec 32) : TP F i (BitVec 32 × BitVec 32) := do
  setWord i ciV t c.1
  setWord i baV t (Scalar.subi (Scalar.addi v23 (Scalar.muli (Scf.iv 0#32 1#32 t) 128#32)) c.2)
  let c0 ← group i v23 t 0 c.1 c.2
  let c1 ← group i v23 t 1 c0.1 c0.2
  let c2 ← group i v23 t 2 c1.1 c1.2
  let c3 ← group i v23 t 3 c2.1 c2.2
  let c4 ← group i v23 t 4 c3.1 c3.2
  let c5 ← group i v23 t 5 c4.1 c4.2
  let c6 ← group i v23 t 6 c5.1 c5.2
  let c7 ← group i v23 t 7 c6.1 c6.2
  setWord i nsV t (Scalar.subi c7.1 c.1)
  pure (c7.1, c7.2)

/-- One group of the scan over the row's earlier positions. -/
def preGroup (h1 : k0_cond1 i = 1#1) (t1 : Fin (k0_t1_loop i).trips) (t : Fin k0_t2_loop.trips) (c : BitVec 32 × BitVec 32) : TP F i (BitVec 32 × BitVec 32) := do
  let v : Vec F S16 .i32 ← Prog.lift (.load spvV (Rect.unit (s := S2048) (k0_off2 t) S16.size (k0_off2_inb i t h1)).toLoadRect (View.loadsAt_vmem h_S16))
  pure (Scalar.addi c.1 (lane15 (scan .sum (one v))),
    Scalar.maxsi c.2 (lane15 (smax (startV (Scalar.addi (Scalar.muli (Scf.iv 0#32 1#32 t1) 2048#32) (Scalar.muli (Scf.iv 0#32 1#32 t) 16#32)) v))))

/-- One trip of that scan: fetch the positions, then scan them. -/
def preBody (h1 : k0_cond1 i = 1#1) (t : Fin (k0_t1_loop i).trips) (c : BitVec 32 × BitVec 32) : TP F i (BitVec 32 × BitVec 32) := do
  Prog.lift (.enqueueDma (spV.slice (Rect.unit (s := S65536) (k0_off1 i t) S2048.size (k0_off1_inb i t h1)) (fun _ => rfl)) (.here spvV) (.dma cc0_scoped0.sem) (View.wordExact_bits rfl) (Memref.isWhole_whole _).wordExact ⟨Or.inl rfl, trivial⟩)
  Prog.lift (.waitDma2 cc0_scoped0.sem (spV.slice (Rect.unit (s := S65536) (k0_off1 i t) S2048.size (k0_off1_inb i t h1)) (fun _ => rfl)) spvV (View.wordExact_bits rfl) (Memref.isWhole_whole _).wordExact)
  let (a, b) ← Scf.Loop.for k0_t2_loop (k0_t2_ok i h1) (c.1, c.2) (preGroup i h1 t)
  pure (a, b)

/-- Fetch the tile's tokens and shifted tokens. -/
def fetch : TP F i PUnit := do
  Prog.lift (.enqueueDma (stV.slice (Rect.unit (s := S65536) (k0_off5 i) S2048.size (k0_off5_inb i)) (fun _ => rfl)) (.here svV) (.dma cc0_scoped2.sem) (View.wordExact_bits rfl) (Memref.isWhole_whole _).wordExact ⟨Or.inl rfl, trivial⟩)
  Prog.lift (.waitDma2 cc0_scoped2.sem (stV.slice (Rect.unit (s := S65536) (k0_off5 i) S2048.size (k0_off5_inb i)) (fun _ => rfl)) svV (View.wordExact_bits rfl) (Memref.isWhole_whole _).wordExact)
  Prog.lift (.enqueueDma (spV.slice (Rect.unit (s := S65536) (k0_off5 i) S2048.size (k0_off5_inb i)) (fun _ => rfl)) (.here spvV) (.dma cc0_scoped3.sem) (View.wordExact_bits rfl) (Memref.isWhole_whole _).wordExact ⟨Or.inl rfl, trivial⟩)
  Prog.lift (.waitDma2 cc0_scoped3.sem (spV.slice (Rect.unit (s := S65536) (k0_off5 i) S2048.size (k0_off5_inb i)) (fun _ => rfl)) spvV (View.wordExact_bits rfl) (Memref.isWhole_whole _).wordExact)

/-! ## The chunks -/

/-- Start chunk `j` in slot `p`. -/
def issue (p : Fin 2) (j : Fin 16) : TP F i PUnit := do
  tokIssue i p j
  let ns : BitVec 32 ← ldNs i j
  let ci : BitVec 32 ← ldCi i j
  let hI : PLift (chkI ns ci) ← asI i ns ci
  let ba : BitVec 32 ← ldBa i j
  let hA : PLift (chkA ns ba) ← asA i ns ba
  issueBr i p j ns ci ba hI.down hA.down >>= fun _ => pure ⟨⟩

/-- Finish chunk `j` in slot `p`: wait, sum, start the write-out. -/
def consume (p : Fin 2) (j : Fin 16) : TP F i PUnit := do
  let ns : BitVec 32 ← ldNs i j
  let ci : BitVec 32 ← ldCi i j
  let hCI : PLift (chkCI p ns ci) ← asCI i p ns ci
  let ba : BitVec 32 ← ldBa i j
  let hCA : PLift (chkCA p ns ba) ← asCA i p ns ba
  sumBr i p ns ci ba hCI.down hCA.down >>= fun _ => outIssue i p j

/-- The steady state at chunk `j` in slot `p`: free the other slot of chunk `jm`, start chunk `jn` in it, finish `j`. -/
def mid (q p : Fin 2) (jm j jn : Fin 16) : TP F i PUnit := do
  outWait i q jm
  issue i q jn
  consume i p j

/-- All sixteen chunks. -/
def chunks : TP F i PUnit := do
  issue i 0 0
  issue i 1 1
  consume i 0 0
  mid i 0 1 0 1 2
  mid i 1 0 1 2 3
  mid i 0 1 2 3 4
  mid i 1 0 3 4 5
  mid i 0 1 4 5 6
  mid i 1 0 5 6 7
  mid i 0 1 6 7 8
  mid i 1 0 7 8 9
  mid i 0 1 8 9 10
  mid i 1 0 9 10 11
  mid i 0 1 10 11 12
  mid i 1 0 11 12 13
  mid i 0 1 12 13 14
  mid i 1 0 13 14 15
  consume i 1 15
  outWait i 0 14
  outWait i 1 15
  pure ⟨⟩

end Programs

end Cert.Proof.Piece

end
-- ==== Proof.Windows.lean ====
/-
  The windows of the kernel's unrolled body in terms of the repeated pieces: each window is the pieces it holds, in order.
-/
module

public import proofs.«01_k».proof.Proof.Piece

@[expose] public section

set_option maxRecDepth 65536
set_option maxHeartbeats 4000000

noncomputable section

namespace Cert.Proof.Piece

open Idealize.ShloMosaic Idealize.SL.Sem Cert.KernelIdeal Cert.KernelIdeal.Gen

variable {F : FTy → Type} [FloatOps F]

/-- Window 105. -/
theorem win105 (i : grid0.Coords) (v23 : BitVec 32) (v24 : IVec S16 32) (v28_0 : BitVec 32) (v28_1 : BitVec 32) (c0_i32_10 : BitVec 32) (c16_i32 : BitVec 32) :
    k0_part105 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 v23 v24 v28_0 v28_1 c0_i32_10 c16_i32 = (do
      let z ← Scf.Loop.for k0_t5_loop k0_t5_ok (v28_0, v28_1) (k0_t5_body i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 v23 v24 v28_0 v28_1 c0_i32_10 c16_i32)
      tokIssue i 0 0
      let v36 : BitVec 32 ← ldNs i 0
      let v38 : BitVec 32 ← ldCi i 0
      let k0_hw1 : PLift (chkI v36 v38) ← asI i v36 v38
      let v44 : BitVec 32 ← ldBa i 0
      let k0_hw2 : PLift (chkA v36 v44) ← asA i v36 v44
      issueK i 0 0 v36 v38 v44 k0_hw1.down k0_hw2.down fun _ => do
      tokIssue i 1 1
      let v58 : BitVec 32 ← ldNs i 1
      pure ⟨v58, 1#32⟩) := rfl

/-- Window 106. -/
theorem win106 (i : grid0.Coords) (v58 : BitVec 32) (c1_i32_32 : BitVec 32) :
    k0_part106 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v58 c1_i32_32 = (do
      let v60 : BitVec 32 ← ldCi i 1
      let k0_hw3 : PLift (chkI v58 v60) ← asI i v58 v60
      let v66 : BitVec 32 ← ldBa i 1
      let k0_hw4 : PLift (chkA v58 v66) ← asA i v58 v66
      issueK i 1 1 v58 v60 v66 k0_hw3.down k0_hw4.down fun _ => do
      let v76 : BitVec 32 ← ldNs i 0
      let v78 : BitVec 32 ← ldCi i 0
      let k0_hw5 : PLift (chkCI 0 v76 v78) ← asCI i 0 v76 v78
      let v84 : BitVec 32 ← ldBa i 0
      let k0_hw6 : PLift (chkCA 0 v76 v84) ← asCA i 0 v76 v84
      sumK i 0 v76 v78 v84 k0_hw5.down k0_hw6.down fun _ => do
      pure ⟨⟩) := rfl

/-- Window 107. -/
theorem win107 (i : grid0.Coords)  :
    k0_part107 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) = (do
      outIssue i 0 0
      outWait i 0 0
      tokIssue i 0 2
      let v114 : BitVec 32 ← ldNs i 2
      let v116 : BitVec 32 ← ldCi i 2
      let k0_hw7 : PLift (chkI v114 v116) ← asI i v114 v116
      let v122 : BitVec 32 ← ldBa i 2
      let k0_hw8 : PLift (chkA v114 v122) ← asA i v114 v122
      pure ⟨v114, v116, k0_hw7.down, v122, k0_hw8.down, (Scalar.remsi v122 8#32)⟩) := rfl

/-- Window 108. -/
theorem win108 (i : grid0.Coords) (v114 : BitVec 32) (v116 : BitVec 32) (k0_hw7 : (chkI v114 v116)) (v122 : BitVec 32) (k0_hw8 : (chkA v114 v122)) :
    k0_part108 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v114 v116 k0_hw7 v122 k0_hw8 ((Scalar.remsi v122 8#32)) = (do
      issueK i 0 2 v114 v116 v122 k0_hw7 k0_hw8 fun _ => do
      let v132 : BitVec 32 ← ldNs i 1
      let v134 : BitVec 32 ← ldCi i 1
      let k0_hw9 : PLift (chkCI 1 v132 v134) ← asCI i 1 v132 v134
      let v140 : BitVec 32 ← ldBa i 1
      let k0_hw10 : PLift (chkCA 1 v132 v140) ← asCA i 1 v132 v140
      sumK i 1 v132 v134 v140 k0_hw9.down k0_hw10.down fun _ => do
      outIssue i 1 1
      pure 128#32) := rfl

/-- Window 109. -/
theorem win109 (i : grid0.Coords) (c128_i32_100 : BitVec 32) :
    k0_part109 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) c128_i32_100 = (do
      outWait i 1 1
      tokIssue i 1 3
      let v170 : BitVec 32 ← ldNs i 3
      let v172 : BitVec 32 ← ldCi i 3
      let k0_hw11 : PLift (chkI v170 v172) ← asI i v170 v172
      let v178 : BitVec 32 ← ldBa i 3
      let k0_hw12 : PLift (chkA v170 v178) ← asA i v170 v178
      issueK i 1 3 v170 v172 v178 k0_hw11.down k0_hw12.down fun _ => do
      let v188 : BitVec 32 ← ldNs i 2
      pure ⟨v188, 2#32⟩) := rfl

/-- Window 110. -/
theorem win110 (i : grid0.Coords) (v188 : BitVec 32) (c2_i32_123 : BitVec 32) :
    k0_part110 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v188 c2_i32_123 = (do
      let v190 : BitVec 32 ← ldCi i 2
      let k0_hw13 : PLift (chkCI 0 v188 v190) ← asCI i 0 v188 v190
      let v196 : BitVec 32 ← ldBa i 2
      let k0_hw14 : PLift (chkCA 0 v188 v196) ← asCA i 0 v188 v196
      sumK i 0 v188 v190 v196 k0_hw13.down k0_hw14.down fun _ => do
      outIssue i 0 2
      outWait i 0 2
      pure ⟨⟩) := rfl

/-- Window 111. -/
theorem win111 (i : grid0.Coords)  :
    k0_part111 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3  = (do
      tokIssue i 0 4
      let v226 : BitVec 32 ← ldNs i 4
      let v228 : BitVec 32 ← ldCi i 4
      let k0_hw15 : PLift (chkI v226 v228) ← asI i v226 v228
      let v234 : BitVec 32 ← ldBa i 4
      let k0_hw16 : PLift (chkA v226 v234) ← asA i v226 v234
      issueK i 0 4 v226 v228 v234 k0_hw15.down k0_hw16.down fun _ => do
      let v244 : BitVec 32 ← ldNs i 3
      let v246 : BitVec 32 ← ldCi i 3
      let k0_hw17 : PLift (chkCI 1 v244 v246) ← asCI i 1 v244 v246
      let v252 : BitVec 32 ← ldBa i 3
      let k0_hw18 : PLift (chkCA 1 v244 v252) ← asCA i 1 v244 v252
      pure ⟨v244, v246, k0_hw17.down, ((Scalar.minsi (Scalar.subi v246 (Scalar.remsi v246 8#32)) 4088#32)), v252, k0_hw18.down, (Scalar.remsi v252 8#32)⟩) := rfl

/-- Window 112. -/
theorem win112 (i : grid0.Coords) (v244 : BitVec 32) (v246 : BitVec 32) (k0_hw17 : (chkCI 1 v244 v246)) (v252 : BitVec 32) (k0_hw18 : (chkCA 1 v244 v252)) :
    k0_part112 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v244 v246 k0_hw17 (((Scalar.minsi (Scalar.subi v246 (Scalar.remsi v246 8#32)) 4088#32))) v252 k0_hw18 ((Scalar.remsi v252 8#32)) = (do
      sumK i 1 v244 v246 v252 k0_hw17 k0_hw18 fun _ => do
      outIssue i 1 3
      outWait i 1 3
      tokIssue i 1 5
      let v282 : BitVec 32 ← ldNs i 5
      pure ⟨v282, 5#32⟩) := rfl

/-- Window 113. -/
theorem win113 (i : grid0.Coords) (v282 : BitVec 32) (c5_i32_193 : BitVec 32) :
    k0_part113 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v282 c5_i32_193 = (do
      let v284 : BitVec 32 ← ldCi i 5
      let k0_hw19 : PLift (chkI v282 v284) ← asI i v282 v284
      let v290 : BitVec 32 ← ldBa i 5
      let k0_hw20 : PLift (chkA v282 v290) ← asA i v282 v290
      issueK i 1 5 v282 v284 v290 k0_hw19.down k0_hw20.down fun _ => do
      let v300 : BitVec 32 ← ldNs i 4
      let v302 : BitVec 32 ← ldCi i 4
      let k0_hw21 : PLift (chkCI 0 v300 v302) ← asCI i 0 v300 v302
      let v308 : BitVec 32 ← ldBa i 4
      let k0_hw22 : PLift (chkCA 0 v300 v308) ← asCA i 0 v300 v308
      sumK i 0 v300 v302 v308 k0_hw21.down k0_hw22.down fun _ => do
      pure ⟨⟩) := rfl

/-- Window 114. -/
theorem win114 (i : grid0.Coords)  :
    k0_part114 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) = (do
      outIssue i 0 4
      outWait i 0 4
      tokIssue i 0 6
      let v338 : BitVec 32 ← ldNs i 6
      let v340 : BitVec 32 ← ldCi i 6
      let k0_hw23 : PLift (chkI v338 v340) ← asI i v338 v340
      let v346 : BitVec 32 ← ldBa i 6
      let k0_hw24 : PLift (chkA v338 v346) ← asA i v338 v346
      pure ⟨v338, v340, k0_hw23.down, v346, k0_hw24.down, (Scalar.remsi v346 8#32)⟩) := rfl

/-- Window 115. -/
theorem win115 (i : grid0.Coords) (v338 : BitVec 32) (v340 : BitVec 32) (k0_hw23 : (chkI v338 v340)) (v346 : BitVec 32) (k0_hw24 : (chkA v338 v346)) :
    k0_part115 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v338 v340 k0_hw23 v346 k0_hw24 ((Scalar.remsi v346 8#32)) = (do
      issueK i 0 6 v338 v340 v346 k0_hw23 k0_hw24 fun _ => do
      let v356 : BitVec 32 ← ldNs i 5
      let v358 : BitVec 32 ← ldCi i 5
      let k0_hw25 : PLift (chkCI 1 v356 v358) ← asCI i 1 v356 v358
      let v364 : BitVec 32 ← ldBa i 5
      let k0_hw26 : PLift (chkCA 1 v356 v364) ← asCA i 1 v356 v364
      sumK i 1 v356 v358 v364 k0_hw25.down k0_hw26.down fun _ => do
      outIssue i 1 5
      pure 640#32) := rfl

/-- Window 116. -/
theorem win116 (i : grid0.Coords) (c640_i32_260 : BitVec 32) :
    k0_part116 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) c640_i32_260 = (do
      outWait i 1 5
      tokIssue i 1 7
      let v394 : BitVec 32 ← ldNs i 7
      let v396 : BitVec 32 ← ldCi i 7
      let k0_hw27 : PLift (chkI v394 v396) ← asI i v394 v396
      let v402 : BitVec 32 ← ldBa i 7
      let k0_hw28 : PLift (chkA v394 v402) ← asA i v394 v402
      issueK i 1 7 v394 v396 v402 k0_hw27.down k0_hw28.down fun _ => do
      let v412 : BitVec 32 ← ldNs i 6
      pure ⟨v412, 6#32⟩) := rfl

/-- Window 117. -/
theorem win117 (i : grid0.Coords) (v412 : BitVec 32) (c6_i32_283 : BitVec 32) :
    k0_part117 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v412 c6_i32_283 = (do
      let v414 : BitVec 32 ← ldCi i 6
      let k0_hw29 : PLift (chkCI 0 v412 v414) ← asCI i 0 v412 v414
      let v420 : BitVec 32 ← ldBa i 6
      let k0_hw30 : PLift (chkCA 0 v412 v420) ← asCA i 0 v412 v420
      sumK i 0 v412 v414 v420 k0_hw29.down k0_hw30.down fun _ => do
      outIssue i 0 6
      outWait i 0 6
      pure ⟨⟩) := rfl

/-- Window 118. -/
theorem win118 (i : grid0.Coords)  :
    k0_part118 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3  = (do
      tokIssue i 0 8
      let v450 : BitVec 32 ← ldNs i 8
      let v452 : BitVec 32 ← ldCi i 8
      let k0_hw31 : PLift (chkI v450 v452) ← asI i v450 v452
      let v458 : BitVec 32 ← ldBa i 8
      let k0_hw32 : PLift (chkA v450 v458) ← asA i v450 v458
      issueK i 0 8 v450 v452 v458 k0_hw31.down k0_hw32.down fun _ => do
      let v468 : BitVec 32 ← ldNs i 7
      let v470 : BitVec 32 ← ldCi i 7
      let k0_hw33 : PLift (chkCI 1 v468 v470) ← asCI i 1 v468 v470
      let v476 : BitVec 32 ← ldBa i 7
      let k0_hw34 : PLift (chkCA 1 v468 v476) ← asCA i 1 v468 v476
      pure ⟨v468, v470, k0_hw33.down, ((Scalar.minsi (Scalar.subi v470 (Scalar.remsi v470 8#32)) 4088#32)), v476, k0_hw34.down, (Scalar.remsi v476 8#32)⟩) := rfl

/-- Window 119. -/
theorem win119 (i : grid0.Coords) (v468 : BitVec 32) (v470 : BitVec 32) (k0_hw33 : (chkCI 1 v468 v470)) (v476 : BitVec 32) (k0_hw34 : (chkCA 1 v468 v476)) :
    k0_part119 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v468 v470 k0_hw33 (((Scalar.minsi (Scalar.subi v470 (Scalar.remsi v470 8#32)) 4088#32))) v476 k0_hw34 ((Scalar.remsi v476 8#32)) = (do
      sumK i 1 v468 v470 v476 k0_hw33 k0_hw34 fun _ => do
      outIssue i 1 7
      outWait i 1 7
      tokIssue i 1 9
      let v506 : BitVec 32 ← ldNs i 9
      pure ⟨v506, 9#32⟩) := rfl

/-- Window 120. -/
theorem win120 (i : grid0.Coords) (v506 : BitVec 32) (c9_i32_354 : BitVec 32) :
    k0_part120 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v506 c9_i32_354 = (do
      let v508 : BitVec 32 ← ldCi i 9
      let k0_hw35 : PLift (chkI v506 v508) ← asI i v506 v508
      let v514 : BitVec 32 ← ldBa i 9
      let k0_hw36 : PLift (chkA v506 v514) ← asA i v506 v514
      issueK i 1 9 v506 v508 v514 k0_hw35.down k0_hw36.down fun _ => do
      let v524 : BitVec 32 ← ldNs i 8
      let v526 : BitVec 32 ← ldCi i 8
      let k0_hw37 : PLift (chkCI 0 v524 v526) ← asCI i 0 v524 v526
      let v532 : BitVec 32 ← ldBa i 8
      let k0_hw38 : PLift (chkCA 0 v524 v532) ← asCA i 0 v524 v532
      sumK i 0 v524 v526 v532 k0_hw37.down k0_hw38.down fun _ => do
      pure ⟨⟩) := rfl

/-- Window 121. -/
theorem win121 (i : grid0.Coords)  :
    k0_part121 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) = (do
      outIssue i 0 8
      outWait i 0 8
      tokIssue i 0 10
      let v562 : BitVec 32 ← ldNs i 10
      let v564 : BitVec 32 ← ldCi i 10
      let k0_hw39 : PLift (chkI v562 v564) ← asI i v562 v564
      let v570 : BitVec 32 ← ldBa i 10
      let k0_hw40 : PLift (chkA v562 v570) ← asA i v562 v570
      pure ⟨v562, v564, k0_hw39.down, v570, k0_hw40.down, (Scalar.remsi v570 8#32)⟩) := rfl

/-- Window 122. -/
theorem win122 (i : grid0.Coords) (v562 : BitVec 32) (v564 : BitVec 32) (k0_hw39 : (chkI v562 v564)) (v570 : BitVec 32) (k0_hw40 : (chkA v562 v570)) :
    k0_part122 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v562 v564 k0_hw39 v570 k0_hw40 ((Scalar.remsi v570 8#32)) = (do
      issueK i 0 10 v562 v564 v570 k0_hw39 k0_hw40 fun _ => do
      let v580 : BitVec 32 ← ldNs i 9
      let v582 : BitVec 32 ← ldCi i 9
      let k0_hw41 : PLift (chkCI 1 v580 v582) ← asCI i 1 v580 v582
      let v588 : BitVec 32 ← ldBa i 9
      let k0_hw42 : PLift (chkCA 1 v580 v588) ← asCA i 1 v580 v588
      sumK i 1 v580 v582 v588 k0_hw41.down k0_hw42.down fun _ => do
      outIssue i 1 9
      pure 1152#32) := rfl

/-- Window 123. -/
theorem win123 (i : grid0.Coords) (c1152_i32_421 : BitVec 32) :
    k0_part123 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) c1152_i32_421 = (do
      outWait i 1 9
      tokIssue i 1 11
      let v618 : BitVec 32 ← ldNs i 11
      let v620 : BitVec 32 ← ldCi i 11
      let k0_hw43 : PLift (chkI v618 v620) ← asI i v618 v620
      let v626 : BitVec 32 ← ldBa i 11
      let k0_hw44 : PLift (chkA v618 v626) ← asA i v618 v626
      issueK i 1 11 v618 v620 v626 k0_hw43.down k0_hw44.down fun _ => do
      let v636 : BitVec 32 ← ldNs i 10
      pure ⟨v636, 10#32⟩) := rfl

/-- Window 124. -/
theorem win124 (i : grid0.Coords) (v636 : BitVec 32) (c10_i32_444 : BitVec 32) :
    k0_part124 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v636 c10_i32_444 = (do
      let v638 : BitVec 32 ← ldCi i 10
      let k0_hw45 : PLift (chkCI 0 v636 v638) ← asCI i 0 v636 v638
      let v644 : BitVec 32 ← ldBa i 10
      let k0_hw46 : PLift (chkCA 0 v636 v644) ← asCA i 0 v636 v644
      sumK i 0 v636 v638 v644 k0_hw45.down k0_hw46.down fun _ => do
      outIssue i 0 10
      outWait i 0 10
      pure ⟨⟩) := rfl

/-- Window 125. -/
theorem win125 (i : grid0.Coords)  :
    k0_part125 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3  = (do
      tokIssue i 0 12
      let v674 : BitVec 32 ← ldNs i 12
      let v676 : BitVec 32 ← ldCi i 12
      let k0_hw47 : PLift (chkI v674 v676) ← asI i v674 v676
      let v682 : BitVec 32 ← ldBa i 12
      let k0_hw48 : PLift (chkA v674 v682) ← asA i v674 v682
      issueK i 0 12 v674 v676 v682 k0_hw47.down k0_hw48.down fun _ => do
      let v692 : BitVec 32 ← ldNs i 11
      let v694 : BitVec 32 ← ldCi i 11
      let k0_hw49 : PLift (chkCI 1 v692 v694) ← asCI i 1 v692 v694
      let v700 : BitVec 32 ← ldBa i 11
      let k0_hw50 : PLift (chkCA 1 v692 v700) ← asCA i 1 v692 v700
      pure ⟨v692, v694, k0_hw49.down, ((Scalar.minsi (Scalar.subi v694 (Scalar.remsi v694 8#32)) 4088#32)), v700, k0_hw50.down, (Scalar.remsi v700 8#32)⟩) := rfl

/-- Window 126. -/
theorem win126 (i : grid0.Coords) (v692 : BitVec 32) (v694 : BitVec 32) (k0_hw49 : (chkCI 1 v692 v694)) (v700 : BitVec 32) (k0_hw50 : (chkCA 1 v692 v700)) :
    k0_part126 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v692 v694 k0_hw49 (((Scalar.minsi (Scalar.subi v694 (Scalar.remsi v694 8#32)) 4088#32))) v700 k0_hw50 ((Scalar.remsi v700 8#32)) = (do
      sumK i 1 v692 v694 v700 k0_hw49 k0_hw50 fun _ => do
      outIssue i 1 11
      outWait i 1 11
      tokIssue i 1 13
      let v730 : BitVec 32 ← ldNs i 13
      pure ⟨v730, 13#32⟩) := rfl

/-- Window 127. -/
theorem win127 (i : grid0.Coords) (v730 : BitVec 32) (c13_i32_514 : BitVec 32) :
    k0_part127 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v730 c13_i32_514 = (do
      let v732 : BitVec 32 ← ldCi i 13
      let k0_hw51 : PLift (chkI v730 v732) ← asI i v730 v732
      let v738 : BitVec 32 ← ldBa i 13
      let k0_hw52 : PLift (chkA v730 v738) ← asA i v730 v738
      issueK i 1 13 v730 v732 v738 k0_hw51.down k0_hw52.down fun _ => do
      let v748 : BitVec 32 ← ldNs i 12
      let v750 : BitVec 32 ← ldCi i 12
      let k0_hw53 : PLift (chkCI 0 v748 v750) ← asCI i 0 v748 v750
      let v756 : BitVec 32 ← ldBa i 12
      let k0_hw54 : PLift (chkCA 0 v748 v756) ← asCA i 0 v748 v756
      sumK i 0 v748 v750 v756 k0_hw53.down k0_hw54.down fun _ => do
      pure ⟨⟩) := rfl

/-- Window 128. -/
theorem win128 (i : grid0.Coords)  :
    k0_part128 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) = (do
      outIssue i 0 12
      outWait i 0 12
      tokIssue i 0 14
      let v786 : BitVec 32 ← ldNs i 14
      let v788 : BitVec 32 ← ldCi i 14
      let k0_hw55 : PLift (chkI v786 v788) ← asI i v786 v788
      let v794 : BitVec 32 ← ldBa i 14
      let k0_hw56 : PLift (chkA v786 v794) ← asA i v786 v794
      pure ⟨v786, v788, k0_hw55.down, v794, k0_hw56.down, (Scalar.remsi v794 8#32)⟩) := rfl

/-- Window 129. -/
theorem win129 (i : grid0.Coords) (v786 : BitVec 32) (v788 : BitVec 32) (k0_hw55 : (chkI v786 v788)) (v794 : BitVec 32) (k0_hw56 : (chkA v786 v794)) :
    k0_part129 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v786 v788 k0_hw55 v794 k0_hw56 ((Scalar.remsi v794 8#32)) = (do
      issueK i 0 14 v786 v788 v794 k0_hw55 k0_hw56 fun _ => do
      let v804 : BitVec 32 ← ldNs i 13
      let v806 : BitVec 32 ← ldCi i 13
      let k0_hw57 : PLift (chkCI 1 v804 v806) ← asCI i 1 v804 v806
      let v812 : BitVec 32 ← ldBa i 13
      let k0_hw58 : PLift (chkCA 1 v804 v812) ← asCA i 1 v804 v812
      sumK i 1 v804 v806 v812 k0_hw57.down k0_hw58.down fun _ => do
      outIssue i 1 13
      pure 1664#32) := rfl

/-- Window 130. -/
theorem win130 (i : grid0.Coords) (c1664_i32_581 : BitVec 32) :
    k0_part130 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) c1664_i32_581 = (do
      outWait i 1 13
      tokIssue i 1 15
      let v842 : BitVec 32 ← ldNs i 15
      let v844 : BitVec 32 ← ldCi i 15
      let k0_hw59 : PLift (chkI v842 v844) ← asI i v842 v844
      let v850 : BitVec 32 ← ldBa i 15
      let k0_hw60 : PLift (chkA v842 v850) ← asA i v842 v850
      issueK i 1 15 v842 v844 v850 k0_hw59.down k0_hw60.down fun _ => do
      let v860 : BitVec 32 ← ldNs i 14
      pure ⟨v860, 14#32⟩) := rfl

/-- Window 131. -/
theorem win131 (i : grid0.Coords) (v860 : BitVec 32) (c14_i32_604 : BitVec 32) :
    k0_part131 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v860 c14_i32_604 = (do
      let v862 : BitVec 32 ← ldCi i 14
      let k0_hw61 : PLift (chkCI 0 v860 v862) ← asCI i 0 v860 v862
      let v868 : BitVec 32 ← ldBa i 14
      let k0_hw62 : PLift (chkCA 0 v860 v868) ← asCA i 0 v860 v868
      sumK i 0 v860 v862 v868 k0_hw61.down k0_hw62.down fun _ => do
      outIssue i 0 14
      let v887 : BitVec 32 ← ldNs i 15
      let v889 : BitVec 32 ← ldCi i 15
      let k0_hw63 : PLift (chkCI 1 v887 v889) ← asCI i 1 v887 v889
      let v895 : BitVec 32 ← ldBa i 15
      pure ⟨v887, v889, k0_hw63.down, ((Scalar.minsi (Scalar.subi v889 (Scalar.remsi v889 8#32)) 4088#32)), v895⟩) := rfl

/-- Window 132. -/
theorem win132 (i : grid0.Coords) (v887 : BitVec 32) (v889 : BitVec 32) (k0_hw63 : (chkCI 1 v887 v889)) (v895 : BitVec 32) :
    k0_part132 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (basePos i) v887 v889 k0_hw63 (((Scalar.minsi (Scalar.subi v889 (Scalar.remsi v889 8#32)) 4088#32))) v895 = (do
      let k0_hw64 : PLift (chkCA 1 v887 v895) ← asCA i 1 v887 v895
      sumK i 1 v887 v889 v895 k0_hw63 k0_hw64.down fun _ => do
      outIssue i 1 15
      outWait i 0 14
      pure ⟨⟩) := rfl

/-- The index loop's trip is the index piece. -/
theorem t5_eq (i : grid0.Coords) (a b : BitVec 32) :
    k0_t5_body (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 (localPos i) (iota .scVector S16 32 [0] iota_S16_d0_w32_scVector) a b 0#32 16#32 = idxBody i (localPos i) := rfl

/-- The earlier positions' scan is its piece. -/
theorem t2_eq (i : grid0.Coords) (h : k0_cond1 i = 1#1) (t : Fin (k0_t1_loop i).trips) :
    k0_t2_body (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 h t = preGroup i h t := rfl
theorem t1_eq (i : grid0.Coords) (h : k0_cond1 i = 1#1) :
    k0_t1_body (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 h = fun t c => preBody i h t c := rfl

/-- The scan over the row's earlier positions; its remainder loop makes no trip. -/
def preK {α : Type} (i : grid0.Coords) (k : BitVec 32 × BitVec 32 → TP F i α) : TP F i α :=
  if h : k0_cond1 i = 1#1 then do
    let (a, b) ← Scf.Loop.for (k0_t1_loop i) (k0_t1_ok i h) (0#32, 0#32) (fun t c => preBody i h t c)
    let (a', b') ← Scf.Loop.for (k0_t3_loop i) (k0_t3_ok i h) (a, b) (k0_t3_body i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 h)
    k (a', b')
  else k (0#32, 0#32)

/-- The windows before the chunks. -/
theorem win104 (i : grid0.Coords) :
    k0_part104 (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 = (preK i fun c => do
      fetch i
      pure ⟨basePos i, localPos i, iota .scVector S16 32 [0] iota_S16_d0_w32_scVector, c.1, c.2, 0#32, 16#32⟩) := rfl

end Cert.Proof.Piece

end
-- ==== Proof.Body.lean ====
/-
  The kernel's body as a sequence of the repeated pieces.
-/
module

public import proofs.«01_k».proof.Proof.Windows

@[expose] public section

set_option maxRecDepth 65536
set_option maxHeartbeats 4000000

noncomputable section

namespace Cert.Proof.Piece

open Idealize.ShloMosaic Idealize.SL.Sem Cert.KernelIdeal Cert.KernelIdeal.Gen

variable {F : FTy → Type} [FloatOps F]

attribute [local irreducible] tokIssue ldNs ldCi ldBa asI asA asCI asCA issueBr sumBr outIssue fetch idxBody preBody preK chkI chkA chkCI chkCA issueK sumK

/-- The tile's program: the scan of the row's earlier positions, the fetch, the index loop, the chunks. -/
def tile (i : grid0.Coords) : TP F i PUnit :=
  preK i fun c => fetch i >>= fun _ => Scf.Loop.for k0_t5_loop k0_t5_ok (c.1, c.2) (idxBody i (localPos i)) >>= fun _ => chunks i

theorem preK_bind {α β : Type} (i : grid0.Coords) (k : BitVec 32 × BitVec 32 → TP F i α) (f : α → TP F i β) :
    (preK i k >>= f) = preK i (fun c => k c >>= f) := by
  unfold preK; split <;> simp only [bind_assoc]

/-- The kernel's body at the launch's operands is the tile's program. -/
theorem body_eq (i : grid0.Coords) :
    cc0_body (F := F) i stV (Memref.isWhole_whole _) spV (Memref.isWhole_whole _) tkV (Memref.isWhole_whole _) inV (Memref.isWhole_whole _) arV (Memref.isWhole_whole _) ouV (Memref.isWhole_whole _) svV (Memref.isWhole_whole _) spvV (Memref.isWhole_whole _) iiV (Memref.isWhole_whole _) aiV (Memref.isWhole_whole _) tbV (Memref.isWhole_whole _) ibV (Memref.isWhole_whole _) abV (Memref.isWhole_whole _) nsV (Memref.isWhole_whole _) ciV (Memref.isWhole_whole _) baV (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scoped0 cc0_scoped1 cc0_scoped2 cc0_scoped3 = tile i := by
  unfold cc0_body tile chunks mid issue consume
  simp only [win104, win105, win106, win107, win108, win109, win110, win111, win112, win113, win114, win115, win116, win117, win118, win119, win120, win121, win122, win123, win124, win125, win126, win127, win128, win129, win130, win131, win132, issueK_eq, sumK_eq, preK_bind, bind_assoc, pure_bind]
  refine congrArg (preK i) (funext fun c => congrArg (fetch i >>= ·) (funext fun _ => ?_))
  rw [t5_eq]
  rfl

end Cert.Proof.Piece

end
-- ==== Proof.Setup.lean ====
/-
  What the proofs about the program's parts share: the program as the launch theorem sees it, the resource algebra, and
  the rules for a local transfer in flight, stated so that what the transfer does not touch of a buffer rides along.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The resources of the whole proof. -/
abbrev RM (F : FTy → Type) := MT nD τ sig (HIx 1) (Elt F) ℕ UU ℕ

abbrev EH : Emb UH (RM F) := embL

abbrev EC : UEmb Counters (RM F) := countersEmb

/-! ## A transfer in flight -/

section Flights

variable [FloatOps F] (c : Thread nD τ)

/-- A transfer is in flight on `sm`; its wait, of `N` units, delivers `X`. -/
def Fly (sm : DmaSem sig) (N : ℕ) (X : sProp (RM F)) : sProp (RM F) :=
  iprop(∃ R : sProp (RM F), Transfers.Flight EC c (.dma sm) default N iprop(R -∗ X) ∗ R)

theorem Fly_mono {sm : DmaSem sig} {N : ℕ} {X X' : sProp (RM F)} (h : X ⊢ X') : Fly c sm N X ⊢ Fly c sm N X' := by
  unfold Fly
  iintro ⟨%R, HF, HR⟩
  iexists R
  isplitl [HF]
  · iapply (Transfers.Flight_mono EC c (show iprop(R -∗ X) ⊢ iprop(R -∗ X') by
      iintro H HR
      iapply h
      iapply H
      iexact HR))
    iexact HF
  iexact HR

theorem Fly_intro {sm : DmaSem sig} {N : ℕ} {R D X : sProp (RM F)} (h : iprop(D ∗ R) ⊢ X) :
    iprop(Transfers.Flight EC c (.dma sm) default N D ∗ R) ⊢ Fly c sm N X := by
  unfold Fly
  iintro ⟨HF, HR⟩
  iexists R
  isplitl [HF]
  · iapply (Transfers.Flight_mono EC c (show D ⊢ iprop(R -∗ X) by
      iintro H HR
      iapply h
      isplitl [H] <;> iassumption))
    iexact HF
  iexact HR

/-- The debts a thread has: it owes `O`, and has waited for pairs in `W` and for pairs of no handshake. -/
def Owe (O : CellTallies nD τ sig (HIx 1)) (W : Waits sig (HIx 1)) : sProp (RM F) :=
  iprop(∃ W', ⌜∀ p ∈ W', p ∈ W ∨ p.2 = none⌝ ∗ owes c O W')

section Rules

variable {Λ : Labels} (defs : Defs nD τ sig (Elt F) Λ) (𝒱 : Variants) (bd : Option 𝒱.V) {α : Type} {Q : α → sProp (RM F)}

/-- A copy, from a share of elements `S₀` that cover the source's and elements `Sd` that cover the destination's: it
    delivers the destination written, and the source. -/
theorem wp_copy {sp sp' : Space} {s : Shape} {e : EltTy}
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {fs : Buf (Elt F) (src.view.loc c)}
    {S₀ : Finset (Idx (src.view.loc c))} {Sd : Finset (Idx (dst.view.loc c))} {fd : Buf (Elt F) (dst.view.loc c)}
    (N : ℕ) (hN : dst.view.dmaCredit = N) (hN0 : 0 < N) (hS₀ : src.view.set ⊆ S₀) (hSd : dst.view.set ⊆ Sd) :
    iprop((src.view.loc c ↦[S₀]{q} fs) ∗ (dst.view.loc c ↦[Sd]{fullShare} fd) ∗ semVal (c, .dma sm) 0)
      ⊢ iprop((Fly c sm N iprop((dst.view.loc c ↦[Sd]{fullShare} dst.view.write (Elt F) fd (src.view.read (Elt F) fs) Finset.univ)
                  ∗ (src.view.loc c ↦[S₀]{q} fs))
              -∗ wp frame (wpE defs 𝒱 c bd) Set.univ (k ⟨⟩) Q)
          -∗ wp frame (wpE defs 𝒱 c bd) Set.univ (.op (.enqueueDma src (.here dst) (.dma sm) hsrc hdst hsem) k) Q) := by
  iintro ⟨Hs, Hd, Hv⟩ Hk
  ihave Hs' := ((pointsTo_split_subset hS₀).1) $$ Hs
  icases Hs' with ⟨Hs, Hr⟩
  iapply (Transfers.wp_dmaLocal EC 𝒱 c bd (src := src) (dst := dst) (sm := .dma sm) (default : HIx 1) N (by simpa using hN) hN0 hSd) $$ [Hs Hd Hv]
  · isplitl [Hs]; · iexact Hs
    isplitl [Hd] <;> iassumption
  iintro HF
  iapply Hk
  iapply (Fly_intro c (R := (src.view.loc c ↦[S₀ \ src.view.set]{q} fs)) (D := iprop((dst.view.loc c ↦[Sd]{fullShare} dst.view.write (Elt F) fd (src.view.read (Elt F) fs) Finset.univ)
      ∗ (src.view.loc c ↦[src.view.set]{q} fs))) (by
    iintro ⟨⟨Hd, Hs⟩, Hr⟩
    isplitl [Hd]; · iexact Hd
    iapply ((pointsTo_split_subset hS₀).2)
    isplitl [Hs] <;> iassumption))
  isplitl [HF] <;> iassumption

/-- An indexed copy, from shares of a table and of a list whose words are rows of the table, and elements `Sd` that cover
    the destination's. -/
theorem wp_gather {sp : Space} {s₀ s si : Shape} {a : Nat} {e : EltTy}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {S₀ : Finset (Idx (src.view.loc c))} {Sd : Finset (Idx (dst.view.loc c))} {So : Finset (Idx (offs.view.loc c))}
    (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    (hS₀ : src.view.set ⊆ S₀) (hSd : dst.view.set ⊆ Sd) (hSo : offs.view.set ⊆ So) :
    iprop((src.view.loc c ↦[S₀]{q} fs) ∗ (dst.view.loc c ↦[Sd]{fullShare} fd) ∗ (offs.view.loc c ↦[So]{qo} fo) ∗ semVal (c, .dma sem) 0)
      ⊢ iprop((Fly c sem N
                iprop((dst.view.loc c ↦[Sd]{fullShare} dst.view.write (Elt F) fd
                        (SparseCore.gatherPayload hg (src.view.read (Elt F) fs) (SparseCore.rows (offs.view.read (Elt F) fo) hn hin)) Finset.univ)
                  ∗ (src.view.loc c ↦[S₀]{q} fs) ∗ (offs.view.loc c ↦[So]{qo} fo))
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  iintro ⟨Hs, Hd, Ho, Hv⟩ Hk
  ihave Hs' := ((pointsTo_split_subset hS₀).1) $$ Hs
  icases Hs' with ⟨Hs, Hsr⟩
  ihave Hd' := ((pointsTo_split_subset hSd).1) $$ Hd
  icases Hd' with ⟨Hd, Hdr⟩
  ihave Ho' := ((pointsTo_split_subset hSo).1) $$ Ho
  icases Ho' with ⟨Ho, Hor⟩
  iapply (SparseCore.wp_indirectGatherLocal EC 𝒱 c bd (hg := hg) (default : HIx 1) N hN hs hin) $$ [Hs Hd Ho Hv]
  · isplitl [Hs]; · iexact Hs
    isplitl [Hd]; · iexact Hd
    isplitl [Ho] <;> iassumption
  iintro HF
  iapply Hk
  iapply (Fly_intro c (R := iprop((src.view.loc c ↦[S₀ \ src.view.set]{q} fs) ∗ (dst.view.loc c ↦[Sd \ dst.view.set]{fullShare} fd)
      ∗ (offs.view.loc c ↦[So \ offs.view.set]{qo} fo))) (D := iprop((dst.view.loc c ↦[dst.view.set]{fullShare} dst.view.write (Elt F) fd
                        (SparseCore.gatherPayload hg (src.view.read (Elt F) fs) (SparseCore.rows (offs.view.read (Elt F) fo) hn hin)) Finset.univ)
                  ∗ (src.view.loc c ↦[src.view.set]{q} fs) ∗ (offs.view.loc c ↦[offs.view.set]{qo} fo))) (by
    iintro ⟨⟨Hd, Hs, Ho⟩, Hsr, Hdr, Hor⟩
    isplitl [Hd Hdr]
    · iapply ((pointsTo_split_subset hSd).2)
      isplitl [Hd]; · iexact Hd
      rw [pointsTo_congr (I := Sd \ dst.view.set) (f := dst.view.write (Elt F) fd _ _) (g := fd) (fun i hi => View.write_of_not_mem _ _ _ (by
        rw [View.setOn_univ]; exact (Finset.mem_sdiff.mp hi).2))]
      iexact Hdr
    isplitl [Hs Hsr]
    · iapply ((pointsTo_split_subset hS₀).2)
      isplitl [Hs] <;> iassumption
    iapply ((pointsTo_split_subset hSo).2)
    isplitl [Ho] <;> iassumption))
  isplitl [HF]; · iexact HF
  isplitl [Hsr]; · iexact Hsr
  isplitl [Hdr] <;> iassumption

/-- A copy whose delivery is put as `X`. -/
theorem wp_copyX {sp sp' : Space} {s : Shape} {e : EltTy}
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {fs : Buf (Elt F) (src.view.loc c)}
    {S₀ : Finset (Idx (src.view.loc c))} {Sd : Finset (Idx (dst.view.loc c))} {fd : Buf (Elt F) (dst.view.loc c)}
    (N : ℕ) (hN : dst.view.dmaCredit = N) (hN0 : 0 < N) (hS₀ : src.view.set ⊆ S₀) (hSd : dst.view.set ⊆ Sd) (X : sProp (RM F))
    (hX : iprop((dst.view.loc c ↦[Sd]{fullShare} dst.view.write (Elt F) fd (src.view.read (Elt F) fs) Finset.univ) ∗ (src.view.loc c ↦[S₀]{q} fs)) ⊢ X) :
    iprop((src.view.loc c ↦[S₀]{q} fs) ∗ (dst.view.loc c ↦[Sd]{fullShare} fd) ∗ semVal (c, .dma sm) 0)
      ⊢ iprop((Fly c sm N X -∗ wp frame (wpE defs 𝒱 c bd) Set.univ (k ⟨⟩) Q)
          -∗ wp frame (wpE defs 𝒱 c bd) Set.univ (.op (.enqueueDma src (.here dst) (.dma sm) hsrc hdst hsem) k) Q) := by
  iintro H Hk
  iapply (wp_copy c defs 𝒱 bd N hN hN0 hS₀ hSd) $$ H
  iintro HF
  iapply Hk
  iapply (Fly_mono c hX)
  iexact HF

/-- An indexed copy whose delivery is put as `X`. -/
theorem wp_gatherX {sp : Space} {s₀ s si : Shape} {a : Nat} {e : EltTy}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {S₀ : Finset (Idx (src.view.loc c))} {Sd : Finset (Idx (dst.view.loc c))} {So : Finset (Idx (offs.view.loc c))}
    (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    (hS₀ : src.view.set ⊆ S₀) (hSd : dst.view.set ⊆ Sd) (hSo : offs.view.set ⊆ So) (X : sProp (RM F))
    (hX : iprop((dst.view.loc c ↦[Sd]{fullShare} dst.view.write (Elt F) fd
            (SparseCore.gatherPayload hg (src.view.read (Elt F) fs) (SparseCore.rows (offs.view.read (Elt F) fo) hn hin)) Finset.univ)
          ∗ (src.view.loc c ↦[S₀]{q} fs) ∗ (offs.view.loc c ↦[So]{qo} fo)) ⊢ X) :
    iprop((src.view.loc c ↦[S₀]{q} fs) ∗ (dst.view.loc c ↦[Sd]{fullShare} fd) ∗ (offs.view.loc c ↦[So]{qo} fo) ∗ semVal (c, .dma sem) 0)
      ⊢ iprop((Fly c sem N X -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  iintro H Hk
  iapply (wp_gather c defs 𝒱 bd N hN hs hin hS₀ hSd hSo) $$ H
  iintro HF
  iapply Hk
  iapply (Fly_mono c hX)
  iexact HF

/-- The wait for a transfer in flight takes what the transfer delivers, and the semaphore back at zero. -/
theorem wp_fly {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N) {X : sProp (RM F)}
    {O : CellTallies nD τ sig (HIx 1)} {W : Waits sig (HIx 1)} :
    iprop(Fly c sem N X ∗ Owe c O W ∗ Transfers.MayWaits c (default : HIx 1) O)
      ⊢ iprop((iprop(X ∗ semVal (c, .dma sem) 0 ∗ Owe c O W) -∗ wp frame (wpE defs 𝒱 c bd) Set.univ (k ⟨⟩) Q)
          -∗ wp frame (wpE defs 𝒱 c bd) Set.univ (.op (.waitDma2 sem srcw dstw hsrc hdst) k) Q) := by
  unfold Fly Owe
  iintro ⟨⟨%R, HF, HR⟩, ⟨%W', %hW, HO⟩, #Hmw⟩ Hk
  ihave Hm := (Transfers.MayWaits.elim (SemLoc.dma sem)) $$ Hmw
  iapply (Transfers.wp_waitLocalO EC 𝒱 c bd (default : HIx 1) hN) $$ [HF HO Hm]
  · isplitl [HF]; · iexact HF
    isplitl [HO] <;> iassumption
  iintro ⟨HD, Hv, HO⟩
  iapply Hk
  isplitl [HD HR]
  · iapply HD; iexact HR
  isplitl [Hv]; · iexact Hv
  iexists (insert (SemLoc.dma sem, (default : HIx 1)) W')
  isplitr
  · ipureintro
    intro p hp
    rcases Finset.mem_insert.mp hp with h | h
    · right; rw [h]; rfl
    · exact hW p h
  iexact HO

end Rules

end Flights

end Cert.Proof

end
-- ==== Proof.Words.lean ====
/-
  The kernel's address arithmetic in closed form: where a chunk's rows start in the slots and in the tables, for words in
  the range the kernel keeps them in; and its checks, which hold there.
-/
module

public import proofs.«01_k».proof.Proof.Piece

@[expose] public section

set_option maxRecDepth 16384

noncomputable section

namespace Cert.Proof

open Idealize.ShloMosaic Cert.KernelIdeal Cert.KernelIdeal.Gen Cert.Proof.Piece

theorem trips6 : k0_t6_loop.trips = 128 := by decide

theorem iv6 : ∀ t : Fin k0_t6_loop.trips, (Scalar.indexCast (Scf.iv 0#32 1#32 t) : Index).toNat = t.val := by decide +kernel

/-- The base of the instruction rows fetched: a multiple of eight, within seven of the row, eight rows within the table. -/
theorem loI : ∀ n : Fin 4096, 8 ∣ (lo8 4088#32 (BitVec.ofNat 32 n.val)).toNat ∧ (lo8 4088#32 (BitVec.ofNat 32 n.val)).toNat ≤ n.val
    ∧ n.val < (lo8 4088#32 (BitVec.ofNat 32 n.val)).toNat + 8 ∧ (lo8 4088#32 (BitVec.ofNat 32 n.val)).toNat + 8 ≤ 4096
    ∧ (Scalar.indexCast (Scalar.subi (BitVec.ofNat 32 n.val) (lo8 4088#32 (BitVec.ofNat 32 n.val))) : Index).toNat
        = n.val - (lo8 4088#32 (BitVec.ofNat 32 n.val)).toNat := by decide +kernel

/-- The base of the argument rows fetched: a multiple of eight, within eight of the row, 136 rows within the table. -/
theorem loA : ∀ n : Fin 3969, 8 ∣ (lo8 3960#32 (BitVec.ofNat 32 n.val)).toNat ∧ (lo8 3960#32 (BitVec.ofNat 32 n.val)).toNat ≤ n.val
    ∧ n.val ≤ (lo8 3960#32 (BitVec.ofNat 32 n.val)).toNat + 8 ∧ (lo8 3960#32 (BitVec.ofNat 32 n.val)).toNat + 136 ≤ 4096
    ∧ Scalar.subi (BitVec.ofNat 32 n.val) (lo8 3960#32 (BitVec.ofNat 32 n.val))
        = BitVec.ofNat 32 (n.val - (lo8 3960#32 (BitVec.ofNat 32 n.val)).toNat) := by decide +kernel

theorem addA : ∀ (t : Fin k0_t6_loop.trips) (a : Fin 9),
    (Scalar.indexCast (Scalar.addi (Scf.iv 0#32 1#32 t) (BitVec.ofNat 32 a.val)) : Index).toNat = t.val + a.val := by decide +kernel

section

variable {ns ci ba : BitVec 32}

theorem ofNat_toNat32 (v : BitVec 32) : BitVec.ofNat 32 v.toNat = v := by simp

theorem loI' (h : ci.toNat < 4096) : 8 ∣ (lo8 4088#32 ci).toNat ∧ (lo8 4088#32 ci).toNat ≤ ci.toNat
    ∧ ci.toNat < (lo8 4088#32 ci).toNat + 8 ∧ (lo8 4088#32 ci).toNat + 8 ≤ 4096
    ∧ (Scalar.indexCast (Scalar.subi ci (lo8 4088#32 ci)) : Index).toNat = ci.toNat - (lo8 4088#32 ci).toNat := by
  have := loI ⟨ci.toNat, h⟩
  simpa only [ofNat_toNat32] using this

theorem loA' (h : ba.toNat < 3969) : 8 ∣ (lo8 3960#32 ba).toNat ∧ (lo8 3960#32 ba).toNat ≤ ba.toNat
    ∧ ba.toNat ≤ (lo8 3960#32 ba).toNat + 8 ∧ (lo8 3960#32 ba).toNat + 136 ≤ 4096
    ∧ Scalar.subi ba (lo8 3960#32 ba) = BitVec.ofNat 32 (ba.toNat - (lo8 3960#32 ba).toNat) := by
  have := loA ⟨ba.toNat, h⟩
  simpa only [ofNat_toNat32] using this

theorem offIv_eq (p h : ℕ) (hc : ci.toNat < 4096) : offIv p h ci = ![p, ci.toNat - (lo8 4088#32 ci).toNat, h] := by
  unfold offIv; rw [(loI' hc).2.2.2.2]

theorem offAv_eq (p h : ℕ) (hb : ba.toNat < 3969) (t : Fin k0_t6_loop.trips) :
    offAv p h ba t = ![p, t.val + (ba.toNat - (lo8 3960#32 ba).toNat), h] := by
  have hl := loA' hb
  unfold offAv
  rw [hl.2.2.2.2, addA t ⟨ba.toNat - (lo8 3960#32 ba).toNat, by omega⟩]

theorem offTv_eq (p h : ℕ) (t : Fin k0_t6_loop.trips) : offTv p h t = ![p, t.val, h] := by unfold offTv; rw [iv6]

theorem chkI_of (hc : ci.toNat < 4096) : chkI ns ci := by
  have hl := loI' hc
  refine ⟨hl.1, fun _ a => ?_⟩
  fin_cases a
  · show (lo8 4088#32 ci).toNat + 8 ≤ 4096
    exact hl.2.2.2.1
  · show 0 + 128 ≤ 128
    omega

theorem chkA_of (hb : ba.toNat < 3969) : chkA ns ba := by
  have hl := loA' hb
  refine ⟨hl.1, fun _ a => ?_⟩
  fin_cases a
  · show (lo8 3960#32 ba).toNat + 136 ≤ 4096
    exact hl.2.2.2.1
  · show 0 + 128 ≤ 128
    omega

theorem inbI (p : Fin 2) (h : ℕ) (hh : h + 16 ≤ 128) (hc : ci.toNat < 4096) :
    ∀ a, (offIv p.val h ci) a + S1x1x16.size a ≤ S2x128x128.size a := by
  have hl := loI' hc
  rw [offIv_eq _ _ hc]
  intro a
  fin_cases a
  · show p.val + 1 ≤ 2
    omega
  · show ci.toNat - (lo8 4088#32 ci).toNat + 1 ≤ 128
    omega
  · show h + 16 ≤ 128
    exact hh

theorem inbA (p : Fin 2) (h : ℕ) (hh : h + 16 ≤ 128) (hb : ba.toNat < 3969) (t : Fin k0_t6_loop.trips) :
    ∀ a, (offAv p.val h ba t) a + S1x1x16.size a ≤ S2x136x128.size a := by
  have hl := loA' hb
  have ht : t.val < 128 := lt_of_lt_of_eq t.isLt trips6
  rw [offAv_eq _ _ hb]
  intro a
  fin_cases a
  · show p.val + 1 ≤ 2
    omega
  · show t.val + (ba.toNat - (lo8 3960#32 ba).toNat) + 1 ≤ 136
    omega
  · show h + 16 ≤ 128
    exact hh

theorem chkCI_of (p : Fin 2) (hc : ci.toNat < 4096) : chkCI p ns ci :=
  ⟨(loI' hc).1, fun _ => inbI p _ (by decide) hc, fun _ => inbI p _ (by decide) hc, fun _ => inbI p _ (by decide) hc,
    fun _ => inbI p _ (by decide) hc, fun _ => inbI p _ (by decide) hc, fun _ => inbI p _ (by decide) hc,
    fun _ => inbI p _ (by decide) hc, fun _ => inbI p _ (by decide) hc⟩

theorem chkCA_of (p : Fin 2) (hb : ba.toNat < 3969) : chkCA p ns ba :=
  ⟨(loA' hb).1, fun t _ => inbA p _ (by decide) hb t, fun t _ => inbA p _ (by decide) hb t, fun t _ => inbA p _ (by decide) hb t,
    fun t _ => inbA p _ (by decide) hb t, fun t _ => inbA p _ (by decide) hb t, fun t _ => inbA p _ (by decide) hb t,
    fun t _ => inbA p _ (by decide) hb t, fun t _ => inbA p _ (by decide) hb t⟩

theorem cnd_iff (v : BitVec 32) : cnd v = 1#1 ↔ v = 0#32 := by
  unfold cnd
  by_cases h : v = 0#32
  · subst h; exact ⟨fun _ => rfl, fun _ => by decide⟩
  · refine ⟨fun e => absurd e ?_, fun e => absurd e h⟩
    have : (Scalar.cmpi .eq v 0#32 : BitVec 1) = 0#1 := by
      have hb : (v == 0#32) = false := by simpa using h
      show BitVec.ofBool (v == 0#32) = 0#1
      rw [hb]; rfl
    rw [this]; decide

end

end Cert.Proof

end
-- ==== Proof.Rows.lean ====
/-
  The slots' contents row by row, and the loads and stores of sixteen lanes that a row's sum makes.
-/
module

public import proofs.«01_k».proof.Proof.Setup
public import proofs.«01_k».proof.Proof.Words
public import Idealize.ShloMosaic.Lib.ValueIdx
public import Idealize.ShloMosaic.Lib.ValueLayout

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- The thread of the tile at coordinates `i`. -/
abbrev thr (d : Dev nD) (i : grid0.Coords) : Thread nD τ := V d ((i 0).castLE hcore0) ((i 1).castLE hsub0)

/-- The elements of slot `p`. -/
def slT (p : Fin 2) : Finset S2x128x128.Idx := Finset.univ.filter fun k => (k 0).val = p.val
def slA (p : Fin 2) : Finset S2x136x128.Idx := Finset.univ.filter fun k => (k 0).val = p.val

section Rect

variable {α : Type}

theorem emb3 {A B C a b c : ℕ} {o : Fin 3 → ℕ} {h : ∀ i, o i + (⟨3, ![a, b, c]⟩ : Shape).size i ≤ (⟨3, ![A, B, C]⟩ : Shape).size i}
    (x : Fin a) (y : Fin b) (z : Fin c) (h0 : o 0 + x.val < A) (h1 : o 1 + y.val < B) (h2 : o 2 + z.val < C) :
    (Rect.unit (s := ⟨3, ![A, B, C]⟩) o (⟨3, ![a, b, c]⟩ : Shape).size h).emb (ix3 x y z)
      = ix3 (n0 := A) (n1 := B) (n2 := C) ⟨o 0 + x.val, h0⟩ ⟨o 1 + y.val, h1⟩ ⟨o 2 + z.val, h2⟩ := by
  funext i
  fin_cases i
  · exact Fin.ext (show o 0 + 1 * x.val = _ by simp)
  · exact Fin.ext (show o 1 + 1 * y.val = _ by simp)
  · exact Fin.ext (show o 2 + 1 * z.val = _ by simp)

end Rect

theorem ix3_eta {a b c : ℕ} (k : (⟨3, ![a, b, c]⟩ : Shape).Idx) : k = ix3 (k 0) (k 1) (k 2) := by
  funext i; fin_cases i <;> rfl

variable [FloatOps F] (d : Dev nD) (i : grid0.Coords)

/-! ## What the slots hold -/

/-- Slot `p` of the token rows holds `g`: row `t`, column `x` at `g t x`. -/
def tbHas (p : Fin 2) (g : ℕ → ℕ → F .f32) : sProp (RM F) :=
  iprop(∃ f : S2x128x128.Idx → F .f32, ⌜∀ (t x : Fin 128), f (ix3 p t x) = g t.val x.val⌝ ∗ ((tbV).view.loc (thr d i) ↦[slT p]{fullShare} f))
/-- The first `n` rows of slot `p` of the instruction rows hold `g`. -/
def ibHas (p : Fin 2) (n : ℕ) (g : ℕ → ℕ → F .f32) : sProp (RM F) :=
  iprop(∃ f : S2x128x128.Idx → F .f32, ⌜∀ (t x : Fin 128), t.val < n → f (ix3 p t x) = g t.val x.val⌝ ∗ ((ibV).view.loc (thr d i) ↦[slT p]{fullShare} f))
/-- The first `n` rows of slot `p` of the argument rows hold `g`. -/
def abHas (p : Fin 2) (n : ℕ) (g : ℕ → ℕ → F .f32) : sProp (RM F) :=
  iprop(∃ f : S2x136x128.Idx → F .f32, ⌜∀ (t : Fin 136) (x : Fin 128), t.val < n → f (ix3 p t x) = g t.val x.val⌝ ∗ ((abV).view.loc (thr d i) ↦[slA p]{fullShare} f))

/-- Rows before `t`, and row `t`'s columns before `n`, are at `R`; the rest at `V`. -/
def mixed (V R : ℕ → ℕ → F .f32) (t n : ℕ) : ℕ → ℕ → F .f32 := fun t' x => if t' < t ∨ (t' = t ∧ x < n) then R t' x else V t' x

section Loads

variable {Λ : Labels} (defs : Defs nD τ sig (Elt F) Λ) (𝒱 : Variants) (bd : Option 𝒱.V) {α : Type} {Q : α → sProp (RM F)}

theorem slT_sub {o : Fin 3 → ℕ} (p : Fin 2) (h0 : o 0 = p.val) (hb : ∀ a, o a + S1x1x16.size a ≤ S2x128x128.size a) :
    (Rect.unit (s := S2x128x128) o S1x1x16.size hb).set ⊆ slT p := by
  intro k hk
  obtain ⟨x, rfl⟩ := (Rect.unit (s := S2x128x128) o S1x1x16.size hb).exists_idx_of_mem hk
  refine Finset.mem_filter.mpr ⟨Finset.mem_univ _, ?_⟩
  have h1 : (x 0).val < 1 := (x 0).isLt
  show o 0 + 1 * (x 0).val = p.val
  omega

theorem slA_sub {o : Fin 3 → ℕ} (p : Fin 2) (h0 : o 0 = p.val) (hb : ∀ a, o a + S1x1x16.size a ≤ S2x136x128.size a) :
    (Rect.unit (s := S2x136x128) o S1x1x16.size hb).set ⊆ slA p := by
  intro k hk
  obtain ⟨x, rfl⟩ := (Rect.unit (s := S2x136x128) o S1x1x16.size hb).exists_idx_of_mem hk
  refine Finset.mem_filter.mpr ⟨Finset.mem_univ _, ?_⟩
  have h1 : (x 0).val < 1 := (x 0).isLt
  show o 0 + 1 * (x 0).val = p.val
  omega

/-- A load of sixteen lanes of a token row. -/
theorem wp_ld_tb (p : Fin 2) (g : ℕ → ℕ → F .f32) {o : Fin 3 → ℕ} (r : Fin 128) (x₀ : ℕ) (ho : o = ![p.val, r.val, x₀])
    {hb : ∀ a, o a + S1x1x16.size a ≤ S2x128x128.size a}
    {hl : (tbV).view.LoadsAt (Rect.unit (s := S2x128x128) o S1x1x16.size hb).toLoadRect}
    {k : Vec F S1x1x16 .f32 → Prog (TpuEff nD τ sig (Elt F) Λ (thr d i).2) α} :
    tbHas d i p g ⊢ iprop((∀ v : Vec F S1x1x16 .f32, ⌜∀ x : Fin 16, v (ix3 0 0 x) = g r.val (x₀ + x.val)⌝ -∗ tbHas d i p g -∗ wp frame (wpE defs 𝒱 (thr d i) bd) Set.univ (k v) Q)
      -∗ wp frame (wpE defs 𝒱 (thr d i) bd) Set.univ (.op (.load tbV (Rect.unit (s := S2x128x128) o S1x1x16.size hb).toLoadRect hl) k) Q) := by
  subst ho
  have h2 : x₀ + 16 ≤ 128 := hb 2
  unfold tbHas
  iintro ⟨%f, %hf, H⟩ Hk
  iapply (wp_load 𝒱 (thr d i) bd Set.univ (m := tbV) (S := slT p) (q := fullShare) (f := f) (by
    rw [show (tbV).view.setOn (Rect.unit (s := S2x128x128) ![p.val, r.val, x₀] S1x1x16.size hb).toLoadRect.set
      = (Rect.unit (s := S2x128x128) ![p.val, r.val, x₀] S1x1x16.size hb).set from Finset.map_refl]
    exact slT_sub p rfl hb)) $$ H
  iintro H
  iapply Hk
  · ipureintro
    intro x
    refine Eq.trans ?_ (hf r ⟨x₀ + x.val, by omega⟩)
    exact congrArg f (emb3 (h := hb) (0 : Fin 1) (0 : Fin 1) x p.isLt r.isLt (by show x₀ + x.val < 128; omega))
  iexists f
  isplitr; · ipureintro; exact hf
  iexact H

/-- A load of sixteen lanes of an instruction row among the first `n`. -/
theorem wp_ld_ib (p : Fin 2) (n : ℕ) (g : ℕ → ℕ → F .f32) {o : Fin 3 → ℕ} (r : Fin 128) (hr : r.val < n) (x₀ : ℕ) (ho : o = ![p.val, r.val, x₀])
    {hb : ∀ a, o a + S1x1x16.size a ≤ S2x128x128.size a}
    {hl : (ibV).view.LoadsAt (Rect.unit (s := S2x128x128) o S1x1x16.size hb).toLoadRect}
    {k : Vec F S1x1x16 .f32 → Prog (TpuEff nD τ sig (Elt F) Λ (thr d i).2) α} :
    ibHas d i p n g ⊢ iprop((∀ v : Vec F S1x1x16 .f32, ⌜∀ x : Fin 16, v (ix3 0 0 x) = g r.val (x₀ + x.val)⌝ -∗ ibHas d i p n g -∗ wp frame (wpE defs 𝒱 (thr d i) bd) Set.univ (k v) Q)
      -∗ wp frame (wpE defs 𝒱 (thr d i) bd) Set.univ (.op (.load ibV (Rect.unit (s := S2x128x128) o S1x1x16.size hb).toLoadRect hl) k) Q) := by
  subst ho
  have h2 : x₀ + 16 ≤ 128 := hb 2
  unfold ibHas
  iintro ⟨%f, %hf, H⟩ Hk
  iapply (wp_load 𝒱 (thr d i) bd Set.univ (m := ibV) (S := slT p) (q := fullShare) (f := f) (by
    rw [show (ibV).view.setOn (Rect.unit (s := S2x128x128) ![p.val, r.val, x₀] S1x1x16.size hb).toLoadRect.set
      = (Rect.unit (s := S2x128x128) ![p.val, r.val, x₀] S1x1x16.size hb).set from Finset.map_refl]
    exact slT_sub p rfl hb)) $$ H
  iintro H
  iapply Hk
  · ipureintro
    intro x
    refine Eq.trans ?_ (hf r ⟨x₀ + x.val, by omega⟩ hr)
    exact congrArg f (emb3 (h := hb) (0 : Fin 1) (0 : Fin 1) x p.isLt r.isLt (by show x₀ + x.val < 128; omega))
  iexists f
  isplitr; · ipureintro; exact hf
  iexact H

/-- A load of sixteen lanes of an argument row among the first `n`. -/
theorem wp_ld_ab (p : Fin 2) (n : ℕ) (g : ℕ → ℕ → F .f32) {o : Fin 3 → ℕ} (r : ℕ) (hr : r < n) (x₀ : ℕ) (ho : o = ![p.val, r, x₀])
    {hb : ∀ a, o a + S1x1x16.size a ≤ S2x136x128.size a}
    {hl : (abV).view.LoadsAt (Rect.unit (s := S2x136x128) o S1x1x16.size hb).toLoadRect}
    {k : Vec F S1x1x16 .f32 → Prog (TpuEff nD τ sig (Elt F) Λ (thr d i).2) α} :
    abHas d i p n g ⊢ iprop((∀ v : Vec F S1x1x16 .f32, ⌜∀ x : Fin 16, v (ix3 0 0 x) = g r (x₀ + x.val)⌝ -∗ abHas d i p n g -∗ wp frame (wpE defs 𝒱 (thr d i) bd) Set.univ (k v) Q)
      -∗ wp frame (wpE defs 𝒱 (thr d i) bd) Set.univ (.op (.load abV (Rect.unit (s := S2x136x128) o S1x1x16.size hb).toLoadRect hl) k) Q) := by
  subst ho
  have h1 : r + 1 ≤ 136 := hb 1
  have h2 : x₀ + 16 ≤ 128 := hb 2
  unfold abHas
  iintro ⟨%f, %hf, H⟩ Hk
  iapply (wp_load 𝒱 (thr d i) bd Set.univ (m := abV) (S := slA p) (q := fullShare) (f := f) (by
    rw [show (abV).view.setOn (Rect.unit (s := S2x136x128) ![p.val, r, x₀] S1x1x16.size hb).toLoadRect.set
      = (Rect.unit (s := S2x136x128) ![p.val, r, x₀] S1x1x16.size hb).set from Finset.map_refl]
    exact slA_sub p rfl hb)) $$ H
  iintro H
  iapply Hk
  · ipureintro
    intro x
    refine Eq.trans ?_ (hf ⟨r, by omega⟩ ⟨x₀ + x.val, by omega⟩ hr)
    exact congrArg f (emb3 (h := hb) (0 : Fin 1) (0 : Fin 1) x p.isLt (by show r + 0 < 136; omega) (by show x₀ + x.val < 128; omega))
  iexists f
  isplitr; · ipureintro; exact hf
  iexact H

/-- A store of sixteen lanes of the row being summed, after the sums of the columns before. -/
theorem wp_st_tb (p : Fin 2) (Vv R : ℕ → ℕ → F .f32) {o : Fin 3 → ℕ} (r : Fin 128) (x₀ : ℕ) (ho : o = ![p.val, r.val, x₀])
    {hb : ∀ a, o a + S1x1x16.size a ≤ S2x128x128.size a} (w : Vec F S1x1x16 .f32)
    (hw : ∀ x : Fin 16, w (ix3 0 0 x) = R r.val (x₀ + x.val))
    {hx : ((tbV).access (Rect.unit (s := S2x128x128) o S1x1x16.size hb)).Stores Finset.univ}
    {hm : (Finset.univ : Finset S1x1x16.Idx) = Finset.univ ∨ ∀ a, (Rect.unit (s := S2x128x128) o S1x1x16.size hb).stride a = 1}
    {k : PUnit → Prog (TpuEff nD τ sig (Elt F) Λ (thr d i).2) α} :
    tbHas d i p (mixed Vv R r.val x₀) ⊢ iprop((tbHas d i p (mixed Vv R r.val (x₀ + 16)) -∗ wp frame (wpE defs 𝒱 (thr d i) bd) Set.univ (k ⟨⟩) Q)
      -∗ wp frame (wpE defs 𝒱 (thr d i) bd) Set.univ (.op (.store tbV (Rect.unit (s := S2x128x128) o S1x1x16.size hb) w Finset.univ hx hm) k) Q) := by
  subst ho
  have h2 : x₀ + 16 ≤ 128 := hb 2
  have hset : ((tbV).access (Rect.unit (s := S2x128x128) ![p.val, r.val, x₀] S1x1x16.size hb)).setOn Finset.univ
      = (Rect.unit (s := S2x128x128) ![p.val, r.val, x₀] S1x1x16.size hb).set := by
    rw [View.setOn_univ, View.set_slice]; exact Finset.map_refl
  unfold tbHas
  iintro ⟨%f, %hf, H⟩ Hk
  iapply (wp_store 𝒱 (thr d i) bd Set.univ (m := tbV) (r := Rect.unit (s := S2x128x128) ![p.val, r.val, x₀] S1x1x16.size hb) (w := w) (Mk := Finset.univ) (S := slT p) (f := f) (by
    rw [hset]; exact slT_sub p rfl hb)) $$ H
  iintro H
  iapply Hk
  iexists _
  isplitr
  rotate_left
  · iexact H
  ipureintro
  intro t x
  by_cases ht : t = r ∧ x₀ ≤ x.val ∧ x.val < x₀ + 16
  · obtain ⟨rfl, hx1, hx2⟩ := ht
    have e : (ix3 p t x : S2x128x128.Idx) = ((tbV).access (Rect.unit (s := S2x128x128) ![p.val, t.val, x₀] S1x1x16.size hb)).emb
        (ix3 (0 : Fin 1) (0 : Fin 1) (⟨x.val - x₀, by omega⟩ : Fin 16)) := by
      refine Eq.trans ?_ (emb3 (h := hb) (0 : Fin 1) (0 : Fin 1) (⟨x.val - x₀, by omega⟩ : Fin 16) p.isLt t.isLt (by show x₀ + (x.val - x₀) < 128; omega)).symm
      have : x₀ + (x.val - x₀) = x.val := by omega
      exact congrArg (ix3 p t) (Fin.ext this.symm)
    rw [e]
    refine (View.write_emb_of_mem _ _ (Finset.mem_univ _)).trans ?_
    refine (hw ⟨x.val - x₀, by omega⟩).trans ?_
    unfold mixed
    rw [if_pos (Or.inr ⟨rfl, hx2⟩)]
    show R t.val (x₀ + (x.val - x₀)) = R t.val x.val
    congr 1; omega
  · rw [View.write_of_not_mem _ _ _ (by
      rw [hset]
      intro hk
      obtain ⟨y, hy⟩ := (Rect.unit (s := S2x128x128) ![p.val, r.val, x₀] S1x1x16.size hb).exists_idx_of_mem hk
      have e1 : r.val + 1 * (y 1).val = t.val := congrArg Fin.val (congrFun hy 1)
      have e2 : x₀ + 1 * (y 2).val = x.val := congrArg Fin.val (congrFun hy 2)
      have l1 : (y 1).val < 1 := (y 1).isLt
      have l2 : (y 2).val < 16 := (y 2).isLt
      exact ht ⟨Fin.ext (by omega), by omega, by omega⟩), hf]
    unfold mixed
    refine if_congr ?_ rfl rfl
    constructor
    · rintro (h | ⟨h, h'⟩)
      · exact Or.inl h
      · exact Or.inr ⟨h, by omega⟩
    · rintro (h | ⟨h, h'⟩)
      · exact Or.inl h
      · refine Or.inr ⟨h, ?_⟩
        by_contra hn
        exact ht ⟨Fin.ext h, by omega, h'⟩

end Loads

end Cert.Proof

end
-- ==== Proof.RowSum.lean ====
/-
  One row's sum, and a chunk's: the token row plus the instruction row plus the argument row, column by column.
-/
module

public import proofs.«01_k».proof.Proof.Rows

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (i : grid0.Coords)

abbrev row6 (t : Fin k0_t6_loop.trips) : Fin 128 := ⟨t.val, lt_of_lt_of_eq t.isLt trips6⟩

theorem cast16_ix (v : Vec F S1x1x16 .f32) (x : Fin 16) : cast16 v (ix1 x) = v (ix3 0 0 x) :=
  congrArg v (by revert x; decide +kernel)
theorem cast1_ix (v : FVec F S16 .f32) (x : Fin 16) : cast1 v (ix3 0 0 x) = v (ix1 x) :=
  congrArg v (by revert x; decide +kernel)

theorem cast16_at {v : Vec F S1x1x16 .f32} {w : Fin 16 → F .f32} (h : ∀ x : Fin 16, v (ix3 0 0 x) = w x) (x : Fin 16) :
    cast16 v (ix1 x) = w x := (cast16_ix v x).trans (h x)

/-- A column not yet summed still holds the token row. -/
theorem mixed_at {Vv R : ℕ → ℕ → F .f32} {t n x₀ : ℕ} {v : Vec F S1x1x16 .f32}
    (h : ∀ x : Fin 16, v (ix3 0 0 x) = mixed Vv R t n t (x₀ + x.val)) (hn : n ≤ x₀) (x : Fin 16) : v (ix3 0 0 x) = Vv t (x₀ + x.val) := by
  rw [h]; unfold mixed; rw [if_neg]; omega

theorem mixed_full (Vv R : ℕ → ℕ → F .f32) (t : ℕ) (h : ∀ t' x, 128 ≤ x → Vv t' x = R t' x) : mixed Vv R t 128 = mixed Vv R (t + 1) 0 := by
  funext t' x
  unfold mixed
  by_cases hx : x < 128
  · refine if_congr ?_ rfl rfl; omega
  · rw [h t' x (by omega)]; simp

/-- Sixteen lanes of the sum. -/
theorem sum_at {R : ℕ → ℕ → F .f32} {t : ℕ} {A B C : ℕ → F .f32} (x₀ : ℕ) (hx : x₀ + 16 ≤ 128)
    (hR : ∀ x, x < 128 → R t x = FloatOps.addf (FloatOps.addf (A x) (B x)) (C x)) {a b e : FVec F S16 .f32}
    (ha : ∀ x : Fin 16, a (ix1 x) = A (x₀ + x.val)) (hb : ∀ x : Fin 16, b (ix1 x) = B (x₀ + x.val)) (he : ∀ x : Fin 16, e (ix1 x) = C (x₀ + x.val))
    (x : Fin 16) : cast1 (addf (addf a b) e) (ix3 0 0 x) = R t (x₀ + x.val) := by
  rw [cast1_ix, hR _ (by omega)]
  show FloatOps.addf (FloatOps.addf (a (ix1 x)) (b (ix1 x))) (e (ix1 x)) = _
  rw [ha, hb, he]

theorem ofs_iv {I : ℕ → F .f32} {iv : Fin 8 → Vec F S16 .f32} (hiv : ∀ (h : Fin 8) (x : Fin 16), iv h (ix1 x) = I (16 * h.val + x.val)) (h : Fin 8)
    (x : Fin 16) : iv h (ix1 x) = I (16 * h.val + x.val) := hiv h x

variable (defs : Defs nD τ sig (Elt F) Λ₀) (𝒱 : Variants) (bd : Option 𝒱.V)

/-- A program that has returned has nothing left to show. -/
theorem wp_done {Q : Unit → sProp (RM F)} :
    Q () ⊢ wp frame (wpE defs 𝒱 (thr d i) bd) Set.univ ((Prog.ret PUnit.unit).bind fun _ => (Pure.pure PUnit.unit : TP F i PUnit)) Q := by
  show _ ⊢ wp _ _ _ (Pure.pure PUnit.unit) _
  rw [wp_pure]
  exact fupd_intro

/-- A row of the fast sum. -/
theorem wp_rowFast (p : Fin 2) (ns ba : BitVec 32) (hba : ba.toNat < 3969) (hw : chkCA p ns ba) (hc : cnd ns = 1#1) (iv : Fin 8 → Vec F S16 .f32)
    (t : Fin k0_t6_loop.trips) (Vv R A : ℕ → ℕ → F .f32) (I : ℕ → F .f32)
    (hiv : ∀ (h : Fin 8) (x : Fin 16), iv h (ix1 x) = I (16 * h.val + x.val))
    (hR : ∀ x, x < 128 → R t.val x = FloatOps.addf (FloatOps.addf (Vv t.val x) (I x)) (A (t.val + (ba.toNat - (lo8 3960#32 ba).toNat)) x))
    {Q : Unit → sProp (RM F)} :
    iprop(tbHas d i p (mixed Vv R t.val 0) ∗ abHas d i p 136 A)
      ⊢ iprop((iprop(tbHas d i p (mixed Vv R t.val 128) ∗ abHas d i p 136 A) -∗ Q ())
        -∗ wp frame (wpE defs 𝒱 (thr d i) bd) Set.univ (rowFast i p ns ba hw hc iv t) Q) := by
  have hro : t.val + (ba.toNat - (lo8 3960#32 ba).toNat) < 136 := by
    have := loA' hba; have := lt_of_lt_of_eq t.isLt trips6; omega
  unfold rowFast
  iintro ⟨Ht, Ha⟩ Hk
  iapply (wp_ld_tb d i defs 𝒱 bd p _ (row6 t) 0 (offTv_eq _ _ t)) $$ Ht
  iintro %t0 %et0 Ht
  iapply (wp_ld_tb d i defs 𝒱 bd p _ (row6 t) 16 (offTv_eq _ _ t)) $$ Ht
  iintro %t1 %et1 Ht
  iapply (wp_ld_tb d i defs 𝒱 bd p _ (row6 t) 32 (offTv_eq _ _ t)) $$ Ht
  iintro %t2 %et2 Ht
  iapply (wp_ld_tb d i defs 𝒱 bd p _ (row6 t) 48 (offTv_eq _ _ t)) $$ Ht
  iintro %t3 %et3 Ht
  iapply (wp_ld_tb d i defs 𝒱 bd p _ (row6 t) 64 (offTv_eq _ _ t)) $$ Ht
  iintro %t4 %et4 Ht
  iapply (wp_ld_tb d i defs 𝒱 bd p _ (row6 t) 80 (offTv_eq _ _ t)) $$ Ht
  iintro %t5 %et5 Ht
  iapply (wp_ld_tb d i defs 𝒱 bd p _ (row6 t) 96 (offTv_eq _ _ t)) $$ Ht
  iintro %t6 %et6 Ht
  iapply (wp_ld_tb d i defs 𝒱 bd p _ (row6 t) 112 (offTv_eq _ _ t)) $$ Ht
  iintro %t7 %et7 Ht
  iapply (wp_ld_ab d i defs 𝒱 bd p 136 A (t.val + (ba.toNat - (lo8 3960#32 ba).toNat)) hro 0 (offAv_eq _ _ hba t)) $$ Ha
  iintro %a0 %ea0 Ha
  iapply (wp_ld_ab d i defs 𝒱 bd p 136 A (t.val + (ba.toNat - (lo8 3960#32 ba).toNat)) hro 16 (offAv_eq _ _ hba t)) $$ Ha
  iintro %a1 %ea1 Ha
  iapply (wp_ld_ab d i defs 𝒱 bd p 136 A (t.val + (ba.toNat - (lo8 3960#32 ba).toNat)) hro 32 (offAv_eq _ _ hba t)) $$ Ha
  iintro %a2 %ea2 Ha
  iapply (wp_ld_ab d i defs 𝒱 bd p 136 A (t.val + (ba.toNat - (lo8 3960#32 ba).toNat)) hro 48 (offAv_eq _ _ hba t)) $$ Ha
  iintro %a3 %ea3 Ha
  iapply (wp_ld_ab d i defs 𝒱 bd p 136 A (t.val + (ba.toNat - (lo8 3960#32 ba).toNat)) hro 64 (offAv_eq _ _ hba t)) $$ Ha
  iintro %a4 %ea4 Ha
  iapply (wp_ld_ab d i defs 𝒱 bd p 136 A (t.val + (ba.toNat - (lo8 3960#32 ba).toNat)) hro 80 (offAv_eq _ _ hba t)) $$ Ha
  iintro %a5 %ea5 Ha
  iapply (wp_ld_ab d i defs 𝒱 bd p 136 A (t.val + (ba.toNat - (lo8 3960#32 ba).toNat)) hro 96 (offAv_eq _ _ hba t)) $$ Ha
  iintro %a6 %ea6 Ha
  iapply (wp_ld_ab d i defs 𝒱 bd p 136 A (t.val + (ba.toNat - (lo8 3960#32 ba).toNat)) hro 112 (offAv_eq _ _ hba t)) $$ Ha
  iintro %a7 %ea7 Ha
  iapply (wp_ld_tb d i defs 𝒱 bd p _ (row6 t) 0 (offTv_eq _ _ t)) $$ Ht
  iintro %d0 %ed0 Ht
  iapply (wp_st_tb d i defs 𝒱 bd p Vv R (row6 t) 0 (offTv_eq _ _ t) _ (sum_at (0) (by decide) hR (cast16_at (mixed_at et0 (by decide))) (ofs_iv hiv 0) (cast16_at ea0))) $$ Ht
  iintro Ht
  iapply (wp_ld_tb d i defs 𝒱 bd p _ (row6 t) 16 (offTv_eq _ _ t)) $$ Ht
  iintro %d1 %ed1 Ht
  iapply (wp_st_tb d i defs 𝒱 bd p Vv R (row6 t) 16 (offTv_eq _ _ t) _ (sum_at (16) (by decide) hR (cast16_at (mixed_at et1 (by decide))) (ofs_iv hiv 1) (cast16_at ea1))) $$ Ht
  iintro Ht
  iapply (wp_ld_tb d i defs 𝒱 bd p _ (row6 t) 32 (offTv_eq _ _ t)) $$ Ht
  iintro %d2 %ed2 Ht
  iapply (wp_st_tb d i defs 𝒱 bd p Vv R (row6 t) 32 (offTv_eq _ _ t) _ (sum_at (32) (by decide) hR (cast16_at (mixed_at et2 (by decide))) (ofs_iv hiv 2) (cast16_at ea2))) $$ Ht
  iintro Ht
  iapply (wp_ld_tb d i defs 𝒱 bd p _ (row6 t) 48 (offTv_eq _ _ t)) $$ Ht
  iintro %d3 %ed3 Ht
  iapply (wp_st_tb d i defs 𝒱 bd p Vv R (row6 t) 48 (offTv_eq _ _ t) _ (sum_at (48) (by decide) hR (cast16_at (mixed_at et3 (by decide))) (ofs_iv hiv 3) (cast16_at ea3))) $$ Ht
  iintro Ht
  iapply (wp_ld_tb d i defs 𝒱 bd p _ (row6 t) 64 (offTv_eq _ _ t)) $$ Ht
  iintro %d4 %ed4 Ht
  iapply (wp_st_tb d i defs 𝒱 bd p Vv R (row6 t) 64 (offTv_eq _ _ t) _ (sum_at (64) (by decide) hR (cast16_at (mixed_at et4 (by decide))) (ofs_iv hiv 4) (cast16_at ea4))) $$ Ht
  iintro Ht
  iapply (wp_ld_tb d i defs 𝒱 bd p _ (row6 t) 80 (offTv_eq _ _ t)) $$ Ht
  iintro %d5 %ed5 Ht
  iapply (wp_st_tb d i defs 𝒱 bd p Vv R (row6 t) 80 (offTv_eq _ _ t) _ (sum_at (80) (by decide) hR (cast16_at (mixed_at et5 (by decide))) (ofs_iv hiv 5) (cast16_at ea5))) $$ Ht
  iintro Ht
  iapply (wp_ld_tb d i defs 𝒱 bd p _ (row6 t) 96 (offTv_eq _ _ t)) $$ Ht
  iintro %d6 %ed6 Ht
  iapply (wp_st_tb d i defs 𝒱 bd p Vv R (row6 t) 96 (offTv_eq _ _ t) _ (sum_at (96) (by decide) hR (cast16_at (mixed_at et6 (by decide))) (ofs_iv hiv 6) (cast16_at ea6))) $$ Ht
  iintro Ht
  iapply (wp_ld_tb d i defs 𝒱 bd p _ (row6 t) 112 (offTv_eq _ _ t)) $$ Ht
  iintro %d7 %ed7 Ht
  iapply (wp_st_tb d i defs 𝒱 bd p Vv R (row6 t) 112 (offTv_eq _ _ t) _ (sum_at (112) (by decide) hR (cast16_at (mixed_at et7 (by decide))) (ofs_iv hiv 7) (cast16_at ea7))) $$ Ht
  iintro Ht
  iapply wp_done
  iapply Hk
  isplitl [Ht] <;> iassumption

/-- A row of the slow sum. -/
theorem wp_rowSlow (p : Fin 2) (t : Fin k0_t6_loop.trips) (Vv R A I : ℕ → ℕ → F .f32)
    (hR : ∀ x, x < 128 → R t.val x = FloatOps.addf (FloatOps.addf (Vv t.val x) (I t.val x)) (A t.val x))
    {Q : Unit → sProp (RM F)} :
    iprop(tbHas d i p (mixed Vv R t.val 0) ∗ ibHas d i p 128 I ∗ abHas d i p 128 A)
      ⊢ iprop((iprop(tbHas d i p (mixed Vv R t.val 128) ∗ ibHas d i p 128 I ∗ abHas d i p 128 A) -∗ Q ())
        -∗ wp frame (wpE defs 𝒱 (thr d i) bd) Set.univ (rowSlow i p t) Q) := by
  have ht : t.val < 128 := lt_of_lt_of_eq t.isLt trips6
  unfold rowSlow
  iintro ⟨Ht, Hu, Ha⟩ Hk
  iapply (wp_ld_tb d i defs 𝒱 bd p _ (row6 t) 0 (offTv_eq _ _ t)) $$ Ht
  iintro %t0 %et0 Ht
  iapply (wp_ld_tb d i defs 𝒱 bd p _ (row6 t) 16 (offTv_eq _ _ t)) $$ Ht
  iintro %t1 %et1 Ht
  iapply (wp_ld_tb d i defs 𝒱 bd p _ (row6 t) 32 (offTv_eq _ _ t)) $$ Ht
  iintro %t2 %et2 Ht
  iapply (wp_ld_tb d i defs 𝒱 bd p _ (row6 t) 48 (offTv_eq _ _ t)) $$ Ht
  iintro %t3 %et3 Ht
  iapply (wp_ld_tb d i defs 𝒱 bd p _ (row6 t) 64 (offTv_eq _ _ t)) $$ Ht
  iintro %t4 %et4 Ht
  iapply (wp_ld_tb d i defs 𝒱 bd p _ (row6 t) 80 (offTv_eq _ _ t)) $$ Ht
  iintro %t5 %et5 Ht
  iapply (wp_ld_tb d i defs 𝒱 bd p _ (row6 t) 96 (offTv_eq _ _ t)) $$ Ht
  iintro %t6 %et6 Ht
  iapply (wp_ld_tb d i defs 𝒱 bd p _ (row6 t) 112 (offTv_eq _ _ t)) $$ Ht
  iintro %t7 %et7 Ht
  iapply (wp_ld_ib d i defs 𝒱 bd p 128 I (row6 t) ht 0 (offTv_eq _ _ t)) $$ Hu
  iintro %u0 %eu0 Hu
  iapply (wp_ld_ib d i defs 𝒱 bd p 128 I (row6 t) ht 16 (offTv_eq _ _ t)) $$ Hu
  iintro %u1 %eu1 Hu
  iapply (wp_ld_ib d i defs 𝒱 bd p 128 I (row6 t) ht 32 (offTv_eq _ _ t)) $$ Hu
  iintro %u2 %eu2 Hu
  iapply (wp_ld_ib d i defs 𝒱 bd p 128 I (row6 t) ht 48 (offTv_eq _ _ t)) $$ Hu
  iintro %u3 %eu3 Hu
  iapply (wp_ld_ib d i defs 𝒱 bd p 128 I (row6 t) ht 64 (offTv_eq _ _ t)) $$ Hu
  iintro %u4 %eu4 Hu
  iapply (wp_ld_ib d i defs 𝒱 bd p 128 I (row6 t) ht 80 (offTv_eq _ _ t)) $$ Hu
  iintro %u5 %eu5 Hu
  iapply (wp_ld_ib d i defs 𝒱 bd p 128 I (row6 t) ht 96 (offTv_eq _ _ t)) $$ Hu
  iintro %u6 %eu6 Hu
  iapply (wp_ld_ib d i defs 𝒱 bd p 128 I (row6 t) ht 112 (offTv_eq _ _ t)) $$ Hu
  iintro %u7 %eu7 Hu
  iapply (wp_ld_ab d i defs 𝒱 bd p 128 A t.val ht 0 (offTv_eq _ _ t)) $$ Ha
  iintro %a0 %ea0 Ha
  iapply (wp_ld_ab d i defs 𝒱 bd p 128 A t.val ht 16 (offTv_eq _ _ t)) $$ Ha
  iintro %a1 %ea1 Ha
  iapply (wp_ld_ab d i defs 𝒱 bd p 128 A t.val ht 32 (offTv_eq _ _ t)) $$ Ha
  iintro %a2 %ea2 Ha
  iapply (wp_ld_ab d i defs 𝒱 bd p 128 A t.val ht 48 (offTv_eq _ _ t)) $$ Ha
  iintro %a3 %ea3 Ha
  iapply (wp_ld_ab d i defs 𝒱 bd p 128 A t.val ht 64 (offTv_eq _ _ t)) $$ Ha
  iintro %a4 %ea4 Ha
  iapply (wp_ld_ab d i defs 𝒱 bd p 128 A t.val ht 80 (offTv_eq _ _ t)) $$ Ha
  iintro %a5 %ea5 Ha
  iapply (wp_ld_ab d i defs 𝒱 bd p 128 A t.val ht 96 (offTv_eq _ _ t)) $$ Ha
  iintro %a6 %ea6 Ha
  iapply (wp_ld_ab d i defs 𝒱 bd p 128 A t.val ht 112 (offTv_eq _ _ t)) $$ Ha
  iintro %a7 %ea7 Ha
  iapply (wp_ld_tb d i defs 𝒱 bd p _ (row6 t) 0 (offTv_eq _ _ t)) $$ Ht
  iintro %d0 %ed0 Ht
  iapply (wp_st_tb d i defs 𝒱 bd p Vv R (row6 t) 0 (offTv_eq _ _ t) _ (sum_at (0) (by decide) hR (cast16_at (mixed_at et0 (by decide))) (cast16_at eu0) (cast16_at ea0))) $$ Ht
  iintro Ht
  iapply (wp_ld_tb d i defs 𝒱 bd p _ (row6 t) 16 (offTv_eq _ _ t)) $$ Ht
  iintro %d1 %ed1 Ht
  iapply (wp_st_tb d i defs 𝒱 bd p Vv R (row6 t) 16 (offTv_eq _ _ t) _ (sum_at (16) (by decide) hR (cast16_at (mixed_at et1 (by decide))) (cast16_at eu1) (cast16_at ea1))) $$ Ht
  iintro Ht
  iapply (wp_ld_tb d i defs 𝒱 bd p _ (row6 t) 32 (offTv_eq _ _ t)) $$ Ht
  iintro %d2 %ed2 Ht
  iapply (wp_st_tb d i defs 𝒱 bd p Vv R (row6 t) 32 (offTv_eq _ _ t) _ (sum_at (32) (by decide) hR (cast16_at (mixed_at et2 (by decide))) (cast16_at eu2) (cast16_at ea2))) $$ Ht
  iintro Ht
  iapply (wp_ld_tb d i defs 𝒱 bd p _ (row6 t) 48 (offTv_eq _ _ t)) $$ Ht
  iintro %d3 %ed3 Ht
  iapply (wp_st_tb d i defs 𝒱 bd p Vv R (row6 t) 48 (offTv_eq _ _ t) _ (sum_at (48) (by decide) hR (cast16_at (mixed_at et3 (by decide))) (cast16_at eu3) (cast16_at ea3))) $$ Ht
  iintro Ht
  iapply (wp_ld_tb d i defs 𝒱 bd p _ (row6 t) 64 (offTv_eq _ _ t)) $$ Ht
  iintro %d4 %ed4 Ht
  iapply (wp_st_tb d i defs 𝒱 bd p Vv R (row6 t) 64 (offTv_eq _ _ t) _ (sum_at (64) (by decide) hR (cast16_at (mixed_at et4 (by decide))) (cast16_at eu4) (cast16_at ea4))) $$ Ht
  iintro Ht
  iapply (wp_ld_tb d i defs 𝒱 bd p _ (row6 t) 80 (offTv_eq _ _ t)) $$ Ht
  iintro %d5 %ed5 Ht
  iapply (wp_st_tb d i defs 𝒱 bd p Vv R (row6 t) 80 (offTv_eq _ _ t) _ (sum_at (80) (by decide) hR (cast16_at (mixed_at et5 (by decide))) (cast16_at eu5) (cast16_at ea5))) $$ Ht
  iintro Ht
  iapply (wp_ld_tb d i defs 𝒱 bd p _ (row6 t) 96 (offTv_eq _ _ t)) $$ Ht
  iintro %d6 %ed6 Ht
  iapply (wp_st_tb d i defs 𝒱 bd p Vv R (row6 t) 96 (offTv_eq _ _ t) _ (sum_at (96) (by decide) hR (cast16_at (mixed_at et6 (by decide))) (cast16_at eu6) (cast16_at ea6))) $$ Ht
  iintro Ht
  iapply (wp_ld_tb d i defs 𝒱 bd p _ (row6 t) 112 (offTv_eq _ _ t)) $$ Ht
  iintro %d7 %ed7 Ht
  iapply (wp_st_tb d i defs 𝒱 bd p Vv R (row6 t) 112 (offTv_eq _ _ t) _ (sum_at (112) (by decide) hR (cast16_at (mixed_at et7 (by decide))) (cast16_at eu7) (cast16_at ea7))) $$ Ht
  iintro Ht
  iapply wp_done
  iapply Hk
  isplitl [Ht]; · iexact Ht
  isplitl [Hu] <;> iassumption

end Cert.Proof

end
-- ==== Proof.RowLoop.lean ====
/-
  A chunk's sum: the loop over its 128 rows.
-/
module

public import proofs.«01_k».proof.Proof.RowSum

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (i : grid0.Coords)

theorem tbHas_congr {p : Fin 2} {g g' : ℕ → ℕ → F .f32} (h : ∀ t x, t < 128 → x < 128 → g t x = g' t x) : tbHas d i p g ⊢ tbHas d i p g' := by
  unfold tbHas
  iintro ⟨%f, %hf, H⟩
  iexists f
  isplitr
  · ipureintro; intro t x; rw [hf]; exact h _ _ t.isLt x.isLt
  iexact H

theorem tbHas_start {p : Fin 2} {V R : ℕ → ℕ → F .f32} : tbHas d i p V ⊢ tbHas d i p (mixed V R 0 0) :=
  tbHas_congr d i fun t x _ _ => by unfold mixed; rw [if_neg]; omega
theorem tbHas_next {p : Fin 2} {V R : ℕ → ℕ → F .f32} {t : ℕ} : tbHas d i p (mixed V R t 128) ⊢ tbHas d i p (mixed V R (t + 1) 0) :=
  tbHas_congr d i fun t' x _ hx => by unfold mixed; refine if_congr ?_ rfl rfl; omega
theorem tbHas_end {p : Fin 2} {V R : ℕ → ℕ → F .f32} {n : ℕ} (hn : n = 128) : tbHas d i p (mixed V R n 0) ⊢ tbHas d i p R :=
  tbHas_congr d i fun t' x ht _ => by unfold mixed; rw [if_pos]; omega

variable (defs : Defs nD τ sig (Elt F) Λ₀) (𝒱 : Variants) (bd : Option 𝒱.V) {α : Type} {Q : α → sProp (RM F)}

/-- The sum of a chunk without starts. -/
theorem wp_loopFast (p : Fin 2) (ns ba : BitVec 32) (hba : ba.toNat < 3969) (hw : chkCA p ns ba) (hc : cnd ns = 1#1) (iv : Fin 8 → Vec F S16 .f32)
    (V R A : ℕ → ℕ → F .f32) (I : ℕ → F .f32)
    (hiv : ∀ (h : Fin 8) (x : Fin 16), iv h (ix1 x) = I (16 * h.val + x.val))
    (hR : ∀ t x, t < 128 → x < 128 → R t x = FloatOps.addf (FloatOps.addf (V t x) (I x)) (A (t + (ba.toNat - (lo8 3960#32 ba).toNat)) x))
    {k : Unit → TP F i α} :
    iprop(tbHas d i p V ∗ abHas d i p 136 A)
      ⊢ iprop((iprop(tbHas d i p R ∗ abHas d i p 136 A) -∗ wp frame (wpE defs 𝒱 (thr d i) bd) Set.univ (k ⟨⟩) Q)
        -∗ wp frame (wpE defs 𝒱 (thr d i) bd) Set.univ (Scf.Loop.for k0_t6_loop row_ok ⟨⟩ (fun t _ => rowFast i p ns ba hw hc iv t) >>= k) Q) := by
  iintro ⟨Ht, Ha⟩ Hk
  iapply (Scf.wp_for_bind frame (wpE defs 𝒱 (thr d i) bd) Set.univ _ _ _ row_ok () (fun t _ => rowFast i p ns ba hw hc iv t)
    (fun n _ => iprop(tbHas d i p (mixed V R n 0) ∗ abHas d i p 136 A)) (fun t _ => by
      iintro H
      iapply (wp_rowFast d i defs 𝒱 bd p ns ba hba hw hc iv t V R A I hiv (fun x hx => hR t.val x (lt_of_lt_of_eq t.isLt trips6) hx)) $$ H
      iintro ⟨Ht, Ha⟩
      isplitl [Ht]
      · iapply (tbHas_next d i); iexact Ht
      iexact Ha)) $$ [Ht Ha]
  · isplitl [Ht]
    · iapply (tbHas_start d i); iexact Ht
    iexact Ha
  iintro %u ⟨Ht, Ha⟩
  iapply Hk
  isplitl [Ht]
  · iapply (tbHas_end d i (n := k0_t6_loop.trips) trips6); iexact Ht
  iexact Ha

/-- The sum of a chunk with starts. -/
theorem wp_loopSlow (p : Fin 2) (V R A I : ℕ → ℕ → F .f32)
    (hR : ∀ t x, t < 128 → x < 128 → R t x = FloatOps.addf (FloatOps.addf (V t x) (I t x)) (A t x))
    {k : Unit → TP F i α} :
    iprop(tbHas d i p V ∗ ibHas d i p 128 I ∗ abHas d i p 128 A)
      ⊢ iprop((iprop(tbHas d i p R ∗ ibHas d i p 128 I ∗ abHas d i p 128 A) -∗ wp frame (wpE defs 𝒱 (thr d i) bd) Set.univ (k ⟨⟩) Q)
        -∗ wp frame (wpE defs 𝒱 (thr d i) bd) Set.univ (Scf.Loop.for k0_t6_loop row_ok ⟨⟩ (fun t _ => rowSlow i p t) >>= k) Q) := by
  iintro ⟨Ht, Ha⟩ Hk
  iapply (Scf.wp_for_bind frame (wpE defs 𝒱 (thr d i) bd) Set.univ _ _ _ row_ok () (fun t _ => rowSlow i p t)
    (fun n _ => iprop(tbHas d i p (mixed V R n 0) ∗ ibHas d i p 128 I ∗ abHas d i p 128 A)) (fun t _ => by
      iintro H
      iapply (wp_rowSlow d i defs 𝒱 bd p t V R A I (fun x hx => hR t.val x (lt_of_lt_of_eq t.isLt trips6) hx)) $$ H
      iintro ⟨Ht, Ha⟩
      isplitl [Ht]
      · iapply (tbHas_next d i); iexact Ht
      iexact Ha)) $$ [Ht Ha]
  · isplitl [Ht]
    · iapply (tbHas_start d i); iexact Ht
    iexact Ha
  iintro %u ⟨Ht, Ha⟩
  iapply Hk
  isplitl [Ht]
  · iapply (tbHas_end d i (n := k0_t6_loop.trips) trips6); iexact Ht
  iexact Ha

end Cert.Proof

end
-- ==== Proof.SlotView.lean ====
/-
  The slots and the copies' other ends, element by element.
-/
module

public import proofs.«01_k».proof.Proof.RowLoop

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the views' elements lie -/

theorem emb2 {A B a b : ℕ} {o : Fin 2 → ℕ} {h : ∀ i, o i + (⟨2, ![a, b]⟩ : Shape).size i ≤ (⟨2, ![A, B]⟩ : Shape).size i}
    (x : Fin a) (y : Fin b) (h0 : o 0 + x.val < A) (h1 : o 1 + y.val < B) :
    (Rect.unit (s := ⟨2, ![A, B]⟩) o (⟨2, ![a, b]⟩ : Shape).size h).emb (ix2 x y) = ix2 (n0 := A) (n1 := B) ⟨o 0 + x.val, h0⟩ ⟨o 1 + y.val, h1⟩ := by
  funext i
  fin_cases i
  · exact Fin.ext (show o 0 + 1 * x.val = _ by simp)
  · exact Fin.ext (show o 1 + 1 * y.val = _ by simp)

theorem emb1 {A a : ℕ} {o : Fin 1 → ℕ} {h : ∀ i, o i + (⟨1, ![a]⟩ : Shape).size i ≤ (⟨1, ![A]⟩ : Shape).size i}
    (x : Fin a) (h0 : o 0 + x.val < A) :
    (Rect.unit (s := ⟨1, ![A]⟩) o (⟨1, ![a]⟩ : Shape).size h).emb (ix1 x) = ix1 (n := A) ⟨o 0 + x.val, h0⟩ := by
  funext i
  fin_cases i
  exact Fin.ext (show o 0 + 1 * x.val = _ by simp)

theorem ix2_eq {a b : ℕ} {x x' : Fin a} {y y' : Fin b} (hx : x.val = x'.val) (hy : y.val = y'.val) : (ix2 x y : (⟨2, ![a, b]⟩ : Shape).Idx) = ix2 x' y' := by
  rw [Fin.ext hx, Fin.ext hy]
theorem ix3_eq {a b c : ℕ} {x x' : Fin a} {y y' : Fin b} {z z' : Fin c} (hx : x.val = x'.val) (hy : y.val = y'.val) (hz : z.val = z'.val) :
    (ix3 x y z : (⟨3, ![a, b, c]⟩ : Shape).Idx) = ix3 x' y' z' := by
  rw [Fin.ext hx, Fin.ext hy, Fin.ext hz]

theorem emb_tb (p : Fin 2) (t x : Fin 128) : (tbS p).view.emb (ix2 t x) = (ix3 p t x : S2x128x128.Idx) := by
  show (Rect.unit (s := S2x128x128) ![p.val, 0, 0] S1x128x128.size (inb_slot p)).emb (Shape.reshapeEquiv _ (ix2 t x)) = _
  rw [reshapeEquiv_ix2_1ab]
  refine (emb3 (h := inb_slot p) (⟨0, Nat.one_pos⟩ : Fin 1) t x (by show p.val + 0 < 2; omega) (by show 0 + t.val < 128; omega) (by show 0 + x.val < 128; omega)).trans ?_
  exact ix3_eq (show p.val + 0 = p.val by omega) (show 0 + t.val = t.val by omega) (show 0 + x.val = x.val by omega)
theorem emb_ib (p : Fin 2) (t x : Fin 128) : (ibS p).view.emb (ix2 t x) = (ix3 p t x : S2x128x128.Idx) := emb_tb p t x
theorem emb_ab (p : Fin 2) (t : Fin 136) (x : Fin 128) : (abS p).view.emb (ix2 t x) = (ix3 p t x : S2x136x128.Idx) := by
  show (Rect.unit (s := S2x136x128) ![p.val, 0, 0] S1x136x128.size (inb_slotA p)).emb (Shape.reshapeEquiv _ (ix2 t x)) = _
  rw [reshapeEquiv_ix2_1ab]
  refine (emb3 (h := inb_slotA p) (⟨0, Nat.one_pos⟩ : Fin 1) t x (by show p.val + 0 < 2; omega) (by show 0 + t.val < 136; omega) (by show 0 + x.val < 128; omega)).trans ?_
  exact ix3_eq (show p.val + 0 = p.val by omega) (show 0 + t.val = t.val by omega) (show 0 + x.val = x.val by omega)
theorem emb_ib8 (p : Fin 2) (t : Fin 8) (x : Fin 128) : (ibS8 p).view.emb (ix2 t x) = (ix3 p ⟨t.val, by omega⟩ x : S2x128x128.Idx) := by
  refine Eq.trans ?_ (emb_ib p ⟨t.val, by omega⟩ x)
  refine congrArg (ibS p).view.emb ((emb2 (h := inb_S128x128_S8x128_0_0) t x (by show 0 + t.val < 128; omega) (by show 0 + x.val < 128; omega)).trans ?_)
  exact ix2_eq (show 0 + t.val = t.val by omega) (show 0 + x.val = x.val by omega)
theorem emb_ib128 (p : Fin 2) (t x : Fin 128) : (ibS128 p).view.emb (ix2 t x) = (ix3 p t x : S2x128x128.Idx) := by
  refine Eq.trans ?_ (emb_ib p t x)
  refine congrArg (ibS p).view.emb ((emb2 (h := inb_S128x128_S128x128_0_0) t x (by show 0 + t.val < 128; omega) (by show 0 + x.val < 128; omega)).trans ?_)
  exact ix2_eq (show 0 + t.val = t.val by omega) (show 0 + x.val = x.val by omega)
theorem emb_ab128 (p : Fin 2) (t x : Fin 128) : (abS128 p).view.emb (ix2 t x) = (ix3 p ⟨t.val, by omega⟩ x : S2x136x128.Idx) := by
  refine Eq.trans ?_ (emb_ab p ⟨t.val, by omega⟩ x)
  refine congrArg (abS p).view.emb ((emb2 (h := inb_S136x128_S128x128_0_0) t x (by show 0 + t.val < 136; omega) (by show 0 + x.val < 128; omega)).trans ?_)
  exact ix2_eq (show 0 + t.val = t.val by omega) (show 0 + x.val = x.val by omega)

/-- A view whose elements all lie in a set covers no more than that set. -/
theorem set_sub {κ : Kind} {sp : Space} {a b : ℕ} {e : EltTy} (v : View sig κ sp (⟨2, ![a, b]⟩ : Shape) e) (S : Finset v.ty.Idx)
    (h : ∀ (t : Fin a) (x : Fin b), v.emb (ix2 t x) ∈ S) : v.set ⊆ S := by
  intro k hk
  obtain ⟨y, -, rfl⟩ := Finset.mem_map.mp hk
  rw [eq_ix2 y]; exact h _ _

theorem mem_slT (p : Fin 2) (t x : Fin 128) : (ix3 p t x : S2x128x128.Idx) ∈ slT p := Finset.mem_filter.mpr ⟨Finset.mem_univ _, rfl⟩
theorem mem_slA (p : Fin 2) (t : Fin 136) (x : Fin 128) : (ix3 p t x : S2x136x128.Idx) ∈ slA p := Finset.mem_filter.mpr ⟨Finset.mem_univ _, rfl⟩

theorem sub_tb (p : Fin 2) : (tbS p).view.set ⊆ slT p := set_sub _ _ fun t x => by rw [emb_tb]; exact mem_slT p t x
theorem sub_ib8 (p : Fin 2) : (ibS8 p).view.set ⊆ slT p := set_sub _ _ fun t x => by rw [emb_ib8]; exact mem_slT p _ x
theorem sub_ib128 (p : Fin 2) : (ibS128 p).view.set ⊆ slT p := set_sub _ _ fun t x => by rw [emb_ib128]; exact mem_slT p t x
theorem sub_ab (p : Fin 2) : (abS p).view.set ⊆ slA p := set_sub _ _ fun t x => by rw [emb_ab]; exact mem_slA p t x
theorem sub_ab128 (p : Fin 2) : (abS128 p).view.set ⊆ slA p := set_sub _ _ fun t x => by rw [emb_ab128]; exact mem_slA p _ x

/-! ## What the copies bring -/

/-- Row `r`, column `x` of a table. -/
def tkR (f : S100000x128.Idx → F .f32) (r x : ℕ) : F .f32 := f (ix2 (Fin.ofNat 100000 r) (Fin.ofNat 128 x))
def inR (f : S4096x128.Idx → F .f32) (r x : ℕ) : F .f32 := f (ix2 (Fin.ofNat 4096 r) (Fin.ofNat 128 x))
/-- Entry `t` of chunk `j`'s part of a list. -/
def lsR (f : S2048.Idx → BitVec 32) (j t : ℕ) : ℕ := (f (ix1 (Fin.ofNat 2048 (128 * j + t)))).toNat

theorem tkR_ix (f : S100000x128.Idx → F .f32) {r : ℕ} (hr : r < 100000) (x : Fin 128) : f (ix2 ⟨r, hr⟩ x) = tkR f r x.val :=
  congrArg f (ix2_eq (Nat.mod_eq_of_lt hr).symm (Nat.mod_eq_of_lt x.isLt).symm)
theorem inR_ix (f : S4096x128.Idx → F .f32) {r : ℕ} (hr : r < 4096) (x : Fin 128) : f (ix2 ⟨r, hr⟩ x) = inR f r x.val :=
  congrArg f (ix2_eq (Nat.mod_eq_of_lt hr).symm (Nat.mod_eq_of_lt x.isLt).symm)

theorem rows_lsJ (f : S2048.Idx → BitVec 32) (j : Fin 16) (g : (S128 : Shape).Idx → Elt F .i32) {z : ℕ}
    (hg : ∀ t : Fin 128, g (ix1 t) = f (ix1 (Fin.ofNat 2048 (128 * j.val + t.val)))) (h : ∀ x, (g x).toNat < z) (t : Fin 128) :
    (SparseCore.rows (F := F) g (rfl : S128.numel = 128) h t).val = lsR f j.val t.val := by
  show (g (S128.rowMajor.symm t)).toNat = _
  have e : S128.rowMajor.symm t = ix1 t := by
    refine (Equiv.symm_apply_eq _).mpr ?_
    exact Fin.ext (Shape.rowMajor_val_one (ix1 t)).symm
  rw [e, hg]; rfl

theorem lsJ_word (f : S2048.Idx → BitVec 32) (j : Fin 16) (t : Fin 128) :
    f ((Rect.unit (s := S2048) ![128 * j.val] S128.size (inb_list j)).emb (ix1 t)) = f (ix1 (Fin.ofNat 2048 (128 * j.val + t.val))) := by
  refine congrArg f ((emb1 (h := inb_list j) t (by show 128 * j.val + t.val < 2048; omega)).trans ?_)
  refine congrArg ix1 (Fin.ext ?_)
  show 128 * j.val + t.val = (128 * j.val + t.val) % 2048
  omega

theorem lsJ_lt {P : ℕ → Prop} (f : S2048.Idx → BitVec 32) (j : Fin 16) (h : ∀ t : Fin 128, P (lsR f j.val t.val)) (x : S128.Idx) :
    P (f ((Rect.unit (s := S2048) ![128 * j.val] S128.size (inb_list j)).emb x)).toNat := by
  obtain ⟨t, rfl⟩ : ∃ t : Fin 128, x = ix1 t := ⟨x 0, eq_ix1 x⟩
  rw [lsJ_word f j t]
  exact h t

end Cert.Proof

end
-- ==== Proof.Issue.lean ====
/-
  Starting a chunk in a slot: what is in flight afterwards, and what each flight will deliver.
-/
module

public import proofs.«01_k».proof.Proof.SlotView

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- What a tile works from: the tables, its lists, and its chunks' words. -/
structure TD (F : FTy → Type) where
  tk : S100000x128.Idx → F .f32
  ins : S4096x128.Idx → F .f32
  arg : S4096x128.Idx → F .f32
  sv : S2048.Idx → BitVec 32
  ii : S2048.Idx → BitVec 32
  ai : S2048.Idx → BitVec 32
  ns : S16.Idx → BitVec 32
  ci : S16.Idx → BitVec 32
  ba : S16.Idx → BitVec 32

/-- The lists name rows of the tables; a chunk without starts reads one instruction row and consecutive argument rows. -/
structure Good (Z : TD F) : Prop where
  sv_lt : ∀ (j : Fin 16) (t : Fin 128), lsR Z.sv j.val t.val < 100000
  ii_lt : ∀ (j : Fin 16) (t : Fin 128), lsR Z.ii j.val t.val < 4096
  ai_lt : ∀ (j : Fin 16) (t : Fin 128), lsR Z.ai j.val t.val < 4096
  ci_lt : ∀ j : Fin 16, (Z.ci (ix1 j)).toNat < 4096
  ba_lt : ∀ j : Fin 16, (Z.ba (ix1 j)).toNat < 3969
  flat : ∀ j : Fin 16, Z.ns (ix1 j) = 0#32 → ∀ t : Fin 128, lsR Z.ii j.val t.val = (Z.ci (ix1 j)).toNat ∧ lsR Z.ai j.val t.val = (Z.ba (ix1 j)).toNat + t.val

variable (Z : TD F)

/-- Chunk `j`'s token, instruction and argument rows. -/
def TD.tokG (j : Fin 16) (t x : ℕ) : F .f32 := tkR Z.tk (lsR Z.sv j.val t) x
def TD.insG (j : Fin 16) (t x : ℕ) : F .f32 := inR Z.ins (lsR Z.ii j.val t) x
def TD.argG (j : Fin 16) (t x : ℕ) : F .f32 := inR Z.arg (lsR Z.ai j.val t) x
/-- What the linear copies bring: eight instruction rows, 136 argument rows. -/
def TD.ins8 (j : Fin 16) (t x : ℕ) : F .f32 := inR Z.ins ((lo8 4088#32 (Z.ci (ix1 j))).toNat + t) x
def TD.arg136 (j : Fin 16) (t x : ℕ) : F .f32 := inR Z.arg ((lo8 3960#32 (Z.ba (ix1 j))).toNat + t) x

variable [FloatOps F] (d : Dev nD) (i : grid0.Coords) (qs ql : Fin 2 → PosShare TreeShare)

/-! ## Resources -/

def tbAny (p : Fin 2) : sProp (RM F) := iprop(∃ f : S2x128x128.Idx → F .f32, (tbV).view.loc (thr d i) ↦[slT p]{fullShare} f)
def ibAny (p : Fin 2) : sProp (RM F) := iprop(∃ f : S2x128x128.Idx → F .f32, (ibV).view.loc (thr d i) ↦[slT p]{fullShare} f)
def abAny (p : Fin 2) : sProp (RM F) := iprop(∃ f : S2x136x128.Idx → F .f32, (abV).view.loc (thr d i) ↦[slA p]{fullShare} f)

theorem tbHas_any {p : Fin 2} {g : ℕ → ℕ → F .f32} : tbHas d i p g ⊢ tbAny d i p := by
  unfold tbHas tbAny; iintro ⟨%f, %hf, H⟩; iexists f; iexact H
theorem ibHas_any {p : Fin 2} {n : ℕ} {g : ℕ → ℕ → F .f32} : ibHas d i p n g ⊢ ibAny d i p := by
  unfold ibHas ibAny; iintro ⟨%f, %hf, H⟩; iexists f; iexact H
theorem abHas_any {p : Fin 2} {n : ℕ} {g : ℕ → ℕ → F .f32} : abHas d i p n g ⊢ abAny d i p := by
  unfold abHas abAny; iintro ⟨%f, %hf, H⟩; iexists f; iexact H

/-- Slot `p`'s shares of the tables and of the lists. -/
abbrev tkPt (p : Fin 2) : sProp (RM F) := iprop((tkV).view.loc (thr d i) ↦[Finset.univ]{qs p} Z.tk)
abbrev inPt (p : Fin 2) : sProp (RM F) := iprop((inV).view.loc (thr d i) ↦[Finset.univ]{qs p} Z.ins)
abbrev arPt (p : Fin 2) : sProp (RM F) := iprop((arV).view.loc (thr d i) ↦[Finset.univ]{qs p} Z.arg)
abbrev svPt (p : Fin 2) : sProp (RM F) := iprop((svV).view.loc (thr d i) ↦[Finset.univ]{ql p} Z.sv)
abbrev iiPt (p : Fin 2) : sProp (RM F) := iprop((iiV).view.loc (thr d i) ↦[Finset.univ]{ql p} Z.ii)
abbrev aiPt (p : Fin 2) : sProp (RM F) := iprop((aiV).view.loc (thr d i) ↦[Finset.univ]{ql p} Z.ai)
/-- The semaphore is at zero. -/
abbrev zero (s : DmaSem sig) : sProp (RM F) := iprop(semVal (thr d i, .dma s) 0)

/-- The token gather in flight. -/
def flyT (p : Fin 2) (j : Fin 16) : sProp (RM F) :=
  Fly (thr d i) (semT p) (tbS p).view.dmaCredit iprop(tbHas d i p (Z.tokG j) ∗ tkPt Z d i qs p ∗ svPt Z d i ql p)
/-- The linear copies in flight. -/
def flyI (p : Fin 2) (j : Fin 16) : sProp (RM F) :=
  Fly (thr d i) (semI p) (ibS8 p).view.dmaCredit iprop(ibHas d i p 8 (Z.ins8 j) ∗ inPt Z d i qs p)
def flyA (p : Fin 2) (j : Fin 16) : sProp (RM F) :=
  Fly (thr d i) (semA p) (abS p).view.dmaCredit iprop(abHas d i p 136 (Z.arg136 j) ∗ arPt Z d i qs p)
/-- The indexed copies in flight. -/
def flyGI (p : Fin 2) (j : Fin 16) : sProp (RM F) :=
  Fly (thr d i) (semGI p) (ibS128 p).view.dmaCredit iprop(ibHas d i p 128 (Z.insG j) ∗ inPt Z d i qs p ∗ iiPt Z d i ql p)
def flyGA (p : Fin 2) (j : Fin 16) : sProp (RM F) :=
  Fly (thr d i) (semGA p) (abS128 p).view.dmaCredit iprop(abHas d i p 128 (Z.argG j) ∗ arPt Z d i qs p ∗ aiPt Z d i ql p)

/-! ## The deliveries -/

theorem tkR_fin (f : S100000x128.Idx → F .f32) (r : Fin 100000) (x : Fin 128) : f (ix2 r x) = tkR f r.val x.val := tkR_ix f r.isLt x
theorem inR_fin (f : S4096x128.Idx → F .f32) (r : Fin 4096) (x : Fin 128) : f (ix2 r x) = inR f r.val x.val := inR_ix f r.isLt x

/-- A gather's payload, row by row. -/
theorem payload_at {N : ℕ} {n : ℕ} (hg : (⟨2, ![N, 128]⟩ : Shape).Gathers 0 (⟨2, ![n, 128]⟩ : Shape)) (g : (⟨2, ![N, 128]⟩ : Shape).Idx → F .f32)
    (r : Fin n → Fin N) (t : Fin n) (x : Fin 128) :
    SparseCore.gatherPayload (F := F) (e := .f32) hg g r (ix2 t x) = g (ix2 (r t) x) := by
  show g (hg.idx r (ix2 t x)) = _
  refine congrArg g (funext fun b => Fin.ext ?_)
  fin_cases b
  · exact congrArg Fin.val (Shape.Gathers.idx_axis hg r (ix2 t x))
  · exact Shape.Gathers.idx_of_ne hg r (ix2 t x) 1 (show (1 : ℕ) ≠ 0 by omega)

theorem whole_emb {N : ℕ} (h : ∀ a, (![0, 0] : Fin 2 → ℕ) a + (⟨2, ![N, 128]⟩ : Shape).size a ≤ (⟨2, ![N, 128]⟩ : Shape).size a) (r : Fin N) (x : Fin 128) :
    (Rect.unit (s := ⟨2, ![N, 128]⟩) ![0, 0] (⟨2, ![N, 128]⟩ : Shape).size h).emb (ix2 r x) = ix2 r x :=
  (emb2 (h := h) r x (by show 0 + r.val < N; omega) (by show 0 + x.val < 128; omega)).trans
    (ix2_eq (show 0 + r.val = r.val by omega) (show 0 + x.val = x.val by omega))

/-- A slot written whole holds what was written. -/
theorem tb_written {p : Fin 2} {f : S2x128x128.Idx → F .f32} {w : S128x128.Idx → F .f32} {g : ℕ → ℕ → F .f32} (h : ∀ t x : Fin 128, w (ix2 t x) = g t.val x.val) :
    iprop((tbS p).view.loc (thr d i) ↦[slT p]{fullShare} (tbS p).view.write (Elt F) f w Finset.univ) ⊢ tbHas d i p g := by
  unfold tbHas
  iintro H
  iexists _
  isplitr
  rotate_left
  · iexact H
  ipureintro
  intro t x
  rw [← emb_tb]
  exact (View.write_emb_of_mem _ _ (Finset.mem_univ _)).trans (h t x)
theorem ib8_written {p : Fin 2} {f : S2x128x128.Idx → F .f32} {w : S8x128.Idx → F .f32} {g : ℕ → ℕ → F .f32} (h : ∀ (t : Fin 8) (x : Fin 128), w (ix2 t x) = g t.val x.val) :
    iprop((ibS8 p).view.loc (thr d i) ↦[slT p]{fullShare} (ibS8 p).view.write (Elt F) f w Finset.univ) ⊢ ibHas d i p 8 g := by
  unfold ibHas
  iintro H
  iexists _
  isplitr
  rotate_left
  · iexact H
  ipureintro
  intro t x ht
  refine (congrArg _ (emb_ib8 p ⟨t.val, ht⟩ x).symm).trans ?_
  exact (View.write_emb_of_mem _ _ (Finset.mem_univ _)).trans (h ⟨t.val, ht⟩ x)
theorem ib128_written {p : Fin 2} {f : S2x128x128.Idx → F .f32} {w : S128x128.Idx → F .f32} {g : ℕ → ℕ → F .f32} (h : ∀ t x : Fin 128, w (ix2 t x) = g t.val x.val) :
    iprop((ibS128 p).view.loc (thr d i) ↦[slT p]{fullShare} (ibS128 p).view.write (Elt F) f w Finset.univ) ⊢ ibHas d i p 128 g := by
  unfold ibHas
  iintro H
  iexists _
  isplitr
  rotate_left
  · iexact H
  ipureintro
  intro t x _
  rw [← emb_ib128]
  exact (View.write_emb_of_mem _ _ (Finset.mem_univ _)).trans (h t x)
theorem ab_written {p : Fin 2} {f : S2x136x128.Idx → F .f32} {w : S136x128.Idx → F .f32} {g : ℕ → ℕ → F .f32} (h : ∀ (t : Fin 136) (x : Fin 128), w (ix2 t x) = g t.val x.val) :
    iprop((abS p).view.loc (thr d i) ↦[slA p]{fullShare} (abS p).view.write (Elt F) f w Finset.univ) ⊢ abHas d i p 136 g := by
  unfold abHas
  iintro H
  iexists _
  isplitr
  rotate_left
  · iexact H
  ipureintro
  intro t x _
  rw [← emb_ab]
  exact (View.write_emb_of_mem _ _ (Finset.mem_univ _)).trans (h t x)
theorem ab128_written {p : Fin 2} {f : S2x136x128.Idx → F .f32} {w : S128x128.Idx → F .f32} {g : ℕ → ℕ → F .f32} (h : ∀ t x : Fin 128, w (ix2 t x) = g t.val x.val) :
    iprop((abS128 p).view.loc (thr d i) ↦[slA p]{fullShare} (abS128 p).view.write (Elt F) f w Finset.univ) ⊢ abHas d i p 128 g := by
  unfold abHas
  iintro H
  iexists _
  isplitr
  rotate_left
  · iexact H
  ipureintro
  intro t x ht
  refine (congrArg _ (emb_ab128 p ⟨t.val, ht⟩ x).symm).trans ?_
  exact (View.write_emb_of_mem _ _ (Finset.mem_univ _)).trans (h ⟨t.val, ht⟩ x)

variable {defs : Defs nD τ sig (Elt F) Λ₀} {𝒱 : Variants} {bd : Option 𝒱.V} {α : Type} {Q : α → sProp (RM F)}

/-- Start the token gather. -/
theorem wp_tokIssue (hZ : Good Z) (p : Fin 2) (j : Fin 16) {k : PUnit → TP F i α} :
    iprop(tbAny d i p ∗ tkPt Z d i qs p ∗ svPt Z d i ql p ∗ zero d i (semT p))
      ⊢ iprop((flyT Z d i qs ql p j -∗ wp frame (wpE defs 𝒱 (thr d i) bd) Set.univ (k ⟨⟩) Q)
        -∗ wp frame (wpE defs 𝒱 (thr d i) bd) Set.univ (tokIssue i p j >>= k) Q) := by
  unfold tbAny flyT
  iintro ⟨⟨%f, Hb⟩, Hs, Hl, Hv⟩ Hk
  have hin : ∀ x, ((lsJ svV j).view.read (Elt F) Z.sv x).toNat < 100000 := fun x => lsJ_lt (P := fun n => n < 100000) Z.sv j (hZ.sv_lt j) x
  unfold tokIssue
  iapply (wp_gatherX (thr d i) defs 𝒱 bd (src := tkA) (dst := tbS p) (hg := gathers_S100000x128_S128x128) (offs := lsJ svV j) (sem := semT p)
    (q := qs p) (qo := ql p) (fs := Z.tk) (fd := f) (fo := Z.sv) (S₀ := Finset.univ) (Sd := slT p) (So := Finset.univ)
    (tbS p).view.dmaCredit (SparseCore.sum_rowCredit_eq_dmaCredit (tbS p) _ (fun _ => rfl)) (by decide) hin
    (Finset.subset_univ _) (sub_tb p) (Finset.subset_univ _) iprop(tbHas d i p (Z.tokG j) ∗ tkPt Z d i qs p ∗ svPt Z d i ql p) (BIClass.sep_mono (tb_written d i fun t x => by
      refine (payload_at gathers_S100000x128_S128x128 _ _ t x).trans ?_
      refine (congrArg Z.tk (whole_emb inb_S100000x128_S100000x128_0_0 _ x)).trans ?_
      refine (tkR_fin Z.tk _ x).trans ?_
      exact congrArg (fun r => tkR Z.tk r x.val) (rows_lsJ Z.sv j _ (fun t => lsJ_word Z.sv j t) hin t)) (entails_refl _))) $$ [Hb Hs Hl Hv]
  · isplitl [Hs]; · iexact Hs
    isplitl [Hb]; · iexact Hb
    isplitl [Hl] <;> iassumption
  iintro HF
  iapply Hk
  iexact HF

theorem cnd_of {v : BitVec 32} (h : v = 0#32) : cnd v = 1#1 := (cnd_iff v).mpr h

/-- Start the linear copies of a chunk without starts. -/
theorem wp_issueFast (hZ : Good Z) (p : Fin 2) (j : Fin 16) (ns : BitVec 32) (hI : chkI ns (Z.ci (ix1 j))) (hA : chkA ns (Z.ba (ix1 j))) (hc : cnd ns = 1#1)
    {k : BitVec 32 → TP F i α} :
    iprop(ibAny d i p ∗ abAny d i p ∗ inPt Z d i qs p ∗ arPt Z d i qs p ∗ zero d i (semI p) ∗ zero d i (semA p))
      ⊢ iprop((flyI Z d i qs p j -∗ flyA Z d i qs p j -∗ wp frame (wpE defs 𝒱 (thr d i) bd) Set.univ (k 0#32) Q)
        -∗ wp frame (wpE defs 𝒱 (thr d i) bd) Set.univ (issueFast i p ns (Z.ci (ix1 j)) (Z.ba (ix1 j)) hI hA hc >>= k) Q) := by
  unfold ibAny abAny flyI flyA
  iintro ⟨⟨%f, Hb⟩, ⟨%g, Ha⟩, Hi, Hr, HvI, HvA⟩ Hk
  have hi := hI.2 hc
  have ha := hA.2 hc
  unfold issueFast
  iapply (wp_copyX (thr d i) defs 𝒱 bd (src := inV.slice (Rect.unit (s := S4096x128) ![(lo8 4088#32 (Z.ci (ix1 j))).toNat, 0] S8x128.size hi) (fun _ => rfl)) (dst := ibS8 p) (sm := semI p)
    (q := qs p) (fs := Z.ins) (fd := f) (S₀ := Finset.univ) (Sd := slT p)
    (ibS8 p).view.dmaCredit rfl (View.dmaCredit_pos _ (by decide)) (Finset.subset_univ _) (sub_ib8 p) iprop(ibHas d i p 8 (Z.ins8 j) ∗ inPt Z d i qs p)
    (BIClass.sep_mono (ib8_written d i fun t x => by
      have h0 : (lo8 4088#32 (Z.ci (ix1 j))).toNat + 8 ≤ 4096 := hi 0
      refine (congrArg Z.ins (emb2 (h := hi) t x (by show (lo8 4088#32 (Z.ci (ix1 j))).toNat + t.val < 4096; omega) (by show 0 + x.val < 128; omega))).trans ?_
      refine Eq.trans ?_ (inR_ix Z.ins (r := (lo8 4088#32 (Z.ci (ix1 j))).toNat + t.val) (by omega) x)
      exact congrArg Z.ins (ix2_eq rfl (show 0 + x.val = x.val by omega))) (entails_refl _))) $$ [Hb Hi HvI]
  · isplitl [Hi]; · iexact Hi
    isplitl [Hb] <;> iassumption
  iintro HI
  iapply (wp_copyX (thr d i) defs 𝒱 bd (src := arV.slice (Rect.unit (s := S4096x128) ![(lo8 3960#32 (Z.ba (ix1 j))).toNat, 0] S136x128.size ha) (fun _ => rfl)) (dst := abS p) (sm := semA p)
    (q := qs p) (fs := Z.arg) (fd := g) (S₀ := Finset.univ) (Sd := slA p)
    (abS p).view.dmaCredit rfl (View.dmaCredit_pos _ (by decide)) (Finset.subset_univ _) (sub_ab p) iprop(abHas d i p 136 (Z.arg136 j) ∗ arPt Z d i qs p)
    (BIClass.sep_mono (ab_written d i fun t x => by
      have h0 : (lo8 3960#32 (Z.ba (ix1 j))).toNat + 136 ≤ 4096 := ha 0
      refine (congrArg Z.arg (emb2 (h := ha) t x (by show (lo8 3960#32 (Z.ba (ix1 j))).toNat + t.val < 4096; omega) (by show 0 + x.val < 128; omega))).trans ?_
      refine Eq.trans ?_ (inR_ix Z.arg (r := (lo8 3960#32 (Z.ba (ix1 j))).toNat + t.val) (by omega) x)
      exact congrArg Z.arg (ix2_eq rfl (show 0 + x.val = x.val by omega))) (entails_refl _))) $$ [Ha Hr HvA]
  · isplitl [Hr]; · iexact Hr
    isplitl [Ha] <;> iassumption
  iintro HA
  iapply Hk $$ HI
  iexact HA

/-- Start the indexed copies of a chunk with starts. -/
theorem wp_issueSlow (hZ : Good Z) (p : Fin 2) (j : Fin 16) {k : BitVec 32 → TP F i α} :
    iprop(ibAny d i p ∗ abAny d i p ∗ inPt Z d i qs p ∗ arPt Z d i qs p ∗ iiPt Z d i ql p ∗ aiPt Z d i ql p ∗ zero d i (semGI p) ∗ zero d i (semGA p))
      ⊢ iprop((flyGI Z d i qs ql p j -∗ flyGA Z d i qs ql p j -∗ wp frame (wpE defs 𝒱 (thr d i) bd) Set.univ (k 0#32) Q)
        -∗ wp frame (wpE defs 𝒱 (thr d i) bd) Set.univ (issueSlow i p j >>= k) Q) := by
  unfold ibAny abAny flyGI flyGA
  iintro ⟨⟨%f, Hb⟩, ⟨%g, Ha⟩, Hi, Hr, Hli, Hla, HvI, HvA⟩ Hk
  have hii : ∀ x, ((lsJ iiV j).view.read (Elt F) Z.ii x).toNat < 4096 := fun x => lsJ_lt (P := fun n => n < 4096) Z.ii j (hZ.ii_lt j) x
  have hai : ∀ x, ((lsJ aiV j).view.read (Elt F) Z.ai x).toNat < 4096 := fun x => lsJ_lt (P := fun n => n < 4096) Z.ai j (hZ.ai_lt j) x
  unfold issueSlow
  rw [bind_assoc]
  iapply (wp_gatherX (thr d i) defs 𝒱 bd (src := inA) (dst := ibS128 p) (hg := gathers_S4096x128_S128x128) (offs := lsJ iiV j) (sem := semGI p)
    (q := qs p) (qo := ql p) (fs := Z.ins) (fd := f) (fo := Z.ii) (S₀ := Finset.univ) (Sd := slT p) (So := Finset.univ)
    (ibS128 p).view.dmaCredit (SparseCore.sum_rowCredit_eq_dmaCredit (ibS128 p) _ (fun _ => rfl)) (by decide) hii
    (Finset.subset_univ _) (sub_ib128 p) (Finset.subset_univ _) iprop(ibHas d i p 128 (Z.insG j) ∗ inPt Z d i qs p ∗ iiPt Z d i ql p) (BIClass.sep_mono (ib128_written d i fun t x => by
      refine (payload_at gathers_S4096x128_S128x128 _ _ t x).trans ?_
      refine (congrArg Z.ins (whole_emb inb_S4096x128_S4096x128_0_0 _ x)).trans ?_
      refine (inR_fin Z.ins _ x).trans ?_
      exact congrArg (fun r => inR Z.ins r x.val) (rows_lsJ Z.ii j _ (fun t => lsJ_word Z.ii j t) hii t)) (entails_refl _))) $$ [Hb Hi Hli HvI]
  · isplitl [Hi]; · iexact Hi
    isplitl [Hb]; · iexact Hb
    isplitl [Hli] <;> iassumption
  iintro HI
  rw [bind_assoc]
  iapply (wp_gatherX (thr d i) defs 𝒱 bd (src := arA) (dst := abS128 p) (hg := gathers_S4096x128_S128x128) (offs := lsJ aiV j) (sem := semGA p)
    (q := qs p) (qo := ql p) (fs := Z.arg) (fd := g) (fo := Z.ai) (S₀ := Finset.univ) (Sd := slA p) (So := Finset.univ)
    (abS128 p).view.dmaCredit (SparseCore.sum_rowCredit_eq_dmaCredit (abS128 p) _ (fun _ => rfl)) (by decide) hai
    (Finset.subset_univ _) (sub_ab128 p) (Finset.subset_univ _) iprop(abHas d i p 128 (Z.argG j) ∗ arPt Z d i qs p ∗ aiPt Z d i ql p) (BIClass.sep_mono (ab128_written d i fun t x => by
      refine (payload_at gathers_S4096x128_S128x128 _ _ t x).trans ?_
      refine (congrArg Z.arg (whole_emb inb_S4096x128_S4096x128_0_0 _ x)).trans ?_
      refine (inR_fin Z.arg _ x).trans ?_
      exact congrArg (fun r => inR Z.arg r x.val) (rows_lsJ Z.ai j _ (fun t => lsJ_word Z.ai j t) hai t)) (entails_refl _))) $$ [Ha Hr Hla HvA]
  · isplitl [Hr]; · iexact Hr
    isplitl [Ha]; · iexact Ha
    isplitl [Hla] <;> iassumption
  iintro HA
  iapply Hk $$ HI
  iexact HA

/-! ## The chunks' words -/

/-- The tile's three words per chunk. -/
def words : sProp (RM F) :=
  iprop(((nsV).view.loc (thr d i) ↦[Finset.univ]{fullShare} Z.ns) ∗ ((ciV).view.loc (thr d i) ↦[Finset.univ]{fullShare} Z.ci)
    ∗ ((baV).view.loc (thr d i) ↦[Finset.univ]{fullShare} Z.ba))

theorem word_at (f : S16.Idx → BitVec 32) (j : Fin 16) (x : S1.Idx) : f ((Rect.unit (s := S16) ![j.val] S1.size (inb_word j)).emb x) = f (ix1 j) := by
  obtain ⟨t, rfl⟩ : ∃ t : Fin 1, x = ix1 t := ⟨x 0, eq_ix1 x⟩
  refine congrArg f ((emb1 (h := inb_word j) t (by show j.val + t.val < 16; omega)).trans (congrArg ix1 (Fin.ext ?_)))
  show j.val + t.val = j.val
  omega

theorem wp_ldWord (m : Memref sig .scVector .smem S16 .i32) (f : Buf (Elt F) (m.view.loc (thr d i))) (j : Fin 16) (w : BitVec 32)
    (hw : ∀ x, (m.access (Rect.unit (s := S16) ![j.val] S1.size (inb_word j))).read (Elt F) f x = w) {k : Elt F .i32 → TP F i α} :
    iprop(m.view.loc (thr d i) ↦[Finset.univ]{fullShare} f)
      ⊢ iprop((iprop(m.view.loc (thr d i) ↦[Finset.univ]{fullShare} f) -∗ wp frame (wpE defs 𝒱 (thr d i) bd) Set.univ (k w) Q)
        -∗ wp frame (wpE defs 𝒱 (thr d i) bd) Set.univ ((smemLoad m (Rect.unit (s := S16) ![j.val] S1.size (inb_word j)) numel1_S1 rfl : TP F i (Elt F .i32)) >>= k) Q) := by
  iintro H Hk
  iapply (wp_smemLoadElt 𝒱 (thr d i) bd Set.univ (m := m) (r := Rect.unit (s := S16) ![j.val] S1.size (inb_word j)) (S := Finset.univ) (f := f)
    (hw := View.loads_smem_one rfl numel1_S1) (x := Shape.Idx.first (numel1_S1.symm ▸ Nat.one_pos)) (k := k) (Finset.subset_univ _)) $$ H
  iintro H
  rw [hw]
  iapply Hk
  iexact H

theorem wp_ldNs (j : Fin 16) {k : Elt F .i32 → TP F i α} :
    iprop((nsV).view.loc (thr d i) ↦[Finset.univ]{fullShare} Z.ns)
      ⊢ iprop((iprop((nsV).view.loc (thr d i) ↦[Finset.univ]{fullShare} Z.ns) -∗ wp frame (wpE defs 𝒱 (thr d i) bd) Set.univ (k (Z.ns (ix1 j))) Q)
        -∗ wp frame (wpE defs 𝒱 (thr d i) bd) Set.univ (ldNs i j >>= k) Q) :=
  wp_ldWord (F := F) d i nsV Z.ns j (Z.ns (ix1 j)) (fun x => word_at Z.ns j x)
theorem wp_ldCi (j : Fin 16) {k : Elt F .i32 → TP F i α} :
    iprop((ciV).view.loc (thr d i) ↦[Finset.univ]{fullShare} Z.ci)
      ⊢ iprop((iprop((ciV).view.loc (thr d i) ↦[Finset.univ]{fullShare} Z.ci) -∗ wp frame (wpE defs 𝒱 (thr d i) bd) Set.univ (k (Z.ci (ix1 j))) Q)
        -∗ wp frame (wpE defs 𝒱 (thr d i) bd) Set.univ (ldCi i j >>= k) Q) :=
  wp_ldWord (F := F) d i ciV Z.ci j (Z.ci (ix1 j)) (fun x => word_at Z.ci j x)
theorem wp_ldBa (j : Fin 16) {k : Elt F .i32 → TP F i α} :
    iprop((baV).view.loc (thr d i) ↦[Finset.univ]{fullShare} Z.ba)
      ⊢ iprop((iprop((baV).view.loc (thr d i) ↦[Finset.univ]{fullShare} Z.ba) -∗ wp frame (wpE defs 𝒱 (thr d i) bd) Set.univ (k (Z.ba (ix1 j))) Q)
        -∗ wp frame (wpE defs 𝒱 (thr d i) bd) Set.univ (ldBa i j >>= k) Q) :=
  wp_ldWord (F := F) d i baV Z.ba j (Z.ba (ix1 j)) (fun x => word_at Z.ba j x)

/-- A check that holds. -/
theorem wp_check {P : Prop} [Decidable P] (h : P) {k : PLift P → TP F i α} :
    iprop(wp frame (wpE defs 𝒱 (thr d i) bd) Set.univ (k ⟨h⟩) Q)
      ⊢ wp frame (wpE defs 𝒱 (thr d i) bd) Set.univ ((Prog.lift (TpuEff.assume P inferInstance) : TP F i (PLift P)) >>= k) Q :=
  wp_assume 𝒱 (thr d i) bd Set.univ h

theorem issue_bind (p : Fin 2) (j : Fin 16) (k : PUnit → TP F i α) :
    issue i p j >>= k = (tokIssue i p j >>= fun _ => ldNs i j >>= fun ns => ldCi i j >>= fun ci => asI i ns ci >>= fun hI => ldBa i j >>= fun ba =>
      asA i ns ba >>= fun hA => issueBr i p j ns ci ba hI.down hA.down >>= fun _ => k ⟨⟩) := by
  simp only [issue, bind_assoc, pure_bind]

/-- Slot `p` while chunk `j`'s copies are in flight. -/
def issued (p : Fin 2) (j : Fin 16) : sProp (RM F) :=
  iprop(flyT Z d i qs ql p j ∗ zero d i (semO p)
    ∗ (if Z.ns (ix1 j) = 0#32 then
        iprop(flyI Z d i qs p j ∗ flyA Z d i qs p j ∗ iiPt Z d i ql p ∗ aiPt Z d i ql p ∗ zero d i (semGI p) ∗ zero d i (semGA p))
      else iprop(flyGI Z d i qs ql p j ∗ flyGA Z d i qs ql p j ∗ zero d i (semI p) ∗ zero d i (semA p))))
/-- Slot `p` but for its token rows, with nothing in flight. -/
def rest (p : Fin 2) : sProp (RM F) :=
  iprop(ibAny d i p ∗ abAny d i p ∗ tkPt Z d i qs p ∗ inPt Z d i qs p ∗ arPt Z d i qs p ∗ svPt Z d i ql p ∗ iiPt Z d i ql p ∗ aiPt Z d i ql p
    ∗ zero d i (semT p) ∗ zero d i (semI p) ∗ zero d i (semA p) ∗ zero d i (semGI p) ∗ zero d i (semGA p))
/-- Slot `p` with nothing in flight. -/
def idle (p : Fin 2) : sProp (RM F) := iprop(tbAny d i p ∗ zero d i (semO p) ∗ rest Z d i qs ql p)

/-- Start chunk `j` in slot `p`. -/
theorem wp_issue (hZ : Good Z) (p : Fin 2) (j : Fin 16) {k : PUnit → TP F i α} :
    iprop(idle Z d i qs ql p ∗ words Z d i)
      ⊢ iprop((iprop(issued Z d i qs ql p j ∗ words Z d i) -∗ wp frame (wpE defs 𝒱 (thr d i) bd) Set.univ (k ⟨⟩) Q)
        -∗ wp frame (wpE defs 𝒱 (thr d i) bd) Set.univ (issue i p j >>= k) Q) := by
  unfold idle rest words issued
  iintro ⟨⟨Htb, HvO, Hib, Hab, Htk, Hin, Har, Hsv, Hii, Hai, HvT, HvI, HvA, HvGI, HvGA⟩, Hns, Hci, Hba⟩ Hk
  rw [issue_bind]
  iapply (wp_tokIssue Z d i qs ql hZ p j) $$ [Htb Htk Hsv HvT]
  · isplitl [Htb]; · iexact Htb
    isplitl [Htk]; · iexact Htk
    isplitl [Hsv] <;> iassumption
  iintro HT
  iapply (wp_ldNs Z d i j) $$ Hns
  iintro Hns
  iapply (wp_ldCi Z d i j) $$ Hci
  iintro Hci
  iapply (wp_check d i (chkI_of (ns := Z.ns (ix1 j)) (hZ.ci_lt j)))
  iapply (wp_ldBa Z d i j) $$ Hba
  iintro Hba
  iapply (wp_check d i (chkA_of (ns := Z.ns (ix1 j)) (hZ.ba_lt j)))
  unfold issueBr
  by_cases hns : Z.ns (ix1 j) = 0#32
  · rw [dif_pos (cnd_of hns), if_pos hns]
    iapply (wp_issueFast Z d i qs hZ p j) $$ [Hib Hab Hin Har HvI HvA]
    · isplitl [Hib]; · iexact Hib
      isplitl [Hab]; · iexact Hab
      isplitl [Hin]; · iexact Hin
      isplitl [Har]; · iexact Har
      isplitl [HvI] <;> iassumption
    iintro HI HA
    iapply Hk
    isplitr [Hns Hci Hba]
    · isplitl [HT]; · iexact HT
      isplitl [HvO]; · iexact HvO
      isplitl [HI]; · iexact HI
      isplitl [HA]; · iexact HA
      isplitl [Hii]; · iexact Hii
      isplitl [Hai]; · iexact Hai
      isplitl [HvGI] <;> iassumption
    isplitl [Hns]; · iexact Hns
    isplitl [Hci] <;> iassumption
  · rw [dif_neg (fun h => hns ((cnd_iff _).mp h)), if_neg hns]
    iapply (wp_issueSlow Z d i qs ql hZ p j) $$ [Hib Hab Hin Har Hii Hai HvGI HvGA]
    · isplitl [Hib]; · iexact Hib
      isplitl [Hab]; · iexact Hab
      isplitl [Hin]; · iexact Hin
      isplitl [Har]; · iexact Har
      isplitl [Hii]; · iexact Hii
      isplitl [Hai]; · iexact Hai
      isplitl [HvGI] <;> iassumption
    iintro HI HA
    iapply Hk
    isplitr [Hns Hci Hba]
    · isplitl [HT]; · iexact HT
      isplitl [HvO]; · iexact HvO
      isplitl [HI]; · iexact HI
      isplitl [HA]; · iexact HA
      isplitl [HvI] <;> iassumption
    isplitl [Hns]; · iexact Hns
    isplitl [Hci] <;> iassumption

end Cert.Proof

end
-- ==== Proof.Consume.lean ====
/-
  Finishing a chunk: the waits, the sum, the write-out, and the write-out's wait.
-/
module

public import proofs.«01_k».proof.Proof.Issue

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} (Z : TD F)

/-- Chunk `j`'s sums. -/
def TD.sumG [FloatOps F] (j : Fin 16) (t x : ℕ) : F .f32 := FloatOps.addf (FloatOps.addf (Z.tokG j t x) (Z.insG j t x)) (Z.argG j t x)

variable [FloatOps F] (d : Dev nD) (i : grid0.Coords) (qs ql : Fin 2 → PosShare TreeShare)
variable {defs : Defs nD τ sig (Elt F) Λ₀} {𝒱 : Variants} {bd : Option 𝒱.V} {α : Type} {Q : α → sProp (RM F)}
variable {O : CellTallies nD τ sig (HIx 1)} {W : Waits sig (HIx 1)}

theorem eight {v0 v1 v2 v3 v4 v5 v6 v7 : Vec F S1x1x16 .f32} {I : ℕ → F .f32}
    (h0 : ∀ x : Fin 16, v0 (ix3 0 0 x) = I (0 + x.val)) (h1 : ∀ x : Fin 16, v1 (ix3 0 0 x) = I (16 + x.val)) (h2 : ∀ x : Fin 16, v2 (ix3 0 0 x) = I (32 + x.val))
    (h3 : ∀ x : Fin 16, v3 (ix3 0 0 x) = I (48 + x.val)) (h4 : ∀ x : Fin 16, v4 (ix3 0 0 x) = I (64 + x.val)) (h5 : ∀ x : Fin 16, v5 (ix3 0 0 x) = I (80 + x.val))
    (h6 : ∀ x : Fin 16, v6 (ix3 0 0 x) = I (96 + x.val)) (h7 : ∀ x : Fin 16, v7 (ix3 0 0 x) = I (112 + x.val)) (h : Fin 8) (x : Fin 16) :
    (![cast16 v0, cast16 v1, cast16 v2, cast16 v3, cast16 v4, cast16 v5, cast16 v6, cast16 v7] : Fin 8 → Vec F S16 .f32) h (ix1 x) = I (16 * h.val + x.val) := by
  fin_cases h
  · exact cast16_at h0 x
  · exact cast16_at h1 x
  · exact cast16_at h2 x
  · exact cast16_at h3 x
  · exact cast16_at h4 x
  · exact cast16_at h5 x
  · exact cast16_at h6 x
  · exact cast16_at h7 x

/-- The wait for the token gather. -/
theorem wp_tokWait (p : Fin 2) (j : Fin 16) {k : PUnit → TP F i α} :
    iprop(flyT Z d i qs ql p j ∗ Owe (thr d i) O W ∗ Transfers.MayWaits (thr d i) (default : HIx 1) O)
      ⊢ iprop((iprop((tbHas d i p (Z.tokG j) ∗ tkPt Z d i qs p ∗ svPt Z d i ql p) ∗ zero d i (semT p) ∗ Owe (thr d i) O W) -∗ wp frame (wpE defs 𝒱 (thr d i) bd) Set.univ (k ⟨⟩) Q)
        -∗ wp frame (wpE defs 𝒱 (thr d i) bd) Set.univ (tokWait i p >>= k) Q) :=
  wp_fly (thr d i) defs 𝒱 bd rfl

/-- The waits and the sum of a chunk without starts. -/
theorem wp_sumFast (hZ : Good Z) (p : Fin 2) (j : Fin 16) (hns : Z.ns (ix1 j) = 0#32) (ns : BitVec 32) (hCI : chkCI p ns (Z.ci (ix1 j))) (hCA : chkCA p ns (Z.ba (ix1 j))) (hc : cnd ns = 1#1)
    {k : BitVec 32 → TP F i α} :
    iprop(flyT Z d i qs ql p j ∗ flyI Z d i qs p j ∗ flyA Z d i qs p j ∗ Owe (thr d i) O W ∗ Transfers.MayWaits (thr d i) (default : HIx 1) O)
      ⊢ iprop((iprop(tbHas d i p (Z.sumG j) ∗ ibAny d i p ∗ abAny d i p ∗ tkPt Z d i qs p ∗ inPt Z d i qs p ∗ arPt Z d i qs p ∗ svPt Z d i ql p
            ∗ zero d i (semT p) ∗ zero d i (semI p) ∗ zero d i (semA p) ∗ Owe (thr d i) O W) -∗ wp frame (wpE defs 𝒱 (thr d i) bd) Set.univ (k 0#32) Q)
        -∗ wp frame (wpE defs 𝒱 (thr d i) bd) Set.univ (sumFastK i p ns (Z.ci (ix1 j)) (Z.ba (ix1 j)) hCI hCA hc k) Q) := by
  have hci := hZ.ci_lt j
  have hlo := loI' hci
  have hr8 : (Z.ci (ix1 j)).toNat - (lo8 4088#32 (Z.ci (ix1 j))).toNat < 8 := by omega
  have hba := hZ.ba_lt j
  have hla := loA' hba
  unfold flyI flyA sumFastK
  iintro ⟨HT, HI, HA, HO, #Hmw⟩ Hk
  iapply (wp_fly (thr d i) defs 𝒱 bd (dstw := ibS8 p) rfl) $$ [HI HO]
  · isplitl [HI]; · iexact HI
    isplitl [HO]; · iexact HO
    iexact Hmw
  iintro ⟨⟨Hib, Hin⟩, HvI, HO⟩
  iapply (wp_fly (thr d i) defs 𝒱 bd (dstw := abS p) rfl) $$ [HA HO]
  · isplitl [HA]; · iexact HA
    isplitl [HO]; · iexact HO
    iexact Hmw
  iintro ⟨⟨Hab, Har⟩, HvA, HO⟩
  iapply (wp_tokWait Z d i qs ql p j) $$ [HT HO]
  · isplitl [HT]; · iexact HT
    isplitl [HO]; · iexact HO
    iexact Hmw
  iintro ⟨⟨Htb, Htk, Hsv⟩, HvT, HO⟩
  iapply (wp_ld_ib d i defs 𝒱 bd p 8 (Z.ins8 j) ⟨(Z.ci (ix1 j)).toNat - (lo8 4088#32 (Z.ci (ix1 j))).toNat, by omega⟩ hr8 0 (offIv_eq _ _ hci)) $$ Hib
  iintro %u0 %eu0 Hib
  iapply (wp_ld_ib d i defs 𝒱 bd p 8 (Z.ins8 j) ⟨(Z.ci (ix1 j)).toNat - (lo8 4088#32 (Z.ci (ix1 j))).toNat, by omega⟩ hr8 16 (offIv_eq _ _ hci)) $$ Hib
  iintro %u1 %eu1 Hib
  iapply (wp_ld_ib d i defs 𝒱 bd p 8 (Z.ins8 j) ⟨(Z.ci (ix1 j)).toNat - (lo8 4088#32 (Z.ci (ix1 j))).toNat, by omega⟩ hr8 32 (offIv_eq _ _ hci)) $$ Hib
  iintro %u2 %eu2 Hib
  iapply (wp_ld_ib d i defs 𝒱 bd p 8 (Z.ins8 j) ⟨(Z.ci (ix1 j)).toNat - (lo8 4088#32 (Z.ci (ix1 j))).toNat, by omega⟩ hr8 48 (offIv_eq _ _ hci)) $$ Hib
  iintro %u3 %eu3 Hib
  iapply (wp_ld_ib d i defs 𝒱 bd p 8 (Z.ins8 j) ⟨(Z.ci (ix1 j)).toNat - (lo8 4088#32 (Z.ci (ix1 j))).toNat, by omega⟩ hr8 64 (offIv_eq _ _ hci)) $$ Hib
  iintro %u4 %eu4 Hib
  iapply (wp_ld_ib d i defs 𝒱 bd p 8 (Z.ins8 j) ⟨(Z.ci (ix1 j)).toNat - (lo8 4088#32 (Z.ci (ix1 j))).toNat, by omega⟩ hr8 80 (offIv_eq _ _ hci)) $$ Hib
  iintro %u5 %eu5 Hib
  iapply (wp_ld_ib d i defs 𝒱 bd p 8 (Z.ins8 j) ⟨(Z.ci (ix1 j)).toNat - (lo8 4088#32 (Z.ci (ix1 j))).toNat, by omega⟩ hr8 96 (offIv_eq _ _ hci)) $$ Hib
  iintro %u6 %eu6 Hib
  iapply (wp_ld_ib d i defs 𝒱 bd p 8 (Z.ins8 j) ⟨(Z.ci (ix1 j)).toNat - (lo8 4088#32 (Z.ci (ix1 j))).toNat, by omega⟩ hr8 112 (offIv_eq _ _ hci)) $$ Hib
  iintro %u7 %eu7 Hib
  iapply (wp_loopFast d i defs 𝒱 bd p ns (Z.ba (ix1 j)) hba hCA hc _ (Z.tokG j) (Z.sumG j) (Z.arg136 j)
    (Z.ins8 j ((Z.ci (ix1 j)).toNat - (lo8 4088#32 (Z.ci (ix1 j))).toNat)) (eight eu0 eu1 eu2 eu3 eu4 eu5 eu6 eu7) (fun t x ht hx => by
      have hf := hZ.flat j hns ⟨t, ht⟩
      unfold TD.sumG TD.insG TD.argG TD.ins8 TD.arg136
      rw [show lsR Z.ii j.val t = (lo8 4088#32 (Z.ci (ix1 j))).toNat + ((Z.ci (ix1 j)).toNat - (lo8 4088#32 (Z.ci (ix1 j))).toNat) from hf.1.trans (by omega),
        show lsR Z.ai j.val t = (lo8 3960#32 (Z.ba (ix1 j))).toNat + (t + ((Z.ba (ix1 j)).toNat - (lo8 3960#32 (Z.ba (ix1 j))).toNat)) from hf.2.trans (by
          show (Z.ba (ix1 j)).toNat + t = _; omega)])) $$ [Htb Hab]
  · isplitl [Htb] <;> iassumption
  iintro ⟨Htb, Hab⟩
  iapply Hk
  isplitl [Htb]; · iexact Htb
  isplitl [Hib]; · iapply (ibHas_any d i); iexact Hib
  isplitl [Hab]; · iapply (abHas_any d i); iexact Hab
  isplitl [Htk]; · iexact Htk
  isplitl [Hin]; · iexact Hin
  isplitl [Har]; · iexact Har
  isplitl [Hsv]; · iexact Hsv
  isplitl [HvT]; · iexact HvT
  isplitl [HvI]; · iexact HvI
  isplitl [HvA] <;> iassumption

/-- The waits and the sum of a chunk with starts. -/
theorem wp_sumSlow (p : Fin 2) (j : Fin 16) {k : BitVec 32 → TP F i α} :
    iprop(flyT Z d i qs ql p j ∗ flyGI Z d i qs ql p j ∗ flyGA Z d i qs ql p j ∗ Owe (thr d i) O W ∗ Transfers.MayWaits (thr d i) (default : HIx 1) O)
      ⊢ iprop((iprop(tbHas d i p (Z.sumG j) ∗ ibAny d i p ∗ abAny d i p ∗ tkPt Z d i qs p ∗ inPt Z d i qs p ∗ arPt Z d i qs p ∗ svPt Z d i ql p ∗ iiPt Z d i ql p ∗ aiPt Z d i ql p
            ∗ zero d i (semT p) ∗ zero d i (semGI p) ∗ zero d i (semGA p) ∗ Owe (thr d i) O W) -∗ wp frame (wpE defs 𝒱 (thr d i) bd) Set.univ (k 0#32) Q)
        -∗ wp frame (wpE defs 𝒱 (thr d i) bd) Set.univ (sumSlowK i p k) Q) := by
  unfold flyGI flyGA sumSlowK
  iintro ⟨HT, HI, HA, HO, #Hmw⟩ Hk
  iapply (wp_fly (thr d i) defs 𝒱 bd (dstw := ibS128 p) rfl) $$ [HI HO]
  · isplitl [HI]; · iexact HI
    isplitl [HO]; · iexact HO
    iexact Hmw
  iintro ⟨⟨Hib, Hin, Hii⟩, HvI, HO⟩
  iapply (wp_fly (thr d i) defs 𝒱 bd (dstw := abS128 p) rfl) $$ [HA HO]
  · isplitl [HA]; · iexact HA
    isplitl [HO]; · iexact HO
    iexact Hmw
  iintro ⟨⟨Hab, Har, Hai⟩, HvA, HO⟩
  iapply (wp_tokWait Z d i qs ql p j) $$ [HT HO]
  · isplitl [HT]; · iexact HT
    isplitl [HO]; · iexact HO
    iexact Hmw
  iintro ⟨⟨Htb, Htk, Hsv⟩, HvT, HO⟩
  iapply (wp_loopSlow d i defs 𝒱 bd p (Z.tokG j) (Z.sumG j) (Z.argG j) (Z.insG j) (fun t x _ _ => rfl)) $$ [Htb Hib Hab]
  · isplitl [Htb]; · iexact Htb
    isplitl [Hib] <;> iassumption
  iintro ⟨Htb, Hib, Hab⟩
  iapply Hk
  isplitl [Htb]; · iexact Htb
  isplitl [Hib]; · iapply (ibHas_any d i); iexact Hib
  isplitl [Hab]; · iapply (abHas_any d i); iexact Hab
  isplitl [Htk]; · iexact Htk
  isplitl [Hin]; · iexact Hin
  isplitl [Har]; · iexact Har
  isplitl [Hsv]; · iexact Hsv
  isplitl [Hii]; · iexact Hii
  isplitl [Hai]; · iexact Hai
  isplitl [HvT]; · iexact HvT
  isplitl [HvI]; · iexact HvI
  isplitl [HvA] <;> iassumption

/-! ## The write-out -/

variable (OUT : S65536x128.Idx → F .f32)

/-- Chunk `j`'s rows of the output, before and after. -/
def outAny (j : Fin 16) : sProp (RM F) := iprop(∃ f : S65536x128.Idx → F .f32, (ouV).view.loc (thr d i) ↦[(ouJ i j).view.set]{fullShare} f)
def outDone (j : Fin 16) : sProp (RM F) := iprop((ouV).view.loc (thr d i) ↦[(ouJ i j).view.set]{fullShare} OUT)

/-- Slot `p` while chunk `j`'s write-out is in flight. -/
def outing (p : Fin 2) (j : Fin 16) : sProp (RM F) :=
  iprop(Fly (thr d i) (semO p) (ouJ i j).view.dmaCredit iprop(outDone d i OUT j ∗ tbAny d i p) ∗ rest Z d i qs ql p)

/-- The output's rows of the tile's chunks hold the sums. -/
def OutIs : Prop := ∀ (j : Fin 16) (t x : Fin 128), OUT ((ouJ i j).view.emb (ix2 t x)) = Z.sumG j t.val x.val

theorem wp_outIssue (hO : OutIs Z i OUT) (p : Fin 2) (j : Fin 16) {k : PUnit → TP F i α} :
    iprop(tbHas d i p (Z.sumG j) ∗ outAny d i j ∗ zero d i (semO p))
      ⊢ iprop((Fly (thr d i) (semO p) (ouJ i j).view.dmaCredit iprop(outDone d i OUT j ∗ tbAny d i p) -∗ wp frame (wpE defs 𝒱 (thr d i) bd) Set.univ (k ⟨⟩) Q)
        -∗ wp frame (wpE defs 𝒱 (thr d i) bd) Set.univ (outIssue i p j >>= k) Q) := by
  unfold tbHas outAny outDone tbAny
  iintro ⟨⟨%f, %hf, Hb⟩, ⟨%g, Hg⟩, Hv⟩ Hk
  iapply (wp_copyX (thr d i) defs 𝒱 bd (src := tbS p) (dst := ouJ i j) (sm := semO p) (q := fullShare) (fs := f) (fd := g)
    (S₀ := slT p) (Sd := (ouJ i j).view.set) (ouJ i j).view.dmaCredit rfl (View.dmaCredit_pos _ (by decide)) (sub_tb p) (Finset.Subset.refl _)
    iprop(((ouV).view.loc (thr d i) ↦[(ouJ i j).view.set]{fullShare} OUT) ∗ ∃ f : S2x128x128.Idx → F .f32, (tbV).view.loc (thr d i) ↦[slT p]{fullShare} f) (by
      iintro ⟨Hg, Hb⟩
      isplitl [Hg]
      · iapply (Entails.of_eq (pointsTo_congr (Ix := HIx 1) (Name := ℕ) (U := UU) (Lvl := ℕ) (ℓ := (ouJ i j).view.loc (thr d i)) (I := (ouJ i j).view.set) (q := fullShare)
          (f := (ouJ i j).view.write (Elt F) g ((tbS p).view.read (Elt F) f) Finset.univ) (g := OUT) fun k hk => by
          obtain ⟨y, -, rfl⟩ := Finset.mem_map.mp hk
          refine (View.write_emb_of_mem _ _ (Finset.mem_univ _)).trans ?_
          obtain ⟨t, x, rfl⟩ : ∃ t x : Fin 128, y = ix2 t x := ⟨y 0, y 1, eq_ix2 y⟩
          refine Eq.trans ?_ (hO j t x).symm
          exact (congrArg f (emb_tb p t x)).trans (hf t x)))
        iexact Hg
      iexists f; iexact Hb)) $$ [Hb Hg Hv]
  · isplitl [Hb]; · iexact Hb
    isplitl [Hg] <;> iassumption
  iintro HF
  iapply Hk
  iexact HF

theorem consume_bind (p : Fin 2) (j : Fin 16) (k : PUnit → TP F i α) :
    consume i p j >>= k = (ldNs i j >>= fun ns => ldCi i j >>= fun ci => asCI i p ns ci >>= fun hI => ldBa i j >>= fun ba =>
      asCA i p ns ba >>= fun hA => sumK i p ns ci ba hI.down hA.down fun _ => outIssue i p j >>= k) := by
  simp only [consume, bind_assoc, sumK_eq]

/-- Finish chunk `j` in slot `p`. -/
theorem wp_consume (hZ : Good Z) (hO : OutIs Z i OUT) (p : Fin 2) (j : Fin 16) {k : PUnit → TP F i α} :
    iprop(issued Z d i qs ql p j ∗ words Z d i ∗ outAny d i j ∗ Owe (thr d i) O W ∗ Transfers.MayWaits (thr d i) (default : HIx 1) O)
      ⊢ iprop((iprop(outing Z d i qs ql OUT p j ∗ words Z d i ∗ Owe (thr d i) O W) -∗ wp frame (wpE defs 𝒱 (thr d i) bd) Set.univ (k ⟨⟩) Q)
        -∗ wp frame (wpE defs 𝒱 (thr d i) bd) Set.univ (consume i p j >>= k) Q) := by
  unfold issued words outing rest
  iintro ⟨⟨HT, HvO, Hfl⟩, ⟨Hns, Hci, Hba⟩, Hout, HO, #Hmw⟩ Hk
  rw [consume_bind]
  iapply (wp_ldNs Z d i j) $$ Hns
  iintro Hns
  iapply (wp_ldCi Z d i j) $$ Hci
  iintro Hci
  iapply (wp_check d i (chkCI_of (ns := Z.ns (ix1 j)) p (hZ.ci_lt j)))
  iapply (wp_ldBa Z d i j) $$ Hba
  iintro Hba
  iapply (wp_check d i (chkCA_of (ns := Z.ns (ix1 j)) p (hZ.ba_lt j)))
  unfold sumK
  by_cases hns : Z.ns (ix1 j) = 0#32
  · rw [dif_pos (cnd_of hns)]
    ihave Hfl := (Entails.of_eq (if_pos hns)) $$ Hfl
    icases Hfl with ⟨HI, HA, Hii, Hai, HvGI, HvGA⟩
    iapply (wp_sumFast Z d i qs ql hZ p j hns) $$ [HT HI HA HO]
    · isplitl [HT]; · iexact HT
      isplitl [HI]; · iexact HI
      isplitl [HA]; · iexact HA
      isplitl [HO]; · iexact HO
      iexact Hmw
    iintro ⟨Htb, Hib, Hab, Htk, Hin, Har, Hsv, HvT, HvI, HvA, HO⟩
    iapply (wp_outIssue Z d i OUT hO p j) $$ [Htb Hout HvO]
    · isplitl [Htb]; · iexact Htb
      isplitl [Hout] <;> iassumption
    iintro HF
    iapply Hk
    isplitr [Hns Hci Hba HO]
    · isplitl [HF]; · iexact HF
      isplitl [Hib]; · iexact Hib
      isplitl [Hab]; · iexact Hab
      isplitl [Htk]; · iexact Htk
      isplitl [Hin]; · iexact Hin
      isplitl [Har]; · iexact Har
      isplitl [Hsv]; · iexact Hsv
      isplitl [Hii]; · iexact Hii
      isplitl [Hai]; · iexact Hai
      isplitl [HvT]; · iexact HvT
      isplitl [HvI]; · iexact HvI
      isplitl [HvA]; · iexact HvA
      isplitl [HvGI]; · iexact HvGI
      iexact HvGA
    isplitr [HO]
    · isplitl [Hns]; · iexact Hns
      isplitl [Hci] <;> iassumption
    iexact HO
  · rw [dif_neg (fun h => hns ((cnd_iff _).mp h))]
    ihave Hfl := (Entails.of_eq (if_neg hns)) $$ Hfl
    icases Hfl with ⟨HI, HA, HvI, HvA⟩
    iapply (wp_sumSlow Z d i qs ql p j) $$ [HT HI HA HO]
    · isplitl [HT]; · iexact HT
      isplitl [HI]; · iexact HI
      isplitl [HA]; · iexact HA
      isplitl [HO]; · iexact HO
      iexact Hmw
    iintro ⟨Htb, Hib, Hab, Htk, Hin, Har, Hsv, Hii, Hai, HvT, HvGI, HvGA, HO⟩
    iapply (wp_outIssue Z d i OUT hO p j) $$ [Htb Hout HvO]
    · isplitl [Htb]; · iexact Htb
      isplitl [Hout] <;> iassumption
    iintro HF
    iapply Hk
    isplitr [Hns Hci Hba HO]
    · isplitl [HF]; · iexact HF
      isplitl [Hib]; · iexact Hib
      isplitl [Hab]; · iexact Hab
      isplitl [Htk]; · iexact Htk
      isplitl [Hin]; · iexact Hin
      isplitl [Har]; · iexact Har
      isplitl [Hsv]; · iexact Hsv
      isplitl [Hii]; · iexact Hii
      isplitl [Hai]; · iexact Hai
      isplitl [HvT]; · iexact HvT
      isplitl [HvI]; · iexact HvI
      isplitl [HvA]; · iexact HvA
      isplitl [HvGI]; · iexact HvGI
      iexact HvGA
    isplitr [HO]
    · isplitl [Hns]; · iexact Hns
      isplitl [Hci] <;> iassumption
    iexact HO

/-- The wait for chunk `j`'s write-out. -/
theorem wp_outWait (p : Fin 2) (j : Fin 16) {k : PUnit → TP F i α} :
    iprop(outing Z d i qs ql OUT p j ∗ Owe (thr d i) O W ∗ Transfers.MayWaits (thr d i) (default : HIx 1) O)
      ⊢ iprop((iprop(idle Z d i qs ql p ∗ outDone d i OUT j ∗ Owe (thr d i) O W) -∗ wp frame (wpE defs 𝒱 (thr d i) bd) Set.univ (k ⟨⟩) Q)
        -∗ wp frame (wpE defs 𝒱 (thr d i) bd) Set.univ (outWait i p j >>= k) Q) := by
  unfold outing idle
  iintro ⟨⟨HF, Hr⟩, HO, #Hmw⟩ Hk
  iapply (wp_fly (thr d i) defs 𝒱 bd (dstw := ouJ i j) rfl) $$ [HF HO]
  · isplitl [HF]; · iexact HF
    isplitl [HO]; · iexact HO
    iexact Hmw
  iintro ⟨⟨Hd, Htb⟩, Hv, HO⟩
  iapply Hk
  isplitr [Hd HO]
  · isplitl [Htb]; · iexact Htb
    isplitl [Hv] <;> iassumption
  isplitl [Hd] <;> iassumption

end Cert.Proof

end
-- ==== Proof.Chunks.lean ====
/-
  All sixteen chunks, two slots in turn.
-/
module

public import proofs.«01_k».proof.Proof.Consume

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (Z : TD F) (d : Dev nD) (i : grid0.Coords) (qs ql : Fin 2 → PosShare TreeShare) (OUT : S65536x128.Idx → F .f32)
variable {defs : Defs nD τ sig (Elt F) Λ₀} {𝒱 : Variants} {bd : Option 𝒱.V} {α : Type} {Q : α → sProp (RM F)}
variable (O : CellTallies nD τ sig (HIx 1)) (W : Waits sig (HIx 1))

/-- The chunks' output rows not yet handed to a write-out, and those written. -/
def outLeft (n : ℕ) : sProp (RM F) := bigSep (Finset.univ.filter fun j : Fin 16 => n ≤ j.val) (outAny d i)
def outFin (n : ℕ) : sProp (RM F) := bigSep (Finset.univ.filter fun j : Fin 16 => j.val < n) (outDone d i OUT)

theorem outLeft_pop (j : Fin 16) : outLeft (F := F) d i j.val ⊢ iprop(outAny d i j ∗ outLeft d i (j.val + 1)) := by
  unfold outLeft
  rw [show (Finset.univ.filter fun k : Fin 16 => j.val ≤ k.val) = insert j (Finset.univ.filter fun k : Fin 16 => j.val + 1 ≤ k.val) by
    ext k; simp only [Finset.mem_filter, Finset.mem_univ, true_and, Finset.mem_insert, Fin.ext_iff]; omega,
    bigSep_insert (by simp)]
  exact entails_refl _
theorem outFin_push (j : Fin 16) : iprop(outDone d i OUT j ∗ outFin d i OUT j.val) ⊢ outFin d i OUT (j.val + 1) := by
  unfold outFin
  rw [show (Finset.univ.filter fun k : Fin 16 => k.val < j.val + 1) = insert j (Finset.univ.filter fun k : Fin 16 => k.val < j.val) by
    ext k; simp only [Finset.mem_filter, Finset.mem_univ, true_and, Finset.mem_insert, Fin.ext_iff]; omega,
    bigSep_insert (by simp)]
  exact entails_refl _

/-- Slot `q` writes out chunk `jm` while slot `p` fetches chunk `j`. -/
def turn (q p : Fin 2) (jm j : Fin 16) : sProp (RM F) :=
  iprop(outing Z d i qs ql OUT q jm ∗ issued Z d i qs ql p j ∗ words Z d i ∗ outLeft d i j.val ∗ outFin d i OUT jm.val ∗ Owe (thr d i) O W
    ∗ □ Transfers.MayWaits (thr d i) (default : HIx 1) O)

theorem mid_bind (q p : Fin 2) (jm j jn : Fin 16) (k : PUnit → TP F i α) :
    mid i q p jm j jn >>= k = (outWait i q jm >>= fun _ => issue i q jn >>= fun _ => consume i p j >>= k) := by
  simp only [mid, bind_assoc]

theorem wp_mid (hZ : Good Z) (hO : OutIs Z i OUT) (q p : Fin 2) (jm j jn : Fin 16) (hj : j.val = jm.val + 1) (_hn : jn.val = j.val + 1) {k : PUnit → TP F i α} :
    turn Z d i qs ql OUT O W q p jm j
      ⊢ iprop((turn Z d i qs ql OUT O W p q j jn -∗ wp frame (wpE defs 𝒱 (thr d i) bd) Set.univ (k ⟨⟩) Q)
        -∗ wp frame (wpE defs 𝒱 (thr d i) bd) Set.univ (mid i q p jm j jn >>= k) Q) := by
  unfold turn
  iintro ⟨Ho, Hi, Hw, Hl, Hd, HO, #Hmw⟩ Hk
  rw [mid_bind]
  iapply (wp_outWait Z d i qs ql OUT q jm) $$ [Ho HO]
  · isplitl [Ho]; · iexact Ho
    isplitl [HO]; · iexact HO
    iexact Hmw
  iintro ⟨Hq, Hdj, HO⟩
  iapply (wp_issue Z d i qs ql hZ q jn) $$ [Hq Hw]
  · isplitl [Hq] <;> iassumption
  iintro ⟨Hq, Hw⟩
  ihave Hl' := (outLeft_pop d i j) $$ Hl
  icases Hl' with ⟨Hj, Hl⟩
  iapply (wp_consume Z d i qs ql OUT hZ hO p j) $$ [Hi Hw Hj HO]
  · isplitl [Hi]; · iexact Hi
    isplitl [Hw]; · iexact Hw
    isplitl [Hj]; · iexact Hj
    isplitl [HO]; · iexact HO
    iexact Hmw
  iintro ⟨Hp, Hw, HO⟩
  iapply Hk
  isplitl [Hp]; · iexact Hp
  isplitl [Hq]; · iexact Hq
  isplitl [Hw]; · iexact Hw
  isplitl [Hl]; · rw [_hn]; iexact Hl
  isplitl [Hd Hdj]
  · rw [hj]
    iapply (outFin_push d i OUT jm)
    isplitl [Hdj] <;> iassumption
  isplitl [HO]; · iexact HO
  iexact Hmw

/-- The tile's chunks, from two idle slots to two idle slots with the tile's rows of the output written. -/
theorem wp_chunks (hZ : Good Z) (hO : OutIs Z i OUT) {Q : PUnit → sProp (RM F)} :
    iprop(idle Z d i qs ql 0 ∗ idle Z d i qs ql 1 ∗ words Z d i ∗ bigSep Finset.univ (outAny d i) ∗ Owe (thr d i) O W ∗ Transfers.MayWaits (thr d i) (default : HIx 1) O)
      ⊢ iprop((iprop(idle Z d i qs ql 0 ∗ idle Z d i qs ql 1 ∗ words Z d i ∗ bigSep Finset.univ (outDone d i OUT) ∗ Owe (thr d i) O W) -∗ Q ⟨⟩)
        -∗ wp frame (wpE defs 𝒱 (thr d i) bd) Set.univ (chunks i) Q) := by
  iintro ⟨H0, H1, Hw, Hl, HO, #Hmw⟩ Hk
  unfold chunks
  iapply (wp_issue Z d i qs ql hZ 0 0) $$ [H0 Hw]
  · isplitl [H0] <;> iassumption
  iintro ⟨H0, Hw⟩
  iapply (wp_issue Z d i qs ql hZ 1 1) $$ [H1 Hw]
  · isplitl [H1] <;> iassumption
  iintro ⟨H1, Hw⟩
  ihave Hl := (show bigSep Finset.univ (outAny (F := F) d i) ⊢ iprop(outAny d i 0 ∗ outLeft d i ((0 : Fin 16).val + 1)) from by
    refine Entails.trans (Entails.of_eq ?_) (outLeft_pop d i 0)
    unfold outLeft
    congr 1) $$ Hl
  icases Hl with ⟨Hj, Hl⟩
  iapply (wp_consume Z d i qs ql OUT hZ hO 0 0) $$ [H0 Hw Hj HO]
  · isplitl [H0]; · iexact H0
    isplitl [Hw]; · iexact Hw
    isplitl [Hj]; · iexact Hj
    isplitl [HO]; · iexact HO
    iexact Hmw
  iintro ⟨H0, Hw, HO⟩
  ihave H := (show iprop(outing Z d i qs ql OUT 0 0 ∗ issued Z d i qs ql 1 1 ∗ words Z d i ∗ outLeft d i ((0 : Fin 16).val + 1) ∗ Owe (thr d i) O W
      ∗ □ Transfers.MayWaits (thr d i) (default : HIx 1) O) ⊢ turn Z d i qs ql OUT O W 0 1 0 1 from by
    unfold turn
    iintro ⟨H0, H1, Hw, Hl, HO, #Hmw⟩
    isplitl [H0]; · iexact H0
    isplitl [H1]; · iexact H1
    isplitl [Hw]; · iexact Hw
    isplitl [Hl]; · iexact Hl
    isplitr
    · unfold outFin
      rw [Finset.filter_false_of_mem (fun _ _ => by simp), bigSep_empty]
      iempintro
    isplitl [HO]; · iexact HO
    iexact Hmw) $$ [H0 H1 Hw Hl HO]
  · isplitl [H0]; · iexact H0
    isplitl [H1]; · iexact H1
    isplitl [Hw]; · iexact Hw
    isplitl [Hl]; · iexact Hl
    isplitl [HO]; · iexact HO
    iexact Hmw
  iapply (wp_mid Z d i qs ql OUT O W hZ hO 0 1 0 1 2 rfl rfl) $$ H
  iintro H
  iapply (wp_mid Z d i qs ql OUT O W hZ hO 1 0 1 2 3 rfl rfl) $$ H
  iintro H
  iapply (wp_mid Z d i qs ql OUT O W hZ hO 0 1 2 3 4 rfl rfl) $$ H
  iintro H
  iapply (wp_mid Z d i qs ql OUT O W hZ hO 1 0 3 4 5 rfl rfl) $$ H
  iintro H
  iapply (wp_mid Z d i qs ql OUT O W hZ hO 0 1 4 5 6 rfl rfl) $$ H
  iintro H
  iapply (wp_mid Z d i qs ql OUT O W hZ hO 1 0 5 6 7 rfl rfl) $$ H
  iintro H
  iapply (wp_mid Z d i qs ql OUT O W hZ hO 0 1 6 7 8 rfl rfl) $$ H
  iintro H
  iapply (wp_mid Z d i qs ql OUT O W hZ hO 1 0 7 8 9 rfl rfl) $$ H
  iintro H
  iapply (wp_mid Z d i qs ql OUT O W hZ hO 0 1 8 9 10 rfl rfl) $$ H
  iintro H
  iapply (wp_mid Z d i qs ql OUT O W hZ hO 1 0 9 10 11 rfl rfl) $$ H
  iintro H
  iapply (wp_mid Z d i qs ql OUT O W hZ hO 0 1 10 11 12 rfl rfl) $$ H
  iintro H
  iapply (wp_mid Z d i qs ql OUT O W hZ hO 1 0 11 12 13 rfl rfl) $$ H
  iintro H
  iapply (wp_mid Z d i qs ql OUT O W hZ hO 0 1 12 13 14 rfl rfl) $$ H
  iintro H
  iapply (wp_mid Z d i qs ql OUT O W hZ hO 1 0 13 14 15 rfl rfl) $$ H
  iintro H
  unfold turn
  icases H with ⟨H0, H1, Hw, Hl, Hd, HO, -⟩
  ihave Hl := (outLeft_pop d i 15) $$ Hl
  icases Hl with ⟨Hj, -⟩
  iapply (wp_consume Z d i qs ql OUT hZ hO 1 15) $$ [H1 Hw Hj HO]
  · isplitl [H1]; · iexact H1
    isplitl [Hw]; · iexact Hw
    isplitl [Hj]; · iexact Hj
    isplitl [HO]; · iexact HO
    iexact Hmw
  iintro ⟨H1, Hw, HO⟩
  iapply (wp_outWait Z d i qs ql OUT 0 14) $$ [H0 HO]
  · isplitl [H0]; · iexact H0
    isplitl [HO]; · iexact HO
    iexact Hmw
  iintro ⟨H0, Hd0, HO⟩
  iapply (wp_outWait Z d i qs ql OUT 1 15) $$ [H1 HO]
  · isplitl [H1]; · iexact H1
    isplitl [HO]; · iexact HO
    iexact Hmw
  iintro ⟨H1, Hd1, HO⟩
  rw [wp_pure]
  imodintro
  iapply Hk
  isplitl [H0]; · iexact H0
  isplitl [H1]; · iexact H1
  isplitl [Hw]; · iexact Hw
  isplitr [HO]
  · ihave Hd := (outFin_push d i OUT 14) $$ [Hd0 Hd]
    · isplitl [Hd0] <;> iassumption
    ihave Hd := (outFin_push d i OUT 15) $$ [Hd1 Hd]
    · isplitl [Hd1]; · iexact Hd1
      iexact Hd
    iapply (show outFin d i OUT ((15 : Fin 16).val + 1) ⊢ bigSep Finset.univ (outDone d i OUT) from by
      unfold outFin
      rw [Finset.filter_true_of_mem (fun k _ => k.isLt)])
    iexact Hd
  iexact HO

end Cert.Proof

end
-- ==== Proof.Scan.lean ====
/-
  Counting row starts: the kernel's scans of sixteen positions, as the number of starts and the last start so far.
-/
module

public import proofs.«01_k».proof.Proof.Rows

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- How many of the first `n` positions start a row, and the last of them that does (zero where none does). -/
def cnt (h : ℕ → Bool) : ℕ → ℕ
  | 0 => 0
  | n + 1 => cnt h n + (if h n then 1 else 0)
def lst (h : ℕ → Bool) : ℕ → ℕ
  | 0 => 0
  | n + 1 => if h n then n else lst h n

theorem cnt_le (h : ℕ → Bool) (n : ℕ) : cnt h n ≤ n := by
  induction n with
  | zero => exact le_refl _
  | succ n ih => simp only [cnt]; split <;> omega
theorem lst_le (h : ℕ → Bool) (n : ℕ) : lst h n ≤ n := by
  induction n with
  | zero => exact le_refl _
  | succ n ih => simp only [lst]; split <;> omega
theorem lst_lt (h : ℕ → Bool) (n : ℕ) : lst h (n + 1) ≤ n := by
  simp only [lst]; split
  · exact le_refl _
  · exact lst_le h n
theorem cnt_mono (h : ℕ → Bool) {m n : ℕ} (hmn : m ≤ n) : cnt h m ≤ cnt h n := by
  induction hmn with
  | refl => exact le_refl _
  | step _ ih => exact le_trans ih (by simp only [cnt]; omega)
theorem lst_mono (h : ℕ → Bool) {m n : ℕ} (hmn : m ≤ n) : lst h m ≤ lst h n := by
  induction hmn with
  | refl => exact le_refl _
  | step _ ih =>
    refine le_trans ih ?_
    simp only [lst]; split
    · exact lst_le h _
    · exact le_refl _
/-- Where the first position is no start, fewer starts than positions. -/
theorem cnt_lt (h : ℕ → Bool) (h0 : h 0 = false) (n : ℕ) : cnt h (n + 1) ≤ n := by
  induction n with
  | zero => simp [cnt, h0]
  | succ n ih => rw [cnt]; split <;> omega
/-- No start between two positions: the same last start. -/
theorem lst_flat (h : ℕ → Bool) {m n : ℕ} (hmn : m ≤ n) (hc : cnt h n = cnt h m) : lst h n = lst h m := by
  induction hmn with
  | refl => rfl
  | @step n hmn ih =>
    have h1 := cnt_mono h hmn
    have h2 : h n = false := by
      by_contra hh
      rw [Bool.not_eq_false] at hh
      simp only [Nat.succ_eq_add_one, cnt, hh, if_true] at hc
      omega
    simp only [Nat.succ_eq_add_one, cnt, lst, h2, Bool.false_eq_true, if_false, Nat.add_zero] at hc ⊢
    exact ih hc

/-- The running maximum. -/
def runMax (f : ℕ → ℕ) : ℕ → ℕ
  | 0 => f 0
  | n + 1 => max (runMax f n) (f (n + 1))
theorem runMax_mono {f : ℕ → ℕ} (hf : ∀ n, f n ≤ f (n + 1)) : ∀ n, runMax f n = f n
  | 0 => rfl
  | n + 1 => by rw [runMax, runMax_mono hf n]; exact max_eq_right (hf n)
theorem runMax_lt {f : ℕ → ℕ} {B n : ℕ} (hf : ∀ k ≤ n, f k < B) : runMax f n < B := by
  induction n with
  | zero => exact hf 0 (le_refl _)
  | succ n ih => exact max_lt (ih fun k hk => hf k (by omega)) (hf _ (le_refl _))
/-- The running maximum of the starts, after the last start before them, is the last start. -/
theorem runMax_lst (h : ℕ → Bool) (s : ℕ) : ∀ j, max (runMax (fun k => if h (s + k) then s + k else 0) j) (lst h s) = lst h (s + j + 1)
  | 0 => by
    have := lst_le h s
    simp only [runMax, lst, Nat.add_zero]
    split <;> omega
  | j + 1 => by
    have ih := runMax_lst h s j
    have h1 := lst_le h (s + j + 1)
    rw [runMax, lst, show s + (j + 1) = s + j + 1 from rfl]
    split <;> omega

/-! ## Words -/

theorem word_toNat {a : ℕ} (ha : a < 2 ^ 31) : (BitVec.ofNat 32 a).toNat = a := by
  rw [BitVec.toNat_ofNat, Nat.mod_eq_of_lt (by omega)]
theorem word_toInt {a : ℕ} (ha : a < 2 ^ 31) : (BitVec.ofNat 32 a).toInt = a := by
  rw [BitVec.toInt_eq_toNat_of_lt (by rw [word_toNat ha]; omega), word_toNat ha]
theorem maxsi_word {a b : ℕ} (ha : a < 2 ^ 31) (hb : b < 2 ^ 31) : IntOp.maxsi (BitVec.ofNat 32 a) (BitVec.ofNat 32 b) = BitVec.ofNat 32 (max a b) := by
  unfold IntOp.maxsi
  rw [BitVec.slt_eq_decide, word_toInt ha, word_toInt hb]
  rcases Nat.lt_or_ge b a with h | h
  · rw [if_pos (by simpa using h), max_eq_left (by omega)]
  · rw [if_neg (by simpa using h), max_eq_right h]
theorem flip_toNat {a : ℕ} (ha : a < 2 ^ 31) : (BitVec.ofNat 32 a ^^^ 2147483648#32).toNat = 2 ^ 31 + a := by
  rw [BitVec.toNat_xor, word_toNat ha]
  apply Nat.eq_of_testBit_eq
  intro i
  rw [Nat.testBit_xor, show (2147483648#32).toNat = 2 ^ 31 from rfl, Nat.testBit_two_pow]
  rcases Nat.lt_trichotomy i 31 with hi | hi | hi
  · rw [Nat.testBit_two_pow_add_gt hi, decide_eq_false (by omega), Bool.xor_false]
  · subst hi
    rw [Nat.testBit_two_pow_add_eq]
    simp
  · have h32 : 2 ^ 32 ≤ 2 ^ i := Nat.pow_le_pow_right (by omega) hi
    rw [Nat.testBit_lt_two_pow (by omega : a < 2 ^ i), Nat.testBit_lt_two_pow (by omega : 2 ^ 31 + a < 2 ^ i), decide_eq_false (by omega)]
    rfl
theorem maxui_flip {a b : ℕ} (ha : a < 2 ^ 31) (hb : b < 2 ^ 31) :
    IntOp.maxui (BitVec.ofNat 32 a ^^^ 2147483648#32) (BitVec.ofNat 32 b ^^^ 2147483648#32) = BitVec.ofNat 32 (max a b) ^^^ 2147483648#32 := by
  unfold IntOp.maxui
  rw [BitVec.ult_eq_decide, flip_toNat ha, flip_toNat hb]
  rcases Nat.lt_or_ge b a with h | h
  · rw [if_pos (by simpa using h), max_eq_left (by omega)]
  · rw [if_neg (by simpa using h), max_eq_right h]

/-! ## The scans -/

/-- A scan of sixteen words, one after another. -/
def scanN (kind : ScanKind) (f : ℕ → BitVec 32) : ℕ → BitVec 32
  | 0 => f 0
  | n + 1 => kind.step (scanN kind f n) (f (n + 1))

theorem scan_ix (kind : ScanKind) (v : IVec S16 32) (f : ℕ → BitVec 32) (hf : ∀ k : Fin 16, v (ix1 k) = f k.val) (j : Fin 16) :
    scan kind v (ix1 j) = scanN kind f j.val := by
  have e : scan kind v (ix1 j) = ((List.finRange 16).filter fun k => decide (0 < k.val ∧ k.val ≤ j.val)).foldl (fun r k => kind.step r (f k.val)) (f 0) := by
    have hk : ∀ k : Fin 16, (Shape.ofLane k : S16.Idx) = ix1 k := fun k => by
      funext a
      obtain rfl : a = 0 := Subsingleton.elim _ _
      rfl
    unfold scan
    show List.foldl (fun r (k : Fin 16) => kind.step r (v (Shape.ofLane k))) (v (Shape.ofLane (0 : Fin 16)))
      ((List.finRange 16).filter fun k => decide (0 < k.val ∧ k.val ≤ j.val)) = _
    simp only [hk, hf]
    rfl
  rw [e]
  fin_cases j <;> rfl

theorem scan_sum_ix (v : IVec S16 32) (h : ℕ → Bool) (s : ℕ) (hv : ∀ k : Fin 16, v (ix1 k) = if h (s + k.val) then 1#32 else 0#32) (j : Fin 16) :
    scan .sum v (ix1 j) + BitVec.ofNat 32 (cnt h s) = BitVec.ofNat 32 (cnt h (s + j.val + 1)) := by
  rw [scan_ix .sum v (fun k => if h (s + k) then 1#32 else 0#32) hv j]
  have : ∀ n, scanN .sum (fun k => if h (s + k) then 1#32 else 0#32) n + BitVec.ofNat 32 (cnt h s) = BitVec.ofNat 32 (cnt h (s + n + 1)) := by
    intro n
    induction n with
    | zero =>
      simp only [scanN, cnt, Nat.add_zero, BitVec.ofNat_add]
      rw [BitVec.add_comm]
      split <;> rfl
    | succ n ih =>
      rw [scanN, cnt, BitVec.ofNat_add, show s + (n + 1) = s + n + 1 from rfl, ← ih]
      show scanN .sum _ n + _ + _ = _
      rw [BitVec.add_assoc, BitVec.add_comm _ (BitVec.ofNat 32 (cnt h s)), ← BitVec.add_assoc]
      congr 1
      split <;> rfl
  exact this j.val

theorem smax_ix (v : IVec S16 32) (f : ℕ → ℕ) (hv : ∀ k : Fin 16, v (ix1 k) = BitVec.ofNat 32 (f k.val)) (hf : ∀ k, k < 16 → f k < 2 ^ 31) (j : Fin 16) :
    smax v (ix1 j) = BitVec.ofNat 32 (runMax f j.val) := by
  unfold smax
  show scan .max _ (ix1 j) ^^^ 2147483648#32 = _
  rw [scan_ix .max (xori v (broadcast S16 2147483648#32)) (fun k => BitVec.ofNat 32 (f k) ^^^ 2147483648#32)
    (fun k => by show v (ix1 k) ^^^ _ = _; rw [hv k]; rfl) j]
  have : ∀ n, n < 16 → scanN .max (fun k => BitVec.ofNat 32 (f k) ^^^ 2147483648#32) n = BitVec.ofNat 32 (runMax f n) ^^^ 2147483648#32 := by
    intro n hn
    induction n with
    | zero => rfl
    | succ n ih =>
      rw [scanN, ih (by omega), runMax]
      exact maxui_flip (runMax_lt fun k hk => hf k (by omega)) (hf _ hn)
  rw [this j.val j.isLt, BitVec.xor_assoc, BitVec.xor_self, BitVec.xor_zero]

theorem lane15_ix (v : IVec S16 32) : lane15 v = v (ix1 (15 : Fin 16)) := by
  unfold lane15 extractAt
  congr 1
  funext a
  obtain rfl : a = 0 := Subsingleton.elim _ _
  rfl

/-- Lane `k` of the sixteen words starting at `s` holds zero where position `s + k` starts a row. -/
def Lanes {F : FTy → Type} (v : Vec F S16 .i32) (h : ℕ → Bool) (s : ℕ) : Prop := ∀ k : Fin 16, ((v (ix1 k) : BitVec 32) == 0#32) = h (s + k.val)

variable {F : FTy → Type} [FloatOps F] {v : Vec F S16 .i32} {h : ℕ → Bool} {s : ℕ}

theorem one_ix (hv : Lanes v h s) (k : Fin 16) : one v (ix1 k) = if h (s + k.val) then 1#32 else 0#32 := by
  unfold one
  show Scalar.select (BitVec.ofBool ((v (ix1 k) : BitVec 32) == 0#32)) 1#32 0#32 = _
  rw [hv k]
  cases h (s + k.val) <;> rfl
theorem runV_ix (s : ℕ) (k : Fin 16) : runV (BitVec.ofNat 32 s) (ix1 k) = BitVec.ofNat 32 (s + k.val) := by
  unfold runV
  show BitVec.ofNat 32 (0 * 16 + k.val) + BitVec.ofNat 32 s = _
  rw [Nat.zero_mul, Nat.zero_add, BitVec.ofNat_add, BitVec.add_comm]
theorem startV_ix (hv : Lanes v h s) (k : Fin 16) : startV (BitVec.ofNat 32 s) v (ix1 k) = BitVec.ofNat 32 (if h (s + k.val) then s + k.val else 0) := by
  unfold startV
  show Scalar.select (BitVec.ofBool ((v (ix1 k) : BitVec 32) == 0#32)) (runV (BitVec.ofNat 32 s) (ix1 k)) 0#32 = _
  rw [hv k, runV_ix]
  cases h (s + k.val) <;> rfl

/-- The group's instruction rows. -/
theorem instV_ix (hv : Lanes v h s) (k : Fin 16) : instV (BitVec.ofNat 32 (cnt h s)) v (ix1 k) = BitVec.ofNat 32 (cnt h (s + k.val + 1)) := by
  unfold instV
  exact scan_sum_ix _ h s (one_ix hv) k
/-- The group's last starts. -/
theorem segV_ix (hv : Lanes v h s) (hs : s < 2 ^ 30) (k : Fin 16) :
    segV (BitVec.ofNat 32 s) (BitVec.ofNat 32 (lst h s)) v (ix1 k) = BitVec.ofNat 32 (lst h (s + k.val + 1)) := by
  unfold segV
  have hf : ∀ k, k < 16 → (if h (s + k) then s + k else 0) < 2 ^ 31 := fun k hk => by split <;> omega
  show IntOp.maxsi (smax (startV (BitVec.ofNat 32 s) v) (ix1 k)) (BitVec.ofNat 32 (lst h s)) = _
  have hl := lst_le h s
  rw [smax_ix _ (fun k => if h (s + k) then s + k else 0) (startV_ix hv) hf k,
    maxsi_word (runMax_lt fun j hj => hf j (by omega)) (by omega), runMax_lst]

/-- The carried words after a group. -/
theorem lane_instV (hv : Lanes v h s) (hs : s < 2 ^ 30) : lane15 (smax (instV (BitVec.ofNat 32 (cnt h s)) v)) = BitVec.ofNat 32 (cnt h (s + 16)) := by
  rw [lane15_ix, smax_ix _ (fun k => cnt h (s + k + 1)) (instV_ix hv) (fun k hk => by have := cnt_le h (s + k + 1); omega),
    runMax_mono (fun n => cnt_mono h (by omega))]
  rfl
theorem lane_segV (hv : Lanes v h s) (hs : s < 2 ^ 30) :
    lane15 (smax (segV (BitVec.ofNat 32 s) (BitVec.ofNat 32 (lst h s)) v)) = BitVec.ofNat 32 (lst h (s + 16)) := by
  rw [lane15_ix, smax_ix _ (fun k => lst h (s + k + 1)) (segV_ix hv hs) (fun k hk => by have := lst_le h (s + k + 1); omega),
    runMax_mono (fun n => lst_mono h (by omega))]
  rfl
theorem lane_sum (hv : Lanes v h s) : BitVec.ofNat 32 (cnt h s) + lane15 (scan .sum (one v)) = BitVec.ofNat 32 (cnt h (s + 16)) := by
  rw [lane15_ix, BitVec.add_comm, scan_sum_ix _ h s (one_ix hv) 15]
  rfl
theorem lane_start (hv : Lanes v h s) (hs : s < 2 ^ 30) :
    IntOp.maxsi (BitVec.ofNat 32 (lst h s)) (lane15 (smax (startV (BitVec.ofNat 32 s) v))) = BitVec.ofNat 32 (lst h (s + 16)) := by
  have hf : ∀ k, k < 16 → (if h (s + k) then s + k else 0) < 2 ^ 31 := fun k hk => by split <;> omega
  have hl := lst_le h s
  rw [lane15_ix, smax_ix _ (fun k => if h (s + k) then s + k else 0) (startV_ix hv) hf 15,
    maxsi_word (by omega) (runMax_lt fun j hj => hf j (by have : ((15 : Fin 16) : ℕ) = 15 := rfl; omega)), max_comm, runMax_lst]
  rfl

end Cert.Proof

end
-- ==== Proof.Group.lean ====
/-
  The tile's index lists: the loads and stores of one group of sixteen positions, and of a chunk's three words.
-/
module

public import proofs.«01_k».proof.Proof.Scan
public import proofs.«01_k».proof.Proof.Issue

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (i : grid0.Coords)
variable {defs : Defs nD τ sig (Elt F) Λ₀} {𝒱 : Variants} {bd : Option 𝒱.V} {α : Type} {Q : α → sProp (RM F)}

/-! ## Where things lie -/

theorem trips5 : k0_t5_loop.trips = 16 := by decide +kernel
theorem offG_eq : ∀ (t : Fin k0_t5_loop.trips) (h : Fin 8), offG t h.val = ![128 * t.val + 16 * h.val] := by decide +kernel
theorem off6_eq : ∀ t : Fin k0_t5_loop.trips, k0_off6 t = ![t.val] := by decide +kernel
theorem iv5 (t : Fin k0_t5_loop.trips) : Scf.iv 0#32 1#32 t = BitVec.ofNat 32 t.val := by revert t; decide +kernel
theorem grpPos_eq (b : ℕ) (t : Fin k0_t5_loop.trips) (h : ℕ) : grpPos (BitVec.ofNat 32 b) t h = BitVec.ofNat 32 (b + (128 * t.val + 16 * h)) := by
  unfold grpPos
  rw [iv5]
  show BitVec.ofNat 32 b + (BitVec.ofNat 32 t.val * BitVec.ofNat 32 128 + BitVec.ofNat 32 (16 * h)) = _
  rw [← BitVec.ofNat_mul, ← BitVec.ofNat_add, ← BitVec.ofNat_add, Nat.mul_comm t.val]

/-! ## The lists -/

/-- The first `n` words of the instruction list are `T`'s; those of the argument list. -/
def iiUp (T : ℕ → BitVec 32) (n : ℕ) : sProp (RM F) :=
  iprop(∃ f : S2048.Idx → BitVec 32, ⌜∀ k : Fin 2048, k.val < n → f (ix1 k) = T k.val⌝ ∗ ((iiV).view.loc (thr d i) ↦[Finset.univ]{fullShare} f))
def aiUp (T : ℕ → BitVec 32) (n : ℕ) : sProp (RM F) :=
  iprop(∃ f : S2048.Idx → BitVec 32, ⌜∀ k : Fin 2048, k.val < n → f (ix1 k) = T k.val⌝ ∗ ((aiV).view.loc (thr d i) ↦[Finset.univ]{fullShare} f))

theorem set_grp {n : ℕ} {hb : ∀ a, (![n] : Fin 1 → ℕ) a + S16.size a ≤ S2048.size a} (k : Fin 2048) (hk : ¬(n ≤ k.val ∧ k.val < n + 16)) :
    (ix1 k : S2048.Idx) ∉ (Rect.unit (s := S2048) ![n] S16.size hb).set := by
  intro h
  obtain ⟨y, hy⟩ := (Rect.unit (s := S2048) ![n] S16.size hb).exists_idx_of_mem h
  have e1 : n + 1 * (y 0).val = k.val := congrArg Fin.val (congrFun hy 0)
  have l1 : (y 0).val < 16 := (y 0).isLt
  omega
theorem emb_grp {n : ℕ} {hb : ∀ a, (![n] : Fin 1 → ℕ) a + S16.size a ≤ S2048.size a} (k : Fin 2048) (h1 : n ≤ k.val) (h2 : k.val < n + 16) :
    (ix1 k : S2048.Idx) = (Rect.unit (s := S2048) ![n] S16.size hb).emb (ix1 (⟨k.val - n, by omega⟩ : Fin 16)) := by
  refine Eq.trans ?_ (emb1 (h := hb) (⟨k.val - n, by omega⟩ : Fin 16) (by show n + (k.val - n) < 2048; have := k.isLt; omega)).symm
  exact congrArg ix1 (Fin.ext (show k.val = n + (k.val - n) by omega))

/-- A store of one group. -/
theorem wr_ii {n : ℕ} {hb : ∀ a, (![n] : Fin 1 → ℕ) a + S16.size a ≤ S2048.size a} (f : S2048.Idx → BitVec 32) (T : ℕ → BitVec 32)
    (hf : ∀ k : Fin 2048, k.val < n → f (ix1 k) = T k.val) (w : S16.Idx → BitVec 32) (hw : ∀ x : Fin 16, w (ix1 x) = T (n + x.val)) (k : Fin 2048) (hk : k.val < n + 16) :
    ((iiV).access (Rect.unit (s := S2048) ![n] S16.size hb)).write (Elt F) f w Finset.univ (ix1 k) = T k.val := by
  by_cases h : n ≤ k.val ∧ k.val < n + 16
  · obtain ⟨h1, h2⟩ := h
    rw [show (ix1 k : S2048.Idx) = ((iiV).access (Rect.unit (s := S2048) ![n] S16.size hb)).emb (ix1 (⟨k.val - n, by omega⟩ : Fin 16)) from emb_grp k h1 h2]
    refine (View.write_emb_of_mem _ _ (Finset.mem_univ _)).trans ((hw _).trans (congrArg T ?_))
    show n + (k.val - n) = k.val
    omega
  · rw [View.write_of_not_mem _ _ _ (by
      rw [show ((iiV).access (Rect.unit (s := S2048) ![n] S16.size hb)).setOn Finset.univ = (Rect.unit (s := S2048) ![n] S16.size hb).set by
        rw [View.setOn_univ, View.set_slice]; exact Finset.map_refl]
      exact set_grp k h)]
    exact hf k (by omega)
theorem wr_ai {n : ℕ} {hb : ∀ a, (![n] : Fin 1 → ℕ) a + S16.size a ≤ S2048.size a} (f : S2048.Idx → BitVec 32) (T : ℕ → BitVec 32)
    (hf : ∀ k : Fin 2048, k.val < n → f (ix1 k) = T k.val) (w : S16.Idx → BitVec 32) (hw : ∀ x : Fin 16, w (ix1 x) = T (n + x.val)) (k : Fin 2048) (hk : k.val < n + 16) :
    ((aiV).access (Rect.unit (s := S2048) ![n] S16.size hb)).write (Elt F) f w Finset.univ (ix1 k) = T k.val :=
  wr_ii (F := F) f T hf w hw k hk

/-- A load of sixteen shifted tokens. -/
theorem wp_ld_spv (B : S2048.Idx → BitVec 32) (h : ℕ → Bool) (b : ℕ) (hB : ∀ k : Fin 2048, (B (ix1 k) == 0#32) = h (b + k.val)) (n : ℕ)
    {o : Fin 1 → ℕ} (ho : o = ![n]) {hb : ∀ a, o a + S16.size a ≤ S2048.size a}
    {hl : (spvV).view.LoadsAt (Rect.unit (s := S2048) o S16.size hb).toLoadRect} {k : Vec F S16 .i32 → TP F i α} :
    ((spvV).view.loc (thr d i) ↦[Finset.univ]{fullShare} B) ⊢ iprop((∀ v : Vec F S16 .i32, ⌜Lanes v h (b + n)⌝ -∗ ((spvV).view.loc (thr d i) ↦[Finset.univ]{fullShare} B) -∗ wp frame (wpE defs 𝒱 (thr d i) bd) Set.univ (k v) Q)
      -∗ wp frame (wpE defs 𝒱 (thr d i) bd) Set.univ (.op (.load spvV (Rect.unit (s := S2048) o S16.size hb).toLoadRect hl) k) Q) := by
  subst ho
  have h2 : n + 16 ≤ 2048 := hb 0
  iintro H Hk
  iapply (wp_load 𝒱 (thr d i) bd Set.univ (m := spvV) (S := Finset.univ) (q := fullShare) (f := B) (Finset.subset_univ _)) $$ H
  iintro H
  iapply Hk
  · ipureintro
    intro x
    refine Eq.trans ?_ ((hB ⟨n + x.val, by omega⟩).trans (congrArg h (Nat.add_assoc _ _ _).symm))
    exact congrArg (fun k => B k == 0#32) (emb1 (h := hb) x (by show n + x.val < 2048; omega))
  iexact H

theorem wp_ld_ii (T : ℕ → BitVec 32) (n : ℕ) {o : Fin 1 → ℕ} {hb : ∀ a, o a + S16.size a ≤ S2048.size a}
    {hl : (iiV).view.LoadsAt (Rect.unit (s := S2048) o S16.size hb).toLoadRect} {k : Vec F S16 .i32 → TP F i α} :
    iiUp d i T n ⊢ iprop((∀ v : Vec F S16 .i32, iiUp d i T n -∗ wp frame (wpE defs 𝒱 (thr d i) bd) Set.univ (k v) Q)
      -∗ wp frame (wpE defs 𝒱 (thr d i) bd) Set.univ (.op (.load iiV (Rect.unit (s := S2048) o S16.size hb).toLoadRect hl) k) Q) := by
  unfold iiUp
  iintro ⟨%f, %hf, H⟩ Hk
  iapply (wp_load 𝒱 (thr d i) bd Set.univ (m := iiV) (S := Finset.univ) (q := fullShare) (f := f) (Finset.subset_univ _)) $$ H
  iintro H
  iapply Hk
  iexists f
  isplitr; · ipureintro; exact hf
  iexact H
theorem wp_st_ii (T : ℕ → BitVec 32) (n : ℕ) {o : Fin 1 → ℕ} (ho : o = ![n]) {hb : ∀ a, o a + S16.size a ≤ S2048.size a} (w : Vec F S16 .i32)
    (hw : ∀ x : Fin 16, w (ix1 x) = T (n + x.val))
    {hx : ((iiV).access (Rect.unit (s := S2048) o S16.size hb)).Stores Finset.univ}
    {hm : (Finset.univ : Finset S16.Idx) = Finset.univ ∨ ∀ a, (Rect.unit (s := S2048) o S16.size hb).stride a = 1} {k : PUnit → TP F i α} :
    iiUp d i T n ⊢ iprop((iiUp d i T (n + 16) -∗ wp frame (wpE defs 𝒱 (thr d i) bd) Set.univ (k ⟨⟩) Q)
      -∗ wp frame (wpE defs 𝒱 (thr d i) bd) Set.univ (.op (.store iiV (Rect.unit (s := S2048) o S16.size hb) w Finset.univ hx hm) k) Q) := by
  subst ho
  unfold iiUp
  iintro ⟨%f, %hf, H⟩ Hk
  iapply (wp_store 𝒱 (thr d i) bd Set.univ (m := iiV) (r := Rect.unit (s := S2048) ![n] S16.size hb) (w := w) (Mk := Finset.univ) (S := Finset.univ) (f := f) (Finset.subset_univ _)) $$ H
  iintro H
  iapply Hk
  iexists _
  isplitr
  rotate_left
  · iexact H
  ipureintro
  exact wr_ii (F := F) f T hf w hw

theorem wp_ld_ai (T : ℕ → BitVec 32) (n : ℕ) {o : Fin 1 → ℕ} {hb : ∀ a, o a + S16.size a ≤ S2048.size a}
    {hl : (aiV).view.LoadsAt (Rect.unit (s := S2048) o S16.size hb).toLoadRect} {k : Vec F S16 .i32 → TP F i α} :
    aiUp d i T n ⊢ iprop((∀ v : Vec F S16 .i32, aiUp d i T n -∗ wp frame (wpE defs 𝒱 (thr d i) bd) Set.univ (k v) Q)
      -∗ wp frame (wpE defs 𝒱 (thr d i) bd) Set.univ (.op (.load aiV (Rect.unit (s := S2048) o S16.size hb).toLoadRect hl) k) Q) := by
  unfold aiUp
  iintro ⟨%f, %hf, H⟩ Hk
  iapply (wp_load 𝒱 (thr d i) bd Set.univ (m := aiV) (S := Finset.univ) (q := fullShare) (f := f) (Finset.subset_univ _)) $$ H
  iintro H
  iapply Hk
  iexists f
  isplitr; · ipureintro; exact hf
  iexact H
theorem wp_st_ai (T : ℕ → BitVec 32) (n : ℕ) {o : Fin 1 → ℕ} (ho : o = ![n]) {hb : ∀ a, o a + S16.size a ≤ S2048.size a} (w : Vec F S16 .i32)
    (hw : ∀ x : Fin 16, w (ix1 x) = T (n + x.val))
    {hx : ((aiV).access (Rect.unit (s := S2048) o S16.size hb)).Stores Finset.univ}
    {hm : (Finset.univ : Finset S16.Idx) = Finset.univ ∨ ∀ a, (Rect.unit (s := S2048) o S16.size hb).stride a = 1} {k : PUnit → TP F i α} :
    aiUp d i T n ⊢ iprop((aiUp d i T (n + 16) -∗ wp frame (wpE defs 𝒱 (thr d i) bd) Set.univ (k ⟨⟩) Q)
      -∗ wp frame (wpE defs 𝒱 (thr d i) bd) Set.univ (.op (.store aiV (Rect.unit (s := S2048) o S16.size hb) w Finset.univ hx hm) k) Q) := by
  subst ho
  unfold aiUp
  iintro ⟨%f, %hf, H⟩ Hk
  iapply (wp_store 𝒱 (thr d i) bd Set.univ (m := aiV) (r := Rect.unit (s := S2048) ![n] S16.size hb) (w := w) (Mk := Finset.univ) (S := Finset.univ) (f := f) (Finset.subset_univ _)) $$ H
  iintro H
  iapply Hk
  iexists _
  isplitr
  rotate_left
  · iexact H
  ipureintro
  exact wr_ai (F := F) f T hf w hw
/-- One group's load and two stores. -/
theorem wp_group (B : S2048.Idx → BitVec 32) (h : ℕ → Bool) (b : ℕ) (hb : b ≤ 2048) (hB : ∀ k : Fin 2048, (B (ix1 k) == 0#32) = h (b + k.val))
    (t : Fin k0_t5_loop.trips) (g : Fin 8) {k : BitVec 32 × BitVec 32 → TP F i α} :
    iprop(((spvV).view.loc (thr d i) ↦[Finset.univ]{fullShare} B)
        ∗ iiUp d i (fun k => BitVec.ofNat 32 (cnt h (b + k + 1))) (128 * t.val + 16 * g.val)
        ∗ aiUp d i (fun k => BitVec.ofNat 32 (b + k) - BitVec.ofNat 32 (lst h (b + k + 1))) (128 * t.val + 16 * g.val))
      ⊢ iprop((iprop(((spvV).view.loc (thr d i) ↦[Finset.univ]{fullShare} B)
            ∗ iiUp d i (fun k => BitVec.ofNat 32 (cnt h (b + k + 1))) (128 * t.val + 16 * g.val + 16)
            ∗ aiUp d i (fun k => BitVec.ofNat 32 (b + k) - BitVec.ofNat 32 (lst h (b + k + 1))) (128 * t.val + 16 * g.val + 16))
          -∗ wp frame (wpE defs 𝒱 (thr d i) bd) Set.univ
            (k (BitVec.ofNat 32 (cnt h (b + (128 * t.val + 16 * g.val) + 16)), BitVec.ofNat 32 (lst h (b + (128 * t.val + 16 * g.val) + 16)))) Q)
        -∗ wp frame (wpE defs 𝒱 (thr d i) bd) Set.univ
          (group i (BitVec.ofNat 32 b) t g (BitVec.ofNat 32 (cnt h (b + (128 * t.val + 16 * g.val)))) (BitVec.ofNat 32 (lst h (b + (128 * t.val + 16 * g.val)))) >>= k) Q) := by
  have ht := lt_of_lt_of_eq t.isLt trips5
  have hg := g.isLt
  unfold group
  rw [grpPos_eq]
  generalize hn : 128 * t.val + 16 * g.val = n
  have ho : offG t g.val = ![n] := (offG_eq t g).trans (by rw [hn])
  iintro ⟨HB, Hi, Ha⟩ Hk
  iapply (wp_ld_spv d i B h b hB n ho) $$ HB
  iintro %v %hv HB
  iapply (wp_ld_ii d i _ n) $$ Hi
  iintro %v1 Hi
  iapply (wp_st_ii d i _ n ho _ (fun x => (instV_ix hv x).trans (by rw [Nat.add_assoc b n x.val]))) $$ Hi
  iintro Hi
  iapply (wp_ld_ai d i _ n) $$ Ha
  iintro %v2 Ha
  iapply (wp_st_ai d i _ n ho _ (fun x => by
    show runV (BitVec.ofNat 32 (b + n)) (ix1 x) - segV (BitVec.ofNat 32 (b + n)) (BitVec.ofNat 32 (lst h (b + n))) v (ix1 x) = _
    rw [runV_ix, segV_ix hv (by omega), Nat.add_assoc b n x.val])) $$ Ha
  iintro Ha
  rw [lane_instV hv (by omega), lane_segV hv (by omega)]
  iapply Hk
  isplitl [HB]; · iexact HB
  isplitl [Hi]; · iexact Hi
  iexact Ha

/-! ## The words -/

/-- The first `n` of a chunk's three words are given. -/
def nsUp (T : ℕ → BitVec 32) (n : ℕ) : sProp (RM F) :=
  iprop(∃ f : S16.Idx → BitVec 32, ⌜∀ k : Fin 16, k.val < n → f (ix1 k) = T k.val⌝ ∗ ((nsV).view.loc (thr d i) ↦[Finset.univ]{fullShare} f))
def ciUp (T : ℕ → BitVec 32) (n : ℕ) : sProp (RM F) :=
  iprop(∃ f : S16.Idx → BitVec 32, ⌜∀ k : Fin 16, k.val < n → f (ix1 k) = T k.val⌝ ∗ ((ciV).view.loc (thr d i) ↦[Finset.univ]{fullShare} f))
def baUp (T : ℕ → BitVec 32) (n : ℕ) : sProp (RM F) :=
  iprop(∃ f : S16.Idx → BitVec 32, ⌜∀ k : Fin 16, k.val < n → f (ix1 k) = T k.val⌝ ∗ ((baV).view.loc (thr d i) ↦[Finset.univ]{fullShare} f))

/-- A store of one word. -/
theorem wr_ns {n : ℕ} {hb : ∀ a, (![n] : Fin 1 → ℕ) a + S1.size a ≤ S16.size a} (f : S16.Idx → BitVec 32) (T : ℕ → BitVec 32)
    (hf : ∀ k : Fin 16, k.val < n → f (ix1 k) = T k.val) (k : Fin 16) (hk : k.val < n + 1) :
    ((nsV).access (Rect.unit (s := S16) ![n] S1.size hb)).write (Elt F) f (fun _ => T n) Finset.univ (ix1 k) = T k.val := by
  by_cases h : k.val = n
  · have e : (ix1 k : S16.Idx) = ((nsV).access (Rect.unit (s := S16) ![n] S1.size hb)).emb (ix1 (0 : Fin 1)) := by
      refine Eq.trans ?_ (emb1 (h := hb) (0 : Fin 1) (by show n + 0 < 16; have := k.isLt; omega)).symm
      exact congrArg ix1 (Fin.ext h)
    rw [e]
    exact (View.write_emb_of_mem _ _ (Finset.mem_univ _)).trans (congrArg T h.symm)
  · rw [View.write_of_not_mem _ _ _ (by
      rw [show ((nsV).access (Rect.unit (s := S16) ![n] S1.size hb)).setOn Finset.univ = (Rect.unit (s := S16) ![n] S1.size hb).set by
        rw [View.setOn_univ, View.set_slice]; exact Finset.map_refl]
      intro hh
      obtain ⟨y, hy⟩ := (Rect.unit (s := S16) ![n] S1.size hb).exists_idx_of_mem hh
      have e1 : n + 1 * (y 0).val = k.val := congrArg Fin.val (congrFun hy 0)
      have l1 : (y 0).val < 1 := (y 0).isLt
      omega)]
    exact hf k (by omega)
theorem wp_set_ns (T : ℕ → BitVec 32) (t : Fin k0_t5_loop.trips) (x : BitVec 32) (hx : x = T t.val) {k : PUnit → TP F i α} :
    nsUp d i T t.val ⊢ iprop((nsUp d i T (t.val + 1) -∗ wp frame (wpE defs 𝒱 (thr d i) bd) Set.univ (k ⟨⟩) Q)
      -∗ wp frame (wpE defs 𝒱 (thr d i) bd) Set.univ (setWord i nsV t x >>= k) Q) := by
  subst hx
  unfold nsUp setWord
  have ho := off6_eq t
  have hb := k0_off6_inb t
  iintro ⟨%f, %hf, H⟩ Hk
  iapply (wp_smemLoadElt 𝒱 (thr d i) bd Set.univ (m := nsV) (r := Rect.unit (s := S16) (k0_off6 t) S1.size (k0_off6_inb t)) (S := Finset.univ) (f := f)
    (hw := View.loads_smem_one rfl numel1_S1) (x := Shape.Idx.first (numel1_S1.symm ▸ Nat.one_pos))
    (k := fun _ => (Prog.op (.store nsV (Rect.unit (s := S16) (k0_off6 t) S1.size (k0_off6_inb t)) (fun _ => T t.val) Finset.univ (View.stores_smem_one rfl numel1_S1) (.inl rfl)) k : TP F i α))
    (Finset.subset_univ _)) $$ H
  iintro H
  iapply (wp_store 𝒱 (thr d i) bd Set.univ (m := nsV) (r := Rect.unit (s := S16) (k0_off6 t) S1.size (k0_off6_inb t)) (w := fun _ => T t.val) (Mk := Finset.univ) (S := Finset.univ) (f := f) (Finset.subset_univ _)) $$ H
  iintro H
  iapply Hk
  iexists _
  isplitr
  rotate_left
  · iexact H
  ipureintro
  revert hb
  generalize k0_off6_inb t = hb'
  revert hb'
  rw [ho]
  intro hb' _
  exact wr_ns (F := F) (hb := hb') f T hf
theorem wr_ci {n : ℕ} {hb : ∀ a, (![n] : Fin 1 → ℕ) a + S1.size a ≤ S16.size a} (f : S16.Idx → BitVec 32) (T : ℕ → BitVec 32)
    (hf : ∀ k : Fin 16, k.val < n → f (ix1 k) = T k.val) (k : Fin 16) (hk : k.val < n + 1) :
    ((ciV).access (Rect.unit (s := S16) ![n] S1.size hb)).write (Elt F) f (fun _ => T n) Finset.univ (ix1 k) = T k.val := wr_ns (F := F) f T hf k hk
theorem wp_set_ci (T : ℕ → BitVec 32) (t : Fin k0_t5_loop.trips) (x : BitVec 32) (hx : x = T t.val) {k : PUnit → TP F i α} :
    ciUp d i T t.val ⊢ iprop((ciUp d i T (t.val + 1) -∗ wp frame (wpE defs 𝒱 (thr d i) bd) Set.univ (k ⟨⟩) Q)
      -∗ wp frame (wpE defs 𝒱 (thr d i) bd) Set.univ (setWord i ciV t x >>= k) Q) := by
  subst hx
  unfold ciUp setWord
  have ho := off6_eq t
  have hb := k0_off6_inb t
  iintro ⟨%f, %hf, H⟩ Hk
  iapply (wp_smemLoadElt 𝒱 (thr d i) bd Set.univ (m := ciV) (r := Rect.unit (s := S16) (k0_off6 t) S1.size (k0_off6_inb t)) (S := Finset.univ) (f := f)
    (hw := View.loads_smem_one rfl numel1_S1) (x := Shape.Idx.first (numel1_S1.symm ▸ Nat.one_pos))
    (k := fun _ => (Prog.op (.store ciV (Rect.unit (s := S16) (k0_off6 t) S1.size (k0_off6_inb t)) (fun _ => T t.val) Finset.univ (View.stores_smem_one rfl numel1_S1) (.inl rfl)) k : TP F i α))
    (Finset.subset_univ _)) $$ H
  iintro H
  iapply (wp_store 𝒱 (thr d i) bd Set.univ (m := ciV) (r := Rect.unit (s := S16) (k0_off6 t) S1.size (k0_off6_inb t)) (w := fun _ => T t.val) (Mk := Finset.univ) (S := Finset.univ) (f := f) (Finset.subset_univ _)) $$ H
  iintro H
  iapply Hk
  iexists _
  isplitr
  rotate_left
  · iexact H
  ipureintro
  revert hb
  generalize k0_off6_inb t = hb'
  revert hb'
  rw [ho]
  intro hb' _
  exact wr_ci (F := F) (hb := hb') f T hf
theorem wr_ba {n : ℕ} {hb : ∀ a, (![n] : Fin 1 → ℕ) a + S1.size a ≤ S16.size a} (f : S16.Idx → BitVec 32) (T : ℕ → BitVec 32)
    (hf : ∀ k : Fin 16, k.val < n → f (ix1 k) = T k.val) (k : Fin 16) (hk : k.val < n + 1) :
    ((baV).access (Rect.unit (s := S16) ![n] S1.size hb)).write (Elt F) f (fun _ => T n) Finset.univ (ix1 k) = T k.val := wr_ns (F := F) f T hf k hk
theorem wp_set_ba (T : ℕ → BitVec 32) (t : Fin k0_t5_loop.trips) (x : BitVec 32) (hx : x = T t.val) {k : PUnit → TP F i α} :
    baUp d i T t.val ⊢ iprop((baUp d i T (t.val + 1) -∗ wp frame (wpE defs 𝒱 (thr d i) bd) Set.univ (k ⟨⟩) Q)
      -∗ wp frame (wpE defs 𝒱 (thr d i) bd) Set.univ (setWord i baV t x >>= k) Q) := by
  subst hx
  unfold baUp setWord
  have ho := off6_eq t
  have hb := k0_off6_inb t
  iintro ⟨%f, %hf, H⟩ Hk
  iapply (wp_smemLoadElt 𝒱 (thr d i) bd Set.univ (m := baV) (r := Rect.unit (s := S16) (k0_off6 t) S1.size (k0_off6_inb t)) (S := Finset.univ) (f := f)
    (hw := View.loads_smem_one rfl numel1_S1) (x := Shape.Idx.first (numel1_S1.symm ▸ Nat.one_pos))
    (k := fun _ => (Prog.op (.store baV (Rect.unit (s := S16) (k0_off6 t) S1.size (k0_off6_inb t)) (fun _ => T t.val) Finset.univ (View.stores_smem_one rfl numel1_S1) (.inl rfl)) k : TP F i α))
    (Finset.subset_univ _)) $$ H
  iintro H
  iapply (wp_store 𝒱 (thr d i) bd Set.univ (m := baV) (r := Rect.unit (s := S16) (k0_off6 t) S1.size (k0_off6_inb t)) (w := fun _ => T t.val) (Mk := Finset.univ) (S := Finset.univ) (f := f) (Finset.subset_univ _)) $$ H
  iintro H
  iapply Hk
  iexists _
  isplitr
  rotate_left
  · iexact H
  ipureintro
  revert hb
  generalize k0_off6_inb t = hb'
  revert hb'
  rw [ho]
  intro hb' _
  exact wr_ba (F := F) (hb := hb') f T hf

end Cert.Proof

end
-- ==== Proof.IdxLoop.lean ====
/-
  The index loop: sixteen chunks of eight groups.
-/
module

public import proofs.«01_k».proof.Proof.Group

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (i : grid0.Coords)
variable {defs : Defs nD τ sig (Elt F) Λ₀} {𝒱 : Variants} {bd : Option 𝒱.V} {α : Type} {Q : α → sProp (RM F)}

/-- What the lists and the words hold: position `k` of the tile is position `b + k` of its row. -/
def iiT (h : ℕ → Bool) (b k : ℕ) : BitVec 32 := BitVec.ofNat 32 (cnt h (b + k + 1))
def aiT (h : ℕ → Bool) (b k : ℕ) : BitVec 32 := BitVec.ofNat 32 (b + k) - BitVec.ofNat 32 (lst h (b + k + 1))
def ciT (h : ℕ → Bool) (b j : ℕ) : BitVec 32 := BitVec.ofNat 32 (cnt h (b + 128 * j))
def baT (h : ℕ → Bool) (b j : ℕ) : BitVec 32 := BitVec.ofNat 32 (b + 128 * j) - BitVec.ofNat 32 (lst h (b + 128 * j))
def nsT (h : ℕ → Bool) (b j : ℕ) : BitVec 32 := BitVec.ofNat 32 (cnt h (b + 128 * (j + 1))) - BitVec.ofNat 32 (cnt h (b + 128 * j))

/-- The carried pair before position `n` of the row. -/
def carry (h : ℕ → Bool) (n : ℕ) : BitVec 32 × BitVec 32 := (BitVec.ofNat 32 (cnt h n), BitVec.ofNat 32 (lst h n))

def lists (B : S2048.Idx → BitVec 32) (h : ℕ → Bool) (b n : ℕ) : sProp (RM F) :=
  iprop(((spvV).view.loc (thr d i) ↦[Finset.univ]{fullShare} B) ∗ iiUp d i (iiT h b) n ∗ aiUp d i (aiT h b) n)

theorem wp_groupN (B : S2048.Idx → BitVec 32) (h : ℕ → Bool) (b : ℕ) (hb : b ≤ 2048) (hB : ∀ k : Fin 2048, (B (ix1 k) == 0#32) = h (b + k.val))
    (t : Fin k0_t5_loop.trips) (g : Fin 8) (n n' : ℕ) (hn : 128 * t.val + 16 * g.val = n) (hn' : n + 16 = n')
    {k : BitVec 32 × BitVec 32 → TP F i α} :
    lists d i B h b n
      ⊢ iprop((lists d i B h b n' -∗ wp frame (wpE defs 𝒱 (thr d i) bd) Set.univ (k (carry h (b + n'))) Q)
        -∗ wp frame (wpE defs 𝒱 (thr d i) bd) Set.univ (group i (BitVec.ofNat 32 b) t g (carry h (b + n)).1 (carry h (b + n)).2 >>= k) Q) := by
  subst hn'
  subst hn
  exact wp_group d i B h b hb hB t g

def chunkInv (B : S2048.Idx → BitVec 32) (h : ℕ → Bool) (b n : ℕ) (c : BitVec 32 × BitVec 32) : sProp (RM F) :=
  iprop(⌜c = carry h (b + 128 * n)⌝ ∗ lists d i B h b (128 * n) ∗ ciUp d i (ciT h b) n ∗ baUp d i (baT h b) n ∗ nsUp d i (nsT h b) n)

theorem wp_idxBody (B : S2048.Idx → BitVec 32) (h : ℕ → Bool) (b : ℕ) (hb : b ≤ 2048) (hB : ∀ k : Fin 2048, (B (ix1 k) == 0#32) = h (b + k.val))
    (t : Fin k0_t5_loop.trips) (c : BitVec 32 × BitVec 32) :
    chunkInv d i B h b t.val c ⊢ wp frame (wpE defs 𝒱 (thr d i) bd) Set.univ (idxBody i (BitVec.ofNat 32 b) t c) (chunkInv d i B h b (t.val + 1)) := by
  unfold chunkInv idxBody
  iintro ⟨%hc, HL, Hci, Hba, Hns⟩
  subst hc
  iapply (wp_set_ci d i (ciT h b) t _ rfl) $$ Hci
  iintro Hci
  iapply (wp_set_ba d i (baT h b) t _ (by
    rw [iv5]
    show BitVec.ofNat 32 b + BitVec.ofNat 32 t.val * BitVec.ofNat 32 128 - BitVec.ofNat 32 (lst h (b + 128 * t.val)) = _
    rw [← BitVec.ofNat_mul, ← BitVec.ofNat_add, Nat.mul_comm t.val]
    rfl)) $$ Hba
  iintro Hba
  iapply (wp_groupN d i B h b hb hB t 0 (128 * t.val) (128 * t.val + 16) (Nat.add_zero _) rfl) $$ HL
  iintro HL
  iapply (wp_groupN d i B h b hb hB t 1 (128 * t.val + 16) (128 * t.val + 32) rfl rfl) $$ HL
  iintro HL
  iapply (wp_groupN d i B h b hb hB t 2 (128 * t.val + 32) (128 * t.val + 48) rfl rfl) $$ HL
  iintro HL
  iapply (wp_groupN d i B h b hb hB t 3 (128 * t.val + 48) (128 * t.val + 64) rfl rfl) $$ HL
  iintro HL
  iapply (wp_groupN d i B h b hb hB t 4 (128 * t.val + 64) (128 * t.val + 80) rfl rfl) $$ HL
  iintro HL
  iapply (wp_groupN d i B h b hb hB t 5 (128 * t.val + 80) (128 * t.val + 96) rfl rfl) $$ HL
  iintro HL
  iapply (wp_groupN d i B h b hb hB t 6 (128 * t.val + 96) (128 * t.val + 112) rfl rfl) $$ HL
  iintro HL
  iapply (wp_groupN d i B h b hb hB t 7 (128 * t.val + 112) (128 * (t.val + 1)) rfl rfl) $$ HL
  iintro HL
  iapply (wp_set_ns d i (nsT h b) t _ rfl) $$ Hns
  iintro Hns
  rw [wp_pure]
  imodintro
  isplitr; · ipureintro; rfl
  isplitl [HL]; · iexact HL
  isplitl [Hci]; · iexact Hci
  isplitl [Hba]; · iexact Hba
  iexact Hns

/-- The index loop. -/
theorem wp_idx (B : S2048.Idx → BitVec 32) (h : ℕ → Bool) (b : ℕ) (hb : b ≤ 2048) (hB : ∀ k : Fin 2048, (B (ix1 k) == 0#32) = h (b + k.val))
    {k : BitVec 32 × BitVec 32 → TP F i α} :
    iprop(lists d i B h b 0 ∗ ciUp d i (ciT h b) 0 ∗ baUp d i (baT h b) 0 ∗ nsUp d i (nsT h b) 0)
      ⊢ iprop((∀ c, iprop(lists d i B h b 2048 ∗ ciUp d i (ciT h b) 16 ∗ baUp d i (baT h b) 16 ∗ nsUp d i (nsT h b) 16) -∗ wp frame (wpE defs 𝒱 (thr d i) bd) Set.univ (k c) Q)
        -∗ wp frame (wpE defs 𝒱 (thr d i) bd) Set.univ (Scf.Loop.for k0_t5_loop k0_t5_ok (carry h b) (idxBody i (BitVec.ofNat 32 b)) >>= k) Q) := by
  iintro ⟨HL, Hci, Hba, Hns⟩ Hk
  iapply (Scf.wp_for_bind frame (wpE defs 𝒱 (thr d i) bd) Set.univ _ _ _ k0_t5_ok (carry h b) (idxBody i (BitVec.ofNat 32 b))
    (chunkInv d i B h b) (fun t c => wp_idxBody d i B h b hb hB t c)) $$ [HL Hci Hba Hns]
  · unfold chunkInv
    isplitr; · ipureintro; rfl
    isplitl [HL]; · iexact HL
    isplitl [Hci]; · iexact Hci
    isplitl [Hba]; · iexact Hba
    iexact Hns
  iintro %c H
  unfold chunkInv
  icases H with ⟨-, HL, Hci, Hba, Hns⟩
  iapply Hk
  rw [show Scf.trips k0_t5_loop.lb k0_t5_loop.ub k0_t5_loop.st = 16 from trips5]
  isplitl [HL]; · iexact HL
  isplitl [Hci]; · iexact Hci
  isplitl [Hba]; · iexact Hba
  iexact Hns

end Cert.Proof

end
-- ==== Proof.Prescan.lean ====
/-
  The fetches of the tile's positions, and the scan of the row's earlier positions.
-/
module

public import proofs.«01_k».proof.Proof.IdxLoop

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (i : grid0.Coords)
variable {defs : Defs nD τ sig (Elt F) Λ₀} {𝒱 : Variants} {bd : Option 𝒱.V} {α : Type} {Q : α → sProp (RM F)}
variable {O : CellTallies nD τ sig (HIx 1)} {W : Waits sig (HIx 1)}

/-- The 2048 words from `n` on. -/
def part (f : S65536.Idx → BitVec 32) (n : ℕ) : S2048.Idx → BitVec 32 := fun k => f (ix1 (Fin.ofNat 65536 (n + (k 0).val)))
/-- Where row `r` starts. -/
def rowH (f : S65536.Idx → BitVec 32) (r : ℕ) : ℕ → Bool := fun k => f (ix1 (Fin.ofNat 65536 (4096 * r + k))) == 0#32

theorem part_rowH (f : S65536.Idx → BitVec 32) (r b : ℕ) (k : Fin 2048) : (part f (4096 * r + b) (ix1 k) == 0#32) = rowH f r (b + k.val) := by
  unfold part rowH
  rw [← Nat.add_assoc]

theorem emb_part (f : S65536.Idx → BitVec 32) {n : ℕ} {hb : ∀ a, (![n] : Fin 1 → ℕ) a + S2048.size a ≤ S65536.size a} (y : S2048.Idx) :
    f ((Rect.unit (s := S65536) ![n] S2048.size hb).emb y) = part f n y := by
  obtain ⟨t, rfl⟩ : ∃ t : Fin 2048, y = ix1 t := ⟨y 0, eq_ix1 y⟩
  have h2 : n + 2048 ≤ 65536 := hb 0
  refine congrArg f ((emb1 (h := hb) t (by show n + t.val < 65536; omega)).trans (congrArg ix1 (Fin.ext ?_)))
  show n + t.val = (n + t.val) % 65536
  omega

theorem spv_written (f : S65536.Idx → BitVec 32) (g : S2048.Idx → BitVec 32) {n : ℕ} {hb : ∀ a, (![n] : Fin 1 → ℕ) a + S2048.size a ≤ S65536.size a} (y : S2048.Idx) :
    (spvV).view.write (Elt F) g (((spV).slice (Rect.unit (s := S65536) ![n] S2048.size hb) (fun _ => rfl)).view.read (Elt F) f) Finset.univ y = part f n y := by
  rw [show y = (spvV).view.emb y from rfl]
  refine (View.write_emb_of_mem _ _ (Finset.mem_univ _)).trans ?_
  exact emb_part f (hb := hb) y

/-- A fetch of 2048 words, and its wait. -/
theorem wp_get_sp (f : S65536.Idx → BitVec 32) (q : PosShare TreeShare) (sm : DmaSem sig) (n : ℕ) {o : Fin 1 → ℕ} (ho : o = ![n]) {hb : ∀ a, o a + S2048.size a ≤ S65536.size a}
    {h1 : (spV.slice (Rect.unit (s := S65536) o S2048.size hb) (fun _ => rfl)).view.WordExact} {h2 : (spvV).view.WordExact}
    {h3 : DmaTarget.Typed (nD := nD) .hbm (.dma sm) (.here (p := (thr d i).2) spvV)} {h4 : (spV.slice (Rect.unit (s := S65536) o S2048.size hb) (fun _ => rfl)).view.WordExact} {h5 : (spvV).view.WordExact}
    {k : PUnit → TP F i α} :
    iprop(((spV).view.loc (thr d i) ↦[Finset.univ]{q} f) ∗ (∃ g : S2048.Idx → BitVec 32, (spvV).view.loc (thr d i) ↦[Finset.univ]{fullShare} g) ∗ zero d i sm
        ∗ Owe (thr d i) O W ∗ Transfers.MayWaits (thr d i) (default : HIx 1) O)
      ⊢ iprop((iprop(((spV).view.loc (thr d i) ↦[Finset.univ]{q} f) ∗ ((spvV).view.loc (thr d i) ↦[Finset.univ]{fullShare} part f n) ∗ zero d i sm ∗ Owe (thr d i) O W)
          -∗ wp frame (wpE defs 𝒱 (thr d i) bd) Set.univ (k ⟨⟩) Q)
        -∗ wp frame (wpE defs 𝒱 (thr d i) bd) Set.univ (.op (.enqueueDma (spV.slice (Rect.unit (s := S65536) o S2048.size hb) (fun _ => rfl)) (.here spvV) (.dma sm) h1 h2 h3)
          fun _ => .op (.waitDma2 sm (spV.slice (Rect.unit (s := S65536) o S2048.size hb) (fun _ => rfl)) spvV h4 h5) k) Q) := by
  subst ho
  iintro ⟨Hs, ⟨%g, Hd⟩, Hv, HO, #Hmw⟩ Hk
  iapply (wp_copyX (thr d i) defs 𝒱 bd (src := spV.slice (Rect.unit (s := S65536) ![n] S2048.size hb) (fun _ => rfl)) (dst := spvV) (sm := sm)
    (q := q) (fs := f) (fd := g) (S₀ := Finset.univ) (Sd := Finset.univ)
    (spvV).view.dmaCredit rfl (View.dmaCredit_pos _ (by decide)) (Finset.subset_univ _) (Finset.subset_univ _)
    iprop(((spvV).view.loc (thr d i) ↦[Finset.univ]{fullShare} part f n) ∗ ((spV).view.loc (thr d i) ↦[Finset.univ]{q} f))
    (BIClass.sep_mono (Entails.of_eq (pointsTo_congr (Ix := HIx 1) (Name := ℕ) (U := UU) (Lvl := ℕ) (ℓ := (spvV).view.loc (thr d i)) (I := Finset.univ) (q := fullShare)
      (f := (spvV).view.write (Elt F) g (((spV).slice (Rect.unit (s := S65536) ![n] S2048.size hb) (fun _ => rfl)).view.read (Elt F) f) Finset.univ) (g := part f n) fun y _ => spv_written f g y)) (entails_refl _))) $$ [Hs Hd Hv]
  · isplitl [Hs]; · iexact Hs
    isplitl [Hd] <;> iassumption
  iintro HF
  iapply (wp_fly (thr d i) defs 𝒱 bd (N := (spvV).view.dmaCredit) rfl) $$ [HF HO]
  · isplitl [HF]; · iexact HF
    isplitl [HO]; · iexact HO
    iexact Hmw
  iintro ⟨⟨Hd, Hs⟩, Hv, HO⟩
  iapply Hk
  isplitl [Hs]; · iexact Hs
  isplitl [Hd]; · iexact Hd
  isplitl [Hv]; · iexact Hv
  iexact HO

theorem sv_written (f : S65536.Idx → BitVec 32) (g : S2048.Idx → BitVec 32) {n : ℕ} {hb : ∀ a, (![n] : Fin 1 → ℕ) a + S2048.size a ≤ S65536.size a} (y : S2048.Idx) :
    (svV).view.write (Elt F) g (((stV).slice (Rect.unit (s := S65536) ![n] S2048.size hb) (fun _ => rfl)).view.read (Elt F) f) Finset.univ y = part f n y := by
  rw [show y = (svV).view.emb y from rfl]
  refine (View.write_emb_of_mem _ _ (Finset.mem_univ _)).trans ?_
  exact emb_part f (hb := hb) y

/-- A fetch of 2048 words, and its wait. -/
theorem wp_get_st (f : S65536.Idx → BitVec 32) (q : PosShare TreeShare) (sm : DmaSem sig) (n : ℕ) {o : Fin 1 → ℕ} (ho : o = ![n]) {hb : ∀ a, o a + S2048.size a ≤ S65536.size a}
    {h1 : (stV.slice (Rect.unit (s := S65536) o S2048.size hb) (fun _ => rfl)).view.WordExact} {h2 : (svV).view.WordExact}
    {h3 : DmaTarget.Typed (nD := nD) .hbm (.dma sm) (.here (p := (thr d i).2) svV)} {h4 : (stV.slice (Rect.unit (s := S65536) o S2048.size hb) (fun _ => rfl)).view.WordExact} {h5 : (svV).view.WordExact}
    {k : PUnit → TP F i α} :
    iprop(((stV).view.loc (thr d i) ↦[Finset.univ]{q} f) ∗ (∃ g : S2048.Idx → BitVec 32, (svV).view.loc (thr d i) ↦[Finset.univ]{fullShare} g) ∗ zero d i sm
        ∗ Owe (thr d i) O W ∗ Transfers.MayWaits (thr d i) (default : HIx 1) O)
      ⊢ iprop((iprop(((stV).view.loc (thr d i) ↦[Finset.univ]{q} f) ∗ ((svV).view.loc (thr d i) ↦[Finset.univ]{fullShare} part f n) ∗ zero d i sm ∗ Owe (thr d i) O W)
          -∗ wp frame (wpE defs 𝒱 (thr d i) bd) Set.univ (k ⟨⟩) Q)
        -∗ wp frame (wpE defs 𝒱 (thr d i) bd) Set.univ (.op (.enqueueDma (stV.slice (Rect.unit (s := S65536) o S2048.size hb) (fun _ => rfl)) (.here svV) (.dma sm) h1 h2 h3)
          fun _ => .op (.waitDma2 sm (stV.slice (Rect.unit (s := S65536) o S2048.size hb) (fun _ => rfl)) svV h4 h5) k) Q) := by
  subst ho
  iintro ⟨Hs, ⟨%g, Hd⟩, Hv, HO, #Hmw⟩ Hk
  iapply (wp_copyX (thr d i) defs 𝒱 bd (src := stV.slice (Rect.unit (s := S65536) ![n] S2048.size hb) (fun _ => rfl)) (dst := svV) (sm := sm)
    (q := q) (fs := f) (fd := g) (S₀ := Finset.univ) (Sd := Finset.univ)
    (svV).view.dmaCredit rfl (View.dmaCredit_pos _ (by decide)) (Finset.subset_univ _) (Finset.subset_univ _)
    iprop(((svV).view.loc (thr d i) ↦[Finset.univ]{fullShare} part f n) ∗ ((stV).view.loc (thr d i) ↦[Finset.univ]{q} f))
    (BIClass.sep_mono (Entails.of_eq (pointsTo_congr (Ix := HIx 1) (Name := ℕ) (U := UU) (Lvl := ℕ) (ℓ := (svV).view.loc (thr d i)) (I := Finset.univ) (q := fullShare)
      (f := (svV).view.write (Elt F) g (((stV).slice (Rect.unit (s := S65536) ![n] S2048.size hb) (fun _ => rfl)).view.read (Elt F) f) Finset.univ) (g := part f n) fun y _ => sv_written f g y)) (entails_refl _))) $$ [Hs Hd Hv]
  · isplitl [Hs]; · iexact Hs
    isplitl [Hd] <;> iassumption
  iintro HF
  iapply (wp_fly (thr d i) defs 𝒱 bd (N := (svV).view.dmaCredit) rfl) $$ [HF HO]
  · isplitl [HF]; · iexact HF
    isplitl [HO]; · iexact HO
    iexact Hmw
  iintro ⟨⟨Hd, Hs⟩, Hv, HO⟩
  iapply Hk
  isplitl [Hs]; · iexact Hs
  isplitl [Hd]; · iexact Hd
  isplitl [Hv]; · iexact Hv
  iexact HO

/-! ## The scan of the row's earlier positions -/

theorem cond1_iff : ∀ i : grid0.Coords, k0_cond1 i = 1#1 ↔ (i 0).val = 1 := by decide +kernel
theorem trips1 : ∀ i : grid0.Coords, (k0_t1_loop i).trips = (i 0).val := by decide +kernel
theorem trips2 : k0_t2_loop.trips = 128 := by decide +kernel
theorem trips3 : ∀ i : grid0.Coords, (k0_t3_loop i).trips = 0 := by decide +kernel
theorem off1_eq : ∀ (i : grid0.Coords) (t : Fin (k0_t1_loop i).trips), k0_off1 i t = ![4096 * (i 1).val + 2048 * t.val] := by decide +kernel
theorem off2_eq : ∀ t : Fin k0_t2_loop.trips, k0_off2 t = ![16 * t.val] := by decide +kernel
theorem off5_eq : ∀ i : grid0.Coords, k0_off5 i = ![4096 * (i 1).val + 2048 * (i 0).val] := by decide +kernel
theorem localPos_eq : ∀ i : grid0.Coords, localPos i = BitVec.ofNat 32 (2048 * (i 0).val) := by decide +kernel
theorem prePos_eq : ∀ (i : grid0.Coords) (t1 : Fin (k0_t1_loop i).trips) (t : Fin k0_t2_loop.trips),
    Scalar.addi (Scalar.muli (Scf.iv 0#32 1#32 t1) 2048#32) (Scalar.muli (Scf.iv 0#32 1#32 t) 16#32) = BitVec.ofNat 32 (2048 * t1.val + 16 * t.val) := by decide +kernel

theorem wp_retb {β : Type} (v : β) (f : β → TP F i α) :
    wp frame (wpE defs 𝒱 (thr d i) bd) Set.univ (f v) Q ⊢ wp frame (wpE defs 𝒱 (thr d i) bd) Set.univ ((Prog.ret v).bind f) Q := entails_refl _

theorem wp_preGroup (h1 : k0_cond1 i = 1#1) (t1 : Fin (k0_t1_loop i).trips) (B : S2048.Idx → BitVec 32) (h : ℕ → Bool)
    (hB : ∀ k : Fin 2048, (B (ix1 k) == 0#32) = h (2048 * t1.val + k.val)) (t : Fin k0_t2_loop.trips) (c : BitVec 32 × BitVec 32) :
    iprop(⌜c = carry h (2048 * t1.val + 16 * t.val)⌝ ∗ ((spvV).view.loc (thr d i) ↦[Finset.univ]{fullShare} B))
      ⊢ wp frame (wpE defs 𝒱 (thr d i) bd) Set.univ (preGroup i h1 t1 t c)
        (fun c' : BitVec 32 × BitVec 32 => (iprop(⌜c' = carry h (2048 * t1.val + 16 * (t.val + 1))⌝ ∗ ((spvV).view.loc (thr d i) ↦[Finset.univ]{fullShare} B)) : sProp (RM F))) := by
  unfold preGroup
  have ht := lt_of_lt_of_eq t.isLt trips2
  have ht1 := lt_of_lt_of_eq t1.isLt (trips1 i)
  have hi0 : (i 0).val < 2 := (i 0).isLt
  iintro ⟨%hc, HB⟩
  subst hc
  rw [prePos_eq]
  iapply (wp_ld_spv d i B h (2048 * t1.val) hB (16 * t.val) (off2_eq t)) $$ HB
  iintro %v %hv HB
  iapply (wp_retb d i _ _)
  rw [wp_pure]
  imodintro
  isplitr
  · ipureintro
    have h30 : 2048 * t1.val + 16 * t.val < 2 ^ 30 := by omega
    exact Prod.ext (lane_sum hv) (lane_start hv h30)
  iexact HB

def preInv (f : S65536.Idx → BitVec 32) (q : PosShare TreeShare) (O : CellTallies nD τ sig (HIx 1)) (W : Waits sig (HIx 1)) (n : ℕ) (c : BitVec 32 × BitVec 32) : sProp (RM F) :=
  iprop(⌜c = carry (rowH f (i 1).val) (2048 * n)⌝ ∗ ((spV).view.loc (thr d i) ↦[Finset.univ]{q} f)
    ∗ (∃ g : S2048.Idx → BitVec 32, (spvV).view.loc (thr d i) ↦[Finset.univ]{fullShare} g) ∗ zero d i cc0_scoped0.sem
    ∗ Owe (thr d i) O W ∗ □ Transfers.MayWaits (thr d i) (default : HIx 1) O)

theorem wp_preBody (f : S65536.Idx → BitVec 32) (q : PosShare TreeShare) (h1 : k0_cond1 i = 1#1) (t : Fin (k0_t1_loop i).trips) (c : BitVec 32 × BitVec 32) :
    preInv d i f q O W t.val c ⊢ wp frame (wpE defs 𝒱 (thr d i) bd) Set.univ (preBody i h1 t c) (preInv d i f q O W (t.val + 1)) := by
  unfold preInv preBody
  iintro ⟨%hc, Hs, Hd, Hv, HO, #Hmw⟩
  subst hc
  iapply (wp_get_sp d i f q cc0_scoped0.sem _ (off1_eq i t)) $$ [Hs Hd Hv HO]
  · isplitl [Hs]; · iexact Hs
    isplitl [Hd]; · iexact Hd
    isplitl [Hv]; · iexact Hv
    isplitl [HO]; · iexact HO
    iexact Hmw
  iintro ⟨Hs, Hd, Hv, HO⟩
  iapply (Scf.wp_for_bind frame (wpE defs 𝒱 (thr d i) bd) Set.univ _ _ _ (k0_t2_ok i h1) _ (preGroup i h1 t)
    (fun n c => iprop(⌜c = carry (rowH f (i 1).val) (2048 * t.val + 16 * n)⌝ ∗ ((spvV).view.loc (thr d i) ↦[Finset.univ]{fullShare} part f (4096 * (i 1).val + 2048 * t.val))))
    (fun t' c => wp_preGroup d i h1 t _ _ (part_rowH f (i 1).val (2048 * t.val)) t' c)) $$ [Hd]
  · isplitr; · ipureintro; rfl
    iexact Hd
  iintro %c ⟨%hc, Hd⟩
  subst hc
  rw [show Scf.trips k0_t2_loop.lb k0_t2_loop.ub k0_t2_loop.st = 128 from trips2]
  dsimp only
  rw [wp_pure]
  imodintro
  isplitr; · ipureintro; rfl
  isplitl [Hs]; · iexact Hs
  isplitl [Hd]; · iexists _; iexact Hd
  isplitl [Hv]; · iexact Hv
  isplitl [HO]; · iexact HO
  iexact Hmw

/-- The carried pair before the tile's first position. -/
theorem wp_preK (f : S65536.Idx → BitVec 32) (q : PosShare TreeShare) {k : BitVec 32 × BitVec 32 → TP F i α} :
    iprop(((spV).view.loc (thr d i) ↦[Finset.univ]{q} f)
        ∗ (∃ g : S2048.Idx → BitVec 32, (spvV).view.loc (thr d i) ↦[Finset.univ]{fullShare} g) ∗ zero d i cc0_scoped0.sem
        ∗ Owe (thr d i) O W ∗ Transfers.MayWaits (thr d i) (default : HIx 1) O)
      ⊢ iprop((iprop(((spV).view.loc (thr d i) ↦[Finset.univ]{q} f)
          ∗ (∃ g : S2048.Idx → BitVec 32, (spvV).view.loc (thr d i) ↦[Finset.univ]{fullShare} g) ∗ zero d i cc0_scoped0.sem
          ∗ Owe (thr d i) O W) -∗ wp frame (wpE defs 𝒱 (thr d i) bd) Set.univ (k (carry (rowH f (i 1).val) (2048 * (i 0).val))) Q)
        -∗ wp frame (wpE defs 𝒱 (thr d i) bd) Set.univ (preK i k) Q) := by
  have hi0 : (i 0).val < 2 := (i 0).isLt
  unfold preK
  split
  · rename_i h
    iintro ⟨Hs, Hd, Hv, HO, #Hmw⟩ Hk
    iapply (Scf.wp_for_bind frame (wpE defs 𝒱 (thr d i) bd) Set.univ _ _ _ (k0_t1_ok i h) _ (fun t c => preBody i h t c)
      (preInv d i f q O W) (fun t c => wp_preBody d i f q h t c)) $$ [Hs Hd Hv HO]
    · unfold preInv
      isplitr; · ipureintro; rfl
      isplitl [Hs]; · iexact Hs
      isplitl [Hd]; · iexact Hd
      isplitl [Hv]; · iexact Hv
      isplitl [HO]; · iexact HO
      iexact Hmw
    iintro %c H
    rw [show Scf.trips (k0_t1_loop i).lb (k0_t1_loop i).ub (k0_t1_loop i).st = (i 0).val from trips1 i]
    unfold preInv
    icases H with ⟨%hc, Hs, Hd, Hv, HO, -⟩
    subst hc
    dsimp only
    iapply (Scf.wp_for_bind frame (wpE defs 𝒱 (thr d i) bd) Set.univ _ _ _ (k0_t3_ok i h) _ _
      (fun _ c => iprop(⌜c = carry (rowH f (i 1).val) (2048 * (i 0).val)⌝)) (fun t _ => absurd t.isLt (by
        have := trips3 i
        exact Nat.not_lt.2 (le_trans (le_of_eq this) (Nat.zero_le _))))) $$ []
    · ipureintro; rfl
    iintro %c %hc
    subst hc
    dsimp only
    iapply Hk
    isplitl [Hs]; · iexact Hs
    isplitl [Hd]; · iexact Hd
    isplitl [Hv]; · iexact Hv
    iexact HO
  · rename_i h
    have h0 : (i 0).val = 0 := by
      have := (cond1_iff i).not.1 h
      omega
    rw [h0]
    iintro ⟨Hs, Hd, Hv, HO, #Hmw⟩ Hk
    iapply Hk
    isplitl [Hs]; · iexact Hs
    isplitl [Hd]; · iexact Hd
    isplitl [Hv]; · iexact Hv
    iexact HO

end Cert.Proof

end
-- ==== Proof.Lists.lean ====
/-
  What a tile's buffers hold, as numbers, and what the tiles leave in the output.
-/
module

public import proofs.«01_k».proof.Proof.Chunks
public import proofs.«01_k».proof.Proof.IdxLoop
public import proofs.«01_k».proof.Proof.Prescan

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- What the tiles read: the tables, the tokens, and the tokens moved one position on. -/
structure Src (F : FTy → Type) where
  tk : S100000x128.Idx → F .f32
  ins : S4096x128.Idx → F .f32
  arg : S4096x128.Idx → F .f32
  v4 : S65536.Idx → BitVec 32
  v5 : S65536.Idx → BitVec 32

/-- Every token names a row of the table; no row starts at its first position. -/
structure Src.Ok (X : Src F) : Prop where
  v4_lt : ∀ n, (X.v4 n).toNat < 100000
  v5_ne : ∀ r : ℕ, r < 16 → rowH X.v5 r 0 = false

/-- What the tiles leave: at position `s` of row `r`, the token's row, the row of the count of starts, and the row of the
    distance to the last start. -/
def Src.out [FloatOps F] (X : Src F) : S65536x128.Idx → F .f32 := fun k =>
  FloatOps.addf (FloatOps.addf (tkR X.tk (X.v4 (ix1 (k 0))).toNat (k 1).val)
      (inR X.ins (cnt (rowH X.v5 ((k 0).val / 4096)) ((k 0).val % 4096 + 1)) (k 1).val))
    (inR X.arg ((k 0).val % 4096 - lst (rowH X.v5 ((k 0).val / 4096)) ((k 0).val % 4096 + 1)) (k 1).val)

/-- What a tile's buffers hold after its scan. -/
def Src.td (X : Src F) (i : grid0.Coords) : TD F where
  tk := X.tk
  ins := X.ins
  arg := X.arg
  sv := part X.v4 (4096 * (i 1).val + 2048 * (i 0).val)
  ii k := iiT (rowH X.v5 (i 1).val) (2048 * (i 0).val) (k 0).val
  ai k := aiT (rowH X.v5 (i 1).val) (2048 * (i 0).val) (k 0).val
  ns k := nsT (rowH X.v5 (i 1).val) (2048 * (i 0).val) (k 0).val
  ci k := ciT (rowH X.v5 (i 1).val) (2048 * (i 0).val) (k 0).val
  ba k := baT (rowH X.v5 (i 1).val) (2048 * (i 0).val) (k 0).val

theorem sub_word {a c : ℕ} (h : c ≤ a) (ha : a < 2 ^ 31) : (BitVec.ofNat 32 a - BitVec.ofNat 32 c).toNat = a - c := by
  rw [BitVec.toNat_sub, BitVec.toNat_ofNat, BitVec.toNat_ofNat]
  omega

section Lists

variable (h : ℕ → Bool) (b : ℕ) (hb : b ≤ 2048)
include hb

theorem iiT_toNat {k : ℕ} (hk : k < 2048) : (iiT h b k).toNat = cnt h (b + k + 1) :=
  word_toNat (by have := cnt_le h (b + k + 1); omega)
theorem aiT_toNat {k : ℕ} (hk : k < 2048) : (aiT h b k).toNat = b + k - lst h (b + k + 1) :=
  sub_word (lst_lt h (b + k)) (by omega)
theorem ciT_toNat {j : ℕ} (hj : j < 16) : (ciT h b j).toNat = cnt h (b + 128 * j) :=
  word_toNat (by have := cnt_le h (b + 128 * j); omega)
theorem baT_toNat {j : ℕ} (hj : j < 16) : (baT h b j).toNat = b + 128 * j - lst h (b + 128 * j) :=
  sub_word (lst_le h (b + 128 * j)) (by omega)
theorem nsT_toNat {j : ℕ} (hj : j < 16) : (nsT h b j).toNat = cnt h (b + 128 * (j + 1)) - cnt h (b + 128 * j) :=
  sub_word (cnt_mono h (by omega)) (by have := cnt_le h (b + 128 * (j + 1)); omega)

end Lists

theorem at_list (j : Fin 16) (t : Fin 128) : (128 * j.val + t.val) % 2048 = 128 * j.val + t.val := by omega

variable (X : Src F) (i : grid0.Coords)

theorem core_lt : (i 0).val < 2 := (i 0).isLt
theorem sub_lt : (i 1).val < 16 := (i 1).isLt

theorem td_ii (j : Fin 16) (t : Fin 128) : lsR (X.td i).ii j.val t.val = cnt (rowH X.v5 (i 1).val) (2048 * (i 0).val + (128 * j.val + t.val) + 1) := by
  have := core_lt i
  show (iiT _ _ ((128 * j.val + t.val) % 2048)).toNat = _
  rw [at_list, iiT_toNat _ _ (by omega) (by omega)]
theorem td_ai (j : Fin 16) (t : Fin 128) : lsR (X.td i).ai j.val t.val
    = 2048 * (i 0).val + (128 * j.val + t.val) - lst (rowH X.v5 (i 1).val) (2048 * (i 0).val + (128 * j.val + t.val) + 1) := by
  have := core_lt i
  show (aiT _ _ ((128 * j.val + t.val) % 2048)).toNat = _
  rw [at_list, aiT_toNat _ _ (by omega) (by omega)]
theorem td_ci (j : Fin 16) : ((X.td i).ci (ix1 j)).toNat = cnt (rowH X.v5 (i 1).val) (2048 * (i 0).val + 128 * j.val) := by
  have := core_lt i
  exact ciT_toNat _ _ (by omega) j.isLt
theorem td_ba (j : Fin 16) : ((X.td i).ba (ix1 j)).toNat = 2048 * (i 0).val + 128 * j.val - lst (rowH X.v5 (i 1).val) (2048 * (i 0).val + 128 * j.val) := by
  have := core_lt i
  exact baT_toNat _ _ (by omega) j.isLt
theorem td_ns (j : Fin 16) : ((X.td i).ns (ix1 j)).toNat
    = cnt (rowH X.v5 (i 1).val) (2048 * (i 0).val + 128 * (j.val + 1)) - cnt (rowH X.v5 (i 1).val) (2048 * (i 0).val + 128 * j.val) := by
  have := core_lt i
  exact nsT_toNat _ _ (by omega) j.isLt

theorem td_good (hX : X.Ok) : Good (X.td i) := by
  have h0 := core_lt i
  have h1 := sub_lt i
  have hH := hX.v5_ne _ h1
  refine ⟨fun j t => hX.v4_lt _, fun j t => ?_, fun j t => ?_, fun j => ?_, fun j => ?_, fun j hn t => ?_⟩
  · rw [td_ii]
    have := cnt_lt _ hH (2048 * (i 0).val + (128 * j.val + t.val))
    omega
  · rw [td_ai]; omega
  · rw [td_ci]
    have := cnt_le (rowH X.v5 (i 1).val) (2048 * (i 0).val + 128 * j.val)
    omega
  · rw [td_ba]; omega
  · have e := td_ns X i j
    rw [hn, show (0#32).toNat = 0 from rfl] at e
    have m1 := cnt_mono (rowH X.v5 (i 1).val) (show 2048 * (i 0).val + 128 * j.val ≤ 2048 * (i 0).val + (128 * j.val + t.val) + 1 by omega)
    have m2 := cnt_mono (rowH X.v5 (i 1).val) (show 2048 * (i 0).val + (128 * j.val + t.val) + 1 ≤ 2048 * (i 0).val + 128 * (j.val + 1) by omega)
    have hc : cnt (rowH X.v5 (i 1).val) (2048 * (i 0).val + (128 * j.val + t.val) + 1) = cnt (rowH X.v5 (i 1).val) (2048 * (i 0).val + 128 * j.val) := by omega
    have hl := lst_flat _ (show 2048 * (i 0).val + 128 * j.val ≤ 2048 * (i 0).val + (128 * j.val + t.val) + 1 by omega) hc
    have hle := lst_le (rowH X.v5 (i 1).val) (2048 * (i 0).val + 128 * j.val)
    rw [td_ii, td_ai, td_ci, td_ba]
    omega

theorem basePos_eq : ∀ i : grid0.Coords, basePos i = BitVec.ofNat 32 (4096 * (i 1).val + 2048 * (i 0).val) := by decide +kernel

theorem offO_eq : ∀ (i : grid0.Coords) (j : Fin 16), offO i j = ![4096 * (i 1).val + 2048 * (i 0).val + 128 * j.val, 0] := by
  intro i j
  have h0 := core_lt i
  have h1 := sub_lt i
  have e : (Scalar.addi (basePos i) (BitVec.ofNat 32 (128 * j.val))).toNat = 4096 * (i 1).val + 2048 * (i 0).val + 128 * j.val := by
    rw [basePos_eq]
    simp only [Scalar.addi, IntOp.addi, BitVec.toNat_add, BitVec.toNat_ofNat]
    omega
  funext a
  fin_cases a
  · exact e
  · rfl

/-- Where element `(t, x)` of chunk `j` lies in the output. -/
theorem ouJ_emb (j : Fin 16) (t x : Fin 128) :
    (ouJ i j).view.emb (ix2 t x) = ix2 (n0 := 65536) (n1 := 128) ⟨4096 * (i 1).val + 2048 * (i 0).val + 128 * j.val + t.val, by
      have h0 := core_lt i; have h1 := sub_lt i; omega⟩ x := by
  have h0 := core_lt i
  have h1 := sub_lt i
  have e := offO_eq i j
  have e0 : offO i j 0 = 4096 * (i 1).val + 2048 * (i 0).val + 128 * j.val := congrFun e 0
  have e1 : offO i j 1 = 0 := congrFun e 1
  refine (emb2 (A := 65536) (B := 128) (h := inb_out i j) t x (by rw [e0]; omega) (by rw [e1]; omega)).trans ?_
  congr 1
  · exact Fin.ext (show offO i j 0 + t.val = _ by rw [e0])
  · exact Fin.ext (show offO i j 1 + x.val = _ by rw [e1, Nat.zero_add])

theorem out_is [FloatOps F] : OutIs (X.td i) i X.out := by
  intro j t x
  have h0 := core_lt i
  have h1 := sub_lt i
  rw [ouJ_emb]
  unfold TD.sumG TD.tokG TD.insG TD.argG
  rw [td_ii, td_ai]
  unfold Src.out
  have e0 : ((ix2 (n0 := 65536) (n1 := 128) ⟨4096 * (i 1).val + 2048 * (i 0).val + 128 * j.val + t.val, by omega⟩ x) 0).val
      = 4096 * (i 1).val + 2048 * (i 0).val + 128 * j.val + t.val := rfl
  rw [e0, show (4096 * (i 1).val + 2048 * (i 0).val + 128 * j.val + t.val) / 4096 = (i 1).val by omega,
    show (4096 * (i 1).val + 2048 * (i 0).val + 128 * j.val + t.val) % 4096 = 2048 * (i 0).val + (128 * j.val + t.val) by omega]
  refine congrArg₂ _ (congrArg₂ _ (congrArg₂ _ ?_ rfl) rfl) rfl
  show _ = (X.v4 (ix1 (Fin.ofNat 65536 (4096 * (i 1).val + 2048 * (i 0).val + (128 * j.val + t.val) % 2048)))).toNat
  rw [at_list]
  refine congrArg (fun n => (X.v4 (ix1 n)).toNat) (Fin.ext ?_)
  show 4096 * (i 1).val + 2048 * (i 0).val + 128 * j.val + t.val = (4096 * (i 1).val + 2048 * (i 0).val + (128 * j.val + t.val)) % 65536
  omega

end Cert.Proof

end
-- ==== Proof.Tile.lean ====
/-
  One tile's program, from a share of what it reads to its rows of the output.
-/
module

public import proofs.«01_k».proof.Proof.Lists

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Buffers cut in two -/

/-- The two halves of a share. -/
def half (q : PosShare TreeShare) (p : Fin 2) : PosShare TreeShare := if p = 0 then q.left else q.right

theorem half_split {ℓ : Loc nD τ sig} {I : Finset (Idx ℓ)} {q : PosShare TreeShare} {f : Buf (Elt F) ℓ} :
    (ℓ ↦[I]{q} f : sProp (RM F)) ⊢ iprop((ℓ ↦[I]{half q 0} f) ∗ ℓ ↦[I]{half q 1} f) :=
  (pointsTo_share (PosShare.mem_left_op_right q)).1

theorem half_join {ℓ : Loc nD τ sig} {I : Finset (Idx ℓ)} {q : PosShare TreeShare} {f : Buf (Elt F) ℓ} :
    iprop((ℓ ↦[I]{half q 0} f) ∗ ℓ ↦[I]{half q 1} f) ⊢ (ℓ ↦[I]{q} f : sProp (RM F)) :=
  (pointsTo_share (PosShare.mem_left_op_right q)).2

theorem two_split {ℓ : Loc nD τ sig} {I J : Finset (Idx ℓ)} (hd : Disjoint I J) (hu : I ∪ J = Finset.univ) :
    iprop(∃ f : Buf (Elt F) ℓ, ℓ ↦[Finset.univ]{fullShare} f) ⊢ (iprop((∃ f : Buf (Elt F) ℓ, ℓ ↦[I]{fullShare} f) ∗ ∃ f : Buf (Elt F) ℓ, ℓ ↦[J]{fullShare} f) : sProp (RM F)) := by
  iintro ⟨%f, H⟩
  rw [← hu]
  ihave H := (pointsTo_union hd).1 $$ H
  icases H with ⟨HI, HJ⟩
  isplitl [HI]
  · iexists f; iexact HI
  · iexists f; iexact HJ

theorem two_join {ℓ : Loc nD τ sig} {I J : Finset (Idx ℓ)} (hd : Disjoint I J) (hu : I ∪ J = Finset.univ) :
    iprop((∃ f : Buf (Elt F) ℓ, ℓ ↦[I]{fullShare} f) ∗ ∃ f : Buf (Elt F) ℓ, ℓ ↦[J]{fullShare} f) ⊢ (iprop(∃ f : Buf (Elt F) ℓ, ℓ ↦[Finset.univ]{fullShare} f) : sProp (RM F)) := by
  iintro ⟨⟨%f, HI⟩, ⟨%g, HJ⟩⟩
  ihave H := (pointsTo_join hd) $$ [HI HJ]
  · isplitl [HI] <;> iassumption
  rw [hu]
  iexists _; iexact H

theorem slT_disj : Disjoint (slT 0) (slT 1) := by
  rw [Finset.disjoint_left]
  intro k h h'
  have a := (Finset.mem_filter.mp h).2
  have b := (Finset.mem_filter.mp h').2
  simp at a b
  omega
theorem slT_cover : slT 0 ∪ slT 1 = Finset.univ := by
  ext k
  have : (k 0).val < 2 := (k 0).isLt
  simp [slT]
  omega
theorem slA_disj : Disjoint (slA 0) (slA 1) := by
  rw [Finset.disjoint_left]
  intro k h h'
  have a := (Finset.mem_filter.mp h).2
  have b := (Finset.mem_filter.mp h').2
  simp at a b
  omega
theorem slA_cover : slA 0 ∪ slA 1 = Finset.univ := by
  ext k
  have : (k 0).val < 2 := (k 0).isLt
  simp [slA]
  omega

variable (d : Dev nD) (i : grid0.Coords)

/-! ## A tile's own buffers and semaphores -/

/-- The tile's ten buffers, at some contents. -/
def scratch : sProp (RM F) :=
  iprop((∃ f : S2048.Idx → BitVec 32, (svV).view.loc (thr d i) ↦[Finset.univ]{fullShare} f) ∗ (∃ f : S2048.Idx → BitVec 32, (spvV).view.loc (thr d i) ↦[Finset.univ]{fullShare} f)
    ∗ (∃ f : S2048.Idx → BitVec 32, (iiV).view.loc (thr d i) ↦[Finset.univ]{fullShare} f) ∗ (∃ f : S2048.Idx → BitVec 32, (aiV).view.loc (thr d i) ↦[Finset.univ]{fullShare} f)
    ∗ (∃ f : S2x128x128.Idx → F .f32, (tbV).view.loc (thr d i) ↦[Finset.univ]{fullShare} f) ∗ (∃ f : S2x128x128.Idx → F .f32, (ibV).view.loc (thr d i) ↦[Finset.univ]{fullShare} f)
    ∗ (∃ f : S2x136x128.Idx → F .f32, (abV).view.loc (thr d i) ↦[Finset.univ]{fullShare} f)
    ∗ (∃ f : S16.Idx → BitVec 32, (nsV).view.loc (thr d i) ↦[Finset.univ]{fullShare} f) ∗ (∃ f : S16.Idx → BitVec 32, (ciV).view.loc (thr d i) ↦[Finset.univ]{fullShare} f)
    ∗ (∃ f : S16.Idx → BitVec 32, (baV).view.loc (thr d i) ↦[Finset.univ]{fullShare} f))

/-- A slot's semaphores, at zero. -/
def slotSems (p : Fin 2) : sProp (RM F) :=
  iprop(zero d i (semT p) ∗ zero d i (semI p) ∗ zero d i (semA p) ∗ zero d i (semO p) ∗ zero d i (semGI p) ∗ zero d i (semGA p))
/-- The tile's semaphores, at zero. -/
def sems : sProp (RM F) :=
  iprop(zero d i cc0_scoped0.sem ∗ zero d i cc0_scoped2.sem ∗ zero d i cc0_scoped3.sem ∗ slotSems d i 0 ∗ slotSems d i 1)

/-- A share of what the tiles read. -/
def reads (X : Src F) (q : PosShare TreeShare) : sProp (RM F) :=
  iprop(((stV).view.loc (thr d i) ↦[Finset.univ]{q} X.v4) ∗ ((spV).view.loc (thr d i) ↦[Finset.univ]{q} X.v5)
    ∗ ((tkV).view.loc (thr d i) ↦[Finset.univ]{q} X.tk) ∗ ((inV).view.loc (thr d i) ↦[Finset.univ]{q} X.ins) ∗ ((arV).view.loc (thr d i) ↦[Finset.univ]{q} X.arg))

/-! ## The lists, filled -/

theorem iiUp_zero (T : ℕ → BitVec 32) : iprop(∃ f : S2048.Idx → BitVec 32, (iiV).view.loc (thr d i) ↦[Finset.univ]{fullShare} f) ⊢ iiUp (F := F) d i T 0 := by
  unfold iiUp
  iintro ⟨%f, H⟩
  iexists f
  isplitr; · ipureintro; intro k hk; exact absurd hk (Nat.not_lt_zero _)
  iexact H
theorem aiUp_zero (T : ℕ → BitVec 32) : iprop(∃ f : S2048.Idx → BitVec 32, (aiV).view.loc (thr d i) ↦[Finset.univ]{fullShare} f) ⊢ aiUp (F := F) d i T 0 := by
  unfold aiUp
  iintro ⟨%f, H⟩
  iexists f
  isplitr; · ipureintro; intro k hk; exact absurd hk (Nat.not_lt_zero _)
  iexact H
theorem nsUp_zero (T : ℕ → BitVec 32) : iprop(∃ f : S16.Idx → BitVec 32, (nsV).view.loc (thr d i) ↦[Finset.univ]{fullShare} f) ⊢ nsUp (F := F) d i T 0 := by
  unfold nsUp
  iintro ⟨%f, H⟩
  iexists f
  isplitr; · ipureintro; intro k hk; exact absurd hk (Nat.not_lt_zero _)
  iexact H
theorem ciUp_zero (T : ℕ → BitVec 32) : iprop(∃ f : S16.Idx → BitVec 32, (ciV).view.loc (thr d i) ↦[Finset.univ]{fullShare} f) ⊢ ciUp (F := F) d i T 0 := by
  unfold ciUp
  iintro ⟨%f, H⟩
  iexists f
  isplitr; · ipureintro; intro k hk; exact absurd hk (Nat.not_lt_zero _)
  iexact H
theorem baUp_zero (T : ℕ → BitVec 32) : iprop(∃ f : S16.Idx → BitVec 32, (baV).view.loc (thr d i) ↦[Finset.univ]{fullShare} f) ⊢ baUp (F := F) d i T 0 := by
  unfold baUp
  iintro ⟨%f, H⟩
  iexists f
  isplitr; · ipureintro; intro k hk; exact absurd hk (Nat.not_lt_zero _)
  iexact H

theorem fill1 {n : ℕ} {f : (⟨1, ![n]⟩ : Shape).Idx → BitVec 32} {T : ℕ → BitVec 32} (h : ∀ k : Fin n, k.val < n → f (ix1 k) = T k.val) :
    f = fun k => T (k 0).val := by
  funext k
  rw [eq_ix1 k]
  exact h (k 0) (k 0).isLt

theorem iiUp_full (T : ℕ → BitVec 32) : iiUp (F := F) d i T 2048 ⊢ ((iiV).view.loc (thr d i) ↦[Finset.univ]{fullShare} fun k : S2048.Idx => T (k 0).val) := by
  unfold iiUp
  iintro ⟨%f, %h, H⟩
  obtain rfl := fill1 (n := 2048) h
  iexact H
theorem aiUp_full (T : ℕ → BitVec 32) : aiUp (F := F) d i T 2048 ⊢ ((aiV).view.loc (thr d i) ↦[Finset.univ]{fullShare} fun k : S2048.Idx => T (k 0).val) := by
  unfold aiUp
  iintro ⟨%f, %h, H⟩
  obtain rfl := fill1 (n := 2048) h
  iexact H
theorem nsUp_full (T : ℕ → BitVec 32) : nsUp (F := F) d i T 16 ⊢ ((nsV).view.loc (thr d i) ↦[Finset.univ]{fullShare} fun k : S16.Idx => T (k 0).val) := by
  unfold nsUp
  iintro ⟨%f, %h, H⟩
  obtain rfl := fill1 (n := 16) h
  iexact H
theorem ciUp_full (T : ℕ → BitVec 32) : ciUp (F := F) d i T 16 ⊢ ((ciV).view.loc (thr d i) ↦[Finset.univ]{fullShare} fun k : S16.Idx => T (k 0).val) := by
  unfold ciUp
  iintro ⟨%f, %h, H⟩
  obtain rfl := fill1 (n := 16) h
  iexact H
theorem baUp_full (T : ℕ → BitVec 32) : baUp (F := F) d i T 16 ⊢ ((baV).view.loc (thr d i) ↦[Finset.univ]{fullShare} fun k : S16.Idx => T (k 0).val) := by
  unfold baUp
  iintro ⟨%f, %h, H⟩
  obtain rfl := fill1 (n := 16) h
  iexact H

/-! ## The slots, taken up and put back -/

variable (X : Src F) (q : PosShare TreeShare)

/-- The tables, the lists and the buffers of both slots, whole. -/
def whole : sProp (RM F) :=
  iprop(((tkV).view.loc (thr d i) ↦[Finset.univ]{q} X.tk) ∗ ((inV).view.loc (thr d i) ↦[Finset.univ]{q} X.ins) ∗ ((arV).view.loc (thr d i) ↦[Finset.univ]{q} X.arg)
    ∗ ((svV).view.loc (thr d i) ↦[Finset.univ]{fullShare} (X.td i).sv) ∗ ((iiV).view.loc (thr d i) ↦[Finset.univ]{fullShare} (X.td i).ii)
    ∗ ((aiV).view.loc (thr d i) ↦[Finset.univ]{fullShare} (X.td i).ai)
    ∗ (∃ f : S2x128x128.Idx → F .f32, (tbV).view.loc (thr d i) ↦[Finset.univ]{fullShare} f) ∗ (∃ f : S2x128x128.Idx → F .f32, (ibV).view.loc (thr d i) ↦[Finset.univ]{fullShare} f)
    ∗ (∃ f : S2x136x128.Idx → F .f32, (abV).view.loc (thr d i) ↦[Finset.univ]{fullShare} f) ∗ slotSems d i 0 ∗ slotSems d i 1)

theorem whole_split : whole d i X q ⊢ iprop(idle (X.td i) d i (half q) (half fullShare) 0 ∗ idle (X.td i) d i (half q) (half fullShare) 1) := by
  unfold whole idle rest tbAny ibAny abAny slotSems
  iintro ⟨Htk, Hin, Har, Hsv, Hii, Hai, Htb, Hib, Hab, ⟨t0, i0, a0, o0, g0, h0⟩, ⟨t1, i1, a1, o1, g1, h1⟩⟩
  ihave Htk := half_split $$ Htk
  icases Htk with ⟨Htk, Htk'⟩
  ihave Hin := half_split $$ Hin
  icases Hin with ⟨Hin, Hin'⟩
  ihave Har := half_split $$ Har
  icases Har with ⟨Har, Har'⟩
  ihave Hsv := half_split $$ Hsv
  icases Hsv with ⟨Hsv, Hsv'⟩
  ihave Hii := half_split $$ Hii
  icases Hii with ⟨Hii, Hii'⟩
  ihave Hai := half_split $$ Hai
  icases Hai with ⟨Hai, Hai'⟩
  ihave Htb := (two_split (F := F) (ℓ := (tbV).view.loc (thr d i)) slT_disj slT_cover) $$ Htb
  icases Htb with ⟨Htb, Htb'⟩
  ihave Hib := (two_split (F := F) (ℓ := (ibV).view.loc (thr d i)) slT_disj slT_cover) $$ Hib
  icases Hib with ⟨Hib, Hib'⟩
  ihave Hab := (two_split (F := F) (ℓ := (abV).view.loc (thr d i)) slA_disj slA_cover) $$ Hab
  icases Hab with ⟨Hab, Hab'⟩
  isplitl [Htb o0 Hib Hab Htk Hin Har Hsv Hii Hai t0 i0 a0 g0 h0]
  · isplitl [Htb]; · iexact Htb
    isplitl [o0]; · iexact o0
    isplitl [Hib]; · iexact Hib
    isplitl [Hab]; · iexact Hab
    isplitl [Htk]; · iexact Htk
    isplitl [Hin]; · iexact Hin
    isplitl [Har]; · iexact Har
    isplitl [Hsv]; · iexact Hsv
    isplitl [Hii]; · iexact Hii
    isplitl [Hai]; · iexact Hai
    isplitl [t0]; · iexact t0
    isplitl [i0]; · iexact i0
    isplitl [a0]; · iexact a0
    isplitl [g0]; · iexact g0
    iexact h0
  · isplitl [Htb']; · iexact Htb'
    isplitl [o1]; · iexact o1
    isplitl [Hib']; · iexact Hib'
    isplitl [Hab']; · iexact Hab'
    isplitl [Htk']; · iexact Htk'
    isplitl [Hin']; · iexact Hin'
    isplitl [Har']; · iexact Har'
    isplitl [Hsv']; · iexact Hsv'
    isplitl [Hii']; · iexact Hii'
    isplitl [Hai']; · iexact Hai'
    isplitl [t1]; · iexact t1
    isplitl [i1]; · iexact i1
    isplitl [a1]; · iexact a1
    isplitl [g1]; · iexact g1
    iexact h1

theorem whole_join : iprop(idle (X.td i) d i (half q) (half fullShare) 0 ∗ idle (X.td i) d i (half q) (half fullShare) 1) ⊢ whole d i X q := by
  unfold whole idle rest tbAny ibAny abAny slotSems
  iintro ⟨⟨Htb, o0, Hib, Hab, Htk, Hin, Har, Hsv, Hii, Hai, t0, i0, a0, g0, h0⟩, ⟨Htb', o1, Hib', Hab', Htk', Hin', Har', Hsv', Hii', Hai', t1, i1, a1, g1, h1⟩⟩
  isplitl [Htk Htk']; · iapply half_join; isplitl [Htk]; · iexact Htk
                        iexact Htk'
  isplitl [Hin Hin']; · iapply half_join; isplitl [Hin]; · iexact Hin
                        iexact Hin'
  isplitl [Har Har']; · iapply half_join; isplitl [Har]; · iexact Har
                        iexact Har'
  isplitl [Hsv Hsv']; · iapply half_join; isplitl [Hsv]; · iexact Hsv
                        iexact Hsv'
  isplitl [Hii Hii']; · iapply half_join; isplitl [Hii]; · iexact Hii
                        iexact Hii'
  isplitl [Hai Hai']; · iapply half_join; isplitl [Hai]; · iexact Hai
                        iexact Hai'
  isplitl [Htb Htb']
  · iapply (two_join (F := F) (ℓ := (tbV).view.loc (thr d i)) slT_disj slT_cover)
    isplitl [Htb]; · iexact Htb
    iexact Htb'
  isplitl [Hib Hib']
  · iapply (two_join (F := F) (ℓ := (ibV).view.loc (thr d i)) slT_disj slT_cover)
    isplitl [Hib]; · iexact Hib
    iexact Hib'
  isplitl [Hab Hab']
  · iapply (two_join (F := F) (ℓ := (abV).view.loc (thr d i)) slA_disj slA_cover)
    isplitl [Hab]; · iexact Hab
    iexact Hab'
  isplitl [t0 i0 a0 o0 g0 h0]
  · isplitl [t0]; · iexact t0
    isplitl [i0]; · iexact i0
    isplitl [a0]; · iexact a0
    isplitl [o0]; · iexact o0
    isplitl [g0]; · iexact g0
    iexact h0
  · isplitl [t1]; · iexact t1
    isplitl [i1]; · iexact i1
    isplitl [a1]; · iexact a1
    isplitl [o1]; · iexact o1
    isplitl [g1]; · iexact g1
    iexact h1

/-! ## The tile -/

variable {defs : Defs nD τ sig (Elt F) Λ₀} {𝒱 : Variants} {bd : Option 𝒱.V} {Q : PUnit → sProp (RM F)}
variable (O : CellTallies nD τ sig (HIx 1)) (W : Waits sig (HIx 1))

/-- From a share of what the tiles read, the tile leaves its rows of the output. -/
theorem wp_tile (hX : X.Ok) :
    iprop(reads d i X q ∗ bigSep Finset.univ (outAny d i) ∗ scratch d i ∗ sems d i ∗ Owe (thr d i) O W ∗ Transfers.MayWaits (thr d i) (default : HIx 1) O)
      ⊢ iprop((iprop(reads d i X q ∗ bigSep Finset.univ (outDone d i X.out) ∗ scratch d i ∗ sems d i ∗ Owe (thr d i) O W) -∗ Q ⟨⟩)
        -∗ wp frame (wpE defs 𝒱 (thr d i) bd) Set.univ (tile i) Q) := by
  have h0 := core_lt i
  unfold reads scratch sems tile fetch
  rw [localPos_eq]
  iintro ⟨⟨Hst, Hsp, Htk, Hin, Har⟩, Hout, ⟨Hsv, Hspv, Hii, Hai, Htb, Hib, Hab, Hns, Hci, Hba⟩, ⟨z0, z2, z3, S0, S1⟩, HO, #Hmw⟩ Hk
  iapply (wp_preK d i X.v5 q) $$ [Hsp Hspv z0 HO]
  · isplitl [Hsp]; · iexact Hsp
    isplitl [Hspv]; · iexact Hspv
    isplitl [z0]; · iexact z0
    isplitl [HO]; · iexact HO
    iexact Hmw
  iintro ⟨Hsp, Hspv, z0, HO⟩
  iapply (wp_get_st d i X.v4 q cc0_scoped2.sem _ (off5_eq i)) $$ [Hst Hsv z2 HO]
  · isplitl [Hst]; · iexact Hst
    isplitl [Hsv]; · iexact Hsv
    isplitl [z2]; · iexact z2
    isplitl [HO]; · iexact HO
    iexact Hmw
  iintro ⟨Hst, Hsv, z2, HO⟩
  iapply (wp_get_sp d i X.v5 q cc0_scoped3.sem _ (off5_eq i)) $$ [Hsp Hspv z3 HO]
  · isplitl [Hsp]; · iexact Hsp
    isplitl [Hspv]; · iexact Hspv
    isplitl [z3]; · iexact z3
    isplitl [HO]; · iexact HO
    iexact Hmw
  iintro ⟨Hsp, Hspv, z3, HO⟩
  iapply (wp_idx d i (part X.v5 (4096 * (i 1).val + 2048 * (i 0).val)) (rowH X.v5 (i 1).val) (2048 * (i 0).val) (by omega)
    (fun k => part_rowH X.v5 _ _ k)) $$ [Hspv Hii Hai Hci Hba Hns]
  · unfold lists
    isplitl [Hspv Hii Hai]
    · isplitl [Hspv]; · iexact Hspv
      isplitl [Hii]; · iapply (iiUp_zero d i); iexact Hii
      iapply (aiUp_zero d i); iexact Hai
    isplitl [Hci]; · iapply (ciUp_zero d i); iexact Hci
    isplitl [Hba]; · iapply (baUp_zero d i); iexact Hba
    iapply (nsUp_zero d i); iexact Hns
  iintro %c H
  unfold lists
  icases H with ⟨⟨Hspv, Hii, Hai⟩, Hci, Hba, Hns⟩
  ihave Hii := (iiUp_full d i _) $$ Hii
  ihave Hai := (aiUp_full d i _) $$ Hai
  ihave Hci := (ciUp_full d i _) $$ Hci
  ihave Hba := (baUp_full d i _) $$ Hba
  ihave Hns := (nsUp_full d i _) $$ Hns
  ihave HW := (whole_split d i X q) $$ [Htk Hin Har Hsv Hii Hai Htb Hib Hab S0 S1]
  · unfold whole
    isplitl [Htk]; · iexact Htk
    isplitl [Hin]; · iexact Hin
    isplitl [Har]; · iexact Har
    isplitl [Hsv]; · iexact Hsv
    isplitl [Hii]; · iexact Hii
    isplitl [Hai]; · iexact Hai
    isplitl [Htb]; · iexact Htb
    isplitl [Hib]; · iexact Hib
    isplitl [Hab]; · iexact Hab
    isplitl [S0]; · iexact S0
    iexact S1
  icases HW with ⟨H0, H1⟩
  iapply (wp_chunks (X.td i) d i (half q) (half fullShare) X.out O W (td_good X i hX) (out_is X i)) $$ [H0 H1 Hns Hci Hba Hout HO]
  · isplitl [H0]; · iexact H0
    isplitl [H1]; · iexact H1
    isplitl [Hns Hci Hba]
    · unfold words
      isplitl [Hns]; · iexact Hns
      isplitl [Hci]; · iexact Hci
      iexact Hba
    isplitl [Hout]; · iexact Hout
    isplitl [HO]; · iexact HO
    iexact Hmw
  iintro ⟨H0, H1, Hw, Hout, HO⟩
  ihave HW := (whole_join d i X q) $$ [H0 H1]
  · isplitl [H0] <;> iassumption
  unfold whole words
  icases HW with ⟨Htk, Hin, Har, Hsv, Hii, Hai, Htb, Hib, Hab, S0, S1⟩
  icases Hw with ⟨Hns, Hci, Hba⟩
  iapply Hk
  isplitl [Hst Hsp Htk Hin Har]
  · isplitl [Hst]; · iexact Hst
    isplitl [Hsp]; · iexact Hsp
    isplitl [Htk]; · iexact Htk
    isplitl [Hin]; · iexact Hin
    iexact Har
  isplitl [Hout]; · iexact Hout
  isplitl [Hsv Hspv Hii Hai Htb Hib Hab Hns Hci Hba]
  · isplitl [Hsv]; · iexists _; iexact Hsv
    isplitl [Hspv]; · iexists _; iexact Hspv
    isplitl [Hii]; · iexists _; iexact Hii
    isplitl [Hai]; · iexists _; iexact Hai
    isplitl [Htb]; · iexact Htb
    isplitl [Hib]; · iexact Hib
    isplitl [Hab]; · iexact Hab
    isplitl [Hns]; · iexists _; iexact Hns
    isplitl [Hci]; · iexists _; iexact Hci
    iexists _; iexact Hba
  isplitl [z0 z2 z3 S0 S1]
  · isplitl [z0]; · iexact z0
    isplitl [z2]; · iexact z2
    isplitl [z3]; · iexact z3
    isplitl [S0]; · iexact S0
    iexact S1
  iexact HO

end Cert.Proof

end
-- ==== Proof.Deal.lean ====
/-
  How the tiles share what they read, and how the output is cut into their blocks of rows.
-/
module

public import proofs.«01_k».proof.Proof.Tile

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

theorem eq_of {P Q : sProp (RM F)} (h : P ⊢ Q) (h' : Q ⊢ P) : P = Q := BI.Entails.antisymm h h'

/-! ## Shares dealt one after the other -/

/-- What is left of a share once `n` have been dealt from it. -/
def left : ℕ → PosShare TreeShare → PosShare TreeShare
  | 0, q => q
  | n + 1, q => (left n q).right
/-- The share that the `n`-th is dealt. -/
def dealt (n : ℕ) (q : PosShare TreeShare) : PosShare TreeShare := (left n q).left

theorem deal {Φ : PosShare TreeShare → sProp (RM F)} (h : ∀ q, Φ q = iprop(Φ q.left ∗ Φ q.right)) (n : ℕ) (q : PosShare TreeShare) :
    Φ q = iprop((bigSep Finset.univ fun k : Fin n => Φ (dealt k.val q)) ∗ Φ (left n q)) := by
  have e : ∀ n, Φ q = iprop((bigSep (Finset.range n) fun k => Φ (dealt k q)) ∗ Φ (left n q)) := by
    intro n
    induction n with
    | zero =>
      rw [Finset.range_zero, bigSep_empty]
      exact eq_of BIClass.emp_sep.2 BIClass.emp_sep.1
    | succ n ih =>
      rw [Finset.range_add_one, SparseCore.bigSep_insert' Finset.notMem_range_self]
      refine ih.trans ?_
      rw [h (left n q)]
      show iprop((bigSep (Finset.range n) fun k => Φ (dealt k q)) ∗ Φ (dealt n q) ∗ Φ (left (n + 1) q)) = _
      refine eq_of ?_ ?_
      · iintro ⟨A, B, C⟩
        isplitl [A B]; · isplitl [B] <;> iassumption
        iexact C
      · iintro ⟨⟨B, A⟩, C⟩
        isplitl [A]; · iexact A
        isplitl [B] <;> iassumption
  rw [show (bigSep Finset.univ fun k : Fin n => Φ (dealt k.val q)) = bigSep (Finset.range n) fun k => Φ (dealt k q) from by
    rw [show Finset.range n = (Finset.univ : Finset (Fin n)).map Fin.valEmbedding from Finset.ext fun k =>
      ⟨fun hk => Finset.mem_map.mpr ⟨⟨k, Finset.mem_range.mp hk⟩, Finset.mem_univ _, rfl⟩,
        fun hk => by obtain ⟨i, _, rfl⟩ := Finset.mem_map.mp hk; exact Finset.mem_range.mpr i.isLt⟩, bigSep_map]; rfl]
  exact e n

/-! ## The tiles -/

/-- Tile `s` of SparseCore `c`. -/
def coords (c : Fin 2) (s : Fin 16) : grid0.Coords :=
  fun | 0 => c | 1 => s | ⟨_ + 2, h⟩ => absurd h (Nat.not_lt.2 (Nat.le_add_left _ _))

variable [FloatOps F] (d : Dev nD)

abbrev hbm (b : Ref sig .tc) : Loc nD τ sig := (SparseCore.T d).loc b

/-- What the tiles read, at share `q`. -/
def readsT (X : Src F) (q : PosShare TreeShare) : sProp (RM F) :=
  iprop((hbm d main_v4 ↦[Finset.univ]{q} X.v4) ∗ (hbm d main_v5 ↦[Finset.univ]{q} X.v5)
    ∗ (hbm d main_arg1 ↦[Finset.univ]{q} X.tk) ∗ (hbm d main_arg2 ↦[Finset.univ]{q} X.ins) ∗ (hbm d main_arg3 ↦[Finset.univ]{q} X.arg))

theorem readsT_eq (X : Src F) (i : grid0.Coords) (q : PosShare TreeShare) : reads d i X q = readsT d X q := rfl

theorem readsT_half (X : Src F) (q : PosShare TreeShare) : readsT d X q = iprop(readsT d X q.left ∗ readsT d X q.right) := by
  have h : ∀ {ℓ : Loc nD τ sig} {f : Buf (Elt F) ℓ}, (ℓ ↦[Finset.univ]{q} f : sProp (RM F)) ⊣⊢ iprop((ℓ ↦[Finset.univ]{q.left} f) ∗ ℓ ↦[Finset.univ]{q.right} f) :=
    pointsTo_share (PosShare.mem_left_op_right q)
  refine eq_of ?_ ?_
  · unfold readsT
    iintro ⟨a, b, c, e, g⟩
    ihave a := h.1 $$ a
    icases a with ⟨a, a'⟩
    ihave b := h.1 $$ b
    icases b with ⟨b, b'⟩
    ihave c := h.1 $$ c
    icases c with ⟨c, c'⟩
    ihave e := h.1 $$ e
    icases e with ⟨e, e'⟩
    ihave g := h.1 $$ g
    icases g with ⟨g, g'⟩
    isplitl [a b c e g]
    · isplitl [a]; · iexact a
      isplitl [b]; · iexact b
      isplitl [c]; · iexact c
      isplitl [e]; · iexact e
      iexact g
    · isplitl [a']; · iexact a'
      isplitl [b']; · iexact b'
      isplitl [c']; · iexact c'
      isplitl [e']; · iexact e'
      iexact g'
  · unfold readsT
    iintro ⟨⟨a, b, c, e, g⟩, ⟨a', b', c', e', g'⟩⟩
    isplitl [a a']; · iapply h.2; isplitl [a] <;> iassumption
    isplitl [b b']; · iapply h.2; isplitl [b] <;> iassumption
    isplitl [c c']; · iapply h.2; isplitl [c] <;> iassumption
    isplitl [e e']; · iapply h.2; isplitl [e] <;> iassumption
    iapply h.2; isplitl [g] <;> iassumption

/-! ## The output in blocks of 128 rows -/

/-- The rows of chunk `j` of a tile. -/
def blk (p : Fin 2 × Fin 16 × Fin 16) : Finset S65536x128.Idx := (ouJ (coords p.1 p.2.1) p.2.2).view.set

theorem mem_blk (p : Fin 2 × Fin 16 × Fin 16) (k : S65536x128.Idx) : k ∈ blk p ↔ (k 0).val / 128 = 32 * p.2.1.val + 16 * p.1.val + p.2.2.val := by
  have e := offO_eq (coords p.1 p.2.1) p.2.2
  have e0 : offO (coords p.1 p.2.1) p.2.2 0 = 4096 * p.2.1.val + 2048 * p.1.val + 128 * p.2.2.val := congrFun e 0
  have e1 : offO (coords p.1 p.2.1) p.2.2 1 = 0 := congrFun e 1
  have hs : blk p = (Rect.unit (s := S65536x128) (offO (coords p.1 p.2.1) p.2.2) S128x128.size (inb_out (coords p.1 p.2.1) p.2.2)).set := by
    show ((View.whole (main_v6_scv : Ref sig .scVector)).slice _).set = _
    rw [View.set_slice]; exact Finset.map_refl
  rw [hs, LoadRect.mem_set]
  have k1 : (k 1).val < 128 := (k 1).isLt
  constructor
  · intro h
    obtain ⟨t, ht, h⟩ := h 0
    have ht : t < 128 := ht
    have h : (k 0).val = offO (coords p.1 p.2.1) p.2.2 0 + 1 * t := h
    omega
  · intro h a
    fin_cases a
    · exact ⟨(k 0).val % 128, Nat.mod_lt _ (by decide), show (k 0).val = offO (coords p.1 p.2.1) p.2.2 0 + 1 * ((k 0).val % 128) by omega⟩
    · exact ⟨(k 1).val, k1, show (k 1).val = offO (coords p.1 p.2.1) p.2.2 1 + 1 * (k 1).val by omega⟩

theorem blk_disj : ∀ p ∈ (Finset.univ : Finset (Fin 2 × Fin 16 × Fin 16)), ∀ p' ∈ (Finset.univ : Finset (Fin 2 × Fin 16 × Fin 16)), p ≠ p' → Disjoint (blk p) (blk p') := by
  intro p _ p' _ hne
  rw [Finset.disjoint_left]
  intro k h h'
  rw [mem_blk] at h h'
  refine hne (Prod.ext (Fin.ext ?_) (Prod.ext (Fin.ext ?_) (Fin.ext ?_))) <;> omega

theorem blk_cover : (Finset.univ : Finset (Fin 2 × Fin 16 × Fin 16)).biUnion blk = Finset.univ := by
  ext k
  have k0 : (k 0).val < 65536 := (k 0).isLt
  simp only [Finset.mem_biUnion, Finset.mem_univ, true_and, iff_true]
  exact ⟨(⟨(k 0).val / 128 % 32 / 16, by omega⟩, ⟨(k 0).val / 128 / 32, by omega⟩, ⟨(k 0).val / 128 % 16, by omega⟩),
    (mem_blk _ _).mpr (by show (k 0).val / 128 = 32 * ((k 0).val / 128 / 32) + 16 * ((k 0).val / 128 % 32 / 16) + (k 0).val / 128 % 16; omega)⟩

theorem out_blocks (f : S65536x128.Idx → F .f32) :
    (hbm d main_v6 ↦[Finset.univ]{fullShare} f : sProp (RM F))
      = bigSep Finset.univ fun c : Fin 2 => bigSep Finset.univ fun s : Fin 16 => bigSep Finset.univ (outDone (F := F) d (coords c s) f) := by
  rw [← blk_cover, pointsTo_biUnion Finset.univ (ℓ := hbm d main_v6) blk blk_disj, bigSep_univ_prod]
  refine bigSep_congr fun c _ => ?_
  rw [bigSep_univ_prod]
  rfl

theorem out_any (f : S65536x128.Idx → F .f32) (i : grid0.Coords) : bigSep Finset.univ (outDone (F := F) d i f) ⊢ bigSep Finset.univ (outAny (F := F) d i) :=
  bigSep_mono fun j _ => show outDone (F := F) d i f j ⊢ outAny (F := F) d i j by
    unfold outDone outAny
    iintro H
    iexists f
    iexact H

end Cert.Proof

end
-- ==== Proof.Call.lean ====
/-
  The SparseCore call: what its handshakes carry, each tile's obligation, and what the call does for its caller.
-/
module

public import proofs.«01_k».proof.Proof.Deal

@[expose] public section

set_option maxRecDepth 16384

noncomputable section

namespace Cert.Proof

open Cert.KernelIdeal Cert.KernelIdeal.Gen Cert.Proof.Piece

open Idealize.ShloMosaic Idealize.ShloMosaic.ValueIdx
open Idealize.ShloMosaic.SparseCore (S V T)
open Idealize.ShloMosaic.SparseCore.Cfg (HIx Pay ownBufs ownSems0 ownRefs ownCells mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the handshakes carry -/

variable (X : Dev nD → Src F)

/-- What a SparseCore is handed, and what it hands back. -/
def coreIn (d : Dev nD) (c : Fin 2) : sProp (RM F) :=
  iprop(readsT d (X d) (half fullShare c) ∗ bigSep Finset.univ fun s : Fin 16 => bigSep Finset.univ (outAny (F := F) d (coords c s)))
def coreOut (d : Dev nD) (c : Fin 2) : sProp (RM F) :=
  iprop(readsT d (X d) (half fullShare c) ∗ bigSep Finset.univ fun s : Fin 16 => bigSep Finset.univ (outDone (F := F) d (coords c s) (X d).out))
/-- What a tile is handed, and what it hands back. -/
def tileIn (d : Dev nD) (c : Fin 2) (s : Fin 16) : sProp (RM F) :=
  iprop(readsT d (X d) (dealt s.val (half fullShare c)) ∗ bigSep Finset.univ (outAny (F := F) d (coords c s)))
def tileOut (d : Dev nD) (c : Fin 2) (s : Fin 16) : sProp (RM F) :=
  iprop(readsT d (X d) (dealt s.val (half fullShare c)) ∗ bigSep Finset.univ (outDone (F := F) d (coords c s) (X d).out))

def P : (K (F := F)).Pay (nD := nD) (Val := Elt F) (Name := ℕ) (U := UU) where
  st := fun q d c => match q with | 0 => coreIn X d (Fin.cast nCore_zero c)
  dn := fun q d c => match q with | 0 => coreOut X d (Fin.cast nCore_zero c)
  go := fun q d c i => match q with | 0 => tileIn X d (Fin.cast nCore_zero c) (Fin.cast nSub_zero i)
  td := fun q d c i => match q with | 0 => tileOut X d (Fin.cast nCore_zero c) (Fin.cast nSub_zero i)
  x := fun _ _ => iprop(emp)

section Storable

instance outAny_storable (d : Dev nD) (i : grid0.Coords) (j : Fin 16) : BI.Storable (upEmb : UEmb _ (RM F)) (outAny (F := F) d i j) := by
  unfold outAny; infer_instance
instance outDone_storable (d : Dev nD) (i : grid0.Coords) (f : S65536x128.Idx → F .f32) (j : Fin 16) : BI.Storable (upEmb : UEmb _ (RM F)) (outDone (F := F) d i f j) := by
  unfold outDone; infer_instance
instance readsT_storable (d : Dev nD) (X : Src F) (q : PosShare TreeShare) : BI.Storable (upEmb : UEmb _ (RM F)) (readsT (F := F) d X q) := by
  unfold readsT; infer_instance
instance coreIn_storable (d : Dev nD) (c : Fin 2) : BI.Storable (upEmb : UEmb _ (RM F)) (coreIn X d c) := by unfold coreIn; infer_instance
instance coreOut_storable (d : Dev nD) (c : Fin 2) : BI.Storable (upEmb : UEmb _ (RM F)) (coreOut X d c) := by unfold coreOut; infer_instance
instance tileIn_storable (d : Dev nD) (c : Fin 2) (s : Fin 16) : BI.Storable (upEmb : UEmb _ (RM F)) (tileIn X d c s) := by unfold tileIn; infer_instance
instance tileOut_storable (d : Dev nD) (c : Fin 2) (s : Fin 16) : BI.Storable (upEmb : UEmb _ (RM F)) (tileOut X d c s) := by unfold tileOut; infer_instance

instance P_storable : (P X).IsStorable where
  st q d c := match q with | 0 => coreIn_storable X d (Fin.cast nCore_zero c)
  dn q d c := match q with | 0 => coreOut_storable X d (Fin.cast nCore_zero c)
  go q d c i := match q with | 0 => tileIn_storable X d (Fin.cast nCore_zero c) (Fin.cast nSub_zero i)
  td q d c i := match q with | 0 => tileOut_storable X d (Fin.cast nCore_zero c) (Fin.cast nSub_zero i)

end Storable

/-! ## What a tile owns -/

section Own

variable (d : Dev nD) (i : grid0.Coords)

def tileRefs : Finset (Ref sig .scVector) :=
  {cc0_scratch0, cc0_scratch1, cc0_scratch2, cc0_scratch3, cc0_scratch4, cc0_scratch5, cc0_scratch6, cc0_scratch7, cc0_scratch8, cc0_scratch9}
def tileSems : Finset (SemLoc sig) :=
  {.dma cc0_scoped0.sem, .dma cc0_scoped2.sem, .dma cc0_scoped3.sem,
    .dma (semT 0), .dma (semI 0), .dma (semA 0), .dma (semO 0), .dma (semGI 0), .dma (semGA 0),
    .dma (semT 1), .dma (semI 1), .dma (semA 1), .dma (semO 1), .dma (semGI 1), .dma (semGA 1)}

def refAt : Ref sig .scVector ↪ DevRef τ sig := ⟨Proc.devRef (Proc.scVector ((i 0).castLE hcore0) ((i 1).castLE hsub0)), Proc.devRef_injective _⟩
def semAt : SemLoc sig ↪ GSem nD τ sig := ⟨fun s => (thr d i, s), fun _ _ h => (Prod.ext_iff.mp h).2⟩

theorem ownBufs_tile :
    (ownBufs (thr d i) : sProp (RM F)) = iprop(scratch d i ∗ bigSep (ownRefs (thr d i).2 \ tileRefs.map (refAt i)) fun b => iprop(∃ f, ((d, b) : Loc nD τ sig) ↦{fullShare} f)) := by
  unfold SparseCore.Cfg.ownBufs
  rw [SparseCore.bigSep_sdiff_split' (t := tileRefs.map (refAt i)) (by
    intro b hb
    obtain ⟨r, hr, rfl⟩ := Finset.mem_map.mp hb
    refine SparseCore.Cfg.mem_ownRefs_of_owner ?_
    simp only [tileRefs, Finset.mem_insert, Finset.mem_singleton] at hr
    rcases hr with rfl | rfl | rfl | rfl | rfl | rfl | rfl | rfl | rfl | rfl <;> rfl)]
  congr 1
  rw [bigSep_map]
  unfold tileRefs scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

theorem ownSems_tile :
    (ownSems0 (thr d i) : sProp (RM F)) = iprop((bigSep tileSems fun s => semVal (thr d i, s) 0) ∗ bigSep (ownCells (thr d i) \ tileSems.map (semAt d i)) fun g => semVal g 0) := by
  unfold SparseCore.Cfg.ownSems0
  rw [SparseCore.bigSep_sdiff_split' (t := tileSems.map (semAt d i)) (by
    intro g hg
    obtain ⟨s, hs, rfl⟩ := Finset.mem_map.mp hg
    exact mem_ownCells.mpr ⟨rfl, (show ∀ s ∈ tileSems, s.isScoped .scVector = true by decide) s hs⟩)]
  congr 1

theorem tileSems_eq : (bigSep tileSems fun s => semVal (thr d i, s) 0 : sProp (RM F))
    = iprop(zero d i cc0_scoped0.sem ∗ zero d i cc0_scoped2.sem ∗ zero d i cc0_scoped3.sem
      ∗ zero d i (semT 0) ∗ zero d i (semI 0) ∗ zero d i (semA 0) ∗ zero d i (semO 0) ∗ zero d i (semGI 0) ∗ zero d i (semGA 0)
      ∗ zero d i (semT 1) ∗ zero d i (semI 1) ∗ zero d i (semA 1) ∗ zero d i (semO 1) ∗ zero d i (semGI 1) ∗ zero d i (semGA 1)) := by
  unfold tileSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem sems_eq : (bigSep tileSems fun s => semVal (thr d i, s) 0 : sProp (RM F)) = sems d i := by
  rw [tileSems_eq]
  refine eq_of ?_ ?_
  · unfold sems slotSems
    iintro ⟨a, b, c, t0, i0, a0, o0, g0, h0, R⟩
    isplitl [a]; · iexact a
    isplitl [b]; · iexact b
    isplitl [c]; · iexact c
    isplitr [R]
    · isplitl [t0]; · iexact t0
      isplitl [i0]; · iexact i0
      isplitl [a0]; · iexact a0
      isplitl [o0]; · iexact o0
      isplitl [g0]; · iexact g0
      iexact h0
    iexact R
  · unfold sems slotSems
    iintro ⟨a, b, c, ⟨t0, i0, a0, o0, g0, h0⟩, R⟩
    isplitl [a]; · iexact a
    isplitl [b]; · iexact b
    isplitl [c]; · iexact c
    isplitl [t0]; · iexact t0
    isplitl [i0]; · iexact i0
    isplitl [a0]; · iexact a0
    isplitl [o0]; · iexact o0
    isplitl [g0]; · iexact g0
    isplitl [h0]; · iexact h0
    iexact R

end Own

/-! ## The tile's obligation -/

theorem tile_run (hX : ∀ d, (X d).Ok) (d : Dev nD) (c : Fin 2) (s : Fin 16) (O : CellTallies nD τ sig (HIx 1)) (W : Waits sig (HIx 1)) (hO : ∀ g, O g none = 0) :
    iprop(levAts (K (F := F)).L (K (F := F)).lev ∗ emp ∗ tileIn X d c s
        ∗ scopedBufs (thr d (coords c s)) ∗ scopedSems0 (thr d (coords c s)) ∗ owes (thr d (coords c s)) O W)
      ⊢ wp frame (wpE (defs₀ (F := F)) 𝒱₀ (thr d (coords c s)) none) Set.univ (Piece.tile (F := F) (coords c s))
          fun _ => iprop(tileOut X d c s ∗ scopedBufs (thr d (coords c s)) ∗ scopedSems0 (thr d (coords c s))
            ∗ ∃ W', ⌜∀ p ∈ W', p ∈ W ∨ p.2 = none ∨ p.2 = some (0 : Fin 1)⌝ ∗ owes (thr d (coords c s)) O W') := by
  rw [(K (F := F)).scopedBufs_V facts, SparseCore.Cfg.scopedSems0_V (Val := Elt F), ownBufs_tile, ownSems_tile, sems_eq]
  unfold tileIn tileOut
  rw [← readsT_eq d (X d) (coords c s)]
  iintro ⟨#Hlv, -, ⟨Hr, Ho⟩, ⟨Hb, Hb'⟩, ⟨Hs, Hs'⟩, HO⟩
  ihave Hmw := (show levAts (K (F := F)).L (K (F := F)).lev ⊢ Transfers.MayWaits (thr d (coords c s)) (default : HIx 1) O from
    (K (F := F)).mayWaits_none (thr := thr d (coords c s)) hO) $$ Hlv
  iapply (wp_tile d (coords c s) (X d) (dealt s.val (half fullShare c)) O W (hX d)) $$ [Hr Ho Hb Hs HO Hmw]
  · isplitl [Hr]; · iexact Hr
    isplitl [Ho]; · iexact Ho
    isplitl [Hb]; · iexact Hb
    isplitl [Hs]; · iexact Hs
    isplitl [HO]
    · unfold Owe
      iexists W
      isplitr; · ipureintro; exact fun p hp => .inl hp
      iexact HO
    iexact Hmw
  iintro ⟨Hr, Ho, Hb, Hs, HO⟩
  isplitl [Hr Ho]; · isplitl [Hr] <;> iassumption
  isplitl [Hb Hb']; · isplitl [Hb] <;> iassumption
  isplitl [Hs Hs']; · isplitl [Hs] <;> iassumption
  unfold Owe
  icases HO with ⟨%W', %hW, HO⟩
  iexists W'
  isplitr; · ipureintro; exact fun p hp => (hW p hp).imp_right .inl
  iexact HO

theorem coords_eq {c : Fin (grid0.bound 0)} {s : Fin (grid0.bound 1)} :
    (fun | 0 => c | 1 => s | ⟨_ + 2, h⟩ => absurd h (Nat.not_lt.2 (Nat.le_add_left _ _)) : grid0.Coords) = coords c s := by
  funext a
  fin_cases a <;> rfl

theorem defs₀_tile (c : Fin τ.nSC) (s : Fin τ.nSub) :
    defs₀ (F := F) (.scVector c s) 0 () = SparseCore.onTile hcore0 hsub0 (fun c s => Piece.tile (F := F) (coords c s)) ⟨⟩ c s := by
  refine Eq.trans ?_ (congrArg (fun f => SparseCore.onTile hcore0 hsub0 f ⟨⟩ c s) (funext fun c => funext fun s => Piece.body_eq (F := F) (coords c s)))
  rfl

theorem tileObl (hX : ∀ d, (X d).Ok) : (K (F := F)).TileObl D 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact tile_run X hX d ⟨_, hci.1⟩ ⟨_, hci.2⟩ O W hO

/-! ## Dealing to the tiles -/

theorem coreIn_eq (d : Dev nD) (c : Fin 2) : coreIn X d c
    = iprop((bigSep Finset.univ fun s : Fin 16 => tileIn X d c s) ∗ readsT d (X d) (left 16 (half fullShare c))) := by
  unfold coreIn tileIn
  rw [deal (Φ := readsT d (X d)) (readsT_half d (X d)) 16, bigSep_sep']
  refine eq_of ?_ ?_
  · iintro ⟨⟨a, b⟩, c⟩
    isplitl [a c]; · isplitl [a] <;> iassumption
    iexact b
  · iintro ⟨⟨a, c⟩, b⟩
    isplitl [a b]; · isplitl [a] <;> iassumption
    iexact c

theorem coreOut_eq (d : Dev nD) (c : Fin 2) : coreOut X d c
    = iprop((bigSep Finset.univ fun s : Fin 16 => tileOut X d c s) ∗ readsT d (X d) (left 16 (half fullShare c))) := by
  unfold coreOut tileOut
  rw [deal (Φ := readsT d (X d)) (readsT_half d (X d)) 16, bigSep_sep']
  refine eq_of ?_ ?_
  · iintro ⟨⟨a, b⟩, c⟩
    isplitl [a c]; · isplitl [a] <;> iassumption
    iexact b
  · iintro ⟨⟨a, c⟩, b⟩
    isplitl [a b]; · isplitl [a] <;> iassumption
    iexact c

theorem tasks_eq (Φ : Fin 16 → sProp (RM F)) :
    (bigSep Finset.univ fun i : Fin ((K (F := F)).nSub 0) => Φ (Fin.cast nSub_zero i)) = bigSep Finset.univ Φ :=
  bigSep_congr fun _ _ => congrArg Φ (Fin.ext rfl)
theorem cores_eq (Φ : Fin 2 → sProp (RM F)) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P X) 0 := by
  intro d c
  show coreIn X d (Fin.cast nCore_zero c) ⊢ |={Set.univ}=> iprop(
      (bigSep Finset.univ fun i : Fin ((K (F := F)).nSub 0) => tileIn X d (Fin.cast nCore_zero c) (Fin.cast nSub_zero i))
      ∗ ((bigSep Finset.univ fun i : Fin ((K (F := F)).nSub 0) => tileOut X d (Fin.cast nCore_zero c) (Fin.cast nSub_zero i)) -∗ coreOut X d (Fin.cast nCore_zero c)))
  rw [tasks_eq (tileIn X d (Fin.cast nCore_zero c)), tasks_eq (tileOut X d (Fin.cast nCore_zero c)), coreIn_eq, coreOut_eq]
  iintro ⟨Ht, Hr⟩
  imodintro
  isplitl [Ht]; · iexact Ht
  iintro Ht
  isplitl [Ht] <;> iassumption

/-! ## The call, seen from the host's thread -/

theorem readsT_two (d : Dev nD) (Y : Src F) : readsT d Y fullShare = iprop(readsT d Y (half fullShare 0) ∗ readsT d Y (half fullShare 1)) := readsT_half d Y fullShare

theorem outs_any (d : Dev nD) (f : S65536x128.Idx → F .f32) (c : Fin 2) : (bigSep Finset.univ fun s : Fin 16 => bigSep Finset.univ (outDone (F := F) d (coords c s) f))
    ⊢ bigSep Finset.univ fun s : Fin 16 => bigSep Finset.univ (outAny (F := F) d (coords c s)) :=
  bigSep_mono fun s _ => out_any d f (coords c s)

theorem call_in (d : Dev nD) : iprop(readsT d (X d) fullShare ∗ (∃ f : S65536x128.Idx → F .f32, hbm d main_v6 ↦[Finset.univ]{fullShare} f))
    ⊢ bigSep Finset.univ fun c : Fin ((K (F := F)).nCore 0) => (P X).st 0 d c := by
  refine BI.Entails.trans ?_ (Entails.of_eq (cores_eq (coreIn X d)).symm)
  rw [bigSep_fin_two, readsT_two]
  unfold coreIn
  show (_ : sProp (RM F)) ⊢ iprop((_ ∗ _) ∗ (_ ∗ _))
  iintro ⟨⟨R0, R1⟩, ⟨%f, Hf⟩⟩
  ihave H := (show (hbm d main_v6 ↦[Finset.univ]{fullShare} f : sProp (RM F)) ⊢ iprop((bigSep Finset.univ fun s : Fin 16 => bigSep Finset.univ (outDone (F := F) d (coords 0 s) f))
      ∗ (bigSep Finset.univ fun s : Fin 16 => bigSep Finset.univ (outDone (F := F) d (coords 1 s) f))) from
    (Entails.of_eq (out_blocks d f)).trans (Entails.of_eq (bigSep_fin_two _))) $$ Hf
  icases H with ⟨B0, B1⟩
  isplitl [R0 B0]
  · isplitl [R0]; · iexact R0
    iapply (outs_any d f 0); iexact B0
  · isplitl [R1]; · iexact R1
    iapply (outs_any d f 1); iexact B1

theorem call_out (d : Dev nD) : (bigSep Finset.univ fun c : Fin ((K (F := F)).nCore 0) => (P X).dn 0 d c)
    ⊢ iprop(readsT d (X d) fullShare ∗ (hbm d main_v6 ↦[Finset.univ]{fullShare} (X d).out)) := by
  refine BI.Entails.trans (Entails.of_eq (cores_eq (coreOut X d))) ?_
  rw [bigSep_fin_two, readsT_two, out_blocks, bigSep_fin_two]
  unfold coreOut
  show (iprop((_ ∗ _) ∗ (_ ∗ _)) : sProp (RM F)) ⊢ iprop((_ ∗ _) ∗ (_ ∗ _))
  iintro ⟨⟨R0, B0⟩, ⟨R1, B1⟩⟩
  isplitl [R0 R1]; · isplitl [R0] <;> iassumption
  isplitl [B0] <;> iassumption

end Cert.Proof

end
-- ==== Proof.LnBody.lean ====
/-
  The normalization's body, run on the blocks its windows hand it.
-/
module

public import proofs.«01_k».proof.Proof.Setup
public import proofs.«01_k».proof.Proof.Piece
public import Idealize.ShloMosaic.Lib.ValueIdx
public import Idealize.ShloMosaic.Lib.Pipeline.Value
public import proofs.«01_k».proof.Proof.Gen.KernelIdeal.Points
public import proofs.«01_k».proof.Proof.Gen.KernelIdeal.Launch
public import proofs.«01_k».proof.Proof.Gen.KernelIdeal.Skeleton

@[expose] public section

set_option maxRecDepth 16384

noncomputable section

namespace Cert.Proof

open Cert.KernelIdeal Cert.KernelIdeal.Gen Cert.Proof.Piece

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem hz : (![0, 0] : Fin 2 → Nat) = fun _ => 0 := funext fun a => by fin_cases a <;> rfl

/-- Loads through the whole rectangle at offset zero read what the memref reads. -/
theorem readAt_whole {sp : Space} {s : Shape} {e : EltTy} (M : Memref sig .tc sp s e) {off : Fin s.rank → Nat} (h : off = fun _ => 0)
    (inb : ∀ a, off a + s.size a ≤ s.size a) (f : M.view.ty.Contents (Elt F)) :
    M.view.readAt (Elt F) (Rect.unit off s.size inb).toLoadRect f = M.view.read (Elt F) f :=
  View.ld_unit_zero h inb _

/-- A store of a payload through it is read back as the payload. -/
theorem read_store_whole {sp : Space} {s : Shape} {e : EltTy} (M : Memref sig .tc sp s e) {off : Fin s.rank → Nat} (h : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  rw [← readAt_whole M h inb]
  exact View.read_write_univ (v := M.access (Rect.unit off s.size inb)) f w

section Body

variable {Λ : Labels} (defs : Defs nD τ sig (Elt F) Λ) (𝒱 : Variants) (bd : Option 𝒱.V) {α : Type} {Q : α → sProp (RM F)}

/-- A load of a whole memref owned at `X` continues at `X`. -/
theorem wp_loadO (c : Dev nD) {sp : CoreSpace} {s : Shape} {e : EltTy} {M : Memref sig .tc sp s e} {off : Fin s.rank → Nat} (h : off = fun _ => 0)
    {inb : ∀ a, off a + s.size a ≤ s.size a} {hl : M.view.LoadsAt (Rect.unit off s.size inb).toLoadRect}
    {k : (s.Idx → Elt F e) → Prog (TpuEff nD τ sig (Elt F) Λ .tc) α} {q : PosShare TreeShare} {X : s.Idx → Elt F e} :
    (owns (c : Thread nD τ) M q X : sProp (RM F))
      ⊢ iprop((owns (c : Thread nD τ) M q X -∗ wp frame (wpE defs 𝒱 (c : Thread nD τ) bd) Set.univ (k X) Q)
          -∗ wp frame (wpE defs 𝒱 (c : Thread nD τ) bd) Set.univ (.op (.load M (Rect.unit off s.size inb).toLoadRect hl) k) Q) := by
  unfold owns
  iintro ⟨%f, %e0, H⟩ Hk
  iapply (wp_load 𝒱 (c : Thread nD τ) bd Set.univ (m := M) (S := M.view.set) (q := q) (f := f) (View.setOn_subset_set _ _)) $$ H
  iintro H
  rw [readAt_whole M h, e0]
  iapply Hk
  iexists f
  isplitr; · ipureintro; exact e0
  iexact H

/-- A store through a whole memref owned at anything leaves it owned at the payload. -/
theorem wp_storeO (c : Dev nD) {sp : CoreSpace} {s : Shape} {e : EltTy} {M : Memref sig .tc sp s e} {off : Fin s.rank → Nat} (h : off = fun _ => 0)
    {inb : ∀ a, off a + s.size a ≤ s.size a} {w : s.Idx → Elt F e}
    {hx : (M.access (Rect.unit off s.size inb)).Stores Finset.univ} {hm} {X : s.Idx → Elt F e}
    {k : PUnit → Prog (TpuEff nD τ sig (Elt F) Λ .tc) α} :
    (owns (c : Thread nD τ) M fullShare X : sProp (RM F))
      ⊢ iprop((owns (c : Thread nD τ) M fullShare w -∗ wp frame (wpE defs 𝒱 (c : Thread nD τ) bd) Set.univ (k ⟨⟩) Q)
          -∗ wp frame (wpE defs 𝒱 (c : Thread nD τ) bd) Set.univ (.op (.store M (Rect.unit off s.size inb) w Finset.univ hx hm) k) Q) := by
  unfold owns
  iintro ⟨%f, -, H⟩ Hk
  iapply (wp_store 𝒱 (c : Thread nD τ) bd Set.univ (m := M) (r := Rect.unit off s.size inb) (S := M.view.set) (f := f) (View.set_slice_subset _ _)) $$ H
  iintro H
  iapply Hk
  iexists _
  isplitr; swap; · iexact H
  ipureintro
  exact read_store_whole M h _ _ _

/-- The normalization's body: from the rows' block, the weights and the biases, and any contents of the block of the
    result, it leaves in the result's what it computes. -/
theorem wp_ln (c : Dev nD) (i : grid1.Coords) (M0 : Memref sig .tc .vmem S8192x128 .f32) (h0 : M0.IsWhole) (M1 : Memref sig .tc .vmem S1x128 .f32) (h1 : M1.IsWhole)
    (M2 : Memref sig .tc .vmem S1x128 .f32) (h2 : M2.IsWhole) (M3 : Memref sig .tc .vmem S8192x128 .f32) (h3 : M3.IsWhole)
    (X0 : S8192x128.Idx → F .f32) (X1 X2 : S1x128.Idx → F .f32) (X3 : S8192x128.Idx → F .f32) (Q : PUnit → sProp (RM F)) :
    iprop(owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare X3
        ∗ (iprop(owns (Val := Elt F) (c : Thread nD τ) M0 fullShare X0 ∗ owns (Val := Elt F) (c : Thread nD τ) M1 fullShare X1
            ∗ owns (Val := Elt F) (c : Thread nD τ) M2 fullShare X2 ∗ owns (Val := Elt F) (c : Thread nD τ) M3 fullShare (k1_pay1 X0 X1 X2)) -∗ Q ⟨⟩))
      ⊢ wp frame (wpE (defs₀ (F := F)) 𝒱₀ (c : Thread nD τ) none) Set.univ (cc1__ln_body i M0 h0 M1 h1 M2 h2 M3 h3) Q := by
  rw [cc1__ln_body_eq_skeleton]
  unfold cc1__ln_body_skel
  simp only [Prog.lift, Prog.bind_op, Prog.bind_ret]
  iintro ⟨H0, H1, H2, H3, Hk⟩
  iapply (wp_loadO defs₀ 𝒱₀ none c (M := M0) (X := X0) hz) $$ H0
  iintro H0
  iapply (wp_loadO defs₀ 𝒱₀ none c (M := M1) (X := X1) hz) $$ H1
  iintro H1
  iapply (wp_loadO defs₀ 𝒱₀ none c (M := M2) (X := X2) hz) $$ H2
  iintro H2
  iapply (wp_loadO defs₀ 𝒱₀ none c (M := M3) (X := X3) hz) $$ H3
  iintro H3
  iapply (wp_storeO defs₀ 𝒱₀ none c (M := M3) (X := X3) (w := k1_pay1 X0 X1 X2) hz) $$ H3
  iintro H3
  sl_step
  iapply Hk
  isplitl [H0]; · iexact H0
  isplitl [H1]; · iexact H1
  isplitl [H2]; · iexact H2
  iexact H3

end Body

end Cert.Proof

end
-- ==== Proof.LnRegion.lean ====
/-
  The normalization's call: its proof data, and the region from any contents of the buffers.
-/
module

public import proofs.«01_k».proof.Proof.LnBody
public import Idealize.ShloMosaic.Lib.Pipeline.RegionsLoop
public import Idealize.ShloMosaic.Lib.Pipeline.ValueKit.Basic

@[expose] public section

set_option maxRecDepth 16384

noncomputable section

namespace Cert.Proof

open Cert.KernelIdeal Cert.KernelIdeal.Gen Cert.Proof.Piece

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The proof data, at a valuation of the buffers on entry -/

section Data

variable (V : (c : Dev nD) → (b : Ref sig .tc) → Buf (Elt F) ((c : Thread nD τ).loc b))

/-- What the body leaves in the result's block at a point: the normalization of the rows' block. -/
abbrev lnBlk (c : Dev nD) (t : Fin cfg1.N) : S8192x128.Idx → F .f32 :=
  k1_pay1 (((cfg1.win 0).blk t).view.read (Elt F) (V c main_v6)) (((cfg1.win 1).blk t).view.read (Elt F) (V c main_v7))
    (((cfg1.win 2).blk t).view.read (Elt F) (V c main_v8))

/-- The pairs the core's waits may have recorded before the call: those up to a level. -/
abbrev recd (b : ℕ) (c : Dev nD) : Set (SemLoc sig × HIx 1) := {p | (K (F := F)).lev ((c : Thread nD τ), p.1) p.2 ≤ b}

variable (lb : ℕ)

def lnDat (c : Dev nD) : Pipeline.Dat τ (Elt F) (HIx 1) ℕ UU ℕ cfg1 c where
  A w := V c (Pipeline.arrRef spec1 w)
  after w t := match w with
    | ⟨0, _⟩ => ((cfg1.win 0).blk t).view.read (Elt F) (V c main_v6)
    | ⟨1, _⟩ => ((cfg1.win 1).blk t).view.read (Elt F) (V c main_v7)
    | ⟨2, _⟩ => ((cfg1.win 2).blk t).view.read (Elt F) (V c main_v8)
    | ⟨3, _⟩ => lnBlk V c t
  Φ _ := BI.emp
  q _ := fullShare
  owed _ := 0
  recorded _ := recd (F := F) lb c

theorem before0 (c : Dev nD) (t : Fin cfg1.N) (d) : (lnDat V lb c).before 0 t d = ((cfg1.win 0).blk t).view.read (Elt F) (V c main_v6) :=
  ((lnDat V lb c).before_in_eq_fetched 0 rfl (fun _ => rfl) (fun _ _ _ => rfl) (fun _ => rfl) t d).trans rfl
theorem before1 (c : Dev nD) (t : Fin cfg1.N) (d) : (lnDat V lb c).before 1 t d = ((cfg1.win 1).blk t).view.read (Elt F) (V c main_v7) :=
  ((lnDat V lb c).before_in_eq_fetched 1 rfl (fun _ => rfl) (fun _ _ _ => rfl) (fun _ => rfl) t d).trans rfl
theorem before2 (c : Dev nD) (t : Fin cfg1.N) (d) : (lnDat V lb c).before 2 t d = ((cfg1.win 2).blk t).view.read (Elt F) (V c main_v8) :=
  ((lnDat V lb c).before_in_eq_fetched 2 rfl (fun _ => rfl) (fun _ _ _ => rfl) (fun _ => rfl) t d).trans rfl

theorem ln_obligation (c : Dev nD) : Pipeline.BodyObligation (lnDat V lb c) (defs₀ (F := F)) 𝒱₀ (none : HIx 1) Set.univ := fun t => by
  rw [bigSep_W1, bigSep_W1]
  rw [show (lnDat V lb c).owesAt none t.succ = (lnDat V lb c).owesAt none t.castSucc from rfl]
  iintro ⟨HΦ, Howes, ⟨%d0, H0⟩, ⟨%d1, H1⟩, ⟨%d2, H2⟩, ⟨%d3, H3⟩⟩
  rw [before0, before1, before2]
  iapply (wp_ln c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (((cfg1.win 0).blk t).view.read (Elt F) (V c main_v6)) (((cfg1.win 1).blk t).view.read (Elt F) (V c main_v7))
    (((cfg1.win 2).blk t).view.read (Elt F) (V c main_v8)) ((lnDat V lb c).before 3 t d3))
  isplitl [H0]; · iexact H0
  isplitl [H1]; · iexact H1
  isplitl [H2]; · iexact H2
  isplitl [H3]; · iexact H3
  iintro ⟨H0, H1, H2, H3⟩
  isplitl [HΦ]; · rw [show (lnDat V lb c).Φ t.succ = (lnDat V lb c).Φ t.castSucc from rfl]; iexact HΦ
  isplitl [Howes]; · iexact Howes
  isplitl [H0]; · iexact H0
  isplitl [H1]; · iexact H1
  isplitl [H2]; · iexact H2
  iexact H3

/-- The staging buffers' own waits are at the lowest level. -/
theorem waits_below (c : Dev nD) : recd (F := F) lb c ∪ Pipeline.Cfg.waitPairs cfg1 (none : HIx 1) ⊆ recd (F := F) lb c := by
  rintro p (h | ⟨w, s, rfl⟩)
  · exact h
  · show (K (F := F)).lev _ none ≤ _
    rw [SparseCore.Cfg.lev_none]
    exact Nat.zero_le _

/-! ## The region -/

/-- The result of the call, as written back. -/
def lnOut (c : Dev nD) : Buf (Elt F) ((c : Thread nD τ).loc main_v9) := (lnDat V lb c).arrAt 3 cfg1.N

variable (adm : (p : Fin 1) → (pcfgs (F := F) p).Adm)

def lnDats : (p : Fin 1) → (c : Dev nD) → Pipeline.Dat τ (Elt F) (HIx 1) ℕ UU ℕ (Pipeline.pin (pcfgs (F := F)) adm p) c
  | ⟨0, _⟩ => fun c => lnDat V lb c

abbrev Lno : GSem nD τ sig → Finset (HIx 1) := fun _ => ∅
abbrev lvno : GSem nD τ sig → HIx 1 → ℕ := fun _ _ => 0

variable (Vp : (c : Dev nD) → (b : Ref sig .tc) → Buf (Elt F) ((c : Thread nD τ).loc b))

set_option backward.isDefEq.respectTransparency.types false in
def lnReg (hVp_out : ∀ c, Vp c main_v9 = lnOut V lb c) (hVp_ne : ∀ c (b : Ref sig .tc), b ≠ main_v9 → Vp c b = V c b) :
    Pipeline.RegionSeg (pcfgs (F := F)) adm (lnDats V lb adm) (none : HIx 1) (defs₀ (F := F)) 𝒱₀ Lno lvno 0 where
  win := (launch1).win.to₀
  block_pos := (launch1).block_pos
  stage_whole := (launch1).stage_whole
  K := PEmpty
  osem k := k.elim
  ho := Pipeline.OwnSemFacts.none _
  hbody c := (ln_obligation V lb c).loose
  hwaits := Pipeline.hwaits_of_owed_zero _ _ _ _ Lno lvno 0 fun _ _ => rfl
  pre c := iprop(unscopedBufs c (V c) ∗ Pipeline.owesWithin c (0 : CellTallies nD τ sig (HIx 1)) (recd (F := F) lb c))
  post c := iprop(unscopedBufs c (Vp c) ∗ Pipeline.owesWithin c (0 : CellTallies nD τ sig (HIx 1)) (recd (F := F) lb c))
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (lnDats V lb adm) (launch1).win (launch1).arr_whole c
      ((lnDats V lb adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c _ (Set.subset_union_left))
      iexact HO
    isplitr; · iempintro
    iexact Hrest
  hin c := by
    rw [show (lnDats V lb adm 0 c).Φ 0 = BI.emp from rfl]
    iintro -
    iempintro
  hout c := by
    rw [Pipeline.ownSems0_none, show (lnDats V lb adm 0 c).Φ (Fin.last _) = BI.emp from rfl]
    iintro -
    isplitr; · iempintro
    isplitr; · iempintro
    rw [scopedRest1_eq]
    iempintro
  hexit c := by
    have hjoin := Pipeline.unscopedBufs_of_arrays (p := 0) (pcfgs (F := F)) adm (Ix := HIx 1) (Name := ℕ) (U := UU) (Lvl := ℕ) (launch1).win (launch1).arr_whole c
      (lnDats V lb adm) ((lnDats V lb adm 0 c).share_full fun _ => rfl) (V c) (Vp c) ((lnDats V lb adm 0 c).arrAt · cfg1.N)
      (fun w => by
        fin_cases w
        · exact ((lnDats V lb adm 0 c).arrAt_in 0 rfl _).trans (hVp_ne c main_v6 (by decide)).symm
        · exact ((lnDats V lb adm 0 c).arrAt_in 1 rfl _).trans (hVp_ne c main_v7 (by decide)).symm
        · exact ((lnDats V lb adm 0 c).arrAt_in 2 rfl _).trans (hVp_ne c main_v8 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt
    iapply (Pipeline.owesWithin_mono c _ (waits_below (F := F) lb c))
    iexact HO

/-! ## The result, as a whole -/

/-- The rows' block at a point. -/
def rowsBlk (x : S65536x128.Idx → F .f32) (n : ℕ) (j : S8192x128.Idx) : F .f32 :=
  if h : 8192 * n + (j 0).val < 65536 then x (ix2 ⟨8192 * n + (j 0).val, h⟩ (j 1)) else x (ix2 0 0)

/-- Every row of an array normalized, block by block. -/
def lnAll (x : S65536x128.Idx → F .f32) (w b : S1x128.Idx → F .f32) (k : S65536x128.Idx) : F .f32 :=
  k1_pay1 (rowsBlk x ((k 0).val / 8192)) w b (ix2 ⟨(k 0).val % 8192, Nat.mod_lt _ (by norm_num)⟩ (k 1))

theorem win_index : ∀ t : Fin grid1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0
    ∧ win1_3.xsize (grid1.coords t) 0 = 8192 ∧ win1_3.xsize (grid1.coords t) 1 = 128 := by decide +kernel

/-- The blocks read, at coordinates. -/
theorem read_blk0 (t : Fin grid1.N) (x : S65536x128.Idx → F .f32) : (win1_0.blk t).view.read (Elt F) x = rowsBlk x t.val := by
  funext j
  have ht : t.val < 8 := lt_of_lt_of_eq t.isLt N_1
  have hj : (j 0).val < 8192 := (j 0).isLt
  unfold rowsBlk
  rw [dif_pos (by omega)]
  show x ((win1_0.rect t).emb j) = _
  congr 1
  funext a
  apply Fin.ext
  match a with
  | ⟨0, _⟩ =>
    refine (win1_0.rect_emb_val t j 0).trans ?_
    rw [(win_index t).1]
    show t.val * 8192 + (j 0).val = 8192 * t.val + (j 0).val
    omega
  | ⟨1, _⟩ =>
    refine (win1_0.rect_emb_val_of_index_zero t 1 (win_index t).2.1 j).trans ?_
    rfl

theorem read_blk1 (t : Fin grid1.N) (x : S1x128.Idx → F .f32) : (win1_1.blk t).view.read (Elt F) x = x := by
  funext j
  show x ((win1_1.rect t).emb j) = _
  congr 1
  funext a
  apply Fin.ext
  match a with
  | ⟨0, _⟩ => exact win1_1.rect_emb_val_of_index_zero t 0 (win_index t).2.2.1 j
  | ⟨1, _⟩ => exact win1_1.rect_emb_val_of_index_zero t 1 (win_index t).2.2.2.1 j

theorem read_blk2 (t : Fin grid1.N) (x : S1x128.Idx → F .f32) : (win1_2.blk t).view.read (Elt F) x = x := by
  funext j
  show x ((win1_2.rect t).emb j) = _
  congr 1
  funext a
  apply Fin.ext
  match a with
  | ⟨0, _⟩ => exact win1_2.rect_emb_val_of_index_zero t 0 (win_index t).2.2.2.2.1 j
  | ⟨1, _⟩ => exact win1_2.rect_emb_val_of_index_zero t 1 (win_index t).2.2.2.2.2.1 j

theorem emb_blk3 (t : Fin grid1.N) (j : S8192x128.Idx) :
    ((win1_3.rect t).emb j 0).val = 8192 * t.val + (j 0).val ∧ ((win1_3.rect t).emb j 1).val = (j 1).val := by
  constructor
  · refine (win1_3.rect_emb_val t j 0).trans ?_
    rw [(win_index t).2.2.2.2.2.2.1]
    show t.val * 8192 + (j 0).val = 8192 * t.val + (j 0).val
    omega
  · exact win1_3.rect_emb_val_of_index_zero t 1 (win_index t).2.2.2.2.2.2.2.1 j

theorem flushed3 (c : Dev nD) (t : Fin cfg1.N) :
    (lnDat V lb c).flushed 3 t = (win1_3.blk t).view.read (Elt F) (lnAll (V c main_v6) (V c main_v7) (V c main_v8)) := by
  show lnBlk V c t = _
  unfold lnBlk
  have h0 : ((cfg1.win 0).blk t).view.read (Elt F) (V c main_v6) = rowsBlk (F := F) (V c main_v6) t.val := read_blk0 t _
  have h1 : ((cfg1.win 1).blk t).view.read (Elt F) (V c main_v7) = V c main_v7 := read_blk1 t _
  have h2 : ((cfg1.win 2).blk t).view.read (Elt F) (V c main_v8) = V c main_v8 := read_blk2 t _
  rw [h0, h1, h2]
  funext j
  show _ = lnAll (V c main_v6) (V c main_v7) (V c main_v8) ((win1_3.rect t).emb j)
  obtain ⟨e0, e1⟩ := emb_blk3 t j
  have hj : (j 0).val < 8192 := (j 0).isLt
  unfold lnAll
  have hd : ((win1_3.rect t).emb j 0).val / 8192 = t.val := by rw [e0]; omega
  have hm : (ix2 ⟨((win1_3.rect t).emb j 0).val % 8192, Nat.mod_lt _ (by norm_num)⟩ ((win1_3.rect t).emb j 1) : S8192x128.Idx) = j := by
    funext a
    apply Fin.ext
    match a with
    | ⟨0, _⟩ => show ((win1_3.rect t).emb j 0).val % 8192 = (j 0).val; rw [e0]; omega
    | ⟨1, _⟩ => exact e1
  rw [hd]
  exact (congrArg (k1_pay1 (rowsBlk (V c main_v6) t.val) (V c main_v7) (V c main_v8)) hm).symm

theorem mem_blk3 (t : Fin cfg1.N) (i : S65536x128.Idx) (h : 8192 * t.val ≤ (i 0).val ∧ (i 0).val < 8192 * t.val + 8192) :
    i ∈ ((cfg1.win 3).blk t).view.set := by
  have h1 : (i 1).val < 128 := (i 1).isLt
  show i ∈ ((View.whole main_v9).slice (win1_3.rect t)).set
  rw [View.set_slice_whole]
  refine (win1_3.mem_rect_iff t i).mpr fun a => ?_
  obtain ⟨-, -, -, -, -, -, e0, e1, s0, s1⟩ := win_index t
  match a with
  | ⟨0, _⟩ =>
    refine (show win1_3.index t 0 * win1_3.size 0 ≤ (i 0).val ∧ (i 0).val < win1_3.index t 0 * win1_3.size 0 + win1_3.xsize (grid1.coords t) 0 from ?_)
    rw [e0, s0]
    show t.val * 8192 ≤ (i 0).val ∧ (i 0).val < t.val * 8192 + 8192
    omega
  | ⟨1, _⟩ =>
    refine (show win1_3.index t 1 * win1_3.size 1 ≤ (i 1).val ∧ (i 1).val < win1_3.index t 1 * win1_3.size 1 + win1_3.xsize (grid1.coords t) 1 from ?_)
    rw [e1, s1]
    omega

theorem cover3 (i : S65536x128.Idx) : ∃ t : Fin cfg1.N, (cfg1.win 3).flush t = true ∧ i ∈ ((cfg1.win 3).blk t).view.set := by
  have h0 : (i 0).val < 65536 := (i 0).isLt
  have ht : (i 0).val / 8192 < cfg1.N := by show _ < grid1.N; rw [N_1]; omega
  exact ⟨⟨(i 0).val / 8192, ht⟩, flush1_3 _, mem_blk3 ⟨(i 0).val / 8192, ht⟩ i ⟨by show 8192 * ((i 0).val / 8192) ≤ _; omega, by show _ < 8192 * ((i 0).val / 8192) + 8192; omega⟩⟩

/-- What the call leaves in its result's array. -/
theorem lnOut_eq (c : Dev nD) : lnOut V lb c = lnAll (V c main_v6) (V c main_v7) (V c main_v8) :=
  (lnDat V lb c).arrAt_eq_of_cover 3 (lnAll (V c main_v6) (V c main_v7) (V c main_v8)) (fun t _ => flushed3 V lb c t) cover3

end Data

end Cert.Proof

end
-- ==== Proof.Host.lean ====
/-
  The host operations around the two calls: the contents of the buffers along the program, and the SparseCore call's buffers out of the rest.
-/
module

public import proofs.«01_k».proof.Proof.Call
public import proofs.«01_k».proof.Proof.LnRegion
public import Idealize.ShloMosaic.Lib.StableHlo.Run

@[expose] public section

set_option maxRecDepth 16384

noncomputable section

namespace Cert.Proof

open Cert.KernelIdeal Cert.KernelIdeal.Gen Cert.Proof.Piece

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## @main's host operations -/

abbrev ops1 : List (HloOp τ sig (Elt F)) :=
  [ StableHlo.TRef.unary (StableHlo.TRef.of (T := ⟨S16x4096, .i32⟩) main_arg0) main_call0.v0 (extractStridedSlice S16x1 ![0, 4095] · slices_S16x4096_S16x1_0_4095),
    StableHlo.TRef.unary (StableHlo.TRef.of (T := ⟨S16x4096, .i32⟩) main_arg0) main_call0.v1 (extractStridedSlice S16x4095 ![0, 0] · slices_S16x4096_S16x4095_0_0),
    StableHlo.TRef.binary main_call0.v0 main_call0.v1 main_call0.v2 (fun a b => concatenate S16x4096 1 [⟨S16x1, a⟩, ⟨S16x4095, b⟩] concatenates_S16x1_S16x4095_S16x4096_d1),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.nullary main_c_0 (constantI S_ 32 1#32),
    StableHlo.unary main_c_0 main_v2 (broadcastInDim S16 ![] bcast_S_S16 : (⟨S_, .i32⟩ : BufTy).Contents (Elt F) → (⟨S16, .i32⟩ : BufTy).Contents (Elt F)),
    StableHlo.ternary main_v0 main_v1 main_v2 main_v3 ((fun x i u => Host.scatter scatter_S16x4096_S1_S16_0_1_1_0 (fun _ b => b) x i u) : (⟨S16x4096, .i32⟩ : BufTy).Contents (Elt F) → (⟨S1, .i32⟩ : BufTy).Contents (Elt F) → (⟨S16, .i32⟩ : BufTy).Contents (Elt F) → (⟨S16x4096, .i32⟩ : BufTy).Contents (Elt F)),
    StableHlo.reshape main_arg0 main_v4 (rfl : (.i32 : EltTy) = .i32) shapeCasts_S16x4096_S65536,
    StableHlo.reshape main_v3 main_v5 (rfl : (.i32 : EltTy) = .i32) shapeCasts_S16x4096_S65536 ]

abbrev ops2 : List (HloOp τ sig (Elt F)) :=
  [ StableHlo.reshape main_arg4 main_v7 (rfl : (.f32 : EltTy) = .f32) shapeCasts_S128_S1x128,
    StableHlo.reshape main_arg5 main_v8 (rfl : (.f32 : EltTy) = .f32) shapeCasts_S128_S1x128 ]

abbrev ops3 : List (HloOp τ sig (Elt F)) :=
  [ StableHlo.reshape main_v9 main_v10 (rfl : (.f32 : EltTy) = .f32) shapeCasts_S65536x128_S16x4096x128 ]

theorem main_eq (d : Dev nD) : main (F := F) d
    = StableHlo.seq ops1 >>= fun _ => sc.run d 0 >>= fun _ => StableHlo.seq ops2 >>= fun _ =>
        Prog.lift (.customCall (SparseCore.inner (Pipeline.entry 0)) ()) >>= fun _ => StableHlo.seq ops3 >>= fun _ => pure ⟨⟩ := by
  simp only [main, fn_roll_static.body, StableHlo.seq, bind_assoc, pure_bind]

/-! ## The buffers' contents along @main -/

variable (m : (ℓ : Loc nD τ sig) → Buf (Elt F) ℓ)

abbrev dv (b : Ref sig .tc) : DevRef τ sig := Proc.devRef .tc b

abbrev V0 (d : Dev nD) : Valuation τ sig (Elt F) := StableHlo.launchContents m d
def V1 (d : Dev nD) : Valuation τ sig (Elt F) := StableHlo.after ops1 (V0 m d)
/-- What the SparseCore call reads. -/
def srcOf (W : Valuation τ sig (Elt F)) : Src F :=
  { tk := W (dv main_arg1), ins := W (dv main_arg2), arg := W (dv main_arg3), v4 := W (dv main_v4), v5 := W (dv main_v5) }
def srcs (d : Dev nD) : Src F := srcOf (V1 m d)
def put6 (W : Valuation τ sig (Elt F)) (f : S65536x128.Idx → F .f32) : Valuation τ sig (Elt F) := Function.update W (dv main_v6) f
def put9 (W : Valuation τ sig (Elt F)) (f : S65536x128.Idx → F .f32) : Valuation τ sig (Elt F) := Function.update W (dv main_v9) f
def V2 (d : Dev nD) : Valuation τ sig (Elt F) := put6 (V1 m d) (srcs m d).out
def V3 (d : Dev nD) : Valuation τ sig (Elt F) := StableHlo.after ops2 (V2 m d)
def V4 (d : Dev nD) : Valuation τ sig (Elt F) :=
  put9 (V3 m d) (lnAll (V3 m d (dv main_v6)) (V3 m d (dv main_v7)) (V3 m d (dv main_v8)))
def V5 (d : Dev nD) : Valuation τ sig (Elt F) := StableHlo.after ops3 (V4 m d)

def ucRefs : Finset (DevRef τ sig) := (StableHlo.tcRefs τ sig).filter fun b => ¬ b.isScoped

omit [FloatOps F] in
theorem unscopedBufs_held (d : Dev nD) (W : Valuation τ sig (Elt F)) :
    (unscopedBufs d (fun b => W (dv b)) : sProp (RM F)) = StableHlo.held (d.tc : Thread nD τ) ucRefs W := by
  unfold unscopedBufs StableHlo.held ucRefs StableHlo.tcRefs
  rw [Finset.filter_map, bigSep_map]
  rfl

omit [FloatOps F] in
theorem uc_of_tc (op : HloOp τ sig (Elt F)) (h : op.bufs ⊆ StableHlo.tcRefs τ sig) : op.bufs ⊆ ucRefs := fun b hb =>
  Finset.mem_filter.mpr ⟨h hb, fun hs => Bool.false_ne_true ((op.no_scoped b hb).symm.trans hs)⟩

theorem ops1_sub : ∀ op ∈ (ops1 : List (HloOp τ sig (Elt F))), op.bufs ⊆ ucRefs :=
  List.forall_iff_forall_mem.1 ⟨uc_of_tc _ (StableHlo.unary_bufs_sub ..), uc_of_tc _ (StableHlo.unary_bufs_sub ..), uc_of_tc _ (StableHlo.binary_bufs_sub ..),
    uc_of_tc _ (StableHlo.nullary_bufs_sub ..), uc_of_tc _ (StableHlo.unary_bufs_sub ..), uc_of_tc _ (StableHlo.nullary_bufs_sub ..),
    uc_of_tc _ (StableHlo.unary_bufs_sub ..), uc_of_tc _ (StableHlo.ternary_bufs_sub ..), uc_of_tc _ (StableHlo.reshape_bufs_sub ..),
    uc_of_tc _ (StableHlo.reshape_bufs_sub ..)⟩
theorem ops2_sub : ∀ op ∈ (ops2 : List (HloOp τ sig (Elt F))), op.bufs ⊆ ucRefs :=
  List.forall_iff_forall_mem.1 ⟨uc_of_tc _ (StableHlo.reshape_bufs_sub ..), uc_of_tc _ (StableHlo.reshape_bufs_sub ..)⟩
theorem ops3_sub : ∀ op ∈ (ops3 : List (HloOp τ sig (Elt F))), op.bufs ⊆ ucRefs :=
  List.forall_iff_forall_mem.1 (uc_of_tc _ (StableHlo.reshape_bufs_sub ..))

theorem ops1_fresh : ∀ op ∈ (ops1 : List (HloOp τ sig (Elt F))), op.fresh = ∅ :=
  List.forall_iff_forall_mem.1 ⟨rfl, rfl, rfl, rfl, rfl, rfl, rfl, rfl, rfl, rfl⟩
theorem ops2_fresh : ∀ op ∈ (ops2 : List (HloOp τ sig (Elt F))), op.fresh = ∅ := List.forall_iff_forall_mem.1 ⟨rfl, rfl⟩
theorem ops3_fresh : ∀ op ∈ (ops3 : List (HloOp τ sig (Elt F))), op.fresh = ∅ :=
  List.forall_iff_forall_mem.1 (show (_ : Finset _) = _ from rfl)

/-! ## The buffers of the SparseCore call out of the rest -/

def scRefs : Finset (DevRef τ sig) := {dv main_v4, dv main_v5, dv main_arg1, dv main_arg2, dv main_arg3, dv main_v6}
theorem scRefs_sub : scRefs ⊆ ucRefs := by decide

omit [FloatOps F] in
theorem held_scRefs (d : Dev nD) (W : Valuation τ sig (Elt F)) :
    (StableHlo.held (d.tc : Thread nD τ) scRefs W : sProp (RM F))
      = iprop((hbm d main_v4 ↦{fullShare} W (dv main_v4)) ∗ (hbm d main_v5 ↦{fullShare} W (dv main_v5)) ∗ (hbm d main_arg1 ↦{fullShare} W (dv main_arg1))
        ∗ (hbm d main_arg2 ↦{fullShare} W (dv main_arg2)) ∗ (hbm d main_arg3 ↦{fullShare} W (dv main_arg3)) ∗ hbm d main_v6 ↦{fullShare} W (dv main_v6)) := by
  unfold StableHlo.held scRefs
  rw [SparseCore.bigSep_insert' (by decide), SparseCore.bigSep_insert' (by decide), SparseCore.bigSep_insert' (by decide), SparseCore.bigSep_insert' (by decide),
    SparseCore.bigSep_insert' (by decide), bigSep_singleton]

theorem sc_before (W : Valuation τ sig (Elt F)) (d : Dev nD) : (StableHlo.held (d.tc : Thread nD τ) ucRefs W : sProp (RM F))
    ⊢ iprop((readsT d (srcOf W) fullShare ∗ ∃ f : S65536x128.Idx → F .f32, hbm d main_v6 ↦[Finset.univ]{fullShare} f)
      ∗ StableHlo.held (d.tc : Thread nD τ) (ucRefs \ scRefs) W) := by
  rw [StableHlo.held_sub_split _ scRefs_sub, held_scRefs]
  unfold readsT
  iintro ⟨⟨H4, H5, H1, H2, H3, H6⟩, Hr⟩
  isplitr [Hr]
  · isplitr [H6]
    · isplitl [H4]; · iexact H4
      isplitl [H5]; · iexact H5
      isplitl [H1]; · iexact H1
      isplitl [H2]; · iexact H2
      iexact H3
    iexists (W (dv main_v6))
    iexact H6
  iexact Hr

theorem sc_after (W : Valuation τ sig (Elt F)) (f : S65536x128.Idx → F .f32) (d : Dev nD) : iprop((readsT d (srcOf W) fullShare ∗ (hbm d main_v6 ↦[Finset.univ]{fullShare} f))
      ∗ StableHlo.held (d.tc : Thread nD τ) (ucRefs \ scRefs) W)
    ⊢ (StableHlo.held (d.tc : Thread nD τ) ucRefs (put6 W f) : sProp (RM F)) := by
  rw [StableHlo.held_sub_split _ scRefs_sub (put6 W f), held_scRefs,
    StableHlo.held_congr (S := ucRefs \ scRefs) (V := put6 W f) (V' := W) _ fun b hb => Function.update_of_ne (fun h => (Finset.mem_sdiff.mp hb).2 (by rw [h]; decide)) _ _]
  have ne (b : Ref sig .tc) (h : dv b ≠ dv main_v6) : put6 W f (dv b) = W (dv b) := Function.update_of_ne h _ _
  rw [ne main_v4 (by decide), ne main_v5 (by decide), ne main_arg1 (by decide), ne main_arg2 (by decide), ne main_arg3 (by decide),
    show put6 W f (dv main_v6) = f from Function.update_self _ _ _]
  unfold readsT
  iintro ⟨⟨⟨H4, H5, H1, H2, H3⟩, H6⟩, Hr⟩
  isplitr [Hr]
  · isplitl [H4]; · iexact H4
    isplitl [H5]; · iexact H5
    isplitl [H1]; · iexact H1
    isplitl [H2]; · iexact H2
    isplitl [H3]; · iexact H3
    iexact H6
  iexact Hr

end Cert.Proof

end
-- ==== Proof.Values.lean ====
/-
  The buffers' contents along @main, out of the arguments.
-/
module

public import proofs.«01_k».proof.Proof.Host

@[expose] public section

set_option maxRecDepth 16384

noncomputable section

namespace Cert.Proof

open Cert.KernelIdeal Cert.KernelIdeal.Gen Cert.Proof.Piece

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ) (d : Dev nD)

/-- The words. -/
abbrev st0 : S16x4096.Idx → BitVec 32 := m ((d.tc : Thread nD τ).loc main_arg0)

set_option maxHeartbeats 4000000 in
theorem V1_v4 : V1 m d (dv main_v4) = shapeCast S65536 (st0 m d) shapeCasts_S16x4096_S65536 := by
  unfold V1
  simp only [ops1, StableHlo.TRef.binary, StableHlo.TRef.unary, StableHlo.TRef.toBuf, StableHlo.TRef.ofBuf, cast_eq]
  after_results_simp <;> rfl

set_option maxHeartbeats 4000000 in
theorem V1_v5 : V1 m d (dv main_v5) = shapeCast S65536 (Host.scatter scatter_S16x4096_S1_S16_0_1_1_0 (fun _ b => b)
    (concatenate S16x4096 1 [⟨S16x1, extractStridedSlice S16x1 ![0, 4095] (st0 m d) slices_S16x4096_S16x1_0_4095⟩,
      ⟨S16x4095, extractStridedSlice S16x4095 ![0, 0] (st0 m d) slices_S16x4096_S16x4095_0_0⟩] concatenates_S16x1_S16x4095_S16x4096_d1)
    (broadcastInDim S1 ![] bcast_S_S1 (constantI S_ 32 0#32)) (broadcastInDim S16 ![] bcast_S_S16 (constantI S_ 32 1#32))) shapeCasts_S16x4096_S65536 := by
  unfold V1
  simp only [ops1, StableHlo.TRef.binary, StableHlo.TRef.unary, StableHlo.TRef.toBuf, StableHlo.TRef.ofBuf, cast_eq]
  after_results_simp <;> rfl

/-- What no operation before the SparseCore call writes stays as it was. -/
theorem V1_arg {b : Ref sig .tc} (hb : b = main_arg0 ∨ b = main_arg1 ∨ b = main_arg2 ∨ b = main_arg3 ∨ b = main_arg4 ∨ b = main_arg5) : V1 m d (dv b) = m ((d.tc : Thread nD τ).loc b) := by
  unfold V1
  rcases hb with rfl | rfl | rfl | rfl | rfl | rfl <;>
  · simp only [ops1, StableHlo.TRef.binary, StableHlo.TRef.unary, StableHlo.TRef.toBuf, StableHlo.TRef.ofBuf, cast_eq]
    after_results_simp <;> rfl

theorem V5_arg {b : Ref sig .tc} (hb : b = main_arg0 ∨ b = main_arg1 ∨ b = main_arg2 ∨ b = main_arg3 ∨ b = main_arg4 ∨ b = main_arg5) : V5 m d (dv b) = m ((d.tc : Thread nD τ).loc b) := by
  have h3 : ∀ W : Valuation τ sig (Elt F), StableHlo.after ops3 W (dv b) = W (dv b) := fun W => by
    rcases hb with rfl | rfl | rfl | rfl | rfl | rfl <;> (after_results_simp <;> rfl)
  have h2 : ∀ W : Valuation τ sig (Elt F), StableHlo.after ops2 W (dv b) = W (dv b) := fun W => by
    rcases hb with rfl | rfl | rfl | rfl | rfl | rfl <;> (after_results_simp <;> rfl)
  have h9 : ∀ (W : Valuation τ sig (Elt F)) f, put9 W f (dv b) = W (dv b) := fun W f =>
    Function.update_of_ne (by rcases hb with rfl | rfl | rfl | rfl | rfl | rfl <;> decide) _ _
  have h6 : ∀ (W : Valuation τ sig (Elt F)) f, put6 W f (dv b) = W (dv b) := fun W f =>
    Function.update_of_ne (by rcases hb with rfl | rfl | rfl | rfl | rfl | rfl <;> decide) _ _
  unfold V5; rw [h3]; unfold V4; rw [h9]; unfold V3; rw [h2]; unfold V2; rw [h6]
  exact V1_arg m d hb

/-- The result: the normalization's, row by row. -/
theorem V5_v10 : V5 m d (dv main_v10) = shapeCast S16x4096x128 (lnAll (srcs m d).out
      (shapeCast S1x128 (m ((d.tc : Thread nD τ).loc main_arg4)) shapeCasts_S128_S1x128) (shapeCast S1x128 (m ((d.tc : Thread nD τ).loc main_arg5)) shapeCasts_S128_S1x128))
    shapeCasts_S65536x128_S16x4096x128 := by
  have h3 : ∀ W : Valuation τ sig (Elt F), StableHlo.after ops3 W (dv main_v10) = shapeCast S16x4096x128 (W (dv main_v9)) shapeCasts_S65536x128_S16x4096x128 := fun W => by
    after_results_simp <;> rfl
  have h7 : ∀ W : Valuation τ sig (Elt F), StableHlo.after ops2 W (dv main_v7) = shapeCast S1x128 (W (dv main_arg4)) shapeCasts_S128_S1x128 := fun W => by
    after_results_simp <;> rfl
  have h8 : ∀ W : Valuation τ sig (Elt F), StableHlo.after ops2 W (dv main_v8) = shapeCast S1x128 (W (dv main_arg5)) shapeCasts_S128_S1x128 := fun W => by
    after_results_simp <;> rfl
  have h6 : ∀ W : Valuation τ sig (Elt F), StableHlo.after ops2 W (dv main_v6) = W (dv main_v6) := fun W => by
    after_results_simp <;> rfl
  have e6 : V3 m d (dv main_v6) = (srcs m d).out := by
    unfold V3; rw [h6]; unfold V2; exact Function.update_self _ _ _
  have e7 : V3 m d (dv main_v7) = shapeCast S1x128 (m ((d.tc : Thread nD τ).loc main_arg4)) shapeCasts_S128_S1x128 := by
    unfold V3; rw [h7]; unfold V2
    rw [show put6 (V1 m d) (srcs m d).out (dv main_arg4) = V1 m d (dv main_arg4) from Function.update_of_ne (by decide) _ _, V1_arg m d (by simp)]
  have e8 : V3 m d (dv main_v8) = shapeCast S1x128 (m ((d.tc : Thread nD τ).loc main_arg5)) shapeCasts_S128_S1x128 := by
    unfold V3; rw [h8]; unfold V2
    rw [show put6 (V1 m d) (srcs m d).out (dv main_arg5) = V1 m d (dv main_arg5) from Function.update_of_ne (by decide) _ _, V1_arg m d (by simp)]
  unfold V5; rw [h3]; unfold V4
  rw [e6, e7, e8]
  congr 1

end Cert.Proof

end
-- ==== Proof.Columns.lean ====
/-
  A matrix of words: its first column set, its columns turned by one, and the scans along its rows.
-/
module

public import Idealize.ShloMosaic.Lib.Routing.Ops
public import Idealize.ShloMosaic.Lib.Routing.OpsPair
public import Idealize.ShloMosaic.Lib.Pointwise

@[expose] public section

set_option maxRecDepth 16384

noncomputable section

namespace Cert.Proof

open Idealize.ShloMosaic hiding ix1 ix2 ix3
open Idealize.ShloMosaic.ValueIdx

open Idealize.ShloMosaic.Routing (shape0 shape1 shape2 shape3)

variable {α : Type}

/-! ## The first column set, and the columns turned by one -/

theorem foldl_put {n : ℕ} (r : Fin n) (f : Fin n → α) (l : List (Fin n)) : ∀ a : α,
    l.foldl (fun a k => if k = r then f k else a) a = if r ∈ l then f r else a := by
  induction l with
  | nil => intro a; simp
  | cons k l ih =>
    intro a
    rw [List.foldl_cons, ih]
    by_cases hk : k = r
    · subst hk; simp
    · rw [if_neg hk]
      simp only [List.mem_cons, Ne.symm hk, false_or]

/-- A scatter of one value a row at the one column `0`: the first column set. -/
theorem put_col0 {R C : ℕ} (d : ScatterDims (shape2 R C) (shape1 1) (shape1 R)) (h1 : d.updateWindowDims = [0]) (h2 : d.insertedWindowDims = [1])
    (h3 : d.scatterDimsToOperandDims = [1]) (x : (shape2 R C).Idx → α) (idx : IVec (shape1 1) 32)
    (hidx : ∀ i, idx i = 0#32) (upd : (shape1 R).Idx → α) (r : Fin R) (s : Fin C) :
    Host.scatter d (fun _ b => b) x idx upd (ix2 r s) = if s.val = 0 then upd (ix1 r) else x (ix2 r s) := by
  have hl : ∀ k : Fin R, d.resultIdx? (ix1 k) idx = some (ix2 r s) ↔ k = r ∧ s.val = 0 := fun k => by
    have e0 : d.start (ix1 k) idx 0 = 0 := by
      unfold ScatterDims.start; rw [dif_neg (by rw [h3]; simp)]
    have e1 : d.start (ix1 k) idx 1 = 0 := by
      unfold ScatterDims.start; rw [dif_pos (by rw [h3]; simp), hidx]; rfl
    have w0 : d.window (ix1 k) 0 = k.val := by
      unfold ScatterDims.window
      rw [dif_pos (by unfold ScatterDims.sKept; rw [h2]; exact List.mem_singleton.mpr rfl)]
      have : ∀ q : Fin (shape1 R).rank, ((ix1 k : (shape1 R).Idx) q).val = k.val := fun q => by
        obtain rfl : q = 0 := Subsingleton.elim _ _
        rfl
      exact this _
    have w1 : d.window (ix1 k) 1 = 0 := by
      unfold ScatterDims.window
      rw [dif_neg (by unfold ScatterDims.sKept; rw [h2]; exact fun h => by simp [Shape.kept] at h)]
    rw [Routing.resultIdx?_ix2, e0, e1, w0, w1, Fin.ext_iff]
    constructor
    · rintro ⟨h, h'⟩; constructor <;> omega
    · rintro ⟨h, h'⟩; constructor <;> omega
  rw [Routing.scatter_at]
  have step : (fun (a : α) (n : Fin (shape1 R).numel) => if d.resultIdx? ((shape1 R).rowMajor.symm n) idx = some (ix2 r s) then upd ((shape1 R).rowMajor.symm n) else a)
      = fun a n => if (n.cast (Routing.numel1 R)) = r ∧ s.val = 0 then upd (ix1 (n.cast (Routing.numel1 R))) else a := by
    funext a n
    rw [Routing.symm1]
    simp only [hl]
  rw [step]
  by_cases hs : s.val = 0
  · simp only [hs, and_true, if_true]
    have hc : (fun (a : α) (n : Fin (shape1 R).numel) => if n.cast (Routing.numel1 R) = r then upd (ix1 (n.cast (Routing.numel1 R))) else a)
        = fun a n => if n = r.cast (Routing.numel1 R).symm then upd (ix1 (n.cast (Routing.numel1 R))) else a := by
      funext a n
      simp only [Fin.ext_iff, Fin.val_cast]
    rw [hc, foldl_put, if_pos (List.mem_finRange _)]
    rfl
  · simp only [hs, and_false, if_false]
    induction List.finRange (shape1 R).numel with
    | nil => rfl
    | cons k l ih => exact ih

/-- The columns turned by one: past the first, each column is the one before it. -/
theorem turn_apply (x : (shape2 16 4096).Idx → α) (h0 : (shape2 16 4096).Slices ![0, 4095] (shape2 16 1)) (h1 : (shape2 16 4096).Slices ![0, 0] (shape2 16 4095))
    (h : Shape.Concatenates [shape2 16 1, shape2 16 4095] (shape2 16 4096) 1) (r : Fin 16) (s : Fin 4096) (hs : s.val ≠ 0) :
    concatenate (shape2 16 4096) 1 [⟨shape2 16 1, extractStridedSlice (shape2 16 1) ![0, 4095] x h0⟩, ⟨shape2 16 4095, extractStridedSlice (shape2 16 4095) ![0, 0] x h1⟩] h (ix2 r s)
      = x (ix2 r ⟨s.val - 1, by omega⟩) := by
  rw [concatenate_pair_apply]
  split
  · next hlt => exact absurd (show s.val < 1 from hlt) (by omega)
  unfold extractStridedSlice
  congr 1
  funext a
  refine Fin.ext ?_
  fin_cases a
  · show 0 + _ = _
    simp [Shape.Idx.norm_def]
  · show 0 + _ = _
    simp [Shape.Idx.norm_def]

/-! ## Scans along the rows -/

theorem foldl_fun_congr {β : Type} {g g' : α → β → α} (h : ∀ a n, g a n = g' a n) (l : List β) (a : α) : l.foldl g a = l.foldl g' a := by
  rw [show g = g' from funext fun a => funext fun n => h a n]

/-- A window of a whole row, padded low by one less: the fold along the row up to each entry. -/
theorem scan_row {R N Nm1 : ℕ} (hN : Nm1 + 1 = N) (f : α → α → α) (x : (shape2 R N).Idx → α) (v : α) (hv : f v v = v) (init : shape0.Idx → α) (hinit : ∀ i, init i = v)
    (h : (shape2 R N).ReduceWindows (![1, N] : Fin 2 → ℕ) ![1, 1] ![0, Nm1] ![0, 0] (shape2 R N)) (hu : 0 < shape0.numel) (r : Fin R) (j : Fin N)
    (X : ℕ → α) (hX : ∀ i : Fin N, x (ix2 r i) = X i.val) :
    Host.reduceWindow f ![1, N] ![1, 1] ![0, Nm1] ![0, 0] x init h hu (ix2 r j) = (List.range (j.val + 1)).foldl (fun a i => f a (X i)) v := by
  subst hN
  have hj := j.isLt
  unfold Host.reduceWindow
  dsimp only
  rw [hinit]
  refine (foldl_fun_congr (g' := fun a n => f a (if Nm1 ≤ j.val + n.val then X (j.val + n.val - Nm1) else v)) (fun a n => congrArg (f a) ?_) _ _).trans ?_
  · have hw0 : ((shape2 1 (Nm1 + 1)).rowMajor.symm n 0).val = 0 := by rw [Routing.symm2]; rfl
    have hw : ((shape2 1 (Nm1 + 1)).rowMajor.symm n 1).val = n.val := by rw [Routing.symm2]; rfl
    have hn : n.val < Nm1 + 1 := (n.cast (Routing.numel2 _)).isLt
    split
    · next hin =>
      have h1 := hin 1
      change Nm1 ≤ j.val * 1 + ((shape2 1 (Nm1 + 1)).rowMajor.symm n 1).val ∧ j.val * 1 + ((shape2 1 (Nm1 + 1)).rowMajor.symm n 1).val - Nm1 < Nm1 + 1 at h1
      rw [hw] at h1
      rw [if_pos (by omega)]
      refine Eq.trans (congrArg x (funext fun a => Fin.ext ?_)) (hX ⟨j.val + n.val - Nm1, by omega⟩)
      match a with
      | ⟨0, _⟩ =>
        show r.val * 1 + ((shape2 1 (Nm1 + 1)).rowMajor.symm n 0).val - 0 = r.val
        rw [hw0]; omega
      | ⟨1, _⟩ =>
        show j.val * 1 + ((shape2 1 (Nm1 + 1)).rowMajor.symm n 1).val - Nm1 = j.val + n.val - Nm1
        rw [hw, Nat.mul_one]
    · next hin =>
      rw [if_neg fun hle => hin fun a => by
        match a with
        | ⟨0, _⟩ =>
          show 0 ≤ r.val * 1 + ((shape2 1 (Nm1 + 1)).rowMajor.symm n 0).val ∧ r.val * 1 + ((shape2 1 (Nm1 + 1)).rowMajor.symm n 0).val - 0 < R
          rw [hw0]
          have := r.isLt
          omega
        | ⟨1, _⟩ =>
          show Nm1 ≤ j.val * 1 + ((shape2 1 (Nm1 + 1)).rowMajor.symm n 1).val
            ∧ j.val * 1 + ((shape2 1 (Nm1 + 1)).rowMajor.symm n 1).val - Nm1 < Nm1 + 1
          rw [hw]
          omega]
  have e1 : (fun (a : α) (n : Fin (shape2 1 (Nm1 + 1)).numel) => f a (if Nm1 ≤ j.val + n.val then X (j.val + n.val - Nm1) else v))
      = fun a n => (fun a k => f a (if Nm1 ≤ j.val + k then X (j.val + k - Nm1) else v)) a n.val := rfl
  refine (congrArg (fun g => (List.finRange (shape2 1 (Nm1 + 1)).numel).foldl g v) e1).trans ?_
  rw [← List.foldl_map (f := Fin.val) (g := fun a k => f a (if Nm1 ≤ j.val + k then X (j.val + k - Nm1) else v)), List.map_coe_finRange_eq_range, Routing.numel2,
    show List.range (Nm1 + 1) = List.range ((Nm1 - j.val) + (j.val + 1)) from congrArg List.range (by omega), List.range_add, List.foldl_append, List.foldl_map]
  have pad : ∀ p, p ≤ Nm1 - j.val → (List.range p).foldl (fun a k => f a (if Nm1 ≤ j.val + k then X (j.val + k - Nm1) else v)) v = v := fun p => by
    induction p with
    | zero => intro _; rfl
    | succ p ih => intro hp; rw [List.range_succ, List.foldl_append, ih (by omega)]; simp only [List.foldl_cons, List.foldl_nil]; rw [if_neg (by omega), hv]
  rw [pad _ (le_refl _)]
  congr 1
  funext a i
  rw [if_pos (by omega)]
  congr 2
  omega

end Cert.Proof

end
-- ==== Proof.Sums.lean ====
/-
  What the SparseCore call reads and leaves, out of the arguments.
-/
module

public import proofs.«01_k».proof.Proof.Values
public import proofs.«01_k».proof.Proof.Columns

@[expose] public section

set_option maxRecDepth 16384

noncomputable section

namespace Cert.Proof

open Cert.KernelIdeal Cert.KernelIdeal.Gen Cert.Proof.Piece

open Idealize.ShloMosaic hiding ix1 ix2 ix3
open Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A row's starts, and a position's sum of rows -/

/-- The starts of row `r`: past the first position, where the word before is zero. -/
def startH (st : S16x4096.Idx → BitVec 32) (r : Fin 16) : ℕ → Bool := fun k => decide (k ≠ 0) && (st (ix2 r (Fin.ofNat 4096 (k - 1))) == 0#32)

/-- The rows of the three tables for position `s` of row `r`, added. -/
def embR (st : S16x4096.Idx → BitVec 32) (tk : S100000x128.Idx → F .f32) (ins arg : S4096x128.Idx → F .f32) (r : Fin 16) (s : Fin 4096) (x : Fin 128) : F .f32 :=
  FloatOps.addf (FloatOps.addf (tkR tk (st (ix2 r s)).toNat x.val) (inR ins (cnt (startH st r) (s.val + 1)) x.val))
    (inR arg (s.val - lst (startH st r) (s.val + 1)) x.val)

theorem startH_zero (st : S16x4096.Idx → BitVec 32) (r : Fin 16) : startH st r 0 = false := rfl

theorem cnt_congr {h h' : ℕ → Bool} : ∀ n, (∀ k < n, h k = h' k) → cnt h n = cnt h' n
  | 0, _ => rfl
  | n + 1, e => by rw [cnt, cnt, cnt_congr n fun k hk => e k (by omega), e n (by omega)]
theorem lst_congr {h h' : ℕ → Bool} : ∀ n, (∀ k < n, h k = h' k) → lst h n = lst h' n
  | 0, _ => rfl
  | n + 1, e => by rw [lst, lst, lst_congr n fun k hk => e k (by omega), e n (by omega)]

/-! ## Matrices laid out flat -/

theorem flat_apply {α : Type} (x : S16x4096.Idx → α) (r : Fin 16) (s : Fin 4096) :
    shapeCast S65536 x shapeCasts_S16x4096_S65536 (ix1 ⟨4096 * r.val + s.val, by omega⟩) = x (ix2 r s) := by
  refine shapeCast_apply _ _ _ _ ?_
  rw [Shape.rowMajor_val_one, Shape.rowMajor_val_two]
  show r.val * 4096 + s.val = 4096 * r.val + s.val
  omega

theorem unflat_apply {α : Type} (x : S65536x128.Idx → α) (r : Fin 16) (s : Fin 4096) (k : Fin 128) :
    shapeCast S16x4096x128 x shapeCasts_S65536x128_S16x4096x128 (ix3 r s k) = x (ix2 ⟨4096 * r.val + s.val, by omega⟩ k) := by
  refine shapeCast_apply _ _ _ _ ?_
  rw [Shape.rowMajor_val_two, Shape.rowMajor_val_three]
  show (4096 * r.val + s.val) * 128 + k.val = (r.val * 4096 + s.val) * 128 + k.val
  omega

theorem row1_apply {α : Type} (x : S128.Idx → α) (k : Fin 128) : shapeCast S1x128 x shapeCasts_S128_S1x128 (ix2 0 k) = x (ix1 k) := by
  refine shapeCast_apply _ _ _ _ ?_
  rw [Shape.rowMajor_val_one, Shape.rowMajor_val_two]
  show k.val = 0 * 128 + k.val
  omega

variable (m : (ℓ : Loc nD τ sig) → Buf (Elt F) ℓ) (d : Dev nD)

theorem srcs_v4 (r : Fin 16) (s : Fin 4096) : (srcs m d).v4 (ix1 ⟨4096 * r.val + s.val, by omega⟩) = st0 m d (ix2 r s) := by
  exact (congrFun (V1_v4 m d) _).trans (flat_apply _ r s)

theorem srcs_v5 (r : Fin 16) (s : Fin 4096) : (srcs m d).v5 (ix1 ⟨4096 * r.val + s.val, by omega⟩)
    = if s.val = 0 then 1#32 else st0 m d (ix2 r ⟨s.val - 1, by omega⟩) := by
  have h := congrFun (V1_v5 m d) (ix1 ⟨4096 * r.val + s.val, by omega⟩)
  rw [flat_apply, put_col0 (R := 16) (C := 4096) scatter_S16x4096_S1_S16_0_1_1_0 rfl rfl rfl _ (broadcastInDim S1 ![] bcast_S_S1 (constantI S_ 32 0#32)) (fun _ => rfl) _ r s] at h
  have g : (srcs m d).v5 = V1 m d (dv main_v5) := by unfold srcs; generalize V1 m d = W; rfl
  rw [g, h]
  split
  · rfl
  · next hs => exact turn_apply (st0 m d) _ _ _ r s hs

theorem srcs_rowH (r : Fin 16) {k : ℕ} (hk : k < 4096) : rowH (srcs m d).v5 r.val k = startH (st0 m d) r k := by
  unfold rowH startH
  rw [show (ix1 (Fin.ofNat 65536 (4096 * r.val + k)) : S65536.Idx) = ix1 ⟨4096 * r.val + k, by omega⟩ from
    congrArg ix1 (Fin.ext (Nat.mod_eq_of_lt (by omega))), srcs_v5 m d r ⟨k, hk⟩]
  by_cases h : k = 0
  · subst h; rfl
  · rw [if_neg h, decide_eq_true h, Bool.true_and]
    have e : (⟨k - 1, by omega⟩ : Fin 4096) = Fin.ofNat 4096 (k - 1) := Fin.ext (Nat.mod_eq_of_lt (by omega)).symm
    show (st0 m d (ix2 r ⟨k - 1, _⟩) == 0#32) = _
    rw [e]

theorem split_pos (n : Fin 65536) : ∃ (r : Fin 16) (s : Fin 4096), n = ⟨4096 * r.val + s.val, by omega⟩ :=
  ⟨⟨n.val / 4096, by omega⟩, ⟨n.val % 4096, by omega⟩, Fin.ext (by show n.val = 4096 * (n.val / 4096) + n.val % 4096; omega)⟩

theorem srcs_ok (hst : ∀ j, (st0 m d j).toNat < 100000) : (srcs m d).Ok where
  v4_lt n := by
    obtain ⟨r, s, e⟩ := split_pos (n 0)
    rw [show n = ix1 ⟨4096 * r.val + s.val, by omega⟩ from funext fun a => by fin_cases a; exact e, srcs_v4]
    exact hst _
  v5_ne r hr := srcs_rowH m d ⟨r, hr⟩ (by omega)

theorem srcs_out (r : Fin 16) (s : Fin 4096) (x : Fin 128) : (srcs m d).out (ix2 ⟨4096 * r.val + s.val, by omega⟩ x)
    = embR (st0 m d) (m ((d.tc : Thread nD τ).loc main_arg1)) (m ((d.tc : Thread nD τ).loc main_arg2)) (m ((d.tc : Thread nD τ).loc main_arg3)) r s x := by
  have e1 : (srcs m d).tk = m ((d.tc : Thread nD τ).loc main_arg1) := V1_arg (b := main_arg1) m d (.inr (.inl rfl))
  have e2 : (srcs m d).ins = m ((d.tc : Thread nD τ).loc main_arg2) := V1_arg (b := main_arg2) m d (.inr (.inr (.inl rfl)))
  have e3 : (srcs m d).arg = m ((d.tc : Thread nD τ).loc main_arg3) := V1_arg (b := main_arg3) m d (.inr (.inr (.inr (.inl rfl))))
  have q : (4096 * r.val + s.val) / 4096 = r.val := by omega
  have q' : (4096 * r.val + s.val) % 4096 = s.val := by omega
  show FloatOps.addf (FloatOps.addf (tkR (srcs m d).tk ((srcs m d).v4 (ix1 ⟨4096 * r.val + s.val, _⟩)).toNat x.val)
      (inR (srcs m d).ins (cnt (rowH (srcs m d).v5 ((4096 * r.val + s.val) / 4096)) ((4096 * r.val + s.val) % 4096 + 1)) x.val))
    (inR (srcs m d).arg ((4096 * r.val + s.val) % 4096 - lst (rowH (srcs m d).v5 ((4096 * r.val + s.val) / 4096)) ((4096 * r.val + s.val) % 4096 + 1)) x.val) = _
  rw [q, q', srcs_v4, e1, e2, e3, cnt_congr _ (fun k hk => srcs_rowH m d r (by omega : k < 4096)), lst_congr _ (fun k hk => srcs_rowH m d r (by omega : k < 4096))]
  rfl

end Cert.Proof

end
-- ==== Proof.Launch.lean ====
/-
  @main on the TensorCore: the ghost state it starts from, the two calls, and the run of the whole program.
-/
module

public import proofs.«01_k».proof.Proof.Host

@[expose] public section

set_option maxRecDepth 16384

noncomputable section

namespace Cert.Proof

open Cert.KernelIdeal Cert.KernelIdeal.Gen Cert.Proof.Piece

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

/-! ## The ghost state at launch -/

abbrev EP : Emb UP (RM F) := (Emb.inl : Emb UP (UP × Counters)).trans embR

abbrev adm : (p : Fin 1) → (pcfgs (F := F) p).Adm := fun p => (cfgs p).toPCfg_adm

theorem hinj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) hinj) (Pipeline.launchToks (Pipeline.pin (pcfgs (F := F)) adm) hinj), 1))

/-- A device's share: its pipeline's ghost state. -/
def G (d : Dev nD) : sProp (RM F) :=
  iprop(Pipeline.cellsGhost (Pipeline.pin (pcfgs (F := F)) adm) EP 0 d ∗ Pipeline.toksInit (Pipeline.pin (pcfgs (F := F)) adm) EP 0 d)

omit [FloatOps F] in
theorem bigSep_emp'' {I : Type} (s : Finset I) : (bigSep s fun _ => iprop(emp)) = (iprop(emp) : sProp (RM F)) := bigSep_emp_const s

variable (m : (ℓ : Loc nD τ sig) → Buf (Elt F) ℓ) (ρ : Dev nD → PrngReg)

omit [FloatOps F] in
theorem one_pipe (X : Dev nD → Fin 1 → sProp (RM F)) :
    (bigSep Finset.univ fun d => bigSep Finset.univ fun p => X d p) ⊢ bigSep Finset.univ fun d => X d 0 :=
  bigSep_mono fun d _ => bigSep_elim (Φ := fun p => X d p) (Finset.mem_univ 0)

theorem hu₀ : (ownU (u₀ (F := F)) : sProp (RM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (srcs m)).x q thr) := by
  unfold u₀
  iintro Hu
  ihave H := (ownU_pair (initOf (K (F := F)).hsCells (K (F := F)).hsToks)
    (initOf (Pipeline.cells (Pipeline.pin (pcfgs (F := F)) adm) hinj) (Pipeline.launchToks (Pipeline.pin (pcfgs (F := F)) adm) hinj), (1 : Counters))) $$ Hu
  icases H with ⟨HH, HR⟩
  ihave H := (own_pair_emb embR (initOf (Pipeline.cells (Pipeline.pin (pcfgs (F := F)) adm) hinj) (Pipeline.launchToks (Pipeline.pin (pcfgs (F := F)) adm) hinj)) (1 : Counters)) $$ HR
  icases H with ⟨HP, -⟩
  imod (Pipeline.fund_ghost (Pipeline.pin (pcfgs (F := F)) adm) EP hinj) $$ HP with ⟨Hg, Ht⟩
  imodintro
  isplitl [HH]; · iexact HH
  isplitl [Hg Ht]
  · unfold G
    rw [bigSep_sep']
    isplitl [Hg]
    · iapply (one_pipe fun d p => Pipeline.cellsGhost (Pipeline.pin (pcfgs (F := F)) adm) EP p d)
      iexact Hg
    iapply (one_pipe fun d p => Pipeline.toksInit (Pipeline.pin (pcfgs (F := F)) adm) EP p d)
    iexact Ht
  rw [show (bigSep Finset.univ fun thr : Thread nD τ => bigSep Finset.univ fun q : Fin 1 => (P (srcs m)).x q thr) = bigSep Finset.univ fun _ => (iprop(emp) : sProp (RM F)) from
    bigSep_congr fun _ _ => bigSep_univ_of_subsingleton (0 : Fin 1), bigSep_emp'']
  iempintro

/-! ## The normalization's call, in @main -/

/-- No level is asked for. -/
theorem no_levels : (iprop(emp) : sProp (RM F)) ⊢ levAts Lno lvno := by
  show (iprop(emp) : sProp (RM F)) ⊢ bigSep Finset.univ fun g : GSem nD τ sig => bigSep (∅ : Finset (HIx 1)) fun ι => levAt g ι 0
  rw [show (bigSep Finset.univ fun g : GSem nD τ sig => bigSep (∅ : Finset (HIx 1)) fun ι => (levAt g ι 0 : sProp (RM F))) = bigSep Finset.univ fun _ => iprop(emp) from
    bigSep_congr fun _ _ => bigSep_empty, bigSep_emp'']

section Norm

variable (W : Dev nD → Valuation τ sig (Elt F)) (lb : ℕ)

abbrev Wr (c : Dev nD) (b : Ref sig .tc) : Buf (Elt F) ((c.tc : Thread nD τ).loc b) := W c (dv b)
def Wn (c : Dev nD) : Valuation τ sig (Elt F) := put9 (W c) (lnAll (W c (dv main_v6)) (W c (dv main_v7)) (W c (dv main_v8)))

theorem Wn_out (c : Dev nD) : Wr (Wn W) c main_v9 = lnOut (Wr W) lb c :=
  (show Wn W c (dv main_v9) = lnAll (W c (dv main_v6)) (W c (dv main_v7)) (W c (dv main_v8)) by unfold Wn put9; exact Function.update_self _ _ _).trans (lnOut_eq (Wr W) lb c).symm
theorem Wn_ne (c : Dev nD) (b : Ref sig .tc) (hb : b ≠ main_v9) : Wr (Wn W) c b = Wr W c b :=
  Function.update_of_ne (fun h => hb (Proc.devRef_injective _ h)) _ _

abbrev normReg := lnReg (Wr W) lb adm (Wr (Wn W)) (Wn_out W lb) (Wn_ne W)

theorem normReg_wp [∀ e, Nonempty (Elt F e)] (d : Dev nD) (Φ : PUnit → sProp (RM F)) :
    iprop((iprop(boundary (d.tc : Thread nD τ) ∗ (normReg W lb).post d) -∗ wp frame (wpE (D (F := F)) 𝒱 (d.tc : Thread nD τ) none) Set.univ (.ret ⟨⟩) Φ)
        ∗ boundary (d.tc : Thread nD τ) ∗ (normReg W lb).pre d ∗ levAts Lno lvno ∗ G (F := F) d)
      ⊢ wp frame (wpE (D (F := F)) 𝒱 (d.tc : Thread nD τ) none) Set.univ (.op (.customCall (Pipeline.entry 0) ()) .ret) Φ :=
  Pipeline.RegionSeg.wp (pcfgs (F := F)) adm (lnDats (Wr W) lb adm) (none : HIx 1) hinj EP (defs₀ (F := F)) 𝒱₀ Lno lvno
    (normReg W lb) d none (fun _ h => nomatch h) (α := PUnit) .ret Φ

omit [FloatOps F] in
theorem lift_entry : (Prog.lift (.customCall (SparseCore.inner (Pipeline.entry 0)) ()) :
      Prog (TpuEff nD τ sig (Elt F) (SparseCore.Sig (ΛP (F := F)) 1) .tc) PUnit)
    = SparseCore.liftProg (.op (.customCall (Pipeline.entry 0) ()) .ret) := rfl

theorem wp_entry (d : Dev nD) (Φ : PUnit → sProp (RM F)) :
    wp frame (wpE (D (F := F)) 𝒱 (d.tc : Thread nD τ) none) Set.univ (.op (.customCall (Pipeline.entry 0) ()) .ret) Φ
      ⊢ wp frame (wpE ((K (F := F)).defs (D (F := F))) 𝒱 (SparseCore.T d) none) Set.univ
        (SparseCore.liftProg (.op (.customCall (Pipeline.entry 0) ()) .ret)) Φ :=
  (K (F := F)).wp_liftProg (D (F := F)) 𝒱 (SparseCore.T d) Set.univ none (.op (.customCall (Pipeline.entry 0) ()) .ret) Φ

/-- The call, from the boundary and the buffers at `W`, the waits recorded bounded. -/
theorem wp_norm [∀ e, Nonempty (Elt F e)] (d : Dev nD) (Φ : PUnit → sProp (RM F)) :
    iprop((iprop(boundary (SparseCore.T d) ∗ StableHlo.held (d.tc : Thread nD τ) ucRefs (Wn W d)
          ∗ Pipeline.owesWithin d (0 : CellTallies nD τ sig (HIx 1)) (recd (F := F) lb d)) -∗ Φ ⟨⟩)
      ∗ boundary (SparseCore.T d) ∗ StableHlo.held (d.tc : Thread nD τ) ucRefs (W d) ∗ Pipeline.owesWithin d (0 : CellTallies nD τ sig (HIx 1)) (recd (F := F) lb d) ∗ G (F := F) d)
      ⊢ wp frame (wpE ((K (F := F)).defs (D (F := F))) 𝒱 (SparseCore.T d) none) Set.univ
        (Prog.lift (.customCall (SparseCore.inner (Pipeline.entry 0)) ())) Φ := by
  rw [lift_entry]
  refine BI.Entails.trans ?_ (wp_entry d Φ)
  refine BI.Entails.trans ?_ (normReg_wp W lb d Φ)
  rw [← unscopedBufs_held, ← unscopedBufs_held]
  show (_ : sProp (RM F)) ⊢ iprop((iprop(_ ∗ (_ ∗ _)) -∗ _) ∗ _ ∗ (_ ∗ _) ∗ _ ∗ _)
  iintro ⟨Hk, Hb, Hheld, HO, Hg⟩
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hheld HO]
  · isplitl [Hheld]; · iexact Hheld
    iexact HO
  isplitr
  · iapply no_levels; iempintro
  iexact Hg

end Norm

/-! ## @main -/

theorem V4_eq (d : Dev nD) : V4 m d = Wn (V3 m) d := rfl

/-- What @main ends holding: the buffers at the contents the program computes. -/
abbrev FIN (d : Dev nD) : sProp (RM F) := StableHlo.held (d.tc : Thread nD τ) ucRefs (V5 m d)

/-- The bound on the waits recorded after the SparseCore call. -/
abbrev lbT : ℕ := 8 * SparseCore.Cfg.Blocks.fst 1 1 1

/-- What the TensorCore owes between the calls, out of its state and back. -/
theorem tcSt_owes (d : Dev nD) : ((K (F := F)).tcSt EH d 1 : sProp (RM F))
    ⊢ iprop(Pipeline.owesWithin d (0 : CellTallies nD τ sig (HIx 1)) (recd (F := F) (lbT) d)
      ∗ (Pipeline.owesWithin d (0 : CellTallies nD τ sig (HIx 1)) (recd (F := F) (lbT) d) -∗ (K (F := F)).tcSt EH d 1)) := by
  unfold SparseCore.Cfg.tcSt Pipeline.owesWithin
  rw [(K (F := F)).Otc_end d (le_refl 1)]
  show (_ : sProp (RM F)) ⊢ iprop(_ ∗ (_ -∗ _))
  iintro ⟨⟨%W, %hW, HO⟩, Hr⟩
  isplitl [HO]
  · iexists W
    isplitr; · ipureintro; exact hW
    iexact HO
  iintro ⟨%W', %hW', HO⟩
  isplitl [HO]
  · iexists W'
    isplitr; · ipureintro; exact hW'
    iexact HO
  iexact Hr

theorem hmain [∀ e, Nonempty (Elt F e)] (κ : GSem nD τ sig → ℕ) (d : Dev nD) :
    iprop((K (F := F)).ctx EH (P (srcs m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (RM F)) = StableHlo.held (d.tc : Thread nD τ) ucRefs (V0 m d) from unscopedBufs_held d (V0 m d), main_eq]
  iintro ⟨#Hctx, Hst, ⟨Hb, Hh, Hts, -⟩, Hg⟩
  iapply (StableHlo.wp_seq 𝒱 none Set.univ d ucRefs _ ops1 ops1_sub ops1_fresh (V0 m d)) $$ [Hb Hh]
  · isplitl [Hb] <;> iassumption
  iintro ⟨Hb, Hh⟩
  ihave Hh := (show (StableHlo.held (d.tc : Thread nD τ) ucRefs (StableHlo.after ops1 (V0 m d)) : sProp (RM F)) ⊢ StableHlo.held (d.tc : Thread nD τ) ucRefs (V1 m d) from .rfl) $$ Hh
  rw [wp_bind]
  ihave H := (show (StableHlo.held (d.tc : Thread nD τ) ucRefs (V1 m d) : sProp (RM F)) ⊢ iprop((readsT d (srcs m d) fullShare ∗ ∃ f, hbm d main_v6 ↦[Finset.univ]{fullShare} f) ∗ StableHlo.held (d.tc : Thread nD τ) (ucRefs \ scRefs) (V1 m d)) from sc_before (V1 m d) d) $$ Hh
  icases H with ⟨Hin, Hh⟩
  ihave Hin := (call_in (srcs m) d) $$ Hin
  iapply ((K (F := F)).wp_run (D (F := F)) 𝒱 (EH := EH) (P := P (srcs m)) κ d 0)
  isplitr; · iexact Hctx
  isplitl [Hst]; · iexact Hst
  isplitl [Hin]; · iexact Hin
  iintro ⟨Hst, Hdn⟩
  ihave Hout := (call_out (srcs m) d) $$ Hdn
  ihave Hh := (show (iprop((readsT d (srcs m d) fullShare ∗ hbm d main_v6 ↦[Finset.univ]{fullShare} (srcs m d).out) ∗ StableHlo.held (d.tc : Thread nD τ) (ucRefs \ scRefs) (V1 m d)) : sProp (RM F)) ⊢ StableHlo.held (d.tc : Thread nD τ) ucRefs (put6 (V1 m d) (srcs m d).out) from sc_after (V1 m d) (srcs m d).out d) $$ [Hout Hh]
  · isplitl [Hout] <;> iassumption
  ihave Hh := (show (StableHlo.held (d.tc : Thread nD τ) ucRefs (put6 (V1 m d) (srcs m d).out) : sProp (RM F)) ⊢ StableHlo.held (d.tc : Thread nD τ) ucRefs (V2 m d) from .rfl) $$ Hh
  iapply (StableHlo.wp_seq 𝒱 none Set.univ d ucRefs _ ops2 ops2_sub ops2_fresh (V2 m d)) $$ [Hb Hh]
  · isplitl [Hb] <;> iassumption
  iintro ⟨Hb, Hh⟩
  ihave Hh := (show (StableHlo.held (d.tc : Thread nD τ) ucRefs (StableHlo.after ops2 (V2 m d)) : sProp (RM F)) ⊢ StableHlo.held (d.tc : Thread nD τ) ucRefs (V3 m d) from .rfl) $$ Hh
  rw [wp_bind]
  ihave Hst := (show ((K (F := F)).tcSt EH d ((0 : Fin 1).val + 1) : sProp (RM F)) ⊢ (K (F := F)).tcSt EH d 1 from .rfl) $$ Hst
  ihave Hst := (tcSt_owes d) $$ Hst
  icases Hst with ⟨HO, Hst⟩
  iapply (wp_norm (V3 m) (lbT) d)
  isplitr [Hb Hh HO Hg]
  · iintro ⟨Hb, Hh, HO⟩
    ihave Hst := Hst $$ HO
    ihave Hh := (show (StableHlo.held (d.tc : Thread nD τ) ucRefs (Wn (V3 m) d) : sProp (RM F)) ⊢ StableHlo.held (d.tc : Thread nD τ) ucRefs (V4 m d) from .rfl) $$ Hh
    iapply (StableHlo.wp_seq 𝒱 none Set.univ d ucRefs _ ops3 ops3_sub ops3_fresh (V4 m d)) $$ [Hb Hh]
    · isplitl [Hb] <;> iassumption
    iintro ⟨Hb, Hh⟩
    ihave Hh := (show (StableHlo.held (d.tc : Thread nD τ) ucRefs (StableHlo.after ops3 (V4 m d)) : sProp (RM F)) ⊢ StableHlo.held (d.tc : Thread nD τ) ucRefs (V5 m d) from .rfl) $$ Hh
    rw [wp_pure]
    imodintro
    isplitl [Hst]; · iexact Hst
    isplitl [Hh]; · iexact Hh
    isplitl [Hb] <;> iassumption
  isplitl [Hb]; · iexact Hb
  isplitl [Hh]; · iexact Hh
  isplitl [HO]; · iexact HO
  iexact Hg

/-! ## The program's run -/

def fq (d : Dev nD) (s' : Phys nD τ sig (Elt F)) : Prop := ∀ b ∈ ucRefs, s'.mem.mem (d, b) = V5 m d b

theorem hfin (d : Dev nD) (s' : Phys nD τ sig (Elt F)) : iprop(FIN m d ∗ SI s') ⊢ (⌜fq m d s'⌝ : sProp (RM F)) := by
  unfold FIN StableHlo.held fq
  iintro ⟨H, HSI⟩
  ihave %h := (SI_pointsTo_bufs_agree (qs := fun _ => fullShare) ucRefs) $$ [HSI H]
  · isplitl [HSI]; · iexact HSI
    iexact H
  ipureintro
  exact h

def QC : PUnit × MemSt nD τ sig (Elt F) → Prop := fun r => (∀ (d : Dev nD), ∀ b ∈ ucRefs, r.2.mem (d, b) = V5 m d b) ∧ r.2.sem = fun _ => 0

theorem run_main [∀ e, Nonempty (Elt F e)] (hX : ∀ d, (srcs m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (srcs m)) (A := ∅) facts v₀
    (fun q hq => match q with | 0 => nomatch hq)
    (fun q _ => match q with | 0 => tileObl (srcs m) hX)
    (fun q _ => match q with | 0 => SparseCore.Cfg.VecSplit.of_plain (vecSplit (srcs m)))
    m ρ main (fun d => G (F := F) d) (FIN m) (u₀ (F := F)) (sep_elim_left.trans (hu₀ m)) (hmain m ρ) (fq m) (hfin m) (QC m) (fun _ h hz => ⟨h, hz⟩)

end Cert.Proof

end
-- ==== Proof.Frames.lean ====
/-
  The claims about how the programs end.
-/
module

public import proofs.«01_k».proof.Proof.Sums
public import proofs.«01_k».proof.Proof.Launch
public import proofs.«01_k».proof.Proof.Gen.Kernel
public import proofs.«01_k».proof.Proof.Gen.Pre_in_vocab
public import proofs.«01_k».proof.Proof.Gen.ReferenceIdeal
public import proofs.«01_k».proof.Proof.Gen.ReferenceIdeal.Run
public import Idealize.ShloMosaic.Lib.ReduceAll
public import Idealize.ShloMosaic.Lib.WordArith
public import Idealize.ShloMosaic.Lib.WordCmp
public import proofs.«01_k».proof.Defs

@[expose] public section

set_option maxRecDepth 16384

noncomputable section

namespace Cert.Proof

open Cert.KernelIdeal Cert.KernelIdeal.Gen Cert.Proof.Piece

open Idealize.ShloMosaic hiding ix1 ix2 ix3
open Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

private instance : Subsingleton Cert.Pre_in_vocab.S_.Idx := ⟨fun a b => funext fun i => i.elim0⟩

/-- Where the bounds' test holds, every word names a row of the token table. -/
theorem lt_of_pre {F : FTy → Type} [FloatOps F] (st : S16x4096.Idx → BitVec 32) (a1 : S100000x128.Idx → F .f32) (a2 a3 : S4096x128.Idx → F .f32) (a4 a5 : S128.Idx → F .f32)
    (h : Cert.Pre_in_vocab.fn (F := F) st a1 a2 a3 a4 a5 = fun _ => 1#1) (j : S16x4096.Idx) : (st j).toNat < 100000 := by
  have key : ∀ v : BitVec 32, IntOp.andi (IntOp.cmpi .sge v 0#32) (IntOp.cmpi .slt v 100000#32) = 1#1 → v.toNat < 100000 := fun v e => by
    simp only [IntOp.cmpi, WordCmp.andi_ofBool, WordCmp.ofBool_eq_one_iff, Bool.and_eq_true, BitVec.sle_eq_decide, BitVec.slt_eq_decide, decide_eq_true_eq,
      BitVec.toInt_eq_toNat_cond, BitVec.toNat_ofNat, Nat.reducePow, Nat.reduceMod] at e
    omega
  have e := congrFun h ValueIdx.ix0
  unfold Cert.Pre_in_vocab.fn at e
  have e' := Host.reduce_andi_all _ _ _ _ _ e j
  exact key _ e'

theorem mem_uc {b : Ref sig .tc} (hb : b = main_arg0 ∨ b = main_arg1 ∨ b = main_arg2 ∨ b = main_arg3 ∨ b = main_arg4 ∨ b = main_arg5 ∨ b = main_v10) : dv b ∈ ucRefs := by
  rcases hb with rfl | rfl | rfl | rfl | rfl | rfl | rfl <;> exact Finset.mem_filter.2 ⟨StableHlo.devRef_mem_tcRefs _, by decide⟩

variable {F : FTy → Type} [FloatOps F] {m : (ℓ : Loc nD τ sig) → Buf (Elt F) ℓ} {r : PUnit × MemSt nD τ sig (Elt F)}

/-- What a run leaves at an argument is what was there. -/
theorem qc_arg (h : QC m r) (d : Dev nD) {b : Ref sig .tc} (hb : b = main_arg0 ∨ b = main_arg1 ∨ b = main_arg2 ∨ b = main_arg3 ∨ b = main_arg4 ∨ b = main_arg5) :
    r.2.mem ((d.tc : Thread nD τ).loc b) = m ((d.tc : Thread nD τ).loc b) :=
  (h.1 d (dv b) (mem_uc (by rcases hb with h | h | h | h | h | h <;> simp [h]))).trans (V5_arg m d hb)

theorem qc_args (h : QC m r) (d : Dev nD) :
    r.2.mem ((d.tc : Thread nD τ).loc main_arg0) = m ((d.tc : Thread nD τ).loc main_arg0) ∧ r.2.mem ((d.tc : Thread nD τ).loc main_arg1) = m ((d.tc : Thread nD τ).loc main_arg1)
    ∧ r.2.mem ((d.tc : Thread nD τ).loc main_arg2) = m ((d.tc : Thread nD τ).loc main_arg2) ∧ r.2.mem ((d.tc : Thread nD τ).loc main_arg3) = m ((d.tc : Thread nD τ).loc main_arg3)
    ∧ r.2.mem ((d.tc : Thread nD τ).loc main_arg4) = m ((d.tc : Thread nD τ).loc main_arg4) ∧ r.2.mem ((d.tc : Thread nD τ).loc main_arg5) = m ((d.tc : Thread nD τ).loc main_arg5) :=
  ⟨qc_arg h d (.inl rfl), qc_arg h d (.inr (.inl rfl)), qc_arg h d (.inr (.inr (.inl rfl))), qc_arg h d (.inr (.inr (.inr (.inl rfl)))),
    qc_arg h d (.inr (.inr (.inr (.inr (.inl rfl))))), qc_arg h d (.inr (.inr (.inr (.inr (.inr rfl)))))⟩

theorem qc_out (h : QC m r) (d : Dev nD) : r.2.mem ((d.tc : Thread nD τ).loc main_v10) = V5 m d (dv main_v10) :=
  h.1 d (dv main_v10) (mem_uc (by simp))

set_option maxHeartbeats 4000000 in
theorem defs0_at : ∀ (c : Proc τ) (ℓ : Λ₀.Label) (a : Λ₀.Args ℓ), Cert.Kernel.defs₀ (F := Bits) c ℓ a = Cert.KernelIdeal.defs₀ (F := Bits) c ℓ a
  | .scVector _ _, 0, _ => rfl
  | .scVector _ _, 1, _ => rfl
  | .scScalar _, 0, _ => rfl
  | .scScalar _, 1, _ => rfl
  | .tc, 0, _ => rfl
  | .tc, 1, (_, _) => rfl

theorem defs0_eq : Cert.Kernel.defs₀ (F := Bits) = Cert.KernelIdeal.defs₀ (F := Bits) :=
  funext fun c => funext fun ℓ => funext fun a => defs0_at c ℓ a

set_option maxHeartbeats 4000000 in
/-- The program as printed and its reading at the ideal numbers are one text. -/
theorem defs_eq : Cert.Kernel.defs (F := Bits) = Cert.KernelIdeal.defs (F := Bits) := by
  unfold Cert.Kernel.defs
  rw [defs0_eq]
  rfl

theorem threads_eq : (Cert.Kernel.threads (F := Bits)) = Cert.KernelIdeal.threads (F := Bits) := rfl
theorem frame_kernel : Cert.quiescent_Kernel := fun m ρ hp => by
  rw [defs_eq]
  exact (θ_run Cert.KernelIdeal.defs _ _).mono (fun _ h => ⟨fun c => qc_args h c, h.2⟩)
    (run_main (F := Bits) m ρ fun d => srcs_ok m d fun j => lt_of_pre _ _ _ _ _ _ (hp d) j)

theorem frame_kernelIdeal : Cert.quiescent_KernelIdeal := fun m ρ hp =>
  (θ_run Cert.KernelIdeal.defs _ _).mono (fun _ h => ⟨fun c => qc_args h c, h.2⟩)
    (run_main (F := Ideal) m ρ fun d => srcs_ok m d fun j => lt_of_pre _ _ _ _ _ _ (hp d) j)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.LnReal.lean ====
/-
  A row's normalization over the reals: the inverse root against the root.
-/
module

public import Idealize.ShloMosaic.PureOps.Ideal
public import Idealize.ShloMosaic.PureOps.Ideal.Laws
public import Idealize.ShloMosaic.Lib.Pointwise

@[expose] public section

set_option maxRecDepth 16384

noncomputable section

namespace Cert.Proof

open Idealize.ShloMosaic hiding ix1 ix2 ix3
open Idealize.ShloMosaic.ValueIdx

/-- The width of a row, and the small number added to the variance. -/
abbrev width : EReal := Ideal.ofBits .f32 0x43000000#32
abbrev tiny : EReal := Ideal.ofBits .f32 0x3727C5AC#32

theorem width_eq : width = ((128 : ℝ) : EReal) := by
  simp [Ideal.ofBits, Ideal.ieee, -EReal.coe_mul]; norm_num

theorem tiny_pos : 0 < tiny := by
  have h : ∃ x : ℝ, 0 < x ∧ tiny = (x : EReal) := by
    simp only [Ideal.ofBits, Ideal.ieee]
    rw [if_neg (by decide), if_neg (by decide)]
    refine ⟨_, ?_, rfl⟩
    rw [if_neg (by decide)]
    positivity
  obtain ⟨x, hx, e⟩ := h
  rw [e]; exact_mod_cast hx

/-- A row's mean, and the mean of its squared distances from it. -/
def mean (e : Fin 128 → EReal) : EReal := Ideal.div (∑ k, e k) width
def var (e : Fin 128 → EReal) : EReal := Ideal.div (∑ k, (e k - mean e) * (e k - mean e)) width

/-- A row normalized: the distance to the mean times the inverse root, or over the root. -/
def lnMul (e : Fin 128 → EReal) (w b : EReal) (k : Fin 128) : EReal := (e k - mean e) * Ideal.rsqrt (var e + tiny) * w + b
def lnDiv (e : Fin 128 → EReal) (w b : EReal) (k : Fin 128) : EReal := Ideal.div (e k - mean e) (Ideal.sqrt (var e + tiny)) * w + b

theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

theorem var_nonneg (e : Fin 128 → EReal) : 0 ≤ var e := by
  unfold var
  rw [width_eq, Ideal.div_coe (by norm_num)]
  refine mul_nonneg (Finset.sum_nonneg fun k _ => sq_nonneg' _) ?_
  exact_mod_cast (by norm_num : (0 : ℝ) ≤ 1 / 128)

/-- Off zero and below, multiplying by the inverse root is dividing by the root. -/
theorem mul_rsqrt (x v : EReal) (hv : 0 < v) : x * Ideal.rsqrt v = Ideal.div x (Ideal.sqrt v) := by
  induction v with
  | bot => exact absurd hv (by simp)
  | top => rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (by linarith), if_neg hr.ne', if_neg (by linarith), Ideal.div_coe hs, one_div]

theorem lnMul_eq (e : Fin 128 → EReal) (w b : EReal) (k : Fin 128) : lnMul e w b k = lnDiv e w b k := by
  unfold lnMul lnDiv
  rw [mul_rsqrt _ _ (lt_of_lt_of_le tiny_pos (le_add_of_nonneg_left (var_nonneg e)))]

end Cert.Proof

end
-- ==== Proof.LnPay.lean ====
/-
  The normalization's body over the reals, entry by entry.
-/
module

public import proofs.«01_k».proof.Proof.LnReal
public import proofs.«01_k».proof.Proof.LnRegion

@[expose] public section

set_option maxRecDepth 16384

noncomputable section

namespace Cert.Proof

open Cert.KernelIdeal Cert.KernelIdeal.Gen Cert.Proof.Piece

open Idealize.ShloMosaic hiding ix1 ix2 ix3
open Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

theorem col_apply {α : Type} (x : S8192.Idx → α) (j : Fin 8192) (z : Fin 1) : shapeCast S8192x1 x shapeCasts_S8192_S8192x1 (ix2 j z) = x (ix1 j) := by
  refine shapeCast_apply _ _ _ _ ?_
  rw [Shape.rowMajor_val_one, Shape.rowMajor_val_two]
  show j.val = j.val * 1 + z.val
  omega

theorem across_apply {α : Type} (x : S8192x1.Idx → α) (j : Fin 8192) (k : Fin 128) : broadcastTo S8192x128 x broadcasts_S8192x1_S8192x128 (ix2 j k) = x (ix2 j (0 : Fin 1)) := by
  unfold broadcastTo
  refine congrArg x (funext fun a => ?_)
  match a with
  | ⟨0, _⟩ => rfl
  | ⟨1, _⟩ => rfl

theorem down_apply {α : Type} (x : S1x128.Idx → α) (j : Fin 8192) (k : Fin 128) : broadcastTo S8192x128 x broadcasts_S1x128_S8192x128 (ix2 j k) = x (ix2 (0 : Fin 1) k) := by
  unfold broadcastTo
  refine congrArg x (funext fun a => ?_)
  match a with
  | ⟨0, _⟩ => rfl
  | ⟨1, _⟩ => rfl

theorem row_sum (x : S8192x128.Idx → EReal) (j : Fin 8192) :
    multiReduction (F := Ideal) (φ := .f32) .add [1] S8192 x 0x00000000#32 reduces_S8192x128_S8192 (.inl rfl) rfl (ix1 j) = ∑ k : Fin 128, x (ix2 j k) := by
  refine (Ideal.multiReduction_add_single (φ := .f32) x _ _ _ _ _).trans ?_
  refine Finset.sum_congr rfl fun k _ => congrArg x (funext fun a => ?_)
  match a with
  | ⟨0, _⟩ => rfl
  | ⟨1, _⟩ => rfl

theorem same_apply {s : Shape} {α : Type} (x : s.Idx → α) (h : s.ShapeCasts s) : shapeCast s x h = x :=
  funext fun j => shapeCast_apply _ _ _ _ rfl

/-- The normalization's body on a block of rows, at one entry. -/
theorem pay_apply (x : S8192x128.Idx → EReal) (w b : S1x128.Idx → EReal) (j : Fin 8192) (k : Fin 128) :
    k1_pay1 (F := Ideal) x w b (ix2 j k) = lnMul (fun k => x (ix2 j k)) (w (ix2 0 k)) (b (ix2 0 k)) k := by
  have hm : ∀ k : Fin 128, broadcastTo S8192x128 (divf (F := Ideal) (φ := .f32) (shapeCast S8192x1 (multiReduction (F := Ideal) (φ := .f32) .add [1] S8192 x 0x00000000#32 reduces_S8192x128_S8192 (.inl rfl) rfl) shapeCasts_S8192_S8192x1)
      (broadcast S8192x1 (Scalar.ofBits .f32 0x43000000#32))) broadcasts_S8192x1_S8192x128 (ix2 j k) = mean fun k => x (ix2 j k) := fun k => by
    refine (across_apply _ j k).trans ?_
    show Ideal.div (shapeCast S8192x1 _ shapeCasts_S8192_S8192x1 (ix2 j (0 : Fin 1))) width = _
    rw [col_apply, row_sum]; rfl
  unfold k1_pay1
  simp only [same_apply]
  show ((x (ix2 j k) - broadcastTo S8192x128 _ broadcasts_S8192x1_S8192x128 (ix2 j k)) * broadcastTo S8192x128 _ broadcasts_S8192x1_S8192x128 (ix2 j k)) * broadcastTo S8192x128 w broadcasts_S1x128_S8192x128 (ix2 j k)
    + broadcastTo S8192x128 b broadcasts_S1x128_S8192x128 (ix2 j k) = _
  rw [hm k, down_apply, down_apply, across_apply]
  show (_ * Ideal.rsqrt (Ideal.div (shapeCast S8192x1 _ shapeCasts_S8192_S8192x1 (ix2 j (0 : Fin 1))) width + tiny)) * _ + _ = _
  rw [col_apply, row_sum]
  unfold lnMul var
  refine congrArg (fun t => (_ * Ideal.rsqrt (Ideal.div t width + tiny)) * _ + _) (Finset.sum_congr rfl fun k' _ => ?_)
  exact congrArg₂ (· * ·) (congrArg (x (ix2 j k') - ·) (hm k')) (congrArg (x (ix2 j k') - ·) (hm k'))

end Cert.Proof

end
-- ==== Proof.LnValue.lean ====
/-
  The kernel's result over the reals, entry by entry.
-/
module

public import proofs.«01_k».proof.Proof.LnPay
public import proofs.«01_k».proof.Proof.Sums

@[expose] public section

set_option maxRecDepth 16384

noncomputable section

namespace Cert.Proof

open Cert.KernelIdeal Cert.KernelIdeal.Gen Cert.Proof.Piece

open Idealize.ShloMosaic hiding ix1 ix2 ix3
open Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (d : Dev nD)

/-- The kernel's result, entry by entry: the sum row of that position normalized. -/
theorem V5_apply (r : Fin 16) (s : Fin 4096) (k : Fin 128) :
    V5 m d (dv main_v10) (ix3 r s k) = lnMul
      (embR (F := Ideal) (st0 m d) (m ((d.tc : Thread nD τ).loc main_arg1)) (m ((d.tc : Thread nD τ).loc main_arg2)) (m ((d.tc : Thread nD τ).loc main_arg3)) r s)
      (m ((d.tc : Thread nD τ).loc main_arg4) (ix1 k)) (m ((d.tc : Thread nD τ).loc main_arg5) (ix1 k)) k := by
  rw [V5_v10, unflat_apply]
  unfold lnAll
  refine (pay_apply _ _ _ _ _).trans ?_
  have hr : ∀ k : Fin 128, rowsBlk (srcs m d).out ((4096 * r.val + s.val) / 8192) (ix2 ⟨(4096 * r.val + s.val) % 8192, Nat.mod_lt _ (by norm_num)⟩ k)
      = embR (st0 m d) (m ((d.tc : Thread nD τ).loc main_arg1)) (m ((d.tc : Thread nD τ).loc main_arg2)) (m ((d.tc : Thread nD τ).loc main_arg3)) r s k := fun k => by
    have e : 8192 * ((4096 * r.val + s.val) / 8192) + (4096 * r.val + s.val) % 8192 = 4096 * r.val + s.val := Nat.div_add_mod _ _
    have hl : 4096 * r.val + s.val < 65536 := by omega
    refine Eq.trans ?_ (srcs_out m d r s k)
    unfold rowsBlk
    refine (dif_pos (lt_of_eq_of_lt e hl)).trans ?_
    exact congrArg (fun n : Fin 65536 => (srcs m d).out (ix2 n k)) (Fin.ext e)
  exact congr (congr (congrArg₂ lnMul (funext hr) (row1_apply _ k)) (row1_apply _ k)) rfl

end Cert.Proof

end
-- ==== Proof.RefStarts.lean ====
/-
  The reference's starts, counts and distances, entry by entry.
-/
module

public import proofs.«01_k».proof.Proof.Sums
public import proofs.«01_k».proof.Proof.Columns
public import proofs.«01_k».proof.Proof.Scan
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value
open Idealize.ShloMosaic hiding ix1 ix2 ix3
open Idealize.ShloMosaic.ValueIdx Idealize.ShloMosaic.TcCoe Idealize.ShloMosaic.StableHlo

theorem fold_cnt (h : ℕ → Bool) : ∀ n, (List.range n).foldl (fun a i => IntOp.addi a ((BitVec.ofBool (h i)).setWidth 32)) 0#32 = BitVec.ofNat 32 (cnt h n)
  | 0 => rfl
  | n + 1 => by
    rw [List.range_succ, List.foldl_append, fold_cnt h n, cnt]
    show BitVec.ofNat 32 (cnt h n) + (BitVec.ofBool (h n)).setWidth 32 = _
    rw [BitVec.ofNat_add]
    cases h n <;> rfl

theorem fold_lst (h : ℕ → Bool) (h0 : h 0 = false) : ∀ n, n + 1 ≤ 4096 →
    (List.range (n + 1)).foldl (fun a i => IntOp.maxsi a (if h i then BitVec.ofNat 32 i else 0#32)) 2147483648#32 = BitVec.ofNat 32 (lst h (n + 1))
  | 0, _ => by
    show IntOp.maxsi 2147483648#32 (if h 0 then BitVec.ofNat 32 0 else 0#32) = BitVec.ofNat 32 (if h 0 then 0 else 0)
    rw [h0]; rfl
  | n + 1, hn => by
    have hl := lst_lt h n
    rw [List.range_succ, List.foldl_append, fold_lst h h0 n (by omega)]
    show IntOp.maxsi (BitVec.ofNat 32 (lst h (n + 1))) (if h (n + 1) then BitVec.ofNat 32 (n + 1) else 0#32) = BitVec.ofNat 32 (if h (n + 1) then n + 1 else lst h (n + 1))
    cases h (n + 1)
    · exact (maxsi_word (by omega) (by omega : 0 < 2 ^ 31)).trans (congrArg _ (max_eq_left (Nat.zero_le _)))
    · exact (maxsi_word (by omega) (by omega)).trans (congrArg _ (max_eq_right (by omega)))

variable {F : FTy → Type} [FloatOps F] (V : Valuation τ sig (Elt F))

/-- The words. -/
abbrev st : S16x4096.Idx → BitVec 32 := V (Proc.devRef .tc main_arg0)

theorem start_apply (r : Fin 16) (s : Fin 4096) : res_main_v5 V (ix2 r s) = BitVec.ofBool (startH (st V) r s.val) := by
  unfold res_main_v5
  rw [put_col0 (R := 16) (C := 4096) scatter_S16x4096_S1_S16_0_1_1_0 rfl rfl rfl _ (broadcastInDim S1 ![] bcast_S_S1 (constantI S_ 32 0#32)) (fun _ => rfl) _ r s]
  split
  · next hs => unfold startH; rw [hs]; rfl
  · next hs =>
    refine (turn_apply (res_main_v1 V) _ _ _ r s hs).trans ?_
    unfold startH
    rw [decide_eq_true hs, Bool.true_and]
    have e : (⟨s.val - 1, by omega⟩ : Fin 4096) = Fin.ofNat 4096 (s.val - 1) := Fin.ext (Nat.mod_eq_of_lt (by omega)).symm
    rw [e]
    rfl

theorem count_apply (r : Fin 16) (s : Fin 4096) : res_main_v7 V (ix2 r s) = BitVec.ofNat 32 (cnt (startH (st V) r) (s.val + 1)) := by
  rw [← fold_cnt]
  unfold res_main_v7
  exact scan_row (R := 16) (N := 4096) (Nm1 := 4095) rfl IntOp.addi _ 0#32 rfl _ (fun _ => rfl) _ _ r s (fun i => (BitVec.ofBool (startH (st V) r i)).setWidth 32)
    (fun i => congrArg (BitVec.setWidth 32) (start_apply V r i))

theorem mark_apply (r : Fin 16) (i : Fin 4096) :
    select (Host.scatter scatter_S16x4096_S1_S16_0_1_1_0 (fun _ b => b) (res_main_v5 V) (broadcastInDim S1 ![] bcast_S_S1 (constantI S_ 32 0#32)) (broadcastInDim S16 ![] bcast_S_S16 (constantI S_ 1 1#1)))
        (broadcastInDim S16x4096 ![0, 1] bcast_S1x4096_S16x4096_0_1 (broadcastInDim S1x4096 ![1] bcast_S4096_S1x4096_1 (res_main_v8 V)))
        (broadcastInDim S16x4096 ![] bcast_S_S16x4096 (id (constantI S_ 32 0#32))) (ix2 r i)
      = if startH (st V) r i.val then BitVec.ofNat 32 i.val else 0#32 := by
  show Scalar.select (Host.scatter scatter_S16x4096_S1_S16_0_1_1_0 (fun _ b => b) (res_main_v5 V) (broadcastInDim S1 ![] bcast_S_S1 (constantI S_ 32 0#32)) (broadcastInDim S16 ![] bcast_S_S16 (constantI S_ 1 1#1)) (ix2 r i))
    (BitVec.ofNat 32 i.val) 0#32 = _
  rw [put_col0 (R := 16) (C := 4096) scatter_S16x4096_S1_S16_0_1_1_0 rfl rfl rfl _ (broadcastInDim S1 ![] bcast_S_S1 (constantI S_ 32 0#32)) (fun _ => rfl) _ r i]
  split
  · next hi => rw [hi]; rfl
  · rw [start_apply]
    cases startH (st V) r i.val <;> rfl

theorem dist_apply (r : Fin 16) (s : Fin 4096) : res_main_v17 V (ix2 r s) = BitVec.ofNat 32 (s.val - lst (startH (st V) r) (s.val + 1)) := by
  have hl := lst_lt (startH (st V) r) s.val
  have e := scan_row (R := 16) (N := 4096) (Nm1 := 4095) rfl IntOp.maxsi _ 2147483648#32 rfl (broadcastInDim S_ ![] bcast_S_S_ (constantI S_ 32 2147483648#32)) (fun _ => rfl)
    reduceWindows_S16x4096_S16x4096_w1s1p0_0_w4096s1p4095_0 h_S_ r s (fun i => if startH (st V) r i then BitVec.ofNat 32 i else 0#32) (fun i => mark_apply V r i)
  rw [fold_lst _ rfl s.val (by omega)] at e
  unfold res_main_v17
  refine (congrArg (BitVec.ofNat 32 s.val - ·) e).trans ?_
  apply BitVec.eq_of_toNat_eq
  rw [BitVec.toNat_sub, word_toNat (by omega), word_toNat (by omega), word_toNat (by omega)]
  omega

end Cert.Proof.Ref

end
-- ==== Proof.Take.lean ====
/-
  Rows taken out of a table by their numbers, at one entry.
-/
module

public import Idealize.ShloMosaic.Lib.Routing.Ops
public import Idealize.ShloMosaic.Lib.Pointwise

@[expose] public section

set_option maxRecDepth 16384

noncomputable section

namespace Cert.Proof

open Idealize.ShloMosaic hiding ix1 ix2 ix3
open Idealize.ShloMosaic.ValueIdx

/-- The dimension numbers of rows taken out of a table of `N` rows of `C` by an array of row numbers. -/
abbrev rowDims (N C R S : ℕ) (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- Rows taken out of a table, at one entry: the row that the row number names. -/
theorem gather_rows {α : Type} {N C R S : ℕ} (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ 32) (r : Fin R) (s : Fin S) (k : Fin C) (n : Fin N)
    (hn : (idx (ix3 r s (0 : Fin 1))).toInt = (n.val : ℤ)) : Host.gather (rowDims N C R S wf) x idx (ix3 r s k) = x (ix2 n k) := by
  unfold Host.gather
  refine congrArg x (funext fun a => Fin.ext ?_)
  show (rowDims N C R S wf).start (ix3 r s k) idx a + (rowDims N C R S wf).batchCoord (ix3 r s k) a + (rowDims N C R S wf).offCoord (ix3 r s k) a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · rw [GatherDims.offCoord_eq_zero _ _ _ fun h => ((GatherDims.mem_sKept _ _).mp h).1 (List.mem_singleton.mpr rfl)]
    unfold GatherDims.start
    rw [dif_pos (show (0 : Fin 2) ∈ (rowDims N C R S wf).startIndexMap from List.mem_singleton.mpr rfl)]
    have hsi : (rowDims N C R S wf).siIdx (ix3 r s k) ⟨List.idxOf (0 : Fin 2) (rowDims N C R S wf).startIndexMap,
        List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi, hn]
    show min ((n.val : ℤ)).toNat (N - 1) + 0 + 0 = n.val
    have := n.isLt
    omega
  · unfold GatherDims.start
    rw [dif_neg (fun h => by simp at h : ¬ (1 : Fin 2) ∈ (rowDims N C R S wf).startIndexMap)]
    unfold GatherDims.offCoord
    rw [dif_pos ((GatherDims.mem_sKept _ _).mpr ⟨fun h => by simp at h, List.not_mem_nil⟩)]
    show 0 + 0 + k.val = k.val
    omega

/-- A row number below the table's height, as the reference tests it. -/
theorem in_range {N : ℕ} (hN : N < 2 ^ 31) {v : BitVec 32} (hv : v.toNat < N) :
    IntOp.cmpi .slt v 0#32 = 0#1 ∧ IntOp.andi (IntOp.cmpi .sge v 0#32) (IntOp.cmpi .sle v (BitVec.ofNat 32 (N - 1))) = 1#1 ∧ v.toInt = (v.toNat : ℤ) := by
  have hi : v.toInt = (v.toNat : ℤ) := by rw [BitVec.toInt_eq_toNat_cond, if_pos (by omega)]
  have hM : (BitVec.ofNat 32 (N - 1)).toInt = ((N - 1 : ℕ) : ℤ) := by
    rw [BitVec.toInt_eq_toNat_cond, BitVec.toNat_ofNat, Nat.mod_eq_of_lt (by omega), if_pos (by omega)]
  refine ⟨?_, ?_, hi⟩
  · have : v.slt 0#32 = false := by
      rw [BitVec.slt_eq_decide, hi]; exact decide_eq_false (by show ¬ ((v.toNat : ℤ) < 0); omega)
    show BitVec.ofBool (v.slt 0#32) = 0#1
    rw [this]; rfl
  · have h1 : (0#32).sle v = true := by rw [BitVec.sle_eq_decide, hi]; exact decide_eq_true (by show (0 : ℤ) ≤ v.toNat; omega)
    have h2 : v.sle (BitVec.ofNat 32 (N - 1)) = true := by rw [BitVec.sle_eq_decide, hi, hM]; exact decide_eq_true (by omega)
    show IntOp.andi (BitVec.ofBool ((0#32).sle v)) (BitVec.ofBool (v.sle _)) = 1#1
    rw [h1, h2]; rfl

end Cert.Proof

end
-- ==== Proof.RefRows.lean ====
/-
  The reference's sum of rows, entry by entry.
-/
module

public import proofs.«01_k».proof.Proof.RefStarts
public import proofs.«01_k».proof.Proof.Take
public import Idealize.ShloMosaic.Lib.ReduceAll

@[expose] public section

set_option maxRecDepth 16384

noncomputable section

namespace Cert.Proof.Ref

open Cert.ReferenceIdeal Cert.ReferenceIdeal.Gen Cert.ReferenceIdeal.Value
open Idealize.ShloMosaic hiding ix1 ix2 ix3
open Idealize.ShloMosaic.ValueIdx Idealize.ShloMosaic.TcCoe Idealize.ShloMosaic.StableHlo

/-! ## Arrays spread along new axes, at one entry -/

theorem spread1 {α : Type} (x : S16x4096.Idx → α) (r : Fin 16) (s : Fin 4096) (z : Fin 1) :
    broadcastInDim S16x4096x1 ![0, 1] bcast_S16x4096_S16x4096x1_0_1 x (ix3 r s z) = x (ix2 r s) := by
  unfold broadcastInDim
  refine congrArg x (funext fun a => ?_)
  match a with
  | ⟨0, _⟩ => rfl
  | ⟨1, _⟩ => rfl

theorem spread128 {α : Type} (x : S16x4096.Idx → α) (r : Fin 16) (s : Fin 4096) (k : Fin 128) :
    broadcastInDim S16x4096x128 ![0, 1] bcast_S16x4096_S16x4096x128_0_1 x (ix3 r s k) = x (ix2 r s) := by
  unfold broadcastInDim
  refine congrArg x (funext fun a => ?_)
  match a with
  | ⟨0, _⟩ => rfl
  | ⟨1, _⟩ => rfl

theorem spread_last {α : Type} (x : S16x4096x1.Idx → α) (r : Fin 16) (s : Fin 4096) (k : Fin 128) :
    broadcastInDim S16x4096x128 ![0, 1, 2] bcast_S16x4096x1_S16x4096x128_0_1_2 x (ix3 r s k) = x (ix3 r s (0 : Fin 1)) := by
  unfold broadcastInDim
  refine congrArg x (funext fun a => ?_)
  match a with
  | ⟨0, _⟩ => rfl
  | ⟨1, _⟩ => rfl
  | ⟨2, _⟩ => rfl

theorem spread_row {α : Type} (x : S128.Idx → α) (r : Fin 16) (s : Fin 4096) (k : Fin 128) :
    broadcastInDim S16x4096x128 ![0, 1, 2] bcast_S1x1x128_S16x4096x128_0_1_2 (broadcastInDim S1x1x128 ![2] bcast_S128_S1x1x128_2 x) (ix3 r s k) = x (ix1 k) := by
  unfold broadcastInDim
  refine congrArg x (funext fun a => ?_)
  match a with
  | ⟨0, _⟩ => rfl

/-! ## Rows taken by their numbers -/

/-- The row numbers, each with the table's height added where it is negative. -/
abbrev wrapped (h : BitVec 32) (n : S16x4096.Idx → BitVec 32) : S16x4096x1.Idx → BitVec 32 :=
  broadcastInDim S16x4096x1 ![0, 1] bcast_S16x4096_S16x4096x1_0_1 (select (cmpi .slt n (broadcastInDim S16x4096 ![] bcast_S_S16x4096 (constantI S_ 32 0#32)))
    (addi n (broadcastInDim S16x4096 ![] bcast_S_S16x4096 (constantI S_ 32 h))) n)

/-- Where the row numbers lie in the table. -/
abbrev inside (l : BitVec 32) (w : S16x4096x1.Idx → BitVec 32) : S16x4096x128.Idx → BitVec 1 :=
  broadcastInDim S16x4096x128 ![0, 1] bcast_S16x4096_S16x4096x128_0_1 (Host.reduce IntOp.andi (andi (cmpi .sge w (broadcastInDim S16x4096x1 ![] bcast_S_S16x4096x1 (constantI S_ 32 0#32)))
    (cmpi .sle w (broadcastInDim S16x4096x1 ![0, 1, 2] bcast_S1x1x1_S16x4096x1_0_1_2 (broadcastInDim S1x1x1 ![2] bcast_S1_S1x1x1_2 (constantI S1 32 l))))) (constantI S_ 1 1#1) reducesTo_S16x4096x1_S16x4096_d2 h_S_)

theorem wrapped_apply {N : ℕ} (hN : N < 2 ^ 31) (h : BitVec 32) (n : S16x4096.Idx → BitVec 32) (hn : ∀ r s, (n (ix2 r s)).toNat < N) (r : Fin 16) (s : Fin 4096) (z : Fin 1) :
    wrapped h n (ix3 r s z) = n (ix2 r s) := by
  refine (spread1 _ r s z).trans ?_
  show Scalar.select (IntOp.cmpi .slt (n (ix2 r s)) 0#32) _ _ = _
  rw [(in_range hN (hn r s)).1]
  rfl

theorem inside_apply {N : ℕ} (hN : N < 2 ^ 31) (h : BitVec 32) (n : S16x4096.Idx → BitVec 32) (hn : ∀ r s, (n (ix2 r s)).toNat < N) (r : Fin 16) (s : Fin 4096) (k : Fin 128) :
    inside (BitVec.ofNat 32 (N - 1)) (wrapped h n) (ix3 r s k) = 1#1 := by
  refine (spread128 _ r s k).trans (Host.reduce_andi_one _ _ _ _ _ rfl fun i => ?_)
  obtain ⟨r, s, z, rfl⟩ : ∃ (r : Fin 16) (s : Fin 4096) (z : Fin 1), i = ix3 r s z := ⟨i 0, i 1, i 2, funext fun a => by
    match a with
    | ⟨0, _⟩ => rfl
    | ⟨1, _⟩ => rfl
    | ⟨2, _⟩ => rfl⟩
  show IntOp.andi (IntOp.cmpi .sge (wrapped h n (ix3 r s z)) 0#32) (IntOp.cmpi .sle (wrapped h n (ix3 r s z)) (BitVec.ofNat 32 (N - 1))) = 1#1
  rw [wrapped_apply hN h n hn]
  exact (in_range hN (hn _ _)).2.1

theorem row_num {N : ℕ} (hN : N < 2 ^ 31) (h : BitVec 32) (n : S16x4096.Idx → BitVec 32) (hn : ∀ r s, (n (ix2 r s)).toNat < N) (r : Fin 16) (s : Fin 4096) :
    (wrapped h n (ix3 r s (0 : Fin 1))).toInt = ((n (ix2 r s)).toNat : ℤ) := by
  rw [wrapped_apply hN h n hn]
  exact (in_range hN (hn r s)).2.2

variable {F : FTy → Type} [FloatOps F]

theorem take_tk (t : S100000x128.Idx → F .f32) (n : S16x4096.Idx → BitVec 32) (z : S16x4096x128.Idx → F .f32) (hn : ∀ r s, (n (ix2 r s)).toNat < 100000) (r : Fin 16) (s : Fin 4096) (k : Fin 128) :
    select (inside 99999#32 (wrapped 100000#32 n)) (Host.gather gather_S100000x128_S16x4096x1_S16x4096x128_2_0_n_n_0_2_1128 t (wrapped 100000#32 n)) z (ix3 r s k)
      = t (ix2 ⟨(n (ix2 r s)).toNat, hn r s⟩ k) := by
  show Scalar.select (inside 99999#32 (wrapped 100000#32 n) (ix3 r s k)) _ _ = _
  rw [inside_apply (N := 100000) (by omega) 100000#32 n hn r s k]
  exact gather_rows _ t (wrapped 100000#32 n) r s k ⟨(n (ix2 r s)).toNat, hn r s⟩ (row_num (by omega) _ n hn r s)

theorem take_row (t : S4096x128.Idx → F .f32) (n : S16x4096.Idx → BitVec 32) (z : S16x4096x128.Idx → F .f32) (hn : ∀ r s, (n (ix2 r s)).toNat < 4096) (r : Fin 16) (s : Fin 4096) (k : Fin 128) :
    select (inside 4095#32 (wrapped 4096#32 n)) (Host.gather gather_S4096x128_S16x4096x1_S16x4096x128_2_0_n_n_0_2_1128 t (wrapped 4096#32 n)) z (ix3 r s k)
      = t (ix2 ⟨(n (ix2 r s)).toNat, hn r s⟩ k) := by
  show Scalar.select (inside 4095#32 (wrapped 4096#32 n) (ix3 r s k)) _ _ = _
  rw [inside_apply (N := 4096) (by omega) 4096#32 n hn r s k]
  exact gather_rows _ t (wrapped 4096#32 n) r s k ⟨(n (ix2 r s)).toNat, hn r s⟩ (row_num (by omega) _ n hn r s)

/-! ## The sum of rows -/

theorem tkR_eq (f : S100000x128.Idx → F .f32) {n : ℕ} (hn : n < 100000) (k : Fin 128) : f (ix2 ⟨n, hn⟩ k) = tkR f n k.val :=
  congrArg f (congrArg₂ ix2 (Fin.ext (Nat.mod_eq_of_lt hn).symm) (Fin.ext (Nat.mod_eq_of_lt k.isLt).symm))
theorem inR_eq (f : S4096x128.Idx → F .f32) {n : ℕ} (hn : n < 4096) (k : Fin 128) : f (ix2 ⟨n, hn⟩ k) = inR f n k.val :=
  congrArg f (congrArg₂ ix2 (Fin.ext (Nat.mod_eq_of_lt hn).symm) (Fin.ext (Nat.mod_eq_of_lt k.isLt).symm))

variable (V : Valuation τ sig (Elt F))

/-- The sum that the reference normalizes is the sum of the three rows. -/
theorem sum_apply (hst : ∀ j, (st V j).toNat < 100000) (r : Fin 16) (s : Fin 4096) (k : Fin 128) :
    res_main_v22 V (ix3 r s k) = embR (st V) (V (Proc.devRef .tc main_arg1)) (V (Proc.devRef .tc main_arg2)) (V (Proc.devRef .tc main_arg3)) r s k := by
  have hc : ∀ r s, (res_main_v7 V (ix2 r s)).toNat = cnt (startH (st V) r) (s.val + 1) := fun r s => by
    have := cnt_lt (startH (st V) r) rfl s.val
    rw [count_apply]; exact word_toNat (by omega)
  have hd : ∀ r s, (res_main_v17 V (ix2 r s)).toNat = s.val - lst (startH (st V) r) (s.val + 1) := fun r s => by
    rw [dist_apply]; exact word_toNat (by omega)
  have hc' : ∀ r s, (res_main_v7 V (ix2 r s)).toNat < 4096 := fun r s => by
    have := cnt_lt (startH (st V) r) rfl s.val
    rw [hc]; omega
  have hd' : ∀ r s, (res_main_v17 V (ix2 r s)).toNat < 4096 := fun r s => by rw [hd]; omega
  unfold res_main_v22 res_main_call4_v5 res_main_call5_v5 res_main_call6_v5
  refine (congrArg₂ FloatOps.addf (congrArg₂ FloatOps.addf (take_tk _ (st V) _ (fun r s => hst _) r s k) (take_row _ (res_main_v7 V) _ hc' r s k))
    (take_row _ (res_main_v17 V) _ hd' r s k)).trans ?_
  exact congrArg₂ FloatOps.addf (congrArg₂ FloatOps.addf (tkR_eq _ _ k) ((inR_eq _ _ k).trans (congrArg (fun n => inR _ n k.val) (hc r s))))
    ((inR_eq _ _ k).trans (congrArg (fun n => inR _ n k.val) (hd r s)))

end Cert.Proof.Ref

end
-- ==== Proof.RefNorm.lean ====
/-
  The reference's normalization over the reals, entry by entry.
-/
module

public import proofs.«01_k».proof.Proof.LnReal
public import proofs.«01_k».proof.Proof.RefRows

@[expose] public section

set_option maxRecDepth 16384

noncomputable section

namespace Cert.Proof.Ref

open Cert.ReferenceIdeal Cert.ReferenceIdeal.Gen Cert.ReferenceIdeal.Value
open Idealize.ShloMosaic hiding ix1 ix2 ix3
open Idealize.ShloMosaic.ValueIdx Idealize.ShloMosaic.TcCoe Idealize.ShloMosaic.StableHlo

variable (V : Valuation τ sig (Elt Ideal))

/-- The rows that the reference normalizes. -/
abbrev rowV (r : Fin 16) (s : Fin 4096) (k : Fin 128) : EReal := res_main_v22 (F := Ideal) V (ix3 r s k)

theorem row_sum (x : S16x4096x128.Idx → EReal) (r : Fin 16) (s : Fin 4096) :
    Host.reduceAdd (F := Ideal) (φ := .f32) x (constant S_ .f32 0x00000000#32) reducesTo_S16x4096x128_S16x4096_d2 h_S_ (ix2 r s) = ∑ k : Fin 128, x (ix3 r s k) := by
  have hd : S16x4096x128.Reduces [2] S16x4096 := by decide
  refine (Ideal.hostReduceAdd_single reducesTo_S16x4096x128_S16x4096_d2 hd x _ (ix2 r s)).trans ?_
  refine (congrArg₂ (· + ·) Ideal.ofBits_zero_f32 (Finset.sum_congr rfl fun k _ => congrArg x (funext fun a => ?_))).trans (zero_add _)
  match a with
  | ⟨0, _⟩ => rfl
  | ⟨1, _⟩ => rfl
  | ⟨2, _⟩ => rfl

/-- A sum along the last axis over the width, at a position. -/
theorem avg_apply (x : S16x4096x128.Idx → EReal) (r : Fin 16) (s : Fin 4096) (z : Fin 1) :
    Host.divf (F := Ideal) (φ := .f32) (broadcastInDim S16x4096x1 ![0, 1] bcast_S16x4096_S16x4096x1_0_1 (Host.reduceAdd (F := Ideal) (φ := .f32) x (constant S_ .f32 0x00000000#32) reducesTo_S16x4096x128_S16x4096_d2 h_S_))
      (broadcastInDim S16x4096x1 ![] bcast_S_S16x4096x1 (constant S_ .f32 0x43000000#32)) (ix3 r s z) = Ideal.div (∑ k : Fin 128, x (ix3 r s k)) width :=
  congrArg (fun t => Ideal.div t width) ((spread1 _ r s z).trans (row_sum x r s))

theorem cent_apply (r : Fin 16) (s : Fin 4096) (k : Fin 128) : res_main_v28 (F := Ideal) V (ix3 r s k) = rowV V r s k - mean (rowV V r s) := by
  unfold res_main_v28
  refine congrArg (fun t => rowV V r s k - t) ((spread_last _ r s k).trans ?_)
  unfold res_main_v26
  exact avg_apply _ r s 0

/-- The variance at a position. -/
theorem var_apply (r : Fin 16) (s : Fin 4096) (z : Fin 1) :
    Host.divf (F := Ideal) (φ := .f32) (broadcastInDim S16x4096x1 ![0, 1] bcast_S16x4096_S16x4096x1_0_1 (Host.reduceAdd (F := Ideal) (φ := .f32) (mulf (F := Ideal) (φ := .f32) (res_main_v28 (F := Ideal) V) (res_main_v28 (F := Ideal) V)) (constant S_ .f32 0x00000000#32) reducesTo_S16x4096x128_S16x4096_d2 h_S_))
      (broadcastInDim S16x4096x1 ![] bcast_S_S16x4096x1 (constant S_ .f32 0x43000000#32)) (ix3 r s z) = var (rowV V r s) :=
  (avg_apply _ r s z).trans (congrArg (fun t => Ideal.div t width)
    (Finset.sum_congr rfl fun k _ => congrArg₂ (fun x y : EReal => x * y) (cent_apply V r s k) (cent_apply V r s k)))

/-- The reference's result, as a term of its rows, its weights and its biases. -/
def outV (w b : S128.Idx → EReal) : S16x4096x128.Idx → EReal :=
  addf (F := Ideal) (φ := .f32) (mulf (F := Ideal) (φ := .f32) (Host.divf (F := Ideal) (φ := .f32) (subf (F := Ideal) (φ := .f32) (res_main_v22 (F := Ideal) V) (broadcastInDim S16x4096x128 ![0, 1, 2] bcast_S16x4096x1_S16x4096x128_0_1_2 (res_main_v26 (F := Ideal) V)))
    (broadcastInDim S16x4096x128 ![0, 1, 2] bcast_S16x4096x1_S16x4096x128_0_1_2 (Host.sqrt (F := Ideal) (φ := .f32) (addf (F := Ideal) (φ := .f32)
      (Host.divf (F := Ideal) (φ := .f32) (broadcastInDim S16x4096x1 ![0, 1] bcast_S16x4096_S16x4096x1_0_1 (Host.reduceAdd (F := Ideal) (φ := .f32) (mulf (F := Ideal) (φ := .f32) (res_main_v28 (F := Ideal) V) (res_main_v28 (F := Ideal) V)) (constant S_ .f32 0x00000000#32) reducesTo_S16x4096x128_S16x4096_d2 h_S_))
        (broadcastInDim S16x4096x1 ![] bcast_S_S16x4096x1 (constant S_ .f32 0x43000000#32)))
      (broadcastInDim S16x4096x1 ![] bcast_S_S16x4096x1 (constant S_ .f32 0x3727C5AC#32))))))
    (broadcastInDim S16x4096x128 ![0, 1, 2] bcast_S1x1x128_S16x4096x128_0_1_2 (broadcastInDim S1x1x128 ![2] bcast_S128_S1x1x128_2 w)))
    (broadcastInDim S16x4096x128 ![0, 1, 2] bcast_S1x1x128_S16x4096x128_0_1_2 (broadcastInDim S1x1x128 ![2] bcast_S128_S1x1x128_2 b))

theorem out_apply (w b : S128.Idx → EReal) (r : Fin 16) (s : Fin 4096) (k : Fin 128) :
    outV V w b (ix3 r s k) = lnDiv (rowV V r s) (w (ix1 k)) (b (ix1 k)) k := by
  unfold lnDiv
  have hc : subf (F := Ideal) (φ := .f32) (res_main_v22 (F := Ideal) V) (broadcastInDim S16x4096x128 ![0, 1, 2] bcast_S16x4096x1_S16x4096x128_0_1_2 (res_main_v26 (F := Ideal) V)) (ix3 r s k)
      = rowV V r s k - mean (rowV V r s) := cent_apply V r s k
  refine congrArg₂ (fun x y : EReal => x + y) (congrArg₂ (fun x y : EReal => x * y) (congrArg₂ Ideal.div hc ?_) (spread_row w r s k)) (spread_row b r s k)
  refine (spread_last _ r s k).trans ?_
  exact congrArg (fun t => Ideal.sqrt (t + tiny)) (var_apply V r s 0)

/-- The term above is what a run leaves at the result. -/
theorem outV_eq : outV V (V (Proc.devRef .tc main_arg4)) (V (Proc.devRef .tc main_arg5)) =
    addf (mulf (Host.divf (subf (res_main_v22 V) (broadcastInDim S16x4096x128 ![0, 1, 2] bcast_S16x4096x1_S16x4096x128_0_1_2 (res_main_v26 V))) (broadcastInDim S16x4096x128 ![0, 1, 2] bcast_S16x4096x1_S16x4096x128_0_1_2 (Host.sqrt (addf (Host.divf (broadcastInDim S16x4096x1 ![0, 1] bcast_S16x4096_S16x4096x1_0_1 (Host.reduceAdd (mulf (res_main_v28 V) (res_main_v28 V)) (constant S_ .f32 0x00000000#32) reducesTo_S16x4096x128_S16x4096_d2 h_S_)) (broadcastInDim S16x4096x1 ![] bcast_S_S16x4096x1 (constant S_ .f32 0x43000000#32))) (broadcastInDim S16x4096x1 ![] bcast_S_S16x4096x1 (constant S_ .f32 0x3727C5AC#32)))))) (broadcastInDim S16x4096x128 ![0, 1, 2] bcast_S1x1x128_S16x4096x128_0_1_2 (broadcastInDim S1x1x128 ![2] bcast_S128_S1x1x128_2 (V (Proc.devRef .tc main_arg4))))) (broadcastInDim S16x4096x128 ![0, 1, 2] bcast_S1x1x128_S16x4096x128_0_1_2 (broadcastInDim S1x1x128 ![2] bcast_S128_S1x1x128_2 (V (Proc.devRef .tc main_arg5)))) := by
  unfold outV
  rfl

end Cert.Proof.Ref

end
-- ==== Proof.Algebraic.lean ====
/-
  The kernel and the reference over the reals: equal results.
-/
module

public import proofs.«01_k».proof.Proof.LnValue
public import proofs.«01_k».proof.Proof.RefNorm
public import proofs.«01_k».proof.Proof.Frames

@[expose] public section

set_option maxRecDepth 16384

noncomputable section

namespace Cert.Proof

open Cert.KernelIdeal Cert.KernelIdeal.Gen Cert.Proof.Piece

open Idealize.ShloMosaic hiding ix1 ix2 ix3
open Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- From equal arguments the reference's result is the kernel's. -/
theorem out_eq (m : (ℓ : Loc nD τ sig) → Buf (Elt Ideal) ℓ) (d : Dev nD) (V : Valuation Cert.ReferenceIdeal.τ Cert.ReferenceIdeal.sig (Elt Ideal))
    (h0 : Ref.st V = st0 m d)
    (h1 : V (Proc.devRef .tc Cert.ReferenceIdeal.main_arg1) = m ((d.tc : Thread nD τ).loc main_arg1))
    (h2 : V (Proc.devRef .tc Cert.ReferenceIdeal.main_arg2) = m ((d.tc : Thread nD τ).loc main_arg2))
    (h3 : V (Proc.devRef .tc Cert.ReferenceIdeal.main_arg3) = m ((d.tc : Thread nD τ).loc main_arg3))
    (hst : ∀ j, (st0 m d j).toNat < 100000) :
    Ref.outV V (m ((d.tc : Thread nD τ).loc main_arg4)) (m ((d.tc : Thread nD τ).loc main_arg5)) = V5 m d (dv main_v10) := by
  funext i
  obtain ⟨r, s, k, rfl⟩ : ∃ (r : Fin 16) (s : Fin 4096) (k : Fin 128), i = ix3 r s k := ⟨i 0, i 1, i 2, funext fun a => by
    match a with
    | ⟨0, _⟩ => rfl
    | ⟨1, _⟩ => rfl
    | ⟨2, _⟩ => rfl⟩
  have hr : Ref.rowV V r s = embR (F := Ideal) (st0 m d) (m ((d.tc : Thread nD τ).loc main_arg1)) (m ((d.tc : Thread nD τ).loc main_arg2)) (m ((d.tc : Thread nD τ).loc main_arg3)) r s := by
    funext k
    rw [← h0, ← h1, ← h2, ← h3]
    exact Ref.sum_apply V (by rw [h0]; exact hst) r s k
  refine (Ref.out_apply V _ _ r s k).trans ?_
  rw [hr]
  exact (lnMul_eq _ _ _ k).symm.trans (V5_apply m d r s k).symm

theorem algebraic : Cert.algebraic_KernelIdeal_ReferenceIdeal := fun m ρ m' ρ' hp hm => by
  have hst : ∀ (d : Dev nD) j, (st0 m d j).toNat < 100000 := fun d j => lt_of_pre _ _ _ _ _ _ (hp d) j
  refine ⟨fun c => V5 m c (dv main_v10), ?_, ?_⟩
  · exact (θ_run Cert.KernelIdeal.defs _ _).mono (fun _ h c => ⟨qc_out h c, qc_args h c⟩)
      (run_main (F := Ideal) m ρ fun d => srcs_ok m d (hst d))
  · refine (θ_run Cert.ReferenceIdeal.defs _ _).mono (fun r h c => ⟨?_, (h c).2⟩) (Cert.ReferenceIdeal.Value.run m' ρ')
    obtain ⟨h0, h1, h2, h3, h4, h5⟩ := hm c
    have e := out_eq m c (StableHlo.launchContents m' c) h0 h1 h2 h3 (hst c)
    have e4 : StableHlo.launchContents m' c (Proc.devRef .tc Cert.ReferenceIdeal.main_arg4) = m ((c.tc : Thread nD τ).loc main_arg4) := h4
    have e5 : StableHlo.launchContents m' c (Proc.devRef .tc Cert.ReferenceIdeal.main_arg5) = m ((c.tc : Thread nD τ).loc main_arg5) := h5
    rw [← e4, ← e5] at e
    exact ((h c).1.trans (Ref.outV_eq (StableHlo.launchContents m' c)).symm).trans e

end Cert.Proof

end
-- ==== Proof.lean ====
/-
  The certificate's claim: how the programs end, that nothing was rewritten between them,
  and that over the reals the kernel computes what the reference computes.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_vocab.Gen.facts,
  frame_kernel, frame_kernelIdeal, frame_reference, trivial, algebraic⟩

end Cert.Proof

end
